-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_HybIn (m : (ℓ : Loc Cert.HybIn.nD Cert.HybIn.τ Cert.HybIn.sig) → Buf (Elt Bits) ℓ) : Prop :=
  True

def Pre_HybInIdeal (m : (ℓ : Loc Cert.HybInIdeal.nD Cert.HybInIdeal.τ Cert.HybInIdeal.sig) → Buf (Elt Ideal) ℓ) : Prop :=
  True

def Pre_HybInRefIdeal (m : (ℓ : Loc Cert.HybInRefIdeal.nD Cert.HybInRefIdeal.τ Cert.HybInRefIdeal.sig) → Buf (Elt Ideal) ℓ) : Prop :=
  True

def Pre_HybInDw (m : (ℓ : Loc Cert.HybInDw.nD Cert.HybInDw.τ Cert.HybInDw.sig) → Buf (Elt Bits) ℓ) : Prop :=
  True

def Pre_HybInDwIdeal (m : (ℓ : Loc Cert.HybInDwIdeal.nD Cert.HybInDwIdeal.τ Cert.HybInDwIdeal.sig) → Buf (Elt Ideal) ℓ) : Prop :=
  True

def Pre_HybInDwRefIdeal (m : (ℓ : Loc Cert.HybInDwRefIdeal.nD Cert.HybInDwRefIdeal.τ Cert.HybInDwRefIdeal.sig) → Buf (Elt Ideal) ℓ) : Prop :=
  True

def Pre_HybInDx (m : (ℓ : Loc Cert.HybInDx.nD Cert.HybInDx.τ Cert.HybInDx.sig) → Buf (Elt Bits) ℓ) : Prop :=
  True

def Pre_HybInDxIdeal (m : (ℓ : Loc Cert.HybInDxIdeal.nD Cert.HybInDxIdeal.τ Cert.HybInDxIdeal.sig) → Buf (Elt Ideal) ℓ) : Prop :=
  True

def Pre_HybInDxRefIdeal (m : (ℓ : Loc Cert.HybInDxRefIdeal.nD Cert.HybInDxRefIdeal.τ Cert.HybInDxRefIdeal.sig) → Buf (Elt Ideal) ℓ) : Prop :=
  True

def Pre_RecIn (m : (ℓ : Loc Cert.RecIn.nD Cert.RecIn.τ Cert.RecIn.sig) → Buf (Elt Bits) ℓ) : Prop :=
  True

def Pre_RecInIdeal (m : (ℓ : Loc Cert.RecInIdeal.nD Cert.RecInIdeal.τ Cert.RecInIdeal.sig) → Buf (Elt Ideal) ℓ) : Prop :=
  True

def Pre_RecInRefIdeal (m : (ℓ : Loc Cert.RecInRefIdeal.nD Cert.RecInRefIdeal.τ Cert.RecInRefIdeal.sig) → Buf (Elt Ideal) ℓ) : Prop :=
  True

def Pre_RecInDw (m : (ℓ : Loc Cert.RecInDw.nD Cert.RecInDw.τ Cert.RecInDw.sig) → Buf (Elt Bits) ℓ) : Prop :=
  True

def Pre_RecInDwIdeal (m : (ℓ : Loc Cert.RecInDwIdeal.nD Cert.RecInDwIdeal.τ Cert.RecInDwIdeal.sig) → Buf (Elt Ideal) ℓ) : Prop :=
  True

def Pre_RecInDwRefIdeal (m : (ℓ : Loc Cert.RecInDwRefIdeal.nD Cert.RecInDwRefIdeal.τ Cert.RecInDwRefIdeal.sig) → Buf (Elt Ideal) ℓ) : Prop :=
  True

def Pre_RecInDx (m : (ℓ : Loc Cert.RecInDx.nD Cert.RecInDx.τ Cert.RecInDx.sig) → Buf (Elt Bits) ℓ) : Prop :=
  True

def Pre_RecInDxIdeal (m : (ℓ : Loc Cert.RecInDxIdeal.nD Cert.RecInDxIdeal.τ Cert.RecInDxIdeal.sig) → Buf (Elt Ideal) ℓ) : Prop :=
  True

def Pre_RecInDxRefIdeal (m : (ℓ : Loc Cert.RecInDxRefIdeal.nD Cert.RecInDxRefIdeal.τ Cert.RecInDxRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_DownDw1 (m : (ℓ : Loc Cert.DownDw1.nD Cert.DownDw1.τ Cert.DownDw1.sig) → Buf (Elt Bits) ℓ) : Prop :=
  True

def Pre_DownDw1Ideal (m : (ℓ : Loc Cert.DownDw1Ideal.nD Cert.DownDw1Ideal.τ Cert.DownDw1Ideal.sig) → Buf (Elt Ideal) ℓ) : Prop :=
  True

def Pre_DownDw1RefIdeal (m : (ℓ : Loc Cert.DownDw1RefIdeal.nD Cert.DownDw1RefIdeal.τ Cert.DownDw1RefIdeal.sig) → Buf (Elt Ideal) ℓ) : Prop :=
  True

def Pre_UpDw1 (m : (ℓ : Loc Cert.UpDw1.nD Cert.UpDw1.τ Cert.UpDw1.sig) → Buf (Elt Bits) ℓ) : Prop :=
  True

def Pre_UpDw1Ideal (m : (ℓ : Loc Cert.UpDw1Ideal.nD Cert.UpDw1Ideal.τ Cert.UpDw1Ideal.sig) → Buf (Elt Ideal) ℓ) : Prop :=
  True

def Pre_UpDw1RefIdeal (m : (ℓ : Loc Cert.UpDw1RefIdeal.nD Cert.UpDw1RefIdeal.τ Cert.UpDw1RefIdeal.sig) → Buf (Elt Ideal) ℓ) : Prop :=
  True

def Pre_DownDw2 (m : (ℓ : Loc Cert.DownDw2.nD Cert.DownDw2.τ Cert.DownDw2.sig) → Buf (Elt Bits) ℓ) : Prop :=
  True

def Pre_DownDw2Ideal (m : (ℓ : Loc Cert.DownDw2Ideal.nD Cert.DownDw2Ideal.τ Cert.DownDw2Ideal.sig) → Buf (Elt Ideal) ℓ) : Prop :=
  True

def Pre_DownDw2RefIdeal (m : (ℓ : Loc Cert.DownDw2RefIdeal.nD Cert.DownDw2RefIdeal.τ Cert.DownDw2RefIdeal.sig) → Buf (Elt Ideal) ℓ) : Prop :=
  True

def Pre_UpDw2 (m : (ℓ : Loc Cert.UpDw2.nD Cert.UpDw2.τ Cert.UpDw2.sig) → Buf (Elt Bits) ℓ) : Prop :=
  True

def Pre_UpDw2Ideal (m : (ℓ : Loc Cert.UpDw2Ideal.nD Cert.UpDw2Ideal.τ Cert.UpDw2Ideal.sig) → Buf (Elt Ideal) ℓ) : Prop :=
  True

def Pre_UpDw2RefIdeal (m : (ℓ : Loc Cert.UpDw2RefIdeal.nD Cert.UpDw2RefIdeal.τ Cert.UpDw2RefIdeal.sig) → Buf (Elt Ideal) ℓ) : Prop :=
  True

def Pre_DownDw3 (m : (ℓ : Loc Cert.DownDw3.nD Cert.DownDw3.τ Cert.DownDw3.sig) → Buf (Elt Bits) ℓ) : Prop :=
  True

def Pre_DownDw3Ideal (m : (ℓ : Loc Cert.DownDw3Ideal.nD Cert.DownDw3Ideal.τ Cert.DownDw3Ideal.sig) → Buf (Elt Ideal) ℓ) : Prop :=
  True

def Pre_DownDw3RefIdeal (m : (ℓ : Loc Cert.DownDw3RefIdeal.nD Cert.DownDw3RefIdeal.τ Cert.DownDw3RefIdeal.sig) → Buf (Elt Ideal) ℓ) : Prop :=
  True

def Pre_UpDw3 (m : (ℓ : Loc Cert.UpDw3.nD Cert.UpDw3.τ Cert.UpDw3.sig) → Buf (Elt Bits) ℓ) : Prop :=
  True

def Pre_UpDw3Ideal (m : (ℓ : Loc Cert.UpDw3Ideal.nD Cert.UpDw3Ideal.τ Cert.UpDw3Ideal.sig) → Buf (Elt Ideal) ℓ) : Prop :=
  True

def Pre_UpDw3RefIdeal (m : (ℓ : Loc Cert.UpDw3RefIdeal.nD Cert.UpDw3RefIdeal.τ Cert.UpDw3RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4))
      ∧ r.2.sem = fun _ => 0)

def quiescent_HybIn [hHybIn : Cert.HybIn.Facts] : Prop :=
  ∀ (m : (ℓ : Loc Cert.HybIn.nD Cert.HybIn.τ Cert.HybIn.sig) → Buf (Elt Bits) ℓ) (g : Dev Cert.HybIn.nD → PrngReg), Pre_HybIn m →
    θ_run (Cert.HybIn.defs (F := Bits)) (onTc (τ := Cert.HybIn.τ) (Cert.HybIn.main (F := Bits))) ⟨m, fun _ => 0, g⟩ (fun r => (∀ c : Dev Cert.HybIn.nD,
      r.2.mem ((c.tc : Thread Cert.HybIn.nD Cert.HybIn.τ).loc Cert.HybIn.main_arg0) = m ((c.tc : Thread Cert.HybIn.nD Cert.HybIn.τ).loc Cert.HybIn.main_arg0)
      ∧ r.2.mem ((c.tc : Thread Cert.HybIn.nD Cert.HybIn.τ).loc Cert.HybIn.main_arg1) = m ((c.tc : Thread Cert.HybIn.nD Cert.HybIn.τ).loc Cert.HybIn.main_arg1))
      ∧ r.2.sem = fun _ => 0)

def quiescent_HybInIdeal [hHybInIdeal : Cert.HybInIdeal.Facts] : Prop :=
  ∀ (m : (ℓ : Loc Cert.HybInIdeal.nD Cert.HybInIdeal.τ Cert.HybInIdeal.sig) → Buf (Elt Ideal) ℓ) (g : Dev Cert.HybInIdeal.nD → PrngReg), Pre_HybInIdeal m →
    θ_run (Cert.HybInIdeal.defs (F := Ideal)) (onTc (τ := Cert.HybInIdeal.τ) (Cert.HybInIdeal.main (F := Ideal))) ⟨m, fun _ => 0, g⟩ (fun r => (∀ c : Dev Cert.HybInIdeal.nD,
      r.2.mem ((c.tc : Thread Cert.HybInIdeal.nD Cert.HybInIdeal.τ).loc Cert.HybInIdeal.main_arg0) = m ((c.tc : Thread Cert.HybInIdeal.nD Cert.HybInIdeal.τ).loc Cert.HybInIdeal.main_arg0)
      ∧ r.2.mem ((c.tc : Thread Cert.HybInIdeal.nD Cert.HybInIdeal.τ).loc Cert.HybInIdeal.main_arg1) = m ((c.tc : Thread Cert.HybInIdeal.nD Cert.HybInIdeal.τ).loc Cert.HybInIdeal.main_arg1))
      ∧ r.2.sem = fun _ => 0)

def quiescent_HybInRefIdeal [hHybInRefIdeal : Cert.HybInRefIdeal.Facts] : Prop :=
  ∀ (m : (ℓ : Loc Cert.HybInRefIdeal.nD Cert.HybInRefIdeal.τ Cert.HybInRefIdeal.sig) → Buf (Elt Ideal) ℓ) (g : Dev Cert.HybInRefIdeal.nD → PrngReg), Pre_HybInRefIdeal m →
    θ_run (Cert.HybInRefIdeal.defs (F := Ideal)) (onTc (τ := Cert.HybInRefIdeal.τ) (Cert.HybInRefIdeal.main (F := Ideal))) ⟨m, fun _ => 0, g⟩ (fun r => (∀ c : Dev Cert.HybInRefIdeal.nD,
      r.2.mem ((c.tc : Thread Cert.HybInRefIdeal.nD Cert.HybInRefIdeal.τ).loc Cert.HybInRefIdeal.main_arg0) = m ((c.tc : Thread Cert.HybInRefIdeal.nD Cert.HybInRefIdeal.τ).loc Cert.HybInRefIdeal.main_arg0)
      ∧ r.2.mem ((c.tc : Thread Cert.HybInRefIdeal.nD Cert.HybInRefIdeal.τ).loc Cert.HybInRefIdeal.main_arg1) = m ((c.tc : Thread Cert.HybInRefIdeal.nD Cert.HybInRefIdeal.τ).loc Cert.HybInRefIdeal.main_arg1))
      ∧ r.2.sem = fun _ => 0)

def quiescent_HybInDw [hHybInDw : Cert.HybInDw.Facts] : Prop :=
  ∀ (m : (ℓ : Loc Cert.HybInDw.nD Cert.HybInDw.τ Cert.HybInDw.sig) → Buf (Elt Bits) ℓ) (g : Dev Cert.HybInDw.nD → PrngReg), Pre_HybInDw m →
    θ_run (Cert.HybInDw.defs (F := Bits)) (onTc (τ := Cert.HybInDw.τ) (Cert.HybInDw.main (F := Bits))) ⟨m, fun _ => 0, g⟩ (fun r => (∀ c : Dev Cert.HybInDw.nD,
      r.2.mem ((c.tc : Thread Cert.HybInDw.nD Cert.HybInDw.τ).loc Cert.HybInDw.main_arg0) = m ((c.tc : Thread Cert.HybInDw.nD Cert.HybInDw.τ).loc Cert.HybInDw.main_arg0)
      ∧ r.2.mem ((c.tc : Thread Cert.HybInDw.nD Cert.HybInDw.τ).loc Cert.HybInDw.main_arg1) = m ((c.tc : Thread Cert.HybInDw.nD Cert.HybInDw.τ).loc Cert.HybInDw.main_arg1))
      ∧ r.2.sem = fun _ => 0)

def quiescent_HybInDwIdeal [hHybInDwIdeal : Cert.HybInDwIdeal.Facts] : Prop :=
  ∀ (m : (ℓ : Loc Cert.HybInDwIdeal.nD Cert.HybInDwIdeal.τ Cert.HybInDwIdeal.sig) → Buf (Elt Ideal) ℓ) (g : Dev Cert.HybInDwIdeal.nD → PrngReg), Pre_HybInDwIdeal m →
    θ_run (Cert.HybInDwIdeal.defs (F := Ideal)) (onTc (τ := Cert.HybInDwIdeal.τ) (Cert.HybInDwIdeal.main (F := Ideal))) ⟨m, fun _ => 0, g⟩ (fun r => (∀ c : Dev Cert.HybInDwIdeal.nD,
      r.2.mem ((c.tc : Thread Cert.HybInDwIdeal.nD Cert.HybInDwIdeal.τ).loc Cert.HybInDwIdeal.main_arg0) = m ((c.tc : Thread Cert.HybInDwIdeal.nD Cert.HybInDwIdeal.τ).loc Cert.HybInDwIdeal.main_arg0)
      ∧ r.2.mem ((c.tc : Thread Cert.HybInDwIdeal.nD Cert.HybInDwIdeal.τ).loc Cert.HybInDwIdeal.main_arg1) = m ((c.tc : Thread Cert.HybInDwIdeal.nD Cert.HybInDwIdeal.τ).loc Cert.HybInDwIdeal.main_arg1))
      ∧ r.2.sem = fun _ => 0)

def quiescent_HybInDwRefIdeal [hHybInDwRefIdeal : Cert.HybInDwRefIdeal.Facts] : Prop :=
  ∀ (m : (ℓ : Loc Cert.HybInDwRefIdeal.nD Cert.HybInDwRefIdeal.τ Cert.HybInDwRefIdeal.sig) → Buf (Elt Ideal) ℓ) (g : Dev Cert.HybInDwRefIdeal.nD → PrngReg), Pre_HybInDwRefIdeal m →
    θ_run (Cert.HybInDwRefIdeal.defs (F := Ideal)) (onTc (τ := Cert.HybInDwRefIdeal.τ) (Cert.HybInDwRefIdeal.main (F := Ideal))) ⟨m, fun _ => 0, g⟩ (fun r => (∀ c : Dev Cert.HybInDwRefIdeal.nD,
      r.2.mem ((c.tc : Thread Cert.HybInDwRefIdeal.nD Cert.HybInDwRefIdeal.τ).loc Cert.HybInDwRefIdeal.main_arg0) = m ((c.tc : Thread Cert.HybInDwRefIdeal.nD Cert.HybInDwRefIdeal.τ).loc Cert.HybInDwRefIdeal.main_arg0)
      ∧ r.2.mem ((c.tc : Thread Cert.HybInDwRefIdeal.nD Cert.HybInDwRefIdeal.τ).loc Cert.HybInDwRefIdeal.main_arg1) = m ((c.tc : Thread Cert.HybInDwRefIdeal.nD Cert.HybInDwRefIdeal.τ).loc Cert.HybInDwRefIdeal.main_arg1))
      ∧ r.2.sem = fun _ => 0)

def quiescent_HybInDx [hHybInDx : Cert.HybInDx.Facts] : Prop :=
  ∀ (m : (ℓ : Loc Cert.HybInDx.nD Cert.HybInDx.τ Cert.HybInDx.sig) → Buf (Elt Bits) ℓ) (g : Dev Cert.HybInDx.nD → PrngReg), Pre_HybInDx m →
    θ_run (Cert.HybInDx.defs (F := Bits)) (onTc (τ := Cert.HybInDx.τ) (Cert.HybInDx.main (F := Bits))) ⟨m, fun _ => 0, g⟩ (fun r => (∀ c : Dev Cert.HybInDx.nD,
      r.2.mem ((c.tc : Thread Cert.HybInDx.nD Cert.HybInDx.τ).loc Cert.HybInDx.main_arg0) = m ((c.tc : Thread Cert.HybInDx.nD Cert.HybInDx.τ).loc Cert.HybInDx.main_arg0)
      ∧ r.2.mem ((c.tc : Thread Cert.HybInDx.nD Cert.HybInDx.τ).loc Cert.HybInDx.main_arg1) = m ((c.tc : Thread Cert.HybInDx.nD Cert.HybInDx.τ).loc Cert.HybInDx.main_arg1)
      ∧ r.2.mem ((c.tc : Thread Cert.HybInDx.nD Cert.HybInDx.τ).loc Cert.HybInDx.main_arg2) = m ((c.tc : Thread Cert.HybInDx.nD Cert.HybInDx.τ).loc Cert.HybInDx.main_arg2))
      ∧ r.2.sem = fun _ => 0)

def quiescent_HybInDxIdeal [hHybInDxIdeal : Cert.HybInDxIdeal.Facts] : Prop :=
  ∀ (m : (ℓ : Loc Cert.HybInDxIdeal.nD Cert.HybInDxIdeal.τ Cert.HybInDxIdeal.sig) → Buf (Elt Ideal) ℓ) (g : Dev Cert.HybInDxIdeal.nD → PrngReg), Pre_HybInDxIdeal m →
    θ_run (Cert.HybInDxIdeal.defs (F := Ideal)) (onTc (τ := Cert.HybInDxIdeal.τ) (Cert.HybInDxIdeal.main (F := Ideal))) ⟨m, fun _ => 0, g⟩ (fun r => (∀ c : Dev Cert.HybInDxIdeal.nD,
      r.2.mem ((c.tc : Thread Cert.HybInDxIdeal.nD Cert.HybInDxIdeal.τ).loc Cert.HybInDxIdeal.main_arg0) = m ((c.tc : Thread Cert.HybInDxIdeal.nD Cert.HybInDxIdeal.τ).loc Cert.HybInDxIdeal.main_arg0)
      ∧ r.2.mem ((c.tc : Thread Cert.HybInDxIdeal.nD Cert.HybInDxIdeal.τ).loc Cert.HybInDxIdeal.main_arg1) = m ((c.tc : Thread Cert.HybInDxIdeal.nD Cert.HybInDxIdeal.τ).loc Cert.HybInDxIdeal.main_arg1)
      ∧ r.2.mem ((c.tc : Thread Cert.HybInDxIdeal.nD Cert.HybInDxIdeal.τ).loc Cert.HybInDxIdeal.main_arg2) = m ((c.tc : Thread Cert.HybInDxIdeal.nD Cert.HybInDxIdeal.τ).loc Cert.HybInDxIdeal.main_arg2))
      ∧ r.2.sem = fun _ => 0)

def quiescent_HybInDxRefIdeal [hHybInDxRefIdeal : Cert.HybInDxRefIdeal.Facts] : Prop :=
  ∀ (m : (ℓ : Loc Cert.HybInDxRefIdeal.nD Cert.HybInDxRefIdeal.τ Cert.HybInDxRefIdeal.sig) → Buf (Elt Ideal) ℓ) (g : Dev Cert.HybInDxRefIdeal.nD → PrngReg), Pre_HybInDxRefIdeal m →
    θ_run (Cert.HybInDxRefIdeal.defs (F := Ideal)) (onTc (τ := Cert.HybInDxRefIdeal.τ) (Cert.HybInDxRefIdeal.main (F := Ideal))) ⟨m, fun _ => 0, g⟩ (fun r => (∀ c : Dev Cert.HybInDxRefIdeal.nD,
      r.2.mem ((c.tc : Thread Cert.HybInDxRefIdeal.nD Cert.HybInDxRefIdeal.τ).loc Cert.HybInDxRefIdeal.main_arg0) = m ((c.tc : Thread Cert.HybInDxRefIdeal.nD Cert.HybInDxRefIdeal.τ).loc Cert.HybInDxRefIdeal.main_arg0)
      ∧ r.2.mem ((c.tc : Thread Cert.HybInDxRefIdeal.nD Cert.HybInDxRefIdeal.τ).loc Cert.HybInDxRefIdeal.main_arg1) = m ((c.tc : Thread Cert.HybInDxRefIdeal.nD Cert.HybInDxRefIdeal.τ).loc Cert.HybInDxRefIdeal.main_arg1)
      ∧ r.2.mem ((c.tc : Thread Cert.HybInDxRefIdeal.nD Cert.HybInDxRefIdeal.τ).loc Cert.HybInDxRefIdeal.main_arg2) = m ((c.tc : Thread Cert.HybInDxRefIdeal.nD Cert.HybInDxRefIdeal.τ).loc Cert.HybInDxRefIdeal.main_arg2))
      ∧ r.2.sem = fun _ => 0)

def quiescent_RecIn [hRecIn : Cert.RecIn.Facts] : Prop :=
  ∀ (m : (ℓ : Loc Cert.RecIn.nD Cert.RecIn.τ Cert.RecIn.sig) → Buf (Elt Bits) ℓ) (g : Dev Cert.RecIn.nD → PrngReg), Pre_RecIn m →
    θ_run (Cert.RecIn.defs (F := Bits)) (onTc (τ := Cert.RecIn.τ) (Cert.RecIn.main (F := Bits))) ⟨m, fun _ => 0, g⟩ (fun r => (∀ c : Dev Cert.RecIn.nD,
      r.2.mem ((c.tc : Thread Cert.RecIn.nD Cert.RecIn.τ).loc Cert.RecIn.main_arg0) = m ((c.tc : Thread Cert.RecIn.nD Cert.RecIn.τ).loc Cert.RecIn.main_arg0)
      ∧ r.2.mem ((c.tc : Thread Cert.RecIn.nD Cert.RecIn.τ).loc Cert.RecIn.main_arg1) = m ((c.tc : Thread Cert.RecIn.nD Cert.RecIn.τ).loc Cert.RecIn.main_arg1))
      ∧ r.2.sem = fun _ => 0)

def quiescent_RecInIdeal [hRecInIdeal : Cert.RecInIdeal.Facts] : Prop :=
  ∀ (m : (ℓ : Loc Cert.RecInIdeal.nD Cert.RecInIdeal.τ Cert.RecInIdeal.sig) → Buf (Elt Ideal) ℓ) (g : Dev Cert.RecInIdeal.nD → PrngReg), Pre_RecInIdeal m →
    θ_run (Cert.RecInIdeal.defs (F := Ideal)) (onTc (τ := Cert.RecInIdeal.τ) (Cert.RecInIdeal.main (F := Ideal))) ⟨m, fun _ => 0, g⟩ (fun r => (∀ c : Dev Cert.RecInIdeal.nD,
      r.2.mem ((c.tc : Thread Cert.RecInIdeal.nD Cert.RecInIdeal.τ).loc Cert.RecInIdeal.main_arg0) = m ((c.tc : Thread Cert.RecInIdeal.nD Cert.RecInIdeal.τ).loc Cert.RecInIdeal.main_arg0)
      ∧ r.2.mem ((c.tc : Thread Cert.RecInIdeal.nD Cert.RecInIdeal.τ).loc Cert.RecInIdeal.main_arg1) = m ((c.tc : Thread Cert.RecInIdeal.nD Cert.RecInIdeal.τ).loc Cert.RecInIdeal.main_arg1))
      ∧ r.2.sem = fun _ => 0)

def quiescent_RecInRefIdeal [hRecInRefIdeal : Cert.RecInRefIdeal.Facts] : Prop :=
  ∀ (m : (ℓ : Loc Cert.RecInRefIdeal.nD Cert.RecInRefIdeal.τ Cert.RecInRefIdeal.sig) → Buf (Elt Ideal) ℓ) (g : Dev Cert.RecInRefIdeal.nD → PrngReg), Pre_RecInRefIdeal m →
    θ_run (Cert.RecInRefIdeal.defs (F := Ideal)) (onTc (τ := Cert.RecInRefIdeal.τ) (Cert.RecInRefIdeal.main (F := Ideal))) ⟨m, fun _ => 0, g⟩ (fun r => (∀ c : Dev Cert.RecInRefIdeal.nD,
      r.2.mem ((c.tc : Thread Cert.RecInRefIdeal.nD Cert.RecInRefIdeal.τ).loc Cert.RecInRefIdeal.main_arg0) = m ((c.tc : Thread Cert.RecInRefIdeal.nD Cert.RecInRefIdeal.τ).loc Cert.RecInRefIdeal.main_arg0)
      ∧ r.2.mem ((c.tc : Thread Cert.RecInRefIdeal.nD Cert.RecInRefIdeal.τ).loc Cert.RecInRefIdeal.main_arg1) = m ((c.tc : Thread Cert.RecInRefIdeal.nD Cert.RecInRefIdeal.τ).loc Cert.RecInRefIdeal.main_arg1))
      ∧ r.2.sem = fun _ => 0)

def quiescent_RecInDw [hRecInDw : Cert.RecInDw.Facts] : Prop :=
  ∀ (m : (ℓ : Loc Cert.RecInDw.nD Cert.RecInDw.τ Cert.RecInDw.sig) → Buf (Elt Bits) ℓ) (g : Dev Cert.RecInDw.nD → PrngReg), Pre_RecInDw m →
    θ_run (Cert.RecInDw.defs (F := Bits)) (onTc (τ := Cert.RecInDw.τ) (Cert.RecInDw.main (F := Bits))) ⟨m, fun _ => 0, g⟩ (fun r => (∀ c : Dev Cert.RecInDw.nD,
      r.2.mem ((c.tc : Thread Cert.RecInDw.nD Cert.RecInDw.τ).loc Cert.RecInDw.main_arg0) = m ((c.tc : Thread Cert.RecInDw.nD Cert.RecInDw.τ).loc Cert.RecInDw.main_arg0)
      ∧ r.2.mem ((c.tc : Thread Cert.RecInDw.nD Cert.RecInDw.τ).loc Cert.RecInDw.main_arg1) = m ((c.tc : Thread Cert.RecInDw.nD Cert.RecInDw.τ).loc Cert.RecInDw.main_arg1))
      ∧ r.2.sem = fun _ => 0)

def quiescent_RecInDwIdeal [hRecInDwIdeal : Cert.RecInDwIdeal.Facts] : Prop :=
  ∀ (m : (ℓ : Loc Cert.RecInDwIdeal.nD Cert.RecInDwIdeal.τ Cert.RecInDwIdeal.sig) → Buf (Elt Ideal) ℓ) (g : Dev Cert.RecInDwIdeal.nD → PrngReg), Pre_RecInDwIdeal m →
    θ_run (Cert.RecInDwIdeal.defs (F := Ideal)) (onTc (τ := Cert.RecInDwIdeal.τ) (Cert.RecInDwIdeal.main (F := Ideal))) ⟨m, fun _ => 0, g⟩ (fun r => (∀ c : Dev Cert.RecInDwIdeal.nD,
      r.2.mem ((c.tc : Thread Cert.RecInDwIdeal.nD Cert.RecInDwIdeal.τ).loc Cert.RecInDwIdeal.main_arg0) = m ((c.tc : Thread Cert.RecInDwIdeal.nD Cert.RecInDwIdeal.τ).loc Cert.RecInDwIdeal.main_arg0)
      ∧ r.2.mem ((c.tc : Thread Cert.RecInDwIdeal.nD Cert.RecInDwIdeal.τ).loc Cert.RecInDwIdeal.main_arg1) = m ((c.tc : Thread Cert.RecInDwIdeal.nD Cert.RecInDwIdeal.τ).loc Cert.RecInDwIdeal.main_arg1))
      ∧ r.2.sem = fun _ => 0)

def quiescent_RecInDwRefIdeal [hRecInDwRefIdeal : Cert.RecInDwRefIdeal.Facts] : Prop :=
  ∀ (m : (ℓ : Loc Cert.RecInDwRefIdeal.nD Cert.RecInDwRefIdeal.τ Cert.RecInDwRefIdeal.sig) → Buf (Elt Ideal) ℓ) (g : Dev Cert.RecInDwRefIdeal.nD → PrngReg), Pre_RecInDwRefIdeal m →
    θ_run (Cert.RecInDwRefIdeal.defs (F := Ideal)) (onTc (τ := Cert.RecInDwRefIdeal.τ) (Cert.RecInDwRefIdeal.main (F := Ideal))) ⟨m, fun _ => 0, g⟩ (fun r => (∀ c : Dev Cert.RecInDwRefIdeal.nD,
      r.2.mem ((c.tc : Thread Cert.RecInDwRefIdeal.nD Cert.RecInDwRefIdeal.τ).loc Cert.RecInDwRefIdeal.main_arg0) = m ((c.tc : Thread Cert.RecInDwRefIdeal.nD Cert.RecInDwRefIdeal.τ).loc Cert.RecInDwRefIdeal.main_arg0)
      ∧ r.2.mem ((c.tc : Thread Cert.RecInDwRefIdeal.nD Cert.RecInDwRefIdeal.τ).loc Cert.RecInDwRefIdeal.main_arg1) = m ((c.tc : Thread Cert.RecInDwRefIdeal.nD Cert.RecInDwRefIdeal.τ).loc Cert.RecInDwRefIdeal.main_arg1))
      ∧ r.2.sem = fun _ => 0)

def quiescent_RecInDx [hRecInDx : Cert.RecInDx.Facts] : Prop :=
  ∀ (m : (ℓ : Loc Cert.RecInDx.nD Cert.RecInDx.τ Cert.RecInDx.sig) → Buf (Elt Bits) ℓ) (g : Dev Cert.RecInDx.nD → PrngReg), Pre_RecInDx m →
    θ_run (Cert.RecInDx.defs (F := Bits)) (onTc (τ := Cert.RecInDx.τ) (Cert.RecInDx.main (F := Bits))) ⟨m, fun _ => 0, g⟩ (fun r => (∀ c : Dev Cert.RecInDx.nD,
      r.2.mem ((c.tc : Thread Cert.RecInDx.nD Cert.RecInDx.τ).loc Cert.RecInDx.main_arg0) = m ((c.tc : Thread Cert.RecInDx.nD Cert.RecInDx.τ).loc Cert.RecInDx.main_arg0)
      ∧ r.2.mem ((c.tc : Thread Cert.RecInDx.nD Cert.RecInDx.τ).loc Cert.RecInDx.main_arg1) = m ((c.tc : Thread Cert.RecInDx.nD Cert.RecInDx.τ).loc Cert.RecInDx.main_arg1)
      ∧ r.2.mem ((c.tc : Thread Cert.RecInDx.nD Cert.RecInDx.τ).loc Cert.RecInDx.main_arg2) = m ((c.tc : Thread Cert.RecInDx.nD Cert.RecInDx.τ).loc Cert.RecInDx.main_arg2))
      ∧ r.2.sem = fun _ => 0)

def quiescent_RecInDxIdeal [hRecInDxIdeal : Cert.RecInDxIdeal.Facts] : Prop :=
  ∀ (m : (ℓ : Loc Cert.RecInDxIdeal.nD Cert.RecInDxIdeal.τ Cert.RecInDxIdeal.sig) → Buf (Elt Ideal) ℓ) (g : Dev Cert.RecInDxIdeal.nD → PrngReg), Pre_RecInDxIdeal m →
    θ_run (Cert.RecInDxIdeal.defs (F := Ideal)) (onTc (τ := Cert.RecInDxIdeal.τ) (Cert.RecInDxIdeal.main (F := Ideal))) ⟨m, fun _ => 0, g⟩ (fun r => (∀ c : Dev Cert.RecInDxIdeal.nD,
      r.2.mem ((c.tc : Thread Cert.RecInDxIdeal.nD Cert.RecInDxIdeal.τ).loc Cert.RecInDxIdeal.main_arg0) = m ((c.tc : Thread Cert.RecInDxIdeal.nD Cert.RecInDxIdeal.τ).loc Cert.RecInDxIdeal.main_arg0)
      ∧ r.2.mem ((c.tc : Thread Cert.RecInDxIdeal.nD Cert.RecInDxIdeal.τ).loc Cert.RecInDxIdeal.main_arg1) = m ((c.tc : Thread Cert.RecInDxIdeal.nD Cert.RecInDxIdeal.τ).loc Cert.RecInDxIdeal.main_arg1)
      ∧ r.2.mem ((c.tc : Thread Cert.RecInDxIdeal.nD Cert.RecInDxIdeal.τ).loc Cert.RecInDxIdeal.main_arg2) = m ((c.tc : Thread Cert.RecInDxIdeal.nD Cert.RecInDxIdeal.τ).loc Cert.RecInDxIdeal.main_arg2))
      ∧ r.2.sem = fun _ => 0)

def quiescent_RecInDxRefIdeal [hRecInDxRefIdeal : Cert.RecInDxRefIdeal.Facts] : Prop :=
  ∀ (m : (ℓ : Loc Cert.RecInDxRefIdeal.nD Cert.RecInDxRefIdeal.τ Cert.RecInDxRefIdeal.sig) → Buf (Elt Ideal) ℓ) (g : Dev Cert.RecInDxRefIdeal.nD → PrngReg), Pre_RecInDxRefIdeal m →
    θ_run (Cert.RecInDxRefIdeal.defs (F := Ideal)) (onTc (τ := Cert.RecInDxRefIdeal.τ) (Cert.RecInDxRefIdeal.main (F := Ideal))) ⟨m, fun _ => 0, g⟩ (fun r => (∀ c : Dev Cert.RecInDxRefIdeal.nD,
      r.2.mem ((c.tc : Thread Cert.RecInDxRefIdeal.nD Cert.RecInDxRefIdeal.τ).loc Cert.RecInDxRefIdeal.main_arg0) = m ((c.tc : Thread Cert.RecInDxRefIdeal.nD Cert.RecInDxRefIdeal.τ).loc Cert.RecInDxRefIdeal.main_arg0)
      ∧ r.2.mem ((c.tc : Thread Cert.RecInDxRefIdeal.nD Cert.RecInDxRefIdeal.τ).loc Cert.RecInDxRefIdeal.main_arg1) = m ((c.tc : Thread Cert.RecInDxRefIdeal.nD Cert.RecInDxRefIdeal.τ).loc Cert.RecInDxRefIdeal.main_arg1)
      ∧ r.2.mem ((c.tc : Thread Cert.RecInDxRefIdeal.nD Cert.RecInDxRefIdeal.τ).loc Cert.RecInDxRefIdeal.main_arg2) = m ((c.tc : Thread Cert.RecInDxRefIdeal.nD Cert.RecInDxRefIdeal.τ).loc Cert.RecInDxRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_DownDw1 [hDownDw1 : Cert.DownDw1.Facts] : Prop :=
  ∀ (m : (ℓ : Loc Cert.DownDw1.nD Cert.DownDw1.τ Cert.DownDw1.sig) → Buf (Elt Bits) ℓ) (g : Dev Cert.DownDw1.nD → PrngReg), Pre_DownDw1 m →
    θ_run (Cert.DownDw1.defs (F := Bits)) (onTc (τ := Cert.DownDw1.τ) (Cert.DownDw1.main (F := Bits))) ⟨m, fun _ => 0, g⟩ (fun r => (∀ c : Dev Cert.DownDw1.nD,
      r.2.mem ((c.tc : Thread Cert.DownDw1.nD Cert.DownDw1.τ).loc Cert.DownDw1.main_arg0) = m ((c.tc : Thread Cert.DownDw1.nD Cert.DownDw1.τ).loc Cert.DownDw1.main_arg0)
      ∧ r.2.mem ((c.tc : Thread Cert.DownDw1.nD Cert.DownDw1.τ).loc Cert.DownDw1.main_arg1) = m ((c.tc : Thread Cert.DownDw1.nD Cert.DownDw1.τ).loc Cert.DownDw1.main_arg1)
      ∧ r.2.mem ((c.tc : Thread Cert.DownDw1.nD Cert.DownDw1.τ).loc Cert.DownDw1.main_arg2) = m ((c.tc : Thread Cert.DownDw1.nD Cert.DownDw1.τ).loc Cert.DownDw1.main_arg2))
      ∧ r.2.sem = fun _ => 0)

def quiescent_DownDw1Ideal [hDownDw1Ideal : Cert.DownDw1Ideal.Facts] : Prop :=
  ∀ (m : (ℓ : Loc Cert.DownDw1Ideal.nD Cert.DownDw1Ideal.τ Cert.DownDw1Ideal.sig) → Buf (Elt Ideal) ℓ) (g : Dev Cert.DownDw1Ideal.nD → PrngReg), Pre_DownDw1Ideal m →
    θ_run (Cert.DownDw1Ideal.defs (F := Ideal)) (onTc (τ := Cert.DownDw1Ideal.τ) (Cert.DownDw1Ideal.main (F := Ideal))) ⟨m, fun _ => 0, g⟩ (fun r => (∀ c : Dev Cert.DownDw1Ideal.nD,
      r.2.mem ((c.tc : Thread Cert.DownDw1Ideal.nD Cert.DownDw1Ideal.τ).loc Cert.DownDw1Ideal.main_arg0) = m ((c.tc : Thread Cert.DownDw1Ideal.nD Cert.DownDw1Ideal.τ).loc Cert.DownDw1Ideal.main_arg0)
      ∧ r.2.mem ((c.tc : Thread Cert.DownDw1Ideal.nD Cert.DownDw1Ideal.τ).loc Cert.DownDw1Ideal.main_arg1) = m ((c.tc : Thread Cert.DownDw1Ideal.nD Cert.DownDw1Ideal.τ).loc Cert.DownDw1Ideal.main_arg1)
      ∧ r.2.mem ((c.tc : Thread Cert.DownDw1Ideal.nD Cert.DownDw1Ideal.τ).loc Cert.DownDw1Ideal.main_arg2) = m ((c.tc : Thread Cert.DownDw1Ideal.nD Cert.DownDw1Ideal.τ).loc Cert.DownDw1Ideal.main_arg2))
      ∧ r.2.sem = fun _ => 0)

def quiescent_DownDw1RefIdeal [hDownDw1RefIdeal : Cert.DownDw1RefIdeal.Facts] : Prop :=
  ∀ (m : (ℓ : Loc Cert.DownDw1RefIdeal.nD Cert.DownDw1RefIdeal.τ Cert.DownDw1RefIdeal.sig) → Buf (Elt Ideal) ℓ) (g : Dev Cert.DownDw1RefIdeal.nD → PrngReg), Pre_DownDw1RefIdeal m →
    θ_run (Cert.DownDw1RefIdeal.defs (F := Ideal)) (onTc (τ := Cert.DownDw1RefIdeal.τ) (Cert.DownDw1RefIdeal.main (F := Ideal))) ⟨m, fun _ => 0, g⟩ (fun r => (∀ c : Dev Cert.DownDw1RefIdeal.nD,
      r.2.mem ((c.tc : Thread Cert.DownDw1RefIdeal.nD Cert.DownDw1RefIdeal.τ).loc Cert.DownDw1RefIdeal.main_arg0) = m ((c.tc : Thread Cert.DownDw1RefIdeal.nD Cert.DownDw1RefIdeal.τ).loc Cert.DownDw1RefIdeal.main_arg0)
      ∧ r.2.mem ((c.tc : Thread Cert.DownDw1RefIdeal.nD Cert.DownDw1RefIdeal.τ).loc Cert.DownDw1RefIdeal.main_arg1) = m ((c.tc : Thread Cert.DownDw1RefIdeal.nD Cert.DownDw1RefIdeal.τ).loc Cert.DownDw1RefIdeal.main_arg1)
      ∧ r.2.mem ((c.tc : Thread Cert.DownDw1RefIdeal.nD Cert.DownDw1RefIdeal.τ).loc Cert.DownDw1RefIdeal.main_arg2) = m ((c.tc : Thread Cert.DownDw1RefIdeal.nD Cert.DownDw1RefIdeal.τ).loc Cert.DownDw1RefIdeal.main_arg2))
      ∧ r.2.sem = fun _ => 0)

def quiescent_UpDw1 [hUpDw1 : Cert.UpDw1.Facts] : Prop :=
  ∀ (m : (ℓ : Loc Cert.UpDw1.nD Cert.UpDw1.τ Cert.UpDw1.sig) → Buf (Elt Bits) ℓ) (g : Dev Cert.UpDw1.nD → PrngReg), Pre_UpDw1 m →
    θ_run (Cert.UpDw1.defs (F := Bits)) (onTc (τ := Cert.UpDw1.τ) (Cert.UpDw1.main (F := Bits))) ⟨m, fun _ => 0, g⟩ (fun r => (∀ c : Dev Cert.UpDw1.nD,
      r.2.mem ((c.tc : Thread Cert.UpDw1.nD Cert.UpDw1.τ).loc Cert.UpDw1.main_arg0) = m ((c.tc : Thread Cert.UpDw1.nD Cert.UpDw1.τ).loc Cert.UpDw1.main_arg0)
      ∧ r.2.mem ((c.tc : Thread Cert.UpDw1.nD Cert.UpDw1.τ).loc Cert.UpDw1.main_arg1) = m ((c.tc : Thread Cert.UpDw1.nD Cert.UpDw1.τ).loc Cert.UpDw1.main_arg1)
      ∧ r.2.mem ((c.tc : Thread Cert.UpDw1.nD Cert.UpDw1.τ).loc Cert.UpDw1.main_arg2) = m ((c.tc : Thread Cert.UpDw1.nD Cert.UpDw1.τ).loc Cert.UpDw1.main_arg2))
      ∧ r.2.sem = fun _ => 0)

def quiescent_UpDw1Ideal [hUpDw1Ideal : Cert.UpDw1Ideal.Facts] : Prop :=
  ∀ (m : (ℓ : Loc Cert.UpDw1Ideal.nD Cert.UpDw1Ideal.τ Cert.UpDw1Ideal.sig) → Buf (Elt Ideal) ℓ) (g : Dev Cert.UpDw1Ideal.nD → PrngReg), Pre_UpDw1Ideal m →
    θ_run (Cert.UpDw1Ideal.defs (F := Ideal)) (onTc (τ := Cert.UpDw1Ideal.τ) (Cert.UpDw1Ideal.main (F := Ideal))) ⟨m, fun _ => 0, g⟩ (fun r => (∀ c : Dev Cert.UpDw1Ideal.nD,
      r.2.mem ((c.tc : Thread Cert.UpDw1Ideal.nD Cert.UpDw1Ideal.τ).loc Cert.UpDw1Ideal.main_arg0) = m ((c.tc : Thread Cert.UpDw1Ideal.nD Cert.UpDw1Ideal.τ).loc Cert.UpDw1Ideal.main_arg0)
      ∧ r.2.mem ((c.tc : Thread Cert.UpDw1Ideal.nD Cert.UpDw1Ideal.τ).loc Cert.UpDw1Ideal.main_arg1) = m ((c.tc : Thread Cert.UpDw1Ideal.nD Cert.UpDw1Ideal.τ).loc Cert.UpDw1Ideal.main_arg1)
      ∧ r.2.mem ((c.tc : Thread Cert.UpDw1Ideal.nD Cert.UpDw1Ideal.τ).loc Cert.UpDw1Ideal.main_arg2) = m ((c.tc : Thread Cert.UpDw1Ideal.nD Cert.UpDw1Ideal.τ).loc Cert.UpDw1Ideal.main_arg2))
      ∧ r.2.sem = fun _ => 0)

def quiescent_UpDw1RefIdeal [hUpDw1RefIdeal : Cert.UpDw1RefIdeal.Facts] : Prop :=
  ∀ (m : (ℓ : Loc Cert.UpDw1RefIdeal.nD Cert.UpDw1RefIdeal.τ Cert.UpDw1RefIdeal.sig) → Buf (Elt Ideal) ℓ) (g : Dev Cert.UpDw1RefIdeal.nD → PrngReg), Pre_UpDw1RefIdeal m →
    θ_run (Cert.UpDw1RefIdeal.defs (F := Ideal)) (onTc (τ := Cert.UpDw1RefIdeal.τ) (Cert.UpDw1RefIdeal.main (F := Ideal))) ⟨m, fun _ => 0, g⟩ (fun r => (∀ c : Dev Cert.UpDw1RefIdeal.nD,
      r.2.mem ((c.tc : Thread Cert.UpDw1RefIdeal.nD Cert.UpDw1RefIdeal.τ).loc Cert.UpDw1RefIdeal.main_arg0) = m ((c.tc : Thread Cert.UpDw1RefIdeal.nD Cert.UpDw1RefIdeal.τ).loc Cert.UpDw1RefIdeal.main_arg0)
      ∧ r.2.mem ((c.tc : Thread Cert.UpDw1RefIdeal.nD Cert.UpDw1RefIdeal.τ).loc Cert.UpDw1RefIdeal.main_arg1) = m ((c.tc : Thread Cert.UpDw1RefIdeal.nD Cert.UpDw1RefIdeal.τ).loc Cert.UpDw1RefIdeal.main_arg1)
      ∧ r.2.mem ((c.tc : Thread Cert.UpDw1RefIdeal.nD Cert.UpDw1RefIdeal.τ).loc Cert.UpDw1RefIdeal.main_arg2) = m ((c.tc : Thread Cert.UpDw1RefIdeal.nD Cert.UpDw1RefIdeal.τ).loc Cert.UpDw1RefIdeal.main_arg2))
      ∧ r.2.sem = fun _ => 0)

def quiescent_DownDw2 [hDownDw2 : Cert.DownDw2.Facts] : Prop :=
  ∀ (m : (ℓ : Loc Cert.DownDw2.nD Cert.DownDw2.τ Cert.DownDw2.sig) → Buf (Elt Bits) ℓ) (g : Dev Cert.DownDw2.nD → PrngReg), Pre_DownDw2 m →
    θ_run (Cert.DownDw2.defs (F := Bits)) (onTc (τ := Cert.DownDw2.τ) (Cert.DownDw2.main (F := Bits))) ⟨m, fun _ => 0, g⟩ (fun r => (∀ c : Dev Cert.DownDw2.nD,
      r.2.mem ((c.tc : Thread Cert.DownDw2.nD Cert.DownDw2.τ).loc Cert.DownDw2.main_arg0) = m ((c.tc : Thread Cert.DownDw2.nD Cert.DownDw2.τ).loc Cert.DownDw2.main_arg0)
      ∧ r.2.mem ((c.tc : Thread Cert.DownDw2.nD Cert.DownDw2.τ).loc Cert.DownDw2.main_arg1) = m ((c.tc : Thread Cert.DownDw2.nD Cert.DownDw2.τ).loc Cert.DownDw2.main_arg1)
      ∧ r.2.mem ((c.tc : Thread Cert.DownDw2.nD Cert.DownDw2.τ).loc Cert.DownDw2.main_arg2) = m ((c.tc : Thread Cert.DownDw2.nD Cert.DownDw2.τ).loc Cert.DownDw2.main_arg2))
      ∧ r.2.sem = fun _ => 0)

def quiescent_DownDw2Ideal [hDownDw2Ideal : Cert.DownDw2Ideal.Facts] : Prop :=
  ∀ (m : (ℓ : Loc Cert.DownDw2Ideal.nD Cert.DownDw2Ideal.τ Cert.DownDw2Ideal.sig) → Buf (Elt Ideal) ℓ) (g : Dev Cert.DownDw2Ideal.nD → PrngReg), Pre_DownDw2Ideal m →
    θ_run (Cert.DownDw2Ideal.defs (F := Ideal)) (onTc (τ := Cert.DownDw2Ideal.τ) (Cert.DownDw2Ideal.main (F := Ideal))) ⟨m, fun _ => 0, g⟩ (fun r => (∀ c : Dev Cert.DownDw2Ideal.nD,
      r.2.mem ((c.tc : Thread Cert.DownDw2Ideal.nD Cert.DownDw2Ideal.τ).loc Cert.DownDw2Ideal.main_arg0) = m ((c.tc : Thread Cert.DownDw2Ideal.nD Cert.DownDw2Ideal.τ).loc Cert.DownDw2Ideal.main_arg0)
      ∧ r.2.mem ((c.tc : Thread Cert.DownDw2Ideal.nD Cert.DownDw2Ideal.τ).loc Cert.DownDw2Ideal.main_arg1) = m ((c.tc : Thread Cert.DownDw2Ideal.nD Cert.DownDw2Ideal.τ).loc Cert.DownDw2Ideal.main_arg1)
      ∧ r.2.mem ((c.tc : Thread Cert.DownDw2Ideal.nD Cert.DownDw2Ideal.τ).loc Cert.DownDw2Ideal.main_arg2) = m ((c.tc : Thread Cert.DownDw2Ideal.nD Cert.DownDw2Ideal.τ).loc Cert.DownDw2Ideal.main_arg2))
      ∧ r.2.sem = fun _ => 0)

def quiescent_DownDw2RefIdeal [hDownDw2RefIdeal : Cert.DownDw2RefIdeal.Facts] : Prop :=
  ∀ (m : (ℓ : Loc Cert.DownDw2RefIdeal.nD Cert.DownDw2RefIdeal.τ Cert.DownDw2RefIdeal.sig) → Buf (Elt Ideal) ℓ) (g : Dev Cert.DownDw2RefIdeal.nD → PrngReg), Pre_DownDw2RefIdeal m →
    θ_run (Cert.DownDw2RefIdeal.defs (F := Ideal)) (onTc (τ := Cert.DownDw2RefIdeal.τ) (Cert.DownDw2RefIdeal.main (F := Ideal))) ⟨m, fun _ => 0, g⟩ (fun r => (∀ c : Dev Cert.DownDw2RefIdeal.nD,
      r.2.mem ((c.tc : Thread Cert.DownDw2RefIdeal.nD Cert.DownDw2RefIdeal.τ).loc Cert.DownDw2RefIdeal.main_arg0) = m ((c.tc : Thread Cert.DownDw2RefIdeal.nD Cert.DownDw2RefIdeal.τ).loc Cert.DownDw2RefIdeal.main_arg0)
      ∧ r.2.mem ((c.tc : Thread Cert.DownDw2RefIdeal.nD Cert.DownDw2RefIdeal.τ).loc Cert.DownDw2RefIdeal.main_arg1) = m ((c.tc : Thread Cert.DownDw2RefIdeal.nD Cert.DownDw2RefIdeal.τ).loc Cert.DownDw2RefIdeal.main_arg1)
      ∧ r.2.mem ((c.tc : Thread Cert.DownDw2RefIdeal.nD Cert.DownDw2RefIdeal.τ).loc Cert.DownDw2RefIdeal.main_arg2) = m ((c.tc : Thread Cert.DownDw2RefIdeal.nD Cert.DownDw2RefIdeal.τ).loc Cert.DownDw2RefIdeal.main_arg2))
      ∧ r.2.sem = fun _ => 0)

def quiescent_UpDw2 [hUpDw2 : Cert.UpDw2.Facts] : Prop :=
  ∀ (m : (ℓ : Loc Cert.UpDw2.nD Cert.UpDw2.τ Cert.UpDw2.sig) → Buf (Elt Bits) ℓ) (g : Dev Cert.UpDw2.nD → PrngReg), Pre_UpDw2 m →
    θ_run (Cert.UpDw2.defs (F := Bits)) (onTc (τ := Cert.UpDw2.τ) (Cert.UpDw2.main (F := Bits))) ⟨m, fun _ => 0, g⟩ (fun r => (∀ c : Dev Cert.UpDw2.nD,
      r.2.mem ((c.tc : Thread Cert.UpDw2.nD Cert.UpDw2.τ).loc Cert.UpDw2.main_arg0) = m ((c.tc : Thread Cert.UpDw2.nD Cert.UpDw2.τ).loc Cert.UpDw2.main_arg0)
      ∧ r.2.mem ((c.tc : Thread Cert.UpDw2.nD Cert.UpDw2.τ).loc Cert.UpDw2.main_arg1) = m ((c.tc : Thread Cert.UpDw2.nD Cert.UpDw2.τ).loc Cert.UpDw2.main_arg1)
      ∧ r.2.mem ((c.tc : Thread Cert.UpDw2.nD Cert.UpDw2.τ).loc Cert.UpDw2.main_arg2) = m ((c.tc : Thread Cert.UpDw2.nD Cert.UpDw2.τ).loc Cert.UpDw2.main_arg2))
      ∧ r.2.sem = fun _ => 0)

def quiescent_UpDw2Ideal [hUpDw2Ideal : Cert.UpDw2Ideal.Facts] : Prop :=
  ∀ (m : (ℓ : Loc Cert.UpDw2Ideal.nD Cert.UpDw2Ideal.τ Cert.UpDw2Ideal.sig) → Buf (Elt Ideal) ℓ) (g : Dev Cert.UpDw2Ideal.nD → PrngReg), Pre_UpDw2Ideal m →
    θ_run (Cert.UpDw2Ideal.defs (F := Ideal)) (onTc (τ := Cert.UpDw2Ideal.τ) (Cert.UpDw2Ideal.main (F := Ideal))) ⟨m, fun _ => 0, g⟩ (fun r => (∀ c : Dev Cert.UpDw2Ideal.nD,
      r.2.mem ((c.tc : Thread Cert.UpDw2Ideal.nD Cert.UpDw2Ideal.τ).loc Cert.UpDw2Ideal.main_arg0) = m ((c.tc : Thread Cert.UpDw2Ideal.nD Cert.UpDw2Ideal.τ).loc Cert.UpDw2Ideal.main_arg0)
      ∧ r.2.mem ((c.tc : Thread Cert.UpDw2Ideal.nD Cert.UpDw2Ideal.τ).loc Cert.UpDw2Ideal.main_arg1) = m ((c.tc : Thread Cert.UpDw2Ideal.nD Cert.UpDw2Ideal.τ).loc Cert.UpDw2Ideal.main_arg1)
      ∧ r.2.mem ((c.tc : Thread Cert.UpDw2Ideal.nD Cert.UpDw2Ideal.τ).loc Cert.UpDw2Ideal.main_arg2) = m ((c.tc : Thread Cert.UpDw2Ideal.nD Cert.UpDw2Ideal.τ).loc Cert.UpDw2Ideal.main_arg2))
      ∧ r.2.sem = fun _ => 0)

def quiescent_UpDw2RefIdeal [hUpDw2RefIdeal : Cert.UpDw2RefIdeal.Facts] : Prop :=
  ∀ (m : (ℓ : Loc Cert.UpDw2RefIdeal.nD Cert.UpDw2RefIdeal.τ Cert.UpDw2RefIdeal.sig) → Buf (Elt Ideal) ℓ) (g : Dev Cert.UpDw2RefIdeal.nD → PrngReg), Pre_UpDw2RefIdeal m →
    θ_run (Cert.UpDw2RefIdeal.defs (F := Ideal)) (onTc (τ := Cert.UpDw2RefIdeal.τ) (Cert.UpDw2RefIdeal.main (F := Ideal))) ⟨m, fun _ => 0, g⟩ (fun r => (∀ c : Dev Cert.UpDw2RefIdeal.nD,
      r.2.mem ((c.tc : Thread Cert.UpDw2RefIdeal.nD Cert.UpDw2RefIdeal.τ).loc Cert.UpDw2RefIdeal.main_arg0) = m ((c.tc : Thread Cert.UpDw2RefIdeal.nD Cert.UpDw2RefIdeal.τ).loc Cert.UpDw2RefIdeal.main_arg0)
      ∧ r.2.mem ((c.tc : Thread Cert.UpDw2RefIdeal.nD Cert.UpDw2RefIdeal.τ).loc Cert.UpDw2RefIdeal.main_arg1) = m ((c.tc : Thread Cert.UpDw2RefIdeal.nD Cert.UpDw2RefIdeal.τ).loc Cert.UpDw2RefIdeal.main_arg1)
      ∧ r.2.mem ((c.tc : Thread Cert.UpDw2RefIdeal.nD Cert.UpDw2RefIdeal.τ).loc Cert.UpDw2RefIdeal.main_arg2) = m ((c.tc : Thread Cert.UpDw2RefIdeal.nD Cert.UpDw2RefIdeal.τ).loc Cert.UpDw2RefIdeal.main_arg2))
      ∧ r.2.sem = fun _ => 0)

def quiescent_DownDw3 [hDownDw3 : Cert.DownDw3.Facts] : Prop :=
  ∀ (m : (ℓ : Loc Cert.DownDw3.nD Cert.DownDw3.τ Cert.DownDw3.sig) → Buf (Elt Bits) ℓ) (g : Dev Cert.DownDw3.nD → PrngReg), Pre_DownDw3 m →
    θ_run (Cert.DownDw3.defs (F := Bits)) (onTc (τ := Cert.DownDw3.τ) (Cert.DownDw3.main (F := Bits))) ⟨m, fun _ => 0, g⟩ (fun r => (∀ c : Dev Cert.DownDw3.nD,
      r.2.mem ((c.tc : Thread Cert.DownDw3.nD Cert.DownDw3.τ).loc Cert.DownDw3.main_arg0) = m ((c.tc : Thread Cert.DownDw3.nD Cert.DownDw3.τ).loc Cert.DownDw3.main_arg0)
      ∧ r.2.mem ((c.tc : Thread Cert.DownDw3.nD Cert.DownDw3.τ).loc Cert.DownDw3.main_arg1) = m ((c.tc : Thread Cert.DownDw3.nD Cert.DownDw3.τ).loc Cert.DownDw3.main_arg1)
      ∧ r.2.mem ((c.tc : Thread Cert.DownDw3.nD Cert.DownDw3.τ).loc Cert.DownDw3.main_arg2) = m ((c.tc : Thread Cert.DownDw3.nD Cert.DownDw3.τ).loc Cert.DownDw3.main_arg2))
      ∧ r.2.sem = fun _ => 0)

def quiescent_DownDw3Ideal [hDownDw3Ideal : Cert.DownDw3Ideal.Facts] : Prop :=
  ∀ (m : (ℓ : Loc Cert.DownDw3Ideal.nD Cert.DownDw3Ideal.τ Cert.DownDw3Ideal.sig) → Buf (Elt Ideal) ℓ) (g : Dev Cert.DownDw3Ideal.nD → PrngReg), Pre_DownDw3Ideal m →
    θ_run (Cert.DownDw3Ideal.defs (F := Ideal)) (onTc (τ := Cert.DownDw3Ideal.τ) (Cert.DownDw3Ideal.main (F := Ideal))) ⟨m, fun _ => 0, g⟩ (fun r => (∀ c : Dev Cert.DownDw3Ideal.nD,
      r.2.mem ((c.tc : Thread Cert.DownDw3Ideal.nD Cert.DownDw3Ideal.τ).loc Cert.DownDw3Ideal.main_arg0) = m ((c.tc : Thread Cert.DownDw3Ideal.nD Cert.DownDw3Ideal.τ).loc Cert.DownDw3Ideal.main_arg0)
      ∧ r.2.mem ((c.tc : Thread Cert.DownDw3Ideal.nD Cert.DownDw3Ideal.τ).loc Cert.DownDw3Ideal.main_arg1) = m ((c.tc : Thread Cert.DownDw3Ideal.nD Cert.DownDw3Ideal.τ).loc Cert.DownDw3Ideal.main_arg1)
      ∧ r.2.mem ((c.tc : Thread Cert.DownDw3Ideal.nD Cert.DownDw3Ideal.τ).loc Cert.DownDw3Ideal.main_arg2) = m ((c.tc : Thread Cert.DownDw3Ideal.nD Cert.DownDw3Ideal.τ).loc Cert.DownDw3Ideal.main_arg2))
      ∧ r.2.sem = fun _ => 0)

def quiescent_DownDw3RefIdeal [hDownDw3RefIdeal : Cert.DownDw3RefIdeal.Facts] : Prop :=
  ∀ (m : (ℓ : Loc Cert.DownDw3RefIdeal.nD Cert.DownDw3RefIdeal.τ Cert.DownDw3RefIdeal.sig) → Buf (Elt Ideal) ℓ) (g : Dev Cert.DownDw3RefIdeal.nD → PrngReg), Pre_DownDw3RefIdeal m →
    θ_run (Cert.DownDw3RefIdeal.defs (F := Ideal)) (onTc (τ := Cert.DownDw3RefIdeal.τ) (Cert.DownDw3RefIdeal.main (F := Ideal))) ⟨m, fun _ => 0, g⟩ (fun r => (∀ c : Dev Cert.DownDw3RefIdeal.nD,
      r.2.mem ((c.tc : Thread Cert.DownDw3RefIdeal.nD Cert.DownDw3RefIdeal.τ).loc Cert.DownDw3RefIdeal.main_arg0) = m ((c.tc : Thread Cert.DownDw3RefIdeal.nD Cert.DownDw3RefIdeal.τ).loc Cert.DownDw3RefIdeal.main_arg0)
      ∧ r.2.mem ((c.tc : Thread Cert.DownDw3RefIdeal.nD Cert.DownDw3RefIdeal.τ).loc Cert.DownDw3RefIdeal.main_arg1) = m ((c.tc : Thread Cert.DownDw3RefIdeal.nD Cert.DownDw3RefIdeal.τ).loc Cert.DownDw3RefIdeal.main_arg1)
      ∧ r.2.mem ((c.tc : Thread Cert.DownDw3RefIdeal.nD Cert.DownDw3RefIdeal.τ).loc Cert.DownDw3RefIdeal.main_arg2) = m ((c.tc : Thread Cert.DownDw3RefIdeal.nD Cert.DownDw3RefIdeal.τ).loc Cert.DownDw3RefIdeal.main_arg2))
      ∧ r.2.sem = fun _ => 0)

def quiescent_UpDw3 [hUpDw3 : Cert.UpDw3.Facts] : Prop :=
  ∀ (m : (ℓ : Loc Cert.UpDw3.nD Cert.UpDw3.τ Cert.UpDw3.sig) → Buf (Elt Bits) ℓ) (g : Dev Cert.UpDw3.nD → PrngReg), Pre_UpDw3 m →
    θ_run (Cert.UpDw3.defs (F := Bits)) (onTc (τ := Cert.UpDw3.τ) (Cert.UpDw3.main (F := Bits))) ⟨m, fun _ => 0, g⟩ (fun r => (∀ c : Dev Cert.UpDw3.nD,
      r.2.mem ((c.tc : Thread Cert.UpDw3.nD Cert.UpDw3.τ).loc Cert.UpDw3.main_arg0) = m ((c.tc : Thread Cert.UpDw3.nD Cert.UpDw3.τ).loc Cert.UpDw3.main_arg0)
      ∧ r.2.mem ((c.tc : Thread Cert.UpDw3.nD Cert.UpDw3.τ).loc Cert.UpDw3.main_arg1) = m ((c.tc : Thread Cert.UpDw3.nD Cert.UpDw3.τ).loc Cert.UpDw3.main_arg1)
      ∧ r.2.mem ((c.tc : Thread Cert.UpDw3.nD Cert.UpDw3.τ).loc Cert.UpDw3.main_arg2) = m ((c.tc : Thread Cert.UpDw3.nD Cert.UpDw3.τ).loc Cert.UpDw3.main_arg2))
      ∧ r.2.sem = fun _ => 0)

def quiescent_UpDw3Ideal [hUpDw3Ideal : Cert.UpDw3Ideal.Facts] : Prop :=
  ∀ (m : (ℓ : Loc Cert.UpDw3Ideal.nD Cert.UpDw3Ideal.τ Cert.UpDw3Ideal.sig) → Buf (Elt Ideal) ℓ) (g : Dev Cert.UpDw3Ideal.nD → PrngReg), Pre_UpDw3Ideal m →
    θ_run (Cert.UpDw3Ideal.defs (F := Ideal)) (onTc (τ := Cert.UpDw3Ideal.τ) (Cert.UpDw3Ideal.main (F := Ideal))) ⟨m, fun _ => 0, g⟩ (fun r => (∀ c : Dev Cert.UpDw3Ideal.nD,
      r.2.mem ((c.tc : Thread Cert.UpDw3Ideal.nD Cert.UpDw3Ideal.τ).loc Cert.UpDw3Ideal.main_arg0) = m ((c.tc : Thread Cert.UpDw3Ideal.nD Cert.UpDw3Ideal.τ).loc Cert.UpDw3Ideal.main_arg0)
      ∧ r.2.mem ((c.tc : Thread Cert.UpDw3Ideal.nD Cert.UpDw3Ideal.τ).loc Cert.UpDw3Ideal.main_arg1) = m ((c.tc : Thread Cert.UpDw3Ideal.nD Cert.UpDw3Ideal.τ).loc Cert.UpDw3Ideal.main_arg1)
      ∧ r.2.mem ((c.tc : Thread Cert.UpDw3Ideal.nD Cert.UpDw3Ideal.τ).loc Cert.UpDw3Ideal.main_arg2) = m ((c.tc : Thread Cert.UpDw3Ideal.nD Cert.UpDw3Ideal.τ).loc Cert.UpDw3Ideal.main_arg2))
      ∧ r.2.sem = fun _ => 0)

def quiescent_UpDw3RefIdeal [hUpDw3RefIdeal : Cert.UpDw3RefIdeal.Facts] : Prop :=
  ∀ (m : (ℓ : Loc Cert.UpDw3RefIdeal.nD Cert.UpDw3RefIdeal.τ Cert.UpDw3RefIdeal.sig) → Buf (Elt Ideal) ℓ) (g : Dev Cert.UpDw3RefIdeal.nD → PrngReg), Pre_UpDw3RefIdeal m →
    θ_run (Cert.UpDw3RefIdeal.defs (F := Ideal)) (onTc (τ := Cert.UpDw3RefIdeal.τ) (Cert.UpDw3RefIdeal.main (F := Ideal))) ⟨m, fun _ => 0, g⟩ (fun r => (∀ c : Dev Cert.UpDw3RefIdeal.nD,
      r.2.mem ((c.tc : Thread Cert.UpDw3RefIdeal.nD Cert.UpDw3RefIdeal.τ).loc Cert.UpDw3RefIdeal.main_arg0) = m ((c.tc : Thread Cert.UpDw3RefIdeal.nD Cert.UpDw3RefIdeal.τ).loc Cert.UpDw3RefIdeal.main_arg0)
      ∧ r.2.mem ((c.tc : Thread Cert.UpDw3RefIdeal.nD Cert.UpDw3RefIdeal.τ).loc Cert.UpDw3RefIdeal.main_arg1) = m ((c.tc : Thread Cert.UpDw3RefIdeal.nD Cert.UpDw3RefIdeal.τ).loc Cert.UpDw3RefIdeal.main_arg1)
      ∧ r.2.mem ((c.tc : Thread Cert.UpDw3RefIdeal.nD Cert.UpDw3RefIdeal.τ).loc Cert.UpDw3RefIdeal.main_arg2) = m ((c.tc : Thread Cert.UpDw3RefIdeal.nD Cert.UpDw3RefIdeal.τ).loc Cert.UpDw3RefIdeal.main_arg2))
      ∧ r.2.sem = fun _ => 0)

def preserves_Kernel_KernelIdeal : Prop :=
  True

def algebraic_KernelIdeal_ReferenceIdeal_on_written_pre_finite_inputs [hKernelIdeal : Cert.KernelIdeal.Facts] [hReferenceIdeal : Cert.ReferenceIdeal.Facts] [hPre_finite_inputs : Cert.Pre_finite_inputs.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v94_0)) (v1 : (c : Dev Cert.KernelIdeal.nD) → Buf (Elt Ideal) ((c.tc : Thread Cert.KernelIdeal.nD Cert.KernelIdeal.τ).loc Cert.KernelIdeal.main_v94_1)) (v2 : (c : Dev Cert.KernelIdeal.nD) → Buf (Elt Ideal) ((c.tc : Thread Cert.KernelIdeal.nD Cert.KernelIdeal.τ).loc Cert.KernelIdeal.main_v94_2)) (v3 : (c : Dev Cert.KernelIdeal.nD) → Buf (Elt Ideal) ((c.tc : Thread Cert.KernelIdeal.nD Cert.KernelIdeal.τ).loc Cert.KernelIdeal.main_v94_3)) (v4 : (c : Dev Cert.KernelIdeal.nD) → Buf (Elt Ideal) ((c.tc : Thread Cert.KernelIdeal.nD Cert.KernelIdeal.τ).loc Cert.KernelIdeal.main_v94_4)) (v5 : (c : Dev Cert.KernelIdeal.nD) → Buf (Elt Ideal) ((c.tc : Thread Cert.KernelIdeal.nD Cert.KernelIdeal.τ).loc Cert.KernelIdeal.main_v94_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 3072]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v94_0) i = v0 c i)
          ∧ (∀ i : (⟨2, ![4096, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v94_1) i = v1 c i)
          ∧ (∀ i : (⟨2, ![4096, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v94_2) i = v2 c i)
          ∧ (∀ i : (⟨2, ![4096, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.KernelIdeal.nD Cert.KernelIdeal.τ).loc Cert.KernelIdeal.main_v94_3) i = v3 c i)
          ∧ (∀ i : (⟨2, ![4096, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 i = 1#1 → r.2.mem ((c.tc : Thread Cert.KernelIdeal.nD Cert.KernelIdeal.τ).loc Cert.KernelIdeal.main_v94_4) i = v4 c i)
          ∧ (∀ i : (⟨2, ![1, 8]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 i = 1#1 → r.2.mem ((c.tc : Thread Cert.KernelIdeal.nD Cert.KernelIdeal.τ).loc Cert.KernelIdeal.main_v94_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 3072]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v163) i = v0 c i)
          ∧ (∀ i : (⟨2, ![4096, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v160) i = v1 c i)
          ∧ (∀ i : (⟨2, ![4096, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v166) i = v2 c i)
          ∧ (∀ i : (⟨2, ![4096, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 i = 1#1 → r.2.mem ((c.tc : Thread Cert.ReferenceIdeal.nD Cert.ReferenceIdeal.τ).loc Cert.ReferenceIdeal.main_v128) i = v3 c i)
          ∧ (∀ i : (⟨2, ![4096, 128]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.1 i = 1#1 → r.2.mem ((c.tc : Thread Cert.ReferenceIdeal.nD Cert.ReferenceIdeal.τ).loc Cert.ReferenceIdeal.main_v169) i = v4 c i)
          ∧ (∀ i : (⟨2, ![1, 8]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2.2 i = 1#1 → r.2.mem ((c.tc : Thread Cert.ReferenceIdeal.nD Cert.ReferenceIdeal.τ).loc Cert.ReferenceIdeal.main_v170) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v3)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v3) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v15) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v3)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v3) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v8) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v8) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v7) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v3)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)) →
    ∃ (v0 : (c : Dev Cert.DownIdeal.nD) → Buf (Elt Ideal) ((c.tc : Thread Cert.DownIdeal.nD Cert.DownIdeal.τ).loc Cert.DownIdeal.main_v5_0)) (v1 : (c : Dev Cert.DownIdeal.nD) → Buf (Elt Ideal) ((c.tc : Thread Cert.DownIdeal.nD Cert.DownIdeal.τ).loc Cert.DownIdeal.main_v5_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5_0) = v0 c
          ∧ r.2.mem ((c.tc : Thread Cert.DownIdeal.nD Cert.DownIdeal.τ).loc Cert.DownIdeal.main_v5_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v33) = v0 c
          ∧ r.2.mem ((c.tc : Thread Cert.DownRefIdeal.nD Cert.DownRefIdeal.τ).loc Cert.DownRefIdeal.main_v8) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4))

def preserves_HybIn_HybInIdeal : Prop :=
  True

def algebraic_HybInIdeal_HybInRefIdeal [hHybInIdeal : Cert.HybInIdeal.Facts] [hHybInRefIdeal : Cert.HybInRefIdeal.Facts] : Prop :=
  ∀ (m : (ℓ : Loc Cert.HybInIdeal.nD Cert.HybInIdeal.τ Cert.HybInIdeal.sig) → Buf (Elt Ideal) ℓ) (g : Dev Cert.HybInIdeal.nD → PrngReg)
    (m' : (ℓ : Loc Cert.HybInRefIdeal.nD Cert.HybInRefIdeal.τ Cert.HybInRefIdeal.sig) → Buf (Elt Ideal) ℓ) (g' : Dev Cert.HybInRefIdeal.nD → PrngReg), Pre_HybInIdeal m →
    (∀ c : Dev Cert.HybInIdeal.nD,
      m' ((c.tc : Thread Cert.HybInRefIdeal.nD Cert.HybInRefIdeal.τ).loc Cert.HybInRefIdeal.main_arg0) = m ((c.tc : Thread Cert.HybInIdeal.nD Cert.HybInIdeal.τ).loc Cert.HybInIdeal.main_arg0)
      ∧ m' ((c.tc : Thread Cert.HybInRefIdeal.nD Cert.HybInRefIdeal.τ).loc Cert.HybInRefIdeal.main_arg1) = m ((c.tc : Thread Cert.HybInIdeal.nD Cert.HybInIdeal.τ).loc Cert.HybInIdeal.main_arg1)) →
    ∃ (v0 : (c : Dev Cert.HybInIdeal.nD) → Buf (Elt Ideal) ((c.tc : Thread Cert.HybInIdeal.nD Cert.HybInIdeal.τ).loc Cert.HybInIdeal.main_v0)),
      θ_run (Cert.HybInIdeal.defs (F := Ideal)) (onTc (τ := Cert.HybInIdeal.τ) (Cert.HybInIdeal.main (F := Ideal))) ⟨m, fun _ => 0, g⟩ (fun r => ∀ c : Dev Cert.HybInIdeal.nD,
          r.2.mem ((c.tc : Thread Cert.HybInIdeal.nD Cert.HybInIdeal.τ).loc Cert.HybInIdeal.main_v0) = v0 c
          ∧ r.2.mem ((c.tc : Thread Cert.HybInIdeal.nD Cert.HybInIdeal.τ).loc Cert.HybInIdeal.main_arg0) = m ((c.tc : Thread Cert.HybInIdeal.nD Cert.HybInIdeal.τ).loc Cert.HybInIdeal.main_arg0)
          ∧ r.2.mem ((c.tc : Thread Cert.HybInIdeal.nD Cert.HybInIdeal.τ).loc Cert.HybInIdeal.main_arg1) = m ((c.tc : Thread Cert.HybInIdeal.nD Cert.HybInIdeal.τ).loc Cert.HybInIdeal.main_arg1))
      ∧ θ_run (Cert.HybInRefIdeal.defs (F := Ideal)) (onTc (τ := Cert.HybInRefIdeal.τ) (Cert.HybInRefIdeal.main (F := Ideal))) ⟨m', fun _ => 0, g'⟩ (fun r => ∀ c : Dev Cert.HybInRefIdeal.nD,
          r.2.mem ((c.tc : Thread Cert.HybInRefIdeal.nD Cert.HybInRefIdeal.τ).loc Cert.HybInRefIdeal.main_v2) = v0 c
          ∧ r.2.mem ((c.tc : Thread Cert.HybInRefIdeal.nD Cert.HybInRefIdeal.τ).loc Cert.HybInRefIdeal.main_arg0) = m' ((c.tc : Thread Cert.HybInRefIdeal.nD Cert.HybInRefIdeal.τ).loc Cert.HybInRefIdeal.main_arg0)
          ∧ r.2.mem ((c.tc : Thread Cert.HybInRefIdeal.nD Cert.HybInRefIdeal.τ).loc Cert.HybInRefIdeal.main_arg1) = m' ((c.tc : Thread Cert.HybInRefIdeal.nD Cert.HybInRefIdeal.τ).loc Cert.HybInRefIdeal.main_arg1))

def preserves_HybInDw_HybInDwIdeal : Prop :=
  True

def algebraic_HybInDwIdeal_HybInDwRefIdeal [hHybInDwIdeal : Cert.HybInDwIdeal.Facts] [hHybInDwRefIdeal : Cert.HybInDwRefIdeal.Facts] : Prop :=
  ∀ (m : (ℓ : Loc Cert.HybInDwIdeal.nD Cert.HybInDwIdeal.τ Cert.HybInDwIdeal.sig) → Buf (Elt Ideal) ℓ) (g : Dev Cert.HybInDwIdeal.nD → PrngReg)
    (m' : (ℓ : Loc Cert.HybInDwRefIdeal.nD Cert.HybInDwRefIdeal.τ Cert.HybInDwRefIdeal.sig) → Buf (Elt Ideal) ℓ) (g' : Dev Cert.HybInDwRefIdeal.nD → PrngReg), Pre_HybInDwIdeal m →
    (∀ c : Dev Cert.HybInDwIdeal.nD,
      m' ((c.tc : Thread Cert.HybInDwRefIdeal.nD Cert.HybInDwRefIdeal.τ).loc Cert.HybInDwRefIdeal.main_arg0) = m ((c.tc : Thread Cert.HybInDwIdeal.nD Cert.HybInDwIdeal.τ).loc Cert.HybInDwIdeal.main_arg0)
      ∧ m' ((c.tc : Thread Cert.HybInDwRefIdeal.nD Cert.HybInDwRefIdeal.τ).loc Cert.HybInDwRefIdeal.main_arg1) = m ((c.tc : Thread Cert.HybInDwIdeal.nD Cert.HybInDwIdeal.τ).loc Cert.HybInDwIdeal.main_arg1)) →
    ∃ (v0 : (c : Dev Cert.HybInDwIdeal.nD) → Buf (Elt Ideal) ((c.tc : Thread Cert.HybInDwIdeal.nD Cert.HybInDwIdeal.τ).loc Cert.HybInDwIdeal.main_v0)),
      θ_run (Cert.HybInDwIdeal.defs (F := Ideal)) (onTc (τ := Cert.HybInDwIdeal.τ) (Cert.HybInDwIdeal.main (F := Ideal))) ⟨m, fun _ => 0, g⟩ (fun r => ∀ c : Dev Cert.HybInDwIdeal.nD,
          r.2.mem ((c.tc : Thread Cert.HybInDwIdeal.nD Cert.HybInDwIdeal.τ).loc Cert.HybInDwIdeal.main_v0) = v0 c
          ∧ r.2.mem ((c.tc : Thread Cert.HybInDwIdeal.nD Cert.HybInDwIdeal.τ).loc Cert.HybInDwIdeal.main_arg0) = m ((c.tc : Thread Cert.HybInDwIdeal.nD Cert.HybInDwIdeal.τ).loc Cert.HybInDwIdeal.main_arg0)
          ∧ r.2.mem ((c.tc : Thread Cert.HybInDwIdeal.nD Cert.HybInDwIdeal.τ).loc Cert.HybInDwIdeal.main_arg1) = m ((c.tc : Thread Cert.HybInDwIdeal.nD Cert.HybInDwIdeal.τ).loc Cert.HybInDwIdeal.main_arg1))
      ∧ θ_run (Cert.HybInDwRefIdeal.defs (F := Ideal)) (onTc (τ := Cert.HybInDwRefIdeal.τ) (Cert.HybInDwRefIdeal.main (F := Ideal))) ⟨m', fun _ => 0, g'⟩ (fun r => ∀ c : Dev Cert.HybInDwRefIdeal.nD,
          r.2.mem ((c.tc : Thread Cert.HybInDwRefIdeal.nD Cert.HybInDwRefIdeal.τ).loc Cert.HybInDwRefIdeal.main_v5) = v0 c
          ∧ r.2.mem ((c.tc : Thread Cert.HybInDwRefIdeal.nD Cert.HybInDwRefIdeal.τ).loc Cert.HybInDwRefIdeal.main_arg0) = m' ((c.tc : Thread Cert.HybInDwRefIdeal.nD Cert.HybInDwRefIdeal.τ).loc Cert.HybInDwRefIdeal.main_arg0)
          ∧ r.2.mem ((c.tc : Thread Cert.HybInDwRefIdeal.nD Cert.HybInDwRefIdeal.τ).loc Cert.HybInDwRefIdeal.main_arg1) = m' ((c.tc : Thread Cert.HybInDwRefIdeal.nD Cert.HybInDwRefIdeal.τ).loc Cert.HybInDwRefIdeal.main_arg1))

def preserves_HybInDx_HybInDxIdeal : Prop :=
  True

def algebraic_HybInDxIdeal_HybInDxRefIdeal [hHybInDxIdeal : Cert.HybInDxIdeal.Facts] [hHybInDxRefIdeal : Cert.HybInDxRefIdeal.Facts] : Prop :=
  ∀ (m : (ℓ : Loc Cert.HybInDxIdeal.nD Cert.HybInDxIdeal.τ Cert.HybInDxIdeal.sig) → Buf (Elt Ideal) ℓ) (g : Dev Cert.HybInDxIdeal.nD → PrngReg)
    (m' : (ℓ : Loc Cert.HybInDxRefIdeal.nD Cert.HybInDxRefIdeal.τ Cert.HybInDxRefIdeal.sig) → Buf (Elt Ideal) ℓ) (g' : Dev Cert.HybInDxRefIdeal.nD → PrngReg), Pre_HybInDxIdeal m →
    (∀ c : Dev Cert.HybInDxIdeal.nD,
      m' ((c.tc : Thread Cert.HybInDxRefIdeal.nD Cert.HybInDxRefIdeal.τ).loc Cert.HybInDxRefIdeal.main_arg0) = m ((c.tc : Thread Cert.HybInDxIdeal.nD Cert.HybInDxIdeal.τ).loc Cert.HybInDxIdeal.main_arg0)
      ∧ m' ((c.tc : Thread Cert.HybInDxRefIdeal.nD Cert.HybInDxRefIdeal.τ).loc Cert.HybInDxRefIdeal.main_arg1) = m ((c.tc : Thread Cert.HybInDxIdeal.nD Cert.HybInDxIdeal.τ).loc Cert.HybInDxIdeal.main_arg1)
      ∧ m' ((c.tc : Thread Cert.HybInDxRefIdeal.nD Cert.HybInDxRefIdeal.τ).loc Cert.HybInDxRefIdeal.main_arg2) = m ((c.tc : Thread Cert.HybInDxIdeal.nD Cert.HybInDxIdeal.τ).loc Cert.HybInDxIdeal.main_arg2)) →
    ∃ (v0 : (c : Dev Cert.HybInDxIdeal.nD) → Buf (Elt Ideal) ((c.tc : Thread Cert.HybInDxIdeal.nD Cert.HybInDxIdeal.τ).loc Cert.HybInDxIdeal.main_v0)),
      θ_run (Cert.HybInDxIdeal.defs (F := Ideal)) (onTc (τ := Cert.HybInDxIdeal.τ) (Cert.HybInDxIdeal.main (F := Ideal))) ⟨m, fun _ => 0, g⟩ (fun r => ∀ c : Dev Cert.HybInDxIdeal.nD,
          r.2.mem ((c.tc : Thread Cert.HybInDxIdeal.nD Cert.HybInDxIdeal.τ).loc Cert.HybInDxIdeal.main_v0) = v0 c
          ∧ r.2.mem ((c.tc : Thread Cert.HybInDxIdeal.nD Cert.HybInDxIdeal.τ).loc Cert.HybInDxIdeal.main_arg0) = m ((c.tc : Thread Cert.HybInDxIdeal.nD Cert.HybInDxIdeal.τ).loc Cert.HybInDxIdeal.main_arg0)
          ∧ r.2.mem ((c.tc : Thread Cert.HybInDxIdeal.nD Cert.HybInDxIdeal.τ).loc Cert.HybInDxIdeal.main_arg1) = m ((c.tc : Thread Cert.HybInDxIdeal.nD Cert.HybInDxIdeal.τ).loc Cert.HybInDxIdeal.main_arg1)
          ∧ r.2.mem ((c.tc : Thread Cert.HybInDxIdeal.nD Cert.HybInDxIdeal.τ).loc Cert.HybInDxIdeal.main_arg2) = m ((c.tc : Thread Cert.HybInDxIdeal.nD Cert.HybInDxIdeal.τ).loc Cert.HybInDxIdeal.main_arg2))
      ∧ θ_run (Cert.HybInDxRefIdeal.defs (F := Ideal)) (onTc (τ := Cert.HybInDxRefIdeal.τ) (Cert.HybInDxRefIdeal.main (F := Ideal))) ⟨m', fun _ => 0, g'⟩ (fun r => ∀ c : Dev Cert.HybInDxRefIdeal.nD,
          r.2.mem ((c.tc : Thread Cert.HybInDxRefIdeal.nD Cert.HybInDxRefIdeal.τ).loc Cert.HybInDxRefIdeal.main_v8) = v0 c
          ∧ r.2.mem ((c.tc : Thread Cert.HybInDxRefIdeal.nD Cert.HybInDxRefIdeal.τ).loc Cert.HybInDxRefIdeal.main_arg0) = m' ((c.tc : Thread Cert.HybInDxRefIdeal.nD Cert.HybInDxRefIdeal.τ).loc Cert.HybInDxRefIdeal.main_arg0)
          ∧ r.2.mem ((c.tc : Thread Cert.HybInDxRefIdeal.nD Cert.HybInDxRefIdeal.τ).loc Cert.HybInDxRefIdeal.main_arg1) = m' ((c.tc : Thread Cert.HybInDxRefIdeal.nD Cert.HybInDxRefIdeal.τ).loc Cert.HybInDxRefIdeal.main_arg1)
          ∧ r.2.mem ((c.tc : Thread Cert.HybInDxRefIdeal.nD Cert.HybInDxRefIdeal.τ).loc Cert.HybInDxRefIdeal.main_arg2) = m' ((c.tc : Thread Cert.HybInDxRefIdeal.nD Cert.HybInDxRefIdeal.τ).loc Cert.HybInDxRefIdeal.main_arg2))

def preserves_RecIn_RecInIdeal : Prop :=
  True

def algebraic_RecInIdeal_RecInRefIdeal [hRecInIdeal : Cert.RecInIdeal.Facts] [hRecInRefIdeal : Cert.RecInRefIdeal.Facts] : Prop :=
  ∀ (m : (ℓ : Loc Cert.RecInIdeal.nD Cert.RecInIdeal.τ Cert.RecInIdeal.sig) → Buf (Elt Ideal) ℓ) (g : Dev Cert.RecInIdeal.nD → PrngReg)
    (m' : (ℓ : Loc Cert.RecInRefIdeal.nD Cert.RecInRefIdeal.τ Cert.RecInRefIdeal.sig) → Buf (Elt Ideal) ℓ) (g' : Dev Cert.RecInRefIdeal.nD → PrngReg), Pre_RecInIdeal m →
    (∀ c : Dev Cert.RecInIdeal.nD,
      m' ((c.tc : Thread Cert.RecInRefIdeal.nD Cert.RecInRefIdeal.τ).loc Cert.RecInRefIdeal.main_arg0) = m ((c.tc : Thread Cert.RecInIdeal.nD Cert.RecInIdeal.τ).loc Cert.RecInIdeal.main_arg0)
      ∧ m' ((c.tc : Thread Cert.RecInRefIdeal.nD Cert.RecInRefIdeal.τ).loc Cert.RecInRefIdeal.main_arg1) = m ((c.tc : Thread Cert.RecInIdeal.nD Cert.RecInIdeal.τ).loc Cert.RecInIdeal.main_arg1)) →
    ∃ (v0 : (c : Dev Cert.RecInIdeal.nD) → Buf (Elt Ideal) ((c.tc : Thread Cert.RecInIdeal.nD Cert.RecInIdeal.τ).loc Cert.RecInIdeal.main_v0)),
      θ_run (Cert.RecInIdeal.defs (F := Ideal)) (onTc (τ := Cert.RecInIdeal.τ) (Cert.RecInIdeal.main (F := Ideal))) ⟨m, fun _ => 0, g⟩ (fun r => ∀ c : Dev Cert.RecInIdeal.nD,
          r.2.mem ((c.tc : Thread Cert.RecInIdeal.nD Cert.RecInIdeal.τ).loc Cert.RecInIdeal.main_v0) = v0 c
          ∧ r.2.mem ((c.tc : Thread Cert.RecInIdeal.nD Cert.RecInIdeal.τ).loc Cert.RecInIdeal.main_arg0) = m ((c.tc : Thread Cert.RecInIdeal.nD Cert.RecInIdeal.τ).loc Cert.RecInIdeal.main_arg0)
          ∧ r.2.mem ((c.tc : Thread Cert.RecInIdeal.nD Cert.RecInIdeal.τ).loc Cert.RecInIdeal.main_arg1) = m ((c.tc : Thread Cert.RecInIdeal.nD Cert.RecInIdeal.τ).loc Cert.RecInIdeal.main_arg1))
      ∧ θ_run (Cert.RecInRefIdeal.defs (F := Ideal)) (onTc (τ := Cert.RecInRefIdeal.τ) (Cert.RecInRefIdeal.main (F := Ideal))) ⟨m', fun _ => 0, g'⟩ (fun r => ∀ c : Dev Cert.RecInRefIdeal.nD,
          r.2.mem ((c.tc : Thread Cert.RecInRefIdeal.nD Cert.RecInRefIdeal.τ).loc Cert.RecInRefIdeal.main_v2) = v0 c
          ∧ r.2.mem ((c.tc : Thread Cert.RecInRefIdeal.nD Cert.RecInRefIdeal.τ).loc Cert.RecInRefIdeal.main_arg0) = m' ((c.tc : Thread Cert.RecInRefIdeal.nD Cert.RecInRefIdeal.τ).loc Cert.RecInRefIdeal.main_arg0)
          ∧ r.2.mem ((c.tc : Thread Cert.RecInRefIdeal.nD Cert.RecInRefIdeal.τ).loc Cert.RecInRefIdeal.main_arg1) = m' ((c.tc : Thread Cert.RecInRefIdeal.nD Cert.RecInRefIdeal.τ).loc Cert.RecInRefIdeal.main_arg1))

def preserves_RecInDw_RecInDwIdeal : Prop :=
  True

def algebraic_RecInDwIdeal_RecInDwRefIdeal [hRecInDwIdeal : Cert.RecInDwIdeal.Facts] [hRecInDwRefIdeal : Cert.RecInDwRefIdeal.Facts] : Prop :=
  ∀ (m : (ℓ : Loc Cert.RecInDwIdeal.nD Cert.RecInDwIdeal.τ Cert.RecInDwIdeal.sig) → Buf (Elt Ideal) ℓ) (g : Dev Cert.RecInDwIdeal.nD → PrngReg)
    (m' : (ℓ : Loc Cert.RecInDwRefIdeal.nD Cert.RecInDwRefIdeal.τ Cert.RecInDwRefIdeal.sig) → Buf (Elt Ideal) ℓ) (g' : Dev Cert.RecInDwRefIdeal.nD → PrngReg), Pre_RecInDwIdeal m →
    (∀ c : Dev Cert.RecInDwIdeal.nD,
      m' ((c.tc : Thread Cert.RecInDwRefIdeal.nD Cert.RecInDwRefIdeal.τ).loc Cert.RecInDwRefIdeal.main_arg0) = m ((c.tc : Thread Cert.RecInDwIdeal.nD Cert.RecInDwIdeal.τ).loc Cert.RecInDwIdeal.main_arg0)
      ∧ m' ((c.tc : Thread Cert.RecInDwRefIdeal.nD Cert.RecInDwRefIdeal.τ).loc Cert.RecInDwRefIdeal.main_arg1) = m ((c.tc : Thread Cert.RecInDwIdeal.nD Cert.RecInDwIdeal.τ).loc Cert.RecInDwIdeal.main_arg1)) →
    ∃ (v0 : (c : Dev Cert.RecInDwIdeal.nD) → Buf (Elt Ideal) ((c.tc : Thread Cert.RecInDwIdeal.nD Cert.RecInDwIdeal.τ).loc Cert.RecInDwIdeal.main_v0)),
      θ_run (Cert.RecInDwIdeal.defs (F := Ideal)) (onTc (τ := Cert.RecInDwIdeal.τ) (Cert.RecInDwIdeal.main (F := Ideal))) ⟨m, fun _ => 0, g⟩ (fun r => ∀ c : Dev Cert.RecInDwIdeal.nD,
          r.2.mem ((c.tc : Thread Cert.RecInDwIdeal.nD Cert.RecInDwIdeal.τ).loc Cert.RecInDwIdeal.main_v0) = v0 c
          ∧ r.2.mem ((c.tc : Thread Cert.RecInDwIdeal.nD Cert.RecInDwIdeal.τ).loc Cert.RecInDwIdeal.main_arg0) = m ((c.tc : Thread Cert.RecInDwIdeal.nD Cert.RecInDwIdeal.τ).loc Cert.RecInDwIdeal.main_arg0)
          ∧ r.2.mem ((c.tc : Thread Cert.RecInDwIdeal.nD Cert.RecInDwIdeal.τ).loc Cert.RecInDwIdeal.main_arg1) = m ((c.tc : Thread Cert.RecInDwIdeal.nD Cert.RecInDwIdeal.τ).loc Cert.RecInDwIdeal.main_arg1))
      ∧ θ_run (Cert.RecInDwRefIdeal.defs (F := Ideal)) (onTc (τ := Cert.RecInDwRefIdeal.τ) (Cert.RecInDwRefIdeal.main (F := Ideal))) ⟨m', fun _ => 0, g'⟩ (fun r => ∀ c : Dev Cert.RecInDwRefIdeal.nD,
          r.2.mem ((c.tc : Thread Cert.RecInDwRefIdeal.nD Cert.RecInDwRefIdeal.τ).loc Cert.RecInDwRefIdeal.main_v5) = v0 c
          ∧ r.2.mem ((c.tc : Thread Cert.RecInDwRefIdeal.nD Cert.RecInDwRefIdeal.τ).loc Cert.RecInDwRefIdeal.main_arg0) = m' ((c.tc : Thread Cert.RecInDwRefIdeal.nD Cert.RecInDwRefIdeal.τ).loc Cert.RecInDwRefIdeal.main_arg0)
          ∧ r.2.mem ((c.tc : Thread Cert.RecInDwRefIdeal.nD Cert.RecInDwRefIdeal.τ).loc Cert.RecInDwRefIdeal.main_arg1) = m' ((c.tc : Thread Cert.RecInDwRefIdeal.nD Cert.RecInDwRefIdeal.τ).loc Cert.RecInDwRefIdeal.main_arg1))

def preserves_RecInDx_RecInDxIdeal : Prop :=
  True

def algebraic_RecInDxIdeal_RecInDxRefIdeal [hRecInDxIdeal : Cert.RecInDxIdeal.Facts] [hRecInDxRefIdeal : Cert.RecInDxRefIdeal.Facts] : Prop :=
  ∀ (m : (ℓ : Loc Cert.RecInDxIdeal.nD Cert.RecInDxIdeal.τ Cert.RecInDxIdeal.sig) → Buf (Elt Ideal) ℓ) (g : Dev Cert.RecInDxIdeal.nD → PrngReg)
    (m' : (ℓ : Loc Cert.RecInDxRefIdeal.nD Cert.RecInDxRefIdeal.τ Cert.RecInDxRefIdeal.sig) → Buf (Elt Ideal) ℓ) (g' : Dev Cert.RecInDxRefIdeal.nD → PrngReg), Pre_RecInDxIdeal m →
    (∀ c : Dev Cert.RecInDxIdeal.nD,
      m' ((c.tc : Thread Cert.RecInDxRefIdeal.nD Cert.RecInDxRefIdeal.τ).loc Cert.RecInDxRefIdeal.main_arg0) = m ((c.tc : Thread Cert.RecInDxIdeal.nD Cert.RecInDxIdeal.τ).loc Cert.RecInDxIdeal.main_arg0)
      ∧ m' ((c.tc : Thread Cert.RecInDxRefIdeal.nD Cert.RecInDxRefIdeal.τ).loc Cert.RecInDxRefIdeal.main_arg1) = m ((c.tc : Thread Cert.RecInDxIdeal.nD Cert.RecInDxIdeal.τ).loc Cert.RecInDxIdeal.main_arg1)
      ∧ m' ((c.tc : Thread Cert.RecInDxRefIdeal.nD Cert.RecInDxRefIdeal.τ).loc Cert.RecInDxRefIdeal.main_arg2) = m ((c.tc : Thread Cert.RecInDxIdeal.nD Cert.RecInDxIdeal.τ).loc Cert.RecInDxIdeal.main_arg2)) →
    ∃ (v0 : (c : Dev Cert.RecInDxIdeal.nD) → Buf (Elt Ideal) ((c.tc : Thread Cert.RecInDxIdeal.nD Cert.RecInDxIdeal.τ).loc Cert.RecInDxIdeal.main_v0)),
      θ_run (Cert.RecInDxIdeal.defs (F := Ideal)) (onTc (τ := Cert.RecInDxIdeal.τ) (Cert.RecInDxIdeal.main (F := Ideal))) ⟨m, fun _ => 0, g⟩ (fun r => ∀ c : Dev Cert.RecInDxIdeal.nD,
          r.2.mem ((c.tc : Thread Cert.RecInDxIdeal.nD Cert.RecInDxIdeal.τ).loc Cert.RecInDxIdeal.main_v0) = v0 c
          ∧ r.2.mem ((c.tc : Thread Cert.RecInDxIdeal.nD Cert.RecInDxIdeal.τ).loc Cert.RecInDxIdeal.main_arg0) = m ((c.tc : Thread Cert.RecInDxIdeal.nD Cert.RecInDxIdeal.τ).loc Cert.RecInDxIdeal.main_arg0)
          ∧ r.2.mem ((c.tc : Thread Cert.RecInDxIdeal.nD Cert.RecInDxIdeal.τ).loc Cert.RecInDxIdeal.main_arg1) = m ((c.tc : Thread Cert.RecInDxIdeal.nD Cert.RecInDxIdeal.τ).loc Cert.RecInDxIdeal.main_arg1)
          ∧ r.2.mem ((c.tc : Thread Cert.RecInDxIdeal.nD Cert.RecInDxIdeal.τ).loc Cert.RecInDxIdeal.main_arg2) = m ((c.tc : Thread Cert.RecInDxIdeal.nD Cert.RecInDxIdeal.τ).loc Cert.RecInDxIdeal.main_arg2))
      ∧ θ_run (Cert.RecInDxRefIdeal.defs (F := Ideal)) (onTc (τ := Cert.RecInDxRefIdeal.τ) (Cert.RecInDxRefIdeal.main (F := Ideal))) ⟨m', fun _ => 0, g'⟩ (fun r => ∀ c : Dev Cert.RecInDxRefIdeal.nD,
          r.2.mem ((c.tc : Thread Cert.RecInDxRefIdeal.nD Cert.RecInDxRefIdeal.τ).loc Cert.RecInDxRefIdeal.main_v8) = v0 c
          ∧ r.2.mem ((c.tc : Thread Cert.RecInDxRefIdeal.nD Cert.RecInDxRefIdeal.τ).loc Cert.RecInDxRefIdeal.main_arg0) = m' ((c.tc : Thread Cert.RecInDxRefIdeal.nD Cert.RecInDxRefIdeal.τ).loc Cert.RecInDxRefIdeal.main_arg0)
          ∧ r.2.mem ((c.tc : Thread Cert.RecInDxRefIdeal.nD Cert.RecInDxRefIdeal.τ).loc Cert.RecInDxRefIdeal.main_arg1) = m' ((c.tc : Thread Cert.RecInDxRefIdeal.nD Cert.RecInDxRefIdeal.τ).loc Cert.RecInDxRefIdeal.main_arg1)
          ∧ r.2.mem ((c.tc : Thread Cert.RecInDxRefIdeal.nD Cert.RecInDxRefIdeal.τ).loc Cert.RecInDxRefIdeal.main_arg2) = m' ((c.tc : Thread Cert.RecInDxRefIdeal.nD Cert.RecInDxRefIdeal.τ).loc Cert.RecInDxRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v2_0)) (v1 : (c : Dev Cert.OutIdeal.nD) → Buf (Elt Ideal) ((c.tc : Thread Cert.OutIdeal.nD Cert.OutIdeal.τ).loc Cert.OutIdeal.main_v2_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2_0) = v0 c
          ∧ r.2.mem ((c.tc : Thread Cert.OutIdeal.nD Cert.OutIdeal.τ).loc Cert.OutIdeal.main_v2_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v31) = v0 c
          ∧ r.2.mem ((c.tc : Thread Cert.OutRefIdeal.nD Cert.OutRefIdeal.τ).loc Cert.OutRefIdeal.main_v6) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v5) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_DownDw1_DownDw1Ideal : Prop :=
  True

def algebraic_DownDw1Ideal_DownDw1RefIdeal [hDownDw1Ideal : Cert.DownDw1Ideal.Facts] [hDownDw1RefIdeal : Cert.DownDw1RefIdeal.Facts] : Prop :=
  ∀ (m : (ℓ : Loc Cert.DownDw1Ideal.nD Cert.DownDw1Ideal.τ Cert.DownDw1Ideal.sig) → Buf (Elt Ideal) ℓ) (g : Dev Cert.DownDw1Ideal.nD → PrngReg)
    (m' : (ℓ : Loc Cert.DownDw1RefIdeal.nD Cert.DownDw1RefIdeal.τ Cert.DownDw1RefIdeal.sig) → Buf (Elt Ideal) ℓ) (g' : Dev Cert.DownDw1RefIdeal.nD → PrngReg), Pre_DownDw1Ideal m →
    (∀ c : Dev Cert.DownDw1Ideal.nD,
      m' ((c.tc : Thread Cert.DownDw1RefIdeal.nD Cert.DownDw1RefIdeal.τ).loc Cert.DownDw1RefIdeal.main_arg0) = m ((c.tc : Thread Cert.DownDw1Ideal.nD Cert.DownDw1Ideal.τ).loc Cert.DownDw1Ideal.main_arg0)
      ∧ m' ((c.tc : Thread Cert.DownDw1RefIdeal.nD Cert.DownDw1RefIdeal.τ).loc Cert.DownDw1RefIdeal.main_arg1) = m ((c.tc : Thread Cert.DownDw1Ideal.nD Cert.DownDw1Ideal.τ).loc Cert.DownDw1Ideal.main_arg1)
      ∧ m' ((c.tc : Thread Cert.DownDw1RefIdeal.nD Cert.DownDw1RefIdeal.τ).loc Cert.DownDw1RefIdeal.main_arg2) = m ((c.tc : Thread Cert.DownDw1Ideal.nD Cert.DownDw1Ideal.τ).loc Cert.DownDw1Ideal.main_arg2)) →
    ∃ (v0 : (c : Dev Cert.DownDw1Ideal.nD) → Buf (Elt Ideal) ((c.tc : Thread Cert.DownDw1Ideal.nD Cert.DownDw1Ideal.τ).loc Cert.DownDw1Ideal.main_v0)),
      θ_run (Cert.DownDw1Ideal.defs (F := Ideal)) (onTc (τ := Cert.DownDw1Ideal.τ) (Cert.DownDw1Ideal.main (F := Ideal))) ⟨m, fun _ => 0, g⟩ (fun r => ∀ c : Dev Cert.DownDw1Ideal.nD,
          r.2.mem ((c.tc : Thread Cert.DownDw1Ideal.nD Cert.DownDw1Ideal.τ).loc Cert.DownDw1Ideal.main_v0) = v0 c
          ∧ r.2.mem ((c.tc : Thread Cert.DownDw1Ideal.nD Cert.DownDw1Ideal.τ).loc Cert.DownDw1Ideal.main_arg0) = m ((c.tc : Thread Cert.DownDw1Ideal.nD Cert.DownDw1Ideal.τ).loc Cert.DownDw1Ideal.main_arg0)
          ∧ r.2.mem ((c.tc : Thread Cert.DownDw1Ideal.nD Cert.DownDw1Ideal.τ).loc Cert.DownDw1Ideal.main_arg1) = m ((c.tc : Thread Cert.DownDw1Ideal.nD Cert.DownDw1Ideal.τ).loc Cert.DownDw1Ideal.main_arg1)
          ∧ r.2.mem ((c.tc : Thread Cert.DownDw1Ideal.nD Cert.DownDw1Ideal.τ).loc Cert.DownDw1Ideal.main_arg2) = m ((c.tc : Thread Cert.DownDw1Ideal.nD Cert.DownDw1Ideal.τ).loc Cert.DownDw1Ideal.main_arg2))
      ∧ θ_run (Cert.DownDw1RefIdeal.defs (F := Ideal)) (onTc (τ := Cert.DownDw1RefIdeal.τ) (Cert.DownDw1RefIdeal.main (F := Ideal))) ⟨m', fun _ => 0, g'⟩ (fun r => ∀ c : Dev Cert.DownDw1RefIdeal.nD,
          r.2.mem ((c.tc : Thread Cert.DownDw1RefIdeal.nD Cert.DownDw1RefIdeal.τ).loc Cert.DownDw1RefIdeal.main_v11) = v0 c
          ∧ r.2.mem ((c.tc : Thread Cert.DownDw1RefIdeal.nD Cert.DownDw1RefIdeal.τ).loc Cert.DownDw1RefIdeal.main_arg0) = m' ((c.tc : Thread Cert.DownDw1RefIdeal.nD Cert.DownDw1RefIdeal.τ).loc Cert.DownDw1RefIdeal.main_arg0)
          ∧ r.2.mem ((c.tc : Thread Cert.DownDw1RefIdeal.nD Cert.DownDw1RefIdeal.τ).loc Cert.DownDw1RefIdeal.main_arg1) = m' ((c.tc : Thread Cert.DownDw1RefIdeal.nD Cert.DownDw1RefIdeal.τ).loc Cert.DownDw1RefIdeal.main_arg1)
          ∧ r.2.mem ((c.tc : Thread Cert.DownDw1RefIdeal.nD Cert.DownDw1RefIdeal.τ).loc Cert.DownDw1RefIdeal.main_arg2) = m' ((c.tc : Thread Cert.DownDw1RefIdeal.nD Cert.DownDw1RefIdeal.τ).loc Cert.DownDw1RefIdeal.main_arg2))

def preserves_UpDw1_UpDw1Ideal : Prop :=
  True

def algebraic_UpDw1Ideal_UpDw1RefIdeal [hUpDw1Ideal : Cert.UpDw1Ideal.Facts] [hUpDw1RefIdeal : Cert.UpDw1RefIdeal.Facts] : Prop :=
  ∀ (m : (ℓ : Loc Cert.UpDw1Ideal.nD Cert.UpDw1Ideal.τ Cert.UpDw1Ideal.sig) → Buf (Elt Ideal) ℓ) (g : Dev Cert.UpDw1Ideal.nD → PrngReg)
    (m' : (ℓ : Loc Cert.UpDw1RefIdeal.nD Cert.UpDw1RefIdeal.τ Cert.UpDw1RefIdeal.sig) → Buf (Elt Ideal) ℓ) (g' : Dev Cert.UpDw1RefIdeal.nD → PrngReg), Pre_UpDw1Ideal m →
    (∀ c : Dev Cert.UpDw1Ideal.nD,
      m' ((c.tc : Thread Cert.UpDw1RefIdeal.nD Cert.UpDw1RefIdeal.τ).loc Cert.UpDw1RefIdeal.main_arg0) = m ((c.tc : Thread Cert.UpDw1Ideal.nD Cert.UpDw1Ideal.τ).loc Cert.UpDw1Ideal.main_arg0)
      ∧ m' ((c.tc : Thread Cert.UpDw1RefIdeal.nD Cert.UpDw1RefIdeal.τ).loc Cert.UpDw1RefIdeal.main_arg1) = m ((c.tc : Thread Cert.UpDw1Ideal.nD Cert.UpDw1Ideal.τ).loc Cert.UpDw1Ideal.main_arg1)
      ∧ m' ((c.tc : Thread Cert.UpDw1RefIdeal.nD Cert.UpDw1RefIdeal.τ).loc Cert.UpDw1RefIdeal.main_arg2) = m ((c.tc : Thread Cert.UpDw1Ideal.nD Cert.UpDw1Ideal.τ).loc Cert.UpDw1Ideal.main_arg2)) →
    ∃ (v0 : (c : Dev Cert.UpDw1Ideal.nD) → Buf (Elt Ideal) ((c.tc : Thread Cert.UpDw1Ideal.nD Cert.UpDw1Ideal.τ).loc Cert.UpDw1Ideal.main_v0)),
      θ_run (Cert.UpDw1Ideal.defs (F := Ideal)) (onTc (τ := Cert.UpDw1Ideal.τ) (Cert.UpDw1Ideal.main (F := Ideal))) ⟨m, fun _ => 0, g⟩ (fun r => ∀ c : Dev Cert.UpDw1Ideal.nD,
          r.2.mem ((c.tc : Thread Cert.UpDw1Ideal.nD Cert.UpDw1Ideal.τ).loc Cert.UpDw1Ideal.main_v0) = v0 c
          ∧ r.2.mem ((c.tc : Thread Cert.UpDw1Ideal.nD Cert.UpDw1Ideal.τ).loc Cert.UpDw1Ideal.main_arg0) = m ((c.tc : Thread Cert.UpDw1Ideal.nD Cert.UpDw1Ideal.τ).loc Cert.UpDw1Ideal.main_arg0)
          ∧ r.2.mem ((c.tc : Thread Cert.UpDw1Ideal.nD Cert.UpDw1Ideal.τ).loc Cert.UpDw1Ideal.main_arg1) = m ((c.tc : Thread Cert.UpDw1Ideal.nD Cert.UpDw1Ideal.τ).loc Cert.UpDw1Ideal.main_arg1)
          ∧ r.2.mem ((c.tc : Thread Cert.UpDw1Ideal.nD Cert.UpDw1Ideal.τ).loc Cert.UpDw1Ideal.main_arg2) = m ((c.tc : Thread Cert.UpDw1Ideal.nD Cert.UpDw1Ideal.τ).loc Cert.UpDw1Ideal.main_arg2))
      ∧ θ_run (Cert.UpDw1RefIdeal.defs (F := Ideal)) (onTc (τ := Cert.UpDw1RefIdeal.τ) (Cert.UpDw1RefIdeal.main (F := Ideal))) ⟨m', fun _ => 0, g'⟩ (fun r => ∀ c : Dev Cert.UpDw1RefIdeal.nD,
          r.2.mem ((c.tc : Thread Cert.UpDw1RefIdeal.nD Cert.UpDw1RefIdeal.τ).loc Cert.UpDw1RefIdeal.main_v10) = v0 c
          ∧ r.2.mem ((c.tc : Thread Cert.UpDw1RefIdeal.nD Cert.UpDw1RefIdeal.τ).loc Cert.UpDw1RefIdeal.main_arg0) = m' ((c.tc : Thread Cert.UpDw1RefIdeal.nD Cert.UpDw1RefIdeal.τ).loc Cert.UpDw1RefIdeal.main_arg0)
          ∧ r.2.mem ((c.tc : Thread Cert.UpDw1RefIdeal.nD Cert.UpDw1RefIdeal.τ).loc Cert.UpDw1RefIdeal.main_arg1) = m' ((c.tc : Thread Cert.UpDw1RefIdeal.nD Cert.UpDw1RefIdeal.τ).loc Cert.UpDw1RefIdeal.main_arg1)
          ∧ r.2.mem ((c.tc : Thread Cert.UpDw1RefIdeal.nD Cert.UpDw1RefIdeal.τ).loc Cert.UpDw1RefIdeal.main_arg2) = m' ((c.tc : Thread Cert.UpDw1RefIdeal.nD Cert.UpDw1RefIdeal.τ).loc Cert.UpDw1RefIdeal.main_arg2))

def preserves_DownDw2_DownDw2Ideal : Prop :=
  True

def algebraic_DownDw2Ideal_DownDw2RefIdeal [hDownDw2Ideal : Cert.DownDw2Ideal.Facts] [hDownDw2RefIdeal : Cert.DownDw2RefIdeal.Facts] : Prop :=
  ∀ (m : (ℓ : Loc Cert.DownDw2Ideal.nD Cert.DownDw2Ideal.τ Cert.DownDw2Ideal.sig) → Buf (Elt Ideal) ℓ) (g : Dev Cert.DownDw2Ideal.nD → PrngReg)
    (m' : (ℓ : Loc Cert.DownDw2RefIdeal.nD Cert.DownDw2RefIdeal.τ Cert.DownDw2RefIdeal.sig) → Buf (Elt Ideal) ℓ) (g' : Dev Cert.DownDw2RefIdeal.nD → PrngReg), Pre_DownDw2Ideal m →
    (∀ c : Dev Cert.DownDw2Ideal.nD,
      m' ((c.tc : Thread Cert.DownDw2RefIdeal.nD Cert.DownDw2RefIdeal.τ).loc Cert.DownDw2RefIdeal.main_arg0) = m ((c.tc : Thread Cert.DownDw2Ideal.nD Cert.DownDw2Ideal.τ).loc Cert.DownDw2Ideal.main_arg0)
      ∧ m' ((c.tc : Thread Cert.DownDw2RefIdeal.nD Cert.DownDw2RefIdeal.τ).loc Cert.DownDw2RefIdeal.main_arg1) = m ((c.tc : Thread Cert.DownDw2Ideal.nD Cert.DownDw2Ideal.τ).loc Cert.DownDw2Ideal.main_arg1)
      ∧ m' ((c.tc : Thread Cert.DownDw2RefIdeal.nD Cert.DownDw2RefIdeal.τ).loc Cert.DownDw2RefIdeal.main_arg2) = m ((c.tc : Thread Cert.DownDw2Ideal.nD Cert.DownDw2Ideal.τ).loc Cert.DownDw2Ideal.main_arg2)) →
    ∃ (v0 : (c : Dev Cert.DownDw2Ideal.nD) → Buf (Elt Ideal) ((c.tc : Thread Cert.DownDw2Ideal.nD Cert.DownDw2Ideal.τ).loc Cert.DownDw2Ideal.main_v0)),
      θ_run (Cert.DownDw2Ideal.defs (F := Ideal)) (onTc (τ := Cert.DownDw2Ideal.τ) (Cert.DownDw2Ideal.main (F := Ideal))) ⟨m, fun _ => 0, g⟩ (fun r => ∀ c : Dev Cert.DownDw2Ideal.nD,
          r.2.mem ((c.tc : Thread Cert.DownDw2Ideal.nD Cert.DownDw2Ideal.τ).loc Cert.DownDw2Ideal.main_v0) = v0 c
          ∧ r.2.mem ((c.tc : Thread Cert.DownDw2Ideal.nD Cert.DownDw2Ideal.τ).loc Cert.DownDw2Ideal.main_arg0) = m ((c.tc : Thread Cert.DownDw2Ideal.nD Cert.DownDw2Ideal.τ).loc Cert.DownDw2Ideal.main_arg0)
          ∧ r.2.mem ((c.tc : Thread Cert.DownDw2Ideal.nD Cert.DownDw2Ideal.τ).loc Cert.DownDw2Ideal.main_arg1) = m ((c.tc : Thread Cert.DownDw2Ideal.nD Cert.DownDw2Ideal.τ).loc Cert.DownDw2Ideal.main_arg1)
          ∧ r.2.mem ((c.tc : Thread Cert.DownDw2Ideal.nD Cert.DownDw2Ideal.τ).loc Cert.DownDw2Ideal.main_arg2) = m ((c.tc : Thread Cert.DownDw2Ideal.nD Cert.DownDw2Ideal.τ).loc Cert.DownDw2Ideal.main_arg2))
      ∧ θ_run (Cert.DownDw2RefIdeal.defs (F := Ideal)) (onTc (τ := Cert.DownDw2RefIdeal.τ) (Cert.DownDw2RefIdeal.main (F := Ideal))) ⟨m', fun _ => 0, g'⟩ (fun r => ∀ c : Dev Cert.DownDw2RefIdeal.nD,
          r.2.mem ((c.tc : Thread Cert.DownDw2RefIdeal.nD Cert.DownDw2RefIdeal.τ).loc Cert.DownDw2RefIdeal.main_v11) = v0 c
          ∧ r.2.mem ((c.tc : Thread Cert.DownDw2RefIdeal.nD Cert.DownDw2RefIdeal.τ).loc Cert.DownDw2RefIdeal.main_arg0) = m' ((c.tc : Thread Cert.DownDw2RefIdeal.nD Cert.DownDw2RefIdeal.τ).loc Cert.DownDw2RefIdeal.main_arg0)
          ∧ r.2.mem ((c.tc : Thread Cert.DownDw2RefIdeal.nD Cert.DownDw2RefIdeal.τ).loc Cert.DownDw2RefIdeal.main_arg1) = m' ((c.tc : Thread Cert.DownDw2RefIdeal.nD Cert.DownDw2RefIdeal.τ).loc Cert.DownDw2RefIdeal.main_arg1)
          ∧ r.2.mem ((c.tc : Thread Cert.DownDw2RefIdeal.nD Cert.DownDw2RefIdeal.τ).loc Cert.DownDw2RefIdeal.main_arg2) = m' ((c.tc : Thread Cert.DownDw2RefIdeal.nD Cert.DownDw2RefIdeal.τ).loc Cert.DownDw2RefIdeal.main_arg2))

def preserves_UpDw2_UpDw2Ideal : Prop :=
  True

def algebraic_UpDw2Ideal_UpDw2RefIdeal [hUpDw2Ideal : Cert.UpDw2Ideal.Facts] [hUpDw2RefIdeal : Cert.UpDw2RefIdeal.Facts] : Prop :=
  ∀ (m : (ℓ : Loc Cert.UpDw2Ideal.nD Cert.UpDw2Ideal.τ Cert.UpDw2Ideal.sig) → Buf (Elt Ideal) ℓ) (g : Dev Cert.UpDw2Ideal.nD → PrngReg)
    (m' : (ℓ : Loc Cert.UpDw2RefIdeal.nD Cert.UpDw2RefIdeal.τ Cert.UpDw2RefIdeal.sig) → Buf (Elt Ideal) ℓ) (g' : Dev Cert.UpDw2RefIdeal.nD → PrngReg), Pre_UpDw2Ideal m →
    (∀ c : Dev Cert.UpDw2Ideal.nD,
      m' ((c.tc : Thread Cert.UpDw2RefIdeal.nD Cert.UpDw2RefIdeal.τ).loc Cert.UpDw2RefIdeal.main_arg0) = m ((c.tc : Thread Cert.UpDw2Ideal.nD Cert.UpDw2Ideal.τ).loc Cert.UpDw2Ideal.main_arg0)
      ∧ m' ((c.tc : Thread Cert.UpDw2RefIdeal.nD Cert.UpDw2RefIdeal.τ).loc Cert.UpDw2RefIdeal.main_arg1) = m ((c.tc : Thread Cert.UpDw2Ideal.nD Cert.UpDw2Ideal.τ).loc Cert.UpDw2Ideal.main_arg1)
      ∧ m' ((c.tc : Thread Cert.UpDw2RefIdeal.nD Cert.UpDw2RefIdeal.τ).loc Cert.UpDw2RefIdeal.main_arg2) = m ((c.tc : Thread Cert.UpDw2Ideal.nD Cert.UpDw2Ideal.τ).loc Cert.UpDw2Ideal.main_arg2)) →
    ∃ (v0 : (c : Dev Cert.UpDw2Ideal.nD) → Buf (Elt Ideal) ((c.tc : Thread Cert.UpDw2Ideal.nD Cert.UpDw2Ideal.τ).loc Cert.UpDw2Ideal.main_v0)),
      θ_run (Cert.UpDw2Ideal.defs (F := Ideal)) (onTc (τ := Cert.UpDw2Ideal.τ) (Cert.UpDw2Ideal.main (F := Ideal))) ⟨m, fun _ => 0, g⟩ (fun r => ∀ c : Dev Cert.UpDw2Ideal.nD,
          r.2.mem ((c.tc : Thread Cert.UpDw2Ideal.nD Cert.UpDw2Ideal.τ).loc Cert.UpDw2Ideal.main_v0) = v0 c
          ∧ r.2.mem ((c.tc : Thread Cert.UpDw2Ideal.nD Cert.UpDw2Ideal.τ).loc Cert.UpDw2Ideal.main_arg0) = m ((c.tc : Thread Cert.UpDw2Ideal.nD Cert.UpDw2Ideal.τ).loc Cert.UpDw2Ideal.main_arg0)
          ∧ r.2.mem ((c.tc : Thread Cert.UpDw2Ideal.nD Cert.UpDw2Ideal.τ).loc Cert.UpDw2Ideal.main_arg1) = m ((c.tc : Thread Cert.UpDw2Ideal.nD Cert.UpDw2Ideal.τ).loc Cert.UpDw2Ideal.main_arg1)
          ∧ r.2.mem ((c.tc : Thread Cert.UpDw2Ideal.nD Cert.UpDw2Ideal.τ).loc Cert.UpDw2Ideal.main_arg2) = m ((c.tc : Thread Cert.UpDw2Ideal.nD Cert.UpDw2Ideal.τ).loc Cert.UpDw2Ideal.main_arg2))
      ∧ θ_run (Cert.UpDw2RefIdeal.defs (F := Ideal)) (onTc (τ := Cert.UpDw2RefIdeal.τ) (Cert.UpDw2RefIdeal.main (F := Ideal))) ⟨m', fun _ => 0, g'⟩ (fun r => ∀ c : Dev Cert.UpDw2RefIdeal.nD,
          r.2.mem ((c.tc : Thread Cert.UpDw2RefIdeal.nD Cert.UpDw2RefIdeal.τ).loc Cert.UpDw2RefIdeal.main_v10) = v0 c
          ∧ r.2.mem ((c.tc : Thread Cert.UpDw2RefIdeal.nD Cert.UpDw2RefIdeal.τ).loc Cert.UpDw2RefIdeal.main_arg0) = m' ((c.tc : Thread Cert.UpDw2RefIdeal.nD Cert.UpDw2RefIdeal.τ).loc Cert.UpDw2RefIdeal.main_arg0)
          ∧ r.2.mem ((c.tc : Thread Cert.UpDw2RefIdeal.nD Cert.UpDw2RefIdeal.τ).loc Cert.UpDw2RefIdeal.main_arg1) = m' ((c.tc : Thread Cert.UpDw2RefIdeal.nD Cert.UpDw2RefIdeal.τ).loc Cert.UpDw2RefIdeal.main_arg1)
          ∧ r.2.mem ((c.tc : Thread Cert.UpDw2RefIdeal.nD Cert.UpDw2RefIdeal.τ).loc Cert.UpDw2RefIdeal.main_arg2) = m' ((c.tc : Thread Cert.UpDw2RefIdeal.nD Cert.UpDw2RefIdeal.τ).loc Cert.UpDw2RefIdeal.main_arg2))

def preserves_DownDw3_DownDw3Ideal : Prop :=
  True

def algebraic_DownDw3Ideal_DownDw3RefIdeal [hDownDw3Ideal : Cert.DownDw3Ideal.Facts] [hDownDw3RefIdeal : Cert.DownDw3RefIdeal.Facts] : Prop :=
  ∀ (m : (ℓ : Loc Cert.DownDw3Ideal.nD Cert.DownDw3Ideal.τ Cert.DownDw3Ideal.sig) → Buf (Elt Ideal) ℓ) (g : Dev Cert.DownDw3Ideal.nD → PrngReg)
    (m' : (ℓ : Loc Cert.DownDw3RefIdeal.nD Cert.DownDw3RefIdeal.τ Cert.DownDw3RefIdeal.sig) → Buf (Elt Ideal) ℓ) (g' : Dev Cert.DownDw3RefIdeal.nD → PrngReg), Pre_DownDw3Ideal m →
    (∀ c : Dev Cert.DownDw3Ideal.nD,
      m' ((c.tc : Thread Cert.DownDw3RefIdeal.nD Cert.DownDw3RefIdeal.τ).loc Cert.DownDw3RefIdeal.main_arg0) = m ((c.tc : Thread Cert.DownDw3Ideal.nD Cert.DownDw3Ideal.τ).loc Cert.DownDw3Ideal.main_arg0)
      ∧ m' ((c.tc : Thread Cert.DownDw3RefIdeal.nD Cert.DownDw3RefIdeal.τ).loc Cert.DownDw3RefIdeal.main_arg1) = m ((c.tc : Thread Cert.DownDw3Ideal.nD Cert.DownDw3Ideal.τ).loc Cert.DownDw3Ideal.main_arg1)
      ∧ m' ((c.tc : Thread Cert.DownDw3RefIdeal.nD Cert.DownDw3RefIdeal.τ).loc Cert.DownDw3RefIdeal.main_arg2) = m ((c.tc : Thread Cert.DownDw3Ideal.nD Cert.DownDw3Ideal.τ).loc Cert.DownDw3Ideal.main_arg2)) →
    ∃ (v0 : (c : Dev Cert.DownDw3Ideal.nD) → Buf (Elt Ideal) ((c.tc : Thread Cert.DownDw3Ideal.nD Cert.DownDw3Ideal.τ).loc Cert.DownDw3Ideal.main_v0)),
      θ_run (Cert.DownDw3Ideal.defs (F := Ideal)) (onTc (τ := Cert.DownDw3Ideal.τ) (Cert.DownDw3Ideal.main (F := Ideal))) ⟨m, fun _ => 0, g⟩ (fun r => ∀ c : Dev Cert.DownDw3Ideal.nD,
          r.2.mem ((c.tc : Thread Cert.DownDw3Ideal.nD Cert.DownDw3Ideal.τ).loc Cert.DownDw3Ideal.main_v0) = v0 c
          ∧ r.2.mem ((c.tc : Thread Cert.DownDw3Ideal.nD Cert.DownDw3Ideal.τ).loc Cert.DownDw3Ideal.main_arg0) = m ((c.tc : Thread Cert.DownDw3Ideal.nD Cert.DownDw3Ideal.τ).loc Cert.DownDw3Ideal.main_arg0)
          ∧ r.2.mem ((c.tc : Thread Cert.DownDw3Ideal.nD Cert.DownDw3Ideal.τ).loc Cert.DownDw3Ideal.main_arg1) = m ((c.tc : Thread Cert.DownDw3Ideal.nD Cert.DownDw3Ideal.τ).loc Cert.DownDw3Ideal.main_arg1)
          ∧ r.2.mem ((c.tc : Thread Cert.DownDw3Ideal.nD Cert.DownDw3Ideal.τ).loc Cert.DownDw3Ideal.main_arg2) = m ((c.tc : Thread Cert.DownDw3Ideal.nD Cert.DownDw3Ideal.τ).loc Cert.DownDw3Ideal.main_arg2))
      ∧ θ_run (Cert.DownDw3RefIdeal.defs (F := Ideal)) (onTc (τ := Cert.DownDw3RefIdeal.τ) (Cert.DownDw3RefIdeal.main (F := Ideal))) ⟨m', fun _ => 0, g'⟩ (fun r => ∀ c : Dev Cert.DownDw3RefIdeal.nD,
          r.2.mem ((c.tc : Thread Cert.DownDw3RefIdeal.nD Cert.DownDw3RefIdeal.τ).loc Cert.DownDw3RefIdeal.main_v11) = v0 c
          ∧ r.2.mem ((c.tc : Thread Cert.DownDw3RefIdeal.nD Cert.DownDw3RefIdeal.τ).loc Cert.DownDw3RefIdeal.main_arg0) = m' ((c.tc : Thread Cert.DownDw3RefIdeal.nD Cert.DownDw3RefIdeal.τ).loc Cert.DownDw3RefIdeal.main_arg0)
          ∧ r.2.mem ((c.tc : Thread Cert.DownDw3RefIdeal.nD Cert.DownDw3RefIdeal.τ).loc Cert.DownDw3RefIdeal.main_arg1) = m' ((c.tc : Thread Cert.DownDw3RefIdeal.nD Cert.DownDw3RefIdeal.τ).loc Cert.DownDw3RefIdeal.main_arg1)
          ∧ r.2.mem ((c.tc : Thread Cert.DownDw3RefIdeal.nD Cert.DownDw3RefIdeal.τ).loc Cert.DownDw3RefIdeal.main_arg2) = m' ((c.tc : Thread Cert.DownDw3RefIdeal.nD Cert.DownDw3RefIdeal.τ).loc Cert.DownDw3RefIdeal.main_arg2))

def preserves_UpDw3_UpDw3Ideal : Prop :=
  True

def algebraic_UpDw3Ideal_UpDw3RefIdeal [hUpDw3Ideal : Cert.UpDw3Ideal.Facts] [hUpDw3RefIdeal : Cert.UpDw3RefIdeal.Facts] : Prop :=
  ∀ (m : (ℓ : Loc Cert.UpDw3Ideal.nD Cert.UpDw3Ideal.τ Cert.UpDw3Ideal.sig) → Buf (Elt Ideal) ℓ) (g : Dev Cert.UpDw3Ideal.nD → PrngReg)
    (m' : (ℓ : Loc Cert.UpDw3RefIdeal.nD Cert.UpDw3RefIdeal.τ Cert.UpDw3RefIdeal.sig) → Buf (Elt Ideal) ℓ) (g' : Dev Cert.UpDw3RefIdeal.nD → PrngReg), Pre_UpDw3Ideal m →
    (∀ c : Dev Cert.UpDw3Ideal.nD,
      m' ((c.tc : Thread Cert.UpDw3RefIdeal.nD Cert.UpDw3RefIdeal.τ).loc Cert.UpDw3RefIdeal.main_arg0) = m ((c.tc : Thread Cert.UpDw3Ideal.nD Cert.UpDw3Ideal.τ).loc Cert.UpDw3Ideal.main_arg0)
      ∧ m' ((c.tc : Thread Cert.UpDw3RefIdeal.nD Cert.UpDw3RefIdeal.τ).loc Cert.UpDw3RefIdeal.main_arg1) = m ((c.tc : Thread Cert.UpDw3Ideal.nD Cert.UpDw3Ideal.τ).loc Cert.UpDw3Ideal.main_arg1)
      ∧ m' ((c.tc : Thread Cert.UpDw3RefIdeal.nD Cert.UpDw3RefIdeal.τ).loc Cert.UpDw3RefIdeal.main_arg2) = m ((c.tc : Thread Cert.UpDw3Ideal.nD Cert.UpDw3Ideal.τ).loc Cert.UpDw3Ideal.main_arg2)) →
    ∃ (v0 : (c : Dev Cert.UpDw3Ideal.nD) → Buf (Elt Ideal) ((c.tc : Thread Cert.UpDw3Ideal.nD Cert.UpDw3Ideal.τ).loc Cert.UpDw3Ideal.main_v0)),
      θ_run (Cert.UpDw3Ideal.defs (F := Ideal)) (onTc (τ := Cert.UpDw3Ideal.τ) (Cert.UpDw3Ideal.main (F := Ideal))) ⟨m, fun _ => 0, g⟩ (fun r => ∀ c : Dev Cert.UpDw3Ideal.nD,
          r.2.mem ((c.tc : Thread Cert.UpDw3Ideal.nD Cert.UpDw3Ideal.τ).loc Cert.UpDw3Ideal.main_v0) = v0 c
          ∧ r.2.mem ((c.tc : Thread Cert.UpDw3Ideal.nD Cert.UpDw3Ideal.τ).loc Cert.UpDw3Ideal.main_arg0) = m ((c.tc : Thread Cert.UpDw3Ideal.nD Cert.UpDw3Ideal.τ).loc Cert.UpDw3Ideal.main_arg0)
          ∧ r.2.mem ((c.tc : Thread Cert.UpDw3Ideal.nD Cert.UpDw3Ideal.τ).loc Cert.UpDw3Ideal.main_arg1) = m ((c.tc : Thread Cert.UpDw3Ideal.nD Cert.UpDw3Ideal.τ).loc Cert.UpDw3Ideal.main_arg1)
          ∧ r.2.mem ((c.tc : Thread Cert.UpDw3Ideal.nD Cert.UpDw3Ideal.τ).loc Cert.UpDw3Ideal.main_arg2) = m ((c.tc : Thread Cert.UpDw3Ideal.nD Cert.UpDw3Ideal.τ).loc Cert.UpDw3Ideal.main_arg2))
      ∧ θ_run (Cert.UpDw3RefIdeal.defs (F := Ideal)) (onTc (τ := Cert.UpDw3RefIdeal.τ) (Cert.UpDw3RefIdeal.main (F := Ideal))) ⟨m', fun _ => 0, g'⟩ (fun r => ∀ c : Dev Cert.UpDw3RefIdeal.nD,
          r.2.mem ((c.tc : Thread Cert.UpDw3RefIdeal.nD Cert.UpDw3RefIdeal.τ).loc Cert.UpDw3RefIdeal.main_v10) = v0 c
          ∧ r.2.mem ((c.tc : Thread Cert.UpDw3RefIdeal.nD Cert.UpDw3RefIdeal.τ).loc Cert.UpDw3RefIdeal.main_arg0) = m' ((c.tc : Thread Cert.UpDw3RefIdeal.nD Cert.UpDw3RefIdeal.τ).loc Cert.UpDw3RefIdeal.main_arg0)
          ∧ r.2.mem ((c.tc : Thread Cert.UpDw3RefIdeal.nD Cert.UpDw3RefIdeal.τ).loc Cert.UpDw3RefIdeal.main_arg1) = m' ((c.tc : Thread Cert.UpDw3RefIdeal.nD Cert.UpDw3RefIdeal.τ).loc Cert.UpDw3RefIdeal.main_arg1)
          ∧ r.2.mem ((c.tc : Thread Cert.UpDw3RefIdeal.nD Cert.UpDw3RefIdeal.τ).loc Cert.UpDw3RefIdeal.main_arg2) = m' ((c.tc : Thread Cert.UpDw3RefIdeal.nD Cert.UpDw3RefIdeal.τ).loc Cert.UpDw3RefIdeal.main_arg2))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hUpDx : Cert.UpDx.Facts) (hUpDxIdeal : Cert.UpDxIdeal.Facts) (hUpDxRefIdeal : Cert.UpDxRefIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hHybIn : Cert.HybIn.Facts) (hHybInIdeal : Cert.HybInIdeal.Facts) (hHybInRefIdeal : Cert.HybInRefIdeal.Facts) (hHybInDw : Cert.HybInDw.Facts) (hHybInDwIdeal : Cert.HybInDwIdeal.Facts) (hHybInDwRefIdeal : Cert.HybInDwRefIdeal.Facts) (hHybInDx : Cert.HybInDx.Facts) (hHybInDxIdeal : Cert.HybInDxIdeal.Facts) (hHybInDxRefIdeal : Cert.HybInDxRefIdeal.Facts) (hRecIn : Cert.RecIn.Facts) (hRecInIdeal : Cert.RecInIdeal.Facts) (hRecInRefIdeal : Cert.RecInRefIdeal.Facts) (hRecInDw : Cert.RecInDw.Facts) (hRecInDwIdeal : Cert.RecInDwIdeal.Facts) (hRecInDwRefIdeal : Cert.RecInDwRefIdeal.Facts) (hRecInDx : Cert.RecInDx.Facts) (hRecInDxIdeal : Cert.RecInDxIdeal.Facts) (hRecInDxRefIdeal : Cert.RecInDxRefIdeal.Facts) (hOut : Cert.Out.Facts) (hOutIdeal : Cert.OutIdeal.Facts) (hOutRefIdeal : Cert.OutRefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hDownDw1 : Cert.DownDw1.Facts) (hDownDw1Ideal : Cert.DownDw1Ideal.Facts) (hDownDw1RefIdeal : Cert.DownDw1RefIdeal.Facts) (hUpDw1 : Cert.UpDw1.Facts) (hUpDw1Ideal : Cert.UpDw1Ideal.Facts) (hUpDw1RefIdeal : Cert.UpDw1RefIdeal.Facts) (hDownDw2 : Cert.DownDw2.Facts) (hDownDw2Ideal : Cert.DownDw2Ideal.Facts) (hDownDw2RefIdeal : Cert.DownDw2RefIdeal.Facts) (hUpDw2 : Cert.UpDw2.Facts) (hUpDw2Ideal : Cert.UpDw2Ideal.Facts) (hUpDw2RefIdeal : Cert.UpDw2RefIdeal.Facts) (hDownDw3 : Cert.DownDw3.Facts) (hDownDw3Ideal : Cert.DownDw3Ideal.Facts) (hDownDw3RefIdeal : Cert.DownDw3RefIdeal.Facts) (hUpDw3 : Cert.UpDw3.Facts) (hUpDw3Ideal : Cert.UpDw3Ideal.Facts) (hUpDw3RefIdeal : Cert.UpDw3RefIdeal.Facts) (hPre_finite_inputs : Cert.Pre_finite_inputs.Facts) (hOn_written : Cert.On_written.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_HybIn (hHybIn := hHybIn)
    ∧ quiescent_HybInIdeal (hHybInIdeal := hHybInIdeal)
    ∧ quiescent_HybInRefIdeal (hHybInRefIdeal := hHybInRefIdeal)
    ∧ quiescent_HybInDw (hHybInDw := hHybInDw)
    ∧ quiescent_HybInDwIdeal (hHybInDwIdeal := hHybInDwIdeal)
    ∧ quiescent_HybInDwRefIdeal (hHybInDwRefIdeal := hHybInDwRefIdeal)
    ∧ quiescent_HybInDx (hHybInDx := hHybInDx)
    ∧ quiescent_HybInDxIdeal (hHybInDxIdeal := hHybInDxIdeal)
    ∧ quiescent_HybInDxRefIdeal (hHybInDxRefIdeal := hHybInDxRefIdeal)
    ∧ quiescent_RecIn (hRecIn := hRecIn)
    ∧ quiescent_RecInIdeal (hRecInIdeal := hRecInIdeal)
    ∧ quiescent_RecInRefIdeal (hRecInRefIdeal := hRecInRefIdeal)
    ∧ quiescent_RecInDw (hRecInDw := hRecInDw)
    ∧ quiescent_RecInDwIdeal (hRecInDwIdeal := hRecInDwIdeal)
    ∧ quiescent_RecInDwRefIdeal (hRecInDwRefIdeal := hRecInDwRefIdeal)
    ∧ quiescent_RecInDx (hRecInDx := hRecInDx)
    ∧ quiescent_RecInDxIdeal (hRecInDxIdeal := hRecInDxIdeal)
    ∧ quiescent_RecInDxRefIdeal (hRecInDxRefIdeal := hRecInDxRefIdeal)
    ∧ quiescent_Out (hOut := hOut)
    ∧ quiescent_OutIdeal (hOutIdeal := hOutIdeal)
    ∧ quiescent_OutRefIdeal (hOutRefIdeal := hOutRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_DownDw1 (hDownDw1 := hDownDw1)
    ∧ quiescent_DownDw1Ideal (hDownDw1Ideal := hDownDw1Ideal)
    ∧ quiescent_DownDw1RefIdeal (hDownDw1RefIdeal := hDownDw1RefIdeal)
    ∧ quiescent_UpDw1 (hUpDw1 := hUpDw1)
    ∧ quiescent_UpDw1Ideal (hUpDw1Ideal := hUpDw1Ideal)
    ∧ quiescent_UpDw1RefIdeal (hUpDw1RefIdeal := hUpDw1RefIdeal)
    ∧ quiescent_DownDw2 (hDownDw2 := hDownDw2)
    ∧ quiescent_DownDw2Ideal (hDownDw2Ideal := hDownDw2Ideal)
    ∧ quiescent_DownDw2RefIdeal (hDownDw2RefIdeal := hDownDw2RefIdeal)
    ∧ quiescent_UpDw2 (hUpDw2 := hUpDw2)
    ∧ quiescent_UpDw2Ideal (hUpDw2Ideal := hUpDw2Ideal)
    ∧ quiescent_UpDw2RefIdeal (hUpDw2RefIdeal := hUpDw2RefIdeal)
    ∧ quiescent_DownDw3 (hDownDw3 := hDownDw3)
    ∧ quiescent_DownDw3Ideal (hDownDw3Ideal := hDownDw3Ideal)
    ∧ quiescent_DownDw3RefIdeal (hDownDw3RefIdeal := hDownDw3RefIdeal)
    ∧ quiescent_UpDw3 (hUpDw3 := hUpDw3)
    ∧ quiescent_UpDw3Ideal (hUpDw3Ideal := hUpDw3Ideal)
    ∧ quiescent_UpDw3RefIdeal (hUpDw3RefIdeal := hUpDw3RefIdeal)
    ∧ preserves_Kernel_KernelIdeal
    ∧ algebraic_KernelIdeal_ReferenceIdeal_on_written_pre_finite_inputs (hKernelIdeal := hKernelIdeal) (hReferenceIdeal := hReferenceIdeal) (hPre_finite_inputs := hPre_finite_inputs) (hOn_written := hOn_written)
    ∧ preserves_DownDx_DownDxIdeal
    ∧ algebraic_DownDxIdeal_DownDxRefIdeal (hDownDxIdeal := hDownDxIdeal) (hDownDxRefIdeal := hDownDxRefIdeal)
    ∧ preserves_UpDx_UpDxIdeal
    ∧ algebraic_UpDxIdeal_UpDxRefIdeal (hUpDxIdeal := hUpDxIdeal) (hUpDxRefIdeal := hUpDxRefIdeal)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_HybIn_HybInIdeal
    ∧ algebraic_HybInIdeal_HybInRefIdeal (hHybInIdeal := hHybInIdeal) (hHybInRefIdeal := hHybInRefIdeal)
    ∧ preserves_HybInDw_HybInDwIdeal
    ∧ algebraic_HybInDwIdeal_HybInDwRefIdeal (hHybInDwIdeal := hHybInDwIdeal) (hHybInDwRefIdeal := hHybInDwRefIdeal)
    ∧ preserves_HybInDx_HybInDxIdeal
    ∧ algebraic_HybInDxIdeal_HybInDxRefIdeal (hHybInDxIdeal := hHybInDxIdeal) (hHybInDxRefIdeal := hHybInDxRefIdeal)
    ∧ preserves_RecIn_RecInIdeal
    ∧ algebraic_RecInIdeal_RecInRefIdeal (hRecInIdeal := hRecInIdeal) (hRecInRefIdeal := hRecInRefIdeal)
    ∧ preserves_RecInDw_RecInDwIdeal
    ∧ algebraic_RecInDwIdeal_RecInDwRefIdeal (hRecInDwIdeal := hRecInDwIdeal) (hRecInDwRefIdeal := hRecInDwRefIdeal)
    ∧ preserves_RecInDx_RecInDxIdeal
    ∧ algebraic_RecInDxIdeal_RecInDxRefIdeal (hRecInDxIdeal := hRecInDxIdeal) (hRecInDxRefIdeal := hRecInDxRefIdeal)
    ∧ preserves_Out_OutIdeal
    ∧ algebraic_OutIdeal_OutRefIdeal (hOutIdeal := hOutIdeal) (hOutRefIdeal := hOutRefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_DownDw1_DownDw1Ideal
    ∧ algebraic_DownDw1Ideal_DownDw1RefIdeal (hDownDw1Ideal := hDownDw1Ideal) (hDownDw1RefIdeal := hDownDw1RefIdeal)
    ∧ preserves_UpDw1_UpDw1Ideal
    ∧ algebraic_UpDw1Ideal_UpDw1RefIdeal (hUpDw1Ideal := hUpDw1Ideal) (hUpDw1RefIdeal := hUpDw1RefIdeal)
    ∧ preserves_DownDw2_DownDw2Ideal
    ∧ algebraic_DownDw2Ideal_DownDw2RefIdeal (hDownDw2Ideal := hDownDw2Ideal) (hDownDw2RefIdeal := hDownDw2RefIdeal)
    ∧ preserves_UpDw2_UpDw2Ideal
    ∧ algebraic_UpDw2Ideal_UpDw2RefIdeal (hUpDw2Ideal := hUpDw2Ideal) (hUpDw2RefIdeal := hUpDw2RefIdeal)
    ∧ preserves_DownDw3_DownDw3Ideal
    ∧ algebraic_DownDw3Ideal_DownDw3RefIdeal (hDownDw3Ideal := hDownDw3Ideal) (hDownDw3RefIdeal := hDownDw3RefIdeal)
    ∧ preserves_UpDw3_UpDw3Ideal
    ∧ algebraic_UpDw3Ideal_UpDw3RefIdeal (hUpDw3Ideal := hUpDw3Ideal) (hUpDw3RefIdeal := hUpDw3RefIdeal)
-- ==== On_written.lean ====
abbrev S4096x3072 : Shape := ⟨2, ![4096, 3072]⟩
abbrev S4096x32 : Shape := ⟨2, ![4096, 32]⟩
abbrev S8 : Shape := ⟨1, ![8]⟩
abbrev S4096x1024 : Shape := ⟨2, ![4096, 1024]⟩
abbrev S3072 : Shape := ⟨1, ![3072]⟩
abbrev S1x3072 : Shape := ⟨2, ![1, 3072]⟩
abbrev S_ : Shape := ⟨0, ![]⟩
abbrev S4096x128 : Shape := ⟨2, ![4096, 128]⟩
abbrev S1x8 : Shape := ⟨2, ![1, 8]⟩

class Facts : Prop where
  bcast_S3072_S1x3072_1 : S3072.BroadcastsInDim S1x3072 (![1] : Fin 1 → Fin S1x3072.rank)
  bcast_S_S1x3072 : S_.BroadcastsInDim S1x3072 (![] : Fin 0 → Fin S1x3072.rank)
  bcast_S1x3072_S4096x3072_0_1 : S1x3072.BroadcastsInDim S4096x3072 (![0, 1] : Fin 2 → Fin S4096x3072.rank)
  bcast_S_S4096x128 : S_.BroadcastsInDim S4096x128 (![] : Fin 0 → Fin S4096x128.rank)
  bcast_S_S1x8 : S_.BroadcastsInDim S1x8 (![] : Fin 0 → Fin S1x8.rank)

variable [Facts]

def fn {F : FTy → Type} [FloatOps F] (main_arg0 : FVec F S4096x3072 .f32) (main_arg1 : FVec F S4096x32 .f32) (main_arg2 : FVec F S4096x32 .f32) (main_arg3 : FVec F S8 .f32) (main_arg4 : FVec F S4096x1024 .f32) : IVec S4096x3072 1 × IVec S4096x128 1 × IVec S4096x128 1 × IVec S4096x128 1 × IVec S4096x128 1 × IVec S1x8 1 :=
  let main_v0 : IVec S3072 32 := iotaInDim S3072 32 0
  let main_v1 : IVec S1x3072 32 := broadcastInDim S1x3072 ![1] bcast_S3072_S1x3072_1 main_v0
  let main_c : IVec S_ 32 := constantI S_ 32 512#32
  let main_v2 : IVec S1x3072 32 := broadcastInDim S1x3072 ![] bcast_S_S1x3072 main_c
  let main_v3 : IVec S1x3072 1 := cmpi .slt main_v1 main_v2
  let main_v4 : IVec S4096x3072 1 := broadcastInDim S4096x3072 ![0, 1] bcast_S1x3072_S4096x3072_0_1 main_v3
  let main_c_0 : IVec S_ 1 := constantI S_ 1 1#1
  let main_v5 : IVec S4096x128 1 := broadcastInDim S4096x128 ![] bcast_S_S4096x128 main_c_0
  let main_c_1 : IVec S_ 1 := constantI S_ 1 1#1
  let main_v6 : IVec S4096x128 1 := broadcastInDim S4096x128 ![] bcast_S_S4096x128 main_c_1
  let main_c_2 : IVec S_ 1 := constantI S_ 1 1#1
  let main_v7 : IVec S4096x128 1 := broadcastInDim S4096x128 ![] bcast_S_S4096x128 main_c_2
  let main_c_3 : IVec S_ 1 := constantI S_ 1 1#1
  let main_v8 : IVec S4096x128 1 := broadcastInDim S4096x128 ![] bcast_S_S4096x128 main_c_3
  let main_c_4 : IVec S_ 1 := constantI S_ 1 1#1
  let main_v9 : IVec S1x8 1 := broadcastInDim S1x8 ![] bcast_S_S1x8 main_c_4
  (main_v4, main_v5, main_v6, main_v7, main_v8, main_v9)
-- ==== Pre_finite_inputs.lean ====
abbrev S4096x3072 : Shape := ⟨2, ![4096, 3072]⟩
abbrev S4096x32 : Shape := ⟨2, ![4096, 32]⟩
abbrev S8 : Shape := ⟨1, ![8]⟩
abbrev S4096x1024 : Shape := ⟨2, ![4096, 1024]⟩
abbrev S_ : Shape := ⟨0, ![]⟩

class Facts : Prop where
  bcast_S_S4096x3072 : S_.BroadcastsInDim S4096x3072 (![] : Fin 0 → Fin S4096x3072.rank)
  reducesTo_S4096x3072_S_d0_1 : S4096x3072.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S8 : S_.BroadcastsInDim S8 (![] : Fin 0 → Fin S8.rank)
  reducesTo_S8_S_d0 : S8.ReducesTo [0] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S4096x1024 .f32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  main_v23

def fn {F : FTy → Type} [FloatOps F] (main_arg0 : FVec F S4096x3072 .f32) (main_arg1 : FVec F S4096x32 .f32) (main_arg2 : FVec F S4096x32 .f32) (main_arg3 : FVec F S8 .f32) (main_arg4 : FVec F S4096x1024 .f32) : IVec S_ 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_c : IVec S_ 1 := constantI S_ 1 1#1
  let main_v3 : IVec S_ 1 := (fun x v => Host.reduce IntOp.andi x v reducesTo_S4096x3072_S_d0_1 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg4 main_v13 main_v16
-- ==== Kernel.lean ====
abbrev S4096x3072 : Shape := ⟨2, ![4096, 3072]⟩
abbrev S4096x32 : Shape := ⟨2, ![4096, 32]⟩
abbrev S8 : Shape := ⟨1, ![8]⟩
abbrev S4096x1024 : Shape := ⟨2, ![4096, 1024]⟩
abbrev S4096x512 : Shape := ⟨2, ![4096, 512]⟩
abbrev S4096x128 : Shape := ⟨2, ![4096, 128]⟩
abbrev S4096x640 : Shape := ⟨2, ![4096, 640]⟩
abbrev S1x4096x10x64 : Shape := ⟨4, ![1, 4096, 10, 64]⟩
abbrev S1x4096x1x32 : Shape := ⟨4, ![1, 4096, 1, 32]⟩
abbrev S1x4096x10x32 : Shape := ⟨4, ![1, 4096, 10, 32]⟩
abbrev S1x4096x8x64 : Shape := ⟨4, ![1, 4096, 8, 64]⟩
abbrev S1x4096x2x64 : Shape := ⟨4, ![1, 4096, 2, 64]⟩
abbrev S_ : Shape := ⟨0, ![]⟩
abbrev S1x128x2x64 : Shape := ⟨4, ![1, 128, 2, 64]⟩
abbrev S1x3968x2x64 : Shape := ⟨4, ![1, 3968, 2, 64]⟩
abbrev S1x32x128x2x64 : Shape := ⟨5, ![1, 32, 128, 2, 64]⟩
abbrev S1x32x256x2x64 : Shape := ⟨5, ![1, 32, 256, 2, 64]⟩
abbrev S1x32x128x2x4x64 : Shape := ⟨6, ![1, 32, 128, 2, 4, 64]⟩
abbrev S1x32x2x256x128x4 : Shape := ⟨6, ![1, 32, 2, 256, 128, 4]⟩
abbrev S1x32x2x4x128x256 : Shape := ⟨6, ![1, 32, 2, 4, 128, 256]⟩
abbrev S32x128x256 : Shape := ⟨3, ![32, 128, 256]⟩
abbrev S1x32x1x1x128x256 : Shape := ⟨6, ![1, 32, 1, 1, 128, 256]⟩
abbrev S1x1x2x4x1x1 : Shape := ⟨6, ![1, 1, 2, 4, 1, 1]⟩
abbrev S1x32x2x4x128x1 : Shape := ⟨6, ![1, 32, 2, 4, 128, 1]⟩
abbrev S1x32x2x4x128x257 : Shape := ⟨6, ![1, 32, 2, 4, 128, 257]⟩
abbrev S1x32x2x4x128 : Shape := ⟨5, ![1, 32, 2, 4, 128]⟩
abbrev S1x32x2x64x4x128 : Shape := ⟨6, ![1, 32, 2, 64, 4, 128]⟩
abbrev S1x4096x512 : Shape := ⟨3, ![1, 4096, 512]⟩
abbrev S32x8x128 : Shape := ⟨3, ![32, 8, 128]⟩
abbrev S32x128x8 : Shape := ⟨3, ![32, 128, 8]⟩
abbrev S4096x8 : Shape := ⟨2, ![4096, 8]⟩
abbrev S1x4096x4x32 : Shape := ⟨4, ![1, 4096, 4, 32]⟩
abbrev S4096x64 : Shape := ⟨2, ![4096, 64]⟩
abbrev S1x4096x1x64 : Shape := ⟨4, ![1, 4096, 1, 64]⟩
abbrev S8x1 : Shape := ⟨2, ![8, 1]⟩
abbrev S8x128 : Shape := ⟨2, ![8, 128]⟩
abbrev S1x8 : Shape := ⟨2, ![1, 8]⟩
abbrev S128x512 : Shape := ⟨2, ![128, 512]⟩
abbrev S128x128 : Shape := ⟨2, ![128, 128]⟩
abbrev S128x8 : Shape := ⟨2, ![128, 8]⟩
abbrev S256x128 : Shape := ⟨2, ![256, 128]⟩
abbrev S128x256 : Shape := ⟨2, ![128, 256]⟩
abbrev S1x128x256 : Shape := ⟨3, ![1, 128, 256]⟩
abbrev S128 : Shape := ⟨1, ![128]⟩
abbrev S128x1 : Shape := ⟨2, ![128, 1]⟩
abbrev S1x128x128 : Shape := ⟨3, ![1, 128, 128]⟩
abbrev S8x128x128 : Shape := ⟨3, ![8, 128, 128]⟩
abbrev S1x128x1 : Shape := ⟨3, ![1, 128, 1]⟩
abbrev S8x128x1 : Shape := ⟨3, ![8, 128, 1]⟩
abbrev S1x256x128 : Shape := ⟨3, ![1, 256, 128]⟩
abbrev S8x256x128 : Shape := ⟨3, ![8, 256, 128]⟩
abbrev S1x1 : Shape := ⟨2, ![1, 1]⟩
abbrev S1x1x1 : Shape := ⟨3, ![1, 1, 1]⟩
abbrev S8x1x1 : Shape := ⟨3, ![8, 1, 1]⟩
abbrev S8x128x256 : Shape := ⟨3, ![8, 128, 256]⟩

abbrev nBuf : Space → Nat
  | .hbm => 120
  | .vmem => 36
  | .smem => 0
  | _ => 0

abbrev bufTy : (tb : Table) → Fin (tcTables nBuf tb) → BufTy
  | .hbm, ⟨0, _⟩ => ⟨S4096x3072, .f32⟩
  | .hbm, ⟨1, _⟩ => ⟨S4096x32, .f32⟩
  | .hbm, ⟨2, _⟩ => ⟨S4096x32, .f32⟩
  | .hbm, ⟨3, _⟩ => ⟨S8, .f32⟩
  | .hbm, ⟨4, _⟩ => ⟨S4096x1024, .f32⟩
  | .hbm, ⟨5, _⟩ => ⟨S4096x512, .f32⟩
  | .hbm, ⟨6, _⟩ => ⟨S4096x128, .f32⟩
  | .hbm, ⟨7, _⟩ => ⟨S4096x128, .f32⟩
  | .hbm, ⟨8, _⟩ => ⟨S4096x640, .f32⟩
  | .hbm, ⟨9, _⟩ => ⟨S1x4096x10x64, .f32⟩
  | .hbm, ⟨10, _⟩ => ⟨S1x4096x1x32, .f32⟩
  | .hbm, ⟨11, _⟩ => ⟨S1x4096x1x32, .f32⟩
  | .hbm, ⟨12, _⟩ => ⟨S1x4096x10x32, .f32⟩
  | .hbm, ⟨13, _⟩ => ⟨S1x4096x10x32, .f32⟩
  | .hbm, ⟨14, _⟩ => ⟨S1x4096x10x32, .f32⟩
  | .hbm, ⟨15, _⟩ => ⟨S1x4096x10x32, .f32⟩
  | .hbm, ⟨16, _⟩ => ⟨S1x4096x10x32, .f32⟩
  | .hbm, ⟨17, _⟩ => ⟨S1x4096x10x32, .f32⟩
  | .hbm, ⟨18, _⟩ => ⟨S1x4096x10x32, .f32⟩
  | .hbm, ⟨19, _⟩ => ⟨S1x4096x10x32, .f32⟩
  | .hbm, ⟨20, _⟩ => ⟨S1x4096x10x32, .f32⟩
  | .hbm, ⟨21, _⟩ => ⟨S1x4096x10x32, .f32⟩
  | .hbm, ⟨22, _⟩ => ⟨S1x4096x10x32, .f32⟩
  | .hbm, ⟨23, _⟩ => ⟨S1x4096x10x32, .f32⟩
  | .hbm, ⟨24, _⟩ => ⟨S1x4096x10x64, .f32⟩
  | .hbm, ⟨25, _⟩ => ⟨S1x4096x8x64, .f32⟩
  | .hbm, ⟨26, _⟩ => ⟨S1x4096x2x64, .f32⟩
  | .hbm, ⟨27, _⟩ => ⟨S1x4096x2x64, .f32⟩
  | .hbm, ⟨28, _⟩ => ⟨S_, .f32⟩
  | .hbm, ⟨29, _⟩ => ⟨S1x128x2x64, .f32⟩
  | .hbm, ⟨30, _⟩ => ⟨S1x3968x2x64, .f32⟩
  | .hbm, ⟨31, _⟩ => ⟨S1x4096x2x64, .f32⟩
  | .hbm, ⟨32, _⟩ => ⟨S1x32x128x2x64, .f32⟩
  | .hbm, ⟨33, _⟩ => ⟨S1x32x128x2x64, .f32⟩
  | .hbm, ⟨34, _⟩ => ⟨S1x32x256x2x64, .f32⟩
  | .hbm, ⟨35, _⟩ => ⟨S1x32x128x2x4x64, .f32⟩
  | .hbm, ⟨36, _⟩ => ⟨S1x32x2x256x128x4, .f32⟩
  | .hbm, ⟨37, _⟩ => ⟨S1x32x2x4x128x256, .f32⟩
  | .hbm, ⟨38, _⟩ => ⟨S_, .f32⟩
  | .hbm, ⟨39, _⟩ => ⟨S1x32x2x4x128x256, .f32⟩
  | .hbm, ⟨40, _⟩ => ⟨S1x32x2x4x128x256, .f32⟩
  | .hbm, ⟨41, _⟩ => ⟨S32x128x256, .i32⟩
  | .hbm, ⟨42, _⟩ => ⟨S32x128x256, .i32⟩
  | .hbm, ⟨43, _⟩ => ⟨S32x128x256, .i32⟩
  | .hbm, ⟨44, _⟩ => ⟨S_, .i32⟩
  | .hbm, ⟨45, _⟩ => ⟨S32x128x256, .i32⟩
  | .hbm, ⟨46, _⟩ => ⟨S32x128x256, .i32⟩
  | .hbm, ⟨47, _⟩ => ⟨S32x128x256, .i32⟩
  | .hbm, ⟨48, _⟩ => ⟨S_, .i32⟩
  | .hbm, ⟨49, _⟩ => ⟨S32x128x256, .i32⟩
  | .hbm, ⟨50, _⟩ => ⟨S32x128x256, .i1⟩
  | .hbm, ⟨51, _⟩ => ⟨S_, .i32⟩
  | .hbm, ⟨52, _⟩ => ⟨S32x128x256, .i32⟩
  | .hbm, ⟨53, _⟩ => ⟨S32x128x256, .i1⟩
  | .hbm, ⟨54, _⟩ => ⟨S32x128x256, .i1⟩
  | .hbm, ⟨55, _⟩ => ⟨S_, .i32⟩
  | .hbm, ⟨56, _⟩ => ⟨S32x128x256, .i32⟩
  | .hbm, ⟨57, _⟩ => ⟨S32x128x256, .i32⟩
  | .hbm, ⟨58, _⟩ => ⟨S_, .i32⟩
  | .hbm, ⟨59, _⟩ => ⟨S32x128x256, .i32⟩
  | .hbm, ⟨60, _⟩ => ⟨S32x128x256, .i32⟩
  | .hbm, ⟨61, _⟩ => ⟨S32x128x256, .i32⟩
  | .hbm, ⟨62, _⟩ => ⟨S_, .i32⟩
  | .hbm, ⟨63, _⟩ => ⟨S32x128x256, .i32⟩
  | .hbm, ⟨64, _⟩ => ⟨S32x128x256, .i1⟩
  | .hbm, ⟨65, _⟩ => ⟨S32x128x256, .i1⟩
  | .hbm, ⟨66, _⟩ => ⟨S1x32x1x1x128x256, .i1⟩
  | .hbm, ⟨67, _⟩ => ⟨S_, .f32⟩
  | .hbm, ⟨68, _⟩ => ⟨S_, .f32⟩
  | .hbm, ⟨69, _⟩ => ⟨S1x32x2x4x128x256, .i1⟩
  | .hbm, ⟨70, _⟩ => ⟨S1x32x2x4x128x256, .f32⟩
  | .hbm, ⟨71, _⟩ => ⟨S1x32x2x4x128x256, .f32⟩
  | .hbm, ⟨72, _⟩ => ⟨S1x1x2x4x1x1, .f32⟩
  | .hbm, ⟨73, _⟩ => ⟨S1x32x2x4x128x1, .f32⟩
  | .hbm, ⟨74, _⟩ => ⟨S1x32x2x4x128x257, .f32⟩
  | .hbm, ⟨75, _⟩ => ⟨S_, .f32⟩
  | .hbm, ⟨76, _⟩ => ⟨S1x32x2x4x128, .f32⟩
  | .hbm, ⟨77, _⟩ => ⟨S1x32x2x4x128x1, .f32⟩
  | .hbm, ⟨78, _⟩ => ⟨S1x32x2x4x128x257, .f32⟩
  | .hbm, ⟨79, _⟩ => ⟨S1x32x2x4x128x257, .f32⟩
  | .hbm, ⟨80, _⟩ => ⟨S1x32x2x4x128x257, .f32⟩
  | .hbm, ⟨81, _⟩ => ⟨S_, .f32⟩
  | .hbm, ⟨82, _⟩ => ⟨S1x32x2x4x128, .f32⟩
  | .hbm, ⟨83, _⟩ => ⟨S1x32x2x4x128x1, .f32⟩
  | .hbm, ⟨84, _⟩ => ⟨S1x32x2x4x128x1, .f32⟩
  | .hbm, ⟨85, _⟩ => ⟨S1x32x2x4x128x1, .f32⟩
  | .hbm, ⟨86, _⟩ => ⟨S1x32x2x4x128x257, .f32⟩
  | .hbm, ⟨87, _⟩ => ⟨S1x32x2x4x128x257, .f32⟩
  | .hbm, ⟨88, _⟩ => ⟨S1x32x2x4x128x257, .f32⟩
  | .hbm, ⟨89, _⟩ => ⟨S1x32x2x4x128x256, .f32⟩
  | .hbm, ⟨90, _⟩ => ⟨S_, .f32⟩
  | .hbm, ⟨91, _⟩ => ⟨S1x128x2x64, .f32⟩
  | .hbm, ⟨92, _⟩ => ⟨S1x3968x2x64, .f32⟩
  | .hbm, ⟨93, _⟩ => ⟨S1x4096x2x64, .f32⟩
  | .hbm, ⟨94, _⟩ => ⟨S1x32x128x2x64, .f32⟩
  | .hbm, ⟨95, _⟩ => ⟨S1x32x128x2x64, .f32⟩
  | .hbm, ⟨96, _⟩ => ⟨S1x32x256x2x64, .f32⟩
  | .hbm, ⟨97, _⟩ => ⟨S1x32x2x64x4x128, .f32⟩
  | .hbm, ⟨98, _⟩ => ⟨S1x32x128x2x4x64, .f32⟩
  | .hbm, ⟨99, _⟩ => ⟨S1x4096x512, .f32⟩
  | .hbm, ⟨100, _⟩ => ⟨S4096x512, .f32⟩
  | .hbm, ⟨101, _⟩ => ⟨S32x8x128, .f32⟩
  | .hbm, ⟨102, _⟩ => ⟨S32x128x8, .f32⟩
  | .hbm, ⟨103, _⟩ => ⟨S4096x8, .f32⟩
  | .hbm, ⟨104, _⟩ => ⟨S1x4096x1x32, .f32⟩
  | .hbm, ⟨105, _⟩ => ⟨S1x4096x4x32, .f32⟩
  | .hbm, ⟨106, _⟩ => ⟨S4096x128, .f32⟩
  | .hbm, ⟨107, _⟩ => ⟨S4096x32, .f32⟩
  | .hbm, ⟨108, _⟩ => ⟨S4096x64, .f32⟩
  | .hbm, ⟨109, _⟩ => ⟨S1x4096x1x64, .f32⟩
  | .hbm, ⟨110, _⟩ => ⟨S1x4096x2x64, .f32⟩
  | .hbm, ⟨111, _⟩ => ⟨S4096x128, .f32⟩
  | .hbm, ⟨112, _⟩ => ⟨S8x1, .f32⟩
  | .hbm, ⟨113, _⟩ => ⟨S8x128, .f32⟩
  | .hbm, ⟨114, _⟩ => ⟨S4096x3072, .bf16⟩
  | .hbm, ⟨115, _⟩ => ⟨S4096x128, .f32⟩
  | .hbm, ⟨116, _⟩ => ⟨S4096x128, .f32⟩
  | .hbm, ⟨117, _⟩ => ⟨S4096x128, .f32⟩
  | .hbm, ⟨118, _⟩ => ⟨S4096x128, .f32⟩
  | .hbm, ⟨119, _⟩ => ⟨S1x8, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S8x128, .f32⟩
  | .local _ .vmem, ⟨19, _⟩ => ⟨S128x512, .f32⟩
  | .local _ .vmem, ⟨20, _⟩ => ⟨S128x512, .f32⟩
  | .local _ .vmem, ⟨21, _⟩ => ⟨S128x8, .f32⟩
  | .local _ .vmem, ⟨22, _⟩ => ⟨S128x8, .f32⟩
  | .local _ .vmem, ⟨23, _⟩ => ⟨S128x512, .f32⟩
  | .local _ .vmem, ⟨24, _⟩ => ⟨S128x512, .f32⟩
  | .local _ .vmem, ⟨25, _⟩ => ⟨S128x512, .bf16⟩
  | .local _ .vmem, ⟨26, _⟩ => ⟨S128x512, .bf16⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S128x128, .f32⟩
  | .local _ .vmem, ⟨35, _⟩ => ⟨S1x8, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_0 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_c : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_c_1 : Ref sig .tc := ⟨.hbm, 48, rfl⟩
abbrev main_v40 : Ref sig .tc := ⟨.hbm, 49, rfl⟩
abbrev main_v41 : Ref sig .tc := ⟨.hbm, 50, rfl⟩
abbrev main_c_2 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_c_3 : Ref sig .tc := ⟨.hbm, 55, rfl⟩
abbrev main_v45 : Ref sig .tc := ⟨.hbm, 56, rfl⟩
abbrev main_v46 : Ref sig .tc := ⟨.hbm, 57, rfl⟩
abbrev main_c_4 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_c_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_6 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_8 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_9 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94_0 : Ref sig .tc := ⟨.hbm, 114, rfl⟩
abbrev main_v94_1 : Ref sig .tc := ⟨.hbm, 115, rfl⟩
abbrev main_v94_2 : Ref sig .tc := ⟨.hbm, 116, rfl⟩
abbrev main_v94_3 : Ref sig .tc := ⟨.hbm, 117, rfl⟩
abbrev main_v94_4 : Ref sig .tc := ⟨.hbm, 118, rfl⟩
abbrev main_v94_5 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_219 : BitVec 32 := 0#32
  let v646 : BitVec 1 := Scalar.cmpi .eq arg0 c0_i32_219
  let v647 : BitVec 32 := Scalar.extui v646
  let c0_i32_220 : BitVec 32 := 0#32
  let v648 : BitVec 1 := Scalar.cmpi .ne v647 c0_i32_220
  v648

def k0_cond2 (i : grid0.Coords) : BitVec 1 :=
  let arg0 : BitVec 32 := BitVec.ofNat 32 (i 0).val
  let c0_i32_221 : BitVec 32 := 0#32
  let v649 : BitVec 1 := Scalar.cmpi .sgt arg0 c0_i32_221
  let v650 : BitVec 32 := Scalar.extui v649
  let c0_i32_222 : BitVec 32 := 0#32
  let v651 : BitVec 1 := Scalar.cmpi .ne v650 c0_i32_222
  v651

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c20_i32 : BitVec 32 := 20#32
  let c0_i32_0 : BitVec 32 := 0#32
  ![v1.toNat, c20_i32.toNat]

def cc0_transform_3 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c21_i32 : BitVec 32 := 21#32
  let c0_i32_0 : BitVec 32 := 0#32
  ![v1.toNat, c21_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x8 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S4096x3072 : Shape := ⟨2, ![4096, 3072]⟩
abbrev S4096x32 : Shape := ⟨2, ![4096, 32]⟩
abbrev S8 : Shape := ⟨1, ![8]⟩
abbrev S4096x1024 : Shape := ⟨2, ![4096, 1024]⟩
abbrev S4096x512 : Shape := ⟨2, ![4096, 512]⟩
abbrev S4096x128 : Shape := ⟨2, ![4096, 128]⟩
abbrev S4096x768 : Shape := ⟨2, ![4096, 768]⟩
abbrev S1x4096x12x64 : Shape := ⟨4, ![1, 4096, 12, 64]⟩
abbrev S1x4096x1x32 : Shape := ⟨4, ![1, 4096, 1, 32]⟩
abbrev S1x4096x12x32 : Shape := ⟨4, ![1, 4096, 12, 32]⟩
abbrev S1x4096x2x64 : Shape := ⟨4, ![1, 4096, 2, 64]⟩
abbrev S_ : Shape := ⟨0, ![]⟩
abbrev S1x128x2x64 : Shape := ⟨4, ![1, 128, 2, 64]⟩
abbrev S1x3968x2x64 : Shape := ⟨4, ![1, 3968, 2, 64]⟩
abbrev S1x32x128x2x64 : Shape := ⟨5, ![1, 32, 128, 2, 64]⟩
abbrev S1x32x256x2x64 : Shape := ⟨5, ![1, 32, 256, 2, 64]⟩
abbrev S1x4096x8x64 : Shape := ⟨4, ![1, 4096, 8, 64]⟩
abbrev S1x32x128x2x4x64 : Shape := ⟨6, ![1, 32, 128, 2, 4, 64]⟩
abbrev S1x32x2x256x128x4 : Shape := ⟨6, ![1, 32, 2, 256, 128, 4]⟩
abbrev S1x32x2x4x128x256 : Shape := ⟨6, ![1, 32, 2, 4, 128, 256]⟩
abbrev S32x128x256 : Shape := ⟨3, ![32, 128, 256]⟩
abbrev S1x32x1x1x128x256 : Shape := ⟨6, ![1, 32, 1, 1, 128, 256]⟩
abbrev S1x1x2x4x1x1 : Shape := ⟨6, ![1, 1, 2, 4, 1, 1]⟩
abbrev S1x32x2x4x128x1 : Shape := ⟨6, ![1, 32, 2, 4, 128, 1]⟩
abbrev S1x32x2x4x128x257 : Shape := ⟨6, ![1, 32, 2, 4, 128, 257]⟩
abbrev S1x32x2x4x128 : Shape := ⟨5, ![1, 32, 2, 4, 128]⟩
abbrev S1x32x2x64x4x128 : Shape := ⟨6, ![1, 32, 2, 64, 4, 128]⟩
abbrev S1x4096x512 : Shape := ⟨3, ![1, 4096, 512]⟩
abbrev S1x32x2x64x256 : Shape := ⟨5, ![1, 32, 2, 64, 256]⟩
abbrev S32x2x4x128 : Shape := ⟨4, ![32, 2, 4, 128]⟩
abbrev S2x4 : Shape := ⟨2, ![2, 4]⟩
abbrev S1x32x2x128x4x64 : Shape := ⟨6, ![1, 32, 2, 128, 4, 64]⟩
abbrev S1x32x2x256x64 : Shape := ⟨5, ![1, 32, 2, 256, 64]⟩
abbrev S4096x2560 : Shape := ⟨2, ![4096, 2560]⟩
abbrev S128x128 : Shape := ⟨2, ![128, 128]⟩
abbrev S3968x128 : Shape := ⟨2, ![3968, 128]⟩
abbrev S1x8 : Shape := ⟨2, ![1, 8]⟩

abbrev nBuf : Space → Nat
  | .hbm => 213
  | .vmem => 0
  | .smem => 0
  | _ => 0

abbrev hbmTy0_0 (i : Nat) : BufTy := match i % 128 with
  | 0 => ⟨S4096x3072, .f32⟩
  | 1 => ⟨S4096x32, .f32⟩
  | 2 => ⟨S4096x32, .f32⟩
  | 3 => ⟨S8, .f32⟩
  | 4 => ⟨S4096x1024, .f32⟩
  | 5 => ⟨S4096x512, .f32⟩
  | 6 => ⟨S4096x128, .f32⟩
  | 7 => ⟨S4096x128, .f32⟩
  | 8 => ⟨S4096x768, .f32⟩
  | 9 => ⟨S1x4096x12x64, .f32⟩
  | 10 => ⟨S1x4096x1x32, .f32⟩
  | 11 => ⟨S1x4096x1x32, .f32⟩
  | 12 => ⟨S1x4096x12x32, .f32⟩
  | 13 => ⟨S1x4096x12x32, .f32⟩
  | 14 => ⟨S1x4096x12x32, .f32⟩
  | 15 => ⟨S1x4096x12x32, .f32⟩
  | 16 => ⟨S1x4096x12x32, .f32⟩
  | 17 => ⟨S1x4096x12x32, .f32⟩
  | 18 => ⟨S1x4096x12x32, .f32⟩
  | 19 => ⟨S1x4096x12x32, .f32⟩
  | 20 => ⟨S1x4096x12x32, .f32⟩
  | 21 => ⟨S1x4096x12x32, .f32⟩
  | 22 => ⟨S1x4096x12x32, .f32⟩
  | 23 => ⟨S1x4096x12x32, .f32⟩
  | 24 => ⟨S1x4096x12x64, .f32⟩
  | 25 => ⟨S1x4096x2x64, .f32⟩
  | 26 => ⟨S1x4096x2x64, .f32⟩
  | 27 => ⟨S_, .f32⟩
  | 28 => ⟨S1x128x2x64, .f32⟩
  | 29 => ⟨S1x3968x2x64, .f32⟩
  | 30 => ⟨S1x4096x2x64, .f32⟩
  | 31 => ⟨S_, .f32⟩
  | 32 => ⟨S1x128x2x64, .f32⟩
  | 33 => ⟨S1x32x128x2x64, .f32⟩
  | 34 => ⟨S1x32x128x2x64, .f32⟩
  | 35 => ⟨S1x32x256x2x64, .f32⟩
  | 36 => ⟨S1x4096x2x64, .f32⟩
  | 37 => ⟨S1x4096x2x64, .f32⟩
  | 38 => ⟨S_, .f32⟩
  | 39 => ⟨S1x128x2x64, .f32⟩
  | 40 => ⟨S1x3968x2x64, .f32⟩
  | 41 => ⟨S1x4096x2x64, .f32⟩
  | 42 => ⟨S_, .f32⟩
  | 43 => ⟨S1x128x2x64, .f32⟩
  | 44 => ⟨S1x32x128x2x64, .f32⟩
  | 45 => ⟨S1x32x128x2x64, .f32⟩
  | 46 => ⟨S1x32x256x2x64, .f32⟩
  | 47 => ⟨S1x4096x8x64, .f32⟩
  | 48 => ⟨S1x32x128x2x4x64, .f32⟩
  | 49 => ⟨S1x32x2x256x128x4, .f32⟩
  | 50 => ⟨S1x32x2x4x128x256, .f32⟩
  | 51 => ⟨S_, .f32⟩
  | 52 => ⟨S1x32x2x4x128x256, .f32⟩
  | 53 => ⟨S1x32x2x4x128x256, .f32⟩
  | 54 => ⟨S32x128x256, .i32⟩
  | 55 => ⟨S32x128x256, .i32⟩
  | 56 => ⟨S32x128x256, .i32⟩
  | 57 => ⟨S_, .i32⟩
  | 58 => ⟨S32x128x256, .i32⟩
  | 59 => ⟨S32x128x256, .i32⟩
  | 60 => ⟨S32x128x256, .i32⟩
  | 61 => ⟨S_, .i32⟩
  | 62 => ⟨S32x128x256, .i32⟩
  | 63 => ⟨S32x128x256, .i1⟩
  | 64 => ⟨S_, .i32⟩
  | 65 => ⟨S32x128x256, .i32⟩
  | 66 => ⟨S32x128x256, .i1⟩
  | 67 => ⟨S32x128x256, .i1⟩
  | 68 => ⟨S_, .i32⟩
  | 69 => ⟨S32x128x256, .i32⟩
  | 70 => ⟨S32x128x256, .i32⟩
  | 71 => ⟨S_, .i32⟩
  | 72 => ⟨S32x128x256, .i32⟩
  | 73 => ⟨S32x128x256, .i32⟩
  | 74 => ⟨S32x128x256, .i32⟩
  | 75 => ⟨S_, .i32⟩
  | 76 => ⟨S32x128x256, .i32⟩
  | 77 => ⟨S32x128x256, .i1⟩
  | 78 => ⟨S32x128x256, .i1⟩
  | 79 => ⟨S1x32x1x1x128x256, .i1⟩
  | 80 => ⟨S_, .f32⟩
  | 81 => ⟨S_, .f32⟩
  | 82 => ⟨S1x32x2x4x128x256, .i1⟩
  | 83 => ⟨S1x32x2x4x128x256, .f32⟩
  | 84 => ⟨S1x32x2x4x128x256, .f32⟩
  | 85 => ⟨S_, .f32⟩
  | 86 => ⟨S1x32x2x4x128x256, .f32⟩
  | 87 => ⟨S1x1x2x4x1x1, .f32⟩
  | 88 => ⟨S1x32x2x4x128x1, .f32⟩
  | 89 => ⟨S1x32x2x4x128x257, .f32⟩
  | 90 => ⟨S_, .f32⟩
  | 91 => ⟨S1x32x2x4x128, .f32⟩
  | 92 => ⟨S1x32x2x4x128x1, .f32⟩
  | 93 => ⟨S1x32x2x4x128x257, .f32⟩
  | 94 => ⟨S1x32x2x4x128x257, .f32⟩
  | 95 => ⟨S1x32x2x4x128x257, .f32⟩
  | 96 => ⟨S_, .f32⟩
  | 97 => ⟨S1x32x2x4x128, .f32⟩
  | 98 => ⟨S1x32x2x4x128x1, .f32⟩
  | 99 => ⟨S1x32x2x4x128x257, .f32⟩
  | 100 => ⟨S1x32x2x4x128x257, .f32⟩
  | 101 => ⟨S1x32x2x4x128x1, .f32⟩
  | 102 => ⟨S_, .f32⟩
  | 103 => ⟨S1x32x2x4x128x1, .f32⟩
  | 104 => ⟨S1x32x2x4x128x1, .f32⟩
  | 105 => ⟨S1x32x2x4x128x256, .f32⟩
  | 106 => ⟨S1x32x2x64x4x128, .f32⟩
  | 107 => ⟨S1x32x128x2x4x64, .f32⟩
  | 108 => ⟨S1x4096x512, .f32⟩
  | 109 => ⟨S4096x512, .f32⟩
  | 110 => ⟨S4096x512, .f32⟩
  | 111 => ⟨S1x4096x512, .f32⟩
  | 112 => ⟨S1x32x128x2x4x64, .f32⟩
  | 113 => ⟨S1x32x2x64x4x128, .f32⟩
  | 114 => ⟨S1x32x2x4x128x256, .f32⟩
  | 115 => ⟨S1x32x2x64x256, .f32⟩
  | 116 => ⟨S1x32x256x2x64, .f32⟩
  | 117 => ⟨S_, .f32⟩
  | 118 => ⟨S1x32x2x4x128x257, .f32⟩
  | 119 => ⟨S1x32x2x4x128x257, .f32⟩
  | 120 => ⟨S1x32x2x4x128x257, .f32⟩
  | 121 => ⟨S1x32x2x4x128x257, .f32⟩
  | 122 => ⟨S_, .f32⟩
  | 123 => ⟨S1x32x2x4x128, .f32⟩
  | 124 => ⟨S1x32x2x4x128x1, .f32⟩
  | 125 => ⟨S1x32x2x4x128x1, .f32⟩
  | 126 => ⟨S1x32x2x4x128x257, .f32⟩
  | 127 => ⟨S1x32x2x4x128x257, .f32⟩
  | _ => ⟨S4096x3072, .f32⟩

abbrev hbmTy0_1 (i : Nat) : BufTy := match i % 128 with
  | 0 => ⟨S_, .f32⟩
  | 1 => ⟨S32x2x4x128, .f32⟩
  | 2 => ⟨S1x32x2x4x128, .f32⟩
  | 3 => ⟨S1x32x2x4x128x257, .f32⟩
  | 4 => ⟨S1x32x2x4x128x257, .f32⟩
  | 5 => ⟨S1x32x2x4x128x257, .f32⟩
  | 6 => ⟨S1x32x2x4x128x256, .f32⟩
  | 7 => ⟨S1x32x2x4x128x1, .f32⟩
  | 8 => ⟨S_, .f32⟩
  | 9 => ⟨S2x4, .f32⟩
  | 10 => ⟨S1x1x2x4x1x1, .f32⟩
  | 11 => ⟨S8, .f32⟩
  | 12 => ⟨S_, .f32⟩
  | 13 => ⟨S1x32x2x4x128x256, .f32⟩
  | 14 => ⟨S1x32x2x4x128x256, .f32⟩
  | 15 => ⟨S_, .f32⟩
  | 16 => ⟨S1x32x2x4x128x256, .f32⟩
  | 17 => ⟨S1x32x2x4x128x256, .f32⟩
  | 18 => ⟨S1x32x2x256x128x4, .f32⟩
  | 19 => ⟨S1x32x2x128x4x64, .f32⟩
  | 20 => ⟨S1x32x128x2x4x64, .f32⟩
  | 21 => ⟨S1x32x2x256x64, .f32⟩
  | 22 => ⟨S1x32x256x2x64, .f32⟩
  | 23 => ⟨S1x4096x8x64, .f32⟩
  | 24 => ⟨S_, .f32⟩
  | 25 => ⟨S1x4096x12x64, .f32⟩
  | 26 => ⟨S1x32x128x2x64, .f32⟩
  | 27 => ⟨S1x32x128x2x64, .f32⟩
  | 28 => ⟨S1x4096x2x64, .f32⟩
  | 29 => ⟨S1x4096x2x64, .f32⟩
  | 30 => ⟨S1x128x2x64, .f32⟩
  | 31 => ⟨S1x3968x2x64, .f32⟩
  | 32 => ⟨S_, .f32⟩
  | 33 => ⟨S1x4096x2x64, .f32⟩
  | 34 => ⟨S4096x128, .f32⟩
  | 35 => ⟨S4096x128, .f32⟩
  | 36 => ⟨S1x32x128x2x64, .f32⟩
  | 37 => ⟨S1x32x128x2x64, .f32⟩
  | 38 => ⟨S1x4096x2x64, .f32⟩
  | 39 => ⟨S1x4096x2x64, .f32⟩
  | 40 => ⟨S1x128x2x64, .f32⟩
  | 41 => ⟨S1x3968x2x64, .f32⟩
  | 42 => ⟨S_, .f32⟩
  | 43 => ⟨S1x4096x2x64, .f32⟩
  | 44 => ⟨S_, .f32⟩
  | 45 => ⟨S1x4096x12x64, .f32⟩
  | 46 => ⟨S1x4096x12x64, .f32⟩
  | 47 => ⟨S_, .f32⟩
  | 48 => ⟨S1x4096x12x64, .f32⟩
  | 49 => ⟨S1x4096x12x64, .f32⟩
  | 50 => ⟨S1x4096x12x32, .f32⟩
  | 51 => ⟨S1x4096x12x32, .f32⟩
  | 52 => ⟨S1x4096x12x32, .f32⟩
  | 53 => ⟨S1x4096x12x32, .f32⟩
  | 54 => ⟨S1x4096x12x32, .f32⟩
  | 55 => ⟨S1x4096x12x32, .f32⟩
  | 56 => ⟨S1x4096x12x32, .f32⟩
  | 57 => ⟨S1x4096x12x32, .f32⟩
  | 58 => ⟨S1x4096x12x32, .f32⟩
  | 59 => ⟨S1x4096x12x32, .f32⟩
  | 60 => ⟨S1x4096x12x32, .f32⟩
  | 61 => ⟨S1x4096x12x32, .f32⟩
  | 62 => ⟨S1x4096x12x32, .f32⟩
  | 63 => ⟨S_, .f32⟩
  | 64 => ⟨S1x4096x12x64, .f32⟩
  | 65 => ⟨S_, .f32⟩
  | 66 => ⟨S1x4096x12x64, .f32⟩
  | 67 => ⟨S1x4096x12x64, .f32⟩
  | 68 => ⟨S4096x768, .f32⟩
  | 69 => ⟨S4096x512, .f32⟩
  | 70 => ⟨S4096x128, .f32⟩
  | 71 => ⟨S4096x128, .f32⟩
  | 72 => ⟨S_, .f32⟩
  | 73 => ⟨S4096x2560, .f32⟩
  | 74 => ⟨S4096x3072, .f32⟩
  | 75 => ⟨S4096x3072, .bf16⟩
  | 76 => ⟨S_, .f32⟩
  | 77 => ⟨S128x128, .f32⟩
  | 78 => ⟨S3968x128, .f32⟩
  | 79 => ⟨S4096x128, .f32⟩
  | 80 => ⟨S_, .f32⟩
  | 81 => ⟨S128x128, .f32⟩
  | 82 => ⟨S3968x128, .f32⟩
  | 83 => ⟨S4096x128, .f32⟩
  | 84 => ⟨S1x8, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_c : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c_4 : Ref sig .tc := ⟨.hbm, 61, rfl⟩
abbrev main_v50 : Ref sig .tc := ⟨.hbm, 62, rfl⟩
abbrev main_v51 : Ref sig .tc := ⟨.hbm, 63, rfl⟩
abbrev main_c_5 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_c_6 : Ref sig .tc := ⟨.hbm, 68, rfl⟩
abbrev main_v55 : Ref sig .tc := ⟨.hbm, 69, rfl⟩
abbrev main_v56 : Ref sig .tc := ⟨.hbm, 70, rfl⟩
abbrev main_c_7 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_c_8 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_9 : Ref sig .tc := ⟨.hbm, 80, rfl⟩
abbrev main_call0_v0 : Ref sig .tc := ⟨.hbm, 81, rfl⟩
abbrev main_v64_1 : Ref sig .tc := ⟨.hbm, 82, rfl⟩
abbrev main_call0_v2 : Ref sig .tc := ⟨.hbm, 83, rfl⟩
abbrev main_v64_0 : Ref sig .tc := ⟨.hbm, 84, rfl⟩
abbrev main_call0_cst : Ref sig .tc := ⟨.hbm, 85, rfl⟩
abbrev main_v64_2 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_10 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_11 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_13 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_14 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_15 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_cst_16 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_call1_cst : Ref sig .tc := ⟨.hbm, 140, rfl⟩
abbrev main_call1_v0 : Ref sig .tc := ⟨.hbm, 141, rfl⟩
abbrev main_v111 : Ref sig .tc := ⟨.hbm, 142, rfl⟩
abbrev main_cst_17 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_18 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_19 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_20 : Ref sig .tc := ⟨.hbm, 170, rfl⟩
abbrev main_v136 : Ref sig .tc := ⟨.hbm, 171, rfl⟩
abbrev main_cst_21 : Ref sig .tc := ⟨.hbm, 172, rfl⟩
abbrev main_v137 : Ref sig .tc := ⟨.hbm, 173, rfl⟩
abbrev main_v138 : Ref sig .tc := ⟨.hbm, 174, rfl⟩
abbrev main_cst_22 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_cst_23 : Ref sig .tc := ⟨.hbm, 191, rfl⟩
abbrev main_v154 : Ref sig .tc := ⟨.hbm, 192, rfl⟩
abbrev main_cst_24 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_cst_25 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_cst_26 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_cst_27 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩

abbrev nD : Nat := 1
abbrev τ : Topo := Topo.v7x

variable {F : FTy → Type} [FloatOps F]
-- ==== DownDx.lean ====
abbrev S4096x4096 : Shape := ⟨2, ![4096, 4096]⟩
abbrev S4096x1024 : Shape := ⟨2, ![4096, 1024]⟩
abbrev S1x4096x1024 : Shape := ⟨3, ![1, 4096, 1024]⟩
abbrev S1x4x1024x1024 : Shape := ⟨4, ![1, 4, 1024, 1024]⟩
abbrev S4x1x1024x1024 : Shape := ⟨4, ![4, 1, 1024, 1024]⟩
abbrev S1024x1024 : Shape := ⟨2, ![1024, 1024]⟩
abbrev S1x1x1024x1024 : Shape := ⟨4, ![1, 1, 1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .hbm, ⟨3, _⟩ => ⟨S1x4096x1024, .bf16⟩
  | .hbm, ⟨4, _⟩ => ⟨S1x4x1024x1024, .bf16⟩
  | .hbm, ⟨5, _⟩ => ⟨S4x1x1024x1024, .bf16⟩
  | .hbm, ⟨6, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== UpDx.lean ====
abbrev S4096x4096 : Shape := ⟨2, ![4096, 4096]⟩
abbrev S4096x1024 : Shape := ⟨2, ![4096, 1024]⟩
abbrev S1024x4096 : Shape := ⟨2, ![1024, 4096]⟩
abbrev S1x1024x4096 : Shape := ⟨3, ![1, 1024, 4096]⟩
abbrev S1x1024x4x1024 : Shape := ⟨4, ![1, 1024, 4, 1024]⟩
abbrev S4x1x1024x1024 : Shape := ⟨4, ![4, 1, 1024, 1024]⟩
abbrev S512x4096 : Shape := ⟨2, ![512, 4096]⟩
abbrev S512x1024 : Shape := ⟨2, ![512, 1024]⟩
abbrev S1x1x1024x1024 : Shape := ⟨4, ![1, 1, 1024, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S1024x4096, .bf16⟩
  | .hbm, ⟨3, _⟩ => ⟨S1x1024x4096, .bf16⟩
  | .hbm, ⟨4, _⟩ => ⟨S1x1024x4x1024, .bf16⟩
  | .hbm, ⟨5, _⟩ => ⟨S4x1x1024x1024, .bf16⟩
  | .hbm, ⟨6, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4x1x1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== UpDxRefIdeal.lean ====
abbrev S4096x4096 : Shape := ⟨2, ![4096, 4096]⟩
abbrev S4096x1024 : Shape := ⟨2, ![4096, 1024]⟩
abbrev S1024x4096 : Shape := ⟨2, ![1024, 4096]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S1024x4096, .bf16⟩
  | .hbm, ⟨3, _⟩ => ⟨S_, .f32⟩
  | .hbm, ⟨4, _⟩ => ⟨S4096x1024, .f32⟩
  | .hbm, ⟨5, _⟩ => ⟨S1024x4096, .f32⟩
  | .hbm, ⟨6, _⟩ => ⟨S4096x4096, .f32⟩
  | .hbm, ⟨7, _⟩ => ⟨S4096x4096, .f32⟩
  | .hbm, ⟨8, _⟩ => ⟨S4096x1024, .f32⟩
  | .hbm, ⟨9, _⟩ => ⟨S_, .bf16⟩
  | .hbm, ⟨10, _⟩ => ⟨S4096x1024, .bf16⟩
  | .hbm, ⟨11, _⟩ => ⟨S4096x1024, .bf16⟩
  | .hbm, ⟨12, _⟩ => ⟨S4096x1024, .f32⟩
  | .hbm, ⟨13, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== DownDw.lean ====
abbrev S4096x4096 : Shape := ⟨2, ![4096, 4096]⟩
abbrev S4096x1024 : Shape := ⟨2, ![4096, 1024]⟩
abbrev S4x1x1024x1024 : Shape := ⟨4, ![4, 1, 1024, 1024]⟩
abbrev S4096x512 : Shape := ⟨2, ![4096, 512]⟩
abbrev S1x1x512x1024 : Shape := ⟨4, ![1, 1, 512, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x1x1024x1024, .f32⟩
  | .hbm, ⟨3, _⟩ => ⟨S4x1x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x1x512x1024, .f32⟩
  | .local _ .vmem, ⟨4, _⟩ => ⟨S1x1x512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x4096 : Shape := ⟨2, ![4096, 4096]⟩
abbrev S4096x1024 : Shape := ⟨2, ![4096, 1024]⟩
abbrev S4x1x1024x1024 : Shape := ⟨4, ![4, 1, 1024, 1024]⟩
abbrev S_ : Shape := ⟨0, ![]⟩
abbrev S1024x4096 : Shape := ⟨2, ![1024, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x1x1024x1024, .f32⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x1024, .f32⟩
  | .hbm, ⟨12, _⟩ => ⟨S1024x4096, .f32⟩
  | .hbm, ⟨13, _⟩ => ⟨S4096x1024, .f32⟩
  | .hbm, ⟨14, _⟩ => ⟨S4x1x1024x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== UpDw.lean ====
abbrev S4096x1024 : Shape := ⟨2, ![4096, 1024]⟩
abbrev S4096x4096 : Shape := ⟨2, ![4096, 4096]⟩
abbrev S4x1x1024x1024 : Shape := ⟨4, ![4, 1, 1024, 1024]⟩
abbrev S4096x512 : Shape := ⟨2, ![4096, 512]⟩
abbrev S1x1x512x1024 : Shape := ⟨4, ![1, 1, 512, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1x1024x1024, .f32⟩
  | .hbm, ⟨3, _⟩ => ⟨S4x1x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x1x512x1024, .f32⟩
  | .local _ .vmem, ⟨5, _⟩ => ⟨S1x1x512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x1024 : Shape := ⟨2, ![4096, 1024]⟩
abbrev S4096x4096 : Shape := ⟨2, ![4096, 4096]⟩
abbrev S4x1x1024x1024 : Shape := ⟨4, ![4, 1, 1024, 1024]⟩
abbrev S_ : Shape := ⟨0, ![]⟩
abbrev S1024x4096 : Shape := ⟨2, ![1024, 4096]⟩
abbrev S1024x4x1x1024 : Shape := ⟨4, ![1024, 4, 1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1x1024x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S1024x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S1024x4x1x1024, .f32⟩
  | .hbm, ⟨11, _⟩ => ⟨S4x1x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Up.lean ====
abbrev S4096x1024 : Shape := ⟨2, ![4096, 1024]⟩
abbrev S1024x4096 : Shape := ⟨2, ![1024, 4096]⟩
abbrev S1x1024x4096 : Shape := ⟨3, ![1, 1024, 4096]⟩
abbrev S1x1024x4x1024 : Shape := ⟨4, ![1, 1024, 4, 1024]⟩
abbrev S4x1x1024x1024 : Shape := ⟨4, ![4, 1, 1024, 1024]⟩
abbrev S4096x4096 : Shape := ⟨2, ![4096, 4096]⟩
abbrev S1024x1024 : Shape := ⟨2, ![1024, 1024]⟩
abbrev S1x1x1024x1024 : Shape := ⟨4, ![1, 1, 1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S1x1024x4096, .bf16⟩
  | .hbm, ⟨3, _⟩ => ⟨S1x1024x4x1024, .bf16⟩
  | .hbm, ⟨4, _⟩ => ⟨S4x1x1024x1024, .bf16⟩
  | .hbm, ⟨5, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S4096x4096 : Shape := ⟨2, ![4096, 4096]⟩
abbrev S4096x1024 : Shape := ⟨2, ![4096, 1024]⟩
abbrev S1024 : Shape := ⟨1, ![1024]⟩
abbrev S1x4096x1024 : Shape := ⟨3, ![1, 4096, 1024]⟩
abbrev S1x4x1024x1024 : Shape := ⟨4, ![1, 4, 1024, 1024]⟩
abbrev S4x1x1024x1024 : Shape := ⟨4, ![4, 1, 1024, 1024]⟩
abbrev S1x1024 : Shape := ⟨2, ![1, 1024]⟩
abbrev S512x4096 : Shape := ⟨2, ![512, 4096]⟩
abbrev S512x1024 : Shape := ⟨2, ![512, 1024]⟩
abbrev S4x1024x1024 : Shape := ⟨3, ![4, 1024, 1024]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .hbm, ⟨3, _⟩ => ⟨S1024, .f32⟩
  | .hbm, ⟨4, _⟩ => ⟨S1024, .f32⟩
  | .hbm, ⟨5, _⟩ => ⟨S1x4096x1024, .bf16⟩
  | .hbm, ⟨6, _⟩ => ⟨S1x4x1024x1024, .bf16⟩
  | .hbm, ⟨7, _⟩ => ⟨S4x1x1024x1024, .bf16⟩
  | .hbm, ⟨8, _⟩ => ⟨S1x1024, .f32⟩
  | .hbm, ⟨9, _⟩ => ⟨S1x1024, .f32⟩
  | .hbm, ⟨10, _⟩ => ⟨S4096x1024, .bf16⟩
  | .hbm, ⟨11, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4x1x1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== DownRefIdeal.lean ====
abbrev S4096x4096 : Shape := ⟨2, ![4096, 4096]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .hbm, ⟨3, _⟩ => ⟨S1024, .f32⟩
  | .hbm, ⟨4, _⟩ => ⟨S1024, .f32⟩
  | .hbm, ⟨5, _⟩ => ⟨S_, .bf16⟩
  | .hbm, ⟨6, _⟩ => ⟨S4096x1024, .bf16⟩
  | .hbm, ⟨7, _⟩ => ⟨S4096x1024, .bf16⟩
  | .hbm, ⟨8, _⟩ => ⟨S4096x4096, .f32⟩
  | .hbm, ⟨9, _⟩ => ⟨S4096x1024, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== HybIn.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HybInIdeal.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HybInRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== HybInDw.lean ====
abbrev S4096x1024 : Shape := ⟨2, ![4096, 1024]⟩
abbrev S4096x3072 : Shape := ⟨2, ![4096, 3072]⟩
abbrev S1024x3072 : Shape := ⟨2, ![1024, 3072]⟩
abbrev S4096x512 : Shape := ⟨2, ![4096, 512]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HybInDwIdeal.lean ====
abbrev S4096x1024 : Shape := ⟨2, ![4096, 1024]⟩
abbrev S4096x3072 : Shape := ⟨2, ![4096, 3072]⟩
abbrev S1024x3072 : Shape := ⟨2, ![1024, 3072]⟩
abbrev S4096x512 : Shape := ⟨2, ![4096, 512]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HybInDwRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S4096x3072, .f32⟩
  | .hbm, ⟨4, _⟩ => ⟨S_, .f32⟩
  | .hbm, ⟨5, _⟩ => ⟨S1024x3072, .f32⟩
  | .hbm, ⟨6, _⟩ => ⟨S4096x3072, .f32⟩
  | .hbm, ⟨7, _⟩ => ⟨S3072x1024, .f32⟩
  | .hbm, ⟨8, _⟩ => ⟨S1024x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== HybInDx.lean ====
abbrev S4096x3072 : Shape := ⟨2, ![4096, 3072]⟩
abbrev S1024x3072 : Shape := ⟨2, ![1024, 3072]⟩
abbrev S4096x1024 : Shape := ⟨2, ![4096, 1024]⟩
abbrev S512x3072 : Shape := ⟨2, ![512, 3072]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .bf16⟩
  | .hbm, ⟨3, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HybInDxIdeal.lean ====
abbrev S4096x3072 : Shape := ⟨2, ![4096, 3072]⟩
abbrev S1024x3072 : Shape := ⟨2, ![1024, 3072]⟩
abbrev S4096x1024 : Shape := ⟨2, ![4096, 1024]⟩
abbrev S512x3072 : Shape := ⟨2, ![512, 3072]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .bf16⟩
  | .hbm, ⟨3, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== HybInDxRefIdeal.lean ====
abbrev S4096x3072 : Shape := ⟨2, ![4096, 3072]⟩
abbrev S1024x3072 : Shape := ⟨2, ![1024, 3072]⟩
abbrev S4096x1024 : Shape := ⟨2, ![4096, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .bf16⟩
  | .hbm, ⟨3, _⟩ => ⟨S_, .f32⟩
  | .hbm, ⟨4, _⟩ => ⟨S4096x1024, .f32⟩
  | .hbm, ⟨5, _⟩ => ⟨S1024x3072, .f32⟩
  | .hbm, ⟨6, _⟩ => ⟨S4096x3072, .f32⟩
  | .hbm, ⟨7, _⟩ => ⟨S4096x3072, .f32⟩
  | .hbm, ⟨8, _⟩ => ⟨S4096x1024, .f32⟩
  | .hbm, ⟨9, _⟩ => ⟨S_, .bf16⟩
  | .hbm, ⟨10, _⟩ => ⟨S4096x1024, .bf16⟩
  | .hbm, ⟨11, _⟩ => ⟨S4096x1024, .bf16⟩
  | .hbm, ⟨12, _⟩ => ⟨S4096x1024, .f32⟩
  | .hbm, ⟨13, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== RecIn.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RecInIdeal.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RecInRefIdeal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== RecInDw.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RecInDwIdeal.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RecInDwRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .f32⟩
  | .hbm, ⟨3, _⟩ => ⟨S4096x2048, .f32⟩
  | .hbm, ⟨4, _⟩ => ⟨S_, .f32⟩
  | .hbm, ⟨5, _⟩ => ⟨S1024x2048, .f32⟩
  | .hbm, ⟨6, _⟩ => ⟨S4096x2048, .f32⟩
  | .hbm, ⟨7, _⟩ => ⟨S2048x1024, .f32⟩
  | .hbm, ⟨8, _⟩ => ⟨S1024x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== RecInDx.lean ====
abbrev S4096x2048 : Shape := ⟨2, ![4096, 2048]⟩
abbrev S1024x2048 : Shape := ⟨2, ![1024, 2048]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .hbm, ⟨3, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RecInDxIdeal.lean ====
abbrev S4096x2048 : Shape := ⟨2, ![4096, 2048]⟩
abbrev S1024x2048 : Shape := ⟨2, ![1024, 2048]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .hbm, ⟨3, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RecInDxRefIdeal.lean ====
abbrev S4096x2048 : Shape := ⟨2, ![4096, 2048]⟩
abbrev S1024x2048 : Shape := ⟨2, ![1024, 2048]⟩
abbrev S4096x1024 : Shape := ⟨2, ![4096, 1024]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .hbm, ⟨3, _⟩ => ⟨S_, .f32⟩
  | .hbm, ⟨4, _⟩ => ⟨S4096x1024, .f32⟩
  | .hbm, ⟨5, _⟩ => ⟨S1024x2048, .f32⟩
  | .hbm, ⟨6, _⟩ => ⟨S4096x2048, .f32⟩
  | .hbm, ⟨7, _⟩ => ⟨S4096x2048, .f32⟩
  | .hbm, ⟨8, _⟩ => ⟨S4096x1024, .f32⟩
  | .hbm, ⟨9, _⟩ => ⟨S_, .bf16⟩
  | .hbm, ⟨10, _⟩ => ⟨S4096x1024, .bf16⟩
  | .hbm, ⟨11, _⟩ => ⟨S4096x1024, .bf16⟩
  | .hbm, ⟨12, _⟩ => ⟨S4096x1024, .f32⟩
  | .hbm, ⟨13, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x1024, .bf16⟩
  | .hbm, ⟨8, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== OutIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S4096x1024, .bf16⟩
  | .hbm, ⟨8, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== OutRefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .hbm, ⟨3, _⟩ => ⟨S1024, .f32⟩
  | .hbm, ⟨4, _⟩ => ⟨S1024, .f32⟩
  | .hbm, ⟨5, _⟩ => ⟨S_, .bf16⟩
  | .hbm, ⟨6, _⟩ => ⟨S4096x1024, .bf16⟩
  | .hbm, ⟨7, _⟩ => ⟨S4096x1024, .bf16⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwIdeal.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutDx.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxIdeal.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw1.lean ====
abbrev S4096x4096 : Shape := ⟨2, ![4096, 4096]⟩
abbrev S4096x1024 : Shape := ⟨2, ![4096, 1024]⟩
abbrev S4x3x1024x1024 : Shape := ⟨4, ![4, 3, 1024, 1024]⟩
abbrev S4096x512 : Shape := ⟨2, ![4096, 512]⟩
abbrev S1x1x512x1024 : Shape := ⟨4, ![1, 1, 512, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x3x1024x1024, .f32⟩
  | .hbm, ⟨3, _⟩ => ⟨S4x3x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x1x512x1024, .f32⟩
  | .local _ .vmem, ⟨4, _⟩ => ⟨S1x1x512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDw1Ideal.lean ====
abbrev S4096x4096 : Shape := ⟨2, ![4096, 4096]⟩
abbrev S4096x1024 : Shape := ⟨2, ![4096, 1024]⟩
abbrev S4x3x1024x1024 : Shape := ⟨4, ![4, 3, 1024, 1024]⟩
abbrev S4096x512 : Shape := ⟨2, ![4096, 512]⟩
abbrev S1x1x512x1024 : Shape := ⟨4, ![1, 1, 512, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x3x1024x1024, .f32⟩
  | .hbm, ⟨3, _⟩ => ⟨S4x3x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x1x512x1024, .f32⟩
  | .local _ .vmem, ⟨4, _⟩ => ⟨S1x1x512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDw1RefIdeal.lean ====
abbrev S4096x4096 : Shape := ⟨2, ![4096, 4096]⟩
abbrev S4096x1024 : Shape := ⟨2, ![4096, 1024]⟩
abbrev S4x3x1024x1024 : Shape := ⟨4, ![4, 3, 1024, 1024]⟩
abbrev S_ : Shape := ⟨0, ![]⟩
abbrev S1024x4096 : Shape := ⟨2, ![1024, 4096]⟩
abbrev S4x1x1024x1024 : Shape := ⟨4, ![4, 1, 1024, 1024]⟩
abbrev S4x0x1024x1024 : Shape := ⟨4, ![4, 0, 1024, 1024]⟩
abbrev S4x2x1024x1024 : Shape := ⟨4, ![4, 2, 1024, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x3x1024x1024, .f32⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x1024, .f32⟩
  | .hbm, ⟨12, _⟩ => ⟨S1024x4096, .f32⟩
  | .hbm, ⟨13, _⟩ => ⟨S4096x1024, .f32⟩
  | .hbm, ⟨14, _⟩ => ⟨S4x1x1024x1024, .f32⟩
  | .hbm, ⟨15, _⟩ => ⟨S4x0x1024x1024, .f32⟩
  | .hbm, ⟨16, _⟩ => ⟨S4x2x1024x1024, .f32⟩
  | .hbm, ⟨17, _⟩ => ⟨S4x3x1024x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== UpDw1.lean ====
abbrev S4096x1024 : Shape := ⟨2, ![4096, 1024]⟩
abbrev S4096x4096 : Shape := ⟨2, ![4096, 4096]⟩
abbrev S4x3x1024x1024 : Shape := ⟨4, ![4, 3, 1024, 1024]⟩
abbrev S4096x512 : Shape := ⟨2, ![4096, 512]⟩
abbrev S1x1x512x1024 : Shape := ⟨4, ![1, 1, 512, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x3x1024x1024, .f32⟩
  | .hbm, ⟨3, _⟩ => ⟨S4x3x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x1x512x1024, .f32⟩
  | .local _ .vmem, ⟨5, _⟩ => ⟨S1x1x512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDw1Ideal.lean ====
  let c0_i32_1 : BitVec 32 := 0#32
  ![arg1.toNat, c0_i32.toNat, arg0.toNat, c0_i32_0.toNat]
-- ==== UpDw1RefIdeal.lean ====
abbrev S4096x1024 : Shape := ⟨2, ![4096, 1024]⟩
abbrev S4096x4096 : Shape := ⟨2, ![4096, 4096]⟩
abbrev S4x3x1024x1024 : Shape := ⟨4, ![4, 3, 1024, 1024]⟩
abbrev S_ : Shape := ⟨0, ![]⟩
abbrev S1024x4096 : Shape := ⟨2, ![1024, 4096]⟩
abbrev S1024x4x1x1024 : Shape := ⟨4, ![1024, 4, 1, 1024]⟩
abbrev S4x1x1024x1024 : Shape := ⟨4, ![4, 1, 1024, 1024]⟩
abbrev S4x0x1024x1024 : Shape := ⟨4, ![4, 0, 1024, 1024]⟩
abbrev S4x2x1024x1024 : Shape := ⟨4, ![4, 2, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x3x1024x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S1024x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S1024x4x1x1024, .f32⟩
  | .hbm, ⟨11, _⟩ => ⟨S4x1x1024x1024, .f32⟩
  | .hbm, ⟨12, _⟩ => ⟨S4x0x1024x1024, .f32⟩
  | .hbm, ⟨13, _⟩ => ⟨S4x2x1024x1024, .f32⟩
  | .hbm, ⟨14, _⟩ => ⟨S4x3x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== DownDw2.lean ====
abbrev S4096x4096 : Shape := ⟨2, ![4096, 4096]⟩
abbrev S4096x1024 : Shape := ⟨2, ![4096, 1024]⟩
abbrev S4x3x1024x1024 : Shape := ⟨4, ![4, 3, 1024, 1024]⟩
abbrev S4096x512 : Shape := ⟨2, ![4096, 512]⟩
abbrev S1x1x512x1024 : Shape := ⟨4, ![1, 1, 512, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x3x1024x1024, .f32⟩
  | .hbm, ⟨3, _⟩ => ⟨S4x3x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x1x512x1024, .f32⟩
  | .local _ .vmem, ⟨4, _⟩ => ⟨S1x1x512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, v26.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDw2Ideal.lean ====
abbrev S4096x4096 : Shape := ⟨2, ![4096, 4096]⟩
abbrev S4096x1024 : Shape := ⟨2, ![4096, 1024]⟩
abbrev S4x3x1024x1024 : Shape := ⟨4, ![4, 3, 1024, 1024]⟩
abbrev S4096x512 : Shape := ⟨2, ![4096, 512]⟩
abbrev S1x1x512x1024 : Shape := ⟨4, ![1, 1, 512, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x3x1024x1024, .f32⟩
  | .hbm, ⟨3, _⟩ => ⟨S4x3x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x1x512x1024, .f32⟩
  | .local _ .vmem, ⟨4, _⟩ => ⟨S1x1x512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, v26.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDw2RefIdeal.lean ====
abbrev S4096x4096 : Shape := ⟨2, ![4096, 4096]⟩
abbrev S4096x1024 : Shape := ⟨2, ![4096, 1024]⟩
abbrev S4x3x1024x1024 : Shape := ⟨4, ![4, 3, 1024, 1024]⟩
abbrev S_ : Shape := ⟨0, ![]⟩
abbrev S1024x4096 : Shape := ⟨2, ![1024, 4096]⟩
abbrev S4x1x1024x1024 : Shape := ⟨4, ![4, 1, 1024, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x3x1024x1024, .f32⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x1024, .f32⟩
  | .hbm, ⟨12, _⟩ => ⟨S1024x4096, .f32⟩
  | .hbm, ⟨13, _⟩ => ⟨S4096x1024, .f32⟩
  | .hbm, ⟨14, _⟩ => ⟨S4x1x1024x1024, .f32⟩
  | .hbm, ⟨15, _⟩ => ⟨S4x1x1024x1024, .f32⟩
  | .hbm, ⟨16, _⟩ => ⟨S4x1x1024x1024, .f32⟩
  | .hbm, ⟨17, _⟩ => ⟨S4x3x1024x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== UpDw2.lean ====
abbrev S4096x1024 : Shape := ⟨2, ![4096, 1024]⟩
abbrev S4096x4096 : Shape := ⟨2, ![4096, 4096]⟩
abbrev S4x3x1024x1024 : Shape := ⟨4, ![4, 3, 1024, 1024]⟩
abbrev S4096x512 : Shape := ⟨2, ![4096, 512]⟩
abbrev S1x1x512x1024 : Shape := ⟨4, ![1, 1, 512, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x3x1024x1024, .f32⟩
  | .hbm, ⟨3, _⟩ => ⟨S4x3x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x1x512x1024, .f32⟩
  | .local _ .vmem, ⟨5, _⟩ => ⟨S1x1x512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDw2Ideal.lean ====
  let c1_i32 : BitVec 32 := 1#32
  ![arg1.toNat, c1_i32.toNat, arg0.toNat, c0_i32.toNat]
-- ==== UpDw2RefIdeal.lean ====
abbrev S4096x1024 : Shape := ⟨2, ![4096, 1024]⟩
abbrev S4096x4096 : Shape := ⟨2, ![4096, 4096]⟩
abbrev S4x3x1024x1024 : Shape := ⟨4, ![4, 3, 1024, 1024]⟩
abbrev S_ : Shape := ⟨0, ![]⟩
abbrev S1024x4096 : Shape := ⟨2, ![1024, 4096]⟩
abbrev S1024x4x1x1024 : Shape := ⟨4, ![1024, 4, 1, 1024]⟩
abbrev S4x1x1024x1024 : Shape := ⟨4, ![4, 1, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x3x1024x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S1024x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S1024x4x1x1024, .f32⟩
  | .hbm, ⟨11, _⟩ => ⟨S4x1x1024x1024, .f32⟩
  | .hbm, ⟨12, _⟩ => ⟨S4x1x1024x1024, .f32⟩
  | .hbm, ⟨13, _⟩ => ⟨S4x1x1024x1024, .f32⟩
  | .hbm, ⟨14, _⟩ => ⟨S4x3x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== DownDw3.lean ====
abbrev S4096x4096 : Shape := ⟨2, ![4096, 4096]⟩
abbrev S4096x1024 : Shape := ⟨2, ![4096, 1024]⟩
abbrev S4x3x1024x1024 : Shape := ⟨4, ![4, 3, 1024, 1024]⟩
abbrev S4096x512 : Shape := ⟨2, ![4096, 512]⟩
abbrev S1x1x512x1024 : Shape := ⟨4, ![1, 1, 512, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x3x1024x1024, .f32⟩
  | .hbm, ⟨3, _⟩ => ⟨S4x3x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x1x512x1024, .f32⟩
  | .local _ .vmem, ⟨4, _⟩ => ⟨S1x1x512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  ![v16.toNat, c2_i32_10.toNat, v26.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDw3Ideal.lean ====
abbrev S4096x4096 : Shape := ⟨2, ![4096, 4096]⟩
abbrev S4096x1024 : Shape := ⟨2, ![4096, 1024]⟩
abbrev S4x3x1024x1024 : Shape := ⟨4, ![4, 3, 1024, 1024]⟩
abbrev S4096x512 : Shape := ⟨2, ![4096, 512]⟩
abbrev S1x1x512x1024 : Shape := ⟨4, ![1, 1, 512, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x3x1024x1024, .f32⟩
  | .hbm, ⟨3, _⟩ => ⟨S4x3x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S1x1x512x1024, .f32⟩
  | .local _ .vmem, ⟨4, _⟩ => ⟨S1x1x512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let c0_i32_11 : BitVec 32 := 0#32
  ![v16.toNat, c2_i32_10.toNat, v26.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDw3RefIdeal.lean ====
abbrev S4096x4096 : Shape := ⟨2, ![4096, 4096]⟩
abbrev S4096x1024 : Shape := ⟨2, ![4096, 1024]⟩
abbrev S4x3x1024x1024 : Shape := ⟨4, ![4, 3, 1024, 1024]⟩
abbrev S_ : Shape := ⟨0, ![]⟩
abbrev S1024x4096 : Shape := ⟨2, ![1024, 4096]⟩
abbrev S4x1x1024x1024 : Shape := ⟨4, ![4, 1, 1024, 1024]⟩
abbrev S4x2x1024x1024 : Shape := ⟨4, ![4, 2, 1024, 1024]⟩
abbrev S4x0x1024x1024 : Shape := ⟨4, ![4, 0, 1024, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x3x1024x1024, .f32⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x1024, .f32⟩
  | .hbm, ⟨12, _⟩ => ⟨S1024x4096, .f32⟩
  | .hbm, ⟨13, _⟩ => ⟨S4096x1024, .f32⟩
  | .hbm, ⟨14, _⟩ => ⟨S4x1x1024x1024, .f32⟩
  | .hbm, ⟨15, _⟩ => ⟨S4x2x1024x1024, .f32⟩
  | .hbm, ⟨16, _⟩ => ⟨S4x0x1024x1024, .f32⟩
  | .hbm, ⟨17, _⟩ => ⟨S4x3x1024x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== UpDw3.lean ====
abbrev S4096x1024 : Shape := ⟨2, ![4096, 1024]⟩
abbrev S4096x4096 : Shape := ⟨2, ![4096, 4096]⟩
abbrev S4x3x1024x1024 : Shape := ⟨4, ![4, 3, 1024, 1024]⟩
abbrev S4096x512 : Shape := ⟨2, ![4096, 512]⟩
abbrev S1x1x512x1024 : Shape := ⟨4, ![1, 1, 512, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x3x1024x1024, .f32⟩
  | .hbm, ⟨3, _⟩ => ⟨S4x3x1024x1024, .f32⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x1x512x1024, .f32⟩
  | .local _ .vmem, ⟨5, _⟩ => ⟨S1x1x512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![arg1.toNat, c2_i32.toNat, arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDw3RefIdeal.lean ====
abbrev S4096x1024 : Shape := ⟨2, ![4096, 1024]⟩
abbrev S4096x4096 : Shape := ⟨2, ![4096, 4096]⟩
abbrev S4x3x1024x1024 : Shape := ⟨4, ![4, 3, 1024, 1024]⟩
abbrev S_ : Shape := ⟨0, ![]⟩
abbrev S1024x4096 : Shape := ⟨2, ![1024, 4096]⟩
abbrev S1024x4x1x1024 : Shape := ⟨4, ![1024, 4, 1, 1024]⟩
abbrev S4x1x1024x1024 : Shape := ⟨4, ![4, 1, 1024, 1024]⟩
abbrev S4x2x1024x1024 : Shape := ⟨4, ![4, 2, 1024, 1024]⟩
abbrev S4x0x1024x1024 : Shape := ⟨4, ![4, 0, 1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x3x1024x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S1024x4096, .f32⟩
  | .hbm, ⟨7, _⟩ => ⟨S4096x4096, .f32⟩
  | .hbm, ⟨8, _⟩ => ⟨S4096x1024, .f32⟩
  | .hbm, ⟨9, _⟩ => ⟨S1024x4096, .f32⟩
  | .hbm, ⟨10, _⟩ => ⟨S1024x4x1x1024, .f32⟩
  | .hbm, ⟨11, _⟩ => ⟨S4x1x1024x1024, .f32⟩
  | .hbm, ⟨12, _⟩ => ⟨S4x2x1024x1024, .f32⟩
  | .hbm, ⟨13, _⟩ => ⟨S4x0x1024x1024, .f32⟩
  | .hbm, ⟨14, _⟩ => ⟨S4x3x1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Proof.KernelRunB.lean ====
/- The run of the kernel's body at the grid points 1 … 31: the generated run of this case with a larger budget. -/
module

public import proofs.«01_k».proof.Proof.Gen.KernelIdeal.Frame.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4000000 in
/-- What the body's stores leave in each output's staging memref, as pieces (last first) IN CASE B (`scf.if` 0 not taken, `scf.if` 1 taken: points 1, 2, … 31: 31 of 32), WITH the
    proof that on whole staging memrefs — the inputs' at their contents, the outputs it reads before covering (18) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S128x512 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S8x128 .f32) (harg10 : arg10.IsWhole) (arg11 : Memref sig .tc .vmem S128x512 .f32) (harg11 : arg11.IsWhole) (arg12 : Memref sig .tc .vmem S128x8 .f32) (harg12 : arg12.IsWhole) (arg13 : Memref sig .tc .vmem S128x512 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x8 .f32) (harg19 : arg19.IsWhole) (hc0 : ¬cond0_0 i) (hc1 : cond0_1 i)
    (x0 : Vec F S128x512 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S8x128 .f32) (x10 : Vec F S128x512 .f32) (x11 : Vec F S128x8 .f32) (x12 : Vec F S128x512 .f32) (xo18 : Vec F S1x8 .f32) :
    Σ' (L13 : List (View.Piece (Elt F) S128x512 .bf16)), Σ' (L14 : List (View.Piece (Elt F) S128x128 .f32)), Σ' (L15 : List (View.Piece (Elt F) S128x128 .f32)), Σ' (L16 : List (View.Piece (Elt F) S128x128 .f32)), Σ' (L17 : List (View.Piece (Elt F) S128x128 .f32)), { L18 : List (View.Piece (Elt F) S1x8 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ owns (c : Thread nD τ) arg19 fullShare xo18
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%f18, %hf18, H18⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg19.eq_unread hf18
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18

end Cert.KernelIdeal.Gen

end
-- ==== Proof.KernelFrame.lean ====
/- The frame of the launch: the generated frame, on the run of `KernelRunB`. -/
module

public import proofs.«01_k».proof.Proof.KernelRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (arg1 : Memref sig .tc .vmem S128x512 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S8x128 .f32) (harg10 : arg10.IsWhole) (arg11 : Memref sig .tc .vmem S128x512 .f32) (harg11 : arg11.IsWhole) (arg12 : Memref sig .tc .vmem S128x8 .f32) (harg12 : arg12.IsWhole) (arg13 : Memref sig .tc .vmem S128x512 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x8 .f32) (harg19 : arg19.IsWhole) (hc0 : cond0_0 i) (hc1 : ¬cond0_1 i)
  (x0 : Vec F S128x512 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S8x128 .f32) (x10 : Vec F S128x512 .f32) (x11 : Vec F S128x8 .f32) (x12 : Vec F S128x512 .f32)

/-- Case A's pieces for output 13 cover its block. -/
theorem cover0_A_13 (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).1 S128x512.size (by sl_kernel_rfl) y

/-- What case A leaves in output 13's staging buffer: its pieces read back over junk. -/
def out0_A_13 : Vec F S128x512 .bf16 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).1)

/-- Case A's pieces for output 14 cover its block. -/
theorem cover0_A_14 (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.1 S128x128.size (by sl_kernel_rfl) y

/-- What case A leaves in output 14's staging buffer: its pieces read back over junk. -/
def out0_A_14 : Vec F S128x128 .f32 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.1)

/-- Case A's pieces for output 15 cover its block. -/
theorem cover0_A_15 (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.1 S128x128.size (by sl_kernel_rfl) y

/-- What case A leaves in output 15's staging buffer: its pieces read back over junk. -/
def out0_A_15 : Vec F S128x128 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.1)

/-- Case A's pieces for output 16 cover its block. -/
theorem cover0_A_16 (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.2.1 S128x128.size (by sl_kernel_rfl) y

/-- What case A leaves in output 16's staging buffer: its pieces read back over junk. -/
def out0_A_16 : Vec F S128x128 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.2.1)

/-- Case A's pieces for output 17 cover its block. -/
theorem cover0_A_17 (y : S128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.2.2.1 S128x128.size (by sl_kernel_rfl) y

/-- What case A leaves in output 17's staging buffer: its pieces read back over junk. -/
def out0_A_17 : Vec F S128x128 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.2.2.1)

/-- Case A's pieces for output 18 cover its block. -/
theorem cover0_A_18 (y : S1x8.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.2.2.2.1 S1x8.size (by sl_kernel_rfl) y

/-- What case A leaves in output 18's staging buffer: its pieces read back over junk. -/
def out0_A_18 : Vec F S1x8 .f32 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12).2.2.2.2.2.1)

end

section

variable (c : Dev nD) (i : grid0.Coords) (arg1 : Memref sig .tc .vmem S128x512 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S8x128 .f32) (harg10 : arg10.IsWhole) (arg11 : Memref sig .tc .vmem S128x512 .f32) (harg11 : arg11.IsWhole) (arg12 : Memref sig .tc .vmem S128x8 .f32) (harg12 : arg12.IsWhole) (arg13 : Memref sig .tc .vmem S128x512 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x8 .f32) (harg19 : arg19.IsWhole) (hc0 : ¬cond0_0 i) (hc1 : cond0_1 i)
  (x0 : Vec F S128x512 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S8x128 .f32) (x10 : Vec F S128x512 .f32) (x11 : Vec F S128x8 .f32) (x12 : Vec F S128x512 .f32) (xo18 : Vec F S1x8 .f32)

/-- Case B's pieces for output 13 cover its block. -/
theorem cover0_B_13 (y : S128x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18).1 S128x512.size (by sl_kernel_rfl) y

/-- What case B leaves in output 13's staging buffer: its pieces read back over junk. -/
def out0_B_13 : Vec F S128x512 .bf16 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18).1)

/-- Case B's pieces for output 14 cover its block. -/
theorem cover0_B_14 (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18).2.1 S128x128.size (by sl_kernel_rfl) y

/-- What case B leaves in output 14's staging buffer: its pieces read back over junk. -/
def out0_B_14 : Vec F S128x128 .f32 :=
  VO0_14.read (Elt F) (VO0_14.writes (Elt F) VO0_14.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18).2.1)

/-- Case B's pieces for output 15 cover its block. -/
theorem cover0_B_15 (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18).2.2.1 S128x128.size (by sl_kernel_rfl) y

/-- What case B leaves in output 15's staging buffer: its pieces read back over junk. -/
def out0_B_15 : Vec F S128x128 .f32 :=
  VO0_15.read (Elt F) (VO0_15.writes (Elt F) VO0_15.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18).2.2.1)

/-- Case B's pieces for output 16 cover its block. -/
theorem cover0_B_16 (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18).2.2.2.1 S128x128.size (by sl_kernel_rfl) y

/-- What case B leaves in output 16's staging buffer: its pieces read back over junk. -/
def out0_B_16 : Vec F S128x128 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18).2.2.2.1)

/-- Case B's pieces for output 17 cover its block. -/
theorem cover0_B_17 (y : S128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18).2.2.2.2.1 S128x128.size (by sl_kernel_rfl) y

/-- What case B leaves in output 17's staging buffer: its pieces read back over junk. -/
def out0_B_17 : Vec F S128x128 .f32 :=
  VO0_17.read (Elt F) (VO0_17.writes (Elt F) VO0_17.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18).2.2.2.2.1)

/-- Case B's pieces for output 18 cover its block. -/
theorem cover0_B_18 (y : S1x8.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18).2.2.2.2.2.1 S1x8.size (by sl_kernel_rfl) y

/-- What case B leaves in output 18's staging buffer: its pieces read back over junk. -/
def out0_B_18 : Vec F S1x8 .f32 :=
  VO0_18.read (Elt F) (VO0_18.writes (Elt F) VO0_18.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18).2.2.2.2.2.1)

end

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S128x512 .bf16 × Vec F S128x128 .f32 × Vec F S128x128 .f32 × Vec F S128x128 .f32 × Vec F S128x128 .f32 × Vec F S1x8 .f32
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_17 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), out0_A_18 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩))
  | n + 1, hn =>
    if h0 : (n + 1) % 32 = 0 then
      if h1 : 1 ≤ (n + 1) then
        False.elim (by have hN : n + 1 < 32 := lt_of_lt_of_eq hn (show cfg0.N = 32 from N_0); omega)
      else
        (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), out0_A_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩))
    else
      if h1 : 1 ≤ (n + 1) then
        (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.2, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.2, out0_B_17 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.2, out0_B_18 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2.2.2.2.2)
      else
        False.elim (by have hN : n + 1 < 32 := lt_of_lt_of_eq hn (show cfg0.N = 32 from N_0); omega)

/-- `outsAt0` at a point of case A: that case's contents. -/
theorem outsAt0_A (c : Dev nD) (t : Fin cfg0.N) (h0 : t.val % 32 = 0) (h1 : ¬1 ≤ t.val) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : 1 ≤ t.val) :
    outsAt0 m c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨16, _⟩ => (outsAt0 m c t.val t.isLt).2.2.2.1
    | ⟨17, _⟩ => (outsAt0 m c t.val t.isLt).2.2.2.2.1
    | ⟨18, _⟩ => (outsAt0 m c t.val t.isLt).2.2.2.2.2
    | ⟨_ + 19, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]
theorem after0_15 (c : Dev nD) (t : Fin cfg0.N) : (dats m 0 c).after 15 t = (outsAt0 m c t.val t.isLt).2.2.1 := by dsimp only [dats]
theorem after0_16 (c : Dev nD) (t : Fin cfg0.N) : (dats m 0 c).after 16 t = (outsAt0 m c t.val t.isLt).2.2.2.1 := by dsimp only [dats]
theorem after0_17 (c : Dev nD) (t : Fin cfg0.N) : (dats m 0 c).after 17 t = (outsAt0 m c t.val t.isLt).2.2.2.2.1 := by dsimp only [dats]
theorem after0_18 (c : Dev nD) (t : Fin cfg0.N) : (dats m 0 c).after 18 t = (outsAt0 m c t.val t.isLt).2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- Output 18's contents CARRY through the points that leave it idle: at such a point, its buffer not fresh, the proof data's
    `after` is the point before's (the case there stores nothing into the window and its term says so; a case that stores
    into it is not idle there by `liveAt0_18_κ`) — the hypothesis of Lib/Pipeline/TableIdle.lean `Dat.before_out_traj`. -/
theorem hcarry0_18 (c : Dev nD) : ∀ (t : Fin cfg0.N) (_ : t.val ≠ 0), cfg0.idle 18 (grid0.coords t) = true → cfg0.fresh 18 t.val = false →
    (dats m 0 c).after 18 t = (dats m 0 c).after 18 ⟨t.val - 1, by omega⟩ := by
  intro t _ hi _
  have hN : t.val < 32 := lt_of_lt_of_eq t.isLt (show cfg0.N = 32 from N_0)
  rw [after0_18, after0_18]
  by_cases h0 : t.val % 32 = 0
  · by_cases h1 : 1 ≤ t.val
    · exfalso; omega
    · rw [liveAt0_18_A t ((hcond0_0 t).mpr h0) (fun h => h1 ((hcond0_1 t).mp h))] at hi
      exact absurd hi Bool.false_ne_true
  · by_cases h1 : 1 ≤ t.val
    · rw [liveAt0_18_B t (fun h => h0 ((hcond0_0 t).mp h)) ((hcond0_1 t).mpr h1)] at hi
      exact absurd hi Bool.false_ne_true
    · exfalso; omega
/-- At a point of case B output 18's current staging buffer holds what the point before left: the buffer is not fresh
    there (`notFresh0_18_B`: stored into since the region's entry or the last write-back, carried through the points that
    leave it idle by `hcarry0_18`; Lib/Pipeline/TableIdle.lean `Dat.before_out_traj`). -/
theorem before0_18_B (c : Dev nD) (t : Fin cfg0.N) (h0 : ¬t.val % 32 = 0) (h1 : 1 ≤ t.val) (d) :
    (dats m 0 c).before 18 t d = (outsAt0 m c (t.val - 1) (Nat.lt_of_le_of_lt (Nat.sub_le _ _) t.isLt)).2.2.2.2.2 := by
  rw [Dat.before_out_traj _ 18 rfl (fun _ _ => rfl) (hcarry0_18 m c) t.val t rfl d,
    if_neg (by rw [notFresh0_18_B t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

set_option maxHeartbeats 3200000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  by_cases h0 : t.val % 32 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18_A t ((hcond0_0 t).mpr h0) (fun h => h1 ((hcond0_1 t).mp h))], after0_18]
      rw [outsAt0_A m c t h0 h1]
      unfold out0_A_13 out0_A_14 out0_A_15 out0_A_16 out0_A_17 out0_A_18; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_A c (grid0.coords t) _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H18
      ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _)
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18_B t (fun h => h0 ((hcond0_0 t).mp h)) ((hcond0_1 t).mpr h1)], after0_18]
      rw [outsAt0_B m c t h0 h1]
      simp only [before0_18_B m c t h0 h1]
      unfold out0_B_13 out0_B_14 out0_B_15 out0_B_16 out0_B_17 out0_B_18; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_B c (grid0.coords t) _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexact H18
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H18
      ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.KernelSame.lean ====
/- The kernel and its ideal reading have the same text, so the run of the one is the run of the other. -/
module

public import proofs.«01_k».proof.Defs
public import proofs.«01_k».proof.Proof.Gen.Kernel
public import proofs.«01_k».proof.Proof.KernelFrame

@[expose] public section

set_option maxHeartbeats 4000000

noncomputable section

namespace Cert.Kernel.Same

open Idealize.ShloMosaic Idealize.SL.Sem

variable {F : FTy → Type} [FloatOps F]

theorem main_same : Cert.Kernel.main (F := F) = Cert.KernelIdeal.main (F := F) := rfl

theorem body_same : Cert.Kernel.cc0_attn_bwd (F := F) = Cert.KernelIdeal.cc0_attn_bwd (F := F) := rfl

theorem table_same : Cert.Kernel.defs₀ (F := F) = Cert.KernelIdeal.defs₀ (F := F) := by
  refine congrArg Defs.onTc (funext fun l => funext fun a => ?_)
  match l, a with
  | 0, (t, s) => rfl

theorem defs_same : Cert.Kernel.defs (F := F) = Cert.KernelIdeal.defs (F := F) :=
  congrArg (Pipeline.defs (Cert.Kernel.pcfgs (F := F))) table_same

/-- The kernel's frame. -/
theorem frame_kernel : Cert.quiescent_Kernel := by
  intro m ρ _
  rw [defs_same, main_same]
  exact Cert.KernelIdeal.Gen.frame (F := Bits) m ρ

end Cert.Kernel.Same

end
-- ==== Proof.KernelValue.lean ====
/- The arrays the launch leaves, block by block: the generated modules of values, on the frame of `KernelFrame`. -/
module

public import proofs.«01_k».proof.Proof.KernelFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 13's array: the run's contents for that window after the body (`Gen.outsAt0`: its component 0), read through the window's block. -/
theorem flushed13 (c : Dev nD) (t : Fin cfg0.N) :
    (dats m 0 c).flushed 13 t = (cfg0.win 13).cut (grid0.coords t) ((outsAt0 m c t.val t.isLt).1) := by
  show (cfg0.win 13).cut (grid0.coords t) ((dats m 0 c).after 13 t) = _
  rw [after0_13]

/-- … so at a point where case A runs, what its write-back would write is that case's NAMED TERM for the window (`Gen.out0_A_13`: the pieces
    its run found, read back) at the point's memrefs and input blocks, and for an output the case reads back what the point before left (`Gen.outsAt0` at `t - 1`) — by the frame's rewriting lemma for the case. -/
theorem flushed13_A (c : Dev nD) (t : Fin cfg0.N) (h0 : t.val % 32 = 0) (h1 : ¬1 ≤ t.val) :
    (dats m 0 c).flushed 13 t = (cfg0.win 13).cut (grid0.coords t) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed13, outsAt0_A m c t h0 h1]

/-- … so at a point where case B runs, what its write-back would write is that case's NAMED TERM for the window (`Gen.out0_B_13`: the pieces
    its run found, read back) at the point's memrefs and input blocks, and for an output the case reads back what the point before left (`Gen.outsAt0` at `t - 1`) — by the frame's rewriting lemma for the case. -/
theorem flushed13_B (c : Dev nD) (t : Fin cfg0.N) (h0 : ¬t.val % 32 = 0) (h1 : 1 ≤ t.val) :
    (dats m 0 c).flushed 13 t = (cfg0.win 13).cut (grid0.coords t) (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2) := by
  simp only [flushed13, outsAt0_B m c t h0 h1]

/-- The index map sends distinct grid points to distinct block indices (decided over the 32 points). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S4096x3072.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- WHAT POINT `t` WRITES BACK to output window 14's array: the run's contents for that window after the body (`Gen.outsAt0`: its component 1), read through the window's block. -/
theorem flushed14 (c : Dev nD) (t : Fin cfg0.N) :
    (dats m 0 c).flushed 14 t = (cfg0.win 14).cut (grid0.coords t) ((outsAt0 m c t.val t.isLt).2.1) := by
  show (cfg0.win 14).cut (grid0.coords t) ((dats m 0 c).after 14 t) = _
  rw [after0_14]

/-- … so at a point where case A runs, what its write-back would write is that case's NAMED TERM for the window (`Gen.out0_A_14`: the pieces
    its run found, read back) at the point's memrefs and input blocks, and for an output the case reads back what the point before left (`Gen.outsAt0` at `t - 1`) — by the frame's rewriting lemma for the case. -/
theorem flushed14_A (c : Dev nD) (t : Fin cfg0.N) (h0 : t.val % 32 = 0) (h1 : ¬1 ≤ t.val) :
    (dats m 0 c).flushed 14 t = (cfg0.win 14).cut (grid0.coords t) (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed14, outsAt0_A m c t h0 h1]

/-- … so at a point where case B runs, what its write-back would write is that case's NAMED TERM for the window (`Gen.out0_B_14`: the pieces
    its run found, read back) at the point's memrefs and input blocks, and for an output the case reads back what the point before left (`Gen.outsAt0` at `t - 1`) — by the frame's rewriting lemma for the case. -/
theorem flushed14_B (c : Dev nD) (t : Fin cfg0.N) (h0 : ¬t.val % 32 = 0) (h1 : 1 ≤ t.val) :
    (dats m 0 c).flushed 14 t = (cfg0.win 14).cut (grid0.coords t) (out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2) := by
  simp only [flushed14, outsAt0_B m c t h0 h1]

/-- The index map sends distinct grid points to distinct block indices (decided over the 32 points). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- An index that no flushing point's block covers keeps output window 14's array contents at region entry. -/
theorem entry14 (c : Dev nD) (i : S4096x128.Idx) (h : ∀ t : Fin cfg0.N, (cfg0.win 14).flush t = true → i ∉ ((cfg0.win 14).blk t).view.set) :
    (dats m 0 c).arrAt 14 cfg0.N i = V m c (Pipeline.arrRef spec0 14) i := by
  rw [(dats m 0 c).arrAt_apply_of_forall_not_mem 14 cfg0.N i (fun t _ hf => h t hf), A_eq]

/-- WHAT POINT `t` WRITES BACK to output window 15's array: the run's contents for that window after the body (`Gen.outsAt0`: its component 2), read through the window's block. -/
theorem flushed15 (c : Dev nD) (t : Fin cfg0.N) :
    (dats m 0 c).flushed 15 t = (cfg0.win 15).cut (grid0.coords t) ((outsAt0 m c t.val t.isLt).2.2.1) := by
  show (cfg0.win 15).cut (grid0.coords t) ((dats m 0 c).after 15 t) = _
  rw [after0_15]

/-- … so at a point where case A runs, what its write-back would write is that case's NAMED TERM for the window (`Gen.out0_A_15`: the pieces
    its run found, read back) at the point's memrefs and input blocks, and for an output the case reads back what the point before left (`Gen.outsAt0` at `t - 1`) — by the frame's rewriting lemma for the case. -/
theorem flushed15_A (c : Dev nD) (t : Fin cfg0.N) (h0 : t.val % 32 = 0) (h1 : ¬1 ≤ t.val) :
    (dats m 0 c).flushed 15 t = (cfg0.win 15).cut (grid0.coords t) (out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed15, outsAt0_A m c t h0 h1]

/-- … so at a point where case B runs, what its write-back would write is that case's NAMED TERM for the window (`Gen.out0_B_15`: the pieces
    its run found, read back) at the point's memrefs and input blocks, and for an output the case reads back what the point before left (`Gen.outsAt0` at `t - 1`) — by the frame's rewriting lemma for the case. -/
theorem flushed15_B (c : Dev nD) (t : Fin cfg0.N) (h0 : ¬t.val % 32 = 0) (h1 : 1 ≤ t.val) :
    (dats m 0 c).flushed 15 t = (cfg0.win 15).cut (grid0.coords t) (out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2) := by
  simp only [flushed15, outsAt0_B m c t h0 h1]

/-- The index map sends distinct grid points to distinct block indices (decided over the 32 points). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- An index that no flushing point's block covers keeps output window 15's array contents at region entry. -/
theorem entry15 (c : Dev nD) (i : S4096x128.Idx) (h : ∀ t : Fin cfg0.N, (cfg0.win 15).flush t = true → i ∉ ((cfg0.win 15).blk t).view.set) :
    (dats m 0 c).arrAt 15 cfg0.N i = V m c (Pipeline.arrRef spec0 15) i := by
  rw [(dats m 0 c).arrAt_apply_of_forall_not_mem 15 cfg0.N i (fun t _ hf => h t hf), A_eq]

/-- WHAT POINT `t` WRITES BACK to output window 16's array: the run's contents for that window after the body (`Gen.outsAt0`: its component 3), read through the window's block. -/
theorem flushed16 (c : Dev nD) (t : Fin cfg0.N) :
    (dats m 0 c).flushed 16 t = (cfg0.win 16).cut (grid0.coords t) ((outsAt0 m c t.val t.isLt).2.2.2.1) := by
  show (cfg0.win 16).cut (grid0.coords t) ((dats m 0 c).after 16 t) = _
  rw [after0_16]

/-- … so at a point where case A runs, what its write-back would write is that case's NAMED TERM for the window (`Gen.out0_A_16`: the pieces
    its run found, read back) at the point's memrefs and input blocks, and for an output the case reads back what the point before left (`Gen.outsAt0` at `t - 1`) — by the frame's rewriting lemma for the case. -/
theorem flushed16_A (c : Dev nD) (t : Fin cfg0.N) (h0 : t.val % 32 = 0) (h1 : ¬1 ≤ t.val) :
    (dats m 0 c).flushed 16 t = (cfg0.win 16).cut (grid0.coords t) (out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed16, outsAt0_A m c t h0 h1]

/-- … so at a point where case B runs, what its write-back would write is that case's NAMED TERM for the window (`Gen.out0_B_16`: the pieces
    its run found, read back) at the point's memrefs and input blocks, and for an output the case reads back what the point before left (`Gen.outsAt0` at `t - 1`) — by the frame's rewriting lemma for the case. -/
theorem flushed16_B (c : Dev nD) (t : Fin cfg0.N) (h0 : ¬t.val % 32 = 0) (h1 : 1 ≤ t.val) :
    (dats m 0 c).flushed 16 t = (cfg0.win 16).cut (grid0.coords t) (out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2) := by
  simp only [flushed16, outsAt0_B m c t h0 h1]

/-- The index map sends distinct grid points to distinct block indices (decided over the 32 points). -/
theorem idx_inj16 : ∀ t t' : Fin cfg0.N, win0_16.index t = win0_16.index t' → t = t' :=
  (by decide +kernel : ∀ t t' : Fin grid0.N, win0_16.index t = win0_16.index t' → t = t')

/-- So two flushing points' blocks share no array index (Lib/Pipeline/Cells.lean `Window.disjoint_blk`). -/
theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (idx_inj16 t t' h)

/-- BLOCK `t` OF THE FINAL ARRAY, read back through the window, is what point `t` wrote back (`flushed16`), for every
    point that writes back: no other point's block meets it. -/
theorem blocks16 (c : Dev nD) (t : Fin cfg0.N) (hf : (cfg0.win 16).flush t = true) :
    ((cfg0.win 16).blk t).view.read (Elt F) ((dats m 0 c).arrAt 16 cfg0.N) = (dats m 0 c).flushed 16 t :=
  (dats m 0 c).read_blk_arrAt_eq_flushed 16 disjoint16 cfg0.N t t.isLt hf

/-- An index that no flushing point's block covers keeps output window 16's array contents at region entry. -/
theorem entry16 (c : Dev nD) (i : S4096x128.Idx) (h : ∀ t : Fin cfg0.N, (cfg0.win 16).flush t = true → i ∉ ((cfg0.win 16).blk t).view.set) :
    (dats m 0 c).arrAt 16 cfg0.N i = V m c (Pipeline.arrRef spec0 16) i := by
  rw [(dats m 0 c).arrAt_apply_of_forall_not_mem 16 cfg0.N i (fun t _ hf => h t hf), A_eq]

/-- WHAT POINT `t` WRITES BACK to output window 17's array: the run's contents for that window after the body (`Gen.outsAt0`: its component 4), read through the window's block. -/
theorem flushed17 (c : Dev nD) (t : Fin cfg0.N) :
    (dats m 0 c).flushed 17 t = (cfg0.win 17).cut (grid0.coords t) ((outsAt0 m c t.val t.isLt).2.2.2.2.1) := by
  show (cfg0.win 17).cut (grid0.coords t) ((dats m 0 c).after 17 t) = _
  rw [after0_17]

/-- … so at a point where case A runs, what its write-back would write is that case's NAMED TERM for the window (`Gen.out0_A_17`: the pieces
    its run found, read back) at the point's memrefs and input blocks, and for an output the case reads back what the point before left (`Gen.outsAt0` at `t - 1`) — by the frame's rewriting lemma for the case. -/
theorem flushed17_A (c : Dev nD) (t : Fin cfg0.N) (h0 : t.val % 32 = 0) (h1 : ¬1 ≤ t.val) :
    (dats m 0 c).flushed 17 t = (cfg0.win 17).cut (grid0.coords t) (out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed17, outsAt0_A m c t h0 h1]

/-- … so at a point where case B runs, what its write-back would write is that case's NAMED TERM for the window (`Gen.out0_B_17`: the pieces
    its run found, read back) at the point's memrefs and input blocks, and for an output the case reads back what the point before left (`Gen.outsAt0` at `t - 1`) — by the frame's rewriting lemma for the case. -/
theorem flushed17_B (c : Dev nD) (t : Fin cfg0.N) (h0 : ¬t.val % 32 = 0) (h1 : 1 ≤ t.val) :
    (dats m 0 c).flushed 17 t = (cfg0.win 17).cut (grid0.coords t) (out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2) := by
  simp only [flushed17, outsAt0_B m c t h0 h1]

/-- The index map sends distinct grid points to distinct block indices (decided over the 32 points). -/
theorem idx_inj17 : ∀ t t' : Fin cfg0.N, win0_17.index t = win0_17.index t' → t = t' :=
  (by decide +kernel : ∀ t t' : Fin grid0.N, win0_17.index t = win0_17.index t' → t = t')

/-- So two flushing points' blocks share no array index (Lib/Pipeline/Cells.lean `Window.disjoint_blk`). -/
theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (idx_inj17 t t' h)

/-- BLOCK `t` OF THE FINAL ARRAY, read back through the window, is what point `t` wrote back (`flushed17`), for every
    point that writes back: no other point's block meets it. -/
theorem blocks17 (c : Dev nD) (t : Fin cfg0.N) (hf : (cfg0.win 17).flush t = true) :
    ((cfg0.win 17).blk t).view.read (Elt F) ((dats m 0 c).arrAt 17 cfg0.N) = (dats m 0 c).flushed 17 t :=
  (dats m 0 c).read_blk_arrAt_eq_flushed 17 disjoint17 cfg0.N t t.isLt hf

/-- An index that no flushing point's block covers keeps output window 17's array contents at region entry. -/
theorem entry17 (c : Dev nD) (i : S4096x128.Idx) (h : ∀ t : Fin cfg0.N, (cfg0.win 17).flush t = true → i ∉ ((cfg0.win 17).blk t).view.set) :
    (dats m 0 c).arrAt 17 cfg0.N i = V m c (Pipeline.arrRef spec0 17) i := by
  rw [(dats m 0 c).arrAt_apply_of_forall_not_mem 17 cfg0.N i (fun t _ hf => h t hf), A_eq]

/-- WHAT POINT `t` WRITES BACK to output window 18's array: the run's contents for that window after the body (`Gen.outsAt0`: its component 5), read through the window's block. -/
theorem flushed18 (c : Dev nD) (t : Fin cfg0.N) :
    (dats m 0 c).flushed 18 t = (cfg0.win 18).cut (grid0.coords t) ((outsAt0 m c t.val t.isLt).2.2.2.2.2) := by
  show (cfg0.win 18).cut (grid0.coords t) ((dats m 0 c).after 18 t) = _
  rw [after0_18]

/-- … so at a point where case A runs, what its write-back would write is that case's NAMED TERM for the window (`Gen.out0_A_18`: the pieces
    its run found, read back) at the point's memrefs and input blocks, and for an output the case reads back what the point before left (`Gen.outsAt0` at `t - 1`) — by the frame's rewriting lemma for the case. -/
theorem flushed18_A (c : Dev nD) (t : Fin cfg0.N) (h0 : t.val % 32 = 0) (h1 : ¬1 ≤ t.val) :
    (dats m 0 c).flushed 18 t = (cfg0.win 18).cut (grid0.coords t) (out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed18, outsAt0_A m c t h0 h1]

/-- … so at a point where case B runs, what its write-back would write is that case's NAMED TERM for the window (`Gen.out0_B_18`: the pieces
    its run found, read back) at the point's memrefs and input blocks, and for an output the case reads back what the point before left (`Gen.outsAt0` at `t - 1`) — by the frame's rewriting lemma for the case. -/
theorem flushed18_B (c : Dev nD) (t : Fin cfg0.N) (h0 : ¬t.val % 32 = 0) (h1 : 1 ≤ t.val) :
    (dats m 0 c).flushed 18 t = (cfg0.win 18).cut (grid0.coords t) (out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2) := by
  simp only [flushed18, outsAt0_B m c t h0 h1]

-- no `blocks18`: window 18's index map revisits a block index, or its points could not be enumerated here;
-- the final array is still the frame's `arrAt`, to read with Lib/Pipeline/Value.lean's lemmas by hand

/-- An index that no flushing point's block covers keeps output window 18's array contents at region entry. -/
theorem entry18 (c : Dev nD) (i : S1x8.Idx) (h : ∀ t : Fin cfg0.N, (cfg0.win 18).flush t = true → i ∉ ((cfg0.win 18).blk t).view.set) :
    (dats m 0 c).arrAt 18 cfg0.N i = V m c (Pipeline.arrRef spec0 18) i := by
  rw [(dats m 0 c).arrAt_apply_of_forall_not_mem 18 cfg0.N i (fun t _ hf => h t hf), A_eq]

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v94_0) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v94_1) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v94_2) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v94_3) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v94_4) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v94_5) = (dats m 0 c).arrAt 18 cfg0.N :=
  (h c).1 18

/-- After the frame run, argument `main_arg0` is as launched: input window 4 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 4).trans (((dats m 0 c).arrAt_in 4 rfl _).trans ((A_eq m c 4).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: input window 12 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 12).trans (((dats m 0 c).arrAt_in 12 rfl _).trans ((A_eq m c 12).trans (V_main_arg4 m c)))

set_option maxHeartbeats 212580 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v94_0) = (dats m 0 c).arrAt 13 cfg0.N
      ∧ r.2.mem ((c : Thread nD τ).loc main_v94_1) = (dats m 0 c).arrAt 14 cfg0.N
      ∧ r.2.mem ((c : Thread nD τ).loc main_v94_2) = (dats m 0 c).arrAt 15 cfg0.N
      ∧ r.2.mem ((c : Thread nD τ).loc main_v94_3) = (dats m 0 c).arrAt 16 cfg0.N
      ∧ r.2.mem ((c : Thread nD τ).loc main_v94_4) = (dats m 0 c).arrAt 17 cfg0.N
      ∧ r.2.mem ((c : Thread nD τ).loc main_v94_5) = (dats m 0 c).arrAt 18 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post13 m r h c,
      post14 m r h c,
      post15 m r h c,
      post16 m r h c,
      post17 m r h c,
      post18 m r h c,
      kept_main_arg0 m r h c,
      kept_main_arg1 m r h c,
      kept_main_arg2 m r h c,
      kept_main_arg3 m r h c,
      kept_main_arg4 m r h c⟩)
    (run_main m ρ)

end Cert.KernelIdeal.Value

end
-- ==== Proof.HostTerms.lean ====
/- What the kernel's program computes before the launch, one operation at a time, as functions of its arguments: the
   rotary embedding, the masked scores, their logarithm of the sum of exponentials, the attention's output, and the tables
   laid out for the launch. -/
module

public import proofs.«01_k».proof.Proof.Gen.KernelIdeal
public import Idealize.ShloMosaic.Lib.StableHlo.Run
public import Idealize.ShloMosaic.Lib.Pipeline.Frame
public import Idealize.ShloMosaic.Lib.ValueIdx
public import Idealize.ShloMosaic.PureOps.Ideal.Laws

@[expose] public section

noncomputable section

namespace Cert.KernelIdeal.Before

open Cert.KernelIdeal Cert.KernelIdeal.Gen Idealize.ShloMosaic Idealize.ShloMosaic.TcCoe Idealize.SL.Sem Idealize.ShloMosaic.StableHlo

variable {F : FTy → Type} [FloatOps F]

def h_v0 (x0 : (⟨S4096x3072, .f32⟩ : BufTy).Contents (Elt F)) : (⟨S4096x512, .f32⟩ : BufTy).Contents (Elt F) :=
  extractStridedSlice S4096x512 ![0, 0] x0 slices_S4096x3072_S4096x512_0_0

def h_v1 (x0 : (⟨S4096x3072, .f32⟩ : BufTy).Contents (Elt F)) : (⟨S4096x128, .f32⟩ : BufTy).Contents (Elt F) :=
  extractStridedSlice S4096x128 ![0, 2560] x0 slices_S4096x3072_S4096x128_0_2560

def h_v2 (x0 : (⟨S4096x3072, .f32⟩ : BufTy).Contents (Elt F)) : (⟨S4096x128, .f32⟩ : BufTy).Contents (Elt F) :=
  extractStridedSlice S4096x128 ![0, 2688] x0 slices_S4096x3072_S4096x128_0_2688

def h_v3 (x0 : (⟨S4096x3072, .f32⟩ : BufTy).Contents (Elt F)) : (⟨S4096x640, .f32⟩ : BufTy).Contents (Elt F) :=
  concatenate S4096x640 1 [⟨S4096x512, ((h_v0 (F := F) x0) : (⟨S4096x512, .f32⟩ : BufTy).Contents (Elt F))⟩, ⟨S4096x128, ((h_v1 (F := F) x0) : (⟨S4096x128, .f32⟩ : BufTy).Contents (Elt F))⟩] concatenates_S4096x512_S4096x128_S4096x640_d1

def h_v4 (x0 : (⟨S4096x3072, .f32⟩ : BufTy).Contents (Elt F)) : (⟨S1x4096x10x64, .f32⟩ : BufTy).Contents (Elt F) :=
  shapeCast _ (h_v3 (F := F) x0) shapeCasts_S4096x640_S1x4096x10x64

def h_v5 (x1 : (⟨S4096x32, .f32⟩ : BufTy).Contents (Elt F)) : (⟨S1x4096x1x32, .f32⟩ : BufTy).Contents (Elt F) :=
  broadcastInDim S1x4096x1x32 ![1, 3] bcast_S4096x32_S1x4096x1x32_1_3 x1

def h_v6 (x2 : (⟨S4096x32, .f32⟩ : BufTy).Contents (Elt F)) : (⟨S1x4096x1x32, .f32⟩ : BufTy).Contents (Elt F) :=
  broadcastInDim S1x4096x1x32 ![1, 3] bcast_S4096x32_S1x4096x1x32_1_3 x2

def h_v7 (x0 : (⟨S4096x3072, .f32⟩ : BufTy).Contents (Elt F)) : (⟨S1x4096x10x32, .f32⟩ : BufTy).Contents (Elt F) :=
  extractStridedSlice S1x4096x10x32 ![0, 0, 0, 0] (h_v4 (F := F) x0) slices_S1x4096x10x64_S1x4096x10x32_0_0_0_0

def h_v8 (x0 : (⟨S4096x3072, .f32⟩ : BufTy).Contents (Elt F)) : (⟨S1x4096x10x32, .f32⟩ : BufTy).Contents (Elt F) :=
  extractStridedSlice S1x4096x10x32 ![0, 0, 0, 32] (h_v4 (F := F) x0) slices_S1x4096x10x64_S1x4096x10x32_0_0_0_32

def h_v9 (x1 : (⟨S4096x32, .f32⟩ : BufTy).Contents (Elt F)) : (⟨S1x4096x10x32, .f32⟩ : BufTy).Contents (Elt F) :=
  broadcastInDim S1x4096x10x32 ![0, 1, 2, 3] bcast_S1x4096x1x32_S1x4096x10x32_0_1_2_3 (h_v5 (F := F) x1)

def h_v10 (x0 : (⟨S4096x3072, .f32⟩ : BufTy).Contents (Elt F)) (x1 : (⟨S4096x32, .f32⟩ : BufTy).Contents (Elt F)) : (⟨S1x4096x10x32, .f32⟩ : BufTy).Contents (Elt F) :=
  mulf (h_v7 (F := F) x0) (h_v9 (F := F) x1)

def h_v11 (x2 : (⟨S4096x32, .f32⟩ : BufTy).Contents (Elt F)) : (⟨S1x4096x10x32, .f32⟩ : BufTy).Contents (Elt F) :=
  broadcastInDim S1x4096x10x32 ![0, 1, 2, 3] bcast_S1x4096x1x32_S1x4096x10x32_0_1_2_3 (h_v6 (F := F) x2)

def h_v12 (x0 : (⟨S4096x3072, .f32⟩ : BufTy).Contents (Elt F)) (x2 : (⟨S4096x32, .f32⟩ : BufTy).Contents (Elt F)) : (⟨S1x4096x10x32, .f32⟩ : BufTy).Contents (Elt F) :=
  mulf (h_v8 (F := F) x0) (h_v11 (F := F) x2)

def h_v13 (x0 : (⟨S4096x3072, .f32⟩ : BufTy).Contents (Elt F)) (x1 : (⟨S4096x32, .f32⟩ : BufTy).Contents (Elt F)) (x2 : (⟨S4096x32, .f32⟩ : BufTy).Contents (Elt F)) : (⟨S1x4096x10x32, .f32⟩ : BufTy).Contents (Elt F) :=
  subf (h_v10 (F := F) x0 x1) (h_v12 (F := F) x0 x2)

def h_v14 (x1 : (⟨S4096x32, .f32⟩ : BufTy).Contents (Elt F)) : (⟨S1x4096x10x32, .f32⟩ : BufTy).Contents (Elt F) :=
  broadcastInDim S1x4096x10x32 ![0, 1, 2, 3] bcast_S1x4096x1x32_S1x4096x10x32_0_1_2_3 (h_v5 (F := F) x1)

def h_v15 (x0 : (⟨S4096x3072, .f32⟩ : BufTy).Contents (Elt F)) (x1 : (⟨S4096x32, .f32⟩ : BufTy).Contents (Elt F)) : (⟨S1x4096x10x32, .f32⟩ : BufTy).Contents (Elt F) :=
  mulf (h_v8 (F := F) x0) (h_v14 (F := F) x1)

def h_v16 (x2 : (⟨S4096x32, .f32⟩ : BufTy).Contents (Elt F)) : (⟨S1x4096x10x32, .f32⟩ : BufTy).Contents (Elt F) :=
  broadcastInDim S1x4096x10x32 ![0, 1, 2, 3] bcast_S1x4096x1x32_S1x4096x10x32_0_1_2_3 (h_v6 (F := F) x2)

def h_v17 (x0 : (⟨S4096x3072, .f32⟩ : BufTy).Contents (Elt F)) (x2 : (⟨S4096x32, .f32⟩ : BufTy).Contents (Elt F)) : (⟨S1x4096x10x32, .f32⟩ : BufTy).Contents (Elt F) :=
  mulf (h_v7 (F := F) x0) (h_v16 (F := F) x2)

def h_v18 (x0 : (⟨S4096x3072, .f32⟩ : BufTy).Contents (Elt F)) (x1 : (⟨S4096x32, .f32⟩ : BufTy).Contents (Elt F)) (x2 : (⟨S4096x32, .f32⟩ : BufTy).Contents (Elt F)) : (⟨S1x4096x10x32, .f32⟩ : BufTy).Contents (Elt F) :=
  addf (h_v15 (F := F) x0 x1) (h_v17 (F := F) x0 x2)

def h_v19 (x0 : (⟨S4096x3072, .f32⟩ : BufTy).Contents (Elt F)) (x1 : (⟨S4096x32, .f32⟩ : BufTy).Contents (Elt F)) (x2 : (⟨S4096x32, .f32⟩ : BufTy).Contents (Elt F)) : (⟨S1x4096x10x64, .f32⟩ : BufTy).Contents (Elt F) :=
  concatenate S1x4096x10x64 3 [⟨S1x4096x10x32, ((h_v13 (F := F) x0 x1 x2) : (⟨S1x4096x10x32, .f32⟩ : BufTy).Contents (Elt F))⟩, ⟨S1x4096x10x32, ((h_v18 (F := F) x0 x1 x2) : (⟨S1x4096x10x32, .f32⟩ : BufTy).Contents (Elt F))⟩] concatenates_S1x4096x10x32_S1x4096x10x32_S1x4096x10x64_d3

def h_v20 (x0 : (⟨S4096x3072, .f32⟩ : BufTy).Contents (Elt F)) (x1 : (⟨S4096x32, .f32⟩ : BufTy).Contents (Elt F)) (x2 : (⟨S4096x32, .f32⟩ : BufTy).Contents (Elt F)) : (⟨S1x4096x8x64, .f32⟩ : BufTy).Contents (Elt F) :=
  extractStridedSlice S1x4096x8x64 ![0, 0, 0, 0] (h_v19 (F := F) x0 x1 x2) slices_S1x4096x10x64_S1x4096x8x64_0_0_0_0

def h_v21 (x0 : (⟨S4096x3072, .f32⟩ : BufTy).Contents (Elt F)) (x1 : (⟨S4096x32, .f32⟩ : BufTy).Contents (Elt F)) (x2 : (⟨S4096x32, .f32⟩ : BufTy).Contents (Elt F)) : (⟨S1x4096x2x64, .f32⟩ : BufTy).Contents (Elt F) :=
  extractStridedSlice S1x4096x2x64 ![0, 0, 8, 0] (h_v19 (F := F) x0 x1 x2) slices_S1x4096x10x64_S1x4096x2x64_0_0_8_0

def h_v22 (x0 : (⟨S4096x3072, .f32⟩ : BufTy).Contents (Elt F)) : (⟨S1x4096x2x64, .f32⟩ : BufTy).Contents (Elt F) :=
  shapeCast _ (h_v2 (F := F) x0) shapeCasts_S4096x128_S1x4096x2x64

def h_cst : (⟨S_, .f32⟩ : BufTy).Contents (Elt F) :=
  constant S_ .f32 0x00000000#32

def h_v23 : (⟨S1x128x2x64, .f32⟩ : BufTy).Contents (Elt F) :=
  broadcastInDim S1x128x2x64 ![] bcast_S_S1x128x2x64 (h_cst (F := F))

def h_v24 (x0 : (⟨S4096x3072, .f32⟩ : BufTy).Contents (Elt F)) (x1 : (⟨S4096x32, .f32⟩ : BufTy).Contents (Elt F)) (x2 : (⟨S4096x32, .f32⟩ : BufTy).Contents (Elt F)) : (⟨S1x3968x2x64, .f32⟩ : BufTy).Contents (Elt F) :=
  extractStridedSlice S1x3968x2x64 ![0, 0, 0, 0] (h_v21 (F := F) x0 x1 x2) slices_S1x4096x2x64_S1x3968x2x64_0_0_0_0

def h_v25 (x0 : (⟨S4096x3072, .f32⟩ : BufTy).Contents (Elt F)) (x1 : (⟨S4096x32, .f32⟩ : BufTy).Contents (Elt F)) (x2 : (⟨S4096x32, .f32⟩ : BufTy).Contents (Elt F)) : (⟨S1x4096x2x64, .f32⟩ : BufTy).Contents (Elt F) :=
  concatenate S1x4096x2x64 1 [⟨S1x128x2x64, ((h_v23 (F := F)) : (⟨S1x128x2x64, .f32⟩ : BufTy).Contents (Elt F))⟩, ⟨S1x3968x2x64, ((h_v24 (F := F) x0 x1 x2) : (⟨S1x3968x2x64, .f32⟩ : BufTy).Contents (Elt F))⟩] concatenates_S1x128x2x64_S1x3968x2x64_S1x4096x2x64_d1

def h_v26 (x0 : (⟨S4096x3072, .f32⟩ : BufTy).Contents (Elt F)) (x1 : (⟨S4096x32, .f32⟩ : BufTy).Contents (Elt F)) (x2 : (⟨S4096x32, .f32⟩ : BufTy).Contents (Elt F)) : (⟨S1x32x128x2x64, .f32⟩ : BufTy).Contents (Elt F) :=
  shapeCast _ (h_v25 (F := F) x0 x1 x2) shapeCasts_S1x4096x2x64_S1x32x128x2x64

def h_v27 (x0 : (⟨S4096x3072, .f32⟩ : BufTy).Contents (Elt F)) (x1 : (⟨S4096x32, .f32⟩ : BufTy).Contents (Elt F)) (x2 : (⟨S4096x32, .f32⟩ : BufTy).Contents (Elt F)) : (⟨S1x32x128x2x64, .f32⟩ : BufTy).Contents (Elt F) :=
  shapeCast _ (h_v21 (F := F) x0 x1 x2) shapeCasts_S1x4096x2x64_S1x32x128x2x64

def h_v28 (x0 : (⟨S4096x3072, .f32⟩ : BufTy).Contents (Elt F)) (x1 : (⟨S4096x32, .f32⟩ : BufTy).Contents (Elt F)) (x2 : (⟨S4096x32, .f32⟩ : BufTy).Contents (Elt F)) : (⟨S1x32x256x2x64, .f32⟩ : BufTy).Contents (Elt F) :=
  concatenate S1x32x256x2x64 2 [⟨S1x32x128x2x64, ((h_v26 (F := F) x0 x1 x2) : (⟨S1x32x128x2x64, .f32⟩ : BufTy).Contents (Elt F))⟩, ⟨S1x32x128x2x64, ((h_v27 (F := F) x0 x1 x2) : (⟨S1x32x128x2x64, .f32⟩ : BufTy).Contents (Elt F))⟩] concatenates_S1x32x128x2x64_S1x32x128x2x64_S1x32x256x2x64_d2

def h_v29 (x0 : (⟨S4096x3072, .f32⟩ : BufTy).Contents (Elt F)) (x1 : (⟨S4096x32, .f32⟩ : BufTy).Contents (Elt F)) (x2 : (⟨S4096x32, .f32⟩ : BufTy).Contents (Elt F)) : (⟨S1x32x128x2x4x64, .f32⟩ : BufTy).Contents (Elt F) :=
  shapeCast _ (h_v20 (F := F) x0 x1 x2) shapeCasts_S1x4096x8x64_S1x32x128x2x4x64

def h_v30 (x0 : (⟨S4096x3072, .f32⟩ : BufTy).Contents (Elt F)) (x1 : (⟨S4096x32, .f32⟩ : BufTy).Contents (Elt F)) (x2 : (⟨S4096x32, .f32⟩ : BufTy).Contents (Elt F)) : (⟨S1x32x2x256x128x4, .f32⟩ : BufTy).Contents (Elt F) :=
  Host.dotGeneral dot_S1x32x256x2x64_S1x32x128x2x4x64_S1x32x2x256x128x4_4_5_2_24_013_013 none (h_v28 (F := F) x0 x1 x2) (h_v29 (F := F) x0 x1 x2)

def h_v31 (x0 : (⟨S4096x3072, .f32⟩ : BufTy).Contents (Elt F)) (x1 : (⟨S4096x32, .f32⟩ : BufTy).Contents (Elt F)) (x2 : (⟨S4096x32, .f32⟩ : BufTy).Contents (Elt F)) : (⟨S1x32x2x4x128x256, .f32⟩ : BufTy).Contents (Elt F) :=
  transpose S1x32x2x4x128x256 [0, 1, 2, 5, 4, 3] (h_v30 (F := F) x0 x1 x2) transposes_S1x32x2x256x128x4_S1x32x2x4x128x256_0_1_2_5_4_3

def h_cst_0 : (⟨S_, .f32⟩ : BufTy).Contents (Elt F) :=
  constant S_ .f32 0x3E000000#32

def h_v32 : (⟨S1x32x2x4x128x256, .f32⟩ : BufTy).Contents (Elt F) :=
  broadcastInDim S1x32x2x4x128x256 ![] bcast_S_S1x32x2x4x128x256 (h_cst_0 (F := F))

def h_v33 (x0 : (⟨S4096x3072, .f32⟩ : BufTy).Contents (Elt F)) (x1 : (⟨S4096x32, .f32⟩ : BufTy).Contents (Elt F)) (x2 : (⟨S4096x32, .f32⟩ : BufTy).Contents (Elt F)) : (⟨S1x32x2x4x128x256, .f32⟩ : BufTy).Contents (Elt F) :=
  mulf (h_v31 (F := F) x0 x1 x2) (h_v32 (F := F))

def h_v34 : (⟨S32x128x256, .i32⟩ : BufTy).Contents (Elt F) :=
  iotaInDim S32x128x256 32 0

def h_v35 : (⟨S32x128x256, .i32⟩ : BufTy).Contents (Elt F) :=
  iotaInDim S32x128x256 32 1

def h_v36 : (⟨S32x128x256, .i32⟩ : BufTy).Contents (Elt F) :=
  iotaInDim S32x128x256 32 2

def h_c : (⟨S_, .i32⟩ : BufTy).Contents (Elt F) :=
  constantI S_ 32 128#32

def h_v37 : (⟨S32x128x256, .i32⟩ : BufTy).Contents (Elt F) :=
  broadcastInDim S32x128x256 ![] bcast_S_S32x128x256 (h_c (F := F))

def h_v38 : (⟨S32x128x256, .i32⟩ : BufTy).Contents (Elt F) :=
  addi (h_v35 (F := F)) (h_v37 (F := F))

def h_v39 : (⟨S32x128x256, .i32⟩ : BufTy).Contents (Elt F) :=
  subi (h_v38 (F := F)) (h_v36 (F := F))

def h_c_1 : (⟨S_, .i32⟩ : BufTy).Contents (Elt F) :=
  constantI S_ 32 0#32

def h_v40 : (⟨S32x128x256, .i32⟩ : BufTy).Contents (Elt F) :=
  broadcastInDim S32x128x256 ![] bcast_S_S32x128x256 (h_c_1 (F := F))

def h_v41 : (⟨S32x128x256, .i1⟩ : BufTy).Contents (Elt F) :=
  cmpi .sge (h_v39 (F := F)) (h_v40 (F := F))

def h_c_2 : (⟨S_, .i32⟩ : BufTy).Contents (Elt F) :=
  constantI S_ 32 128#32

def h_v42 : (⟨S32x128x256, .i32⟩ : BufTy).Contents (Elt F) :=
  broadcastInDim S32x128x256 ![] bcast_S_S32x128x256 (h_c_2 (F := F))

def h_v43 : (⟨S32x128x256, .i1⟩ : BufTy).Contents (Elt F) :=
  cmpi .slt (h_v39 (F := F)) (h_v42 (F := F))

def h_v44 : (⟨S32x128x256, .i1⟩ : BufTy).Contents (Elt F) :=
  andi (h_v41 (F := F)) (h_v43 (F := F))

def h_c_3 : (⟨S_, .i32⟩ : BufTy).Contents (Elt F) :=
  constantI S_ 32 1#32

def h_v45 : (⟨S32x128x256, .i32⟩ : BufTy).Contents (Elt F) :=
  broadcastInDim S32x128x256 ![] bcast_S_S32x128x256 (h_c_3 (F := F))

def h_v46 : (⟨S32x128x256, .i32⟩ : BufTy).Contents (Elt F) :=
  subi (h_v34 (F := F)) (h_v45 (F := F))

def h_c_4 : (⟨S_, .i32⟩ : BufTy).Contents (Elt F) :=
  constantI S_ 32 128#32

def h_v47 : (⟨S32x128x256, .i32⟩ : BufTy).Contents (Elt F) :=
  broadcastInDim S32x128x256 ![] bcast_S_S32x128x256 (h_c_4 (F := F))

def h_v48 : (⟨S32x128x256, .i32⟩ : BufTy).Contents (Elt F) :=
  muli (h_v46 (F := F)) (h_v47 (F := F))

def h_v49 : (⟨S32x128x256, .i32⟩ : BufTy).Contents (Elt F) :=
  addi (h_v48 (F := F)) (h_v36 (F := F))

def h_c_5 : (⟨S_, .i32⟩ : BufTy).Contents (Elt F) :=
  constantI S_ 32 0#32

def h_v50 : (⟨S32x128x256, .i32⟩ : BufTy).Contents (Elt F) :=
  broadcastInDim S32x128x256 ![] bcast_S_S32x128x256 (h_c_5 (F := F))

def h_v51 : (⟨S32x128x256, .i1⟩ : BufTy).Contents (Elt F) :=
  cmpi .sge (h_v49 (F := F)) (h_v50 (F := F))

def h_v52 : (⟨S32x128x256, .i1⟩ : BufTy).Contents (Elt F) :=
  andi (h_v44 (F := F)) (h_v51 (F := F))

def h_v53 : (⟨S1x32x1x1x128x256, .i1⟩ : BufTy).Contents (Elt F) :=
  broadcastInDim S1x32x1x1x128x256 ![1, 4, 5] bcast_S32x128x256_S1x32x1x1x128x256_1_4_5 (h_v52 (F := F))

def h_cst_6 : (⟨S_, .f32⟩ : BufTy).Contents (Elt F) :=
  constant S_ .f32 0xFF800000#32

def h_call0_v0 : (⟨S_, .f32⟩ : BufTy).Contents (Elt F) :=
  id (h_cst_6 (F := F))

def h_call0_v1 : (⟨S1x32x2x4x128x256, .i1⟩ : BufTy).Contents (Elt F) :=
  (broadcastInDim S1x32x2x4x128x256 ![0, 1, 2, 3, 4, 5] bcast_S1x32x1x1x128x256_S1x32x2x4x128x256_0_1_2_3_4_5) (h_v53 (F := F))

def h_call0_v2 : (⟨S1x32x2x4x128x256, .f32⟩ : BufTy).Contents (Elt F) :=
  (broadcastInDim S1x32x2x4x128x256 ![] bcast_S_S1x32x2x4x128x256) (h_call0_v0 (F := F))

def h_v54 (x0 : (⟨S4096x3072, .f32⟩ : BufTy).Contents (Elt F)) (x1 : (⟨S4096x32, .f32⟩ : BufTy).Contents (Elt F)) (x2 : (⟨S4096x32, .f32⟩ : BufTy).Contents (Elt F)) : (⟨S1x32x2x4x128x256, .f32⟩ : BufTy).Contents (Elt F) :=
  select (h_call0_v1 (F := F)) (h_v33 (F := F) x0 x1 x2) (h_call0_v2 (F := F))

def h_v55 (x3 : (⟨S8, .f32⟩ : BufTy).Contents (Elt F)) : (⟨S1x1x2x4x1x1, .f32⟩ : BufTy).Contents (Elt F) :=
  shapeCast _ x3 shapeCasts_S8_S1x1x2x4x1x1

def h_v56 (x3 : (⟨S8, .f32⟩ : BufTy).Contents (Elt F)) : (⟨S1x32x2x4x128x1, .f32⟩ : BufTy).Contents (Elt F) :=
  broadcastInDim S1x32x2x4x128x1 ![0, 1, 2, 3, 4, 5] bcast_S1x1x2x4x1x1_S1x32x2x4x128x1_0_1_2_3_4_5 (h_v55 (F := F) x3)

def h_v57 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S1x32x2x4x128x257, .f32⟩ : BufTy).Contents (Elt F) :=
  concatenate S1x32x2x4x128x257 5 [⟨S1x32x2x4x128x256, ((h_v54 (F := F) x0 x1 x2) : (⟨S1x32x2x4x128x256, .f32⟩ : BufTy).Contents (Elt F))⟩, ⟨S1x32x2x4x128x1, ((h_v56 (F := F) x3) : (⟨S1x32x2x4x128x1, .f32⟩ : BufTy).Contents (Elt F))⟩] concatenates_S1x32x2x4x128x256_S1x32x2x4x128x1_S1x32x2x4x128x257_d5

def h_cst_7 : (⟨S_, .f32⟩ : BufTy).Contents (Elt F) :=
  constant S_ .f32 0xFF800000#32

def h_v58 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S1x32x2x4x128, .f32⟩ : BufTy).Contents (Elt F) :=
  Host.reduce FloatOps.maximumf (h_v57 (F := F) x0 x1 x2 x3) (h_cst_7 (F := F)) reducesTo_S1x32x2x4x128x257_S1x32x2x4x128_d5 h_S_

def h_v59 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S1x32x2x4x128x1, .f32⟩ : BufTy).Contents (Elt F) :=
  broadcastInDim S1x32x2x4x128x1 ![0, 1, 2, 3, 4] bcast_S1x32x2x4x128_S1x32x2x4x128x1_0_1_2_3_4 (h_v58 (F := F) x0 x1 x2 x3)

def h_v60 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S1x32x2x4x128x257, .f32⟩ : BufTy).Contents (Elt F) :=
  broadcastInDim S1x32x2x4x128x257 ![0, 1, 2, 3, 4, 5] bcast_S1x32x2x4x128x1_S1x32x2x4x128x257_0_1_2_3_4_5 (h_v59 (F := F) x0 x1 x2 x3)

def h_v61 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S1x32x2x4x128x257, .f32⟩ : BufTy).Contents (Elt F) :=
  subf (h_v57 (F := F) x0 x1 x2 x3) (h_v60 (F := F) x0 x1 x2 x3)

def h_v62 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S1x32x2x4x128x257, .f32⟩ : BufTy).Contents (Elt F) :=
  Host.exp (h_v61 (F := F) x0 x1 x2 x3)

def h_cst_8 : (⟨S_, .f32⟩ : BufTy).Contents (Elt F) :=
  constant S_ .f32 0x00000000#32

def h_v63 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S1x32x2x4x128, .f32⟩ : BufTy).Contents (Elt F) :=
  Host.reduceAdd (h_v62 (F := F) x0 x1 x2 x3) (h_cst_8 (F := F)) reducesTo_S1x32x2x4x128x257_S1x32x2x4x128_d5 h_S_

def h_v64 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S1x32x2x4x128x1, .f32⟩ : BufTy).Contents (Elt F) :=
  broadcastInDim S1x32x2x4x128x1 ![0, 1, 2, 3, 4] bcast_S1x32x2x4x128_S1x32x2x4x128x1_0_1_2_3_4 (h_v63 (F := F) x0 x1 x2 x3)

def h_v65 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S1x32x2x4x128x1, .f32⟩ : BufTy).Contents (Elt F) :=
  Host.log (h_v64 (F := F) x0 x1 x2 x3)

def h_v66 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S1x32x2x4x128x1, .f32⟩ : BufTy).Contents (Elt F) :=
  addf (h_v59 (F := F) x0 x1 x2 x3) (h_v65 (F := F) x0 x1 x2 x3)

def h_v67 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S1x32x2x4x128x257, .f32⟩ : BufTy).Contents (Elt F) :=
  broadcastInDim S1x32x2x4x128x257 ![0, 1, 2, 3, 4, 5] bcast_S1x32x2x4x128x1_S1x32x2x4x128x257_0_1_2_3_4_5 (h_v66 (F := F) x0 x1 x2 x3)

def h_v68 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S1x32x2x4x128x257, .f32⟩ : BufTy).Contents (Elt F) :=
  subf (h_v57 (F := F) x0 x1 x2 x3) (h_v67 (F := F) x0 x1 x2 x3)

def h_v69 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S1x32x2x4x128x257, .f32⟩ : BufTy).Contents (Elt F) :=
  Host.exp (h_v68 (F := F) x0 x1 x2 x3)

def h_v70 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S1x32x2x4x128x256, .f32⟩ : BufTy).Contents (Elt F) :=
  extractStridedSlice S1x32x2x4x128x256 ![0, 0, 0, 0, 0, 0] (h_v69 (F := F) x0 x1 x2 x3) slices_S1x32x2x4x128x257_S1x32x2x4x128x256_0_0_0_0_0_0

def h_cst_9 : (⟨S_, .f32⟩ : BufTy).Contents (Elt F) :=
  constant S_ .f32 0x00000000#32

def h_v71 : (⟨S1x128x2x64, .f32⟩ : BufTy).Contents (Elt F) :=
  broadcastInDim S1x128x2x64 ![] bcast_S_S1x128x2x64 (h_cst_9 (F := F))

def h_v72 (x0 : (⟨S4096x3072, .f32⟩ : BufTy).Contents (Elt F)) : (⟨S1x3968x2x64, .f32⟩ : BufTy).Contents (Elt F) :=
  extractStridedSlice S1x3968x2x64 ![0, 0, 0, 0] (h_v22 (F := F) x0) slices_S1x4096x2x64_S1x3968x2x64_0_0_0_0

def h_v73 (x0 : (⟨S4096x3072, .f32⟩ : BufTy).Contents (Elt F)) : (⟨S1x4096x2x64, .f32⟩ : BufTy).Contents (Elt F) :=
  concatenate S1x4096x2x64 1 [⟨S1x128x2x64, ((h_v71 (F := F)) : (⟨S1x128x2x64, .f32⟩ : BufTy).Contents (Elt F))⟩, ⟨S1x3968x2x64, ((h_v72 (F := F) x0) : (⟨S1x3968x2x64, .f32⟩ : BufTy).Contents (Elt F))⟩] concatenates_S1x128x2x64_S1x3968x2x64_S1x4096x2x64_d1

def h_v74 (x0 : (⟨S4096x3072, .f32⟩ : BufTy).Contents (Elt F)) : (⟨S1x32x128x2x64, .f32⟩ : BufTy).Contents (Elt F) :=
  shapeCast _ (h_v73 (F := F) x0) shapeCasts_S1x4096x2x64_S1x32x128x2x64

def h_v75 (x0 : (⟨S4096x3072, .f32⟩ : BufTy).Contents (Elt F)) : (⟨S1x32x128x2x64, .f32⟩ : BufTy).Contents (Elt F) :=
  shapeCast _ (h_v22 (F := F) x0) shapeCasts_S1x4096x2x64_S1x32x128x2x64

def h_v76 (x0 : (⟨S4096x3072, .f32⟩ : BufTy).Contents (Elt F)) : (⟨S1x32x256x2x64, .f32⟩ : BufTy).Contents (Elt F) :=
  concatenate S1x32x256x2x64 2 [⟨S1x32x128x2x64, ((h_v74 (F := F) x0) : (⟨S1x32x128x2x64, .f32⟩ : BufTy).Contents (Elt F))⟩, ⟨S1x32x128x2x64, ((h_v75 (F := F) x0) : (⟨S1x32x128x2x64, .f32⟩ : BufTy).Contents (Elt F))⟩] concatenates_S1x32x128x2x64_S1x32x128x2x64_S1x32x256x2x64_d2

def h_v77 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S1x32x2x64x4x128, .f32⟩ : BufTy).Contents (Elt F) :=
  Host.dotGeneral dot_S1x32x256x2x64_S1x32x2x4x128x256_S1x32x2x64x4x128_2_5_4_34_013_012 none (h_v76 (F := F) x0) (h_v70 (F := F) x0 x1 x2 x3)

def h_v78 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S1x32x128x2x4x64, .f32⟩ : BufTy).Contents (Elt F) :=
  transpose S1x32x128x2x4x64 [0, 1, 5, 2, 4, 3] (h_v77 (F := F) x0 x1 x2 x3) transposes_S1x32x2x64x4x128_S1x32x128x2x4x64_0_1_5_2_4_3

def h_v79 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S1x4096x512, .f32⟩ : BufTy).Contents (Elt F) :=
  shapeCast _ (h_v78 (F := F) x0 x1 x2 x3) shapeCasts_S1x32x128x2x4x64_S1x4096x512

def h_v80 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S4096x512, .f32⟩ : BufTy).Contents (Elt F) :=
  shapeCast _ (h_v79 (F := F) x0 x1 x2 x3) shapeCasts_S1x4096x512_S4096x512

def h_v81 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S32x8x128, .f32⟩ : BufTy).Contents (Elt F) :=
  shapeCast _ (h_v66 (F := F) x0 x1 x2 x3) shapeCasts_S1x32x2x4x128x1_S32x8x128

def h_v82 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S32x128x8, .f32⟩ : BufTy).Contents (Elt F) :=
  transpose S32x128x8 [0, 2, 1] (h_v81 (F := F) x0 x1 x2 x3) transposes_S32x8x128_S32x128x8_0_2_1

def h_v83 (x0 : (⟨S4096x3072, .f32⟩ : BufTy).Contents (Elt F)) (x1 : (⟨S4096x32, .f32⟩ : BufTy).Contents (Elt F)) (x2 : (⟨S4096x32, .f32⟩ : BufTy).Contents (Elt F)) (x3 : (⟨S8, .f32⟩ : BufTy).Contents (Elt F)) : (⟨S4096x8, .f32⟩ : BufTy).Contents (Elt F) :=
  shapeCast _ (h_v82 (F := F) x0 x1 x2 x3) shapeCasts_S32x128x8_S4096x8

def h_v84 (x1 : (⟨S4096x32, .f32⟩ : BufTy).Contents (Elt F)) : (⟨S1x4096x1x32, .f32⟩ : BufTy).Contents (Elt F) :=
  shapeCast _ x1 shapeCasts_S4096x32_S1x4096x1x32

def h_v85 (x1 : (⟨S4096x32, .f32⟩ : BufTy).Contents (Elt F)) : (⟨S1x4096x4x32, .f32⟩ : BufTy).Contents (Elt F) :=
  broadcastInDim S1x4096x4x32 ![0, 1, 2, 3] bcast_S1x4096x1x32_S1x4096x4x32_0_1_2_3 (h_v84 (F := F) x1)

def h_v86 (x1 : (⟨S4096x32, .f32⟩ : BufTy).Contents (Elt F)) : (⟨S4096x128, .f32⟩ : BufTy).Contents (Elt F) :=
  shapeCast _ (h_v85 (F := F) x1) shapeCasts_S1x4096x4x32_S4096x128

def h_v87 (x2 : (⟨S4096x32, .f32⟩ : BufTy).Contents (Elt F)) : (⟨S4096x32, .f32⟩ : BufTy).Contents (Elt F) :=
  Host.negf x2

def h_v88 (x2 : (⟨S4096x32, .f32⟩ : BufTy).Contents (Elt F)) : (⟨S4096x64, .f32⟩ : BufTy).Contents (Elt F) :=
  concatenate S4096x64 1 [⟨S4096x32, ((h_v87 (F := F) x2) : (⟨S4096x32, .f32⟩ : BufTy).Contents (Elt F))⟩, ⟨S4096x32, (x2 : (⟨S4096x32, .f32⟩ : BufTy).Contents (Elt F))⟩] concatenates_S4096x32_S4096x32_S4096x64_d1

def h_v89 (x2 : (⟨S4096x32, .f32⟩ : BufTy).Contents (Elt F)) : (⟨S1x4096x1x64, .f32⟩ : BufTy).Contents (Elt F) :=
  shapeCast _ (h_v88 (F := F) x2) shapeCasts_S4096x64_S1x4096x1x64

def h_v90 (x2 : (⟨S4096x32, .f32⟩ : BufTy).Contents (Elt F)) : (⟨S1x4096x2x64, .f32⟩ : BufTy).Contents (Elt F) :=
  broadcastInDim S1x4096x2x64 ![0, 1, 2, 3] bcast_S1x4096x1x64_S1x4096x2x64_0_1_2_3 (h_v89 (F := F) x2)

def h_v91 (x2 : (⟨S4096x32, .f32⟩ : BufTy).Contents (Elt F)) : (⟨S4096x128, .f32⟩ : BufTy).Contents (Elt F) :=
  shapeCast _ (h_v90 (F := F) x2) shapeCasts_S1x4096x2x64_S4096x128

def h_v92 (x3 : (⟨S8, .f32⟩ : BufTy).Contents (Elt F)) : (⟨S8x1, .f32⟩ : BufTy).Contents (Elt F) :=
  broadcastInDim S8x1 ![0] bcast_S8_S8x1_0 x3

def h_v93 (x3 : (⟨S8, .f32⟩ : BufTy).Contents (Elt F)) : (⟨S8x128, .f32⟩ : BufTy).Contents (Elt F) :=
  broadcastInDim S8x128 ![0, 1] bcast_S8x1_S8x128_0_1 (h_v92 (F := F) x3)

end Cert.KernelIdeal.Before
-- ==== Proof.HostEq.lean ====
/- The arrays that the launch finds in memory are what the operations before it compute from the arguments. -/
module

public import proofs.«01_k».proof.Proof.HostTerms
public import proofs.«01_k».proof.Proof.KernelValue
public import Idealize.ShloMosaic.Lib.StableHlo.RunRead

@[expose] public section

set_option maxRecDepth 16384

noncomputable section

namespace Cert.KernelIdeal.Before

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

theorem V_main_v0 (c : Dev nD) :
    V m c main_v0 = h_v0 (F := F) (m ((c : Thread nD τ).loc main_arg0)) := by
  have e : V m c main_v0 = extractStridedSlice S4096x512 ![0, 0] (m ((c : Thread nD τ).loc main_arg0)) slices_S4096x3072_S4096x512_0_0 := by
    unfold V
    after_reads_simp
    try rfl
  rw [e]
  rfl

theorem V_main_v1 (c : Dev nD) :
    V m c main_v1 = h_v1 (F := F) (m ((c : Thread nD τ).loc main_arg0)) := by
  have e : V m c main_v1 = extractStridedSlice S4096x128 ![0, 2560] (m ((c : Thread nD τ).loc main_arg0)) slices_S4096x3072_S4096x128_0_2560 := by
    unfold V
    after_reads_simp
    try rfl
  rw [e]
  rfl

theorem V_main_v2 (c : Dev nD) :
    V m c main_v2 = h_v2 (F := F) (m ((c : Thread nD τ).loc main_arg0)) := by
  have e : V m c main_v2 = extractStridedSlice S4096x128 ![0, 2688] (m ((c : Thread nD τ).loc main_arg0)) slices_S4096x3072_S4096x128_0_2688 := by
    unfold V
    after_reads_simp
    try rfl
  rw [e]
  rfl

theorem V_main_v3 (c : Dev nD) :
    V m c main_v3 = h_v3 (F := F) (m ((c : Thread nD τ).loc main_arg0)) := by
  have e0 : upto (List.flatten [hostOps0, hostOps0_1, hostOps0_2]) (fun b => m (c, b)) 3 (Proc.devRef .tc main_v0) = V m c main_v0 := by
    unfold V
    after_reads_simp
    try rfl
  have e1 : upto (List.flatten [hostOps0, hostOps0_1, hostOps0_2]) (fun b => m (c, b)) 3 (Proc.devRef .tc main_v1) = V m c main_v1 := by
    unfold V
    after_reads_simp
    try rfl
  have e : V m c main_v3 = concatenate S4096x640 1 [⟨S4096x512, ((V m c main_v0) : (⟨S4096x512, .f32⟩ : BufTy).Contents (Elt F))⟩, ⟨S4096x128, ((V m c main_v1) : (⟨S4096x128, .f32⟩ : BufTy).Contents (Elt F))⟩] concatenates_S4096x512_S4096x128_S4096x640_d1 := by
    rw [← e0, ← e1]
    unfold V
    after_reads_simp
    try rfl
  rw [e, V_main_v0, V_main_v1]
  rfl

theorem V_main_v4 (c : Dev nD) :
    V m c main_v4 = h_v4 (F := F) (m ((c : Thread nD τ).loc main_arg0)) := by
  have e : V m c main_v4 = shapeCast _ (V m c main_v3) shapeCasts_S4096x640_S1x4096x10x64 := by
    unfold V
    after_reads_simp
    try rfl
  rw [e, V_main_v3]
  rfl

theorem V_main_v5 (c : Dev nD) :
    V m c main_v5 = h_v5 (F := F) (m ((c : Thread nD τ).loc main_arg1)) := by
  have e : V m c main_v5 = broadcastInDim S1x4096x1x32 ![1, 3] bcast_S4096x32_S1x4096x1x32_1_3 (m ((c : Thread nD τ).loc main_arg1)) := by
    unfold V
    after_reads_simp
    try rfl
  rw [e]
  rfl

theorem V_main_v6 (c : Dev nD) :
    V m c main_v6 = h_v6 (F := F) (m ((c : Thread nD τ).loc main_arg2)) := by
  have e : V m c main_v6 = broadcastInDim S1x4096x1x32 ![1, 3] bcast_S4096x32_S1x4096x1x32_1_3 (m ((c : Thread nD τ).loc main_arg2)) := by
    unfold V
    after_reads_simp
    try rfl
  rw [e]
  rfl

theorem V_main_v7 (c : Dev nD) :
    V m c main_v7 = h_v7 (F := F) (m ((c : Thread nD τ).loc main_arg0)) := by
  have e : V m c main_v7 = extractStridedSlice S1x4096x10x32 ![0, 0, 0, 0] (V m c main_v4) slices_S1x4096x10x64_S1x4096x10x32_0_0_0_0 := by
    unfold V
    after_reads_simp
    try rfl
  rw [e, V_main_v4]
  rfl

theorem V_main_v8 (c : Dev nD) :
    V m c main_v8 = h_v8 (F := F) (m ((c : Thread nD τ).loc main_arg0)) := by
  have e : V m c main_v8 = extractStridedSlice S1x4096x10x32 ![0, 0, 0, 32] (V m c main_v4) slices_S1x4096x10x64_S1x4096x10x32_0_0_0_32 := by
    unfold V
    after_reads_simp
    try rfl
  rw [e, V_main_v4]
  rfl

theorem V_main_v9 (c : Dev nD) :
    V m c main_v9 = h_v9 (F := F) (m ((c : Thread nD τ).loc main_arg1)) := by
  have e : V m c main_v9 = broadcastInDim S1x4096x10x32 ![0, 1, 2, 3] bcast_S1x4096x1x32_S1x4096x10x32_0_1_2_3 (V m c main_v5) := by
    unfold V
    after_reads_simp
    try rfl
  rw [e, V_main_v5]
  rfl

theorem V_main_v10 (c : Dev nD) :
    V m c main_v10 = h_v10 (F := F) (m ((c : Thread nD τ).loc main_arg0)) (m ((c : Thread nD τ).loc main_arg1)) := by
  have e : V m c main_v10 = mulf (V m c main_v7) (V m c main_v9) := by
    unfold V
    after_reads_simp
    try rfl
  rw [e, V_main_v7, V_main_v9]
  rfl

theorem V_main_v11 (c : Dev nD) :
    V m c main_v11 = h_v11 (F := F) (m ((c : Thread nD τ).loc main_arg2)) := by
  have e : V m c main_v11 = broadcastInDim S1x4096x10x32 ![0, 1, 2, 3] bcast_S1x4096x1x32_S1x4096x10x32_0_1_2_3 (V m c main_v6) := by
    unfold V
    after_reads_simp
    try rfl
  rw [e, V_main_v6]
  rfl

theorem V_main_v12 (c : Dev nD) :
    V m c main_v12 = h_v12 (F := F) (m ((c : Thread nD τ).loc main_arg0)) (m ((c : Thread nD τ).loc main_arg2)) := by
  have e : V m c main_v12 = mulf (V m c main_v8) (V m c main_v11) := by
    unfold V
    after_reads_simp
    try rfl
  rw [e, V_main_v8, V_main_v11]
  rfl

theorem V_main_v13 (c : Dev nD) :
    V m c main_v13 = h_v13 (F := F) (m ((c : Thread nD τ).loc main_arg0)) (m ((c : Thread nD τ).loc main_arg1)) (m ((c : Thread nD τ).loc main_arg2)) := by
  have e : V m c main_v13 = subf (V m c main_v10) (V m c main_v12) := by
    unfold V
    after_reads_simp
    try rfl
  rw [e, V_main_v10, V_main_v12]
  rfl

theorem V_main_v14 (c : Dev nD) :
    V m c main_v14 = h_v14 (F := F) (m ((c : Thread nD τ).loc main_arg1)) := by
  have e : V m c main_v14 = broadcastInDim S1x4096x10x32 ![0, 1, 2, 3] bcast_S1x4096x1x32_S1x4096x10x32_0_1_2_3 (V m c main_v5) := by
    unfold V
    after_reads_simp
    try rfl
  rw [e, V_main_v5]
  rfl

theorem V_main_v15 (c : Dev nD) :
    V m c main_v15 = h_v15 (F := F) (m ((c : Thread nD τ).loc main_arg0)) (m ((c : Thread nD τ).loc main_arg1)) := by
  have e : V m c main_v15 = mulf (V m c main_v8) (V m c main_v14) := by
    unfold V
    after_reads_simp
    try rfl
  rw [e, V_main_v8, V_main_v14]
  rfl

theorem V_main_v16 (c : Dev nD) :
    V m c main_v16 = h_v16 (F := F) (m ((c : Thread nD τ).loc main_arg2)) := by
  have e : V m c main_v16 = broadcastInDim S1x4096x10x32 ![0, 1, 2, 3] bcast_S1x4096x1x32_S1x4096x10x32_0_1_2_3 (V m c main_v6) := by
    unfold V
    after_reads_simp
    try rfl
  rw [e, V_main_v6]
  rfl

theorem V_main_v17 (c : Dev nD) :
    V m c main_v17 = h_v17 (F := F) (m ((c : Thread nD τ).loc main_arg0)) (m ((c : Thread nD τ).loc main_arg2)) := by
  have e : V m c main_v17 = mulf (V m c main_v7) (V m c main_v16) := by
    unfold V
    after_reads_simp
    try rfl
  rw [e, V_main_v7, V_main_v16]
  rfl

theorem V_main_v18 (c : Dev nD) :
    V m c main_v18 = h_v18 (F := F) (m ((c : Thread nD τ).loc main_arg0)) (m ((c : Thread nD τ).loc main_arg1)) (m ((c : Thread nD τ).loc main_arg2)) := by
  have e : V m c main_v18 = addf (V m c main_v15) (V m c main_v17) := by
    unfold V
    after_reads_simp
    try rfl
  rw [e, V_main_v15, V_main_v17]
  rfl

theorem V_main_v19 (c : Dev nD) :
    V m c main_v19 = h_v19 (F := F) (m ((c : Thread nD τ).loc main_arg0)) (m ((c : Thread nD τ).loc main_arg1)) (m ((c : Thread nD τ).loc main_arg2)) := by
  have e0 : upto (List.flatten [hostOps0, hostOps0_1, hostOps0_2]) (fun b => m (c, b)) 19 (Proc.devRef .tc main_v13) = V m c main_v13 := by
    unfold V
    after_reads_simp
    try rfl
  have e1 : upto (List.flatten [hostOps0, hostOps0_1, hostOps0_2]) (fun b => m (c, b)) 19 (Proc.devRef .tc main_v18) = V m c main_v18 := by
    unfold V
    after_reads_simp
    try rfl
  have e : V m c main_v19 = concatenate S1x4096x10x64 3 [⟨S1x4096x10x32, ((V m c main_v13) : (⟨S1x4096x10x32, .f32⟩ : BufTy).Contents (Elt F))⟩, ⟨S1x4096x10x32, ((V m c main_v18) : (⟨S1x4096x10x32, .f32⟩ : BufTy).Contents (Elt F))⟩] concatenates_S1x4096x10x32_S1x4096x10x32_S1x4096x10x64_d3 := by
    rw [← e0, ← e1]
    unfold V
    after_reads_simp
    try rfl
  rw [e, V_main_v13, V_main_v18]
  rfl

theorem V_main_v20 (c : Dev nD) :
    V m c main_v20 = h_v20 (F := F) (m ((c : Thread nD τ).loc main_arg0)) (m ((c : Thread nD τ).loc main_arg1)) (m ((c : Thread nD τ).loc main_arg2)) := by
  have e : V m c main_v20 = extractStridedSlice S1x4096x8x64 ![0, 0, 0, 0] (V m c main_v19) slices_S1x4096x10x64_S1x4096x8x64_0_0_0_0 := by
    unfold V
    after_reads_simp
    try rfl
  rw [e, V_main_v19]
  rfl

theorem V_main_v21 (c : Dev nD) :
    V m c main_v21 = h_v21 (F := F) (m ((c : Thread nD τ).loc main_arg0)) (m ((c : Thread nD τ).loc main_arg1)) (m ((c : Thread nD τ).loc main_arg2)) := by
  have e : V m c main_v21 = extractStridedSlice S1x4096x2x64 ![0, 0, 8, 0] (V m c main_v19) slices_S1x4096x10x64_S1x4096x2x64_0_0_8_0 := by
    unfold V
    after_reads_simp
    try rfl
  rw [e, V_main_v19]
  rfl

theorem V_main_v22 (c : Dev nD) :
    V m c main_v22 = h_v22 (F := F) (m ((c : Thread nD τ).loc main_arg0)) := by
  have e : V m c main_v22 = shapeCast _ (V m c main_v2) shapeCasts_S4096x128_S1x4096x2x64 := by
    unfold V
    after_reads_simp
    try rfl
  rw [e, V_main_v2]
  rfl

theorem V_main_cst (c : Dev nD) :
    V m c main_cst = h_cst (F := F) := by
  have e : V m c main_cst = constant S_ .f32 0x00000000#32 := by
    unfold V
    after_reads_simp
    try rfl
  rw [e]
  rfl

theorem V_main_v23 (c : Dev nD) :
    V m c main_v23 = h_v23 (F := F) := by
  have e : V m c main_v23 = broadcastInDim S1x128x2x64 ![] bcast_S_S1x128x2x64 (V m c main_cst) := by
    unfold V
    after_reads_simp
    try rfl
  rw [e, V_main_cst]
  rfl

theorem V_main_v24 (c : Dev nD) :
    V m c main_v24 = h_v24 (F := F) (m ((c : Thread nD τ).loc main_arg0)) (m ((c : Thread nD τ).loc main_arg1)) (m ((c : Thread nD τ).loc main_arg2)) := by
  have e : V m c main_v24 = extractStridedSlice S1x3968x2x64 ![0, 0, 0, 0] (V m c main_v21) slices_S1x4096x2x64_S1x3968x2x64_0_0_0_0 := by
    unfold V
    after_reads_simp
    try rfl
  rw [e, V_main_v21]
  rfl

theorem V_main_v25 (c : Dev nD) :
    V m c main_v25 = h_v25 (F := F) (m ((c : Thread nD τ).loc main_arg0)) (m ((c : Thread nD τ).loc main_arg1)) (m ((c : Thread nD τ).loc main_arg2)) := by
  have e0 : upto (List.flatten [hostOps0, hostOps0_1, hostOps0_2]) (fun b => m (c, b)) 26 (Proc.devRef .tc main_v23) = V m c main_v23 := by
    unfold V
    after_reads_simp
    try rfl
  have e1 : upto (List.flatten [hostOps0, hostOps0_1, hostOps0_2]) (fun b => m (c, b)) 26 (Proc.devRef .tc main_v24) = V m c main_v24 := by
    unfold V
    after_reads_simp
    try rfl
  have e : V m c main_v25 = concatenate S1x4096x2x64 1 [⟨S1x128x2x64, ((V m c main_v23) : (⟨S1x128x2x64, .f32⟩ : BufTy).Contents (Elt F))⟩, ⟨S1x3968x2x64, ((V m c main_v24) : (⟨S1x3968x2x64, .f32⟩ : BufTy).Contents (Elt F))⟩] concatenates_S1x128x2x64_S1x3968x2x64_S1x4096x2x64_d1 := by
    rw [← e0, ← e1]
    unfold V
    after_reads_simp
    try rfl
  rw [e, V_main_v23, V_main_v24]
  rfl

theorem V_main_v26 (c : Dev nD) :
    V m c main_v26 = h_v26 (F := F) (m ((c : Thread nD τ).loc main_arg0)) (m ((c : Thread nD τ).loc main_arg1)) (m ((c : Thread nD τ).loc main_arg2)) := by
  have e : V m c main_v26 = shapeCast _ (V m c main_v25) shapeCasts_S1x4096x2x64_S1x32x128x2x64 := by
    unfold V
    after_reads_simp
    try rfl
  rw [e, V_main_v25]
  rfl

theorem V_main_v27 (c : Dev nD) :
    V m c main_v27 = h_v27 (F := F) (m ((c : Thread nD τ).loc main_arg0)) (m ((c : Thread nD τ).loc main_arg1)) (m ((c : Thread nD τ).loc main_arg2)) := by
  have e : V m c main_v27 = shapeCast _ (V m c main_v21) shapeCasts_S1x4096x2x64_S1x32x128x2x64 := by
    unfold V
    after_reads_simp
    try rfl
  rw [e, V_main_v21]
  rfl

theorem V_main_v28 (c : Dev nD) :
    V m c main_v28 = h_v28 (F := F) (m ((c : Thread nD τ).loc main_arg0)) (m ((c : Thread nD τ).loc main_arg1)) (m ((c : Thread nD τ).loc main_arg2)) := by
  have e0 : upto (List.flatten [hostOps0, hostOps0_1, hostOps0_2]) (fun b => m (c, b)) 29 (Proc.devRef .tc main_v26) = V m c main_v26 := by
    unfold V
    after_reads_simp
    try rfl
  have e1 : upto (List.flatten [hostOps0, hostOps0_1, hostOps0_2]) (fun b => m (c, b)) 29 (Proc.devRef .tc main_v27) = V m c main_v27 := by
    unfold V
    after_reads_simp
    try rfl
  have e : V m c main_v28 = concatenate S1x32x256x2x64 2 [⟨S1x32x128x2x64, ((V m c main_v26) : (⟨S1x32x128x2x64, .f32⟩ : BufTy).Contents (Elt F))⟩, ⟨S1x32x128x2x64, ((V m c main_v27) : (⟨S1x32x128x2x64, .f32⟩ : BufTy).Contents (Elt F))⟩] concatenates_S1x32x128x2x64_S1x32x128x2x64_S1x32x256x2x64_d2 := by
    rw [← e0, ← e1]
    unfold V
    after_reads_simp
    try rfl
  rw [e, V_main_v26, V_main_v27]
  rfl

theorem V_main_v29 (c : Dev nD) :
    V m c main_v29 = h_v29 (F := F) (m ((c : Thread nD τ).loc main_arg0)) (m ((c : Thread nD τ).loc main_arg1)) (m ((c : Thread nD τ).loc main_arg2)) := by
  have e : V m c main_v29 = shapeCast _ (V m c main_v20) shapeCasts_S1x4096x8x64_S1x32x128x2x4x64 := by
    unfold V
    after_reads_simp
    try rfl
  rw [e, V_main_v20]
  rfl

theorem V_main_v30 (c : Dev nD) :
    V m c main_v30 = h_v30 (F := F) (m ((c : Thread nD τ).loc main_arg0)) (m ((c : Thread nD τ).loc main_arg1)) (m ((c : Thread nD τ).loc main_arg2)) := by
  have e : V m c main_v30 = Host.dotGeneral dot_S1x32x256x2x64_S1x32x128x2x4x64_S1x32x2x256x128x4_4_5_2_24_013_013 none (V m c main_v28) (V m c main_v29) := by
    unfold V
    after_reads_simp
    try rfl
  rw [e, V_main_v28, V_main_v29]
  rfl

theorem V_main_v31 (c : Dev nD) :
    V m c main_v31 = h_v31 (F := F) (m ((c : Thread nD τ).loc main_arg0)) (m ((c : Thread nD τ).loc main_arg1)) (m ((c : Thread nD τ).loc main_arg2)) := by
  have e : V m c main_v31 = transpose S1x32x2x4x128x256 [0, 1, 2, 5, 4, 3] (V m c main_v30) transposes_S1x32x2x256x128x4_S1x32x2x4x128x256_0_1_2_5_4_3 := by
    unfold V
    after_reads_simp
    try rfl
  rw [e, V_main_v30]
  rfl

theorem V_main_cst_0 (c : Dev nD) :
    V m c main_cst_0 = h_cst_0 (F := F) := by
  have e : V m c main_cst_0 = constant S_ .f32 0x3E000000#32 := by
    unfold V
    after_reads_simp
    try rfl
  rw [e]
  rfl

theorem V_main_v32 (c : Dev nD) :
    V m c main_v32 = h_v32 (F := F) := by
  have e : V m c main_v32 = broadcastInDim S1x32x2x4x128x256 ![] bcast_S_S1x32x2x4x128x256 (V m c main_cst_0) := by
    unfold V
    after_reads_simp
    try rfl
  rw [e, V_main_cst_0]
  rfl

theorem V_main_v33 (c : Dev nD) :
    V m c main_v33 = h_v33 (F := F) (m ((c : Thread nD τ).loc main_arg0)) (m ((c : Thread nD τ).loc main_arg1)) (m ((c : Thread nD τ).loc main_arg2)) := by
  have e : V m c main_v33 = mulf (V m c main_v31) (V m c main_v32) := by
    unfold V
    after_reads_simp
    try rfl
  rw [e, V_main_v31, V_main_v32]
  rfl

theorem V_main_v34 (c : Dev nD) :
    V m c main_v34 = h_v34 (F := F) := by
  have e : V m c main_v34 = iotaInDim S32x128x256 32 0 := by
    unfold V
    after_reads_simp
    try rfl
  rw [e]
  rfl

theorem V_main_v35 (c : Dev nD) :
    V m c main_v35 = h_v35 (F := F) := by
  have e : V m c main_v35 = iotaInDim S32x128x256 32 1 := by
    unfold V
    after_reads_simp
    try rfl
  rw [e]
  rfl

theorem V_main_v36 (c : Dev nD) :
    V m c main_v36 = h_v36 (F := F) := by
  have e : V m c main_v36 = iotaInDim S32x128x256 32 2 := by
    unfold V
    after_reads_simp
    try rfl
  rw [e]
  rfl

theorem V_main_c (c : Dev nD) :
    V m c main_c = h_c (F := F) := by
  have e : V m c main_c = constantI S_ 32 128#32 := by
    unfold V
    after_reads_simp
    try rfl
  rw [e]
  rfl

theorem V_main_v37 (c : Dev nD) :
    V m c main_v37 = h_v37 (F := F) := by
  have e : V m c main_v37 = broadcastInDim S32x128x256 ![] bcast_S_S32x128x256 (V m c main_c) := by
    unfold V
    after_reads_simp
    try rfl
  rw [e, V_main_c]
  rfl

theorem V_main_v38 (c : Dev nD) :
    V m c main_v38 = h_v38 (F := F) := by
  have e : V m c main_v38 = addi (V m c main_v35) (V m c main_v37) := by
    unfold V
    after_reads_simp
    try rfl
  rw [e, V_main_v35, V_main_v37]
  rfl

theorem V_main_v39 (c : Dev nD) :
    V m c main_v39 = h_v39 (F := F) := by
  have e : V m c main_v39 = subi (V m c main_v38) (V m c main_v36) := by
    unfold V
    after_reads_simp
    try rfl
  rw [e, V_main_v38, V_main_v36]
  rfl

theorem V_main_c_1 (c : Dev nD) :
    V m c main_c_1 = h_c_1 (F := F) := by
  have e : V m c main_c_1 = constantI S_ 32 0#32 := by
    unfold V
    after_reads_simp
    try rfl
  rw [e]
  rfl

theorem V_main_v40 (c : Dev nD) :
    V m c main_v40 = h_v40 (F := F) := by
  have e : V m c main_v40 = broadcastInDim S32x128x256 ![] bcast_S_S32x128x256 (V m c main_c_1) := by
    unfold V
    after_reads_simp
    try rfl
  rw [e, V_main_c_1]
  rfl

theorem V_main_v41 (c : Dev nD) :
    V m c main_v41 = h_v41 (F := F) := by
  have e : V m c main_v41 = cmpi .sge (V m c main_v39) (V m c main_v40) := by
    unfold V
    after_reads_simp
    try rfl
  rw [e, V_main_v39, V_main_v40]
  rfl

theorem V_main_c_2 (c : Dev nD) :
    V m c main_c_2 = h_c_2 (F := F) := by
  have e : V m c main_c_2 = constantI S_ 32 128#32 := by
    unfold V
    after_reads_simp
    try rfl
  rw [e]
  rfl

theorem V_main_v42 (c : Dev nD) :
    V m c main_v42 = h_v42 (F := F) := by
  have e : V m c main_v42 = broadcastInDim S32x128x256 ![] bcast_S_S32x128x256 (V m c main_c_2) := by
    unfold V
    after_reads_simp
    try rfl
  rw [e, V_main_c_2]
  rfl

theorem V_main_v43 (c : Dev nD) :
    V m c main_v43 = h_v43 (F := F) := by
  have e : V m c main_v43 = cmpi .slt (V m c main_v39) (V m c main_v42) := by
    unfold V
    after_reads_simp
    try rfl
  rw [e, V_main_v39, V_main_v42]
  rfl

theorem V_main_v44 (c : Dev nD) :
    V m c main_v44 = h_v44 (F := F) := by
  have e : V m c main_v44 = andi (V m c main_v41) (V m c main_v43) := by
    unfold V
    after_reads_simp
    try rfl
  rw [e, V_main_v41, V_main_v43]
  rfl

theorem V_main_c_3 (c : Dev nD) :
    V m c main_c_3 = h_c_3 (F := F) := by
  have e : V m c main_c_3 = constantI S_ 32 1#32 := by
    unfold V
    after_reads_simp
    try rfl
  rw [e]
  rfl

theorem V_main_v45 (c : Dev nD) :
    V m c main_v45 = h_v45 (F := F) := by
  have e : V m c main_v45 = broadcastInDim S32x128x256 ![] bcast_S_S32x128x256 (V m c main_c_3) := by
    unfold V
    after_reads_simp
    try rfl
  rw [e, V_main_c_3]
  rfl

theorem V_main_v46 (c : Dev nD) :
    V m c main_v46 = h_v46 (F := F) := by
  have e : V m c main_v46 = subi (V m c main_v34) (V m c main_v45) := by
    unfold V
    after_reads_simp
    try rfl
  rw [e, V_main_v34, V_main_v45]
  rfl

theorem V_main_c_4 (c : Dev nD) :
    V m c main_c_4 = h_c_4 (F := F) := by
  have e : V m c main_c_4 = constantI S_ 32 128#32 := by
    unfold V
    after_reads_simp
    try rfl
  rw [e]
  rfl

theorem V_main_v47 (c : Dev nD) :
    V m c main_v47 = h_v47 (F := F) := by
  have e : V m c main_v47 = broadcastInDim S32x128x256 ![] bcast_S_S32x128x256 (V m c main_c_4) := by
    unfold V
    after_reads_simp
    try rfl
  rw [e, V_main_c_4]
  rfl

theorem V_main_v48 (c : Dev nD) :
    V m c main_v48 = h_v48 (F := F) := by
  have e : V m c main_v48 = muli (V m c main_v46) (V m c main_v47) := by
    unfold V
    after_reads_simp
    try rfl
  rw [e, V_main_v46, V_main_v47]
  rfl

theorem V_main_v49 (c : Dev nD) :
    V m c main_v49 = h_v49 (F := F) := by
  have e : V m c main_v49 = addi (V m c main_v48) (V m c main_v36) := by
    unfold V
    after_reads_simp
    try rfl
  rw [e, V_main_v48, V_main_v36]
  rfl

theorem V_main_c_5 (c : Dev nD) :
    V m c main_c_5 = h_c_5 (F := F) := by
  have e : V m c main_c_5 = constantI S_ 32 0#32 := by
    unfold V
    after_reads_simp
    try rfl
  rw [e]
  rfl

theorem V_main_v50 (c : Dev nD) :
    V m c main_v50 = h_v50 (F := F) := by
  have e : V m c main_v50 = broadcastInDim S32x128x256 ![] bcast_S_S32x128x256 (V m c main_c_5) := by
    unfold V
    after_reads_simp
    try rfl
  rw [e, V_main_c_5]
  rfl

theorem V_main_v51 (c : Dev nD) :
    V m c main_v51 = h_v51 (F := F) := by
  have e : V m c main_v51 = cmpi .sge (V m c main_v49) (V m c main_v50) := by
    unfold V
    after_reads_simp
    try rfl
  rw [e, V_main_v49, V_main_v50]
  rfl

theorem V_main_v52 (c : Dev nD) :
    V m c main_v52 = h_v52 (F := F) := by
  have e : V m c main_v52 = andi (V m c main_v44) (V m c main_v51) := by
    unfold V
    after_reads_simp
    try rfl
  rw [e, V_main_v44, V_main_v51]
  rfl

theorem V_main_v53 (c : Dev nD) :
    V m c main_v53 = h_v53 (F := F) := by
  have e : V m c main_v53 = broadcastInDim S1x32x1x1x128x256 ![1, 4, 5] bcast_S32x128x256_S1x32x1x1x128x256_1_4_5 (V m c main_v52) := by
    unfold V
    after_reads_simp
    try rfl
  rw [e, V_main_v52]
  rfl

theorem V_main_cst_6 (c : Dev nD) :
    V m c main_cst_6 = h_cst_6 (F := F) := by
  have e : V m c main_cst_6 = constant S_ .f32 0xFF800000#32 := by
    unfold V
    after_reads_simp
    try rfl
  rw [e]
  rfl

theorem V_main_call0_v0 (c : Dev nD) :
    V m c main_call0_v0 = h_call0_v0 (F := F) := by
  have e : V m c main_call0_v0 = id (V m c main_cst_6) := by
    unfold V
    after_reads_simp
    try rfl
  rw [e, V_main_cst_6]
  rfl

theorem V_main_call0_v1 (c : Dev nD) :
    V m c main_call0_v1 = h_call0_v1 (F := F) := by
  have e : V m c main_call0_v1 = (broadcastInDim S1x32x2x4x128x256 ![0, 1, 2, 3, 4, 5] bcast_S1x32x1x1x128x256_S1x32x2x4x128x256_0_1_2_3_4_5) (V m c main_v53) := by
    unfold V
    after_reads_simp
    try rfl
  rw [e, V_main_v53]
  rfl

theorem V_main_call0_v2 (c : Dev nD) :
    V m c main_call0_v2 = h_call0_v2 (F := F) := by
  have e : V m c main_call0_v2 = (broadcastInDim S1x32x2x4x128x256 ![] bcast_S_S1x32x2x4x128x256) (V m c main_call0_v0) := by
    unfold V
    after_reads_simp
    try rfl
  rw [e, V_main_call0_v0]
  rfl

theorem V_main_v54 (c : Dev nD) :
    V m c main_v54 = h_v54 (F := F) (m ((c : Thread nD τ).loc main_arg0)) (m ((c : Thread nD τ).loc main_arg1)) (m ((c : Thread nD τ).loc main_arg2)) := by
  have e : V m c main_v54 = select (V m c main_call0_v1) (V m c main_v33) (V m c main_call0_v2) := by
    unfold V
    after_reads_simp
    try rfl
  rw [e, V_main_call0_v1, V_main_v33, V_main_call0_v2]
  rfl

theorem V_main_v55 (c : Dev nD) :
    V m c main_v55 = h_v55 (F := F) (m ((c : Thread nD τ).loc main_arg3)) := by
  have e : V m c main_v55 = shapeCast _ (m ((c : Thread nD τ).loc main_arg3)) shapeCasts_S8_S1x1x2x4x1x1 := by
    unfold V
    after_reads_simp
    try rfl
  rw [e]
  rfl

theorem V_main_v56 (c : Dev nD) :
    V m c main_v56 = h_v56 (F := F) (m ((c : Thread nD τ).loc main_arg3)) := by
  have e : V m c main_v56 = broadcastInDim S1x32x2x4x128x1 ![0, 1, 2, 3, 4, 5] bcast_S1x1x2x4x1x1_S1x32x2x4x128x1_0_1_2_3_4_5 (V m c main_v55) := by
    unfold V
    after_reads_simp
    try rfl
  rw [e, V_main_v55]
  rfl

theorem V_main_v57 (c : Dev nD) :
    V m c main_v57 = h_v57 (F := F) (m ((c : Thread nD τ).loc main_arg0)) (m ((c : Thread nD τ).loc main_arg1)) (m ((c : Thread nD τ).loc main_arg2)) (m ((c : Thread nD τ).loc main_arg3)) := by
  have e0 : upto (List.flatten [hostOps0, hostOps0_1, hostOps0_2]) (fun b => m (c, b)) 69 (Proc.devRef .tc main_v54) = V m c main_v54 := by
    unfold V
    after_reads_simp
    try rfl
  have e1 : upto (List.flatten [hostOps0, hostOps0_1, hostOps0_2]) (fun b => m (c, b)) 69 (Proc.devRef .tc main_v56) = V m c main_v56 := by
    unfold V
    after_reads_simp
    try rfl
  have e : V m c main_v57 = concatenate S1x32x2x4x128x257 5 [⟨S1x32x2x4x128x256, ((V m c main_v54) : (⟨S1x32x2x4x128x256, .f32⟩ : BufTy).Contents (Elt F))⟩, ⟨S1x32x2x4x128x1, ((V m c main_v56) : (⟨S1x32x2x4x128x1, .f32⟩ : BufTy).Contents (Elt F))⟩] concatenates_S1x32x2x4x128x256_S1x32x2x4x128x1_S1x32x2x4x128x257_d5 := by
    rw [← e0, ← e1]
    unfold V
    after_reads_simp
    try rfl
  rw [e, V_main_v54, V_main_v56]
  rfl

theorem V_main_cst_7 (c : Dev nD) :
    V m c main_cst_7 = h_cst_7 (F := F) := by
  have e : V m c main_cst_7 = constant S_ .f32 0xFF800000#32 := by
    unfold V
    after_reads_simp
    try rfl
  rw [e]
  rfl

theorem V_main_v58 (c : Dev nD) :
    V m c main_v58 = h_v58 (F := F) (m ((c : Thread nD τ).loc main_arg0)) (m ((c : Thread nD τ).loc main_arg1)) (m ((c : Thread nD τ).loc main_arg2)) (m ((c : Thread nD τ).loc main_arg3)) := by
  have e : V m c main_v58 = Host.reduce FloatOps.maximumf (V m c main_v57) (V m c main_cst_7) reducesTo_S1x32x2x4x128x257_S1x32x2x4x128_d5 h_S_ := by
    unfold V
    after_reads_simp
    try rfl
  rw [e, V_main_v57, V_main_cst_7]
  rfl

theorem V_main_v59 (c : Dev nD) :
    V m c main_v59 = h_v59 (F := F) (m ((c : Thread nD τ).loc main_arg0)) (m ((c : Thread nD τ).loc main_arg1)) (m ((c : Thread nD τ).loc main_arg2)) (m ((c : Thread nD τ).loc main_arg3)) := by
  have e : V m c main_v59 = broadcastInDim S1x32x2x4x128x1 ![0, 1, 2, 3, 4] bcast_S1x32x2x4x128_S1x32x2x4x128x1_0_1_2_3_4 (V m c main_v58) := by
    unfold V
    after_reads_simp
    try rfl
  rw [e, V_main_v58]
  rfl

theorem V_main_v60 (c : Dev nD) :
    V m c main_v60 = h_v60 (F := F) (m ((c : Thread nD τ).loc main_arg0)) (m ((c : Thread nD τ).loc main_arg1)) (m ((c : Thread nD τ).loc main_arg2)) (m ((c : Thread nD τ).loc main_arg3)) := by
  have e : V m c main_v60 = broadcastInDim S1x32x2x4x128x257 ![0, 1, 2, 3, 4, 5] bcast_S1x32x2x4x128x1_S1x32x2x4x128x257_0_1_2_3_4_5 (V m c main_v59) := by
    unfold V
    after_reads_simp
    try rfl
  rw [e, V_main_v59]
  rfl

theorem V_main_v61 (c : Dev nD) :
    V m c main_v61 = h_v61 (F := F) (m ((c : Thread nD τ).loc main_arg0)) (m ((c : Thread nD τ).loc main_arg1)) (m ((c : Thread nD τ).loc main_arg2)) (m ((c : Thread nD τ).loc main_arg3)) := by
  have e : V m c main_v61 = subf (V m c main_v57) (V m c main_v60) := by
    unfold V
    after_reads_simp
    try rfl
  rw [e, V_main_v57, V_main_v60]
  rfl

theorem V_main_v62 (c : Dev nD) :
    V m c main_v62 = h_v62 (F := F) (m ((c : Thread nD τ).loc main_arg0)) (m ((c : Thread nD τ).loc main_arg1)) (m ((c : Thread nD τ).loc main_arg2)) (m ((c : Thread nD τ).loc main_arg3)) := by
  have e : V m c main_v62 = Host.exp (V m c main_v61) := by
    unfold V
    after_reads_simp
    try rfl
  rw [e, V_main_v61]
  rfl

theorem V_main_cst_8 (c : Dev nD) :
    V m c main_cst_8 = h_cst_8 (F := F) := by
  have e : V m c main_cst_8 = constant S_ .f32 0x00000000#32 := by
    unfold V
    after_reads_simp
    try rfl
  rw [e]
  rfl

theorem V_main_v63 (c : Dev nD) :
    V m c main_v63 = h_v63 (F := F) (m ((c : Thread nD τ).loc main_arg0)) (m ((c : Thread nD τ).loc main_arg1)) (m ((c : Thread nD τ).loc main_arg2)) (m ((c : Thread nD τ).loc main_arg3)) := by
  have e : V m c main_v63 = Host.reduceAdd (V m c main_v62) (V m c main_cst_8) reducesTo_S1x32x2x4x128x257_S1x32x2x4x128_d5 h_S_ := by
    unfold V
    after_reads_simp
    try rfl
  rw [e, V_main_v62, V_main_cst_8]
  rfl

theorem V_main_v64 (c : Dev nD) :
    V m c main_v64 = h_v64 (F := F) (m ((c : Thread nD τ).loc main_arg0)) (m ((c : Thread nD τ).loc main_arg1)) (m ((c : Thread nD τ).loc main_arg2)) (m ((c : Thread nD τ).loc main_arg3)) := by
  have e : V m c main_v64 = broadcastInDim S1x32x2x4x128x1 ![0, 1, 2, 3, 4] bcast_S1x32x2x4x128_S1x32x2x4x128x1_0_1_2_3_4 (V m c main_v63) := by
    unfold V
    after_reads_simp
    try rfl
  rw [e, V_main_v63]
  rfl

theorem V_main_v65 (c : Dev nD) :
    V m c main_v65 = h_v65 (F := F) (m ((c : Thread nD τ).loc main_arg0)) (m ((c : Thread nD τ).loc main_arg1)) (m ((c : Thread nD τ).loc main_arg2)) (m ((c : Thread nD τ).loc main_arg3)) := by
  have e : V m c main_v65 = Host.log (V m c main_v64) := by
    unfold V
    after_reads_simp
    try rfl
  rw [e, V_main_v64]
  rfl

theorem V_main_v66 (c : Dev nD) :
    V m c main_v66 = h_v66 (F := F) (m ((c : Thread nD τ).loc main_arg0)) (m ((c : Thread nD τ).loc main_arg1)) (m ((c : Thread nD τ).loc main_arg2)) (m ((c : Thread nD τ).loc main_arg3)) := by
  have e : V m c main_v66 = addf (V m c main_v59) (V m c main_v65) := by
    unfold V
    after_reads_simp
    try rfl
  rw [e, V_main_v59, V_main_v65]
  rfl

theorem V_main_v67 (c : Dev nD) :
    V m c main_v67 = h_v67 (F := F) (m ((c : Thread nD τ).loc main_arg0)) (m ((c : Thread nD τ).loc main_arg1)) (m ((c : Thread nD τ).loc main_arg2)) (m ((c : Thread nD τ).loc main_arg3)) := by
  have e : V m c main_v67 = broadcastInDim S1x32x2x4x128x257 ![0, 1, 2, 3, 4, 5] bcast_S1x32x2x4x128x1_S1x32x2x4x128x257_0_1_2_3_4_5 (V m c main_v66) := by
    unfold V
    after_reads_simp
    try rfl
  rw [e, V_main_v66]
  rfl

theorem V_main_v68 (c : Dev nD) :
    V m c main_v68 = h_v68 (F := F) (m ((c : Thread nD τ).loc main_arg0)) (m ((c : Thread nD τ).loc main_arg1)) (m ((c : Thread nD τ).loc main_arg2)) (m ((c : Thread nD τ).loc main_arg3)) := by
  have e : V m c main_v68 = subf (V m c main_v57) (V m c main_v67) := by
    unfold V
    after_reads_simp
    try rfl
  rw [e, V_main_v57, V_main_v67]
  rfl

theorem V_main_v69 (c : Dev nD) :
    V m c main_v69 = h_v69 (F := F) (m ((c : Thread nD τ).loc main_arg0)) (m ((c : Thread nD τ).loc main_arg1)) (m ((c : Thread nD τ).loc main_arg2)) (m ((c : Thread nD τ).loc main_arg3)) := by
  have e : V m c main_v69 = Host.exp (V m c main_v68) := by
    unfold V
    after_reads_simp
    try rfl
  rw [e, V_main_v68]
  rfl

theorem V_main_v70 (c : Dev nD) :
    V m c main_v70 = h_v70 (F := F) (m ((c : Thread nD τ).loc main_arg0)) (m ((c : Thread nD τ).loc main_arg1)) (m ((c : Thread nD τ).loc main_arg2)) (m ((c : Thread nD τ).loc main_arg3)) := by
  have e : V m c main_v70 = extractStridedSlice S1x32x2x4x128x256 ![0, 0, 0, 0, 0, 0] (V m c main_v69) slices_S1x32x2x4x128x257_S1x32x2x4x128x256_0_0_0_0_0_0 := by
    unfold V
    after_reads_simp
    try rfl
  rw [e, V_main_v69]
  rfl

theorem V_main_cst_9 (c : Dev nD) :
    V m c main_cst_9 = h_cst_9 (F := F) := by
  have e : V m c main_cst_9 = constant S_ .f32 0x00000000#32 := by
    unfold V
    after_reads_simp
    try rfl
  rw [e]
  rfl

theorem V_main_v71 (c : Dev nD) :
    V m c main_v71 = h_v71 (F := F) := by
  have e : V m c main_v71 = broadcastInDim S1x128x2x64 ![] bcast_S_S1x128x2x64 (V m c main_cst_9) := by
    unfold V
    after_reads_simp
    try rfl
  rw [e, V_main_cst_9]
  rfl

theorem V_main_v72 (c : Dev nD) :
    V m c main_v72 = h_v72 (F := F) (m ((c : Thread nD τ).loc main_arg0)) := by
  have e : V m c main_v72 = extractStridedSlice S1x3968x2x64 ![0, 0, 0, 0] (V m c main_v22) slices_S1x4096x2x64_S1x3968x2x64_0_0_0_0 := by
    unfold V
    after_reads_simp
    try rfl
  rw [e, V_main_v22]
  rfl

theorem V_main_v73 (c : Dev nD) :
    V m c main_v73 = h_v73 (F := F) (m ((c : Thread nD τ).loc main_arg0)) := by
  have e0 : upto (List.flatten [hostOps0, hostOps0_1, hostOps0_2]) (fun b => m (c, b)) 88 (Proc.devRef .tc main_v71) = V m c main_v71 := by
    unfold V
    after_reads_simp
    try rfl
  have e1 : upto (List.flatten [hostOps0, hostOps0_1, hostOps0_2]) (fun b => m (c, b)) 88 (Proc.devRef .tc main_v72) = V m c main_v72 := by
    unfold V
    after_reads_simp
    try rfl
  have e : V m c main_v73 = concatenate S1x4096x2x64 1 [⟨S1x128x2x64, ((V m c main_v71) : (⟨S1x128x2x64, .f32⟩ : BufTy).Contents (Elt F))⟩, ⟨S1x3968x2x64, ((V m c main_v72) : (⟨S1x3968x2x64, .f32⟩ : BufTy).Contents (Elt F))⟩] concatenates_S1x128x2x64_S1x3968x2x64_S1x4096x2x64_d1 := by
    rw [← e0, ← e1]
    unfold V
    after_reads_simp
    try rfl
  rw [e, V_main_v71, V_main_v72]
  rfl

theorem V_main_v74 (c : Dev nD) :
    V m c main_v74 = h_v74 (F := F) (m ((c : Thread nD τ).loc main_arg0)) := by
  have e : V m c main_v74 = shapeCast _ (V m c main_v73) shapeCasts_S1x4096x2x64_S1x32x128x2x64 := by
    unfold V
    after_reads_simp
    try rfl
  rw [e, V_main_v73]
  rfl

theorem V_main_v75 (c : Dev nD) :
    V m c main_v75 = h_v75 (F := F) (m ((c : Thread nD τ).loc main_arg0)) := by
  have e : V m c main_v75 = shapeCast _ (V m c main_v22) shapeCasts_S1x4096x2x64_S1x32x128x2x64 := by
    unfold V
    after_reads_simp
    try rfl
  rw [e, V_main_v22]
  rfl

theorem V_main_v76 (c : Dev nD) :
    V m c main_v76 = h_v76 (F := F) (m ((c : Thread nD τ).loc main_arg0)) := by
  have e0 : upto (List.flatten [hostOps0, hostOps0_1, hostOps0_2]) (fun b => m (c, b)) 91 (Proc.devRef .tc main_v74) = V m c main_v74 := by
    unfold V
    after_reads_simp
    try rfl
  have e1 : upto (List.flatten [hostOps0, hostOps0_1, hostOps0_2]) (fun b => m (c, b)) 91 (Proc.devRef .tc main_v75) = V m c main_v75 := by
    unfold V
    after_reads_simp
    try rfl
  have e : V m c main_v76 = concatenate S1x32x256x2x64 2 [⟨S1x32x128x2x64, ((V m c main_v74) : (⟨S1x32x128x2x64, .f32⟩ : BufTy).Contents (Elt F))⟩, ⟨S1x32x128x2x64, ((V m c main_v75) : (⟨S1x32x128x2x64, .f32⟩ : BufTy).Contents (Elt F))⟩] concatenates_S1x32x128x2x64_S1x32x128x2x64_S1x32x256x2x64_d2 := by
    rw [← e0, ← e1]
    unfold V
    after_reads_simp
    try rfl
  rw [e, V_main_v74, V_main_v75]
  rfl

theorem V_main_v77 (c : Dev nD) :
    V m c main_v77 = h_v77 (F := F) (m ((c : Thread nD τ).loc main_arg0)) (m ((c : Thread nD τ).loc main_arg1)) (m ((c : Thread nD τ).loc main_arg2)) (m ((c : Thread nD τ).loc main_arg3)) := by
  have e : V m c main_v77 = Host.dotGeneral dot_S1x32x256x2x64_S1x32x2x4x128x256_S1x32x2x64x4x128_2_5_4_34_013_012 none (V m c main_v76) (V m c main_v70) := by
    unfold V
    after_reads_simp
    try rfl
  rw [e, V_main_v76, V_main_v70]
  rfl

theorem V_main_v78 (c : Dev nD) :
    V m c main_v78 = h_v78 (F := F) (m ((c : Thread nD τ).loc main_arg0)) (m ((c : Thread nD τ).loc main_arg1)) (m ((c : Thread nD τ).loc main_arg2)) (m ((c : Thread nD τ).loc main_arg3)) := by
  have e : V m c main_v78 = transpose S1x32x128x2x4x64 [0, 1, 5, 2, 4, 3] (V m c main_v77) transposes_S1x32x2x64x4x128_S1x32x128x2x4x64_0_1_5_2_4_3 := by
    unfold V
    after_reads_simp
    try rfl
  rw [e, V_main_v77]
  rfl

theorem V_main_v79 (c : Dev nD) :
    V m c main_v79 = h_v79 (F := F) (m ((c : Thread nD τ).loc main_arg0)) (m ((c : Thread nD τ).loc main_arg1)) (m ((c : Thread nD τ).loc main_arg2)) (m ((c : Thread nD τ).loc main_arg3)) := by
  have e : V m c main_v79 = shapeCast _ (V m c main_v78) shapeCasts_S1x32x128x2x4x64_S1x4096x512 := by
    unfold V
    after_reads_simp
    try rfl
  rw [e, V_main_v78]
  rfl

theorem V_main_v80 (c : Dev nD) :
    V m c main_v80 = h_v80 (F := F) (m ((c : Thread nD τ).loc main_arg0)) (m ((c : Thread nD τ).loc main_arg1)) (m ((c : Thread nD τ).loc main_arg2)) (m ((c : Thread nD τ).loc main_arg3)) := by
  have e : V m c main_v80 = shapeCast _ (V m c main_v79) shapeCasts_S1x4096x512_S4096x512 := by
    unfold V
    after_reads_simp
    try rfl
  rw [e, V_main_v79]
  rfl

theorem V_main_v81 (c : Dev nD) :
    V m c main_v81 = h_v81 (F := F) (m ((c : Thread nD τ).loc main_arg0)) (m ((c : Thread nD τ).loc main_arg1)) (m ((c : Thread nD τ).loc main_arg2)) (m ((c : Thread nD τ).loc main_arg3)) := by
  have e : V m c main_v81 = shapeCast _ (V m c main_v66) shapeCasts_S1x32x2x4x128x1_S32x8x128 := by
    unfold V
    after_reads_simp
    try rfl
  rw [e, V_main_v66]
  rfl

theorem V_main_v82 (c : Dev nD) :
    V m c main_v82 = h_v82 (F := F) (m ((c : Thread nD τ).loc main_arg0)) (m ((c : Thread nD τ).loc main_arg1)) (m ((c : Thread nD τ).loc main_arg2)) (m ((c : Thread nD τ).loc main_arg3)) := by
  have e : V m c main_v82 = transpose S32x128x8 [0, 2, 1] (V m c main_v81) transposes_S32x8x128_S32x128x8_0_2_1 := by
    unfold V
    after_reads_simp
    try rfl
  rw [e, V_main_v81]
  rfl

theorem V_main_v83 (c : Dev nD) :
    V m c main_v83 = h_v83 (F := F) (m ((c : Thread nD τ).loc main_arg0)) (m ((c : Thread nD τ).loc main_arg1)) (m ((c : Thread nD τ).loc main_arg2)) (m ((c : Thread nD τ).loc main_arg3)) := by
  have e : V m c main_v83 = shapeCast _ (V m c main_v82) shapeCasts_S32x128x8_S4096x8 := by
    unfold V
    after_reads_simp
    try rfl
  rw [e, V_main_v82]
  rfl

theorem V_main_v84 (c : Dev nD) :
    V m c main_v84 = h_v84 (F := F) (m ((c : Thread nD τ).loc main_arg1)) := by
  have e : V m c main_v84 = shapeCast _ (m ((c : Thread nD τ).loc main_arg1)) shapeCasts_S4096x32_S1x4096x1x32 := by
    unfold V
    after_reads_simp
    try rfl
  rw [e]
  rfl

theorem V_main_v85 (c : Dev nD) :
    V m c main_v85 = h_v85 (F := F) (m ((c : Thread nD τ).loc main_arg1)) := by
  have e : V m c main_v85 = broadcastInDim S1x4096x4x32 ![0, 1, 2, 3] bcast_S1x4096x1x32_S1x4096x4x32_0_1_2_3 (V m c main_v84) := by
    unfold V
    after_reads_simp
    try rfl
  rw [e, V_main_v84]
  rfl

theorem V_main_v86 (c : Dev nD) :
    V m c main_v86 = h_v86 (F := F) (m ((c : Thread nD τ).loc main_arg1)) := by
  have e : V m c main_v86 = shapeCast _ (V m c main_v85) shapeCasts_S1x4096x4x32_S4096x128 := by
    unfold V
    after_reads_simp
    try rfl
  rw [e, V_main_v85]
  rfl

theorem V_main_v87 (c : Dev nD) :
    V m c main_v87 = h_v87 (F := F) (m ((c : Thread nD τ).loc main_arg2)) := by
  have e : V m c main_v87 = Host.negf (m ((c : Thread nD τ).loc main_arg2)) := by
    unfold V
    after_reads_simp
    try rfl
  rw [e]
  rfl

theorem V_main_v88 (c : Dev nD) :
    V m c main_v88 = h_v88 (F := F) (m ((c : Thread nD τ).loc main_arg2)) := by
  have e0 : upto (List.flatten [hostOps0, hostOps0_1, hostOps0_2]) (fun b => m (c, b)) 103 (Proc.devRef .tc main_v87) = V m c main_v87 := by
    unfold V
    after_reads_simp
    try rfl
  have e1 : upto (List.flatten [hostOps0, hostOps0_1, hostOps0_2]) (fun b => m (c, b)) 103 (Proc.devRef .tc main_arg2) = m ((c : Thread nD τ).loc main_arg2) := by
    after_reads_simp
    try rfl
  have e : V m c main_v88 = concatenate S4096x64 1 [⟨S4096x32, ((V m c main_v87) : (⟨S4096x32, .f32⟩ : BufTy).Contents (Elt F))⟩, ⟨S4096x32, ((m ((c : Thread nD τ).loc main_arg2)) : (⟨S4096x32, .f32⟩ : BufTy).Contents (Elt F))⟩] concatenates_S4096x32_S4096x32_S4096x64_d1 := by
    rw [← e0, ← e1]
    unfold V
    after_reads_simp
    try rfl
  rw [e, V_main_v87]
  rfl

theorem V_main_v89 (c : Dev nD) :
    V m c main_v89 = h_v89 (F := F) (m ((c : Thread nD τ).loc main_arg2)) := by
  have e : V m c main_v89 = shapeCast _ (V m c main_v88) shapeCasts_S4096x64_S1x4096x1x64 := by
    unfold V
    after_reads_simp
    try rfl
  rw [e, V_main_v88]
  rfl

theorem V_main_v90 (c : Dev nD) :
    V m c main_v90 = h_v90 (F := F) (m ((c : Thread nD τ).loc main_arg2)) := by
  have e : V m c main_v90 = broadcastInDim S1x4096x2x64 ![0, 1, 2, 3] bcast_S1x4096x1x64_S1x4096x2x64_0_1_2_3 (V m c main_v89) := by
    unfold V
    after_reads_simp
    try rfl
  rw [e, V_main_v89]
  rfl

theorem V_main_v91 (c : Dev nD) :
    V m c main_v91 = h_v91 (F := F) (m ((c : Thread nD τ).loc main_arg2)) := by
  have e : V m c main_v91 = shapeCast _ (V m c main_v90) shapeCasts_S1x4096x2x64_S4096x128 := by
    unfold V
    after_reads_simp
    try rfl
  rw [e, V_main_v90]
  rfl

theorem V_main_v92 (c : Dev nD) :
    V m c main_v92 = h_v92 (F := F) (m ((c : Thread nD τ).loc main_arg3)) := by
  have e : V m c main_v92 = broadcastInDim S8x1 ![0] bcast_S8_S8x1_0 (m ((c : Thread nD τ).loc main_arg3)) := by
    unfold V
    after_reads_simp
    try rfl
  rw [e]
  rfl

theorem V_main_v93 (c : Dev nD) :
    V m c main_v93 = h_v93 (F := F) (m ((c : Thread nD τ).loc main_arg3)) := by
  have e : V m c main_v93 = broadcastInDim S8x128 ![0, 1] bcast_S8x1_S8x128_0_1 (V m c main_v92) := by
    unfold V
    after_reads_simp
    try rfl
  rw [e, V_main_v92]
  rfl

end Cert.KernelIdeal.Before
-- ==== Proof.Spec.lean ====
/- What the backward pass of the sliding-window attention computes, as real numbers: the rotary embedding, the scores of
   a block of 128 queries against the 256 keys of its own block and the block before, the softmax with one sink per head,
   and the gradients of the queries, keys, values and sinks.  Every function here is indexed by natural numbers: `X t c` is
   the projection's row `t`, column `c`; `snk h` the sink of head `h`; `D t c` the cotangent of the attention's output. -/
module

public import Mathlib.Algebra.BigOperators.Fin
public import Mathlib.Analysis.SpecialFunctions.Pow.Real
public import Mathlib.Analysis.SpecialFunctions.Trigonometric.Basic
public import Mathlib.Data.EReal.Inv
public import Mathlib.Tactic.FieldSimp
public import Mathlib.Tactic.Ring

@[expose] public section

noncomputable section

namespace AttnBwd

/-- The arrays that the backward pass takes: the cosines and sines of the rotary embedding, the projection, the sinks and
    the cotangent of the attention's output. -/
structure Data where
  co : ℕ → ℕ → ℝ
  si : ℕ → ℕ → ℝ
  X : ℕ → ℕ → ℝ
  snk : ℕ → ℝ
  D : ℕ → ℕ → ℝ

variable (a : Data)

/-- The rotary embedding of the 64 numbers `x` at position `t`. -/
def rot (x : ℕ → ℝ) (t d : ℕ) : ℝ :=
  if d < 32 then x d * a.co t d - x (d + 32) * a.si t d else x d * a.co t (d - 32) + x (d - 32) * a.si t (d - 32)

/-- Its transpose. -/
def rotT (y : ℕ → ℝ) (t d : ℕ) : ℝ :=
  if d < 32 then y d * a.co t d + y (d + 32) * a.si t d else y d * a.co t (d - 32) - y (d - 32) * a.si t (d - 32)

/-- The rotated queries and keys, and the values. -/
def Q (t h d : ℕ) : ℝ := rot a (fun e => a.X t (h * 64 + e)) t d
def K (t g d : ℕ) : ℝ := rot a (fun e => a.X t (2560 + (g * 64 + e))) t d
def V (t g d : ℕ) : ℝ := a.X t (2688 + (g * 64 + d))

/-- The keys and values that block `n`'s queries see: rows `0 … 127` are the block before, `128 … 255` the block itself. -/
def KB (n k g d : ℕ) : ℝ := if n * 128 + k < 128 then 0 else K a (n * 128 + k - 128) g d
def VB (n k g d : ℕ) : ℝ := if n * 128 + k < 128 then 0 else V a (n * 128 + k - 128) g d

/-- Query `q` of block `n` sees key `k`. -/
def msk (n q k : ℕ) : Prop := q < k ∧ k ≤ q + 128 ∧ 128 ≤ n * 128 + k

instance (n q k : ℕ) : Decidable (msk n q k) := by unfold msk; infer_instance

/-- The scores, their masked exponentials, the sum of these with the sink's, and the probabilities. -/
def S (n h q k : ℕ) : ℝ := (∑ d : Fin 64, Q a (n * 128 + q) h d.val * KB a n k (h / 4) d.val) / 8
def Ex (n h q k : ℕ) : ℝ := if msk n q k then Real.exp (S a n h q k) else 0
def Z (n h q : ℕ) : ℝ := (∑ k : Fin 256, Ex a n h q k.val) + Real.exp (a.snk h)
def P (n h q k : ℕ) : ℝ := Ex a n h q k / Z a n h q
def PS (n h q : ℕ) : ℝ := Real.exp (a.snk h) / Z a n h q

/-- The attention's output. -/
def O (n h q d : ℕ) : ℝ := ∑ k : Fin 256, P a n h q k.val * VB a n k.val (h / 4) d

/-- The gradients: of the probabilities, the row term of the softmax, of the scores, of the rotated queries and of the
    band's rotated keys and values, and of the sinks. -/
def dP (n h q k : ℕ) : ℝ := ∑ d : Fin 64, a.D (n * 128 + q) (h * 64 + d.val) * VB a n k (h / 4) d.val
def dl (n h q : ℕ) : ℝ := ∑ k : Fin 256, P a n h q k.val * dP a n h q k.val
def dS (n h q k : ℕ) : ℝ := P a n h q k * (dP a n h q k - dl a n h q)
def dQ (n q h d : ℕ) : ℝ := (∑ k : Fin 256, dS a n h q k.val * KB a n k.val (h / 4) d) / 8
def dKB (n k g d : ℕ) : ℝ :=
  ∑ r : Fin 4, ∑ q : Fin 128, dS a n (g * 4 + r.val) q.val k * (Q a (n * 128 + q.val) (g * 4 + r.val) d / 8)
def dVB (n k g d : ℕ) : ℝ :=
  ∑ r : Fin 4, ∑ q : Fin 128, P a n (g * 4 + r.val) q.val k * a.D (n * 128 + q.val) ((g * 4 + r.val) * 64 + d)
/-- Block `n`'s part of the gradient of head `h`'s sink. -/
def dsk (n h : ℕ) : ℝ := -∑ q : Fin 128, PS a n h q.val * dl a n h q.val

/-- The six results, at row `t` and column `c`. -/
def rDq (t c : ℕ) : ℝ := rotT a (dQ a (t / 128) (t % 128) (c / 64)) t (c % 64)
def rDkc (t c : ℕ) : ℝ := rotT a (dKB a (t / 128) (128 + t % 128) (c / 64)) t (c % 64)
def rDkp (t c : ℕ) : ℝ :=
  if t < 128 then 0 else rotT a (dKB a (t / 128) (t % 128) (c / 64)) (t - 128) (c % 64)
def rDvc (t c : ℕ) : ℝ := dVB a (t / 128) (128 + t % 128) (c / 64) (c % 64)
def rDvp (t c : ℕ) : ℝ := if t < 128 then 0 else dVB a (t / 128) (t % 128) (c / 64) (c % 64)
def rDsink (h : ℕ) : ℝ := ∑ n : Fin 32, dsk a n.val h

theorem Z_pos (n h q : ℕ) : 0 < Z a n h q := by
  unfold Z
  refine add_pos_of_nonneg_of_pos (Finset.sum_nonneg fun k _ => ?_) (Real.exp_pos _)
  unfold Ex
  split
  · exact (Real.exp_pos _).le
  · exact le_rfl

/-- The sum of exponentials below any shift `m`. -/
def Zm (m : ℝ) (n h q : ℕ) : ℝ :=
  (∑ k : Fin 256, (if msk n q k.val then Real.exp (S a n h q k.val - m) else 0)) + Real.exp (a.snk h - m)

theorem Zm_eq (m : ℝ) (n h q : ℕ) : Zm a m n h q = Z a n h q * Real.exp (-m) := by
  unfold Zm Z
  rw [add_mul, Finset.sum_mul]
  congr 1
  · refine Finset.sum_congr rfl fun k _ => ?_
    unfold Ex
    split
    · rw [← Real.exp_add]; rfl
    · simp
  · rw [← Real.exp_add]; rfl

theorem Zm_pos (m : ℝ) (n h q : ℕ) : 0 < Zm a m n h q := by
  rw [Zm_eq]; exact mul_pos (Z_pos a n h q) (Real.exp_pos _)

/-- The probabilities do not depend on the shift. -/
theorem P_shift (m : ℝ) (n h q k : ℕ) :
    (if msk n q k then Real.exp (S a n h q k - m) else 0) / Zm a m n h q = P a n h q k := by
  rw [Zm_eq]
  unfold P Ex
  have := Z_pos a n h q
  have := Real.exp_pos (-m)
  split
  · rw [sub_eq_add_neg, Real.exp_add]; field_simp
  · simp

theorem PS_shift (m : ℝ) (n h q : ℕ) : Real.exp (a.snk h - m) / Zm a m n h q = PS a n h q := by
  rw [Zm_eq]
  unfold PS
  have := Z_pos a n h q
  have := Real.exp_pos (-m)
  rw [sub_eq_add_neg, Real.exp_add]; field_simp

/-- The probabilities from the saved logarithm of the sum. -/
theorem exp_sub_lse (m : ℝ) (n h q k : ℕ) (hm : msk n q k) :
    Real.exp (S a n h q k - (m + Real.log (Zm a m n h q))) = P a n h q k := by
  rw [← P_shift a m, if_pos hm, ← sub_sub, Real.exp_sub, Real.exp_log (Zm_pos a m n h q)]

theorem exp_snk_lse (m : ℝ) (n h q : ℕ) :
    Real.exp (a.snk h - (m + Real.log (Zm a m n h q))) = PS a n h q := by
  rw [← PS_shift a m, ← sub_sub, Real.exp_sub, Real.exp_log (Zm_pos a m n h q)]

theorem P_of_not_msk (n h q k : ℕ) (hm : ¬ msk n q k) : P a n h q k = 0 := by
  unfold P Ex; rw [if_neg hm, zero_div]

theorem dS_of_not_msk (n h q k : ℕ) (hm : ¬ msk n q k) : dS a n h q k = 0 := by
  unfold dS; rw [P_of_not_msk a n h q k hm, zero_mul]

/-- The row term of the softmax is the inner product of the output and its cotangent. -/
theorem dl_eq (n h q : ℕ) :
    dl a n h q = ∑ d : Fin 64, a.D (n * 128 + q) (h * 64 + d.val) * O a n h q d.val := by
  unfold dl dP O
  simp only [Finset.mul_sum]
  rw [Finset.sum_comm]
  refine Finset.sum_congr rfl fun d _ => Finset.sum_congr rfl fun k _ => ?_
  ring

/-- The first block sees no keys of a block before. -/
theorem not_msk_zero (q k : ℕ) (hk : k < 128) : ¬ msk 0 q k := by unfold msk; omega

theorem rotT_zero (t d : ℕ) : rotT a (fun _ => 0) t d = 0 := by unfold rotT; simp

theorem dKB_zero (k g d : ℕ) (hk : k < 128) : dKB a 0 k g d = 0 := by
  unfold dKB
  refine Finset.sum_eq_zero fun r _ => Finset.sum_eq_zero fun q _ => ?_
  rw [dS_of_not_msk a _ _ _ _ (not_msk_zero _ _ hk), zero_mul]

theorem dVB_zero (k g d : ℕ) (hk : k < 128) : dVB a 0 k g d = 0 := by
  unfold dVB
  refine Finset.sum_eq_zero fun r _ => Finset.sum_eq_zero fun q _ => ?_
  rw [P_of_not_msk a _ _ _ _ (not_msk_zero _ _ hk), zero_mul]

/-- A real sum, as an extended real. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

end AttnBwd
-- ==== Proof.RefTerms.lean ====
/- The reference program one operation at a time: `val_<buffer>` is the value that the operation writes, as a function of
   the arguments that it depends on. -/
module

public import proofs.«01_k».proof.Proof.Gen.ReferenceIdeal
public import Idealize.ShloMosaic.Lib.StableHlo.Run
public import Idealize.ShloMosaic.Lib.Pipeline.Frame
public import Idealize.ShloMosaic.Lib.Pipeline.Value
public import Idealize.ShloMosaic.Lib.ValueIdx
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.slice %arg0 [0:4096, 0:512] : (tensor<4096x3072xf32>) -> tensor<4096x512xf32>
def val_main_v0 (x0 : (⟨S4096x3072, .f32⟩ : BufTy).Contents (Elt F)) : (⟨S4096x512, .f32⟩ : BufTy).Contents (Elt F) :=
  extractStridedSlice S4096x512 ![0, 0] (x0) slices_S4096x3072_S4096x512_0_0

-- %1 = stablehlo.slice %arg0 [0:4096, 2560:2688] : (tensor<4096x3072xf32>) -> tensor<4096x128xf32>
def val_main_v1 (x0 : (⟨S4096x3072, .f32⟩ : BufTy).Contents (Elt F)) : (⟨S4096x128, .f32⟩ : BufTy).Contents (Elt F) :=
  extractStridedSlice S4096x128 ![0, 2560] (x0) slices_S4096x3072_S4096x128_0_2560

-- %2 = stablehlo.slice %arg0 [0:4096, 2688:2816] : (tensor<4096x3072xf32>) -> tensor<4096x128xf32>
def val_main_v2 (x0 : (⟨S4096x3072, .f32⟩ : BufTy).Contents (Elt F)) : (⟨S4096x128, .f32⟩ : BufTy).Contents (Elt F) :=
  extractStridedSlice S4096x128 ![0, 2688] (x0) slices_S4096x3072_S4096x128_0_2688

-- %3 = stablehlo.concatenate %0, %1, %1, dim = 1 : (tensor<4096x512xf32>, tensor<4096x128xf32>, tensor<4096x128xf32>) -> tensor<4096x768xf32>
def val_main_v3 (x0 : (⟨S4096x3072, .f32⟩ : BufTy).Contents (Elt F)) : (⟨S4096x768, .f32⟩ : BufTy).Contents (Elt F) :=
  (concatenate S4096x768 1 [⟨S4096x512, ((val_main_v0 (F := F) x0) : (⟨S4096x512, .f32⟩ : BufTy).Contents (Elt F))⟩, ⟨S4096x128, ((val_main_v1 (F := F) x0) : (⟨S4096x128, .f32⟩ : BufTy).Contents (Elt F))⟩, ⟨S4096x128, ((val_main_v1 (F := F) x0) : (⟨S4096x128, .f32⟩ : BufTy).Contents (Elt F))⟩] concatenates_S4096x512_S4096x128_S4096x128_S4096x768_d1 : (⟨S4096x768, .f32⟩ : BufTy).Contents (Elt F))

-- %4 = stablehlo.reshape %3 : (tensor<4096x768xf32>) -> tensor<1x4096x12x64xf32>
def val_main_v4 (x0 : (⟨S4096x3072, .f32⟩ : BufTy).Contents (Elt F)) : (⟨S1x4096x12x64, .f32⟩ : BufTy).Contents (Elt F) :=
  shapeCast _ (val_main_v3 (F := F) x0) shapeCasts_S4096x768_S1x4096x12x64

-- %5 = stablehlo.broadcast_in_dim %arg1, dims = [1, 3] : (tensor<4096x32xf32>) -> tensor<1x4096x1x32xf32>
def val_main_v5 (x1 : (⟨S4096x32, .f32⟩ : BufTy).Contents (Elt F)) : (⟨S1x4096x1x32, .f32⟩ : BufTy).Contents (Elt F) :=
  broadcastInDim S1x4096x1x32 ![1, 3] bcast_S4096x32_S1x4096x1x32_1_3 (x1)

-- %6 = stablehlo.broadcast_in_dim %arg2, dims = [1, 3] : (tensor<4096x32xf32>) -> tensor<1x4096x1x32xf32>
def val_main_v6 (x2 : (⟨S4096x32, .f32⟩ : BufTy).Contents (Elt F)) : (⟨S1x4096x1x32, .f32⟩ : BufTy).Contents (Elt F) :=
  broadcastInDim S1x4096x1x32 ![1, 3] bcast_S4096x32_S1x4096x1x32_1_3 (x2)

-- %7 = stablehlo.slice %4 [0:1, 0:4096, 0:12, 0:32] : (tensor<1x4096x12x64xf32>) -> tensor<1x4096x12x32xf32>
def val_main_v7 (x0 : (⟨S4096x3072, .f32⟩ : BufTy).Contents (Elt F)) : (⟨S1x4096x12x32, .f32⟩ : BufTy).Contents (Elt F) :=
  extractStridedSlice S1x4096x12x32 ![0, 0, 0, 0] (val_main_v4 (F := F) x0) slices_S1x4096x12x64_S1x4096x12x32_0_0_0_0

-- %8 = stablehlo.slice %4 [0:1, 0:4096, 0:12, 32:64] : (tensor<1x4096x12x64xf32>) -> tensor<1x4096x12x32xf32>
def val_main_v8 (x0 : (⟨S4096x3072, .f32⟩ : BufTy).Contents (Elt F)) : (⟨S1x4096x12x32, .f32⟩ : BufTy).Contents (Elt F) :=
  extractStridedSlice S1x4096x12x32 ![0, 0, 0, 32] (val_main_v4 (F := F) x0) slices_S1x4096x12x64_S1x4096x12x32_0_0_0_32

-- %9 = stablehlo.broadcast_in_dim %5, dims = [0, 1, 2, 3] : (tensor<1x4096x1x32xf32>) -> tensor<1x4096x12x32xf32>
def val_main_v9 (x1 : (⟨S4096x32, .f32⟩ : BufTy).Contents (Elt F)) : (⟨S1x4096x12x32, .f32⟩ : BufTy).Contents (Elt F) :=
  broadcastInDim S1x4096x12x32 ![0, 1, 2, 3] bcast_S1x4096x1x32_S1x4096x12x32_0_1_2_3 (val_main_v5 (F := F) x1)

-- %10 = stablehlo.multiply %7, %9 : tensor<1x4096x12x32xf32>
def val_main_v10 (x0 : (⟨S4096x3072, .f32⟩ : BufTy).Contents (Elt F)) (x1 : (⟨S4096x32, .f32⟩ : BufTy).Contents (Elt F)) : (⟨S1x4096x12x32, .f32⟩ : BufTy).Contents (Elt F) :=
  mulf (val_main_v7 (F := F) x0) (val_main_v9 (F := F) x1)

-- %11 = stablehlo.broadcast_in_dim %6, dims = [0, 1, 2, 3] : (tensor<1x4096x1x32xf32>) -> tensor<1x4096x12x32xf32>
def val_main_v11 (x2 : (⟨S4096x32, .f32⟩ : BufTy).Contents (Elt F)) : (⟨S1x4096x12x32, .f32⟩ : BufTy).Contents (Elt F) :=
  broadcastInDim S1x4096x12x32 ![0, 1, 2, 3] bcast_S1x4096x1x32_S1x4096x12x32_0_1_2_3 (val_main_v6 (F := F) x2)

-- %12 = stablehlo.multiply %8, %11 : tensor<1x4096x12x32xf32>
def val_main_v12 (x0 : (⟨S4096x3072, .f32⟩ : BufTy).Contents (Elt F)) (x2 : (⟨S4096x32, .f32⟩ : BufTy).Contents (Elt F)) : (⟨S1x4096x12x32, .f32⟩ : BufTy).Contents (Elt F) :=
  mulf (val_main_v8 (F := F) x0) (val_main_v11 (F := F) x2)

-- %13 = stablehlo.subtract %10, %12 : tensor<1x4096x12x32xf32>
def val_main_v13 (x0 : (⟨S4096x3072, .f32⟩ : BufTy).Contents (Elt F)) (x1 x2 : (⟨S4096x32, .f32⟩ : BufTy).Contents (Elt F)) : (⟨S1x4096x12x32, .f32⟩ : BufTy).Contents (Elt F) :=
  subf (val_main_v10 (F := F) x0 x1) (val_main_v12 (F := F) x0 x2)

-- %14 = stablehlo.broadcast_in_dim %5, dims = [0, 1, 2, 3] : (tensor<1x4096x1x32xf32>) -> tensor<1x4096x12x32xf32>
def val_main_v14 (x1 : (⟨S4096x32, .f32⟩ : BufTy).Contents (Elt F)) : (⟨S1x4096x12x32, .f32⟩ : BufTy).Contents (Elt F) :=
  broadcastInDim S1x4096x12x32 ![0, 1, 2, 3] bcast_S1x4096x1x32_S1x4096x12x32_0_1_2_3 (val_main_v5 (F := F) x1)

-- %15 = stablehlo.multiply %8, %14 : tensor<1x4096x12x32xf32>
def val_main_v15 (x0 : (⟨S4096x3072, .f32⟩ : BufTy).Contents (Elt F)) (x1 : (⟨S4096x32, .f32⟩ : BufTy).Contents (Elt F)) : (⟨S1x4096x12x32, .f32⟩ : BufTy).Contents (Elt F) :=
  mulf (val_main_v8 (F := F) x0) (val_main_v14 (F := F) x1)

-- %16 = stablehlo.broadcast_in_dim %6, dims = [0, 1, 2, 3] : (tensor<1x4096x1x32xf32>) -> tensor<1x4096x12x32xf32>
def val_main_v16 (x2 : (⟨S4096x32, .f32⟩ : BufTy).Contents (Elt F)) : (⟨S1x4096x12x32, .f32⟩ : BufTy).Contents (Elt F) :=
  broadcastInDim S1x4096x12x32 ![0, 1, 2, 3] bcast_S1x4096x1x32_S1x4096x12x32_0_1_2_3 (val_main_v6 (F := F) x2)

-- %17 = stablehlo.multiply %7, %16 : tensor<1x4096x12x32xf32>
def val_main_v17 (x0 : (⟨S4096x3072, .f32⟩ : BufTy).Contents (Elt F)) (x2 : (⟨S4096x32, .f32⟩ : BufTy).Contents (Elt F)) : (⟨S1x4096x12x32, .f32⟩ : BufTy).Contents (Elt F) :=
  mulf (val_main_v7 (F := F) x0) (val_main_v16 (F := F) x2)

-- %18 = stablehlo.add %15, %17 : tensor<1x4096x12x32xf32>
def val_main_v18 (x0 : (⟨S4096x3072, .f32⟩ : BufTy).Contents (Elt F)) (x1 x2 : (⟨S4096x32, .f32⟩ : BufTy).Contents (Elt F)) : (⟨S1x4096x12x32, .f32⟩ : BufTy).Contents (Elt F) :=
  addf (val_main_v15 (F := F) x0 x1) (val_main_v17 (F := F) x0 x2)

-- %19 = stablehlo.concatenate %13, %18, dim = 3 : (tensor<1x4096x12x32xf32>, tensor<1x4096x12x32xf32>) -> tensor<1x4096x12x64xf32>
def val_main_v19 (x0 : (⟨S4096x3072, .f32⟩ : BufTy).Contents (Elt F)) (x1 x2 : (⟨S4096x32, .f32⟩ : BufTy).Contents (Elt F)) : (⟨S1x4096x12x64, .f32⟩ : BufTy).Contents (Elt F) :=
  concatenate S1x4096x12x64 3 [⟨S1x4096x12x32, (val_main_v13 (F := F) x0 x1 x2)⟩, ⟨S1x4096x12x32, (val_main_v18 (F := F) x0 x1 x2)⟩] concatenates_S1x4096x12x32_S1x4096x12x32_S1x4096x12x64_d3

-- %20 = stablehlo.slice %19 [0:1, 0:4096, 8:10, 0:64] : (tensor<1x4096x12x64xf32>) -> tensor<1x4096x2x64xf32>
def val_main_v20 (x0 : (⟨S4096x3072, .f32⟩ : BufTy).Contents (Elt F)) (x1 x2 : (⟨S4096x32, .f32⟩ : BufTy).Contents (Elt F)) : (⟨S1x4096x2x64, .f32⟩ : BufTy).Contents (Elt F) :=
  extractStridedSlice S1x4096x2x64 ![0, 0, 8, 0] (val_main_v19 (F := F) x0 x1 x2) slices_S1x4096x12x64_S1x4096x2x64_0_0_8_0

-- %21 = stablehlo.slice %19 [0:1, 0:4096, 10:12, 0:64] : (tensor<1x4096x12x64xf32>) -> tensor<1x4096x2x64xf32>
def val_main_v21 (x0 : (⟨S4096x3072, .f32⟩ : BufTy).Contents (Elt F)) (x1 x2 : (⟨S4096x32, .f32⟩ : BufTy).Contents (Elt F)) : (⟨S1x4096x2x64, .f32⟩ : BufTy).Contents (Elt F) :=
  extractStridedSlice S1x4096x2x64 ![0, 0, 10, 0] (val_main_v19 (F := F) x0 x1 x2) slices_S1x4096x12x64_S1x4096x2x64_0_0_10_0

-- %cst = stablehlo.constant dense<0.000000e+00> : tensor<f32>
def val_main_cst : (⟨S_, .f32⟩ : BufTy).Contents (Elt F) :=
  constant S_ .f32 0x00000000#32

-- %22 = stablehlo.broadcast_in_dim %cst, dims = [] : (tensor<f32>) -> tensor<1x128x2x64xf32>
def val_main_v22 : (⟨S1x128x2x64, .f32⟩ : BufTy).Contents (Elt F) :=
  broadcastInDim S1x128x2x64 ![] bcast_S_S1x128x2x64 (val_main_cst (F := F))

-- %23 = stablehlo.slice %20 [0:1, 0:3968, 0:2, 0:64] : (tensor<1x4096x2x64xf32>) -> tensor<1x3968x2x64xf32>
def val_main_v23 (x0 : (⟨S4096x3072, .f32⟩ : BufTy).Contents (Elt F)) (x1 x2 : (⟨S4096x32, .f32⟩ : BufTy).Contents (Elt F)) : (⟨S1x3968x2x64, .f32⟩ : BufTy).Contents (Elt F) :=
  extractStridedSlice S1x3968x2x64 ![0, 0, 0, 0] (val_main_v20 (F := F) x0 x1 x2) slices_S1x4096x2x64_S1x3968x2x64_0_0_0_0

-- %24 = stablehlo.concatenate %22, %23, dim = 1 : (tensor<1x128x2x64xf32>, tensor<1x3968x2x64xf32>) -> tensor<1x4096x2x64xf32>
def val_main_v24 (x0 : (⟨S4096x3072, .f32⟩ : BufTy).Contents (Elt F)) (x1 x2 : (⟨S4096x32, .f32⟩ : BufTy).Contents (Elt F)) : (⟨S1x4096x2x64, .f32⟩ : BufTy).Contents (Elt F) :=
  concatenate S1x4096x2x64 1 [⟨S1x128x2x64, (val_main_v22 (F := F))⟩, ⟨S1x3968x2x64, (val_main_v23 (F := F) x0 x1 x2)⟩] concatenates_S1x128x2x64_S1x3968x2x64_S1x4096x2x64_d1

-- %cst_0 = stablehlo.constant dense<0.000000e+00> : tensor<f32>
def val_main_cst_0 : (⟨S_, .f32⟩ : BufTy).Contents (Elt F) :=
  constant S_ .f32 0x00000000#32

-- %25 = stablehlo.broadcast_in_dim %cst_0, dims = [] : (tensor<f32>) -> tensor<1x128x2x64xf32>
def val_main_v25 : (⟨S1x128x2x64, .f32⟩ : BufTy).Contents (Elt F) :=
  broadcastInDim S1x128x2x64 ![] bcast_S_S1x128x2x64 (val_main_cst_0 (F := F))

-- %26 = stablehlo.reshape %24 : (tensor<1x4096x2x64xf32>) -> tensor<1x32x128x2x64xf32>
def val_main_v26 (x0 : (⟨S4096x3072, .f32⟩ : BufTy).Contents (Elt F)) (x1 x2 : (⟨S4096x32, .f32⟩ : BufTy).Contents (Elt F)) : (⟨S1x32x128x2x64, .f32⟩ : BufTy).Contents (Elt F) :=
  shapeCast _ (val_main_v24 (F := F) x0 x1 x2) shapeCasts_S1x4096x2x64_S1x32x128x2x64

-- %27 = stablehlo.reshape %21 : (tensor<1x4096x2x64xf32>) -> tensor<1x32x128x2x64xf32>
def val_main_v27 (x0 : (⟨S4096x3072, .f32⟩ : BufTy).Contents (Elt F)) (x1 x2 : (⟨S4096x32, .f32⟩ : BufTy).Contents (Elt F)) : (⟨S1x32x128x2x64, .f32⟩ : BufTy).Contents (Elt F) :=
  shapeCast _ (val_main_v21 (F := F) x0 x1 x2) shapeCasts_S1x4096x2x64_S1x32x128x2x64

-- %28 = stablehlo.concatenate %26, %27, dim = 2 : (tensor<1x32x128x2x64xf32>, tensor<1x32x128x2x64xf32>) -> tensor<1x32x256x2x64xf32>
def val_main_v28 (x0 : (⟨S4096x3072, .f32⟩ : BufTy).Contents (Elt F)) (x1 x2 : (⟨S4096x32, .f32⟩ : BufTy).Contents (Elt F)) : (⟨S1x32x256x2x64, .f32⟩ : BufTy).Contents (Elt F) :=
  concatenate S1x32x256x2x64 2 [⟨S1x32x128x2x64, (val_main_v26 (F := F) x0 x1 x2)⟩, ⟨S1x32x128x2x64, (val_main_v27 (F := F) x0 x1 x2)⟩] concatenates_S1x32x128x2x64_S1x32x128x2x64_S1x32x256x2x64_d2

-- %29 = stablehlo.reshape %2 : (tensor<4096x128xf32>) -> tensor<1x4096x2x64xf32>
def val_main_v29 (x0 : (⟨S4096x3072, .f32⟩ : BufTy).Contents (Elt F)) : (⟨S1x4096x2x64, .f32⟩ : BufTy).Contents (Elt F) :=
  shapeCast _ (val_main_v2 (F := F) x0) shapeCasts_S4096x128_S1x4096x2x64

-- %30 = stablehlo.reshape %2 : (tensor<4096x128xf32>) -> tensor<1x4096x2x64xf32>
def val_main_v30 (x0 : (⟨S4096x3072, .f32⟩ : BufTy).Contents (Elt F)) : (⟨S1x4096x2x64, .f32⟩ : BufTy).Contents (Elt F) :=
  shapeCast _ (val_main_v2 (F := F) x0) shapeCasts_S4096x128_S1x4096x2x64

-- %cst_1 = stablehlo.constant dense<0.000000e+00> : tensor<f32>
def val_main_cst_1 : (⟨S_, .f32⟩ : BufTy).Contents (Elt F) :=
  constant S_ .f32 0x00000000#32

-- %31 = stablehlo.broadcast_in_dim %cst_1, dims = [] : (tensor<f32>) -> tensor<1x128x2x64xf32>
def val_main_v31 : (⟨S1x128x2x64, .f32⟩ : BufTy).Contents (Elt F) :=
  broadcastInDim S1x128x2x64 ![] bcast_S_S1x128x2x64 (val_main_cst_1 (F := F))

-- %32 = stablehlo.slice %29 [0:1, 0:3968, 0:2, 0:64] : (tensor<1x4096x2x64xf32>) -> tensor<1x3968x2x64xf32>
def val_main_v32 (x0 : (⟨S4096x3072, .f32⟩ : BufTy).Contents (Elt F)) : (⟨S1x3968x2x64, .f32⟩ : BufTy).Contents (Elt F) :=
  extractStridedSlice S1x3968x2x64 ![0, 0, 0, 0] (val_main_v29 (F := F) x0) slices_S1x4096x2x64_S1x3968x2x64_0_0_0_0

-- %33 = stablehlo.concatenate %31, %32, dim = 1 : (tensor<1x128x2x64xf32>, tensor<1x3968x2x64xf32>) -> tensor<1x4096x2x64xf32>
def val_main_v33 (x0 : (⟨S4096x3072, .f32⟩ : BufTy).Contents (Elt F)) : (⟨S1x4096x2x64, .f32⟩ : BufTy).Contents (Elt F) :=
  concatenate S1x4096x2x64 1 [⟨S1x128x2x64, (val_main_v31 (F := F))⟩, ⟨S1x3968x2x64, (val_main_v32 (F := F) x0)⟩] concatenates_S1x128x2x64_S1x3968x2x64_S1x4096x2x64_d1

-- %cst_2 = stablehlo.constant dense<0.000000e+00> : tensor<f32>
def val_main_cst_2 : (⟨S_, .f32⟩ : BufTy).Contents (Elt F) :=
  constant S_ .f32 0x00000000#32

-- %34 = stablehlo.broadcast_in_dim %cst_2, dims = [] : (tensor<f32>) -> tensor<1x128x2x64xf32>
def val_main_v34 : (⟨S1x128x2x64, .f32⟩ : BufTy).Contents (Elt F) :=
  broadcastInDim S1x128x2x64 ![] bcast_S_S1x128x2x64 (val_main_cst_2 (F := F))

-- %35 = stablehlo.reshape %33 : (tensor<1x4096x2x64xf32>) -> tensor<1x32x128x2x64xf32>
def val_main_v35 (x0 : (⟨S4096x3072, .f32⟩ : BufTy).Contents (Elt F)) : (⟨S1x32x128x2x64, .f32⟩ : BufTy).Contents (Elt F) :=
  shapeCast _ (val_main_v33 (F := F) x0) shapeCasts_S1x4096x2x64_S1x32x128x2x64

-- %36 = stablehlo.reshape %30 : (tensor<1x4096x2x64xf32>) -> tensor<1x32x128x2x64xf32>
def val_main_v36 (x0 : (⟨S4096x3072, .f32⟩ : BufTy).Contents (Elt F)) : (⟨S1x32x128x2x64, .f32⟩ : BufTy).Contents (Elt F) :=
  shapeCast _ (val_main_v30 (F := F) x0) shapeCasts_S1x4096x2x64_S1x32x128x2x64

-- %37 = stablehlo.concatenate %35, %36, dim = 2 : (tensor<1x32x128x2x64xf32>, tensor<1x32x128x2x64xf32>) -> tensor<1x32x256x2x64xf32>
def val_main_v37 (x0 : (⟨S4096x3072, .f32⟩ : BufTy).Contents (Elt F)) : (⟨S1x32x256x2x64, .f32⟩ : BufTy).Contents (Elt F) :=
  concatenate S1x32x256x2x64 2 [⟨S1x32x128x2x64, (val_main_v35 (F := F) x0)⟩, ⟨S1x32x128x2x64, (val_main_v36 (F := F) x0)⟩] concatenates_S1x32x128x2x64_S1x32x128x2x64_S1x32x256x2x64_d2

-- %38 = stablehlo.slice %19 [0:1, 0:4096, 0:8, 0:64] : (tensor<1x4096x12x64xf32>) -> tensor<1x4096x8x64xf32>
def val_main_v38 (x0 : (⟨S4096x3072, .f32⟩ : BufTy).Contents (Elt F)) (x1 x2 : (⟨S4096x32, .f32⟩ : BufTy).Contents (Elt F)) : (⟨S1x4096x8x64, .f32⟩ : BufTy).Contents (Elt F) :=
  extractStridedSlice S1x4096x8x64 ![0, 0, 0, 0] (val_main_v19 (F := F) x0 x1 x2) slices_S1x4096x12x64_S1x4096x8x64_0_0_0_0

-- %39 = stablehlo.reshape %38 : (tensor<1x4096x8x64xf32>) -> tensor<1x32x128x2x4x64xf32>
def val_main_v39 (x0 : (⟨S4096x3072, .f32⟩ : BufTy).Contents (Elt F)) (x1 x2 : (⟨S4096x32, .f32⟩ : BufTy).Contents (Elt F)) : (⟨S1x32x128x2x4x64, .f32⟩ : BufTy).Contents (Elt F) :=
  shapeCast _ (val_main_v38 (F := F) x0 x1 x2) shapeCasts_S1x4096x8x64_S1x32x128x2x4x64

-- %40 = stablehlo.dot_general %28, %39, batching_dims = [0, 1, 3] x [0, 1, 3], contracting_dims = [4] x [5], precision = [DEFAULT, DEFAULT] : (tensor<1x32x256x2x64xf32>, tensor<1x32x128x2x4x64xf32>) -> tensor<1x32x2x256x128x4xf32>
def val_main_v40 (x0 : (⟨S4096x3072, .f32⟩ : BufTy).Contents (Elt F)) (x1 x2 : (⟨S4096x32, .f32⟩ : BufTy).Contents (Elt F)) : (⟨S1x32x2x256x128x4, .f32⟩ : BufTy).Contents (Elt F) :=
  Host.dotGeneral dot_S1x32x256x2x64_S1x32x128x2x4x64_S1x32x2x256x128x4_4_5_2_24_013_013 none (val_main_v28 (F := F) x0 x1 x2) (val_main_v39 (F := F) x0 x1 x2)

-- %41 = stablehlo.transpose %40, dims = [0, 1, 2, 5, 4, 3] : (tensor<1x32x2x256x128x4xf32>) -> tensor<1x32x2x4x128x256xf32>
def val_main_v41 (x0 : (⟨S4096x3072, .f32⟩ : BufTy).Contents (Elt F)) (x1 x2 : (⟨S4096x32, .f32⟩ : BufTy).Contents (Elt F)) : (⟨S1x32x2x4x128x256, .f32⟩ : BufTy).Contents (Elt F) :=
  transpose S1x32x2x4x128x256 [0, 1, 2, 5, 4, 3] (val_main_v40 (F := F) x0 x1 x2) transposes_S1x32x2x256x128x4_S1x32x2x4x128x256_0_1_2_5_4_3

-- %cst_3 = stablehlo.constant dense<1.250000e-01> : tensor<f32>
def val_main_cst_3 : (⟨S_, .f32⟩ : BufTy).Contents (Elt F) :=
  constant S_ .f32 0x3E000000#32

-- %42 = stablehlo.broadcast_in_dim %cst_3, dims = [] : (tensor<f32>) -> tensor<1x32x2x4x128x256xf32>
def val_main_v42 : (⟨S1x32x2x4x128x256, .f32⟩ : BufTy).Contents (Elt F) :=
  broadcastInDim S1x32x2x4x128x256 ![] bcast_S_S1x32x2x4x128x256 (val_main_cst_3 (F := F))

-- %43 = stablehlo.multiply %41, %42 : tensor<1x32x2x4x128x256xf32>
def val_main_v43 (x0 : (⟨S4096x3072, .f32⟩ : BufTy).Contents (Elt F)) (x1 x2 : (⟨S4096x32, .f32⟩ : BufTy).Contents (Elt F)) : (⟨S1x32x2x4x128x256, .f32⟩ : BufTy).Contents (Elt F) :=
  mulf (val_main_v41 (F := F) x0 x1 x2) (val_main_v42 (F := F))

-- %44 = stablehlo.iota dim = 0 : tensor<32x128x256xi32>
def val_main_v44 : (⟨S32x128x256, .i32⟩ : BufTy).Contents (Elt F) :=
  iotaInDim S32x128x256 32 0

-- %45 = stablehlo.iota dim = 1 : tensor<32x128x256xi32>
def val_main_v45 : (⟨S32x128x256, .i32⟩ : BufTy).Contents (Elt F) :=
  iotaInDim S32x128x256 32 1

-- %46 = stablehlo.iota dim = 2 : tensor<32x128x256xi32>
def val_main_v46 : (⟨S32x128x256, .i32⟩ : BufTy).Contents (Elt F) :=
  iotaInDim S32x128x256 32 2

-- %c = stablehlo.constant dense<128> : tensor<i32>
def val_main_c : (⟨S_, .i32⟩ : BufTy).Contents (Elt F) :=
  constantI S_ 32 128#32

-- %47 = stablehlo.broadcast_in_dim %c, dims = [] : (tensor<i32>) -> tensor<32x128x256xi32>
def val_main_v47 : (⟨S32x128x256, .i32⟩ : BufTy).Contents (Elt F) :=
  broadcastInDim S32x128x256 ![] bcast_S_S32x128x256 (val_main_c (F := F))

-- %48 = stablehlo.add %45, %47 : tensor<32x128x256xi32>
def val_main_v48 : (⟨S32x128x256, .i32⟩ : BufTy).Contents (Elt F) :=
  addi (val_main_v45 (F := F)) (val_main_v47 (F := F))

-- %49 = stablehlo.subtract %48, %46 : tensor<32x128x256xi32>
def val_main_v49 : (⟨S32x128x256, .i32⟩ : BufTy).Contents (Elt F) :=
  subi (val_main_v48 (F := F)) (val_main_v46 (F := F))

-- %c_4 = stablehlo.constant dense<0> : tensor<i32>
def val_main_c_4 : (⟨S_, .i32⟩ : BufTy).Contents (Elt F) :=
  constantI S_ 32 0#32

-- %50 = stablehlo.broadcast_in_dim %c_4, dims = [] : (tensor<i32>) -> tensor<32x128x256xi32>
def val_main_v50 : (⟨S32x128x256, .i32⟩ : BufTy).Contents (Elt F) :=
  broadcastInDim S32x128x256 ![] bcast_S_S32x128x256 (val_main_c_4 (F := F))

-- %51 = stablehlo.compare GE, %49, %50, SIGNED : (tensor<32x128x256xi32>, tensor<32x128x256xi32>) -> tensor<32x128x256xi1>
def val_main_v51 : (⟨S32x128x256, .i1⟩ : BufTy).Contents (Elt F) :=
  cmpi .sge (val_main_v49 (F := F)) (val_main_v50 (F := F))

-- %c_5 = stablehlo.constant dense<128> : tensor<i32>
def val_main_c_5 : (⟨S_, .i32⟩ : BufTy).Contents (Elt F) :=
  constantI S_ 32 128#32

-- %52 = stablehlo.broadcast_in_dim %c_5, dims = [] : (tensor<i32>) -> tensor<32x128x256xi32>
def val_main_v52 : (⟨S32x128x256, .i32⟩ : BufTy).Contents (Elt F) :=
  broadcastInDim S32x128x256 ![] bcast_S_S32x128x256 (val_main_c_5 (F := F))

-- %53 = stablehlo.compare LT, %49, %52, SIGNED : (tensor<32x128x256xi32>, tensor<32x128x256xi32>) -> tensor<32x128x256xi1>
def val_main_v53 : (⟨S32x128x256, .i1⟩ : BufTy).Contents (Elt F) :=
  cmpi .slt (val_main_v49 (F := F)) (val_main_v52 (F := F))

-- %54 = stablehlo.and %51, %53 : tensor<32x128x256xi1>
def val_main_v54 : (⟨S32x128x256, .i1⟩ : BufTy).Contents (Elt F) :=
  andi (val_main_v51 (F := F)) (val_main_v53 (F := F))

-- %c_6 = stablehlo.constant dense<1> : tensor<i32>
def val_main_c_6 : (⟨S_, .i32⟩ : BufTy).Contents (Elt F) :=
  constantI S_ 32 1#32

-- %55 = stablehlo.broadcast_in_dim %c_6, dims = [] : (tensor<i32>) -> tensor<32x128x256xi32>
def val_main_v55 : (⟨S32x128x256, .i32⟩ : BufTy).Contents (Elt F) :=
  broadcastInDim S32x128x256 ![] bcast_S_S32x128x256 (val_main_c_6 (F := F))

-- %56 = stablehlo.subtract %44, %55 : tensor<32x128x256xi32>
def val_main_v56 : (⟨S32x128x256, .i32⟩ : BufTy).Contents (Elt F) :=
  subi (val_main_v44 (F := F)) (val_main_v55 (F := F))

-- %c_7 = stablehlo.constant dense<128> : tensor<i32>
def val_main_c_7 : (⟨S_, .i32⟩ : BufTy).Contents (Elt F) :=
  constantI S_ 32 128#32

-- %57 = stablehlo.broadcast_in_dim %c_7, dims = [] : (tensor<i32>) -> tensor<32x128x256xi32>
def val_main_v57 : (⟨S32x128x256, .i32⟩ : BufTy).Contents (Elt F) :=
  broadcastInDim S32x128x256 ![] bcast_S_S32x128x256 (val_main_c_7 (F := F))

-- %58 = stablehlo.multiply %56, %57 : tensor<32x128x256xi32>
def val_main_v58 : (⟨S32x128x256, .i32⟩ : BufTy).Contents (Elt F) :=
  muli (val_main_v56 (F := F)) (val_main_v57 (F := F))

-- %59 = stablehlo.add %58, %46 : tensor<32x128x256xi32>
def val_main_v59 : (⟨S32x128x256, .i32⟩ : BufTy).Contents (Elt F) :=
  addi (val_main_v58 (F := F)) (val_main_v46 (F := F))

-- %c_8 = stablehlo.constant dense<0> : tensor<i32>
def val_main_c_8 : (⟨S_, .i32⟩ : BufTy).Contents (Elt F) :=
  constantI S_ 32 0#32

-- %60 = stablehlo.broadcast_in_dim %c_8, dims = [] : (tensor<i32>) -> tensor<32x128x256xi32>
def val_main_v60 : (⟨S32x128x256, .i32⟩ : BufTy).Contents (Elt F) :=
  broadcastInDim S32x128x256 ![] bcast_S_S32x128x256 (val_main_c_8 (F := F))

-- %61 = stablehlo.compare GE, %59, %60, SIGNED : (tensor<32x128x256xi32>, tensor<32x128x256xi32>) -> tensor<32x128x256xi1>
def val_main_v61 : (⟨S32x128x256, .i1⟩ : BufTy).Contents (Elt F) :=
  cmpi .sge (val_main_v59 (F := F)) (val_main_v60 (F := F))

-- %62 = stablehlo.and %54, %61 : tensor<32x128x256xi1>
def val_main_v62 : (⟨S32x128x256, .i1⟩ : BufTy).Contents (Elt F) :=
  andi (val_main_v54 (F := F)) (val_main_v61 (F := F))

-- %63 = stablehlo.broadcast_in_dim %62, dims = [1, 4, 5] : (tensor<32x128x256xi1>) -> tensor<1x32x1x1x128x256xi1>
def val_main_v63 : (⟨S1x32x1x1x128x256, .i1⟩ : BufTy).Contents (Elt F) :=
  broadcastInDim S1x32x1x1x128x256 ![1, 4, 5] bcast_S32x128x256_S1x32x1x1x128x256_1_4_5 (val_main_v62 (F := F))

-- %cst_9 = stablehlo.constant dense<0xFF800000> : tensor<f32>
def val_main_cst_9 : (⟨S_, .f32⟩ : BufTy).Contents (Elt F) :=
  constant S_ .f32 0xFF800000#32

-- @_where's %0 = stablehlo.convert %arg2 : tensor<f32>, in %64:3 = func.call @_where(…) (record main_call0)
def val_main_call0_v0 : (⟨S_, .f32⟩ : BufTy).Contents (Elt F) :=
  id (val_main_cst_9 (F := F))

-- %64:3 = func.call @_where(…) (record main_call0) result 1: @_where's %1 = stablehlo.broadcast_in_dim %arg0, dims = [0, 1, 2, 3, 4, 5] : (tensor<1x32x1x1x128x256xi1>) -> tensor<1x32x2x4x128x256xi1>
def val_main_v64_1 : (⟨S1x32x2x4x128x256, .i1⟩ : BufTy).Contents (Elt F) :=
  broadcastInDim S1x32x2x4x128x256 ![0, 1, 2, 3, 4, 5] bcast_S1x32x1x1x128x256_S1x32x2x4x128x256_0_1_2_3_4_5 (val_main_v63 (F := F))

-- @_where's %2 = stablehlo.broadcast_in_dim %0, dims = [] : (tensor<f32>) -> tensor<1x32x2x4x128x256xf32>, in %64:3 = func.call @_where(…) (record main_call0)
def val_main_call0_v2 : (⟨S1x32x2x4x128x256, .f32⟩ : BufTy).Contents (Elt F) :=
  broadcastInDim S1x32x2x4x128x256 ![] bcast_S_S1x32x2x4x128x256 (val_main_call0_v0 (F := F))

-- %64:3 = func.call @_where(…) (record main_call0) result 0: @_where's %3 = stablehlo.select %1, %arg1, %2 : tensor<1x32x2x4x128x256xi1>, tensor<1x32x2x4x128x256xf32>
def val_main_v64_0 (x0 : (⟨S4096x3072, .f32⟩ : BufTy).Contents (Elt F)) (x1 x2 : (⟨S4096x32, .f32⟩ : BufTy).Contents (Elt F)) : (⟨S1x32x2x4x128x256, .f32⟩ : BufTy).Contents (Elt F) :=
  select (val_main_v64_1 (F := F)) (val_main_v43 (F := F) x0 x1 x2) (val_main_call0_v2 (F := F))

-- @_where's %cst = stablehlo.constant dense<0.000000e+00> : tensor<f32>, in %64:3 = func.call @_where(…) (record main_call0)
def val_main_call0_cst : (⟨S_, .f32⟩ : BufTy).Contents (Elt F) :=
  constant S_ .f32 0x00000000#32

-- %64:3 = func.call @_where(…) (record main_call0) result 2: @_where's %4 = stablehlo.broadcast_in_dim %cst, dims = [] : (tensor<f32>) -> tensor<1x32x2x4x128x256xf32>
def val_main_v64_2 : (⟨S1x32x2x4x128x256, .f32⟩ : BufTy).Contents (Elt F) :=
  broadcastInDim S1x32x2x4x128x256 ![] bcast_S_S1x32x2x4x128x256 (val_main_call0_cst (F := F))

-- %65 = stablehlo.reshape %arg3 : (tensor<8xf32>) -> tensor<1x1x2x4x1x1xf32>
def val_main_v65 (x3 : (⟨S8, .f32⟩ : BufTy).Contents (Elt F)) : (⟨S1x1x2x4x1x1, .f32⟩ : BufTy).Contents (Elt F) :=
  shapeCast _ (x3) shapeCasts_S8_S1x1x2x4x1x1

-- %66 = stablehlo.broadcast_in_dim %65, dims = [0, 1, 2, 3, 4, 5] : (tensor<1x1x2x4x1x1xf32>) -> tensor<1x32x2x4x128x1xf32>
def val_main_v66 (x3 : (⟨S8, .f32⟩ : BufTy).Contents (Elt F)) : (⟨S1x32x2x4x128x1, .f32⟩ : BufTy).Contents (Elt F) :=
  broadcastInDim S1x32x2x4x128x1 ![0, 1, 2, 3, 4, 5] bcast_S1x1x2x4x1x1_S1x32x2x4x128x1_0_1_2_3_4_5 (val_main_v65 (F := F) x3)

-- %67 = stablehlo.concatenate %64#0, %66, dim = 5 : (tensor<1x32x2x4x128x256xf32>, tensor<1x32x2x4x128x1xf32>) -> tensor<1x32x2x4x128x257xf32>
def val_main_v67 (x0 : (⟨S4096x3072, .f32⟩ : BufTy).Contents (Elt F)) (x1 x2 : (⟨S4096x32, .f32⟩ : BufTy).Contents (Elt F)) (x3 : (⟨S8, .f32⟩ : BufTy).Contents (Elt F)) : (⟨S1x32x2x4x128x257, .f32⟩ : BufTy).Contents (Elt F) :=
  concatenate S1x32x2x4x128x257 5 [⟨S1x32x2x4x128x256, (val_main_v64_0 (F := F) x0 x1 x2)⟩, ⟨S1x32x2x4x128x1, (val_main_v66 (F := F) x3)⟩] concatenates_S1x32x2x4x128x256_S1x32x2x4x128x1_S1x32x2x4x128x257_d5

-- %cst_10 = stablehlo.constant dense<0xFF800000> : tensor<f32>
def val_main_cst_10 : (⟨S_, .f32⟩ : BufTy).Contents (Elt F) :=
  constant S_ .f32 0xFF800000#32

-- %68 = stablehlo.reduce(%67 init: %cst_10) applies stablehlo.maximum across dimensions = [5] : (tensor<1x32x2x4x128x257xf32>, tensor<f32>) -> tensor<1x32x2x4x128xf32> {
def val_main_v68 (x0 : (⟨S4096x3072, .f32⟩ : BufTy).Contents (Elt F)) (x1 x2 : (⟨S4096x32, .f32⟩ : BufTy).Contents (Elt F)) (x3 : (⟨S8, .f32⟩ : BufTy).Contents (Elt F)) : (⟨S1x32x2x4x128, .f32⟩ : BufTy).Contents (Elt F) :=
  Host.reduce FloatOps.maximumf (val_main_v67 (F := F) x0 x1 x2 x3) (val_main_cst_10 (F := F)) reducesTo_S1x32x2x4x128x257_S1x32x2x4x128_d5 h_S_

-- %69 = stablehlo.broadcast_in_dim %68, dims = [0, 1, 2, 3, 4] : (tensor<1x32x2x4x128xf32>) -> tensor<1x32x2x4x128x1xf32>
def val_main_v69 (x0 : (⟨S4096x3072, .f32⟩ : BufTy).Contents (Elt F)) (x1 x2 : (⟨S4096x32, .f32⟩ : BufTy).Contents (Elt F)) (x3 : (⟨S8, .f32⟩ : BufTy).Contents (Elt F)) : (⟨S1x32x2x4x128x1, .f32⟩ : BufTy).Contents (Elt F) :=
  broadcastInDim S1x32x2x4x128x1 ![0, 1, 2, 3, 4] bcast_S1x32x2x4x128_S1x32x2x4x128x1_0_1_2_3_4 (val_main_v68 (F := F) x0 x1 x2 x3)

-- %70 = stablehlo.broadcast_in_dim %69, dims = [0, 1, 2, 3, 4, 5] : (tensor<1x32x2x4x128x1xf32>) -> tensor<1x32x2x4x128x257xf32>
def val_main_v70 (x0 : (⟨S4096x3072, .f32⟩ : BufTy).Contents (Elt F)) (x1 x2 : (⟨S4096x32, .f32⟩ : BufTy).Contents (Elt F)) (x3 : (⟨S8, .f32⟩ : BufTy).Contents (Elt F)) : (⟨S1x32x2x4x128x257, .f32⟩ : BufTy).Contents (Elt F) :=
  broadcastInDim S1x32x2x4x128x257 ![0, 1, 2, 3, 4, 5] bcast_S1x32x2x4x128x1_S1x32x2x4x128x257_0_1_2_3_4_5 (val_main_v69 (F := F) x0 x1 x2 x3)

-- %71 = stablehlo.subtract %67, %70 : tensor<1x32x2x4x128x257xf32>
def val_main_v71 (x0 : (⟨S4096x3072, .f32⟩ : BufTy).Contents (Elt F)) (x1 x2 : (⟨S4096x32, .f32⟩ : BufTy).Contents (Elt F)) (x3 : (⟨S8, .f32⟩ : BufTy).Contents (Elt F)) : (⟨S1x32x2x4x128x257, .f32⟩ : BufTy).Contents (Elt F) :=
  subf (val_main_v67 (F := F) x0 x1 x2 x3) (val_main_v70 (F := F) x0 x1 x2 x3)

-- %72 = stablehlo.exponential %71 : tensor<1x32x2x4x128x257xf32>
def val_main_v72 (x0 : (⟨S4096x3072, .f32⟩ : BufTy).Contents (Elt F)) (x1 x2 : (⟨S4096x32, .f32⟩ : BufTy).Contents (Elt F)) (x3 : (⟨S8, .f32⟩ : BufTy).Contents (Elt F)) : (⟨S1x32x2x4x128x257, .f32⟩ : BufTy).Contents (Elt F) :=
  Host.exp (val_main_v71 (F := F) x0 x1 x2 x3)

-- %cst_11 = stablehlo.constant dense<0.000000e+00> : tensor<f32>
def val_main_cst_11 : (⟨S_, .f32⟩ : BufTy).Contents (Elt F) :=
  constant S_ .f32 0x00000000#32

-- %73 = stablehlo.reduce(%72 init: %cst_11) applies stablehlo.add across dimensions = [5] : (tensor<1x32x2x4x128x257xf32>, tensor<f32>) -> tensor<1x32x2x4x128xf32> {
def val_main_v73 (x0 : (⟨S4096x3072, .f32⟩ : BufTy).Contents (Elt F)) (x1 x2 : (⟨S4096x32, .f32⟩ : BufTy).Contents (Elt F)) (x3 : (⟨S8, .f32⟩ : BufTy).Contents (Elt F)) : (⟨S1x32x2x4x128, .f32⟩ : BufTy).Contents (Elt F) :=
  Host.reduceAdd (val_main_v72 (F := F) x0 x1 x2 x3) (val_main_cst_11 (F := F)) reducesTo_S1x32x2x4x128x257_S1x32x2x4x128_d5 h_S_

-- %74 = stablehlo.broadcast_in_dim %73, dims = [0, 1, 2, 3, 4] : (tensor<1x32x2x4x128xf32>) -> tensor<1x32x2x4x128x1xf32>
def val_main_v74 (x0 : (⟨S4096x3072, .f32⟩ : BufTy).Contents (Elt F)) (x1 x2 : (⟨S4096x32, .f32⟩ : BufTy).Contents (Elt F)) (x3 : (⟨S8, .f32⟩ : BufTy).Contents (Elt F)) : (⟨S1x32x2x4x128x1, .f32⟩ : BufTy).Contents (Elt F) :=
  broadcastInDim S1x32x2x4x128x1 ![0, 1, 2, 3, 4] bcast_S1x32x2x4x128_S1x32x2x4x128x1_0_1_2_3_4 (val_main_v73 (F := F) x0 x1 x2 x3)

-- %75 = stablehlo.broadcast_in_dim %74, dims = [0, 1, 2, 3, 4, 5] : (tensor<1x32x2x4x128x1xf32>) -> tensor<1x32x2x4x128x257xf32>
def val_main_v75 (x0 : (⟨S4096x3072, .f32⟩ : BufTy).Contents (Elt F)) (x1 x2 : (⟨S4096x32, .f32⟩ : BufTy).Contents (Elt F)) (x3 : (⟨S8, .f32⟩ : BufTy).Contents (Elt F)) : (⟨S1x32x2x4x128x257, .f32⟩ : BufTy).Contents (Elt F) :=
  broadcastInDim S1x32x2x4x128x257 ![0, 1, 2, 3, 4, 5] bcast_S1x32x2x4x128x1_S1x32x2x4x128x257_0_1_2_3_4_5 (val_main_v74 (F := F) x0 x1 x2 x3)

-- %76 = stablehlo.divide %72, %75 : tensor<1x32x2x4x128x257xf32>
def val_main_v76 (x0 : (⟨S4096x3072, .f32⟩ : BufTy).Contents (Elt F)) (x1 x2 : (⟨S4096x32, .f32⟩ : BufTy).Contents (Elt F)) (x3 : (⟨S8, .f32⟩ : BufTy).Contents (Elt F)) : (⟨S1x32x2x4x128x257, .f32⟩ : BufTy).Contents (Elt F) :=
  Host.divf (val_main_v72 (F := F) x0 x1 x2 x3) (val_main_v75 (F := F) x0 x1 x2 x3)

-- %77 = stablehlo.multiply %74, %74 : tensor<1x32x2x4x128x1xf32>
def val_main_v77 (x0 : (⟨S4096x3072, .f32⟩ : BufTy).Contents (Elt F)) (x1 x2 : (⟨S4096x32, .f32⟩ : BufTy).Contents (Elt F)) (x3 : (⟨S8, .f32⟩ : BufTy).Contents (Elt F)) : (⟨S1x32x2x4x128x1, .f32⟩ : BufTy).Contents (Elt F) :=
  mulf (val_main_v74 (F := F) x0 x1 x2 x3) (val_main_v74 (F := F) x0 x1 x2 x3)

-- %cst_12 = stablehlo.constant dense<1.000000e+00> : tensor<f32>
def val_main_cst_12 : (⟨S_, .f32⟩ : BufTy).Contents (Elt F) :=
  constant S_ .f32 0x3F800000#32

-- %78 = stablehlo.broadcast_in_dim %cst_12, dims = [] : (tensor<f32>) -> tensor<1x32x2x4x128x1xf32>
def val_main_v78 : (⟨S1x32x2x4x128x1, .f32⟩ : BufTy).Contents (Elt F) :=
  broadcastInDim S1x32x2x4x128x1 ![] bcast_S_S1x32x2x4x128x1 (val_main_cst_12 (F := F))

-- %79 = stablehlo.divide %78, %77 : tensor<1x32x2x4x128x1xf32>
def val_main_v79 (x0 : (⟨S4096x3072, .f32⟩ : BufTy).Contents (Elt F)) (x1 x2 : (⟨S4096x32, .f32⟩ : BufTy).Contents (Elt F)) (x3 : (⟨S8, .f32⟩ : BufTy).Contents (Elt F)) : (⟨S1x32x2x4x128x1, .f32⟩ : BufTy).Contents (Elt F) :=
  Host.divf (val_main_v78 (F := F)) (val_main_v77 (F := F) x0 x1 x2 x3)

-- %80 = stablehlo.slice %76 [0:1, 0:32, 0:2, 0:4, 0:128, 0:256] : (tensor<1x32x2x4x128x257xf32>) -> tensor<1x32x2x4x128x256xf32>
def val_main_v80 (x0 : (⟨S4096x3072, .f32⟩ : BufTy).Contents (Elt F)) (x1 x2 : (⟨S4096x32, .f32⟩ : BufTy).Contents (Elt F)) (x3 : (⟨S8, .f32⟩ : BufTy).Contents (Elt F)) : (⟨S1x32x2x4x128x256, .f32⟩ : BufTy).Contents (Elt F) :=
  extractStridedSlice S1x32x2x4x128x256 ![0, 0, 0, 0, 0, 0] (val_main_v76 (F := F) x0 x1 x2 x3) slices_S1x32x2x4x128x257_S1x32x2x4x128x256_0_0_0_0_0_0

-- %81 = stablehlo.dot_general %37, %80, batching_dims = [0, 1, 3] x [0, 1, 2], contracting_dims = [2] x [5], precision = [DEFAULT, DEFAULT] : (tensor<1x32x256x2x64xf32>, tensor<1x32x2x4x128x256xf32>) -> tensor<1x32x2x64x4x128xf32>
def val_main_v81 (x0 : (⟨S4096x3072, .f32⟩ : BufTy).Contents (Elt F)) (x1 x2 : (⟨S4096x32, .f32⟩ : BufTy).Contents (Elt F)) (x3 : (⟨S8, .f32⟩ : BufTy).Contents (Elt F)) : (⟨S1x32x2x64x4x128, .f32⟩ : BufTy).Contents (Elt F) :=
  Host.dotGeneral dot_S1x32x256x2x64_S1x32x2x4x128x256_S1x32x2x64x4x128_2_5_4_34_013_012 none (val_main_v37 (F := F) x0) (val_main_v80 (F := F) x0 x1 x2 x3)

-- %82 = stablehlo.transpose %81, dims = [0, 1, 5, 2, 4, 3] : (tensor<1x32x2x64x4x128xf32>) -> tensor<1x32x128x2x4x64xf32>
def val_main_v82 (x0 : (⟨S4096x3072, .f32⟩ : BufTy).Contents (Elt F)) (x1 x2 : (⟨S4096x32, .f32⟩ : BufTy).Contents (Elt F)) (x3 : (⟨S8, .f32⟩ : BufTy).Contents (Elt F)) : (⟨S1x32x128x2x4x64, .f32⟩ : BufTy).Contents (Elt F) :=
  transpose S1x32x128x2x4x64 [0, 1, 5, 2, 4, 3] (val_main_v81 (F := F) x0 x1 x2 x3) transposes_S1x32x2x64x4x128_S1x32x128x2x4x64_0_1_5_2_4_3

-- %83 = stablehlo.reshape %82 : (tensor<1x32x128x2x4x64xf32>) -> tensor<1x4096x512xf32>
def val_main_v83 (x0 : (⟨S4096x3072, .f32⟩ : BufTy).Contents (Elt F)) (x1 x2 : (⟨S4096x32, .f32⟩ : BufTy).Contents (Elt F)) (x3 : (⟨S8, .f32⟩ : BufTy).Contents (Elt F)) : (⟨S1x4096x512, .f32⟩ : BufTy).Contents (Elt F) :=
  shapeCast _ (val_main_v82 (F := F) x0 x1 x2 x3) shapeCasts_S1x32x128x2x4x64_S1x4096x512

-- %84 = stablehlo.reshape %83 : (tensor<1x4096x512xf32>) -> tensor<4096x512xf32>
def val_main_v84 (x0 : (⟨S4096x3072, .f32⟩ : BufTy).Contents (Elt F)) (x1 x2 : (⟨S4096x32, .f32⟩ : BufTy).Contents (Elt F)) (x3 : (⟨S8, .f32⟩ : BufTy).Contents (Elt F)) : (⟨S4096x512, .f32⟩ : BufTy).Contents (Elt F) :=
  shapeCast _ (val_main_v83 (F := F) x0 x1 x2 x3) shapeCasts_S1x4096x512_S4096x512

-- %85 = stablehlo.slice %arg4 [0:4096, 0:512] : (tensor<4096x1024xf32>) -> tensor<4096x512xf32>
def val_main_v85 (x4 : (⟨S4096x1024, .f32⟩ : BufTy).Contents (Elt F)) : (⟨S4096x512, .f32⟩ : BufTy).Contents (Elt F) :=
  extractStridedSlice S4096x512 ![0, 0] (x4) slices_S4096x1024_S4096x512_0_0

-- %86 = stablehlo.broadcast_in_dim %85, dims = [1, 2] : (tensor<4096x512xf32>) -> tensor<1x4096x512xf32>
def val_main_v86 (x4 : (⟨S4096x1024, .f32⟩ : BufTy).Contents (Elt F)) : (⟨S1x4096x512, .f32⟩ : BufTy).Contents (Elt F) :=
  broadcastInDim S1x4096x512 ![1, 2] bcast_S4096x512_S1x4096x512_1_2 (val_main_v85 (F := F) x4)

-- %87 = stablehlo.reshape %86 : (tensor<1x4096x512xf32>) -> tensor<1x32x128x2x4x64xf32>
def val_main_v87 (x4 : (⟨S4096x1024, .f32⟩ : BufTy).Contents (Elt F)) : (⟨S1x32x128x2x4x64, .f32⟩ : BufTy).Contents (Elt F) :=
  shapeCast _ (val_main_v86 (F := F) x4) shapeCasts_S1x4096x512_S1x32x128x2x4x64

-- %88 = stablehlo.transpose %87, dims = [0, 1, 3, 5, 4, 2] : (tensor<1x32x128x2x4x64xf32>) -> tensor<1x32x2x64x4x128xf32>
def val_main_v88 (x4 : (⟨S4096x1024, .f32⟩ : BufTy).Contents (Elt F)) : (⟨S1x32x2x64x4x128, .f32⟩ : BufTy).Contents (Elt F) :=
  transpose S1x32x2x64x4x128 [0, 1, 3, 5, 4, 2] (val_main_v87 (F := F) x4) transposes_S1x32x128x2x4x64_S1x32x2x64x4x128_0_1_3_5_4_2

-- %89 = stablehlo.dot_general %88, %37, batching_dims = [0, 1, 2] x [0, 1, 3], contracting_dims = [3] x [4], precision = [DEFAULT, DEFAULT] : (tensor<1x32x2x64x4x128xf32>, tensor<1x32x256x2x64xf32>) -> tensor<1x32x2x4x128x256xf32>
def val_main_v89 (x0 : (⟨S4096x3072, .f32⟩ : BufTy).Contents (Elt F)) (x4 : (⟨S4096x1024, .f32⟩ : BufTy).Contents (Elt F)) : (⟨S1x32x2x4x128x256, .f32⟩ : BufTy).Contents (Elt F) :=
  Host.dotGeneral dot_S1x32x2x64x4x128_S1x32x256x2x64_S1x32x2x4x128x256_3_4_45_2_012_013 none (val_main_v88 (F := F) x4) (val_main_v37 (F := F) x0)

-- %90 = stablehlo.dot_general %88, %80, batching_dims = [0, 1, 2] x [0, 1, 2], contracting_dims = [4, 5] x [3, 4], precision = [DEFAULT, DEFAULT] : (tensor<1x32x2x64x4x128xf32>, tensor<1x32x2x4x128x256xf32>) -> tensor<1x32x2x64x256xf32>
def val_main_v90 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x2x64x256, .f32⟩ : BufTy).Contents (Elt F) :=
  Host.dotGeneral dot_S1x32x2x64x4x128_S1x32x2x4x128x256_S1x32x2x64x256_45_34_3_5_012_012 none (val_main_v88 (F := F) x4) (val_main_v80 (F := F) x0 x1 x2 x3)

-- %91 = stablehlo.transpose %90, dims = [0, 1, 4, 2, 3] : (tensor<1x32x2x64x256xf32>) -> tensor<1x32x256x2x64xf32>
def val_main_v91 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x256x2x64, .f32⟩ : BufTy).Contents (Elt F) :=
  transpose S1x32x256x2x64 [0, 1, 4, 2, 3] (val_main_v90 (F := F) x0 x1 x2 x3 x4) transposes_S1x32x2x64x256_S1x32x256x2x64_0_1_4_2_3

-- %cst_13 = stablehlo.constant dense<0.000000e+00> : tensor<f32>
def val_main_cst_13 : (⟨S_, .f32⟩ : BufTy).Contents (Elt F) :=
  constant S_ .f32 0x00000000#32

-- %92 = stablehlo.pad %89, %cst_13, low = [0, 0, 0, 0, 0, 0], high = [0, 0, 0, 0, 0, 1], interior = [0, 0, 0, 0, 0, 0] : (tensor<1x32x2x4x128x256xf32>, tensor<f32>) -> tensor<1x32x2x4x128x257xf32>
def val_main_v92 (x0 : (⟨S4096x3072, .f32⟩ : BufTy).Contents (Elt F)) (x4 : (⟨S4096x1024, .f32⟩ : BufTy).Contents (Elt F)) : (⟨S1x32x2x4x128x257, .f32⟩ : BufTy).Contents (Elt F) :=
  pad S1x32x2x4x128x257 ![0, 0, 0, 0, 0, 0] ![0, 0, 0, 0, 0, 1] ![0, 0, 0, 0, 0, 0] (val_main_v89 (F := F) x0 x4) (val_main_cst_13 (F := F)) pads_S1x32x2x4x128x256_S1x32x2x4x128x257_000_000_000_000_000_010 h_S_

-- %93 = stablehlo.broadcast_in_dim %79, dims = [0, 1, 2, 3, 4, 5] : (tensor<1x32x2x4x128x1xf32>) -> tensor<1x32x2x4x128x257xf32>
def val_main_v93 (x0 : (⟨S4096x3072, .f32⟩ : BufTy).Contents (Elt F)) (x1 x2 : (⟨S4096x32, .f32⟩ : BufTy).Contents (Elt F)) (x3 : (⟨S8, .f32⟩ : BufTy).Contents (Elt F)) : (⟨S1x32x2x4x128x257, .f32⟩ : BufTy).Contents (Elt F) :=
  broadcastInDim S1x32x2x4x128x257 ![0, 1, 2, 3, 4, 5] bcast_S1x32x2x4x128x1_S1x32x2x4x128x257_0_1_2_3_4_5 (val_main_v79 (F := F) x0 x1 x2 x3)

-- %94 = stablehlo.multiply %92, %93 : tensor<1x32x2x4x128x257xf32>
def val_main_v94 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x2x4x128x257, .f32⟩ : BufTy).Contents (Elt F) :=
  mulf (val_main_v92 (F := F) x0 x4) (val_main_v93 (F := F) x0 x1 x2 x3)

-- %95 = stablehlo.multiply %94, %72 : tensor<1x32x2x4x128x257xf32>
def val_main_v95 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x2x4x128x257, .f32⟩ : BufTy).Contents (Elt F) :=
  mulf (val_main_v94 (F := F) x0 x1 x2 x3 x4) (val_main_v72 (F := F) x0 x1 x2 x3)

-- %cst_14 = stablehlo.constant dense<0.000000e+00> : tensor<f32>
def val_main_cst_14 : (⟨S_, .f32⟩ : BufTy).Contents (Elt F) :=
  constant S_ .f32 0x00000000#32

-- %96 = stablehlo.reduce(%95 init: %cst_14) applies stablehlo.add across dimensions = [5] : (tensor<1x32x2x4x128x257xf32>, tensor<f32>) -> tensor<1x32x2x4x128xf32> {
def val_main_v96 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x2x4x128, .f32⟩ : BufTy).Contents (Elt F) :=
  Host.reduceAdd (val_main_v95 (F := F) x0 x1 x2 x3 x4) (val_main_cst_14 (F := F)) reducesTo_S1x32x2x4x128x257_S1x32x2x4x128_d5 h_S_

-- %97 = stablehlo.reshape %96 : (tensor<1x32x2x4x128xf32>) -> tensor<1x32x2x4x128x1xf32>
def val_main_v97 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x2x4x128x1, .f32⟩ : BufTy).Contents (Elt F) :=
  shapeCast _ (val_main_v96 (F := F) x0 x1 x2 x3 x4) shapeCasts_S1x32x2x4x128_S1x32x2x4x128x1

-- %98 = stablehlo.negate %97 : tensor<1x32x2x4x128x1xf32>
def val_main_v98 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x2x4x128x1, .f32⟩ : BufTy).Contents (Elt F) :=
  Host.negf (val_main_v97 (F := F) x0 x1 x2 x3 x4)

-- %99 = stablehlo.broadcast_in_dim %74, dims = [0, 1, 2, 3, 4, 5] : (tensor<1x32x2x4x128x1xf32>) -> tensor<1x32x2x4x128x257xf32>
def val_main_v99 (x0 : (⟨S4096x3072, .f32⟩ : BufTy).Contents (Elt F)) (x1 x2 : (⟨S4096x32, .f32⟩ : BufTy).Contents (Elt F)) (x3 : (⟨S8, .f32⟩ : BufTy).Contents (Elt F)) : (⟨S1x32x2x4x128x257, .f32⟩ : BufTy).Contents (Elt F) :=
  broadcastInDim S1x32x2x4x128x257 ![0, 1, 2, 3, 4, 5] bcast_S1x32x2x4x128x1_S1x32x2x4x128x257_0_1_2_3_4_5 (val_main_v74 (F := F) x0 x1 x2 x3)

-- %100 = stablehlo.divide %92, %99 : tensor<1x32x2x4x128x257xf32>
def val_main_v100 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x2x4x128x257, .f32⟩ : BufTy).Contents (Elt F) :=
  Host.divf (val_main_v92 (F := F) x0 x4) (val_main_v99 (F := F) x0 x1 x2 x3)

-- %cst_15 = stablehlo.constant dense<0.000000e+00> : tensor<f32>
def val_main_cst_15 : (⟨S_, .f32⟩ : BufTy).Contents (Elt F) :=
  constant S_ .f32 0x00000000#32

-- %101 = stablehlo.reduce(%98 init: %cst_15) applies stablehlo.add across dimensions = [0, 5] : (tensor<1x32x2x4x128x1xf32>, tensor<f32>) -> tensor<32x2x4x128xf32> {
def val_main_v101 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S32x2x4x128, .f32⟩ : BufTy).Contents (Elt F) :=
  Host.reduceAdd (val_main_v98 (F := F) x0 x1 x2 x3 x4) (val_main_cst_15 (F := F)) reducesTo_S1x32x2x4x128x1_S32x2x4x128_d0_5 h_S_

-- %102 = stablehlo.broadcast_in_dim %101, dims = [1, 2, 3, 4] : (tensor<32x2x4x128xf32>) -> tensor<1x32x2x4x128xf32>
def val_main_v102 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x2x4x128, .f32⟩ : BufTy).Contents (Elt F) :=
  broadcastInDim S1x32x2x4x128 ![1, 2, 3, 4] bcast_S32x2x4x128_S1x32x2x4x128_1_2_3_4 (val_main_v101 (F := F) x0 x1 x2 x3 x4)

-- %103 = stablehlo.broadcast_in_dim %102, dims = [0, 1, 2, 3, 4] : (tensor<1x32x2x4x128xf32>) -> tensor<1x32x2x4x128x257xf32>
def val_main_v103 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x2x4x128x257, .f32⟩ : BufTy).Contents (Elt F) :=
  broadcastInDim S1x32x2x4x128x257 ![0, 1, 2, 3, 4] bcast_S1x32x2x4x128_S1x32x2x4x128x257_0_1_2_3_4 (val_main_v102 (F := F) x0 x1 x2 x3 x4)

-- %104 = stablehlo.add %100, %103 : tensor<1x32x2x4x128x257xf32>
def val_main_v104 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x2x4x128x257, .f32⟩ : BufTy).Contents (Elt F) :=
  addf (val_main_v100 (F := F) x0 x1 x2 x3 x4) (val_main_v103 (F := F) x0 x1 x2 x3 x4)

-- %105 = stablehlo.multiply %104, %72 : tensor<1x32x2x4x128x257xf32>
def val_main_v105 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x2x4x128x257, .f32⟩ : BufTy).Contents (Elt F) :=
  mulf (val_main_v104 (F := F) x0 x1 x2 x3 x4) (val_main_v72 (F := F) x0 x1 x2 x3)

-- %106 = stablehlo.slice %105 [0:1, 0:32, 0:2, 0:4, 0:128, 0:256] : (tensor<1x32x2x4x128x257xf32>) -> tensor<1x32x2x4x128x256xf32>
def val_main_v106 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x2x4x128x256, .f32⟩ : BufTy).Contents (Elt F) :=
  extractStridedSlice S1x32x2x4x128x256 ![0, 0, 0, 0, 0, 0] (val_main_v105 (F := F) x0 x1 x2 x3 x4) slices_S1x32x2x4x128x257_S1x32x2x4x128x256_0_0_0_0_0_0

-- %107 = stablehlo.slice %105 [0:1, 0:32, 0:2, 0:4, 0:128, 256:257] : (tensor<1x32x2x4x128x257xf32>) -> tensor<1x32x2x4x128x1xf32>
def val_main_v107 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x2x4x128x1, .f32⟩ : BufTy).Contents (Elt F) :=
  extractStridedSlice S1x32x2x4x128x1 ![0, 0, 0, 0, 0, 256] (val_main_v105 (F := F) x0 x1 x2 x3 x4) slices_S1x32x2x4x128x257_S1x32x2x4x128x1_0_0_0_0_0_256

-- %cst_16 = stablehlo.constant dense<0.000000e+00> : tensor<f32>
def val_main_cst_16 : (⟨S_, .f32⟩ : BufTy).Contents (Elt F) :=
  constant S_ .f32 0x00000000#32

-- %108 = stablehlo.reduce(%107 init: %cst_16) applies stablehlo.add across dimensions = [0, 1, 4, 5] : (tensor<1x32x2x4x128x1xf32>, tensor<f32>) -> tensor<2x4xf32> {
def val_main_v108 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S2x4, .f32⟩ : BufTy).Contents (Elt F) :=
  Host.reduceAdd (val_main_v107 (F := F) x0 x1 x2 x3 x4) (val_main_cst_16 (F := F)) reducesTo_S1x32x2x4x128x1_S2x4_d0_1_4_5 h_S_

-- %109 = stablehlo.broadcast_in_dim %108, dims = [2, 3] : (tensor<2x4xf32>) -> tensor<1x1x2x4x1x1xf32>
def val_main_v109 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x1x2x4x1x1, .f32⟩ : BufTy).Contents (Elt F) :=
  broadcastInDim S1x1x2x4x1x1 ![2, 3] bcast_S2x4_S1x1x2x4x1x1_2_3 (val_main_v108 (F := F) x0 x1 x2 x3 x4)

-- %110 = stablehlo.reshape %109 : (tensor<1x1x2x4x1x1xf32>) -> tensor<8xf32>
def val_main_v110 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S8, .f32⟩ : BufTy).Contents (Elt F) :=
  shapeCast _ (val_main_v109 (F := F) x0 x1 x2 x3 x4) shapeCasts_S1x1x2x4x1x1_S8

-- @_where_0's %cst = stablehlo.constant dense<0.000000e+00> : tensor<f32>, in %111 = func.call @_where_0(…) (record main_call1)
def val_main_call1_cst : (⟨S_, .f32⟩ : BufTy).Contents (Elt F) :=
  constant S_ .f32 0x00000000#32

-- @_where_0's %0 = stablehlo.broadcast_in_dim %cst, dims = [] : (tensor<f32>) -> tensor<1x32x2x4x128x256xf32>, in %111 = func.call @_where_0(…) (record main_call1)
def val_main_call1_v0 : (⟨S1x32x2x4x128x256, .f32⟩ : BufTy).Contents (Elt F) :=
  broadcastInDim S1x32x2x4x128x256 ![] bcast_S_S1x32x2x4x128x256 (val_main_call1_cst (F := F))

-- %111 = func.call @_where_0(…) (record main_call1) result 0: @_where_0's %1 = stablehlo.select %arg0, %arg2, %0 : tensor<1x32x2x4x128x256xi1>, tensor<1x32x2x4x128x256xf32>
def val_main_v111 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x2x4x128x256, .f32⟩ : BufTy).Contents (Elt F) :=
  select (val_main_v64_1 (F := F)) (val_main_v106 (F := F) x0 x1 x2 x3 x4) (val_main_call1_v0 (F := F))

-- %cst_17 = stablehlo.constant dense<1.250000e-01> : tensor<f32>
def val_main_cst_17 : (⟨S_, .f32⟩ : BufTy).Contents (Elt F) :=
  constant S_ .f32 0x3E000000#32

-- %112 = stablehlo.broadcast_in_dim %cst_17, dims = [] : (tensor<f32>) -> tensor<1x32x2x4x128x256xf32>
def val_main_v112 : (⟨S1x32x2x4x128x256, .f32⟩ : BufTy).Contents (Elt F) :=
  broadcastInDim S1x32x2x4x128x256 ![] bcast_S_S1x32x2x4x128x256 (val_main_cst_17 (F := F))

-- %113 = stablehlo.multiply %111, %112 : tensor<1x32x2x4x128x256xf32>
def val_main_v113 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x2x4x128x256, .f32⟩ : BufTy).Contents (Elt F) :=
  mulf (val_main_v111 (F := F) x0 x1 x2 x3 x4) (val_main_v112 (F := F))

-- %114 = stablehlo.transpose %113, dims = [0, 1, 2, 5, 4, 3] : (tensor<1x32x2x4x128x256xf32>) -> tensor<1x32x2x256x128x4xf32>
def val_main_v114 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x2x256x128x4, .f32⟩ : BufTy).Contents (Elt F) :=
  transpose S1x32x2x256x128x4 [0, 1, 2, 5, 4, 3] (val_main_v113 (F := F) x0 x1 x2 x3 x4) transposes_S1x32x2x4x128x256_S1x32x2x256x128x4_0_1_2_5_4_3

-- %115 = stablehlo.dot_general %114, %28, batching_dims = [0, 1, 2] x [0, 1, 3], contracting_dims = [3] x [2], precision = [DEFAULT, DEFAULT] : (tensor<1x32x2x256x128x4xf32>, tensor<1x32x256x2x64xf32>) -> tensor<1x32x2x128x4x64xf32>
def val_main_v115 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x2x128x4x64, .f32⟩ : BufTy).Contents (Elt F) :=
  Host.dotGeneral dot_S1x32x2x256x128x4_S1x32x256x2x64_S1x32x2x128x4x64_3_2_45_4_012_013 none (val_main_v114 (F := F) x0 x1 x2 x3 x4) (val_main_v28 (F := F) x0 x1 x2)

-- %116 = stablehlo.transpose %115, dims = [0, 1, 3, 2, 4, 5] : (tensor<1x32x2x128x4x64xf32>) -> tensor<1x32x128x2x4x64xf32>
def val_main_v116 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x128x2x4x64, .f32⟩ : BufTy).Contents (Elt F) :=
  transpose S1x32x128x2x4x64 [0, 1, 3, 2, 4, 5] (val_main_v115 (F := F) x0 x1 x2 x3 x4) transposes_S1x32x2x128x4x64_S1x32x128x2x4x64_0_1_3_2_4_5

-- %117 = stablehlo.dot_general %114, %39, batching_dims = [0, 1, 2] x [0, 1, 3], contracting_dims = [4, 5] x [2, 4], precision = [DEFAULT, DEFAULT] : (tensor<1x32x2x256x128x4xf32>, tensor<1x32x128x2x4x64xf32>) -> tensor<1x32x2x256x64xf32>
def val_main_v117 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x2x256x64, .f32⟩ : BufTy).Contents (Elt F) :=
  Host.dotGeneral dot_S1x32x2x256x128x4_S1x32x128x2x4x64_S1x32x2x256x64_45_24_3_5_012_013 none (val_main_v114 (F := F) x0 x1 x2 x3 x4) (val_main_v39 (F := F) x0 x1 x2)

-- %118 = stablehlo.transpose %117, dims = [0, 1, 3, 2, 4] : (tensor<1x32x2x256x64xf32>) -> tensor<1x32x256x2x64xf32>
def val_main_v118 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x256x2x64, .f32⟩ : BufTy).Contents (Elt F) :=
  transpose S1x32x256x2x64 [0, 1, 3, 2, 4] (val_main_v117 (F := F) x0 x1 x2 x3 x4) transposes_S1x32x2x256x64_S1x32x256x2x64_0_1_3_2_4

-- %119 = stablehlo.reshape %116 : (tensor<1x32x128x2x4x64xf32>) -> tensor<1x4096x8x64xf32>
def val_main_v119 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x8x64, .f32⟩ : BufTy).Contents (Elt F) :=
  shapeCast _ (val_main_v116 (F := F) x0 x1 x2 x3 x4) shapeCasts_S1x32x128x2x4x64_S1x4096x8x64

-- %cst_18 = stablehlo.constant dense<0.000000e+00> : tensor<f32>
def val_main_cst_18 : (⟨S_, .f32⟩ : BufTy).Contents (Elt F) :=
  constant S_ .f32 0x00000000#32

-- %120 = stablehlo.pad %119, %cst_18, low = [0, 0, 0, 0], high = [0, 0, 4, 0], interior = [0, 0, 0, 0] : (tensor<1x4096x8x64xf32>, tensor<f32>) -> tensor<1x4096x12x64xf32>
def val_main_v120 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x12x64, .f32⟩ : BufTy).Contents (Elt F) :=
  pad S1x4096x12x64 ![0, 0, 0, 0] ![0, 0, 4, 0] ![0, 0, 0, 0] (val_main_v119 (F := F) x0 x1 x2 x3 x4) (val_main_cst_18 (F := F)) pads_S1x4096x8x64_S1x4096x12x64_000_000_040_000 h_S_

-- %121 = stablehlo.slice %91 [0:1, 0:32, 0:128, 0:2, 0:64] : (tensor<1x32x256x2x64xf32>) -> tensor<1x32x128x2x64xf32>
def val_main_v121 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x128x2x64, .f32⟩ : BufTy).Contents (Elt F) :=
  extractStridedSlice S1x32x128x2x64 ![0, 0, 0, 0, 0] (val_main_v91 (F := F) x0 x1 x2 x3 x4) slices_S1x32x256x2x64_S1x32x128x2x64_0_0_0_0_0

-- %122 = stablehlo.slice %91 [0:1, 0:32, 128:256, 0:2, 0:64] : (tensor<1x32x256x2x64xf32>) -> tensor<1x32x128x2x64xf32>
def val_main_v122 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x128x2x64, .f32⟩ : BufTy).Contents (Elt F) :=
  extractStridedSlice S1x32x128x2x64 ![0, 0, 128, 0, 0] (val_main_v91 (F := F) x0 x1 x2 x3 x4) slices_S1x32x256x2x64_S1x32x128x2x64_0_0_128_0_0

-- %123 = stablehlo.reshape %122 : (tensor<1x32x128x2x64xf32>) -> tensor<1x4096x2x64xf32>
def val_main_v123 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x2x64, .f32⟩ : BufTy).Contents (Elt F) :=
  shapeCast _ (val_main_v122 (F := F) x0 x1 x2 x3 x4) shapeCasts_S1x32x128x2x64_S1x4096x2x64

-- %124 = stablehlo.reshape %121 : (tensor<1x32x128x2x64xf32>) -> tensor<1x4096x2x64xf32>
def val_main_v124 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x2x64, .f32⟩ : BufTy).Contents (Elt F) :=
  shapeCast _ (val_main_v121 (F := F) x0 x1 x2 x3 x4) shapeCasts_S1x32x128x2x64_S1x4096x2x64

-- %125 = stablehlo.slice %124 [0:1, 0:128, 0:2, 0:64] : (tensor<1x4096x2x64xf32>) -> tensor<1x128x2x64xf32>
def val_main_v125 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x128x2x64, .f32⟩ : BufTy).Contents (Elt F) :=
  extractStridedSlice S1x128x2x64 ![0, 0, 0, 0] (val_main_v124 (F := F) x0 x1 x2 x3 x4) slices_S1x4096x2x64_S1x128x2x64_0_0_0_0

-- %126 = stablehlo.slice %124 [0:1, 128:4096, 0:2, 0:64] : (tensor<1x4096x2x64xf32>) -> tensor<1x3968x2x64xf32>
def val_main_v126 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x3968x2x64, .f32⟩ : BufTy).Contents (Elt F) :=
  extractStridedSlice S1x3968x2x64 ![0, 128, 0, 0] (val_main_v124 (F := F) x0 x1 x2 x3 x4) slices_S1x4096x2x64_S1x3968x2x64_0_128_0_0

-- %cst_19 = stablehlo.constant dense<0.000000e+00> : tensor<f32>
def val_main_cst_19 : (⟨S_, .f32⟩ : BufTy).Contents (Elt F) :=
  constant S_ .f32 0x00000000#32

-- %127 = stablehlo.pad %126, %cst_19, low = [0, 0, 0, 0], high = [0, 128, 0, 0], interior = [0, 0, 0, 0] : (tensor<1x3968x2x64xf32>, tensor<f32>) -> tensor<1x4096x2x64xf32>
def val_main_v127 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x2x64, .f32⟩ : BufTy).Contents (Elt F) :=
  pad S1x4096x2x64 ![0, 0, 0, 0] ![0, 128, 0, 0] ![0, 0, 0, 0] (val_main_v126 (F := F) x0 x1 x2 x3 x4) (val_main_cst_19 (F := F)) pads_S1x3968x2x64_S1x4096x2x64_000_01280_000_000 h_S_

-- %128 = stablehlo.reshape %123 : (tensor<1x4096x2x64xf32>) -> tensor<4096x128xf32>
def val_main_v128 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S4096x128, .f32⟩ : BufTy).Contents (Elt F) :=
  shapeCast _ (val_main_v123 (F := F) x0 x1 x2 x3 x4) shapeCasts_S1x4096x2x64_S4096x128

-- %129 = stablehlo.reshape %127 : (tensor<1x4096x2x64xf32>) -> tensor<4096x128xf32>
def val_main_v129 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S4096x128, .f32⟩ : BufTy).Contents (Elt F) :=
  shapeCast _ (val_main_v127 (F := F) x0 x1 x2 x3 x4) shapeCasts_S1x4096x2x64_S4096x128

-- %130 = stablehlo.slice %118 [0:1, 0:32, 0:128, 0:2, 0:64] : (tensor<1x32x256x2x64xf32>) -> tensor<1x32x128x2x64xf32>
def val_main_v130 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x128x2x64, .f32⟩ : BufTy).Contents (Elt F) :=
  extractStridedSlice S1x32x128x2x64 ![0, 0, 0, 0, 0] (val_main_v118 (F := F) x0 x1 x2 x3 x4) slices_S1x32x256x2x64_S1x32x128x2x64_0_0_0_0_0

-- %131 = stablehlo.slice %118 [0:1, 0:32, 128:256, 0:2, 0:64] : (tensor<1x32x256x2x64xf32>) -> tensor<1x32x128x2x64xf32>
def val_main_v131 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x32x128x2x64, .f32⟩ : BufTy).Contents (Elt F) :=
  extractStridedSlice S1x32x128x2x64 ![0, 0, 128, 0, 0] (val_main_v118 (F := F) x0 x1 x2 x3 x4) slices_S1x32x256x2x64_S1x32x128x2x64_0_0_128_0_0

-- %132 = stablehlo.reshape %131 : (tensor<1x32x128x2x64xf32>) -> tensor<1x4096x2x64xf32>
def val_main_v132 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x2x64, .f32⟩ : BufTy).Contents (Elt F) :=
  shapeCast _ (val_main_v131 (F := F) x0 x1 x2 x3 x4) shapeCasts_S1x32x128x2x64_S1x4096x2x64

-- %133 = stablehlo.reshape %130 : (tensor<1x32x128x2x64xf32>) -> tensor<1x4096x2x64xf32>
def val_main_v133 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x2x64, .f32⟩ : BufTy).Contents (Elt F) :=
  shapeCast _ (val_main_v130 (F := F) x0 x1 x2 x3 x4) shapeCasts_S1x32x128x2x64_S1x4096x2x64

-- %134 = stablehlo.slice %133 [0:1, 0:128, 0:2, 0:64] : (tensor<1x4096x2x64xf32>) -> tensor<1x128x2x64xf32>
def val_main_v134 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x128x2x64, .f32⟩ : BufTy).Contents (Elt F) :=
  extractStridedSlice S1x128x2x64 ![0, 0, 0, 0] (val_main_v133 (F := F) x0 x1 x2 x3 x4) slices_S1x4096x2x64_S1x128x2x64_0_0_0_0

-- %135 = stablehlo.slice %133 [0:1, 128:4096, 0:2, 0:64] : (tensor<1x4096x2x64xf32>) -> tensor<1x3968x2x64xf32>
def val_main_v135 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x3968x2x64, .f32⟩ : BufTy).Contents (Elt F) :=
  extractStridedSlice S1x3968x2x64 ![0, 128, 0, 0] (val_main_v133 (F := F) x0 x1 x2 x3 x4) slices_S1x4096x2x64_S1x3968x2x64_0_128_0_0

-- %cst_20 = stablehlo.constant dense<0.000000e+00> : tensor<f32>
def val_main_cst_20 : (⟨S_, .f32⟩ : BufTy).Contents (Elt F) :=
  constant S_ .f32 0x00000000#32

-- %136 = stablehlo.pad %135, %cst_20, low = [0, 0, 0, 0], high = [0, 128, 0, 0], interior = [0, 0, 0, 0] : (tensor<1x3968x2x64xf32>, tensor<f32>) -> tensor<1x4096x2x64xf32>
def val_main_v136 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x2x64, .f32⟩ : BufTy).Contents (Elt F) :=
  pad S1x4096x2x64 ![0, 0, 0, 0] ![0, 128, 0, 0] ![0, 0, 0, 0] (val_main_v135 (F := F) x0 x1 x2 x3 x4) (val_main_cst_20 (F := F)) pads_S1x3968x2x64_S1x4096x2x64_000_01280_000_000 h_S_

-- %cst_21 = stablehlo.constant dense<0.000000e+00> : tensor<f32>
def val_main_cst_21 : (⟨S_, .f32⟩ : BufTy).Contents (Elt F) :=
  constant S_ .f32 0x00000000#32

-- %137 = stablehlo.pad %132, %cst_21, low = [0, 0, 10, 0], high = [0, 0, 0, 0], interior = [0, 0, 0, 0] : (tensor<1x4096x2x64xf32>, tensor<f32>) -> tensor<1x4096x12x64xf32>
def val_main_v137 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x12x64, .f32⟩ : BufTy).Contents (Elt F) :=
  pad S1x4096x12x64 ![0, 0, 10, 0] ![0, 0, 0, 0] ![0, 0, 0, 0] (val_main_v132 (F := F) x0 x1 x2 x3 x4) (val_main_cst_21 (F := F)) pads_S1x4096x2x64_S1x4096x12x64_000_000_1000_000 h_S_

-- %138 = stablehlo.add %120, %137 : tensor<1x4096x12x64xf32>
def val_main_v138 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x12x64, .f32⟩ : BufTy).Contents (Elt F) :=
  addf (val_main_v120 (F := F) x0 x1 x2 x3 x4) (val_main_v137 (F := F) x0 x1 x2 x3 x4)

-- %cst_22 = stablehlo.constant dense<0.000000e+00> : tensor<f32>
def val_main_cst_22 : (⟨S_, .f32⟩ : BufTy).Contents (Elt F) :=
  constant S_ .f32 0x00000000#32

-- %139 = stablehlo.pad %136, %cst_22, low = [0, 0, 8, 0], high = [0, 0, 2, 0], interior = [0, 0, 0, 0] : (tensor<1x4096x2x64xf32>, tensor<f32>) -> tensor<1x4096x12x64xf32>
def val_main_v139 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x12x64, .f32⟩ : BufTy).Contents (Elt F) :=
  pad S1x4096x12x64 ![0, 0, 8, 0] ![0, 0, 2, 0] ![0, 0, 0, 0] (val_main_v136 (F := F) x0 x1 x2 x3 x4) (val_main_cst_22 (F := F)) pads_S1x4096x2x64_S1x4096x12x64_000_000_820_000 h_S_

-- %140 = stablehlo.add %138, %139 : tensor<1x4096x12x64xf32>
def val_main_v140 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x12x64, .f32⟩ : BufTy).Contents (Elt F) :=
  addf (val_main_v138 (F := F) x0 x1 x2 x3 x4) (val_main_v139 (F := F) x0 x1 x2 x3 x4)

-- %141 = stablehlo.slice %140 [0:1, 0:4096, 0:12, 0:32] : (tensor<1x4096x12x64xf32>) -> tensor<1x4096x12x32xf32>
def val_main_v141 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x12x32, .f32⟩ : BufTy).Contents (Elt F) :=
  extractStridedSlice S1x4096x12x32 ![0, 0, 0, 0] (val_main_v140 (F := F) x0 x1 x2 x3 x4) slices_S1x4096x12x64_S1x4096x12x32_0_0_0_0

-- %142 = stablehlo.slice %140 [0:1, 0:4096, 0:12, 32:64] : (tensor<1x4096x12x64xf32>) -> tensor<1x4096x12x32xf32>
def val_main_v142 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x12x32, .f32⟩ : BufTy).Contents (Elt F) :=
  extractStridedSlice S1x4096x12x32 ![0, 0, 0, 32] (val_main_v140 (F := F) x0 x1 x2 x3 x4) slices_S1x4096x12x64_S1x4096x12x32_0_0_0_32

-- %143 = stablehlo.broadcast_in_dim %6, dims = [0, 1, 2, 3] : (tensor<1x4096x1x32xf32>) -> tensor<1x4096x12x32xf32>
def val_main_v143 (x2 : (⟨S4096x32, .f32⟩ : BufTy).Contents (Elt F)) : (⟨S1x4096x12x32, .f32⟩ : BufTy).Contents (Elt F) :=
  broadcastInDim S1x4096x12x32 ![0, 1, 2, 3] bcast_S1x4096x1x32_S1x4096x12x32_0_1_2_3 (val_main_v6 (F := F) x2)

-- %144 = stablehlo.multiply %142, %143 : tensor<1x4096x12x32xf32>
def val_main_v144 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x12x32, .f32⟩ : BufTy).Contents (Elt F) :=
  mulf (val_main_v142 (F := F) x0 x1 x2 x3 x4) (val_main_v143 (F := F) x2)

-- %145 = stablehlo.broadcast_in_dim %5, dims = [0, 1, 2, 3] : (tensor<1x4096x1x32xf32>) -> tensor<1x4096x12x32xf32>
def val_main_v145 (x1 : (⟨S4096x32, .f32⟩ : BufTy).Contents (Elt F)) : (⟨S1x4096x12x32, .f32⟩ : BufTy).Contents (Elt F) :=
  broadcastInDim S1x4096x12x32 ![0, 1, 2, 3] bcast_S1x4096x1x32_S1x4096x12x32_0_1_2_3 (val_main_v5 (F := F) x1)

-- %146 = stablehlo.multiply %142, %145 : tensor<1x4096x12x32xf32>
def val_main_v146 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x12x32, .f32⟩ : BufTy).Contents (Elt F) :=
  mulf (val_main_v142 (F := F) x0 x1 x2 x3 x4) (val_main_v145 (F := F) x1)

-- %147 = stablehlo.negate %141 : tensor<1x4096x12x32xf32>
def val_main_v147 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x12x32, .f32⟩ : BufTy).Contents (Elt F) :=
  Host.negf (val_main_v141 (F := F) x0 x1 x2 x3 x4)

-- %148 = stablehlo.broadcast_in_dim %6, dims = [0, 1, 2, 3] : (tensor<1x4096x1x32xf32>) -> tensor<1x4096x12x32xf32>
def val_main_v148 (x2 : (⟨S4096x32, .f32⟩ : BufTy).Contents (Elt F)) : (⟨S1x4096x12x32, .f32⟩ : BufTy).Contents (Elt F) :=
  broadcastInDim S1x4096x12x32 ![0, 1, 2, 3] bcast_S1x4096x1x32_S1x4096x12x32_0_1_2_3 (val_main_v6 (F := F) x2)

-- %149 = stablehlo.multiply %147, %148 : tensor<1x4096x12x32xf32>
def val_main_v149 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x12x32, .f32⟩ : BufTy).Contents (Elt F) :=
  mulf (val_main_v147 (F := F) x0 x1 x2 x3 x4) (val_main_v148 (F := F) x2)

-- %150 = stablehlo.add %146, %149 : tensor<1x4096x12x32xf32>
def val_main_v150 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x12x32, .f32⟩ : BufTy).Contents (Elt F) :=
  addf (val_main_v146 (F := F) x0 x1 x2 x3 x4) (val_main_v149 (F := F) x0 x1 x2 x3 x4)

-- %151 = stablehlo.broadcast_in_dim %5, dims = [0, 1, 2, 3] : (tensor<1x4096x1x32xf32>) -> tensor<1x4096x12x32xf32>
def val_main_v151 (x1 : (⟨S4096x32, .f32⟩ : BufTy).Contents (Elt F)) : (⟨S1x4096x12x32, .f32⟩ : BufTy).Contents (Elt F) :=
  broadcastInDim S1x4096x12x32 ![0, 1, 2, 3] bcast_S1x4096x1x32_S1x4096x12x32_0_1_2_3 (val_main_v5 (F := F) x1)

-- %152 = stablehlo.multiply %141, %151 : tensor<1x4096x12x32xf32>
def val_main_v152 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x12x32, .f32⟩ : BufTy).Contents (Elt F) :=
  mulf (val_main_v141 (F := F) x0 x1 x2 x3 x4) (val_main_v151 (F := F) x1)

-- %153 = stablehlo.add %144, %152 : tensor<1x4096x12x32xf32>
def val_main_v153 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x12x32, .f32⟩ : BufTy).Contents (Elt F) :=
  addf (val_main_v144 (F := F) x0 x1 x2 x3 x4) (val_main_v152 (F := F) x0 x1 x2 x3 x4)

-- %cst_23 = stablehlo.constant dense<0.000000e+00> : tensor<f32>
def val_main_cst_23 : (⟨S_, .f32⟩ : BufTy).Contents (Elt F) :=
  constant S_ .f32 0x00000000#32

-- %154 = stablehlo.pad %150, %cst_23, low = [0, 0, 0, 32], high = [0, 0, 0, 0], interior = [0, 0, 0, 0] : (tensor<1x4096x12x32xf32>, tensor<f32>) -> tensor<1x4096x12x64xf32>
def val_main_v154 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x12x64, .f32⟩ : BufTy).Contents (Elt F) :=
  pad S1x4096x12x64 ![0, 0, 0, 32] ![0, 0, 0, 0] ![0, 0, 0, 0] (val_main_v150 (F := F) x0 x1 x2 x3 x4) (val_main_cst_23 (F := F)) pads_S1x4096x12x32_S1x4096x12x64_000_000_000_3200 h_S_

-- %cst_24 = stablehlo.constant dense<0.000000e+00> : tensor<f32>
def val_main_cst_24 : (⟨S_, .f32⟩ : BufTy).Contents (Elt F) :=
  constant S_ .f32 0x00000000#32

-- %155 = stablehlo.pad %153, %cst_24, low = [0, 0, 0, 0], high = [0, 0, 0, 32], interior = [0, 0, 0, 0] : (tensor<1x4096x12x32xf32>, tensor<f32>) -> tensor<1x4096x12x64xf32>
def val_main_v155 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x12x64, .f32⟩ : BufTy).Contents (Elt F) :=
  pad S1x4096x12x64 ![0, 0, 0, 0] ![0, 0, 0, 32] ![0, 0, 0, 0] (val_main_v153 (F := F) x0 x1 x2 x3 x4) (val_main_cst_24 (F := F)) pads_S1x4096x12x32_S1x4096x12x64_000_000_000_0320 h_S_

-- %156 = stablehlo.add %154, %155 : tensor<1x4096x12x64xf32>
def val_main_v156 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x4096x12x64, .f32⟩ : BufTy).Contents (Elt F) :=
  addf (val_main_v154 (F := F) x0 x1 x2 x3 x4) (val_main_v155 (F := F) x0 x1 x2 x3 x4)

-- %157 = stablehlo.reshape %156 : (tensor<1x4096x12x64xf32>) -> tensor<4096x768xf32>
def val_main_v157 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S4096x768, .f32⟩ : BufTy).Contents (Elt F) :=
  shapeCast _ (val_main_v156 (F := F) x0 x1 x2 x3 x4) shapeCasts_S1x4096x12x64_S4096x768

-- %158 = stablehlo.slice %157 [0:4096, 0:512] : (tensor<4096x768xf32>) -> tensor<4096x512xf32>
def val_main_v158 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S4096x512, .f32⟩ : BufTy).Contents (Elt F) :=
  extractStridedSlice S4096x512 ![0, 0] (val_main_v157 (F := F) x0 x1 x2 x3 x4) slices_S4096x768_S4096x512_0_0

-- %159 = stablehlo.slice %157 [0:4096, 512:640] : (tensor<4096x768xf32>) -> tensor<4096x128xf32>
def val_main_v159 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S4096x128, .f32⟩ : BufTy).Contents (Elt F) :=
  extractStridedSlice S4096x128 ![0, 512] (val_main_v157 (F := F) x0 x1 x2 x3 x4) slices_S4096x768_S4096x128_0_512

-- %160 = stablehlo.slice %157 [0:4096, 640:768] : (tensor<4096x768xf32>) -> tensor<4096x128xf32>
def val_main_v160 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S4096x128, .f32⟩ : BufTy).Contents (Elt F) :=
  extractStridedSlice S4096x128 ![0, 640] (val_main_v157 (F := F) x0 x1 x2 x3 x4) slices_S4096x768_S4096x128_0_640

-- %cst_25 = stablehlo.constant dense<0.000000e+00> : tensor<f32>
def val_main_cst_25 : (⟨S_, .f32⟩ : BufTy).Contents (Elt F) :=
  constant S_ .f32 0x00000000#32

-- %161 = stablehlo.broadcast_in_dim %cst_25, dims = [] : (tensor<f32>) -> tensor<4096x2560xf32>
def val_main_v161 : (⟨S4096x2560, .f32⟩ : BufTy).Contents (Elt F) :=
  broadcastInDim S4096x2560 ![] bcast_S_S4096x2560 (val_main_cst_25 (F := F))

-- %162 = stablehlo.concatenate %158, %161, dim = 1 : (tensor<4096x512xf32>, tensor<4096x2560xf32>) -> tensor<4096x3072xf32>
def val_main_v162 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S4096x3072, .f32⟩ : BufTy).Contents (Elt F) :=
  concatenate S4096x3072 1 [⟨S4096x512, (val_main_v158 (F := F) x0 x1 x2 x3 x4)⟩, ⟨S4096x2560, (val_main_v161 (F := F))⟩] concatenates_S4096x512_S4096x2560_S4096x3072_d1

-- %163 = stablehlo.convert %162 : (tensor<4096x3072xf32>) -> tensor<4096x3072xbf16>
def val_main_v163 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S4096x3072, .bf16⟩ : BufTy).Contents (Elt F) :=
  truncf .bf16 (val_main_v162 (F := F) x0 x1 x2 x3 x4) bitsLt_bf16_f32

-- %cst_26 = stablehlo.constant dense<0.000000e+00> : tensor<f32>
def val_main_cst_26 : (⟨S_, .f32⟩ : BufTy).Contents (Elt F) :=
  constant S_ .f32 0x00000000#32

-- %164 = stablehlo.broadcast_in_dim %cst_26, dims = [] : (tensor<f32>) -> tensor<128x128xf32>
def val_main_v164 : (⟨S128x128, .f32⟩ : BufTy).Contents (Elt F) :=
  broadcastInDim S128x128 ![] bcast_S_S128x128 (val_main_cst_26 (F := F))

-- %165 = stablehlo.slice %159 [0:3968, 0:128] : (tensor<4096x128xf32>) -> tensor<3968x128xf32>
def val_main_v165 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S3968x128, .f32⟩ : BufTy).Contents (Elt F) :=
  extractStridedSlice S3968x128 ![0, 0] (val_main_v159 (F := F) x0 x1 x2 x3 x4) slices_S4096x128_S3968x128_0_0

-- %166 = stablehlo.concatenate %164, %165, dim = 0 : (tensor<128x128xf32>, tensor<3968x128xf32>) -> tensor<4096x128xf32>
def val_main_v166 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S4096x128, .f32⟩ : BufTy).Contents (Elt F) :=
  concatenate S4096x128 0 [⟨S128x128, (val_main_v164 (F := F))⟩, ⟨S3968x128, (val_main_v165 (F := F) x0 x1 x2 x3 x4)⟩] concatenates_S128x128_S3968x128_S4096x128_d0

-- %cst_27 = stablehlo.constant dense<0.000000e+00> : tensor<f32>
def val_main_cst_27 : (⟨S_, .f32⟩ : BufTy).Contents (Elt F) :=
  constant S_ .f32 0x00000000#32

-- %167 = stablehlo.broadcast_in_dim %cst_27, dims = [] : (tensor<f32>) -> tensor<128x128xf32>
def val_main_v167 : (⟨S128x128, .f32⟩ : BufTy).Contents (Elt F) :=
  broadcastInDim S128x128 ![] bcast_S_S128x128 (val_main_cst_27 (F := F))

-- %168 = stablehlo.slice %129 [0:3968, 0:128] : (tensor<4096x128xf32>) -> tensor<3968x128xf32>
def val_main_v168 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S3968x128, .f32⟩ : BufTy).Contents (Elt F) :=
  extractStridedSlice S3968x128 ![0, 0] (val_main_v129 (F := F) x0 x1 x2 x3 x4) slices_S4096x128_S3968x128_0_0

-- %169 = stablehlo.concatenate %167, %168, dim = 0 : (tensor<128x128xf32>, tensor<3968x128xf32>) -> tensor<4096x128xf32>
def val_main_v169 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S4096x128, .f32⟩ : BufTy).Contents (Elt F) :=
  concatenate S4096x128 0 [⟨S128x128, (val_main_v167 (F := F))⟩, ⟨S3968x128, (val_main_v168 (F := F) x0 x1 x2 x3 x4)⟩] concatenates_S128x128_S3968x128_S4096x128_d0

-- %170 = stablehlo.broadcast_in_dim %110, dims = [1] : (tensor<8xf32>) -> tensor<1x8xf32>
def val_main_v170 (x0 : (⟨S4096x3072, .f32⟩ : BufTy).Contents (Elt F)) (x1 x2 : (⟨S4096x32, .f32⟩ : BufTy).Contents (Elt F)) (x3 : (⟨S8, .f32⟩ : BufTy).Contents (Elt F)) (x4 : (⟨S4096x1024, .f32⟩ : BufTy).Contents (Elt F)) : (⟨S1x8, .f32⟩ : BufTy).Contents (Elt F) :=
  broadcastInDim S1x8 ![1] bcast_S8_S1x8_1 (val_main_v110 (F := F) x0 x1 x2 x3 x4)

abbrev idx_main_v73 (i : S1x32x2x4x128.Idx) (k : Fin 257) : S1x32x2x4x128x257.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨(i 4).val, (i 4).isLt⟩
  | ⟨5, _⟩ => ⟨k.val, k.isLt⟩
/-- Stated at `F := Ideal`, where the host's float sum is this sum; at a bit-exact instance it is an opaque function of its operand. -/
theorem val_main_v73_apply (x0 : (⟨S4096x3072, .f32⟩ : BufTy).Contents (Elt Ideal)) (x1 x2 : (⟨S4096x32, .f32⟩ : BufTy).Contents (Elt Ideal)) (x3 : (⟨S8, .f32⟩ : BufTy).Contents (Elt Ideal)) (i : S1x32x2x4x128.Idx) :
    val_main_v73 (F := Ideal) x0 x1 x2 x3 i = (val_main_cst_11 (F := Ideal)) (Shape.Idx.first h_S_) + ∑ k : Fin 257, (val_main_v72 (F := Ideal) x0 x1 x2 x3) (idx_main_v73 i k) := by
  unfold val_main_v73
  generalize val_main_v72 (F := Ideal) x0 x1 x2 x3 = y0
  simp only [Host.reduceAdd, Ideal.hostReduceAdd_def]
  rw [Ideal.hostReduceAdd_single reducesTo_S1x32x2x4x128x257_S1x32x2x4x128_d5 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl | ⟨4, _⟩ => rfl | ⟨5, _⟩ => rfl))

abbrev idx_main_v96 (i : S1x32x2x4x128.Idx) (k : Fin 257) : S1x32x2x4x128x257.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, (i 3).isLt⟩
  | ⟨4, _⟩ => ⟨(i 4).val, (i 4).isLt⟩
  | ⟨5, _⟩ => ⟨k.val, k.isLt⟩
/-- Stated at `F := Ideal`, where the host's float sum is this sum; at a bit-exact instance it is an opaque function of its operand. -/
theorem val_main_v96_apply (x0 : (⟨S4096x3072, .f32⟩ : BufTy).Contents (Elt Ideal)) (x1 x2 : (⟨S4096x32, .f32⟩ : BufTy).Contents (Elt Ideal)) (x3 : (⟨S8, .f32⟩ : BufTy).Contents (Elt Ideal)) (x4 : (⟨S4096x1024, .f32⟩ : BufTy).Contents (Elt Ideal)) (i : S1x32x2x4x128.Idx) :
    val_main_v96 (F := Ideal) x0 x1 x2 x3 x4 i = (val_main_cst_14 (F := Ideal)) (Shape.Idx.first h_S_) + ∑ k : Fin 257, (val_main_v95 (F := Ideal) x0 x1 x2 x3 x4) (idx_main_v96 i k) := by
  unfold val_main_v96
  generalize val_main_v95 (F := Ideal) x0 x1 x2 x3 x4 = y0
  simp only [Host.reduceAdd, Ideal.hostReduceAdd_def]
  rw [Ideal.hostReduceAdd_single reducesTo_S1x32x2x4x128x257_S1x32x2x4x128_d5 (by decide)]
  refine congrArg (_ + ·) (Finset.sum_congr rfl fun k _ => ?_)
  exact congrArg y0 (funext fun a => Fin.ext (by match a with | ⟨0, _⟩ => rfl | ⟨1, _⟩ => rfl | ⟨2, _⟩ => rfl | ⟨3, _⟩ => rfl | ⟨4, _⟩ => rfl | ⟨5, _⟩ => rfl))

end Cert.ReferenceIdeal.Read

end
-- ==== Proof.RefRope.lean ====
/- The reference's rotated queries and keys and its values, at an index. -/
module

public import proofs.«01_k».proof.Proof.Spec
public import proofs.«01_k».proof.Proof.RefTerms
public import Idealize.ShloMosaic.Lib.Pointwise
public import Idealize.ShloMosaic.Lib.Tactic.WordOmega

@[expose] public section

set_option maxRecDepth 16384

noncomputable section

namespace AttnBwd

open Idealize.ShloMosaic Cert.ReferenceIdeal Cert.ReferenceIdeal.Gen Cert.ReferenceIdeal.Read

/-- The argument arrays hold the numbers of `a`. -/
structure Holds (a : Data) (x0 : (⟨S4096x3072, .f32⟩ : BufTy).Contents (Elt Ideal))
    (x1 x2 : (⟨S4096x32, .f32⟩ : BufTy).Contents (Elt Ideal)) (x3 : (⟨S8, .f32⟩ : BufTy).Contents (Elt Ideal))
    (x4 : (⟨S4096x1024, .f32⟩ : BufTy).Contents (Elt Ideal)) : Prop where
  X : ∀ (t : Fin 4096) (c : Fin 3072), x0 (ix2 t c) = ((a.X t.val c.val : ℝ) : EReal)
  co : ∀ (t : Fin 4096) (c : Fin 32), x1 (ix2 t c) = ((a.co t.val c.val : ℝ) : EReal)
  si : ∀ (t : Fin 4096) (c : Fin 32), x2 (ix2 t c) = ((a.si t.val c.val : ℝ) : EReal)
  snk : ∀ (h : Fin 8), x3 (ix1 h) = ((a.snk h.val : ℝ) : EReal)
  D : ∀ (t : Fin 4096) (c : Fin 1024), x4 (ix2 t c) = ((a.D t.val c.val : ℝ) : EReal)

variable {a : Data} {x0 : (⟨S4096x3072, .f32⟩ : BufTy).Contents (Elt Ideal)}
    {x1 x2 : (⟨S4096x32, .f32⟩ : BufTy).Contents (Elt Ideal)} {x3 : (⟨S8, .f32⟩ : BufTy).Contents (Elt Ideal)}
    {x4 : (⟨S4096x1024, .f32⟩ : BufTy).Contents (Elt Ideal)}

/-- The column of the projection that head `h` of the stacked queries, previous keys and keys reads. -/
def qkcol (h d : ℕ) : ℕ :=
  if h * 64 + d < 512 then h * 64 + d
  else if h * 64 + d - 512 < 128 then 2560 + (h * 64 + d - 512) else 2560 + (h * 64 + d - 512 - 128)

theorem v4_at (H : Holds a x0 x1 x2 x3 x4) (t : Fin 4096) (h : Fin 12) (d : Fin 64) :
    val_main_v4 (F := Ideal) x0 (ix4 0 t h d) = ((a.X t.val (qkcol h.val d.val) : ℝ) : EReal) := by
  pointwise [val_main_v4, val_main_v3, val_main_v0, val_main_v1]
  unfold qkcol
  split
  · exact H.X _ _
  · split <;> exact H.X _ _

theorem v19_at (H : Holds a x0 x1 x2 x3 x4) (t : Fin 4096) (h : Fin 12) (d : Fin 64) :
    val_main_v19 (F := Ideal) x0 x1 x2 (ix4 0 t h d)
      = ((rot a (fun e => a.X t.val (qkcol h.val e)) t.val d.val : ℝ) : EReal) := by
  pointwise [val_main_v19, val_main_v18, val_main_v17, val_main_v16, val_main_v15, val_main_v14, val_main_v13, val_main_v12, val_main_v11, val_main_v10, val_main_v9, val_main_v8, val_main_v7, val_main_v6, val_main_v5]
  unfold rot
  simp only [v4_at H, H.co, H.si, ← EReal.coe_mul, ← EReal.coe_add, ← EReal.coe_sub]
  by_cases hd : d.val < 32
  · simp only [hd, dite_true, if_true, Nat.add_comm 32]
  · have : 32 + (d.val - 32) = d.val := by omega
    simp only [hd, dite_false, if_false, this]

theorem rot_congr {x y : ℕ → ℝ} (t d : ℕ) (hd : d < 64) (h : ∀ e < 64, x e = y e) : rot a x t d = rot a y t d := by
  unfold rot
  split
  · rw [h d hd, h (d + 32) (by omega)]
  · rw [h d hd, h (d - 32) (by omega)]

/-- The rotated queries, and the keys at both places where they are stacked. -/
theorem v19_q (H : Holds a x0 x1 x2 x3 x4) (t : Fin 4096) (h : ℕ) (hh : h < 8) (d : Fin 64) :
    val_main_v19 (F := Ideal) x0 x1 x2 (ix4 0 t ⟨h, by omega⟩ d) = ((Q a t.val h d.val : ℝ) : EReal) := by
  rw [v19_at H]
  refine congrArg _ (rot_congr _ _ d.isLt fun e he => ?_)
  unfold qkcol
  rw [if_pos (by show h * 64 + e < 512; omega)]

theorem v19_kp (H : Holds a x0 x1 x2 x3 x4) (t : Fin 4096) (g : ℕ) (hg : g < 2) (d : Fin 64) :
    val_main_v19 (F := Ideal) x0 x1 x2 (ix4 0 t ⟨8 + g, by omega⟩ d) = ((K a t.val g d.val : ℝ) : EReal) := by
  rw [v19_at H]
  refine congrArg _ (rot_congr _ _ d.isLt fun e he => congrArg _ ?_)
  unfold qkcol
  dsimp only
  rw [if_neg (by omega), if_pos (by omega)]
  omega

theorem v19_k (H : Holds a x0 x1 x2 x3 x4) (t : Fin 4096) (g : ℕ) (hg : g < 2) (d : Fin 64) :
    val_main_v19 (F := Ideal) x0 x1 x2 (ix4 0 t ⟨10 + g, by omega⟩ d) = ((K a t.val g d.val : ℝ) : EReal) := by
  rw [v19_at H]
  refine congrArg _ (rot_congr _ _ d.isLt fun e he => congrArg _ ?_)
  unfold qkcol
  dsimp only
  rw [if_neg (by omega), if_neg (by omega)]
  omega

/-- The keys and the values of a block's band. -/
theorem v28_at (H : Holds a x0 x1 x2 x3 x4) (n : Fin 32) (k : Fin 256) (g : Fin 2) (d : Fin 64) :
    val_main_v28 (F := Ideal) x0 x1 x2 (ix5 0 n k g d) = ((KB a n.val k.val g.val d.val : ℝ) : EReal) := by
  pointwise [val_main_v28, val_main_v27, val_main_v26, val_main_v24, val_main_v23, val_main_v22, val_main_v21, val_main_v20, val_main_cst]
  unfold KB
  split
  · split
    · simp
    · exact v19_kp H _ _ g.isLt d
  · refine (v19_k H _ _ g.isLt d).trans ?_
    dsimp only
    rw [if_neg (by omega), show n.val * 128 + k.val - 128 = n.val * 128 + (k.val - 128) by omega]

theorem v37_at (H : Holds a x0 x1 x2 x3 x4) (n : Fin 32) (k : Fin 256) (g : Fin 2) (d : Fin 64) :
    val_main_v37 (F := Ideal) x0 (ix5 0 n k g d) = ((VB a n.val k.val g.val d.val : ℝ) : EReal) := by
  pointwise [val_main_v37, val_main_v36, val_main_v35, val_main_v33, val_main_v32, val_main_v31, val_main_v30, val_main_v29, val_main_v2, val_main_cst_1]
  unfold VB V
  split
  · split
    · simp
    · exact H.X _ _
  · refine (H.X _ _).trans ?_
    dsimp only
    rw [if_neg (by omega), show n.val * 128 + k.val - 128 = n.val * 128 + (k.val - 128) by omega]

theorem v39_at (H : Holds a x0 x1 x2 x3 x4) (n : Fin 32) (q : Fin 128) (g : Fin 2) (r : Fin 4) (d : Fin 64) :
    val_main_v39 (F := Ideal) x0 x1 x2 (ix6 0 n q g r d)
      = ((Q a (n.val * 128 + q.val) (g.val * 4 + r.val) d.val : ℝ) : EReal) := by
  pointwise [val_main_v39, val_main_v38]
  exact v19_q H _ _ (by omega) d

theorem v88_at (H : Holds a x0 x1 x2 x3 x4) (n : Fin 32) (g : Fin 2) (d : Fin 64) (r : Fin 4) (q : Fin 128) :
    val_main_v88 (F := Ideal) x4 (ix6 0 n g d r q)
      = ((a.D (n.val * 128 + q.val) ((g.val * 4 + r.val) * 64 + d.val) : ℝ) : EReal) := by
  pointwise [val_main_v88, val_main_v87, val_main_v86, val_main_v85]
  rw [H.D]
  dsimp only
  rw [show g.val * 256 + r.val * 64 + d.val = (g.val * 4 + r.val) * 64 + d.val by omega]

theorem v43_at (H : Holds a x0 x1 x2 x3 x4) (n : Fin 32) (g : Fin 2) (r : Fin 4) (q : Fin 128) (k : Fin 256) :
    val_main_v43 (F := Ideal) x0 x1 x2 (ix6 0 n g r q k) = ((S a n.val (g.val * 4 + r.val) q.val k.val : ℝ) : EReal) := by
  pointwise [val_main_v43, val_main_v42, val_main_v41, val_main_v40, val_main_cst_3]
  simp only [v28_at H, v39_at H]
  have h8 : Ideal.ofBits FTy.f32 1040187392#32 = ((1 / 8 : ℝ) : EReal) := by
    simp [Ideal.ofBits, Ideal.ieee, -EReal.coe_mul]; norm_num
  rw [h8]
  unfold S
  rw [show (g.val * 4 + r.val) / 4 = g.val by omega]
  simp only [← EReal.coe_mul, ← coe_sum]
  rw [EReal.coe_eq_coe_iff, mul_one_div]
  exact congrArg (· / (8 : ℝ)) (Finset.sum_congr rfl fun d _ => mul_comm _ _)

theorem and3_zero : ∀ x y z : BitVec 1, ¬ (x = 1#1 ∧ y = 1#1 ∧ z = 1#1) → IntOp.andi (IntOp.andi x y) z = 0#1 := by
  decide

theorem v62_at (n : Fin 32) (q : Fin 128) (k : Fin 256) :
    val_main_v62 (F := Ideal) (ix3 n q k) = if msk n.val q.val k.val then 1#1 else 0#1 := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_c, val_main_c_4, val_main_c_5, val_main_c_6, val_main_c_7, val_main_c_8]
  unfold IntOp.subi IntOp.muli
  by_cases hm : msk n.val q.val k.val
  · rw [if_pos hm]; unfold msk at hm; word_omega
  · rw [if_neg hm]
    refine and3_zero _ _ _ fun ⟨h1, h2, h3⟩ => hm ?_
    unfold msk
    word_omega

end AttnBwd

end
-- ==== Proof.RefSoftmax.lean ====
/- The reference's softmax and its gradient, at an index. -/
module

public import proofs.«01_k».proof.Proof.RefRope

@[expose] public section

set_option maxRecDepth 16384

noncomputable section

namespace AttnBwd

open Idealize.ShloMosaic Cert.ReferenceIdeal Cert.ReferenceIdeal.Gen Cert.ReferenceIdeal.Read

variable {a : Data} {x0 : (⟨S4096x3072, .f32⟩ : BufTy).Contents (Elt Ideal)}
    {x1 x2 : (⟨S4096x32, .f32⟩ : BufTy).Contents (Elt Ideal)} {x3 : (⟨S8, .f32⟩ : BufTy).Contents (Elt Ideal)}
    {x4 : (⟨S4096x1024, .f32⟩ : BufTy).Contents (Elt Ideal)}

/-- A sum over the indices that drop to `j`, along any listing of them. -/
theorem sum_fiber {s t : Shape} {axes : List (Fin s.rank)} (h : s.ReducesTo axes t) (j : t.Idx) {ι : Type} [Fintype ι]
    (f : ι → s.Idx) (hi : Function.Injective f) (hf : ∀ k, h.drop (f k) = j) (hs : ∀ i, h.drop i = j → ∃ k, f k = i)
    (v : s.Idx → EReal) : ∑ i ∈ Finset.univ.filter (fun i => h.drop i = j), v i = ∑ k, v (f k) := by
  refine (Finset.sum_bij (fun k _ => f k) (fun k _ => ?_) (fun k _ k' _ e => hi e) (fun i hi => ?_) (fun k _ => rfl)).symm
  · rw [Finset.mem_filter]; exact ⟨Finset.mem_univ _, hf k⟩
  · obtain ⟨k, hk⟩ := hs i (Finset.mem_filter.mp hi).2
    exact ⟨k, Finset.mem_univ _, hk⟩

/-- The masked scores, with the sink's as the last column. -/
theorem v67_at (H : Holds a x0 x1 x2 x3 x4) (n : Fin 32) (g : Fin 2) (r : Fin 4) (q : Fin 128) (k : Fin 257) :
    val_main_v67 (F := Ideal) x0 x1 x2 x3 (ix6 0 n g r q k)
      = if k.val < 256 then
          (if msk n.val q.val k.val then ((S a n.val (g.val * 4 + r.val) q.val k.val : ℝ) : EReal) else ⊥)
        else ((a.snk (g.val * 4 + r.val) : ℝ) : EReal) := by
  pointwise [val_main_v67, val_main_v66, val_main_v65, val_main_v64_0, val_main_v64_1, val_main_v63, val_main_call0_v0, val_main_call0_v2, val_main_cst_9]
  have hb : (id (constant (F := Ideal) S_ FTy.f32 4286578688#32) ix0 : EReal) = ⊥ := by
    show Ideal.ofBits FTy.f32 4286578688#32 = ⊥
    simp [Ideal.ofBits, Ideal.ieee]
  by_cases hk : k.val < 256
  · simp only [hk, dite_true, if_true]
    rw [v62_at, v43_at H]
    by_cases hm : msk n.val q.val k.val
    · simp only [hm, if_true]; rfl
    · simp only [hm, if_false]; exact hb
  · simp only [hk, dite_false, if_false]
    exact H.snk _

/-- The row maximum is a real number. -/
theorem v68_real (H : Holds a x0 x1 x2 x3 x4) (n : Fin 32) (g : Fin 2) (r : Fin 4) (q : Fin 128) :
    ∃ m : ℝ, val_main_v68 (F := Ideal) x0 x1 x2 x3 (ix5 0 n g r q) = (m : EReal) := by
  have e : val_main_v68 (F := Ideal) x0 x1 x2 x3 (ix5 0 n g r q)
      = (Finset.univ.filter fun i => reducesTo_S1x32x2x4x128x257_S1x32x2x4x128_d5.drop i = ix5 0 n g r q).fold max
          (Ideal.ofBits FTy.f32 4286578688#32) (val_main_v67 (F := Ideal) x0 x1 x2 x3) :=
    Host.reduce_eq_fold (α := EReal) max _ _ _ _ _
  have hb : Ideal.ofBits FTy.f32 4286578688#32 = ⊥ := by simp [Ideal.ofBits, Ideal.ieee]
  rw [e, hb]
  have ht : (Finset.univ.filter fun i => reducesTo_S1x32x2x4x128x257_S1x32x2x4x128_d5.drop i = ix5 0 n g r q).fold max
      (⊥ : EReal) (val_main_v67 (F := Ideal) x0 x1 x2 x3) < ⊤ := by
    rw [Finset.fold_max_lt]
    refine ⟨bot_lt_top, fun i _ => ?_⟩
    obtain ⟨n', g', r', q', k', hi⟩ : ∃ (n' : Fin 32) (g' : Fin 2) (r' : Fin 4) (q' : Fin 128) (k' : Fin 257),
        i = ix6 0 n' g' r' q' k' :=
      ⟨i 1, i 2, i 3, i 4, i 5, (eq_ix6 i).trans (congrArg (fun z : Fin 1 => ix6 z (i 1) (i 2) (i 3) (i 4) (i 5))
        (Subsingleton.elim (α := Fin 1) _ _))⟩
    rw [hi, v67_at H]
    split
    · split
      · exact EReal.coe_lt_top _
      · exact bot_lt_top
    · exact EReal.coe_lt_top _
  have hl : ⊥ < (Finset.univ.filter fun i => reducesTo_S1x32x2x4x128x257_S1x32x2x4x128_d5.drop i = ix5 0 n g r q).fold max
      (⊥ : EReal) (val_main_v67 (F := Ideal) x0 x1 x2 x3) := by
    rw [Finset.lt_fold_max]
    refine Or.inr ⟨ix6 0 n g r q ⟨256, by omega⟩, ?_, ?_⟩
    · rw [Finset.mem_filter]
      exact ⟨Finset.mem_univ _, funext fun b => match b with
        | ⟨0, _⟩ => rfl | ⟨1, _⟩ => rfl | ⟨2, _⟩ => rfl | ⟨3, _⟩ => rfl | ⟨4, _⟩ => rfl⟩
    · rw [v67_at H, if_neg (by decide)]
      exact EReal.bot_lt_coe _
  exact ⟨_, (EReal.coe_toReal ht.ne hl.ne').symm⟩

/-- The row maximum, as a real number. -/
def mx (x0 : (⟨S4096x3072, .f32⟩ : BufTy).Contents (Elt Ideal)) (x1 x2 : (⟨S4096x32, .f32⟩ : BufTy).Contents (Elt Ideal))
    (x3 : (⟨S8, .f32⟩ : BufTy).Contents (Elt Ideal)) (n : Fin 32) (g : Fin 2) (r : Fin 4) (q : Fin 128) : ℝ :=
  (val_main_v68 (F := Ideal) x0 x1 x2 x3 (ix5 0 n g r q) : EReal).toReal

theorem v68_at (H : Holds a x0 x1 x2 x3 x4) (n : Fin 32) (g : Fin 2) (r : Fin 4) (q : Fin 128) :
    val_main_v68 (F := Ideal) x0 x1 x2 x3 (ix5 0 n g r q) = ((mx x0 x1 x2 x3 n g r q : ℝ) : EReal) := by
  obtain ⟨m, hm⟩ := v68_real H n g r q
  unfold mx
  rw [hm, EReal.toReal_coe]

/-- The exponentials below the shift `m`, with the sink's as the last. -/
def Em (a : Data) (m : ℝ) (n h q k : ℕ) : ℝ :=
  if k < 256 then (if msk n q k then Real.exp (S a n h q k - m) else 0) else Real.exp (a.snk h - m)

theorem sum_Em (a : Data) (m : ℝ) (n h q : ℕ) : ∑ k : Fin 257, Em a m n h q k.val = Zm a m n h q := by
  rw [Fin.sum_univ_castSucc]
  unfold Zm Em
  refine congrArg₂ (· + ·) (Finset.sum_congr rfl fun k _ => ?_) ?_
  · rw [Fin.val_castSucc, if_pos k.isLt]
  · rw [if_neg (by simp)]

theorem v72_at (H : Holds a x0 x1 x2 x3 x4) (n : Fin 32) (g : Fin 2) (r : Fin 4) (q : Fin 128) (k : Fin 257) :
    val_main_v72 (F := Ideal) x0 x1 x2 x3 (ix6 0 n g r q k)
      = ((Em a (mx x0 x1 x2 x3 n g r q) n.val (g.val * 4 + r.val) q.val k.val : ℝ) : EReal) := by
  pointwise [val_main_v72, val_main_v71, val_main_v70, val_main_v69]
  rw [v68_at H, v67_at H]
  unfold Em
  split
  · split
    · rw [← EReal.coe_sub]; rfl
    · rw [EReal.bot_sub]; rfl
  · rw [← EReal.coe_sub]; rfl

theorem v73_at (H : Holds a x0 x1 x2 x3 x4) (n : Fin 32) (g : Fin 2) (r : Fin 4) (q : Fin 128) :
    val_main_v73 (F := Ideal) x0 x1 x2 x3 (ix5 0 n g r q)
      = ((Zm a (mx x0 x1 x2 x3 n g r q) n.val (g.val * 4 + r.val) q.val : ℝ) : EReal) := by
  rw [val_main_v73_apply, ← sum_Em, coe_sum]
  have h0 : (val_main_cst_11 (F := Ideal)) (Shape.Idx.first h_S_) = (0 : EReal) := by
    show Ideal.ofBits FTy.f32 0#32 = 0
    simp
  rw [h0, zero_add]
  refine Finset.sum_congr rfl fun k _ => ?_
  rw [← v72_at H]
  exact congrArg _ (funext fun b => match b with
    | ⟨0, _⟩ => rfl | ⟨1, _⟩ => rfl | ⟨2, _⟩ => rfl | ⟨3, _⟩ => rfl | ⟨4, _⟩ => rfl | ⟨5, _⟩ => rfl)

/-- The probabilities. -/
theorem v80_at (H : Holds a x0 x1 x2 x3 x4) (n : Fin 32) (g : Fin 2) (r : Fin 4) (q : Fin 128) (k : Fin 256) :
    val_main_v80 (F := Ideal) x0 x1 x2 x3 (ix6 0 n g r q k) = ((P a n.val (g.val * 4 + r.val) q.val k.val : ℝ) : EReal) := by
  pointwise [val_main_v80, val_main_v76, val_main_v75, val_main_v74]
  rw [v72_at H, v73_at H, Ideal.div_coe (Zm_pos a _ _ _ _).ne', ← EReal.coe_mul, EReal.coe_eq_coe_iff, ← P_shift a (mx x0 x1 x2 x3 n g r q)]
  unfold Em
  simp only [k.isLt, if_true]
  exact mul_one_div _ _

/-- The gradients of the probabilities, and of the band's values. -/
theorem v89_at (H : Holds a x0 x1 x2 x3 x4) (n : Fin 32) (g : Fin 2) (r : Fin 4) (q : Fin 128) (k : Fin 256) :
    val_main_v89 (F := Ideal) x0 x4 (ix6 0 n g r q k) = ((dP a n.val (g.val * 4 + r.val) q.val k.val : ℝ) : EReal) := by
  pointwise [val_main_v89]
  unfold dP
  rw [coe_sum]
  refine Finset.sum_congr rfl fun d _ => ?_
  rw [v88_at H, v37_at H, ← EReal.coe_mul, show (g.val * 4 + r.val) / 4 = g.val by omega]

theorem v90_at (H : Holds a x0 x1 x2 x3 x4) (n : Fin 32) (g : Fin 2) (d : Fin 64) (k : Fin 256) :
    val_main_v90 (F := Ideal) x0 x1 x2 x3 x4 (ix5 0 n g d k)
      = ((dVB a n.val k.val g.val d.val : ℝ) : EReal) := by
  pointwise [val_main_v90]
  unfold dVB
  simp only [v88_at H, v80_at H, coe_sum, EReal.coe_mul, mul_comm]

theorem v92_at (H : Holds a x0 x1 x2 x3 x4) (n : Fin 32) (g : Fin 2) (r : Fin 4) (q : Fin 128) (k : Fin 257) :
    val_main_v92 (F := Ideal) x0 x4 (ix6 0 n g r q k)
      = (((if k.val < 256 then dP a n.val (g.val * 4 + r.val) q.val k.val else 0) : ℝ) : EReal) := by
  pointwise [val_main_v92, val_main_cst_13]
  by_cases hk : k.val < 256
  · simp only [hk, dite_true, if_true]
    exact v89_at H n g r q ⟨k.val, hk⟩
  · simp only [hk, dite_false, if_false]
    rfl

/-- The row term of the softmax, over the sum of exponentials. -/
theorem v96_at (H : Holds a x0 x1 x2 x3 x4) (n : Fin 32) (g : Fin 2) (r : Fin 4) (q : Fin 128) :
    val_main_v96 (F := Ideal) x0 x1 x2 x3 x4 (ix5 0 n g r q)
      = ((dl a n.val (g.val * 4 + r.val) q.val / Zm a (mx x0 x1 x2 x3 n g r q) n.val (g.val * 4 + r.val) q.val : ℝ) : EReal) := by
  rw [val_main_v96_apply]
  have h0 : (val_main_cst_14 (F := Ideal)) (Shape.Idx.first h_S_) = (0 : EReal) := by
    show Ideal.ofBits FTy.f32 0#32 = 0
    simp
  rw [h0, zero_add]
  have e : ∀ k : Fin 257, val_main_v95 (F := Ideal) x0 x1 x2 x3 x4 (idx_main_v96 (ix5 0 n g r q) k)
      = (((if k.val < 256 then dP a n.val (g.val * 4 + r.val) q.val k.val else 0)
          * (1 / (Zm a (mx x0 x1 x2 x3 n g r q) n.val (g.val * 4 + r.val) q.val * Zm a (mx x0 x1 x2 x3 n g r q) n.val (g.val * 4 + r.val) q.val))
          * Em a (mx x0 x1 x2 x3 n g r q) n.val (g.val * 4 + r.val) q.val k.val : ℝ) : EReal) := by
    intro k
    have hi : idx_main_v96 (ix5 0 n g r q) k = ix6 0 n g r q k := funext fun b => match b with
      | ⟨0, _⟩ => rfl | ⟨1, _⟩ => rfl | ⟨2, _⟩ => rfl | ⟨3, _⟩ => rfl | ⟨4, _⟩ => rfl | ⟨5, _⟩ => rfl
    rw [hi]
    pointwise [val_main_v95, val_main_v94, val_main_v93, val_main_v79, val_main_v78, val_main_v77, val_main_v74, val_main_cst_12]
    have hz := (Zm_pos a (mx x0 x1 x2 x3 n g r q) n.val (g.val * 4 + r.val) q.val).ne'
    rw [v92_at H, v72_at H, v73_at H, ← EReal.coe_mul, ← EReal.coe_one, Ideal.div_coe (mul_ne_zero hz hz), ← EReal.coe_mul, one_mul, ← EReal.coe_mul, ← EReal.coe_mul]
  simp only [e, ← coe_sum]
  rw [EReal.coe_eq_coe_iff, Fin.sum_univ_castSucc]
  simp only [Fin.val_last, lt_irrefl, if_false, zero_mul, add_zero, Fin.val_castSucc]
  unfold dl
  rw [Finset.sum_div]
  refine Finset.sum_congr rfl fun k _ => ?_
  have hz := (Zm_pos a (mx x0 x1 x2 x3 n g r q) n.val (g.val * 4 + r.val) q.val).ne'
  rw [if_pos k.isLt, ← P_shift a (mx x0 x1 x2 x3 n g r q)]
  unfold Em
  rw [if_pos k.isLt]
  field_simp

theorem v101_at (H : Holds a x0 x1 x2 x3 x4) (n : Fin 32) (g : Fin 2) (r : Fin 4) (q : Fin 128) :
    val_main_v101 (F := Ideal) x0 x1 x2 x3 x4 (ix4 n g r q)
      = ((-(dl a n.val (g.val * 4 + r.val) q.val / Zm a (mx x0 x1 x2 x3 n g r q) n.val (g.val * 4 + r.val) q.val) : ℝ) : EReal) := by
  pointwise [val_main_v101, val_main_cst_15]
  unfold Ideal.hostReduceAdd
  rw [sum_fiber reducesTo_S1x32x2x4x128x1_S32x2x4x128_d0_5 (ix4 n g r q) (fun _ : Unit => ix6 0 n g r q 0)
    (fun _ _ _ => rfl)
    (fun _ => funext fun b => match b with | ⟨0, _⟩ => rfl | ⟨1, _⟩ => rfl | ⟨2, _⟩ => rfl | ⟨3, _⟩ => rfl)
    (fun i hi => ⟨(), funext fun b => match b with
      | ⟨0, _⟩ => Subsingleton.elim (α := Fin 1) _ _
      | ⟨1, _⟩ => Fin.ext (congrArg Fin.val (congrFun hi 0)).symm
      | ⟨2, _⟩ => Fin.ext (congrArg Fin.val (congrFun hi 1)).symm
      | ⟨3, _⟩ => Fin.ext (congrArg Fin.val (congrFun hi 2)).symm
      | ⟨4, _⟩ => Fin.ext (congrArg Fin.val (congrFun hi 3)).symm
      | ⟨5, _⟩ => Subsingleton.elim (α := Fin 1) _ _⟩)]
  simp only [Finset.univ_unique, Finset.sum_singleton, zero_add]
  pointwise [val_main_v98, val_main_v97]
  rw [v96_at H, EReal.coe_neg]

/-- The gradient of the scores, with the sink's as the last column. -/
theorem v105_at (H : Holds a x0 x1 x2 x3 x4) (n : Fin 32) (g : Fin 2) (r : Fin 4) (q : Fin 128) (k : Fin 257) :
    val_main_v105 (F := Ideal) x0 x1 x2 x3 x4 (ix6 0 n g r q k)
      = (((if k.val < 256 then dS a n.val (g.val * 4 + r.val) q.val k.val
          else -(PS a n.val (g.val * 4 + r.val) q.val * dl a n.val (g.val * 4 + r.val) q.val)) : ℝ) : EReal) := by
  pointwise [val_main_v105, val_main_v104, val_main_v103, val_main_v102, val_main_v100, val_main_v99, val_main_v74]
  have hz := (Zm_pos a (mx x0 x1 x2 x3 n g r q) n.val (g.val * 4 + r.val) q.val).ne'
  rw [v92_at H, v72_at H, v73_at H, v101_at H, Ideal.div_coe hz, ← EReal.coe_mul, ← EReal.coe_add, ← EReal.coe_mul, EReal.coe_eq_coe_iff]
  unfold dS
  rw [← P_shift a (mx x0 x1 x2 x3 n g r q), ← PS_shift a (mx x0 x1 x2 x3 n g r q)]
  unfold Em
  split
  · field_simp
    try ring
  · field_simp
    try ring

theorem v107_at (H : Holds a x0 x1 x2 x3 x4) (n : Fin 32) (g : Fin 2) (r : Fin 4) (q : Fin 128) :
    val_main_v107 (F := Ideal) x0 x1 x2 x3 x4 (ix6 0 n g r q 0)
      = ((-(PS a n.val (g.val * 4 + r.val) q.val * dl a n.val (g.val * 4 + r.val) q.val) : ℝ) : EReal) := by
  pointwise [val_main_v107]
  rw [v105_at H]
  simp

/-- The gradient of a head's sink. -/
theorem v108_at (H : Holds a x0 x1 x2 x3 x4) (g : Fin 2) (r : Fin 4) :
    val_main_v108 (F := Ideal) x0 x1 x2 x3 x4 (ix2 g r) = ((rDsink a (g.val * 4 + r.val) : ℝ) : EReal) := by
  pointwise [val_main_v108, val_main_cst_16]
  unfold Ideal.hostReduceAdd
  rw [sum_fiber reducesTo_S1x32x2x4x128x1_S2x4_d0_1_4_5 (ix2 g r) (fun p : Fin 32 × Fin 128 => ix6 0 p.1 g r p.2 0)
    (fun p p' e => Prod.ext (congrFun e 1) (congrFun e 4))
    (fun _ => funext fun b => match b with | ⟨0, _⟩ => rfl | ⟨1, _⟩ => rfl)
    (fun i hi => ⟨(i 1, i 4), funext fun b => match b with
      | ⟨0, _⟩ => Subsingleton.elim (α := Fin 1) _ _
      | ⟨1, _⟩ => rfl
      | ⟨2, _⟩ => Fin.ext (congrArg Fin.val (congrFun hi 0)).symm
      | ⟨3, _⟩ => Fin.ext (congrArg Fin.val (congrFun hi 1)).symm
      | ⟨4, _⟩ => rfl
      | ⟨5, _⟩ => Subsingleton.elim (α := Fin 1) _ _⟩), Fintype.sum_prod_type]
  unfold rDsink dsk
  simp only [v107_at H, zero_add, coe_sum, ← Finset.sum_neg_distrib]

end AttnBwd

end
-- ==== Proof.KernelTerms.lean ====
/- The values the kernel's body computes at one block, as a few named arrays: the roped queries and
   keys, the stacked heads, the three products and the stored results, each over the named pure
   values of the printed body. -/
module

public import proofs.«01_k».proof.Proof.Gen.KernelIdeal.Skeleton

@[expose] public section

set_option synthInstance.maxSize 4096

noncomputable section

namespace Cert.KernelIdeal.Body

open Idealize.ShloMosaic Idealize.SL.Sem Cert.KernelIdeal.Gen

variable {F : FTy → Type} [FloatOps F]

/-- The lane numbers of a 128 by 128 array. -/
def lanes : IVec S128x128 32 := iota .tc S128x128 32 [1] iota_S128x128_d1_w32

/-- The roped and scaled queries. -/
def qRope (q : FVec F S128x512 .f32) (co si : FVec F S128x128 .f32) : FVec F S128x512 .f32 :=
  k0_pay6 co si q

/-- The roped keys: the block before, then the block itself. -/
def keys (kc kp co si cop sip : FVec F S128x128 .f32) : FVec F S256x128 .f32 :=
  k0_pay12 (k0_pay3 sip) (k0_pay7 co (k0_pay2 si) kc) kp (k0_pay8 cop kp) k0_pay9 k0_pay10 k0_pay11

/-- The values: the block before, then the block itself. -/
def vals (vc vp : FVec F S128x128 .f32) : FVec F S256x128 .f32 := k0_pay13 vp vc

/-- The eight query heads, each in the lanes of its key head. -/
def qHeads (Q : FVec F S128x512 .f32) : FVec F S8x128x128 .f32 :=
  k0_pay53 Q (k0_pay19 Q) (k0_pay23 Q) (k0_pay28 Q) (k0_pay32 Q) (k0_pay36 Q) (k0_pay41 Q) (k0_pay45 Q)

/-- The eight heads of the output's gradient, each in the lanes of its key head. -/
def dHeads (D : FVec F S128x512 .f32) : FVec F S8x128x128 .f32 :=
  k0_pay58 (k0_pay37 D) (k0_pay42 D) (k0_pay48 (k0_pay46 D) k0_pay47) (k0_pay51 D)
    (k0_pay54 (k0_pay20 D)) (k0_pay55 (k0_pay24 D)) (k0_pay56 (k0_pay29 D)) (k0_pay57 (k0_pay33 D))

/-- The rows' sums of output times gradient, by head. -/
def delta (D O : FVec F S128x512 .f32) : FVec F S8x128x1 .f32 :=
  k0_pay59 (k0_pay18 (k0_pay17 D O)) (k0_pay22 lanes (k0_pay16 D O)) (k0_pay27 lanes (k0_pay16 D O))
    (k0_pay31 lanes (k0_pay16 D O)) (k0_pay35 lanes (k0_pay16 D O))
    (k0_pay40 lanes (k0_pay16 D O) k0_pay39) (k0_pay44 lanes (k0_pay16 D O)) (k0_pay50 lanes (k0_pay16 D O))

/-- The rows' logarithms of the softmax's denominator, by head. -/
def lseHeads (l : FVec F S128x8 .f32) : FVec F S8x128x1 .f32 :=
  k0_pay60 (k0_pay21 (k0_pay15 l) (iota .tc S128x8 32 [1] iota_S128x8_d1_w32))
    (k0_pay26 (k0_pay15 l) (k0_pay25 (iota .tc S128x8 32 [1] iota_S128x8_d1_w32)) (Scalar.ofBits .f32 0x00000000#32))
    (k0_pay30 (k0_pay15 l) (iota .tc S128x8 32 [1] iota_S128x8_d1_w32))
    (k0_pay34 (k0_pay15 l) (iota .tc S128x8 32 [1] iota_S128x8_d1_w32))
    (k0_pay38 (k0_pay15 l) (iota .tc S128x8 32 [1] iota_S128x8_d1_w32))
    (k0_pay43 (k0_pay15 l) (iota .tc S128x8 32 [1] iota_S128x8_d1_w32))
    (k0_pay49 (k0_pay15 l) (iota .tc S128x8 32 [1] iota_S128x8_d1_w32))
    (k0_pay52 (k0_pay15 l) (iota .tc S128x8 32 [1] iota_S128x8_d1_w32))

/-- The gradient of the values, both blocks. -/
def dVals (n : BitVec 32) (Q D : FVec F S128x512 .f32) (l : FVec F S128x8 .f32) (K : FVec F S256x128 .f32) :
    FVec F S256x128 .f32 :=
  k0_pay71 (k0_pay14 n) (qHeads Q) (dHeads D) (lseHeads l) (k0_pay61 K)

/-- The gradient of the roped keys, both blocks. -/
def dKeys (n : BitVec 32) (Q D O : FVec F S128x512 .f32) (l : FVec F S128x8 .f32) (K V : FVec F S256x128 .f32) :
    FVec F S256x128 .f32 :=
  k0_pay73 (k0_pay14 n) (qHeads Q) (dHeads D) (delta D O) (lseHeads l) (k0_pay61 K) (k0_pay62 V)

/-- The gradient of the eight roped query heads. -/
def dqHeads (n : BitVec 32) (Q D O : FVec F S128x512 .f32) (l : FVec F S128x8 .f32) (K V : FVec F S256x128 .f32) :
    FVec F S8x128x128 .f32 :=
  k0_pay74 (k0_pay14 n) (qHeads Q) (dHeads D) (delta D O) (lseHeads l) (k0_pay61 K) (k0_pay62 V)

/-- The block's gradient of the sinks, by head. -/
def dsHeads (D O : FVec F S128x512 .f32) (l : FVec F S128x8 .f32) (s0 s1 s2 s3 s4 s5 s6 s7 : FVec F S1x1 .f32) :
    FVec F S8x1x1 .f32 :=
  k0_pay75 (delta D O) (lseHeads l) (k0_pay63 s0) (k0_pay64 s1) (k0_pay65 s2) (k0_pay66 s3) (k0_pay67 s4)
    (k0_pay68 s5) (k0_pay69 s6) s7

/-- The head numbers of a row of eight. -/
def heads : IVec S1x8 32 := iota .tc S1x8 32 [1] iota_S1x8_d1_w32

/-- A column of eight laid out as a row. -/
def asRow (d : FVec F S8x1x1 .f32) : FVec F S1x8 .f32 :=
  k0_pay86 heads d (k0_pay83 heads d (k0_pay77 heads d)) (k0_pay84 heads) (k0_pay85 d)

/-- The eight heads' gradient laid side by side, times the scale and a table. -/
def side (T : FVec F S128x512 .f32) (d : FVec F S8x128x128 .f32) : FVec F S128x512 .f32 :=
  k0_pay88 T lanes d (k0_pay76 lanes d)
    (k0_pay81 lanes (k0_pay78 d) (k0_pay79 d) k0_pay80 (Scalar.ofBits .f32 0x00000000#32)) (k0_pay82 lanes d)

/-- The gradient of the queries. -/
def dqOut (co si : FVec F S128x128 .f32) (d : FVec F S8x128x128 .f32) : FVec F S128x512 .bf16 :=
  k0_pay92 (side (k0_pay4 co) d) (side (k0_pay5 si) d)
    (Scalar.select (Scalar.cmpi .eq 64#32 0#32) 1#32 64#32) k0_pay90 k0_pay91 0#32

end Cert.KernelIdeal.Body
-- ==== Proof.KernelRope.lean ====
/- The kernel's roped queries and keys, its values, its mask and its stacked heads, at an index. -/
module

public import proofs.«01_k».proof.Proof.Spec
public import proofs.«01_k».proof.Proof.KernelTerms
public import Idealize.ShloMosaic.Lib.Pointwise
public import Idealize.ShloMosaic.Lib.Tactic.WordOmega

@[expose] public section

set_option maxRecDepth 16384

noncomputable section

namespace AttnBwd

open Idealize.ShloMosaic Cert.KernelIdeal Cert.KernelIdeal.Gen Cert.KernelIdeal.Body

/-- The row of the projection that row `r` of the block before block `n` is: block 0 stands before itself. -/
def prow (n r : ℕ) : ℕ := (n - 1) * 128 + r

/-- The sine with the sign its half takes. -/
def sgn (a : Data) (t c : ℕ) : ℝ := if c % 64 < 32 then -a.si t (c % 32) else a.si t (c % 32)

/-- The blocks that grid point `n` reads hold the numbers of `a`; `m` are the shifts of the saved logarithms. -/
structure Blk (a : Data) (m : ℕ → ℕ → ℕ → ℝ) (n : ℕ) (x0 : FVec Ideal S128x512 .f32)
    (x1 x2 x3 x4 x5 x6 x7 x8 : FVec Ideal S128x128 .f32) (x9 : FVec Ideal S8x128 .f32)
    (x10 : FVec Ideal S128x512 .f32) (x11 : FVec Ideal S128x8 .f32) (x12 : FVec Ideal S128x512 .f32) : Prop where
  q : ∀ (r : Fin 128) (c : Fin 512), x0 (ix2 r c) = ((a.X (n * 128 + r.val) c.val : ℝ) : EReal)
  kc : ∀ (r : Fin 128) (c : Fin 128), x1 (ix2 r c) = ((a.X (n * 128 + r.val) (2560 + c.val) : ℝ) : EReal)
  kp : ∀ (r : Fin 128) (c : Fin 128), x2 (ix2 r c) = ((a.X (prow n r.val) (2560 + c.val) : ℝ) : EReal)
  vc : ∀ (r : Fin 128) (c : Fin 128), x3 (ix2 r c) = ((a.X (n * 128 + r.val) (2688 + c.val) : ℝ) : EReal)
  vp : ∀ (r : Fin 128) (c : Fin 128), x4 (ix2 r c) = ((a.X (prow n r.val) (2688 + c.val) : ℝ) : EReal)
  co : ∀ (r : Fin 128) (c : Fin 128), x5 (ix2 r c) = ((a.co (n * 128 + r.val) (c.val % 32) : ℝ) : EReal)
  si : ∀ (r : Fin 128) (c : Fin 128), x6 (ix2 r c) = ((sgn a (n * 128 + r.val) c.val : ℝ) : EReal)
  cop : ∀ (r : Fin 128) (c : Fin 128), x7 (ix2 r c) = ((a.co (prow n r.val) (c.val % 32) : ℝ) : EReal)
  sip : ∀ (r : Fin 128) (c : Fin 128), x8 (ix2 r c) = ((sgn a (prow n r.val) c.val : ℝ) : EReal)
  snk : ∀ (h : Fin 8) (c : Fin 128), x9 (ix2 h c) = ((a.snk h.val : ℝ) : EReal)
  o : ∀ (r : Fin 128) (c : Fin 512), x10 (ix2 r c) = ((O a n (c.val / 64) r.val (c.val % 64) : ℝ) : EReal)
  l : ∀ (r : Fin 128) (h : Fin 8),
    x11 (ix2 r h) = ((m n h.val r.val + Real.log (Zm a (m n h.val r.val) n h.val r.val) : ℝ) : EReal)
  dm : ∀ (r : Fin 128) (c : Fin 512), x12 (ix2 r c) = ((a.D (n * 128 + r.val) c.val : ℝ) : EReal)

/-! ### The lane tests -/

theorem sel_ite {α : Type} (p : Prop) [Decidable p] (x y : α) :
    Scalar.select (if p then 1#1 else 0#1) x y = if p then x else y := by
  unfold Scalar.select
  by_cases h : p <;> simp [h]

theorem half512 : ∀ c : Fin 512,
    (IntOp.cmpi CmpIPredicate.slt
              (Scalar.select
                (IntOp.andi
                  (IntOp.xori
                    (IntOp.cmpi CmpIPredicate.slt
                      (IntOp.remsi ArithUnit.vector (BitVec.ofNat 32 ↑c)
                        (Scalar.select (Scalar.cmpi CmpIPredicate.eq 64#32 0#32) 1#32 64#32))
                      0#32)
                    (Scalar.cmpi CmpIPredicate.slt (Scalar.select (Scalar.cmpi CmpIPredicate.eq 64#32 0#32) 1#32 64#32)
                      0#32))
                  (IntOp.cmpi CmpIPredicate.ne
                    (IntOp.remsi ArithUnit.vector (BitVec.ofNat 32 ↑c)
                      (Scalar.select (Scalar.cmpi CmpIPredicate.eq 64#32 0#32) 1#32 64#32))
                    0#32))
                (IntOp.addi
                  (IntOp.remsi ArithUnit.vector (BitVec.ofNat 32 ↑c)
                    (Scalar.select (Scalar.cmpi CmpIPredicate.eq 64#32 0#32) 1#32 64#32))
                  (Scalar.select (Scalar.cmpi CmpIPredicate.eq 64#32 0#32) 1#32 64#32))
                (IntOp.remsi ArithUnit.vector (BitVec.ofNat 32 ↑c)
                  (Scalar.select (Scalar.cmpi CmpIPredicate.eq 64#32 0#32) 1#32 64#32)))
              32#32) = if c.val % 64 < 32 then 1#1 else 0#1 := by
  decide +kernel

theorem half128 (c : Fin 128) :
    (IntOp.cmpi CmpIPredicate.slt
              (Scalar.select
                (IntOp.andi
                  (IntOp.xori
                    (IntOp.cmpi CmpIPredicate.slt
                      (IntOp.remsi ArithUnit.vector (BitVec.ofNat 32 ↑c)
                        (Scalar.select (Scalar.cmpi CmpIPredicate.eq 64#32 0#32) 1#32 64#32))
                      0#32)
                    (Scalar.cmpi CmpIPredicate.slt (Scalar.select (Scalar.cmpi CmpIPredicate.eq 64#32 0#32) 1#32 64#32)
                      0#32))
                  (IntOp.cmpi CmpIPredicate.ne
                    (IntOp.remsi ArithUnit.vector (BitVec.ofNat 32 ↑c)
                      (Scalar.select (Scalar.cmpi CmpIPredicate.eq 64#32 0#32) 1#32 64#32))
                    0#32))
                (IntOp.addi
                  (IntOp.remsi ArithUnit.vector (BitVec.ofNat 32 ↑c)
                    (Scalar.select (Scalar.cmpi CmpIPredicate.eq 64#32 0#32) 1#32 64#32))
                  (Scalar.select (Scalar.cmpi CmpIPredicate.eq 64#32 0#32) 1#32 64#32))
                (IntOp.remsi ArithUnit.vector (BitVec.ofNat 32 ↑c)
                  (Scalar.select (Scalar.cmpi CmpIPredicate.eq 64#32 0#32) 1#32 64#32)))
              32#32) = if c.val % 64 < 32 then 1#1 else 0#1 :=
  half512 ⟨c.val, by omega⟩

theorem lt64 : ∀ c : Fin 128,
    IntOp.cmpi CmpIPredicate.slt (BitVec.ofNat 32 ↑c) 64#32 = if c.val < 64 then 1#1 else 0#1 := by decide +kernel

theorem ge64 : ∀ c : Fin 128,
    IntOp.cmpi CmpIPredicate.sge (BitVec.ofNat 32 ↑c) 64#32 = if 64 ≤ c.val then 1#1 else 0#1 := by decide +kernel

/-- One eighth. -/
theorem lit8 : Ideal.ofBits FTy.f32 1040187392#32 = ((1 / 8 : ℝ) : EReal) := by
  simp [Ideal.ofBits, Ideal.ieee, -EReal.coe_mul]; norm_num

variable {a : Data} {m : ℕ → ℕ → ℕ → ℝ} {n : ℕ} {x0 : FVec Ideal S128x512 .f32}
    {x1 x2 x3 x4 x5 x6 x7 x8 : FVec Ideal S128x128 .f32} {x9 : FVec Ideal S8x128 .f32}
    {x10 : FVec Ideal S128x512 .f32} {x11 : FVec Ideal S128x8 .f32} {x12 : FVec Ideal S128x512 .f32}

theorem sgn_mod (t : ℕ) {c d : ℕ} (h : c % 64 = d % 64) : sgn a t c = sgn a t d := by
  unfold sgn; rw [h, show c % 32 = d % 32 by omega]

/-! ### The tables laid out four times -/

theorem cos4_at (B : Blk a m n x0 x1 x2 x3 x4 x5 x6 x7 x8 x9 x10 x11 x12) (r : Fin 128) (c : Fin 512) :
    k0_pay4 (F := Ideal) x5 (ix2 r c) = ((a.co (n * 128 + r.val) (c.val % 32) : ℝ) : EReal) := by
  pointwise [k0_pay4]
  have hc := c.isLt
  by_cases h1 : c.val < 128
  · simp only [h1, dite_true, B.co]
  by_cases h2 : c.val - 128 < 128
  · simp only [h1, h2, dite_true, dite_false, B.co]
    rw [show (c.val - 128) % 32 = c.val % 32 by omega]
  by_cases h3 : c.val - 128 - 128 < 128
  · simp only [h1, h2, h3, dite_true, dite_false, B.co]
    rw [show (c.val - 128 - 128) % 32 = c.val % 32 by omega]
  · simp only [h1, h2, h3, dite_false, B.co]
    rw [show (c.val - 128 - 128 - 128) % 32 = c.val % 32 by omega]

theorem sin4_at (B : Blk a m n x0 x1 x2 x3 x4 x5 x6 x7 x8 x9 x10 x11 x12) (r : Fin 128) (c : Fin 512) :
    k0_pay5 (F := Ideal) x6 (ix2 r c) = ((sgn a (n * 128 + r.val) c.val : ℝ) : EReal) := by
  pointwise [k0_pay5, k0_pay2]
  have hc := c.isLt
  by_cases h1 : c.val < 128
  · simp only [h1, dite_true, B.si]
  by_cases h2 : c.val - 128 < 128
  · simp only [h1, h2, dite_true, dite_false, B.si]
    rw [sgn_mod (a := a) (n * 128 + r.val) (show (c.val - 128) % 64 = c.val % 64 by omega)]
  by_cases h3 : c.val - 128 - 128 < 128
  · simp only [h1, h2, h3, dite_true, dite_false, B.si]
    rw [sgn_mod (a := a) (n * 128 + r.val) (show (c.val - 128 - 128) % 64 = c.val % 64 by omega)]
  · simp only [h1, h2, h3, dite_false, B.si]
    rw [sgn_mod (a := a) (n * 128 + r.val) (show (c.val - 128 - 128 - 128) % 64 = c.val % 64 by omega)]

/-- One number roped with the signed sine. -/
theorem rot_lane (f : ℕ → ℝ) (t c : ℕ) :
    f c * a.co t (c % 32) + (if c % 64 < 32 then f (c + 32) else f (c - 32)) * sgn a t c
      = rot a (fun e => f (c / 64 * 64 + e)) t (c % 64) := by
  unfold rot sgn
  have h1 : c / 64 * 64 + c % 64 = c := by omega
  by_cases h : c % 64 < 32
  · simp only [h, if_true]
    rw [← add_assoc, h1, show c % 32 = c % 64 by omega]
    ring
  · simp only [h, if_false]
    rw [h1, show c / 64 * 64 + (c % 64 - 32) = c - 32 by omega, show c % 32 = c % 64 - 32 by omega]

theorem qRope_at (B : Blk a m n x0 x1 x2 x3 x4 x5 x6 x7 x8 x9 x10 x11 x12) (r : Fin 128) (c : Fin 512) :
    qRope x0 x5 x6 (ix2 r c) = ((Q a (n * 128 + r.val) (c.val / 64) (c.val % 64) / 8 : ℝ) : EReal) := by
  pointwise [qRope, k0_pay6]
  rw [half512, sel_ite, cos4_at B, sin4_at B, lit8]
  simp only [B.q]
  unfold Q
  rw [← rot_lane (fun e => a.X (n * 128 + r.val) e)]
  have hc := c.isLt
  by_cases h : c.val % 64 < 32
  · simp only [h, if_true, ← EReal.coe_mul, ← EReal.coe_add]
    rw [show (c.val + 512 - 480) % 512 = c.val + 32 by omega, mul_one_div]
  · simp only [h, if_false, ← EReal.coe_mul, ← EReal.coe_add]
    rw [show (c.val + 512 - 32) % 512 = c.val - 32 by omega, mul_one_div]

/-- The keys and values of the two blocks that the body reads. -/
def KK (a : Data) (n k g d : ℕ) : ℝ := if k < 128 then K a (prow n k) g d else K a (n * 128 + (k - 128)) g d
def VV (a : Data) (n k g d : ℕ) : ℝ := if k < 128 then V a (prow n k) g d else V a (n * 128 + (k - 128)) g d

theorem KK_eq {k : ℕ} (h : 128 ≤ n * 128 + k) (g d : ℕ) : KK a n k g d = KB a n k g d := by
  unfold KK KB prow
  rw [if_neg (show ¬ n * 128 + k < 128 by omega)]
  split
  · rw [show (n - 1) * 128 + k = n * 128 + k - 128 by omega]
  · rw [show n * 128 + (k - 128) = n * 128 + k - 128 by omega]

theorem VV_eq {k : ℕ} (h : 128 ≤ n * 128 + k) (g d : ℕ) : VV a n k g d = VB a n k g d := by
  unfold VV VB prow
  rw [if_neg (show ¬ n * 128 + k < 128 by omega)]
  split
  · rw [show (n - 1) * 128 + k = n * 128 + k - 128 by omega]
  · rw [show n * 128 + (k - 128) = n * 128 + k - 128 by omega]

theorem keys_at (B : Blk a m n x0 x1 x2 x3 x4 x5 x6 x7 x8 x9 x10 x11 x12) (k : Fin 256) (c : Fin 128) :
    keys x1 x2 x5 x6 x7 x8 (ix2 k c) = ((KK a n k.val (c.val / 64) (c.val % 64) : ℝ) : EReal) := by
  pointwise [keys, k0_pay12, k0_pay11, k0_pay10, k0_pay9, k0_pay8, k0_pay7, k0_pay3, k0_pay2]
  have hc := c.isLt
  unfold KK K
  by_cases hk : k.val < 128
  · simp only [hk, dite_true, if_true, half128, sel_ite, B.kp, B.cop, B.sip]
    rw [← rot_lane (fun e => a.X (prow n k.val) (2560 + e))]
    by_cases h : c.val % 64 < 32
    · simp only [h, if_true, ← EReal.coe_mul, ← EReal.coe_add]
      rw [show (c.val + 128 - 96) % 128 = c.val + 32 by omega]
    · simp only [h, if_false, ← EReal.coe_mul, ← EReal.coe_add]
      rw [show (c.val + 128 - 32) % 128 = c.val - 32 by omega]
  · simp only [hk, dite_false, if_false, half128, sel_ite, B.kc, B.co, B.si]
    rw [← rot_lane (fun e => a.X (n * 128 + (k.val - 128)) (2560 + e))]
    by_cases h : c.val % 64 < 32
    · simp only [h, if_true, ← EReal.coe_mul, ← EReal.coe_add]
      rw [show (c.val + 128 - 96) % 128 = c.val + 32 by omega]
    · simp only [h, if_false, ← EReal.coe_mul, ← EReal.coe_add]
      rw [show (c.val + 128 - 32) % 128 = c.val - 32 by omega]

theorem vals_at (B : Blk a m n x0 x1 x2 x3 x4 x5 x6 x7 x8 x9 x10 x11 x12) (k : Fin 256) (c : Fin 128) :
    vals x3 x4 (ix2 k c) = ((VV a n k.val (c.val / 64) (c.val % 64) : ℝ) : EReal) := by
  pointwise [vals, k0_pay13]
  unfold VV V
  rw [show c.val / 64 * 64 + c.val % 64 = c.val by omega]
  by_cases hk : k.val < 128
  · simp only [hk, dite_true, if_true, B.vp]
  · simp only [hk, dite_false, if_false, B.vc]

theorem mask_at (hn : n < 32) (q : Fin 128) (k : Fin 256) :
    k0_pay14 (BitVec.ofNat 32 n) (ix3 0 q k) = if msk n q.val k.val then 1#1 else 0#1 := by
  pointwise [k0_pay14]
  have hq := q.isLt
  have hk := k.isLt
  have e1 : IntOp.cmpi CmpIPredicate.sgt (BitVec.ofNat 32 k.val) (BitVec.ofNat 32 q.val)
      = if q.val < k.val then 1#1 else 0#1 := by
    rw [WordCmp.cmpi_sgt_ofNat (by omega) (by omega)]
    by_cases h : q.val < k.val <;> simp [h]
  have e2 : IntOp.cmpi CmpIPredicate.sle (BitVec.ofNat 32 k.val) (IntOp.addi (BitVec.ofNat 32 q.val) 128#32)
      = if k.val ≤ q.val + 128 then 1#1 else 0#1 := by
    rw [show IntOp.addi (BitVec.ofNat 32 q.val) 128#32 = BitVec.ofNat 32 (q.val + 128) from (BitVec.ofNat_add ..).symm,
      WordCmp.cmpi_sle_ofNat (by omega) (by omega)]
    by_cases h : k.val ≤ q.val + 128 <;> simp [h]
  have e3 : Scalar.cmpi CmpIPredicate.sgt (BitVec.ofNat 32 n) 0#32 = if 0 < n then 1#1 else 0#1 := by
    refine (WordCmp.cmpi_sgt_ofNat (w := 32) (a := n) (b := 0) (by omega) (by omega)).trans ?_
    by_cases h : 0 < n <;> simp [h]
  have e4 : IntOp.cmpi CmpIPredicate.sge (BitVec.ofNat 32 k.val) 128#32 = if 128 ≤ k.val then 1#1 else 0#1 := by
    refine (WordCmp.cmpi_sge_ofNat (w := 32) (a := k.val) (b := 128) (by omega) (by omega)).trans ?_
    by_cases h : 128 ≤ k.val <;> simp [h]
  rw [e1, e2, e3, e4]
  have e5 : msk n q.val k.val ↔ (q.val < k.val ∧ k.val ≤ q.val + 128) ∧ (0 < n ∨ 128 ≤ k.val) := by
    unfold msk; omega
  simp only [e5]
  by_cases h1 : q.val < k.val <;> by_cases h2 : k.val ≤ q.val + 128 <;> by_cases h3 : 0 < n <;>
    by_cases h4 : 128 ≤ k.val <;> simp [h1, h2, h3, h4] <;> decide

/-- Two tests that agree read the same number. -/
theorem ite_lane {N : ℕ} {p p' : Prop} [Decidable p] [Decidable p'] (f : Fin N → EReal) {i j : Fin N} (hp : p ↔ p')
    (h : p → i.val = j.val) : (if p then f i else 0) = if p' then f j else 0 := by
  by_cases h' : p
  · rw [if_pos h', if_pos (hp.mp h'), Fin.ext (h h')]
  · rw [if_neg h', if_neg fun h'' => h' (hp.mpr h'')]

/-- The lanes of the key head that query head `h` reads hold the head's 64 numbers. -/
theorem qHeads_at (x : FVec Ideal S128x512 .f32) (h : Fin 8) (q : Fin 128) (c : Fin 128) :
    qHeads x (ix3 h q c)
      = if c.val / 64 = h.val / 4 then x (ix2 q ⟨h.val * 64 + c.val % 64, by omega⟩) else 0 := by
  have hc := c.isLt
  pointwise [qHeads, k0_pay53, k0_pay19, k0_pay23, k0_pay28, k0_pay32, k0_pay36, k0_pay41, k0_pay45]
  rw [lt64, ge64]
  simp only [sel_ite]
  obtain ⟨h, hh⟩ := h
  interval_cases h
  all_goals simp (config := {decide := true}) only [dite_true, dite_false]
  all_goals exact ite_lane (fun l : Fin 512 => x (ix2 q l)) (by omega) (fun hp => by dsimp only; omega)

theorem dHeads_at (x : FVec Ideal S128x512 .f32) (h : Fin 8) (q : Fin 128) (c : Fin 128) :
    dHeads x (ix3 h q c)
      = if c.val / 64 = h.val / 4 then x (ix2 q ⟨h.val * 64 + c.val % 64, by omega⟩) else 0 := by
  have hc := c.isLt
  pointwise [dHeads, k0_pay58, k0_pay20, k0_pay24, k0_pay29, k0_pay33, k0_pay37, k0_pay42, k0_pay46, k0_pay47, k0_pay48,
    k0_pay51, k0_pay54, k0_pay55, k0_pay56, k0_pay57]
  rw [lt64, ge64]
  simp only [sel_ite]
  obtain ⟨h, hh⟩ := h
  interval_cases h
  all_goals simp (config := {decide := true}) only [dite_true, dite_false]
  all_goals exact ite_lane (fun l : Fin 512 => x (ix2 q l)) (by omega) (fun hp => by dsimp only; omega)

theorem eq8 : ∀ i j : Fin 8,
    IntOp.cmpi CmpIPredicate.eq (BitVec.ofNat 32 i.val) (BitVec.ofNat 32 j.val) = if i = j then 1#1 else 0#1 := by
  decide +kernel

theorem sum_eq8 (f : Fin 8 → EReal) (j : Fin 8) :
    ∑ i : Fin 8, Scalar.select (IntOp.cmpi CmpIPredicate.eq (BitVec.ofNat 32 i.val) (BitVec.ofNat 32 j.val)) (f i) 0
      = f j := by
  simp only [eq8, sel_ite, Finset.sum_ite_eq', Finset.mem_univ, if_true]

theorem lse_at (x : FVec Ideal S128x8 .f32) (h : Fin 8) (q : Fin 128) :
    lseHeads x (ix3 h q 0) = x (ix2 q h) := by
  pointwise [lseHeads, k0_pay60, k0_pay21, k0_pay26, k0_pay25, k0_pay30, k0_pay34, k0_pay38, k0_pay43, k0_pay49,
    k0_pay52, k0_pay15]
  obtain ⟨h, hh⟩ := h
  interval_cases h
  all_goals simp (config := {decide := true}) only [dite_true, dite_false]
  · exact sum_eq8 (fun i => x (ix2 q i)) 0
  · exact sum_eq8 (fun i => x (ix2 q i)) 1
  · exact sum_eq8 (fun i => x (ix2 q i)) 2
  · exact sum_eq8 (fun i => x (ix2 q i)) 3
  · exact sum_eq8 (fun i => x (ix2 q i)) 4
  · exact sum_eq8 (fun i => x (ix2 q i)) 5
  · exact sum_eq8 (fun i => x (ix2 q i)) 6
  · exact sum_eq8 (fun i => x (ix2 q i)) 7

/-- A sum over the 128 lanes of numbers that are zero outside half `b`. -/
theorem sum_half {M : Type*} [AddCommMonoid M] (f : Fin 128 → M) {b : ℕ} (hb : b < 2) :
    ∑ c : Fin 128, (if c.val / 64 = b then f c else 0) = ∑ d : Fin 64, f ⟨b * 64 + d.val, by omega⟩ := by
  refine (Fin.sum_univ_add (a := 64) (b := 64) (fun c : Fin 128 => if c.val / 64 = b then f c else 0)).trans ?_
  have hd : ∀ d : Fin 64, d.val / 64 = 0 ∧ (64 + d.val) / 64 = 1 := fun d => by omega
  rcases (show b = 0 ∨ b = 1 by omega) with rfl | rfl
  · refine (congrArg₂ (· + ·) (Finset.sum_congr rfl fun d _ => ?_) (Finset.sum_eq_zero fun d _ => ?_)).trans (add_zero _)
    · exact (if_pos (hd d).1).trans (congrArg f (Fin.ext (by show d.val = 0 * 64 + d.val; omega)))
    · exact if_neg (by have := (hd d).2; show ¬ (64 + d.val) / 64 = 0; omega)
  · refine (congrArg₂ (· + ·) (Finset.sum_eq_zero fun d _ => ?_) (Finset.sum_congr rfl fun d _ => ?_)).trans (zero_add _)
    · exact if_neg (by have := (hd d).1; show ¬ d.val / 64 = 1; omega)
    · exact (if_pos (hd d).2).trans (congrArg f (Fin.ext (by show 64 + d.val = 1 * 64 + d.val; omega)))

theorem sum_lt64 (f : Fin 128 → EReal) :
    ∑ c : Fin 128, Scalar.select (IntOp.cmpi CmpIPredicate.slt (BitVec.ofNat 32 c.val) 64#32) (f c) 0
      = ∑ d : Fin 64, f ⟨0 * 64 + d.val, by omega⟩ := by
  rw [← sum_half f (b := 0) (by omega)]
  refine Finset.sum_congr rfl fun c _ => ?_
  rw [lt64, sel_ite]
  exact if_congr (by have := c.isLt; omega) rfl rfl

theorem sum_ge64 (f : Fin 128 → EReal) :
    ∑ c : Fin 128, Scalar.select (IntOp.cmpi CmpIPredicate.sge (BitVec.ofNat 32 c.val) 64#32) (f c) 0
      = ∑ d : Fin 64, f ⟨1 * 64 + d.val, by omega⟩ := by
  rw [← sum_half f (b := 1) (by omega)]
  refine Finset.sum_congr rfl fun c _ => ?_
  rw [ge64, sel_ite]
  exact if_congr (by have := c.isLt; omega) rfl rfl

theorem delta_sum (x y : FVec Ideal S128x512 .f32) (h : Fin 8) (q : Fin 128) :
    delta x y (ix3 h q 0)
      = ∑ d : Fin 64, x (ix2 q ⟨h.val * 64 + d.val, by omega⟩) * y (ix2 q ⟨h.val * 64 + d.val, by omega⟩) := by
  pointwise [delta, lanes, k0_pay59, k0_pay18, k0_pay17, k0_pay22, k0_pay27, k0_pay31, k0_pay35, k0_pay40, k0_pay39,
    k0_pay44, k0_pay50, k0_pay16]
  have e : ∀ (i j : ℕ) (hi : i < 512) (hj : j < 512), i = j →
      x (ix2 q ⟨i, hi⟩) * y (ix2 q ⟨i, hi⟩) = x (ix2 q ⟨j, hj⟩) * y (ix2 q ⟨j, hj⟩) := by
    intro i j hi hj h; subst h; rfl
  obtain ⟨h, hh⟩ := h
  interval_cases h
  all_goals simp (config := {decide := true}) only [dite_true, dite_false]
  · exact (sum_lt64 fun c => x (ix2 q ⟨c.val, by omega⟩) * y (ix2 q ⟨c.val, by omega⟩)).trans
      (Finset.sum_congr rfl fun d _ => e _ _ _ _ (by dsimp only))
  · exact (sum_ge64 fun c => x (ix2 q ⟨c.val, by omega⟩) * y (ix2 q ⟨c.val, by omega⟩)).trans
      (Finset.sum_congr rfl fun d _ => e _ _ _ _ (by dsimp only))
  · exact (sum_lt64 fun c => x (ix2 q ⟨128 + c.val, by omega⟩) * y (ix2 q ⟨128 + c.val, by omega⟩)).trans
      (Finset.sum_congr rfl fun d _ => e _ _ _ _ (by dsimp only; omega))
  · exact (sum_ge64 fun c => x (ix2 q ⟨128 + c.val, by omega⟩) * y (ix2 q ⟨128 + c.val, by omega⟩)).trans
      (Finset.sum_congr rfl fun d _ => e _ _ _ _ (by dsimp only; omega))
  · exact (sum_lt64 fun c => x (ix2 q ⟨256 + c.val, by omega⟩) * y (ix2 q ⟨256 + c.val, by omega⟩)).trans
      (Finset.sum_congr rfl fun d _ => e _ _ _ _ (by dsimp only; omega))
  · exact (sum_ge64 fun c => x (ix2 q ⟨256 + c.val, by omega⟩) * y (ix2 q ⟨256 + c.val, by omega⟩)).trans
      (Finset.sum_congr rfl fun d _ => e _ _ _ _ (by dsimp only; omega))
  · exact (sum_lt64 fun c => x (ix2 q ⟨384 + c.val, by omega⟩) * y (ix2 q ⟨384 + c.val, by omega⟩)).trans
      (Finset.sum_congr rfl fun d _ => e _ _ _ _ (by dsimp only; omega))
  · exact (sum_ge64 fun c => x (ix2 q ⟨384 + c.val, by omega⟩) * y (ix2 q ⟨384 + c.val, by omega⟩)).trans
      (Finset.sum_congr rfl fun d _ => e _ _ _ _ (by dsimp only; omega))

/-- The row term of the softmax, which the body takes as the rows' sums of output times gradient. -/
theorem delta_at (B : Blk a m n x0 x1 x2 x3 x4 x5 x6 x7 x8 x9 x10 x11 x12) (h : Fin 8) (q : Fin 128) :
    delta x12 x10 (ix3 h q 0) = ((dl a n h.val q.val : ℝ) : EReal) := by
  rw [delta_sum, dl_eq, coe_sum]
  refine Finset.sum_congr rfl fun d _ => ?_
  rw [B.dm, B.o, ← EReal.coe_mul]
  dsimp only
  rw [show (h.val * 64 + d.val) / 64 = h.val by omega, show (h.val * 64 + d.val) % 64 = d.val by omega]

end AttnBwd
-- ==== Proof.HostAt.lean ====
/- What the kernel's program lays out before the launch, at an index: the logarithm of each row's sum of exponentials, the
   attention's output, and the cosines, sines and sinks as tables. -/
module

public import proofs.«01_k».proof.Proof.HostTerms
public import proofs.«01_k».proof.Proof.RefSoftmax
public import proofs.«01_k».proof.Proof.KernelRope

@[expose] public section

set_option maxRecDepth 16384

noncomputable section

namespace AttnBwd

open Idealize.ShloMosaic Cert.KernelIdeal Cert.KernelIdeal.Gen Cert.KernelIdeal.Before

/-- The argument arrays of the kernel's program hold the numbers of `a`. -/
structure HoldsK (a : Data) (x0 : (⟨S4096x3072, .f32⟩ : BufTy).Contents (Elt Ideal))
    (x1 x2 : (⟨S4096x32, .f32⟩ : BufTy).Contents (Elt Ideal)) (x3 : (⟨S8, .f32⟩ : BufTy).Contents (Elt Ideal))
    (x4 : (⟨S4096x1024, .f32⟩ : BufTy).Contents (Elt Ideal)) : Prop where
  X : ∀ (t : Fin 4096) (c : Fin 3072), x0 (ix2 t c) = ((a.X t.val c.val : ℝ) : EReal)
  co : ∀ (t : Fin 4096) (c : Fin 32), x1 (ix2 t c) = ((a.co t.val c.val : ℝ) : EReal)
  si : ∀ (t : Fin 4096) (c : Fin 32), x2 (ix2 t c) = ((a.si t.val c.val : ℝ) : EReal)
  snk : ∀ (h : Fin 8), x3 (ix1 h) = ((a.snk h.val : ℝ) : EReal)
  D : ∀ (t : Fin 4096) (c : Fin 1024), x4 (ix2 t c) = ((a.D t.val c.val : ℝ) : EReal)

variable {a : Data} {x0 : (⟨S4096x3072, .f32⟩ : BufTy).Contents (Elt Ideal)}
    {x1 x2 : (⟨S4096x32, .f32⟩ : BufTy).Contents (Elt Ideal)} {x3 : (⟨S8, .f32⟩ : BufTy).Contents (Elt Ideal)}
    {x4 : (⟨S4096x1024, .f32⟩ : BufTy).Contents (Elt Ideal)}

/-! ### The tables -/

theorem h86_at (H : HoldsK a x0 x1 x2 x3 x4) (t : Fin 4096) (c : Fin 128) :
    h_v86 (F := Ideal) x1 (ix2 t c) = ((a.co t.val (c.val % 32) : ℝ) : EReal) := by
  pointwise [h_v86, h_v85, h_v84]
  exact H.co _ _

theorem h91_at (H : HoldsK a x0 x1 x2 x3 x4) (t : Fin 4096) (c : Fin 128) :
    h_v91 (F := Ideal) x2 (ix2 t c) = ((sgn a t.val c.val : ℝ) : EReal) := by
  pointwise [h_v91, h_v90, h_v89, h_v88, h_v87]
  unfold sgn
  simp only [H.si]
  by_cases h : c.val % 64 < 32
  · simp only [h, dite_true, if_true]
    rw [show c.val % 64 = c.val % 32 by omega, EReal.coe_neg]
  · simp only [h, dite_false, if_false]
    rw [show c.val % 64 - 32 = c.val % 32 by omega]

theorem h93_at (H : HoldsK a x0 x1 x2 x3 x4) (h : Fin 8) (c : Fin 128) :
    h_v93 (F := Ideal) x3 (ix2 h c) = ((a.snk h.val : ℝ) : EReal) := by
  pointwise [h_v93, h_v92]
  exact H.snk h

/-! ### The rotated queries and keys -/

/-- The column of the projection that head `h` of the stacked queries and keys reads. -/
def qkcolK (h d : ℕ) : ℕ := if h * 64 + d < 512 then h * 64 + d else 2560 + (h * 64 + d - 512)

theorem h4_at (H : HoldsK a x0 x1 x2 x3 x4) (t : Fin 4096) (h : Fin 10) (d : Fin 64) :
    h_v4 (F := Ideal) x0 (ix4 0 t h d) = ((a.X t.val (qkcolK h.val d.val) : ℝ) : EReal) := by
  pointwise [h_v4, h_v3, h_v0, h_v1]
  unfold qkcolK
  split
  · exact H.X _ _
  · exact H.X _ _

theorem h19_at (H : HoldsK a x0 x1 x2 x3 x4) (t : Fin 4096) (h : Fin 10) (d : Fin 64) :
    h_v19 (F := Ideal) x0 x1 x2 (ix4 0 t h d)
      = ((rot a (fun e => a.X t.val (qkcolK h.val e)) t.val d.val : ℝ) : EReal) := by
  pointwise [h_v19, h_v18, h_v17, h_v16, h_v15, h_v14, h_v13, h_v12, h_v11, h_v10, h_v9, h_v8, h_v7, h_v6, h_v5]
  unfold rot
  simp only [h4_at H, H.co, H.si, ← EReal.coe_mul, ← EReal.coe_add, ← EReal.coe_sub]
  by_cases hd : d.val < 32
  · simp only [hd, dite_true, if_true, Nat.add_comm 32]
  · have : 32 + (d.val - 32) = d.val := by omega
    simp only [hd, dite_false, if_false, this]

theorem h19_q (H : HoldsK a x0 x1 x2 x3 x4) (t : Fin 4096) (h : ℕ) (hh : h < 8) (d : Fin 64) :
    h_v19 (F := Ideal) x0 x1 x2 (ix4 0 t ⟨h, by omega⟩ d) = ((Q a t.val h d.val : ℝ) : EReal) := by
  rw [h19_at H]
  refine congrArg _ (rot_congr _ _ d.isLt fun e he => ?_)
  unfold qkcolK
  rw [if_pos (by show h * 64 + e < 512; omega)]

theorem h19_k (H : HoldsK a x0 x1 x2 x3 x4) (t : Fin 4096) (g : ℕ) (hg : g < 2) (d : Fin 64) :
    h_v19 (F := Ideal) x0 x1 x2 (ix4 0 t ⟨8 + g, by omega⟩ d) = ((K a t.val g d.val : ℝ) : EReal) := by
  rw [h19_at H]
  refine congrArg _ (rot_congr _ _ d.isLt fun e he => congrArg _ ?_)
  unfold qkcolK
  dsimp only
  rw [if_neg (by omega)]
  omega

theorem h28_at (H : HoldsK a x0 x1 x2 x3 x4) (n : Fin 32) (k : Fin 256) (g : Fin 2) (d : Fin 64) :
    h_v28 (F := Ideal) x0 x1 x2 (ix5 0 n k g d) = ((KB a n.val k.val g.val d.val : ℝ) : EReal) := by
  pointwise [h_v28, h_v27, h_v26, h_v25, h_v24, h_v23, h_v21, h_cst]
  unfold KB
  split
  · split
    · simp
    · exact h19_k H _ _ g.isLt d
  · refine (h19_k H _ _ g.isLt d).trans ?_
    dsimp only
    rw [if_neg (by omega), show n.val * 128 + k.val - 128 = n.val * 128 + (k.val - 128) by omega]

theorem h76_at (H : HoldsK a x0 x1 x2 x3 x4) (n : Fin 32) (k : Fin 256) (g : Fin 2) (d : Fin 64) :
    h_v76 (F := Ideal) x0 (ix5 0 n k g d) = ((VB a n.val k.val g.val d.val : ℝ) : EReal) := by
  pointwise [h_v76, h_v75, h_v74, h_v73, h_v72, h_v71, h_v22, h_v2, h_cst_9]
  unfold VB V
  split
  · split
    · simp
    · exact H.X _ _
  · refine (H.X _ _).trans ?_
    dsimp only
    rw [if_neg (by omega), show n.val * 128 + k.val - 128 = n.val * 128 + (k.val - 128) by omega]

theorem h29_at (H : HoldsK a x0 x1 x2 x3 x4) (n : Fin 32) (q : Fin 128) (g : Fin 2) (r : Fin 4) (d : Fin 64) :
    h_v29 (F := Ideal) x0 x1 x2 (ix6 0 n q g r d)
      = ((Q a (n.val * 128 + q.val) (g.val * 4 + r.val) d.val : ℝ) : EReal) := by
  pointwise [h_v29, h_v20]
  exact h19_q H _ _ (by omega) d

/-! ### The scores and their logarithm of the sum of exponentials -/

theorem h33_at (H : HoldsK a x0 x1 x2 x3 x4) (n : Fin 32) (g : Fin 2) (r : Fin 4) (q : Fin 128) (k : Fin 256) :
    h_v33 (F := Ideal) x0 x1 x2 (ix6 0 n g r q k) = ((S a n.val (g.val * 4 + r.val) q.val k.val : ℝ) : EReal) := by
  pointwise [h_v33, h_v32, h_v31, h_v30, h_cst_0]
  simp only [h28_at H, h29_at H]
  rw [lit8]
  unfold S
  rw [show (g.val * 4 + r.val) / 4 = g.val by omega]
  simp only [← EReal.coe_mul, ← coe_sum]
  rw [EReal.coe_eq_coe_iff, mul_one_div]
  exact congrArg (· / (8 : ℝ)) (Finset.sum_congr rfl fun d _ => mul_comm _ _)

theorem h52_at (n : Fin 32) (q : Fin 128) (k : Fin 256) :
    h_v52 (F := Ideal) (ix3 n q k) = if msk n.val q.val k.val then 1#1 else 0#1 := by
  pointwise [h_v52, h_v51, h_v50, h_v49, h_v48, h_v47, h_v46, h_v45, h_v44, h_v43, h_v42, h_v41, h_v40, h_v39, h_v38, h_v37, h_v36, h_v35, h_v34, h_c, h_c_1, h_c_2, h_c_3, h_c_4, h_c_5]
  unfold IntOp.subi IntOp.muli
  by_cases hm : msk n.val q.val k.val
  · rw [if_pos hm]; unfold msk at hm; word_omega
  · rw [if_neg hm]
    refine and3_zero _ _ _ fun ⟨h1, h2, h3⟩ => hm ?_
    unfold msk
    word_omega

/-- The masked scores, with the sink's as the last column. -/
theorem h57_at (H : HoldsK a x0 x1 x2 x3 x4) (n : Fin 32) (g : Fin 2) (r : Fin 4) (q : Fin 128) (k : Fin 257) :
    h_v57 (F := Ideal) x0 x1 x2 x3 (ix6 0 n g r q k)
      = if k.val < 256 then
          (if msk n.val q.val k.val then ((S a n.val (g.val * 4 + r.val) q.val k.val : ℝ) : EReal) else ⊥)
        else ((a.snk (g.val * 4 + r.val) : ℝ) : EReal) := by
  pointwise [h_v57, h_v56, h_v55, h_v54, h_v53, h_call0_v0, h_call0_v1, h_call0_v2, h_cst_6]
  have hb : (id (constant (F := Ideal) S_ FTy.f32 4286578688#32) ix0 : EReal) = ⊥ := by
    show Ideal.ofBits FTy.f32 4286578688#32 = ⊥
    simp [Ideal.ofBits, Ideal.ieee]
  by_cases hk : k.val < 256
  · simp only [hk, dite_true, if_true]
    rw [h52_at, h33_at H]
    by_cases hm : msk n.val q.val k.val
    · simp only [hm, if_true]; rfl
    · simp only [hm, if_false]; exact hb
  · simp only [hk, dite_false, if_false]
    exact H.snk _

/-- The row maximum is a real number. -/
theorem h58_real (H : HoldsK a x0 x1 x2 x3 x4) (n : Fin 32) (g : Fin 2) (r : Fin 4) (q : Fin 128) :
    ∃ m : ℝ, h_v58 (F := Ideal) x0 x1 x2 x3 (ix5 0 n g r q) = (m : EReal) := by
  have e : h_v58 (F := Ideal) x0 x1 x2 x3 (ix5 0 n g r q)
      = (Finset.univ.filter fun i => reducesTo_S1x32x2x4x128x257_S1x32x2x4x128_d5.drop i = ix5 0 n g r q).fold max
          (Ideal.ofBits FTy.f32 4286578688#32) (h_v57 (F := Ideal) x0 x1 x2 x3) :=
    Host.reduce_eq_fold (α := EReal) max _ _ _ _ _
  have hb : Ideal.ofBits FTy.f32 4286578688#32 = ⊥ := by simp [Ideal.ofBits, Ideal.ieee]
  rw [e, hb]
  have ht : (Finset.univ.filter fun i => reducesTo_S1x32x2x4x128x257_S1x32x2x4x128_d5.drop i = ix5 0 n g r q).fold max
      (⊥ : EReal) (h_v57 (F := Ideal) x0 x1 x2 x3) < ⊤ := by
    rw [Finset.fold_max_lt]
    refine ⟨bot_lt_top, fun i _ => ?_⟩
    obtain ⟨n', g', r', q', k', hi⟩ : ∃ (n' : Fin 32) (g' : Fin 2) (r' : Fin 4) (q' : Fin 128) (k' : Fin 257),
        i = ix6 0 n' g' r' q' k' :=
      ⟨i 1, i 2, i 3, i 4, i 5, (eq_ix6 i).trans (congrArg (fun z : Fin 1 => ix6 z (i 1) (i 2) (i 3) (i 4) (i 5))
        (Subsingleton.elim (α := Fin 1) _ _))⟩
    rw [hi, h57_at H]
    split
    · split
      · exact EReal.coe_lt_top _
      · exact bot_lt_top
    · exact EReal.coe_lt_top _
  have hl : ⊥ < (Finset.univ.filter fun i => reducesTo_S1x32x2x4x128x257_S1x32x2x4x128_d5.drop i = ix5 0 n g r q).fold max
      (⊥ : EReal) (h_v57 (F := Ideal) x0 x1 x2 x3) := by
    rw [Finset.lt_fold_max]
    refine Or.inr ⟨ix6 0 n g r q ⟨256, by omega⟩, ?_, ?_⟩
    · rw [Finset.mem_filter]
      exact ⟨Finset.mem_univ _, funext fun b => match b with
        | ⟨0, _⟩ => rfl | ⟨1, _⟩ => rfl | ⟨2, _⟩ => rfl | ⟨3, _⟩ => rfl | ⟨4, _⟩ => rfl⟩
    · rw [h57_at H, if_neg (by decide)]
      exact EReal.bot_lt_coe _
  exact ⟨_, (EReal.coe_toReal ht.ne hl.ne').symm⟩

/-- The row maximum, as a real number. -/
def mxK (x0 : (⟨S4096x3072, .f32⟩ : BufTy).Contents (Elt Ideal)) (x1 x2 : (⟨S4096x32, .f32⟩ : BufTy).Contents (Elt Ideal))
    (x3 : (⟨S8, .f32⟩ : BufTy).Contents (Elt Ideal)) (n h q : ℕ) : ℝ :=
  if hb : n < 32 ∧ h < 8 ∧ q < 128 then
    (h_v58 (F := Ideal) x0 x1 x2 x3 (ix5 0 ⟨n, hb.1⟩ ⟨h / 4, by omega⟩ ⟨h % 4, by omega⟩ ⟨q, hb.2.2⟩) : EReal).toReal
  else 0

theorem h58_at (H : HoldsK a x0 x1 x2 x3 x4) (n : Fin 32) (g : Fin 2) (r : Fin 4) (q : Fin 128) :
    h_v58 (F := Ideal) x0 x1 x2 x3 (ix5 0 n g r q) = ((mxK x0 x1 x2 x3 n.val (g.val * 4 + r.val) q.val : ℝ) : EReal) := by
  obtain ⟨m, hm⟩ := h58_real H n g r q
  unfold mxK
  rw [dif_pos ⟨n.isLt, by omega, q.isLt⟩]
  have e : (ix5 (0 : Fin 1) (⟨n.val, n.isLt⟩ : Fin 32) (⟨(g.val * 4 + r.val) / 4, by omega⟩ : Fin 2)
      (⟨(g.val * 4 + r.val) % 4, by omega⟩ : Fin 4) (⟨q.val, q.isLt⟩ : Fin 128)) = ix5 0 n g r q := by
    have e1 : (⟨(g.val * 4 + r.val) / 4, by omega⟩ : Fin 2) = g := Fin.ext (by dsimp only; omega)
    have e2 : (⟨(g.val * 4 + r.val) % 4, by omega⟩ : Fin 4) = r := Fin.ext (by dsimp only; omega)
    rw [e1, e2]
  rw [e, hm, EReal.toReal_coe]

theorem h62_at (H : HoldsK a x0 x1 x2 x3 x4) (n : Fin 32) (g : Fin 2) (r : Fin 4) (q : Fin 128) (k : Fin 257) :
    h_v62 (F := Ideal) x0 x1 x2 x3 (ix6 0 n g r q k)
      = ((Em a (mxK x0 x1 x2 x3 n.val (g.val * 4 + r.val) q.val) n.val (g.val * 4 + r.val) q.val k.val : ℝ) : EReal) := by
  pointwise [h_v62, h_v61, h_v60, h_v59]
  rw [h58_at H, h57_at H]
  unfold Em
  split
  · split
    · rw [← EReal.coe_sub]; rfl
    · rw [EReal.bot_sub]; rfl
  · rw [← EReal.coe_sub]; rfl

theorem h63_at (H : HoldsK a x0 x1 x2 x3 x4) (n : Fin 32) (g : Fin 2) (r : Fin 4) (q : Fin 128) :
    h_v63 (F := Ideal) x0 x1 x2 x3 (ix5 0 n g r q)
      = ((Zm a (mxK x0 x1 x2 x3 n.val (g.val * 4 + r.val) q.val) n.val (g.val * 4 + r.val) q.val : ℝ) : EReal) := by
  unfold h_v63
  simp only [Host.reduceAdd, Ideal.hostReduceAdd_def]
  rw [Ideal.hostReduceAdd_single reducesTo_S1x32x2x4x128x257_S1x32x2x4x128_d5 (by decide), ← sum_Em, coe_sum]
  have h0 : (h_cst_8 (F := Ideal)) (Shape.Idx.first h_S_) = (0 : EReal) := by
    show Ideal.ofBits FTy.f32 0#32 = 0
    simp
  rw [h0, zero_add]
  refine Finset.sum_congr rfl fun k _ => ?_
  refine Eq.trans ?_ (h62_at H n g r q k)
  exact congrArg _ (funext fun b => Fin.ext (by
    match b with
    | ⟨0, _⟩ => rfl | ⟨1, _⟩ => rfl | ⟨2, _⟩ => rfl | ⟨3, _⟩ => rfl | ⟨4, _⟩ => rfl | ⟨5, _⟩ => rfl))

theorem bc_at (A : (⟨S1x32x2x4x128, .f32⟩ : BufTy).Contents (Elt Ideal)) (n : Fin 32) (g : Fin 2) (r : Fin 4) (q : Fin 128) :
    (broadcastInDim S1x32x2x4x128x1 ![0, 1, 2, 3, 4] bcast_S1x32x2x4x128_S1x32x2x4x128x1_0_1_2_3_4 A : (⟨S1x32x2x4x128x1, .f32⟩ : BufTy).Contents (Elt Ideal)) (ix6 0 n g r q 0)
      = A (ix5 0 n g r q) := by
  pointwise []

theorem al_at (A B : FVec Ideal S1x32x2x4x128x1 .f32) (i : S1x32x2x4x128x1.Idx) :
    addf A (Host.log B) i = A i + Ideal.log (B i) := rfl

theorem h66_at (H : HoldsK a x0 x1 x2 x3 x4) (n : Fin 32) (g : Fin 2) (r : Fin 4) (q : Fin 128) :
    h_v66 (F := Ideal) x0 x1 x2 x3 (ix6 0 n g r q 0)
      = ((mxK x0 x1 x2 x3 n.val (g.val * 4 + r.val) q.val
          + Real.log (Zm a (mxK x0 x1 x2 x3 n.val (g.val * 4 + r.val) q.val) n.val (g.val * 4 + r.val) q.val) : ℝ) : EReal) := by
  have e : h_v66 (F := Ideal) x0 x1 x2 x3 (ix6 0 n g r q 0)
      = h_v58 (F := Ideal) x0 x1 x2 x3 (ix5 0 n g r q) + Ideal.log (h_v63 (F := Ideal) x0 x1 x2 x3 (ix5 0 n g r q)) := by
    unfold h_v66 h_v65 h_v64 h_v59
    generalize h_v58 (F := Ideal) x0 x1 x2 x3 = A
    generalize h_v63 (F := Ideal) x0 x1 x2 x3 = B
    rw [al_at, bc_at, bc_at]
  rw [e, h58_at H, h63_at H, Ideal.log_coe, if_neg (not_le.mpr (Zm_pos a _ _ _ _)), EReal.coe_add]

theorem h83_at (H : HoldsK a x0 x1 x2 x3 x4) (t : Fin 4096) (h : Fin 8) :
    h_v83 (F := Ideal) x0 x1 x2 x3 (ix2 t h)
      = ((mxK x0 x1 x2 x3 (t.val / 128) h.val (t.val % 128)
          + Real.log (Zm a (mxK x0 x1 x2 x3 (t.val / 128) h.val (t.val % 128)) (t.val / 128) h.val (t.val % 128)) : ℝ) : EReal) := by
  pointwise [h_v83, h_v82, h_v81]
  rw [h66_at H]
  dsimp only
  rw [show h.val / 4 * 4 + h.val % 4 = h.val by omega]

/-! ### The attention's output -/

theorem h70_at (H : HoldsK a x0 x1 x2 x3 x4) (n : Fin 32) (g : Fin 2) (r : Fin 4) (q : Fin 128) (k : Fin 256) :
    h_v70 (F := Ideal) x0 x1 x2 x3 (ix6 0 n g r q k) = ((P a n.val (g.val * 4 + r.val) q.val k.val : ℝ) : EReal) := by
  pointwise [h_v70, h_v69, h_v68, h_v67]
  rw [h66_at H, h57_at H]
  dsimp only
  rw [if_pos k.isLt]
  by_cases hm : msk n.val q.val k.val
  · rw [if_pos hm, ← EReal.coe_sub, Ideal.exp_coe, exp_sub_lse a _ _ _ _ _ hm]
  · rw [if_neg hm, EReal.bot_sub, P_of_not_msk a _ _ _ _ hm]
    rfl

theorem h77_at (H : HoldsK a x0 x1 x2 x3 x4) (n : Fin 32) (g : Fin 2) (d : Fin 64) (r : Fin 4) (q : Fin 128) :
    h_v77 (F := Ideal) x0 x1 x2 x3 (ix6 0 n g d r q) = ((O a n.val (g.val * 4 + r.val) q.val d.val : ℝ) : EReal) := by
  pointwise [h_v77]
  unfold O
  rw [coe_sum]
  refine Finset.sum_congr rfl fun k _ => ?_
  rw [h76_at H, h70_at H, ← EReal.coe_mul, mul_comm, show (g.val * 4 + r.val) / 4 = g.val by omega]

theorem h80_at (H : HoldsK a x0 x1 x2 x3 x4) (t : Fin 4096) (c : Fin 512) :
    h_v80 (F := Ideal) x0 x1 x2 x3 (ix2 t c) = ((O a (t.val / 128) (c.val / 64) (t.val % 128) (c.val % 64) : ℝ) : EReal) := by
  pointwise [h_v80, h_v79, h_v78]
  rw [h77_at H]
  dsimp only
  rw [show c.val / 256 * 4 + c.val / 64 % 4 = c.val / 64 by omega]

end AttnBwd
-- ==== Proof.BlockAt.lean ====
/- The blocks that a grid point reads hold the numbers of the arguments that the block stands for. -/
module

public import proofs.«01_k».proof.Proof.HostEq
public import proofs.«01_k».proof.Proof.HostAt

@[expose] public section

set_option maxRecDepth 16384

noncomputable section

namespace AttnBwd

open Cert.KernelIdeal Cert.KernelIdeal.Gen Cert.KernelIdeal.Before Idealize.ShloMosaic Idealize.ShloMosaic.TcCoe Idealize.SL.Sem

/-! ### Where each window stands -/

theorem index0 : ∀ t : Fin cfg0.N, win0_0.index t 0 = t.val ∧ win0_0.index t 1 = 0 :=
  (by decide +kernel : ∀ t : Fin grid0.N, win0_0.index t 0 = t.val ∧ win0_0.index t 1 = 0)

theorem index1 : ∀ t : Fin cfg0.N, win0_1.index t 0 = t.val ∧ win0_1.index t 1 = 20 :=
  (by decide +kernel : ∀ t : Fin grid0.N, win0_1.index t 0 = t.val ∧ win0_1.index t 1 = 20)

theorem index2 : ∀ t : Fin cfg0.N, win0_2.index t 0 = t.val - 1 ∧ win0_2.index t 1 = 20 :=
  (by decide +kernel : ∀ t : Fin grid0.N, win0_2.index t 0 = t.val - 1 ∧ win0_2.index t 1 = 20)

theorem index3 : ∀ t : Fin cfg0.N, win0_3.index t 0 = t.val ∧ win0_3.index t 1 = 21 :=
  (by decide +kernel : ∀ t : Fin grid0.N, win0_3.index t 0 = t.val ∧ win0_3.index t 1 = 21)

theorem index4 : ∀ t : Fin cfg0.N, win0_4.index t 0 = t.val - 1 ∧ win0_4.index t 1 = 21 :=
  (by decide +kernel : ∀ t : Fin grid0.N, win0_4.index t 0 = t.val - 1 ∧ win0_4.index t 1 = 21)

theorem index5 : ∀ t : Fin cfg0.N, win0_5.index t 0 = t.val ∧ win0_5.index t 1 = 0 :=
  (by decide +kernel : ∀ t : Fin grid0.N, win0_5.index t 0 = t.val ∧ win0_5.index t 1 = 0)

theorem index6 : ∀ t : Fin cfg0.N, win0_6.index t 0 = t.val ∧ win0_6.index t 1 = 0 :=
  (by decide +kernel : ∀ t : Fin grid0.N, win0_6.index t 0 = t.val ∧ win0_6.index t 1 = 0)

theorem index7 : ∀ t : Fin cfg0.N, win0_7.index t 0 = t.val - 1 ∧ win0_7.index t 1 = 0 :=
  (by decide +kernel : ∀ t : Fin grid0.N, win0_7.index t 0 = t.val - 1 ∧ win0_7.index t 1 = 0)

theorem index8 : ∀ t : Fin cfg0.N, win0_8.index t 0 = t.val - 1 ∧ win0_8.index t 1 = 0 :=
  (by decide +kernel : ∀ t : Fin grid0.N, win0_8.index t 0 = t.val - 1 ∧ win0_8.index t 1 = 0)

theorem index9 : ∀ t : Fin cfg0.N, win0_9.index t 0 = 0 ∧ win0_9.index t 1 = 0 :=
  (by decide +kernel : ∀ t : Fin grid0.N, win0_9.index t 0 = 0 ∧ win0_9.index t 1 = 0)

theorem index10 : ∀ t : Fin cfg0.N, win0_10.index t 0 = t.val ∧ win0_10.index t 1 = 0 :=
  (by decide +kernel : ∀ t : Fin grid0.N, win0_10.index t 0 = t.val ∧ win0_10.index t 1 = 0)

theorem index11 : ∀ t : Fin cfg0.N, win0_11.index t 0 = t.val ∧ win0_11.index t 1 = 0 :=
  (by decide +kernel : ∀ t : Fin grid0.N, win0_11.index t 0 = t.val ∧ win0_11.index t 1 = 0)

theorem index12 : ∀ t : Fin cfg0.N, win0_12.index t 0 = t.val ∧ win0_12.index t 1 = 0 :=
  (by decide +kernel : ∀ t : Fin grid0.N, win0_12.index t 0 = t.val ∧ win0_12.index t 1 = 0)

theorem index13 : ∀ t : Fin cfg0.N, win0_13.index t 0 = t.val ∧ win0_13.index t 1 = 0 :=
  (by decide +kernel : ∀ t : Fin grid0.N, win0_13.index t 0 = t.val ∧ win0_13.index t 1 = 0)

theorem index14 : ∀ t : Fin cfg0.N, win0_14.index t 0 = t.val ∧ win0_14.index t 1 = 0 :=
  (by decide +kernel : ∀ t : Fin grid0.N, win0_14.index t 0 = t.val ∧ win0_14.index t 1 = 0)

theorem index15 : ∀ t : Fin cfg0.N, win0_15.index t 0 = t.val ∧ win0_15.index t 1 = 0 :=
  (by decide +kernel : ∀ t : Fin grid0.N, win0_15.index t 0 = t.val ∧ win0_15.index t 1 = 0)

theorem index16 : ∀ t : Fin cfg0.N, win0_16.index t 0 = t.val ∧ win0_16.index t 1 = 0 :=
  (by decide +kernel : ∀ t : Fin grid0.N, win0_16.index t 0 = t.val ∧ win0_16.index t 1 = 0)

theorem index17 : ∀ t : Fin cfg0.N, win0_17.index t 0 = t.val ∧ win0_17.index t 1 = 0 :=
  (by decide +kernel : ∀ t : Fin grid0.N, win0_17.index t 0 = t.val ∧ win0_17.index t 1 = 0)

theorem index18 : ∀ t : Fin cfg0.N, win0_18.index t 0 = 0 ∧ win0_18.index t 1 = 0 :=
  (by decide +kernel : ∀ t : Fin grid0.N, win0_18.index t 0 = 0 ∧ win0_18.index t 1 = 0)

theorem pt_lt (t : Fin cfg0.N) : t.val < 32 := lt_of_lt_of_eq t.isLt N_0

variable (m : (ℓ : Loc nD τ sig) → Buf (Elt Ideal) ℓ)

/-! ### The blocks, at an index -/

theorem read0_at (A : (⟨S4096x3072, .f32⟩ : BufTy).Contents (Elt Ideal)) (t : Fin cfg0.N) (r : Fin 128) (j : Fin 512) :
    (((cfg0.win 0).blk t).view.read (Elt Ideal) A : FVec Ideal S128x512 .f32) (ix2 r j) = A (ix2 ⟨(t.val) * 128 + r.val, by have := pt_lt t; omega⟩ ⟨j.val, by omega⟩) := by
  have hi := index0 t
  rw [View.read_apply]
  show A _ = A _
  refine congrArg _ (funext fun b => Fin.ext ?_)
  match b with
  | ⟨0, _⟩ => show win0_0.index t 0 * 128 + 1 * r.val = (t.val) * 128 + r.val; rw [hi.1]; omega
  | ⟨1, _⟩ => show win0_0.index t 1 * 512 + 1 * j.val = j.val; rw [hi.2]; omega

theorem read1_at (A : (⟨S4096x3072, .f32⟩ : BufTy).Contents (Elt Ideal)) (t : Fin cfg0.N) (r : Fin 128) (j : Fin 128) :
    (((cfg0.win 1).blk t).view.read (Elt Ideal) A : FVec Ideal S128x128 .f32) (ix2 r j) = A (ix2 ⟨(t.val) * 128 + r.val, by have := pt_lt t; omega⟩ ⟨20 * 128 + j.val, by omega⟩) := by
  have hi := index1 t
  rw [View.read_apply]
  show A _ = A _
  refine congrArg _ (funext fun b => Fin.ext ?_)
  match b with
  | ⟨0, _⟩ => show win0_1.index t 0 * 128 + 1 * r.val = (t.val) * 128 + r.val; rw [hi.1]; omega
  | ⟨1, _⟩ => show win0_1.index t 1 * 128 + 1 * j.val = 20 * 128 + j.val; rw [hi.2]; omega

theorem read2_at (A : (⟨S4096x3072, .f32⟩ : BufTy).Contents (Elt Ideal)) (t : Fin cfg0.N) (r : Fin 128) (j : Fin 128) :
    (((cfg0.win 2).blk t).view.read (Elt Ideal) A : FVec Ideal S128x128 .f32) (ix2 r j) = A (ix2 ⟨(t.val - 1) * 128 + r.val, by have := pt_lt t; omega⟩ ⟨20 * 128 + j.val, by omega⟩) := by
  have hi := index2 t
  rw [View.read_apply]
  show A _ = A _
  refine congrArg _ (funext fun b => Fin.ext ?_)
  match b with
  | ⟨0, _⟩ => show win0_2.index t 0 * 128 + 1 * r.val = (t.val - 1) * 128 + r.val; rw [hi.1]; omega
  | ⟨1, _⟩ => show win0_2.index t 1 * 128 + 1 * j.val = 20 * 128 + j.val; rw [hi.2]; omega

theorem read3_at (A : (⟨S4096x3072, .f32⟩ : BufTy).Contents (Elt Ideal)) (t : Fin cfg0.N) (r : Fin 128) (j : Fin 128) :
    (((cfg0.win 3).blk t).view.read (Elt Ideal) A : FVec Ideal S128x128 .f32) (ix2 r j) = A (ix2 ⟨(t.val) * 128 + r.val, by have := pt_lt t; omega⟩ ⟨21 * 128 + j.val, by omega⟩) := by
  have hi := index3 t
  rw [View.read_apply]
  show A _ = A _
  refine congrArg _ (funext fun b => Fin.ext ?_)
  match b with
  | ⟨0, _⟩ => show win0_3.index t 0 * 128 + 1 * r.val = (t.val) * 128 + r.val; rw [hi.1]; omega
  | ⟨1, _⟩ => show win0_3.index t 1 * 128 + 1 * j.val = 21 * 128 + j.val; rw [hi.2]; omega

theorem read4_at (A : (⟨S4096x3072, .f32⟩ : BufTy).Contents (Elt Ideal)) (t : Fin cfg0.N) (r : Fin 128) (j : Fin 128) :
    (((cfg0.win 4).blk t).view.read (Elt Ideal) A : FVec Ideal S128x128 .f32) (ix2 r j) = A (ix2 ⟨(t.val - 1) * 128 + r.val, by have := pt_lt t; omega⟩ ⟨21 * 128 + j.val, by omega⟩) := by
  have hi := index4 t
  rw [View.read_apply]
  show A _ = A _
  refine congrArg _ (funext fun b => Fin.ext ?_)
  match b with
  | ⟨0, _⟩ => show win0_4.index t 0 * 128 + 1 * r.val = (t.val - 1) * 128 + r.val; rw [hi.1]; omega
  | ⟨1, _⟩ => show win0_4.index t 1 * 128 + 1 * j.val = 21 * 128 + j.val; rw [hi.2]; omega

theorem read5_at (A : (⟨S4096x128, .f32⟩ : BufTy).Contents (Elt Ideal)) (t : Fin cfg0.N) (r : Fin 128) (j : Fin 128) :
    (((cfg0.win 5).blk t).view.read (Elt Ideal) A : FVec Ideal S128x128 .f32) (ix2 r j) = A (ix2 ⟨(t.val) * 128 + r.val, by have := pt_lt t; omega⟩ j) := by
  have hi := index5 t
  rw [View.read_apply]
  show A _ = A _
  refine congrArg _ (funext fun b => Fin.ext ?_)
  match b with
  | ⟨0, _⟩ => show win0_5.index t 0 * 128 + 1 * r.val = (t.val) * 128 + r.val; rw [hi.1]; omega
  | ⟨1, _⟩ => show win0_5.index t 1 * 128 + 1 * j.val = j.val; rw [hi.2]; omega

theorem read6_at (A : (⟨S4096x128, .f32⟩ : BufTy).Contents (Elt Ideal)) (t : Fin cfg0.N) (r : Fin 128) (j : Fin 128) :
    (((cfg0.win 6).blk t).view.read (Elt Ideal) A : FVec Ideal S128x128 .f32) (ix2 r j) = A (ix2 ⟨(t.val) * 128 + r.val, by have := pt_lt t; omega⟩ j) := by
  have hi := index6 t
  rw [View.read_apply]
  show A _ = A _
  refine congrArg _ (funext fun b => Fin.ext ?_)
  match b with
  | ⟨0, _⟩ => show win0_6.index t 0 * 128 + 1 * r.val = (t.val) * 128 + r.val; rw [hi.1]; omega
  | ⟨1, _⟩ => show win0_6.index t 1 * 128 + 1 * j.val = j.val; rw [hi.2]; omega

theorem read7_at (A : (⟨S4096x128, .f32⟩ : BufTy).Contents (Elt Ideal)) (t : Fin cfg0.N) (r : Fin 128) (j : Fin 128) :
    (((cfg0.win 7).blk t).view.read (Elt Ideal) A : FVec Ideal S128x128 .f32) (ix2 r j) = A (ix2 ⟨(t.val - 1) * 128 + r.val, by have := pt_lt t; omega⟩ j) := by
  have hi := index7 t
  rw [View.read_apply]
  show A _ = A _
  refine congrArg _ (funext fun b => Fin.ext ?_)
  match b with
  | ⟨0, _⟩ => show win0_7.index t 0 * 128 + 1 * r.val = (t.val - 1) * 128 + r.val; rw [hi.1]; omega
  | ⟨1, _⟩ => show win0_7.index t 1 * 128 + 1 * j.val = j.val; rw [hi.2]; omega

theorem read8_at (A : (⟨S4096x128, .f32⟩ : BufTy).Contents (Elt Ideal)) (t : Fin cfg0.N) (r : Fin 128) (j : Fin 128) :
    (((cfg0.win 8).blk t).view.read (Elt Ideal) A : FVec Ideal S128x128 .f32) (ix2 r j) = A (ix2 ⟨(t.val - 1) * 128 + r.val, by have := pt_lt t; omega⟩ j) := by
  have hi := index8 t
  rw [View.read_apply]
  show A _ = A _
  refine congrArg _ (funext fun b => Fin.ext ?_)
  match b with
  | ⟨0, _⟩ => show win0_8.index t 0 * 128 + 1 * r.val = (t.val - 1) * 128 + r.val; rw [hi.1]; omega
  | ⟨1, _⟩ => show win0_8.index t 1 * 128 + 1 * j.val = j.val; rw [hi.2]; omega

theorem read9_at (A : (⟨S8x128, .f32⟩ : BufTy).Contents (Elt Ideal)) (t : Fin cfg0.N) (r : Fin 8) (j : Fin 128) :
    (((cfg0.win 9).blk t).view.read (Elt Ideal) A : FVec Ideal S8x128 .f32) (ix2 r j) = A (ix2 r j) := by
  have hi := index9 t
  rw [View.read_apply]
  show A _ = A _
  refine congrArg _ (funext fun b => Fin.ext ?_)
  match b with
  | ⟨0, _⟩ => show win0_9.index t 0 * 8 + 1 * r.val = r.val; rw [hi.1]; omega
  | ⟨1, _⟩ => show win0_9.index t 1 * 128 + 1 * j.val = j.val; rw [hi.2]; omega

theorem read10_at (A : (⟨S4096x512, .f32⟩ : BufTy).Contents (Elt Ideal)) (t : Fin cfg0.N) (r : Fin 128) (j : Fin 512) :
    (((cfg0.win 10).blk t).view.read (Elt Ideal) A : FVec Ideal S128x512 .f32) (ix2 r j) = A (ix2 ⟨(t.val) * 128 + r.val, by have := pt_lt t; omega⟩ j) := by
  have hi := index10 t
  rw [View.read_apply]
  show A _ = A _
  refine congrArg _ (funext fun b => Fin.ext ?_)
  match b with
  | ⟨0, _⟩ => show win0_10.index t 0 * 128 + 1 * r.val = (t.val) * 128 + r.val; rw [hi.1]; omega
  | ⟨1, _⟩ => show win0_10.index t 1 * 512 + 1 * j.val = j.val; rw [hi.2]; omega

theorem read11_at (A : (⟨S4096x8, .f32⟩ : BufTy).Contents (Elt Ideal)) (t : Fin cfg0.N) (r : Fin 128) (j : Fin 8) :
    (((cfg0.win 11).blk t).view.read (Elt Ideal) A : FVec Ideal S128x8 .f32) (ix2 r j) = A (ix2 ⟨(t.val) * 128 + r.val, by have := pt_lt t; omega⟩ j) := by
  have hi := index11 t
  rw [View.read_apply]
  show A _ = A _
  refine congrArg _ (funext fun b => Fin.ext ?_)
  match b with
  | ⟨0, _⟩ => show win0_11.index t 0 * 128 + 1 * r.val = (t.val) * 128 + r.val; rw [hi.1]; omega
  | ⟨1, _⟩ => show win0_11.index t 1 * 8 + 1 * j.val = j.val; rw [hi.2]; omega

theorem read12_at (A : (⟨S4096x1024, .f32⟩ : BufTy).Contents (Elt Ideal)) (t : Fin cfg0.N) (r : Fin 128) (j : Fin 512) :
    (((cfg0.win 12).blk t).view.read (Elt Ideal) A : FVec Ideal S128x512 .f32) (ix2 r j) = A (ix2 ⟨(t.val) * 128 + r.val, by have := pt_lt t; omega⟩ ⟨j.val, by omega⟩) := by
  have hi := index12 t
  rw [View.read_apply]
  show A _ = A _
  refine congrArg _ (funext fun b => Fin.ext ?_)
  match b with
  | ⟨0, _⟩ => show win0_12.index t 0 * 128 + 1 * r.val = (t.val) * 128 + r.val; rw [hi.1]; omega
  | ⟨1, _⟩ => show win0_12.index t 1 * 512 + 1 * j.val = j.val; rw [hi.2]; omega

/-- The blocks that grid point `t` reads hold the numbers of block `t`. -/
theorem blk_at {a : Data} (c : Dev nD)
    (H : HoldsK a (m ((c : Thread nD τ).loc main_arg0)) (m ((c : Thread nD τ).loc main_arg1)) (m ((c : Thread nD τ).loc main_arg2))
      (m ((c : Thread nD τ).loc main_arg3)) (m ((c : Thread nD τ).loc main_arg4))) (t : Fin cfg0.N) :
    Blk a (mxK (m ((c : Thread nD τ).loc main_arg0)) (m ((c : Thread nD τ).loc main_arg1)) (m ((c : Thread nD τ).loc main_arg2))
      (m ((c : Thread nD τ).loc main_arg3))) t.val (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) (iblk m c 12 t) where
  q r j := by exact (read0_at (Gen.V m c main_arg0) t r j).trans ((congrFun (V_main_arg0 m c) _).trans (H.X _ _))
  kc r j := by exact (read1_at (Gen.V m c main_arg0) t r j).trans ((congrFun (V_main_arg0 m c) _).trans (H.X _ _))
  kp r j := by exact (read2_at (Gen.V m c main_arg0) t r j).trans ((congrFun (V_main_arg0 m c) _).trans (H.X _ _))
  vc r j := by exact (read3_at (Gen.V m c main_arg0) t r j).trans ((congrFun (V_main_arg0 m c) _).trans (H.X _ _))
  vp r j := by exact (read4_at (Gen.V m c main_arg0) t r j).trans ((congrFun (V_main_arg0 m c) _).trans (H.X _ _))
  co r j := by exact (read5_at (Gen.V m c main_v86) t r j).trans ((congrFun (V_main_v86 m c) _).trans (h86_at H _ _))
  si r j := by exact (read6_at (Gen.V m c main_v91) t r j).trans ((congrFun (V_main_v91 m c) _).trans (h91_at H _ _))
  cop r j := by exact (read7_at (Gen.V m c main_v86) t r j).trans ((congrFun (V_main_v86 m c) _).trans (h86_at H _ _))
  sip r j := by exact (read8_at (Gen.V m c main_v91) t r j).trans ((congrFun (V_main_v91 m c) _).trans (h91_at H _ _))
  snk r j := by exact (read9_at (Gen.V m c main_v93) t r j).trans ((congrFun (V_main_v93 m c) _).trans (h93_at H _ _))
  o r j := by
    refine (read10_at (Gen.V m c main_v80) t r j).trans ((congrFun (V_main_v80 m c) _).trans ((h80_at H _ _).trans ?_))
    dsimp only
    rw [show (t.val * 128 + r.val) / 128 = t.val by omega, show (t.val * 128 + r.val) % 128 = r.val by omega]
  l r j := by
    refine (read11_at (Gen.V m c main_v83) t r j).trans ((congrFun (V_main_v83 m c) _).trans ((h83_at H _ _).trans ?_))
    dsimp only
    rw [show (t.val * 128 + r.val) / 128 = t.val by omega, show (t.val * 128 + r.val) % 128 = r.val by omega]
  dm r j := by exact (read12_at (Gen.V m c main_arg4) t r j).trans ((congrFun (V_main_arg4 m c) _).trans (H.D _ _))

end AttnBwd
-- ==== Proof.KernelGrad.lean ====
/- The kernel's probabilities, score gradients and products, at an index. -/
module

public import proofs.«01_k».proof.Proof.KernelRope

@[expose] public section

set_option maxRecDepth 16384

noncomputable section

namespace AttnBwd

open Idealize.ShloMosaic Cert.KernelIdeal Cert.KernelIdeal.Gen Cert.KernelIdeal.Body

variable {a : Data} {m : ℕ → ℕ → ℕ → ℝ} {n : ℕ} {x0 : FVec Ideal S128x512 .f32}
    {x1 x2 x3 x4 x5 x6 x7 x8 : FVec Ideal S128x128 .f32} {x9 : FVec Ideal S8x128 .f32}
    {x10 : FVec Ideal S128x512 .f32} {x11 : FVec Ideal S128x8 .f32} {x12 : FVec Ideal S128x512 .f32}

/-- The probabilities as the body computes them. -/
def probs (n : ℕ) (x0 : FVec Ideal S128x512 .f32) (x1 x2 x5 x6 x7 x8 : FVec Ideal S128x128 .f32)
    (x11 : FVec Ideal S128x8 .f32) : FVec Ideal S8x128x256 .f32 :=
  k0_pay70 (k0_pay14 (BitVec.ofNat 32 n)) (qHeads (qRope x0 x5 x6)) (lseHeads x11) (k0_pay61 (keys x1 x2 x5 x6 x7 x8))

/-- The scores the body computes, queries scaled by one eighth. -/
theorem score_at (B : Blk a m n x0 x1 x2 x3 x4 x5 x6 x7 x8 x9 x10 x11 x12) (h : Fin 8) (q : Fin 128) (k : Fin 256) :
    ∑ x : Fin 128, qHeads (qRope x0 x5 x6) (ix3 h q x) * keys x1 x2 x5 x6 x7 x8 (ix2 k x)
      = ((∑ d : Fin 64, Q a (n * 128 + q.val) h.val d.val / 8 * KK a n k.val (h.val / 4) d.val : ℝ) : EReal) := by
  have hh := h.isLt
  simp only [qHeads_at, ite_mul, zero_mul]
  rw [sum_half (fun x : Fin 128 => qRope x0 x5 x6 (ix2 q ⟨h.val * 64 + x.val % 64, by omega⟩)
    * keys x1 x2 x5 x6 x7 x8 (ix2 k x)) (b := h.val / 4) (by omega), coe_sum]
  refine Finset.sum_congr rfl fun d _ => ?_
  rw [qRope_at B, keys_at B, ← EReal.coe_mul]
  dsimp only
  rw [show (h.val * 64 + (h.val / 4 * 64 + d.val) % 64) / 64 = h.val by omega,
    show (h.val * 64 + (h.val / 4 * 64 + d.val) % 64) % 64 = d.val by omega,
    show (h.val / 4 * 64 + d.val) / 64 = h.val / 4 by omega, show (h.val / 4 * 64 + d.val) % 64 = d.val by omega]

theorem probs_at (hn : n < 32) (B : Blk a m n x0 x1 x2 x3 x4 x5 x6 x7 x8 x9 x10 x11 x12) (h : Fin 8) (q : Fin 128) (k : Fin 256) :
    probs n x0 x1 x2 x5 x6 x7 x8 x11 (ix3 h q k) = ((P a n h.val q.val k.val : ℝ) : EReal) := by
  pointwise [probs, k0_pay70, k0_pay61]
  rw [mask_at hn, score_at B, lse_at, B.l]
  simp only [sel_ite]
  by_cases hm : msk n q.val k.val
  · have h3 : 128 ≤ n * 128 + k.val := hm.2.2
    simp only [hm, if_true]
    rw [← EReal.coe_sub, Ideal.exp_coe, ← exp_sub_lse a (m n h.val q.val) n h.val q.val k.val hm]
    unfold S
    simp only [KK_eq h3, div_mul_eq_mul_div, Finset.sum_div]
  · simp only [hm, if_false]
    rw [P_of_not_msk a _ _ _ _ hm]
    rfl

/-- The score gradients as the body computes them. -/
def dscore (n : ℕ) (x0 : FVec Ideal S128x512 .f32) (x1 x2 x3 x4 x5 x6 x7 x8 : FVec Ideal S128x128 .f32)
    (x10 : FVec Ideal S128x512 .f32) (x11 : FVec Ideal S128x8 .f32) (x12 : FVec Ideal S128x512 .f32) : FVec Ideal S8x128x256 .f32 :=
  k0_pay72 (k0_pay14 (BitVec.ofNat 32 n)) (qHeads (qRope x0 x5 x6)) (dHeads x12) (delta x12 x10) (lseHeads x11)
    (k0_pay61 (keys x1 x2 x5 x6 x7 x8)) (k0_pay62 (vals x3 x4))

/-- The gradients of the probabilities. -/
theorem dprob_at (B : Blk a m n x0 x1 x2 x3 x4 x5 x6 x7 x8 x9 x10 x11 x12) (h : Fin 8) (q : Fin 128) (k : Fin 256) :
    ∑ x : Fin 128, dHeads x12 (ix3 h q x) * vals x3 x4 (ix2 k x)
      = ((∑ d : Fin 64, a.D (n * 128 + q.val) (h.val * 64 + d.val) * VV a n k.val (h.val / 4) d.val : ℝ) : EReal) := by
  have hh := h.isLt
  simp only [dHeads_at, ite_mul, zero_mul]
  rw [sum_half (fun x : Fin 128 => x12 (ix2 q ⟨h.val * 64 + x.val % 64, by omega⟩)
    * vals x3 x4 (ix2 k x)) (b := h.val / 4) (by omega), coe_sum]
  refine Finset.sum_congr rfl fun d _ => ?_
  rw [B.dm, vals_at B, ← EReal.coe_mul]
  dsimp only
  rw [show (h.val / 4 * 64 + d.val) / 64 = h.val / 4 by omega, show (h.val / 4 * 64 + d.val) % 64 = d.val by omega]

theorem dscore_at (hn : n < 32) (B : Blk a m n x0 x1 x2 x3 x4 x5 x6 x7 x8 x9 x10 x11 x12) (h : Fin 8) (q : Fin 128) (k : Fin 256) :
    dscore n x0 x1 x2 x3 x4 x5 x6 x7 x8 x10 x11 x12 (ix3 h q k) = ((dS a n h.val q.val k.val : ℝ) : EReal) := by
  pointwise [dscore, k0_pay72, k0_pay62]
  rw [dprob_at B, delta_at B, ← EReal.coe_sub]
  refine (congrArg (· * _) (probs_at hn B h q k)).trans ?_
  rw [← EReal.coe_mul]
  by_cases hm : msk n q.val k.val
  · have h3 : 128 ≤ n * 128 + k.val := hm.2.2
    unfold dS dP
    simp only [VV_eq h3]
  · rw [P_of_not_msk a _ _ _ _ hm, dS_of_not_msk a _ _ _ _ hm, zero_mul]

/-- A sum over the eight heads of numbers that are zero outside the four heads of key head `g`. -/
theorem sum_heads {M : Type*} [AddCommMonoid M] (f : Fin 8 → M) {g : ℕ} (hg : g < 2) :
    ∑ h : Fin 8, (if g = h.val / 4 then f h else 0) = ∑ r : Fin 4, f ⟨g * 4 + r.val, by omega⟩ := by
  rcases (show g = 0 ∨ g = 1 by omega) with rfl | rfl
  · simp (config := {decide := true}) [Fin.sum_univ_succ]
  · simp (config := {decide := true}) [Fin.sum_univ_succ]

theorem dVals_at (hn : n < 32) (B : Blk a m n x0 x1 x2 x3 x4 x5 x6 x7 x8 x9 x10 x11 x12) (k : Fin 256) (c : Fin 128) :
    dVals (BitVec.ofNat 32 n) (qRope x0 x5 x6) x12 x11 (keys x1 x2 x5 x6 x7 x8) (ix2 k c)
      = ((dVB a n k.val (c.val / 64) (c.val % 64) : ℝ) : EReal) := by
  have hc := c.isLt
  pointwise [dVals, k0_pay71]
  refine (Finset.sum_congr rfl fun h _ => Finset.sum_congr rfl fun q _ =>
    (congrArg₂ (· * ·) (probs_at hn B h q k) (dHeads_at x12 h q c)).trans (mul_ite _ _ _ _)).trans ?_
  simp only [mul_zero]
  refine (Finset.sum_congr rfl fun h _ => ?_).trans ((sum_heads (fun h : Fin 8 => ∑ q : Fin 128,
    ((P a n h.val q.val k.val : ℝ) : EReal) * x12 (ix2 q ⟨h.val * 64 + c.val % 64, by omega⟩)) (g := c.val / 64) (by omega)).trans ?_)
  · by_cases hp : c.val / 64 = h.val / 4 <;> simp [hp]
  · unfold dVB
    rw [coe_sum]
    refine Finset.sum_congr rfl fun r _ => ?_
    rw [coe_sum]
    refine Finset.sum_congr rfl fun q _ => ?_
    rw [B.dm, ← EReal.coe_mul]

theorem dKeys_at (hn : n < 32) (B : Blk a m n x0 x1 x2 x3 x4 x5 x6 x7 x8 x9 x10 x11 x12) (k : Fin 256) (c : Fin 128) :
    dKeys (BitVec.ofNat 32 n) (qRope x0 x5 x6) x12 x10 x11 (keys x1 x2 x5 x6 x7 x8) (vals x3 x4) (ix2 k c)
      = ((dKB a n k.val (c.val / 64) (c.val % 64) : ℝ) : EReal) := by
  have hc := c.isLt
  pointwise [dKeys, k0_pay73]
  refine (Finset.sum_congr rfl fun h _ => Finset.sum_congr rfl fun q _ =>
    (congrArg₂ (· * ·) (dscore_at hn B h q k) (qHeads_at (qRope x0 x5 x6) h q c)).trans (mul_ite _ _ _ _)).trans ?_
  simp only [mul_zero]
  refine (Finset.sum_congr rfl fun h _ => ?_).trans ((sum_heads (fun h : Fin 8 => ∑ q : Fin 128,
    ((dS a n h.val q.val k.val : ℝ) : EReal) * qRope x0 x5 x6 (ix2 q ⟨h.val * 64 + c.val % 64, by omega⟩)) (g := c.val / 64) (by omega)).trans ?_)
  · by_cases hp : c.val / 64 = h.val / 4 <;> simp [hp]
  · unfold dKB
    rw [coe_sum]
    refine Finset.sum_congr rfl fun r _ => ?_
    rw [coe_sum]
    refine Finset.sum_congr rfl fun q _ => ?_
    rw [qRope_at B, ← EReal.coe_mul]
    dsimp only
    rw [show ((c.val / 64 * 4 + r.val) * 64 + c.val % 64) / 64 = c.val / 64 * 4 + r.val by omega,
      show ((c.val / 64 * 4 + r.val) * 64 + c.val % 64) % 64 = c.val % 64 by omega]

theorem dqHeads_at (hn : n < 32) (B : Blk a m n x0 x1 x2 x3 x4 x5 x6 x7 x8 x9 x10 x11 x12) (h : Fin 8) (q : Fin 128) (c : Fin 128) :
    dqHeads (BitVec.ofNat 32 n) (qRope x0 x5 x6) x12 x10 x11 (keys x1 x2 x5 x6 x7 x8) (vals x3 x4) (ix3 h q c)
      = ((∑ k : Fin 256, dS a n h.val q.val k.val * KB a n k.val (c.val / 64) (c.val % 64) : ℝ) : EReal) := by
  pointwise [dqHeads, k0_pay74]
  rw [coe_sum]
  refine Finset.sum_congr rfl fun k _ => ?_
  have e : k0_pay61 (keys x1 x2 x5 x6 x7 x8) (ix3 h k c) = keys x1 x2 x5 x6 x7 x8 (ix2 k c) := by
    pointwise [k0_pay61]
  refine (congrArg₂ (· * ·) (dscore_at hn B h q k) (e.trans (keys_at B k c))).trans ?_
  rw [← EReal.coe_mul]
  by_cases hm : msk n q.val k.val
  · rw [KK_eq hm.2.2]
  · rw [dS_of_not_msk a _ _ _ _ hm, zero_mul, zero_mul]

/-- The block's part of the sinks' gradient. -/
theorem dsHeads_at (B : Blk a m n x0 x1 x2 x3 x4 x5 x6 x7 x8 x9 x10 x11 x12) (s : Fin 8 → FVec Ideal S1x1 .f32)
    (hs : ∀ h : Fin 8, s h (ix2 0 0) = ((a.snk h.val : ℝ) : EReal)) (h : Fin 8) :
    dsHeads x12 x10 x11 (s 0) (s 1) (s 2) (s 3) (s 4) (s 5) (s 6) (s 7) (ix3 h 0 0) = ((dsk a n h.val : ℝ) : EReal) := by
  have e : ∀ (v : EReal), v = ((a.snk h.val : ℝ) : EReal) →
      0 - ∑ x : Fin 128, ∑ x_1 : Fin 1, Ideal.exp (v - lseHeads x11 (ix3 h x x_1)) * delta x12 x10 (ix3 h x x_1)
        = ((dsk a n h.val : ℝ) : EReal) := by
    rintro v rfl
    unfold dsk
    rw [zero_sub, EReal.coe_neg, coe_sum]
    refine congrArg Neg.neg (Finset.sum_congr rfl fun q _ => ?_)
    rw [Fin.sum_univ_one, lse_at, delta_at B, B.l, ← EReal.coe_sub, Ideal.exp_coe, exp_snk_lse, ← EReal.coe_mul]
  pointwise [dsHeads, k0_pay75, k0_pay63, k0_pay64, k0_pay65, k0_pay66, k0_pay67, k0_pay68, k0_pay69]
  refine e _ ?_
  obtain ⟨h, hh⟩ := h
  interval_cases h
  all_goals simp (config := {decide := true}) only [dite_true, dite_false]
  · exact hs 0
  · exact hs 1
  · exact hs 2
  · exact hs 3
  · exact hs 4
  · exact hs 5
  · exact hs 6
  · exact hs 7

theorem asRow_at (x : FVec Ideal S8x1x1 .f32) (h : Fin 8) : asRow x (ix2 0 h) = x (ix3 h 0 0) := by
  pointwise [asRow, heads, k0_pay86, k0_pay83, k0_pay77, k0_pay84, k0_pay85]
  obtain ⟨h, hh⟩ := h
  interval_cases h
  all_goals rfl

/-- The eight heads side by side, scaled by one eighth. -/
theorem flat_at (x : FVec Ideal S8x128x128 .f32) (r : Fin 128) (c : Fin 512) :
    k0_pay87 lanes x (k0_pay76 lanes x)
      (k0_pay81 lanes (k0_pay78 x) (k0_pay79 x) k0_pay80 (0 : EReal)) (k0_pay82 lanes x) (ix2 r c)
      = x (ix3 ⟨c.val / 64, by omega⟩ r ⟨c.val / 256 * 64 + c.val % 64, by omega⟩) * ((1 / 8 : ℝ) : EReal) := by
  pointwise [k0_pay87, k0_pay76, k0_pay81, k0_pay78, k0_pay79, k0_pay80, k0_pay82, lanes]
  have hc := c.isLt
  have ex : ∀ (h h' : Fin 8) (l l' : Fin 128), h.val = h'.val → l.val = l'.val →
      x (ix3 h r l) * Ideal.ofBits FTy.f32 1040187392#32 = x (ix3 h' r l') * ((1 / 8 : ℝ) : EReal) := by
    rintro h h' l l' e1 e2
    rw [Fin.ext e1, Fin.ext e2, lit8]
  have w1 : ∀ l : ℕ, l < 128 → IntOp.cmpi CmpIPredicate.slt (BitVec.ofNat 32 l) 64#32 = if l < 64 then 1#1 else 0#1 :=
    fun l hl => lt64 ⟨l, hl⟩
  have w2 : ∀ l : ℕ, l < 128 → IntOp.cmpi CmpIPredicate.sge (BitVec.ofNat 32 l) 64#32 = if 64 ≤ l then 1#1 else 0#1 :=
    fun l hl => ge64 ⟨l, hl⟩
  by_cases h1 : c.val < 128
  · simp only [h1, dite_true, w1, w2, sel_ite]
    by_cases h : c.val < 64
    · simp only [h, if_true]
      exact ex _ _ _ _ (by show 0 = c.val / 64; omega) (by show c.val = _; dsimp only; omega)
    · simp only [h, show 64 ≤ c.val by omega, if_true, if_false]
      exact ex _ _ _ _ (by show 1 = c.val / 64; omega) (by dsimp only; omega)
  by_cases h2 : c.val - 128 < 128
  · simp only [h1, h2, dite_true, dite_false, w1, w2, sel_ite]
    by_cases h : c.val - 128 < 64
    · simp only [h, if_true]
      exact ex _ _ _ _ (by show 2 = c.val / 64; omega) (by dsimp only; omega)
    · simp only [h, show 64 ≤ c.val - 128 by omega, if_true, if_false]
      exact ex _ _ _ _ (by show 3 = c.val / 64; omega) (by dsimp only; omega)
  by_cases h3 : c.val - 128 - 128 < 128
  · simp only [h1, h2, h3, dite_true, dite_false, w1, w2, sel_ite]
    by_cases h : c.val - 128 - 128 < 64
    · simp only [h, if_true]
      exact ex _ _ _ _ (by show 4 = c.val / 64; omega) (by dsimp only; omega)
    · simp only [h, show 64 ≤ c.val - 128 - 128 by omega, if_true, if_false]
      exact ex _ _ _ _ (by show 5 = c.val / 64; omega) (by dsimp only; omega)
  · have h4 : c.val - 128 - 128 - 128 < 128 := by omega
    simp only [h1, h2, h3, dite_false, w1 _ h4, w2 _ h4, sel_ite]
    by_cases h : c.val - 128 - 128 - 128 < 64
    · simp only [h, if_true]
      exact ex _ _ _ _ (by show 6 = c.val / 64; omega) (by dsimp only; omega)
    · simp only [h, show 64 ≤ c.val - 128 - 128 - 128 by omega, if_true, if_false]
      exact ex _ _ _ _ (by show 7 = c.val / 64; omega) (by dsimp only; omega)

/-- One number of the transposed rope. -/
theorem rotT_lane (f : ℕ → ℝ) (t c : ℕ) :
    f c * a.co t (c % 32) + (if c % 64 < 32 then f (c + 32) * sgn a t (c + 32) else f (c - 32) * sgn a t (c - 32))
      = rotT a (fun e => f (c / 64 * 64 + e)) t (c % 64) := by
  unfold rotT sgn
  have h1 : c / 64 * 64 + c % 64 = c := by omega
  by_cases h : c % 64 < 32
  · simp only [h, if_true]
    rw [← add_assoc, h1, if_neg (show ¬ (c + 32) % 64 < 32 by omega), show (c + 32) % 32 = c % 64 by omega,
      show c % 32 = c % 64 by omega]
  · simp only [h, if_false]
    rw [h1, if_pos (show (c - 32) % 64 < 32 by omega), show c / 64 * 64 + (c % 64 - 32) = c - 32 by omega,
      show (c - 32) % 32 = c % 64 - 32 by omega, show c % 32 = c % 64 - 32 by omega]
    ring

theorem dkp_at (B : Blk a m n x0 x1 x2 x3 x4 x5 x6 x7 x8 x9 x10 x11 x12) (x : FVec Ideal S256x128 .f32) (f : ℕ → ℕ → ℝ)
    (hx : ∀ (k : Fin 256) (c : Fin 128), x (ix2 k c) = ((f k.val c.val : ℝ) : EReal)) (r : Fin 128) (c : Fin 128) :
    k0_pay93 x7 (k0_pay3 x8) x (ix2 r c) = ((rotT a (fun e => f r.val (c.val / 64 * 64 + e)) (prow n r.val) (c.val % 64) : ℝ) : EReal) := by
  have hc := c.isLt
  pointwise [k0_pay93, k0_pay3]
  rw [← rotT_lane (fun e => f r.val e)]
  simp only [half128, sel_ite, hx, B.cop, B.sip]
  by_cases h : c.val % 64 < 32
  · simp only [h, if_true, ← EReal.coe_mul, ← EReal.coe_add]
    rw [show (c.val + 128 - 96) % 128 = c.val + 32 by omega]
  · simp only [h, if_false, ← EReal.coe_mul, ← EReal.coe_add]
    rw [show (c.val + 128 - 32) % 128 = c.val - 32 by omega]

theorem dkc_at (B : Blk a m n x0 x1 x2 x3 x4 x5 x6 x7 x8 x9 x10 x11 x12) (x : FVec Ideal S256x128 .f32) (f : ℕ → ℕ → ℝ)
    (hx : ∀ (k : Fin 256) (c : Fin 128), x (ix2 k c) = ((f k.val c.val : ℝ) : EReal)) (r : Fin 128) (c : Fin 128) :
    k0_pay94 x5 (k0_pay2 x6) x (ix2 r c) = ((rotT a (fun e => f (128 + r.val) (c.val / 64 * 64 + e)) (n * 128 + r.val) (c.val % 64) : ℝ) : EReal) := by
  have hc := c.isLt
  pointwise [k0_pay94, k0_pay2]
  rw [← rotT_lane (fun e => f (128 + r.val) e)]
  simp only [half128, sel_ite, hx, B.co, B.si]
  by_cases h : c.val % 64 < 32
  · simp only [h, if_true, ← EReal.coe_mul, ← EReal.coe_add]
    rw [show (c.val + 128 - 96) % 128 = c.val + 32 by omega]
  · simp only [h, if_false, ← EReal.coe_mul, ← EReal.coe_add]
    rw [show (c.val + 128 - 32) % 128 = c.val - 32 by omega]

theorem dqOut_at (B : Blk a m n x0 x1 x2 x3 x4 x5 x6 x7 x8 x9 x10 x11 x12) (x : FVec Ideal S8x128x128 .f32) (f : ℕ → ℕ → ℕ → ℝ)
    (hx : ∀ (h : Fin 8) (q : Fin 128) (c : Fin 128), x (ix3 h q c) = ((f h.val q.val c.val : ℝ) : EReal)) (r : Fin 128) (c : Fin 512) :
    dqOut x5 x6 x (ix2 r c)
      = ((rotT a (fun e => f (c.val / 64) r.val (c.val / 256 * 64 + e) / 8) (n * 128 + r.val) (c.val % 64) : ℝ) : EReal) := by
  have hc := c.isLt
  pointwise [dqOut, side, k0_pay92, k0_pay88, k0_pay91, k0_pay90]
  rw [half512, sel_ite, flat_at, flat_at, flat_at, cos4_at B, sin4_at B, sin4_at B]
  simp only [hx, ← EReal.coe_mul]
  have e := rotT_lane (a := a) (fun e => f (e / 64) r.val (e / 256 * 64 + e % 64) / 8) (n * 128 + r.val) c.val
  refine Eq.trans ?_ (congrArg (fun z : ℝ => (z : EReal)) (e.trans ?_))
  · by_cases h : c.val % 64 < 32
    · simp only [h, if_true, ← EReal.coe_mul, ← EReal.coe_add, mul_one_div]
      rw [show (c.val + 512 - 480) % 512 = c.val + 32 by omega]
    · simp only [h, if_false, ← EReal.coe_mul, ← EReal.coe_add, mul_one_div]
      rw [show (c.val + 512 - 32) % 512 = c.val - 32 by omega]
  · have e1 : ∀ d, d < 64 → f ((c.val / 64 * 64 + d) / 64) r.val ((c.val / 64 * 64 + d) / 256 * 64 + (c.val / 64 * 64 + d) % 64)
        = f (c.val / 64) r.val (c.val / 256 * 64 + d) := by
      intro d hd
      rw [show (c.val / 64 * 64 + d) / 64 = c.val / 64 by omega,
        show (c.val / 64 * 64 + d) / 256 = c.val / 256 by omega, show (c.val / 64 * 64 + d) % 64 = d by omega]
    unfold rotT
    by_cases h : c.val % 64 < 32
    · simp only [h, if_true]
      rw [e1 _ (by omega), e1 _ (by omega)]
    · simp only [h, if_false]
      rw [e1 _ (by omega), e1 _ (by omega)]

end AttnBwd
-- ==== Proof.KernelOut.lean ====
/- What the body leaves in each output's block, as the named arrays of `KernelTerms`. -/
module

public import proofs.«01_k».proof.Proof.KernelTerms
public import proofs.«01_k».proof.Proof.KernelFrame
public import Idealize.ShloMosaic.Lib.Pipeline.ValueKit

@[expose] public section

set_option maxRecDepth 16384
set_option synthInstance.maxSize 4096

noncomputable section

namespace Cert.KernelIdeal.Body

open Idealize.ShloMosaic Idealize.SL.Sem Cert.KernelIdeal.Gen

variable {F : FTy → Type} [FloatOps F]

theorem off00 : (![0, 0] : Fin 2 → Nat) = fun _ => 0 := funext fun a => by fin_cases a <;> rfl

/-- The sink of head 0, as the body loads it. -/
def sinkAt0 (x : Vec F S8x128 .f32) : Vec F S1x1 .f32 :=
  View.ld x (Rect.unit (s := S8x128) ![0, 0] S1x1.size inb_S8x128_S1x1_0_0)

/-- The sink of head 1, as the body loads it. -/
def sinkAt1 (x : Vec F S8x128 .f32) : Vec F S1x1 .f32 :=
  View.ld x (Rect.unit (s := S8x128) ![1, 0] S1x1.size inb_S8x128_S1x1_1_0)

/-- The sink of head 2, as the body loads it. -/
def sinkAt2 (x : Vec F S8x128 .f32) : Vec F S1x1 .f32 :=
  View.ld x (Rect.unit (s := S8x128) ![2, 0] S1x1.size inb_S8x128_S1x1_2_0)

/-- The sink of head 3, as the body loads it. -/
def sinkAt3 (x : Vec F S8x128 .f32) : Vec F S1x1 .f32 :=
  View.ld x (Rect.unit (s := S8x128) ![3, 0] S1x1.size inb_S8x128_S1x1_3_0)

/-- The sink of head 4, as the body loads it. -/
def sinkAt4 (x : Vec F S8x128 .f32) : Vec F S1x1 .f32 :=
  View.ld x (Rect.unit (s := S8x128) ![4, 0] S1x1.size inb_S8x128_S1x1_4_0)

/-- The sink of head 5, as the body loads it. -/
def sinkAt5 (x : Vec F S8x128 .f32) : Vec F S1x1 .f32 :=
  View.ld x (Rect.unit (s := S8x128) ![5, 0] S1x1.size inb_S8x128_S1x1_5_0)

/-- The sink of head 6, as the body loads it. -/
def sinkAt6 (x : Vec F S8x128 .f32) : Vec F S1x1 .f32 :=
  View.ld x (Rect.unit (s := S8x128) ![6, 0] S1x1.size inb_S8x128_S1x1_6_0)

/-- The sink of head 7, as the body loads it. -/
def sinkAt7 (x : Vec F S8x128 .f32) : Vec F S1x1 .f32 :=
  View.ld x (Rect.unit (s := S8x128) ![7, 0] S1x1.size inb_S8x128_S1x1_7_0)

theorem out_A_13 (c : Dev nD) (i : grid0.Coords) (arg1 : Memref sig .tc .vmem S128x512 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S8x128 .f32) (harg10 : arg10.IsWhole) (arg11 : Memref sig .tc .vmem S128x512 .f32) (harg11 : arg11.IsWhole) (arg12 : Memref sig .tc .vmem S128x8 .f32) (harg12 : arg12.IsWhole) (arg13 : Memref sig .tc .vmem S128x512 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x8 .f32) (harg19 : arg19.IsWhole) (hc0 : cond0_0 i) (hc1 : ¬cond0_1 i)
    (x0 : Vec F S128x512 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S8x128 .f32) (x10 : Vec F S128x512 .f32) (x11 : Vec F S128x8 .f32) (x12 : Vec F S128x512 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 = dqOut x5 x6 (dqHeads (BitVec.ofNat 32 (i 0).val) (qRope x0 x5 x6) x12 x10 x11 (keys x1 x2 x5 x6 x7 x8) (vals x3 x4)) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12)]
  unfold kernelRun0_A
  dsimp only
  sl_unfold_words
  rw [View.canon_cons_unit_zero (S := S128x512) off00]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off00,
    View.ld_unit_zero (S := S128x512) off00, View.ld_unit_zero (S := S128x8) off00, View.ld_unit_zero (S := S1x8) off00]
  rfl

theorem out_A_14 (c : Dev nD) (i : grid0.Coords) (arg1 : Memref sig .tc .vmem S128x512 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S8x128 .f32) (harg10 : arg10.IsWhole) (arg11 : Memref sig .tc .vmem S128x512 .f32) (harg11 : arg11.IsWhole) (arg12 : Memref sig .tc .vmem S128x8 .f32) (harg12 : arg12.IsWhole) (arg13 : Memref sig .tc .vmem S128x512 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x8 .f32) (harg19 : arg19.IsWhole) (hc0 : cond0_0 i) (hc1 : ¬cond0_1 i)
    (x0 : Vec F S128x512 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S8x128 .f32) (x10 : Vec F S128x512 .f32) (x11 : Vec F S128x8 .f32) (x12 : Vec F S128x512 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 = k0_pay94 x5 (k0_pay2 x6) (dKeys (BitVec.ofNat 32 (i 0).val) (qRope x0 x5 x6) x12 x10 x11 (keys x1 x2 x5 x6 x7 x8) (vals x3 x4)) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12)]
  unfold kernelRun0_A
  dsimp only
  sl_unfold_words
  rw [View.canon_cons_unit_zero (S := S128x128) off00]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off00,
    View.ld_unit_zero (S := S128x512) off00, View.ld_unit_zero (S := S128x8) off00, View.ld_unit_zero (S := S1x8) off00]
  rfl

theorem out_A_15 (c : Dev nD) (i : grid0.Coords) (arg1 : Memref sig .tc .vmem S128x512 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S8x128 .f32) (harg10 : arg10.IsWhole) (arg11 : Memref sig .tc .vmem S128x512 .f32) (harg11 : arg11.IsWhole) (arg12 : Memref sig .tc .vmem S128x8 .f32) (harg12 : arg12.IsWhole) (arg13 : Memref sig .tc .vmem S128x512 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x8 .f32) (harg19 : arg19.IsWhole) (hc0 : cond0_0 i) (hc1 : ¬cond0_1 i)
    (x0 : Vec F S128x512 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S8x128 .f32) (x10 : Vec F S128x512 .f32) (x11 : Vec F S128x8 .f32) (x12 : Vec F S128x512 .f32) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 = k0_pay93 x7 (k0_pay3 x8) (dKeys (BitVec.ofNat 32 (i 0).val) (qRope x0 x5 x6) x12 x10 x11 (keys x1 x2 x5 x6 x7 x8) (vals x3 x4)) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12)]
  unfold kernelRun0_A
  dsimp only
  sl_unfold_words
  rw [View.canon_cons_unit_zero (S := S128x128) off00]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off00,
    View.ld_unit_zero (S := S128x512) off00, View.ld_unit_zero (S := S128x8) off00, View.ld_unit_zero (S := S1x8) off00]
  rfl

theorem out_A_16 (c : Dev nD) (i : grid0.Coords) (arg1 : Memref sig .tc .vmem S128x512 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S8x128 .f32) (harg10 : arg10.IsWhole) (arg11 : Memref sig .tc .vmem S128x512 .f32) (harg11 : arg11.IsWhole) (arg12 : Memref sig .tc .vmem S128x8 .f32) (harg12 : arg12.IsWhole) (arg13 : Memref sig .tc .vmem S128x512 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x8 .f32) (harg19 : arg19.IsWhole) (hc0 : cond0_0 i) (hc1 : ¬cond0_1 i)
    (x0 : Vec F S128x512 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S8x128 .f32) (x10 : Vec F S128x512 .f32) (x11 : Vec F S128x8 .f32) (x12 : Vec F S128x512 .f32) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 = k0_pay96 (dVals (BitVec.ofNat 32 (i 0).val) (qRope x0 x5 x6) x12 x11 (keys x1 x2 x5 x6 x7 x8)) := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12)]
  unfold kernelRun0_A
  dsimp only
  sl_unfold_words
  rw [View.canon_cons_unit_zero (S := S128x128) off00]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off00,
    View.ld_unit_zero (S := S128x512) off00, View.ld_unit_zero (S := S128x8) off00, View.ld_unit_zero (S := S1x8) off00]
  rfl

theorem out_A_17 (c : Dev nD) (i : grid0.Coords) (arg1 : Memref sig .tc .vmem S128x512 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S8x128 .f32) (harg10 : arg10.IsWhole) (arg11 : Memref sig .tc .vmem S128x512 .f32) (harg11 : arg11.IsWhole) (arg12 : Memref sig .tc .vmem S128x8 .f32) (harg12 : arg12.IsWhole) (arg13 : Memref sig .tc .vmem S128x512 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x8 .f32) (harg19 : arg19.IsWhole) (hc0 : cond0_0 i) (hc1 : ¬cond0_1 i)
    (x0 : Vec F S128x512 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S8x128 .f32) (x10 : Vec F S128x512 .f32) (x11 : Vec F S128x8 .f32) (x12 : Vec F S128x512 .f32) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 = k0_pay95 (dVals (BitVec.ofNat 32 (i 0).val) (qRope x0 x5 x6) x12 x11 (keys x1 x2 x5 x6 x7 x8)) := by
  unfold out0_A_17
  rw [View.read_writes_eq_canon _ _ _ (cover0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12)]
  unfold kernelRun0_A
  dsimp only
  sl_unfold_words
  rw [View.canon_cons_unit_zero (S := S128x128) off00]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off00,
    View.ld_unit_zero (S := S128x512) off00, View.ld_unit_zero (S := S128x8) off00, View.ld_unit_zero (S := S1x8) off00]
  rfl

theorem out_A_18 (c : Dev nD) (i : grid0.Coords) (arg1 : Memref sig .tc .vmem S128x512 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S8x128 .f32) (harg10 : arg10.IsWhole) (arg11 : Memref sig .tc .vmem S128x512 .f32) (harg11 : arg11.IsWhole) (arg12 : Memref sig .tc .vmem S128x8 .f32) (harg12 : arg12.IsWhole) (arg13 : Memref sig .tc .vmem S128x512 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x8 .f32) (harg19 : arg19.IsWhole) (hc0 : cond0_0 i) (hc1 : ¬cond0_1 i)
    (x0 : Vec F S128x512 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S8x128 .f32) (x10 : Vec F S128x512 .f32) (x11 : Vec F S128x8 .f32) (x12 : Vec F S128x512 .f32) :
    out0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 = asRow (dsHeads x12 x10 x11 (sinkAt0 x9) (sinkAt1 x9) (sinkAt2 x9) (sinkAt3 x9) (sinkAt4 x9) (sinkAt5 x9) (sinkAt6 x9) (sinkAt7 x9)) := by
  unfold out0_A_18
  rw [View.read_writes_eq_canon _ _ _ (cover0_A_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12)]
  unfold kernelRun0_A
  dsimp only
  sl_unfold_words
  rw [View.canon_cons_unit_zero (S := S1x8) off00]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off00,
    View.ld_unit_zero (S := S128x512) off00, View.ld_unit_zero (S := S128x8) off00, View.ld_unit_zero (S := S1x8) off00]
  rfl

theorem out_B_13 (c : Dev nD) (i : grid0.Coords) (arg1 : Memref sig .tc .vmem S128x512 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S8x128 .f32) (harg10 : arg10.IsWhole) (arg11 : Memref sig .tc .vmem S128x512 .f32) (harg11 : arg11.IsWhole) (arg12 : Memref sig .tc .vmem S128x8 .f32) (harg12 : arg12.IsWhole) (arg13 : Memref sig .tc .vmem S128x512 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x8 .f32) (harg19 : arg19.IsWhole) (hc0 : ¬cond0_0 i) (hc1 : cond0_1 i)
    (x0 : Vec F S128x512 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S8x128 .f32) (x10 : Vec F S128x512 .f32) (x11 : Vec F S128x8 .f32) (x12 : Vec F S128x512 .f32) (xo18 : Vec F S1x8 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18 = dqOut x5 x6 (dqHeads (BitVec.ofNat 32 (i 0).val) (qRope x0 x5 x6) x12 x10 x11 (keys x1 x2 x5 x6 x7 x8) (vals x3 x4)) := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18)]
  unfold kernelRun0_B
  dsimp only
  sl_unfold_words
  rw [View.canon_cons_unit_zero (S := S128x512) off00]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off00,
    View.ld_unit_zero (S := S128x512) off00, View.ld_unit_zero (S := S128x8) off00, View.ld_unit_zero (S := S1x8) off00]
  rfl

theorem out_B_14 (c : Dev nD) (i : grid0.Coords) (arg1 : Memref sig .tc .vmem S128x512 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S8x128 .f32) (harg10 : arg10.IsWhole) (arg11 : Memref sig .tc .vmem S128x512 .f32) (harg11 : arg11.IsWhole) (arg12 : Memref sig .tc .vmem S128x8 .f32) (harg12 : arg12.IsWhole) (arg13 : Memref sig .tc .vmem S128x512 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x8 .f32) (harg19 : arg19.IsWhole) (hc0 : ¬cond0_0 i) (hc1 : cond0_1 i)
    (x0 : Vec F S128x512 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S8x128 .f32) (x10 : Vec F S128x512 .f32) (x11 : Vec F S128x8 .f32) (x12 : Vec F S128x512 .f32) (xo18 : Vec F S1x8 .f32) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18 = k0_pay94 x5 (k0_pay2 x6) (dKeys (BitVec.ofNat 32 (i 0).val) (qRope x0 x5 x6) x12 x10 x11 (keys x1 x2 x5 x6 x7 x8) (vals x3 x4)) := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18)]
  unfold kernelRun0_B
  dsimp only
  sl_unfold_words
  rw [View.canon_cons_unit_zero (S := S128x128) off00]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off00,
    View.ld_unit_zero (S := S128x512) off00, View.ld_unit_zero (S := S128x8) off00, View.ld_unit_zero (S := S1x8) off00]
  rfl

theorem out_B_15 (c : Dev nD) (i : grid0.Coords) (arg1 : Memref sig .tc .vmem S128x512 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S8x128 .f32) (harg10 : arg10.IsWhole) (arg11 : Memref sig .tc .vmem S128x512 .f32) (harg11 : arg11.IsWhole) (arg12 : Memref sig .tc .vmem S128x8 .f32) (harg12 : arg12.IsWhole) (arg13 : Memref sig .tc .vmem S128x512 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x8 .f32) (harg19 : arg19.IsWhole) (hc0 : ¬cond0_0 i) (hc1 : cond0_1 i)
    (x0 : Vec F S128x512 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S8x128 .f32) (x10 : Vec F S128x512 .f32) (x11 : Vec F S128x8 .f32) (x12 : Vec F S128x512 .f32) (xo18 : Vec F S1x8 .f32) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18 = k0_pay93 x7 (k0_pay3 x8) (dKeys (BitVec.ofNat 32 (i 0).val) (qRope x0 x5 x6) x12 x10 x11 (keys x1 x2 x5 x6 x7 x8) (vals x3 x4)) := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18)]
  unfold kernelRun0_B
  dsimp only
  sl_unfold_words
  rw [View.canon_cons_unit_zero (S := S128x128) off00]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off00,
    View.ld_unit_zero (S := S128x512) off00, View.ld_unit_zero (S := S128x8) off00, View.ld_unit_zero (S := S1x8) off00]
  rfl

theorem out_B_16 (c : Dev nD) (i : grid0.Coords) (arg1 : Memref sig .tc .vmem S128x512 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S8x128 .f32) (harg10 : arg10.IsWhole) (arg11 : Memref sig .tc .vmem S128x512 .f32) (harg11 : arg11.IsWhole) (arg12 : Memref sig .tc .vmem S128x8 .f32) (harg12 : arg12.IsWhole) (arg13 : Memref sig .tc .vmem S128x512 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x8 .f32) (harg19 : arg19.IsWhole) (hc0 : ¬cond0_0 i) (hc1 : cond0_1 i)
    (x0 : Vec F S128x512 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S8x128 .f32) (x10 : Vec F S128x512 .f32) (x11 : Vec F S128x8 .f32) (x12 : Vec F S128x512 .f32) (xo18 : Vec F S1x8 .f32) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18 = k0_pay96 (dVals (BitVec.ofNat 32 (i 0).val) (qRope x0 x5 x6) x12 x11 (keys x1 x2 x5 x6 x7 x8)) := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18)]
  unfold kernelRun0_B
  dsimp only
  sl_unfold_words
  rw [View.canon_cons_unit_zero (S := S128x128) off00]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off00,
    View.ld_unit_zero (S := S128x512) off00, View.ld_unit_zero (S := S128x8) off00, View.ld_unit_zero (S := S1x8) off00]
  rfl

theorem out_B_17 (c : Dev nD) (i : grid0.Coords) (arg1 : Memref sig .tc .vmem S128x512 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S8x128 .f32) (harg10 : arg10.IsWhole) (arg11 : Memref sig .tc .vmem S128x512 .f32) (harg11 : arg11.IsWhole) (arg12 : Memref sig .tc .vmem S128x8 .f32) (harg12 : arg12.IsWhole) (arg13 : Memref sig .tc .vmem S128x512 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x8 .f32) (harg19 : arg19.IsWhole) (hc0 : ¬cond0_0 i) (hc1 : cond0_1 i)
    (x0 : Vec F S128x512 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S8x128 .f32) (x10 : Vec F S128x512 .f32) (x11 : Vec F S128x8 .f32) (x12 : Vec F S128x512 .f32) (xo18 : Vec F S1x8 .f32) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18 = k0_pay95 (dVals (BitVec.ofNat 32 (i 0).val) (qRope x0 x5 x6) x12 x11 (keys x1 x2 x5 x6 x7 x8)) := by
  unfold out0_B_17
  rw [View.read_writes_eq_canon _ _ _ (cover0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18)]
  unfold kernelRun0_B
  dsimp only
  sl_unfold_words
  rw [View.canon_cons_unit_zero (S := S128x128) off00]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off00,
    View.ld_unit_zero (S := S128x512) off00, View.ld_unit_zero (S := S128x8) off00, View.ld_unit_zero (S := S1x8) off00]
  rfl

theorem out_B_18 (c : Dev nD) (i : grid0.Coords) (arg1 : Memref sig .tc .vmem S128x512 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S8x128 .f32) (harg10 : arg10.IsWhole) (arg11 : Memref sig .tc .vmem S128x512 .f32) (harg11 : arg11.IsWhole) (arg12 : Memref sig .tc .vmem S128x8 .f32) (harg12 : arg12.IsWhole) (arg13 : Memref sig .tc .vmem S128x512 .f32) (harg13 : arg13.IsWhole) (arg14 : Memref sig .tc .vmem S128x512 .bf16) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S1x8 .f32) (harg19 : arg19.IsWhole) (hc0 : ¬cond0_0 i) (hc1 : cond0_1 i)
    (x0 : Vec F S128x512 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S8x128 .f32) (x10 : Vec F S128x512 .f32) (x11 : Vec F S128x8 .f32) (x12 : Vec F S128x512 .f32) (xo18 : Vec F S1x8 .f32) :
    out0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18 = k0_pay1 (asRow (dsHeads x12 x10 x11 (sinkAt0 x9) (sinkAt1 x9) (sinkAt2 x9) (sinkAt3 x9) (sinkAt4 x9) (sinkAt5 x9) (sinkAt6 x9) (sinkAt7 x9))) xo18 := by
  unfold out0_B_18
  rw [View.read_writes_eq_canon _ _ _ (cover0_B_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6 x7 x8 x9 x10 x11 x12 xo18)]
  unfold kernelRun0_B
  dsimp only
  sl_unfold_words
  rw [View.canon_cons_unit_zero (S := S1x8) off00]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg19.read_unread, View.ld_unit_zero (S := S128x128) off00,
    View.ld_unit_zero (S := S128x512) off00, View.ld_unit_zero (S := S128x8) off00, View.ld_unit_zero (S := S1x8) off00]
  rfl

end Cert.KernelIdeal.Body
-- ==== Proof.Arrays.lean ====
/- The six arrays that the kernel leaves, at an index. -/
module

public import proofs.«01_k».proof.Proof.BlockAt
public import proofs.«01_k».proof.Proof.KernelGrad
public import proofs.«01_k».proof.Proof.KernelOut
public import proofs.«01_k».proof.Proof.KernelValue

@[expose] public section

set_option maxRecDepth 16384

noncomputable section

namespace AttnBwd

open Cert.KernelIdeal Cert.KernelIdeal.Gen Cert.KernelIdeal.Body Cert.KernelIdeal.Value Idealize.ShloMosaic Idealize.ShloMosaic.TcCoe Idealize.SL.Sem

theorem rotT_congr (a : Data) {y z : ℕ → ℝ} (t : ℕ) {d : ℕ} (hd : d < 64) (h : ∀ e, e < 64 → y e = z e) :
    rotT a y t d = rotT a z t d := by
  unfold rotT
  split
  · rw [h d hd, h (d + 32) (by omega)]
  · rw [h d hd, h (d - 32) (by omega)]

theorem coords0 : ∀ t : Fin cfg0.N, (grid0.coords t 0).val = t.val :=
  (by decide +kernel : ∀ t : Fin grid0.N, (grid0.coords t 0).val = t.val)

variable (m : (ℓ : Loc nD τ sig) → Buf (Elt Ideal) ℓ)

/-! ### What each point writes back -/

/-- The roped queries, keys and values of point `t`. -/
abbrev qAt (c : Dev nD) (t : Fin cfg0.N) : FVec Ideal S128x512 .f32 := qRope (iblk m c 0 t) (iblk m c 5 t) (iblk m c 6 t)
abbrev kAt (c : Dev nD) (t : Fin cfg0.N) : FVec Ideal S256x128 .f32 :=
  keys (iblk m c 1 t) (iblk m c 2 t) (iblk m c 5 t) (iblk m c 6 t) (iblk m c 7 t) (iblk m c 8 t)
abbrev vAt (c : Dev nD) (t : Fin cfg0.N) : FVec Ideal S256x128 .f32 := vals (iblk m c 3 t) (iblk m c 4 t)

theorem flush13 (c : Dev nD) (t : Fin cfg0.N) :
    (dats m 0 c).flushed 13 t = (cfg0.win 13).cut (grid0.coords t) (dqOut (iblk m c 5 t) (iblk m c 6 t) (dqHeads (BitVec.ofNat 32 (grid0.coords t 0).val) (qAt m c t) (iblk m c 12 t) (iblk m c 10 t) (iblk m c 11 t) (kAt m c t) (vAt m c t))) := by
  have ht := pt_lt t
  by_cases h : 1 ≤ t.val
  · rw [flushed13_B m c t (by omega) h, out_B_13]
  · rw [flushed13_A m c t (by omega) h, out_A_13]

theorem flush14 (c : Dev nD) (t : Fin cfg0.N) :
    (dats m 0 c).flushed 14 t = (cfg0.win 14).cut (grid0.coords t) (k0_pay94 (iblk m c 5 t) (k0_pay2 (iblk m c 6 t)) (dKeys (BitVec.ofNat 32 (grid0.coords t 0).val) (qAt m c t) (iblk m c 12 t) (iblk m c 10 t) (iblk m c 11 t) (kAt m c t) (vAt m c t))) := by
  have ht := pt_lt t
  by_cases h : 1 ≤ t.val
  · rw [flushed14_B m c t (by omega) h, out_B_14]
  · rw [flushed14_A m c t (by omega) h, out_A_14]

theorem flush15 (c : Dev nD) (t : Fin cfg0.N) :
    (dats m 0 c).flushed 15 t = (cfg0.win 15).cut (grid0.coords t) (k0_pay93 (iblk m c 7 t) (k0_pay3 (iblk m c 8 t)) (dKeys (BitVec.ofNat 32 (grid0.coords t 0).val) (qAt m c t) (iblk m c 12 t) (iblk m c 10 t) (iblk m c 11 t) (kAt m c t) (vAt m c t))) := by
  have ht := pt_lt t
  by_cases h : 1 ≤ t.val
  · rw [flushed15_B m c t (by omega) h, out_B_15]
  · rw [flushed15_A m c t (by omega) h, out_A_15]

theorem flush16 (c : Dev nD) (t : Fin cfg0.N) :
    (dats m 0 c).flushed 16 t = (cfg0.win 16).cut (grid0.coords t) (k0_pay96 (dVals (BitVec.ofNat 32 (grid0.coords t 0).val) (qAt m c t) (iblk m c 12 t) (iblk m c 11 t) (kAt m c t))) := by
  have ht := pt_lt t
  by_cases h : 1 ≤ t.val
  · rw [flushed16_B m c t (by omega) h, out_B_16]
  · rw [flushed16_A m c t (by omega) h, out_A_16]

theorem flush17 (c : Dev nD) (t : Fin cfg0.N) :
    (dats m 0 c).flushed 17 t = (cfg0.win 17).cut (grid0.coords t) (k0_pay95 (dVals (BitVec.ofNat 32 (grid0.coords t 0).val) (qAt m c t) (iblk m c 12 t) (iblk m c 11 t) (kAt m c t))) := by
  have ht := pt_lt t
  by_cases h : 1 ≤ t.val
  · rw [flushed17_B m c t (by omega) h, out_B_17]
  · rw [flushed17_A m c t (by omega) h, out_A_17]

theorem read13_at (A : (⟨S4096x3072, .bf16⟩ : BufTy).Contents (Elt Ideal)) (t : Fin cfg0.N) (r : Fin 128) (j : Fin 512) :
    (((cfg0.win 13).blk t).view.read (Elt Ideal) A : FVec Ideal S128x512 .bf16) (ix2 r j)
      = A (ix2 ⟨t.val * 128 + r.val, by have := pt_lt t; omega⟩ ⟨j.val, by omega⟩) := by
  have hi := index13 t
  rw [View.read_apply]
  show A _ = A _
  refine congrArg _ (funext fun b => Fin.ext ?_)
  match b with
  | ⟨0, _⟩ => show win0_13.index t 0 * 128 + 1 * r.val = t.val * 128 + r.val; rw [hi.1]; omega
  | ⟨1, _⟩ => show win0_13.index t 1 * 512 + 1 * j.val = j.val; rw [hi.2]; omega

/-- The array at a row is what the row's point writes back. -/
theorem arr13 (c : Dev nD) (t : Fin cfg0.N) (r : Fin 128) (j : Fin 512) :
    ((dats m 0 c).arrAt 13 cfg0.N : (⟨S4096x3072, .bf16⟩ : BufTy).Contents (Elt Ideal))
        (ix2 ⟨t.val * 128 + r.val, by have := pt_lt t; omega⟩ ⟨j.val, by omega⟩)
      = (dqOut (iblk m c 5 t) (iblk m c 6 t) (dqHeads (BitVec.ofNat 32 (grid0.coords t 0).val) (qAt m c t) (iblk m c 12 t) (iblk m c 10 t) (iblk m c 11 t) (kAt m c t) (vAt m c t)) : FVec Ideal S128x512 .bf16) (ix2 r j) :=
  (read13_at ((dats m 0 c).arrAt 13 cfg0.N) t r j).symm.trans
    ((congrFun (blocks13 m c t (flush0_13 t)) (ix2 r j)).trans ((congrFun (flush13 m c t) (ix2 r j)).trans rfl))

theorem read14_at (A : (⟨S4096x128, .f32⟩ : BufTy).Contents (Elt Ideal)) (t : Fin cfg0.N) (r : Fin 128) (j : Fin 128) :
    (((cfg0.win 14).blk t).view.read (Elt Ideal) A : FVec Ideal S128x128 .f32) (ix2 r j)
      = A (ix2 ⟨t.val * 128 + r.val, by have := pt_lt t; omega⟩ j) := by
  have hi := index14 t
  rw [View.read_apply]
  show A _ = A _
  refine congrArg _ (funext fun b => Fin.ext ?_)
  match b with
  | ⟨0, _⟩ => show win0_14.index t 0 * 128 + 1 * r.val = t.val * 128 + r.val; rw [hi.1]; omega
  | ⟨1, _⟩ => show win0_14.index t 1 * 128 + 1 * j.val = j.val; rw [hi.2]; omega

/-- The array at a row is what the row's point writes back. -/
theorem arr14 (c : Dev nD) (t : Fin cfg0.N) (r : Fin 128) (j : Fin 128) :
    ((dats m 0 c).arrAt 14 cfg0.N : (⟨S4096x128, .f32⟩ : BufTy).Contents (Elt Ideal))
        (ix2 ⟨t.val * 128 + r.val, by have := pt_lt t; omega⟩ j)
      = (k0_pay94 (iblk m c 5 t) (k0_pay2 (iblk m c 6 t)) (dKeys (BitVec.ofNat 32 (grid0.coords t 0).val) (qAt m c t) (iblk m c 12 t) (iblk m c 10 t) (iblk m c 11 t) (kAt m c t) (vAt m c t)) : FVec Ideal S128x128 .f32) (ix2 r j) :=
  (read14_at ((dats m 0 c).arrAt 14 cfg0.N) t r j).symm.trans
    ((congrFun (blocks14 m c t (flush0_14 t)) (ix2 r j)).trans ((congrFun (flush14 m c t) (ix2 r j)).trans rfl))

theorem read15_at (A : (⟨S4096x128, .f32⟩ : BufTy).Contents (Elt Ideal)) (t : Fin cfg0.N) (r : Fin 128) (j : Fin 128) :
    (((cfg0.win 15).blk t).view.read (Elt Ideal) A : FVec Ideal S128x128 .f32) (ix2 r j)
      = A (ix2 ⟨t.val * 128 + r.val, by have := pt_lt t; omega⟩ j) := by
  have hi := index15 t
  rw [View.read_apply]
  show A _ = A _
  refine congrArg _ (funext fun b => Fin.ext ?_)
  match b with
  | ⟨0, _⟩ => show win0_15.index t 0 * 128 + 1 * r.val = t.val * 128 + r.val; rw [hi.1]; omega
  | ⟨1, _⟩ => show win0_15.index t 1 * 128 + 1 * j.val = j.val; rw [hi.2]; omega

/-- The array at a row is what the row's point writes back. -/
theorem arr15 (c : Dev nD) (t : Fin cfg0.N) (r : Fin 128) (j : Fin 128) :
    ((dats m 0 c).arrAt 15 cfg0.N : (⟨S4096x128, .f32⟩ : BufTy).Contents (Elt Ideal))
        (ix2 ⟨t.val * 128 + r.val, by have := pt_lt t; omega⟩ j)
      = (k0_pay93 (iblk m c 7 t) (k0_pay3 (iblk m c 8 t)) (dKeys (BitVec.ofNat 32 (grid0.coords t 0).val) (qAt m c t) (iblk m c 12 t) (iblk m c 10 t) (iblk m c 11 t) (kAt m c t) (vAt m c t)) : FVec Ideal S128x128 .f32) (ix2 r j) :=
  (read15_at ((dats m 0 c).arrAt 15 cfg0.N) t r j).symm.trans
    ((congrFun (blocks15 m c t (flush0_15 t)) (ix2 r j)).trans ((congrFun (flush15 m c t) (ix2 r j)).trans rfl))

theorem read16_at (A : (⟨S4096x128, .f32⟩ : BufTy).Contents (Elt Ideal)) (t : Fin cfg0.N) (r : Fin 128) (j : Fin 128) :
    (((cfg0.win 16).blk t).view.read (Elt Ideal) A : FVec Ideal S128x128 .f32) (ix2 r j)
      = A (ix2 ⟨t.val * 128 + r.val, by have := pt_lt t; omega⟩ j) := by
  have hi := index16 t
  rw [View.read_apply]
  show A _ = A _
  refine congrArg _ (funext fun b => Fin.ext ?_)
  match b with
  | ⟨0, _⟩ => show win0_16.index t 0 * 128 + 1 * r.val = t.val * 128 + r.val; rw [hi.1]; omega
  | ⟨1, _⟩ => show win0_16.index t 1 * 128 + 1 * j.val = j.val; rw [hi.2]; omega

/-- The array at a row is what the row's point writes back. -/
theorem arr16 (c : Dev nD) (t : Fin cfg0.N) (r : Fin 128) (j : Fin 128) :
    ((dats m 0 c).arrAt 16 cfg0.N : (⟨S4096x128, .f32⟩ : BufTy).Contents (Elt Ideal))
        (ix2 ⟨t.val * 128 + r.val, by have := pt_lt t; omega⟩ j)
      = (k0_pay96 (dVals (BitVec.ofNat 32 (grid0.coords t 0).val) (qAt m c t) (iblk m c 12 t) (iblk m c 11 t) (kAt m c t)) : FVec Ideal S128x128 .f32) (ix2 r j) :=
  (read16_at ((dats m 0 c).arrAt 16 cfg0.N) t r j).symm.trans
    ((congrFun (blocks16 m c t (flush0_16 t)) (ix2 r j)).trans ((congrFun (flush16 m c t) (ix2 r j)).trans rfl))

theorem read17_at (A : (⟨S4096x128, .f32⟩ : BufTy).Contents (Elt Ideal)) (t : Fin cfg0.N) (r : Fin 128) (j : Fin 128) :
    (((cfg0.win 17).blk t).view.read (Elt Ideal) A : FVec Ideal S128x128 .f32) (ix2 r j)
      = A (ix2 ⟨t.val * 128 + r.val, by have := pt_lt t; omega⟩ j) := by
  have hi := index17 t
  rw [View.read_apply]
  show A _ = A _
  refine congrArg _ (funext fun b => Fin.ext ?_)
  match b with
  | ⟨0, _⟩ => show win0_17.index t 0 * 128 + 1 * r.val = t.val * 128 + r.val; rw [hi.1]; omega
  | ⟨1, _⟩ => show win0_17.index t 1 * 128 + 1 * j.val = j.val; rw [hi.2]; omega

/-- The array at a row is what the row's point writes back. -/
theorem arr17 (c : Dev nD) (t : Fin cfg0.N) (r : Fin 128) (j : Fin 128) :
    ((dats m 0 c).arrAt 17 cfg0.N : (⟨S4096x128, .f32⟩ : BufTy).Contents (Elt Ideal))
        (ix2 ⟨t.val * 128 + r.val, by have := pt_lt t; omega⟩ j)
      = (k0_pay95 (dVals (BitVec.ofNat 32 (grid0.coords t 0).val) (qAt m c t) (iblk m c 12 t) (iblk m c 11 t) (kAt m c t)) : FVec Ideal S128x128 .f32) (ix2 r j) :=
  (read17_at ((dats m 0 c).arrAt 17 cfg0.N) t r j).symm.trans
    ((congrFun (blocks17 m c t (flush0_17 t)) (ix2 r j)).trans ((congrFun (flush17 m c t) (ix2 r j)).trans rfl))

/-! ### The arrays, as the results -/

variable {a : Data}

/-- The arguments of the program hold the numbers of `a`. -/
abbrev Args (a : Data) (c : Dev nD) : Prop :=
  HoldsK a (m ((c : Thread nD τ).loc main_arg0)) (m ((c : Thread nD τ).loc main_arg1)) (m ((c : Thread nD τ).loc main_arg2))
    (m ((c : Thread nD τ).loc main_arg3)) (m ((c : Thread nD τ).loc main_arg4))

/-- The point that writes row `t`. -/
def ptOf (t : Fin 4096) : Fin cfg0.N := ⟨t.val / 128, lt_of_lt_of_eq (show t.val / 128 < 32 by omega) N_0.symm⟩

/-- The row's place in its block. -/
def inBlk (t : Fin 4096) : Fin 128 := ⟨t.val % 128, Nat.mod_lt _ (by omega)⟩

theorem at_row (t : Fin 4096) (h : (ptOf t).val * 128 + (inBlk t).val < 4096) :
    (⟨(ptOf t).val * 128 + (inBlk t).val, h⟩ : Fin 4096) = t :=
  Fin.ext (show t.val / 128 * 128 + t.val % 128 = t.val by omega)

theorem dv_at (c : Dev nD) (H : Args m a c) (t : Fin cfg0.N) (k : Fin 256) (j : Fin 128) :
    (dVals (BitVec.ofNat 32 (grid0.coords t 0).val) (qAt m c t) (iblk m c 12 t) (iblk m c 11 t) (kAt m c t)) (ix2 k j) = ((dVB a t.val k.val (j.val / 64) (j.val % 64) : ℝ) : EReal) := by
  rw [coords0]
  exact dVals_at (pt_lt t) (blk_at m c H t) k j

theorem dk_at (c : Dev nD) (H : Args m a c) (t : Fin cfg0.N) (k : Fin 256) (j : Fin 128) :
    (dKeys (BitVec.ofNat 32 (grid0.coords t 0).val) (qAt m c t) (iblk m c 12 t) (iblk m c 10 t) (iblk m c 11 t) (kAt m c t) (vAt m c t)) (ix2 k j) = ((dKB a t.val k.val (j.val / 64) (j.val % 64) : ℝ) : EReal) := by
  rw [coords0]
  exact dKeys_at (pt_lt t) (blk_at m c H t) k j

theorem dq_at (c : Dev nD) (H : Args m a c) (t : Fin cfg0.N) (h : Fin 8) (q : Fin 128) (j : Fin 128) :
    (dqHeads (BitVec.ofNat 32 (grid0.coords t 0).val) (qAt m c t) (iblk m c 12 t) (iblk m c 10 t) (iblk m c 11 t) (kAt m c t) (vAt m c t)) (ix3 h q j)
      = ((∑ k : Fin 256, dS a t.val h.val q.val k.val * KB a t.val k.val (j.val / 64) (j.val % 64) : ℝ) : EReal) := by
  rw [coords0]
  exact dqHeads_at (pt_lt t) (blk_at m c H t) h q j

theorem arr13_at (c : Dev nD) (H : Args m a c) (t : Fin 4096) (j : Fin 3072) (hj : j.val < 512) :
    ((dats m 0 c).arrAt 13 cfg0.N : (⟨S4096x3072, .bf16⟩ : BufTy).Contents (Elt Ideal)) (ix2 t j) = ((rDq a t.val j.val : ℝ) : EReal) := by
  have h := arr13 m c (ptOf t) (inBlk t) ⟨j.val, hj⟩
  rw [at_row t] at h
  refine h.trans ((dqOut_at (blk_at m c H (ptOf t)) _
    (fun h q c => ∑ k : Fin 256, dS a (ptOf t).val h q k.val * KB a (ptOf t).val k.val (c / 64) (c % 64))
    (dq_at m c H (ptOf t)) (inBlk t) ⟨j.val, hj⟩).trans (congrArg _ ?_))
  unfold rDq dQ
  dsimp only
  rw [show (ptOf t).val = t.val / 128 from rfl, show (inBlk t).val = t.val % 128 from rfl,
    show t.val / 128 * 128 + t.val % 128 = t.val by omega]
  refine rotT_congr a _ (Nat.mod_lt _ (by omega)) fun e he => ?_
  rw [show (j.val / 256 * 64 + e) / 64 = j.val / 64 / 4 by omega, show (j.val / 256 * 64 + e) % 64 = e by omega]

theorem arr14_at (c : Dev nD) (H : Args m a c) (t : Fin 4096) (j : Fin 128) :
    ((dats m 0 c).arrAt 14 cfg0.N : (⟨S4096x128, .f32⟩ : BufTy).Contents (Elt Ideal)) (ix2 t j) = ((rDkc a t.val j.val : ℝ) : EReal) := by
  have h := arr14 m c (ptOf t) (inBlk t) j
  rw [at_row t] at h
  refine h.trans ((dkc_at (blk_at m c H (ptOf t)) _ (fun k c => dKB a (ptOf t).val k (c / 64) (c % 64))
    (dk_at m c H (ptOf t)) (inBlk t) j).trans (congrArg _ ?_))
  unfold rDkc
  rw [show (ptOf t).val = t.val / 128 from rfl, show (inBlk t).val = t.val % 128 from rfl,
    show t.val / 128 * 128 + t.val % 128 = t.val by omega]
  refine rotT_congr a _ (Nat.mod_lt _ (by omega)) fun e he => ?_
  rw [show (j.val / 64 * 64 + e) / 64 = j.val / 64 by omega, show (j.val / 64 * 64 + e) % 64 = e by omega]

theorem arr15_at (c : Dev nD) (H : Args m a c) (t : Fin 4096) (j : Fin 128) :
    ((dats m 0 c).arrAt 15 cfg0.N : (⟨S4096x128, .f32⟩ : BufTy).Contents (Elt Ideal)) (ix2 t j) = ((rDkp a t.val j.val : ℝ) : EReal) := by
  have h := arr15 m c (ptOf t) (inBlk t) j
  rw [at_row t] at h
  refine h.trans ((dkp_at (blk_at m c H (ptOf t)) _ (fun k c => dKB a (ptOf t).val k (c / 64) (c % 64))
    (dk_at m c H (ptOf t)) (inBlk t) j).trans (congrArg _ ?_))
  unfold rDkp prow
  rw [show (ptOf t).val = t.val / 128 from rfl, show (inBlk t).val = t.val % 128 from rfl]
  by_cases ht : t.val < 128
  · rw [if_pos ht, show t.val / 128 = 0 by omega]
    refine (rotT_congr a (z := fun _ => 0) _ (Nat.mod_lt _ (by omega)) fun e he => ?_).trans (rotT_zero a _ _)
    exact dKB_zero a _ _ _ (Nat.mod_lt _ (by omega))
  · rw [if_neg ht, show (t.val / 128 - 1) * 128 + t.val % 128 = t.val - 128 by omega]
    refine rotT_congr a _ (Nat.mod_lt _ (by omega)) fun e he => ?_
    rw [show (j.val / 64 * 64 + e) / 64 = j.val / 64 by omega, show (j.val / 64 * 64 + e) % 64 = e by omega]

theorem arr16_at (c : Dev nD) (H : Args m a c) (t : Fin 4096) (j : Fin 128) :
    ((dats m 0 c).arrAt 16 cfg0.N : (⟨S4096x128, .f32⟩ : BufTy).Contents (Elt Ideal)) (ix2 t j) = ((rDvc a t.val j.val : ℝ) : EReal) := by
  have h := arr16 m c (ptOf t) (inBlk t) j
  rw [at_row t] at h
  refine h.trans (Eq.trans ?_ (dv_at m c H (ptOf t) ⟨128 + (inBlk t).val, by omega⟩ j))
  pointwise [k0_pay96]

theorem arr17_at (c : Dev nD) (H : Args m a c) (t : Fin 4096) (j : Fin 128) :
    ((dats m 0 c).arrAt 17 cfg0.N : (⟨S4096x128, .f32⟩ : BufTy).Contents (Elt Ideal)) (ix2 t j) = ((rDvp a t.val j.val : ℝ) : EReal) := by
  have h := arr17 m c (ptOf t) (inBlk t) j
  rw [at_row t] at h
  refine h.trans ((Eq.trans ?_ (dv_at m c H (ptOf t) ⟨(inBlk t).val, by omega⟩ j)).trans (congrArg _ ?_))
  · pointwise [k0_pay95]
  · unfold rDvp
    rw [show (ptOf t).val = t.val / 128 from rfl, show (inBlk t).val = t.val % 128 from rfl]
    by_cases ht : t.val < 128
    · rw [if_pos ht, show t.val / 128 = 0 by omega]
      exact dVB_zero a _ _ _ (Nat.mod_lt _ (by omega))
    · rw [if_neg ht]

/-! ### The sinks' gradient, accumulated over the points -/

theorem sinkAt0_at (x : Vec Ideal S8x128 .f32) : sinkAt0 x (ix2 0 0) = x (ix2 0 0) := by
  unfold sinkAt0 View.ld
  refine congrArg x (funext fun b => ?_)
  match b with
  | ⟨0, _⟩ => rfl
  | ⟨1, _⟩ => rfl

theorem sinkAt1_at (x : Vec Ideal S8x128 .f32) : sinkAt1 x (ix2 0 0) = x (ix2 1 0) := by
  unfold sinkAt1 View.ld
  refine congrArg x (funext fun b => ?_)
  match b with
  | ⟨0, _⟩ => rfl
  | ⟨1, _⟩ => rfl

theorem sinkAt2_at (x : Vec Ideal S8x128 .f32) : sinkAt2 x (ix2 0 0) = x (ix2 2 0) := by
  unfold sinkAt2 View.ld
  refine congrArg x (funext fun b => ?_)
  match b with
  | ⟨0, _⟩ => rfl
  | ⟨1, _⟩ => rfl

theorem sinkAt3_at (x : Vec Ideal S8x128 .f32) : sinkAt3 x (ix2 0 0) = x (ix2 3 0) := by
  unfold sinkAt3 View.ld
  refine congrArg x (funext fun b => ?_)
  match b with
  | ⟨0, _⟩ => rfl
  | ⟨1, _⟩ => rfl

theorem sinkAt4_at (x : Vec Ideal S8x128 .f32) : sinkAt4 x (ix2 0 0) = x (ix2 4 0) := by
  unfold sinkAt4 View.ld
  refine congrArg x (funext fun b => ?_)
  match b with
  | ⟨0, _⟩ => rfl
  | ⟨1, _⟩ => rfl

theorem sinkAt5_at (x : Vec Ideal S8x128 .f32) : sinkAt5 x (ix2 0 0) = x (ix2 5 0) := by
  unfold sinkAt5 View.ld
  refine congrArg x (funext fun b => ?_)
  match b with
  | ⟨0, _⟩ => rfl
  | ⟨1, _⟩ => rfl

theorem sinkAt6_at (x : Vec Ideal S8x128 .f32) : sinkAt6 x (ix2 0 0) = x (ix2 6 0) := by
  unfold sinkAt6 View.ld
  refine congrArg x (funext fun b => ?_)
  match b with
  | ⟨0, _⟩ => rfl
  | ⟨1, _⟩ => rfl

theorem sinkAt7_at (x : Vec Ideal S8x128 .f32) : sinkAt7 x (ix2 0 0) = x (ix2 7 0) := by
  unfold sinkAt7 View.ld
  refine congrArg x (funext fun b => ?_)
  match b with
  | ⟨0, _⟩ => rfl
  | ⟨1, _⟩ => rfl

/-- One point's part, over the eight sinks one by one. -/
theorem heads_at {mm : ℕ → ℕ → ℕ → ℝ} {n : ℕ} {x0 : FVec Ideal S128x512 .f32} {x1 x2 x3 x4 x5 x6 x7 x8 : FVec Ideal S128x128 .f32}
    {x9 : FVec Ideal S8x128 .f32} {x10 : FVec Ideal S128x512 .f32} {x11 : FVec Ideal S128x8 .f32} {x12 : FVec Ideal S128x512 .f32}
    (B : Blk a mm n x0 x1 x2 x3 x4 x5 x6 x7 x8 x9 x10 x11 x12) (h : Fin 8) :
    asRow (dsHeads x12 x10 x11 (sinkAt0 (F := Ideal) x9) (sinkAt1 (F := Ideal) x9) (sinkAt2 (F := Ideal) x9) (sinkAt3 (F := Ideal) x9) (sinkAt4 (F := Ideal) x9) (sinkAt5 (F := Ideal) x9) (sinkAt6 (F := Ideal) x9) (sinkAt7 (F := Ideal) x9)) (ix2 0 h) = ((dsk a n h.val : ℝ) : EReal) := by
  rw [asRow_at]
  have h0 := (sinkAt0_at x9).trans (B.snk 0 0)
  have h1 := (sinkAt1_at x9).trans (B.snk 1 0)
  have h2 := (sinkAt2_at x9).trans (B.snk 2 0)
  have h3 := (sinkAt3_at x9).trans (B.snk 3 0)
  have h4 := (sinkAt4_at x9).trans (B.snk 4 0)
  have h5 := (sinkAt5_at x9).trans (B.snk 5 0)
  have h6 := (sinkAt6_at x9).trans (B.snk 6 0)
  have h7 := (sinkAt7_at x9).trans (B.snk 7 0)
  generalize sinkAt0 (F := Ideal) x9 = s0 at h0 ⊢
  generalize sinkAt1 (F := Ideal) x9 = s1 at h1 ⊢
  generalize sinkAt2 (F := Ideal) x9 = s2 at h2 ⊢
  generalize sinkAt3 (F := Ideal) x9 = s3 at h3 ⊢
  generalize sinkAt4 (F := Ideal) x9 = s4 at h4 ⊢
  generalize sinkAt5 (F := Ideal) x9 = s5 at h5 ⊢
  generalize sinkAt6 (F := Ideal) x9 = s6 at h6 ⊢
  generalize sinkAt7 (F := Ideal) x9 = s7 at h7 ⊢
  exact dsHeads_at B ![s0, s1, s2, s3, s4, s5, s6, s7] (fun h => by fin_cases h <;> assumption) h

theorem row_at (c : Dev nD) (H : Args m a c) (t : Fin cfg0.N) (h : Fin 8) :
    (asRow (dsHeads (iblk m c 12 t) (iblk m c 10 t) (iblk m c 11 t) (sinkAt0 (iblk m c 9 t)) (sinkAt1 (iblk m c 9 t)) (sinkAt2 (iblk m c 9 t)) (sinkAt3 (iblk m c 9 t)) (sinkAt4 (iblk m c 9 t)) (sinkAt5 (iblk m c 9 t)) (sinkAt6 (iblk m c 9 t)) (sinkAt7 (iblk m c 9 t)))) (ix2 0 h) = ((dsk a t.val h.val : ℝ) : EReal) :=
  heads_at (blk_at m c H t) h

theorem add_at (y x : FVec Ideal S1x8 .f32) (h : Fin 8) : k0_pay1 y x (ix2 0 h) = x (ix2 0 h) + y (ix2 0 h) := by
  pointwise [k0_pay1]

/-- After point `n` the row holds the sum over the points up to `n`. -/
theorem acc_at (c : Dev nD) (H : Args m a c) (h : Fin 8) : ∀ (n : ℕ) (hn : n < cfg0.N),
    ((outsAt0 m c n hn).2.2.2.2.2 : FVec Ideal S1x8 .f32) (ix2 0 h) = ((∑ i ∈ Finset.range (n + 1), dsk a i h.val : ℝ) : EReal)
  | 0, hn => by
    have e := outsAt0_A m c ⟨0, hn⟩ rfl (by show ¬1 ≤ 0; omega)
    dsimp only at e
    rw [e]
    dsimp only
    rw [out_A_18, Finset.sum_range_one]
    exact row_at m c H ⟨0, hn⟩ h
  | n + 1, hn => by
    have hlt : n + 1 < 32 := pt_lt ⟨n + 1, hn⟩
    have e := outsAt0_B m c ⟨n + 1, hn⟩ (by dsimp only; omega) (by dsimp only; omega)
    dsimp only at e
    rw [e]
    dsimp only
    rw [out_B_18, Finset.sum_range_succ, EReal.coe_add, ← acc_at c H h n (Nat.lt_of_succ_lt hn), ← row_at m c H ⟨n + 1, hn⟩ h]
    exact add_at _ _ h

theorem read18_at (A : (⟨S1x8, .f32⟩ : BufTy).Contents (Elt Ideal)) (t : Fin cfg0.N) (h : Fin 8) :
    (((cfg0.win 18).blk t).view.read (Elt Ideal) A : FVec Ideal S1x8 .f32) (ix2 0 h) = A (ix2 0 h) := by
  have hi := index18 t
  rw [View.read_apply]
  show A _ = A _
  refine congrArg _ (funext fun b => Fin.ext ?_)
  match b with
  | ⟨0, _⟩ => show win0_18.index t 0 * 1 + 1 * 0 = 0; rw [hi.1]
  | ⟨1, _⟩ => show win0_18.index t 1 * 8 + 1 * h.val = h.val; rw [hi.2]; omega

/-- The last point. -/
def last : Fin cfg0.N := ⟨31, by rw [show cfg0.N = 32 from N_0]; decide⟩

theorem arr18_at (c : Dev nD) (H : Args m a c) (h : Fin 8) :
    ((dats m 0 c).arrAt 18 cfg0.N : (⟨S1x8, .f32⟩ : BufTy).Contents (Elt Ideal)) (ix2 0 h) = ((rDsink a h.val : ℝ) : EReal) := by
  have hd : ∀ t t' : Fin cfg0.N, (cfg0.win 18).flush t = true → (cfg0.win 18).flush t' = true → t ≠ t' →
      Disjoint ((cfg0.win 18).blk t).view.set ((cfg0.win 18).blk t').view.set := fun t t' h1 h2 hne => by
    have e1 := (flush0_18 t).mp h1
    have e2 := (flush0_18 t').mp h2
    have l1 := pt_lt t
    have l2 := pt_lt t'
    exact absurd (Fin.ext (by omega)) hne
  have hb := (dats m 0 c).read_blk_arrAt_eq_flushed 18 hd cfg0.N last last.isLt ((flush0_18 last).mpr rfl)
  refine (read18_at ((dats m 0 c).arrAt 18 cfg0.N) last h).symm.trans ((congrFun hb (ix2 0 h)).trans
    ((congrFun (flushed18 m c last) (ix2 0 h)).trans ?_))
  refine Eq.trans ?_ ((acc_at m c H h 31 last.isLt).trans (congrArg _ ?_))
  · rfl
  · unfold rDsink
    exact Finset.sum_range _

end AttnBwd
-- ==== Proof.RefResults.lean ====
/- The reference's six results at an index. -/
module

public import proofs.«01_k».proof.Proof.RefSoftmax

@[expose] public section

set_option maxRecDepth 16384

noncomputable section

namespace AttnBwd

open Idealize.ShloMosaic Cert.ReferenceIdeal Cert.ReferenceIdeal.Gen Cert.ReferenceIdeal.Read

variable {a : Data} {x0 : (⟨S4096x3072, .f32⟩ : BufTy).Contents (Elt Ideal)}
    {x1 x2 : (⟨S4096x32, .f32⟩ : BufTy).Contents (Elt Ideal)} {x3 : (⟨S8, .f32⟩ : BufTy).Contents (Elt Ideal)}
    {x4 : (⟨S4096x1024, .f32⟩ : BufTy).Contents (Elt Ideal)}

theorem v113_at (H : Holds a x0 x1 x2 x3 x4) (n : Fin 32) (g : Fin 2) (r : Fin 4) (q : Fin 128) (k : Fin 256) :
    val_main_v113 (F := Ideal) x0 x1 x2 x3 x4 (ix6 0 n g r q k)
      = ((dS a n.val (g.val * 4 + r.val) q.val k.val / 8 : ℝ) : EReal) := by
  pointwise [val_main_v113, val_main_v112, val_main_v111, val_main_call1_v0, val_main_call1_cst, val_main_cst_17, val_main_v106, val_main_v64_1, val_main_v63]
  have h8 : Ideal.ofBits FTy.f32 1040187392#32 = ((1 / 8 : ℝ) : EReal) := by
    simp [Ideal.ofBits, Ideal.ieee, -EReal.coe_mul]; norm_num
  rw [v62_at]
  by_cases hm : msk n.val q.val k.val
  · rw [if_pos hm]
    show _ * _ = _
    rw [h8, v105_at H, ← EReal.coe_mul, EReal.coe_eq_coe_iff, mul_one_div, if_pos k.isLt]
  · rw [if_neg hm, dS_of_not_msk a _ _ _ _ hm, zero_div]
    rfl

theorem v115_at (H : Holds a x0 x1 x2 x3 x4) (n : Fin 32) (g : Fin 2) (q : Fin 128) (r : Fin 4) (d : Fin 64) :
    val_main_v115 (F := Ideal) x0 x1 x2 x3 x4 (ix6 0 n g q r d)
      = ((dQ a n.val q.val (g.val * 4 + r.val) d.val : ℝ) : EReal) := by
  pointwise [val_main_v115, val_main_v114]
  unfold dQ
  simp only [v113_at H, v28_at H, ← EReal.coe_mul, ← coe_sum]
  rw [EReal.coe_eq_coe_iff, Finset.sum_div, show (g.val * 4 + r.val) / 4 = g.val by omega]
  exact Finset.sum_congr rfl fun k _ => by ring

theorem v117_at (H : Holds a x0 x1 x2 x3 x4) (n : Fin 32) (g : Fin 2) (k : Fin 256) (d : Fin 64) :
    val_main_v117 (F := Ideal) x0 x1 x2 x3 x4 (ix5 0 n g k d) = ((dKB a n.val k.val g.val d.val : ℝ) : EReal) := by
  pointwise [val_main_v117, val_main_v114]
  unfold dKB
  simp only [v113_at H, v39_at H, ← EReal.coe_mul, ← coe_sum]
  rw [EReal.coe_eq_coe_iff, Finset.sum_comm]
  exact Finset.sum_congr rfl fun r _ => Finset.sum_congr rfl fun q _ => by ring

/-- The gradient of the rotated heads, in the order in which the reference stacks them. -/
def Y (a : Data) (t h d : ℕ) : ℝ :=
  if h < 8 then dQ a (t / 128) (t % 128) h d
  else if h < 10 then (if t < 3968 then dKB a (t / 128 + 1) (t % 128) (h - 8) d else 0)
  else dKB a (t / 128) (128 + t % 128) (h - 10) d

theorem v119_at (H : Holds a x0 x1 x2 x3 x4) (t : Fin 4096) (h : Fin 8) (d : Fin 64) :
    val_main_v119 (F := Ideal) x0 x1 x2 x3 x4 (ix4 0 t h d)
      = ((dQ a (t.val / 128) (t.val % 128) h.val d.val : ℝ) : EReal) := by
  pointwise [val_main_v119, val_main_v116]
  refine (v115_at H _ _ _ _ _).trans ?_
  dsimp only
  rw [show h.val / 4 * 4 + h.val % 4 = h.val by omega]

theorem v132_at (H : Holds a x0 x1 x2 x3 x4) (t : Fin 4096) (g : Fin 2) (d : Fin 64) :
    val_main_v132 (F := Ideal) x0 x1 x2 x3 x4 (ix4 0 t g d)
      = ((dKB a (t.val / 128) (128 + t.val % 128) g.val d.val : ℝ) : EReal) := by
  pointwise [val_main_v132, val_main_v131, val_main_v118]
  exact v117_at H _ _ _ _

theorem v136_at (H : Holds a x0 x1 x2 x3 x4) (t : Fin 4096) (g : Fin 2) (d : Fin 64) :
    val_main_v136 (F := Ideal) x0 x1 x2 x3 x4 (ix4 0 t g d)
      = (((if t.val < 3968 then dKB a (t.val / 128 + 1) (t.val % 128) g.val d.val else 0) : ℝ) : EReal) := by
  pointwise [val_main_v136, val_main_v135, val_main_v133, val_main_v130, val_main_v118, val_main_cst_20]
  by_cases h : t.val < 3968
  · rw [dif_pos h, if_pos h]
    refine (v117_at H _ _ _ _).trans ?_
    dsimp only
    rw [show (128 + t.val) / 128 = t.val / 128 + 1 by omega, show (128 + t.val) % 128 = t.val % 128 by omega]
  · rw [dif_neg h, if_neg h]
    rfl

theorem v140_at (H : Holds a x0 x1 x2 x3 x4) (t : Fin 4096) (h : Fin 12) (d : Fin 64) :
    val_main_v140 (F := Ideal) x0 x1 x2 x3 x4 (ix4 0 t h d) = ((Y a t.val h.val d.val : ℝ) : EReal) := by
  pointwise [val_main_v140, val_main_v139, val_main_v138, val_main_v137, val_main_v120, val_main_cst_18, val_main_cst_21, val_main_cst_22]
  unfold Y
  have hh := h.isLt
  by_cases h8 : h.val < 8
  · have e1 : ¬(10 ≤ h.val ∧ h.val - 10 < 2) := by omega
    have e2 : ¬(8 ≤ h.val ∧ h.val - 8 < 2) := by omega
    simp only [h8, e1, e2, dite_true, dite_false, if_true, add_zero]
    exact v119_at H t ⟨h.val, h8⟩ d
  · by_cases h10 : h.val < 10
    · have e1 : ¬(10 ≤ h.val ∧ h.val - 10 < 2) := by omega
      have e2 : 8 ≤ h.val ∧ h.val - 8 < 2 := by omega
      simp only [h8, h10, e1, dite_false, if_false, if_true, add_zero, zero_add]
      rw [dif_pos e2]
      exact v136_at H t ⟨h.val - 8, e2.2⟩ d
    · have e1 : 10 ≤ h.val ∧ h.val - 10 < 2 := by omega
      have e2 : ¬(8 ≤ h.val ∧ h.val - 8 < 2) := by omega
      simp only [h8, h10, e2, dite_false, if_false, add_zero, zero_add]
      rw [dif_pos e1]
      exact v132_at H t ⟨h.val - 10, e1.2⟩ d

theorem v157_at (H : Holds a x0 x1 x2 x3 x4) (t : Fin 4096) (c : Fin 768) :
    val_main_v157 (F := Ideal) x0 x1 x2 x3 x4 (ix2 t c)
      = ((rotT a (Y a t.val (c.val / 64)) t.val (c.val % 64) : ℝ) : EReal) := by
  pointwise [val_main_v157, val_main_v156, val_main_v155, val_main_v154, val_main_v153, val_main_v152, val_main_v151, val_main_v150, val_main_v149, val_main_v148, val_main_v147, val_main_v146, val_main_v145, val_main_v144, val_main_v143, val_main_v142, val_main_v141, val_main_cst_23, val_main_cst_24, val_main_v5, val_main_v6]
  simp only [v140_at H, H.co, H.si, ← EReal.coe_mul, ← EReal.coe_add, ← EReal.coe_neg]
  unfold rotT
  have hc := c.isLt
  by_cases hd : c.val % 64 < 32
  · have e1 : ¬(c.val / 64 < 12 ∧ 32 ≤ c.val % 64 ∧ c.val % 64 - 32 < 32) := by omega
    have e2 : c.val / 64 < 12 ∧ c.val % 64 < 32 := by omega
    rw [dif_neg e1, dif_pos e2, if_pos hd, zero_add, EReal.coe_eq_coe_iff, Nat.add_comm 32]
    ring
  · have e1 : c.val / 64 < 12 ∧ 32 ≤ c.val % 64 ∧ c.val % 64 - 32 < 32 := by omega
    have e2 : ¬(c.val / 64 < 12 ∧ c.val % 64 < 32) := by omega
    rw [dif_pos e1, dif_neg e2, if_neg hd, add_zero, EReal.coe_eq_coe_iff,
      show 32 + (c.val % 64 - 32) = c.val % 64 by omega]
    ring

theorem v163_at (H : Holds a x0 x1 x2 x3 x4) (t : Fin 4096) (c : Fin 3072) (hc : c.val < 512) :
    val_main_v163 (F := Ideal) x0 x1 x2 x3 x4 (ix2 t c) = ((rDq a t.val c.val : ℝ) : EReal) := by
  pointwise [val_main_v163, val_main_v162, val_main_v158]
  rw [dif_pos hc]
  refine (v157_at H _ _).trans ?_
  unfold rDq Y
  dsimp only
  simp only [show c.val / 64 < 8 by omega, if_true]

theorem v160_at (H : Holds a x0 x1 x2 x3 x4) (t : Fin 4096) (c : Fin 128) :
    val_main_v160 (F := Ideal) x0 x1 x2 x3 x4 (ix2 t c) = ((rDkc a t.val c.val : ℝ) : EReal) := by
  pointwise [val_main_v160]
  refine (v157_at H _ _).trans ?_
  unfold rDkc Y
  dsimp only
  simp only [show ¬(640 + c.val) / 64 < 8 by omega, show ¬(640 + c.val) / 64 < 10 by omega, if_false,
    show (640 + c.val) / 64 - 10 = c.val / 64 by omega, show (640 + c.val) % 64 = c.val % 64 by omega]

theorem v166_at (H : Holds a x0 x1 x2 x3 x4) (t : Fin 4096) (c : Fin 128) :
    val_main_v166 (F := Ideal) x0 x1 x2 x3 x4 (ix2 t c) = ((rDkp a t.val c.val : ℝ) : EReal) := by
  pointwise [val_main_v166, val_main_v165, val_main_v164, val_main_v159, val_main_cst_26]
  unfold rDkp
  have ht := t.isLt
  have hc := c.isLt
  split
  · rfl
  · refine (v157_at H _ _).trans ?_
    unfold Y
    dsimp only
    simp only [show ¬(512 + c.val) / 64 < 8 by omega, show (512 + c.val) / 64 < 10 by omega, if_false, if_true,
      show (512 + c.val) / 64 - 8 = c.val / 64 by omega, show (512 + c.val) % 64 = c.val % 64 by omega,
      show t.val - 128 < 3968 by omega, show (t.val - 128) / 128 + 1 = t.val / 128 by omega,
      show (t.val - 128) % 128 = t.val % 128 by omega]

theorem v128_at (H : Holds a x0 x1 x2 x3 x4) (t : Fin 4096) (c : Fin 128) :
    val_main_v128 (F := Ideal) x0 x1 x2 x3 x4 (ix2 t c) = ((rDvc a t.val c.val : ℝ) : EReal) := by
  pointwise [val_main_v128, val_main_v123, val_main_v122, val_main_v91]
  exact v90_at H _ _ _ _

theorem v169_at (H : Holds a x0 x1 x2 x3 x4) (t : Fin 4096) (c : Fin 128) :
    val_main_v169 (F := Ideal) x0 x1 x2 x3 x4 (ix2 t c) = ((rDvp a t.val c.val : ℝ) : EReal) := by
  pointwise [val_main_v169, val_main_v168, val_main_v167, val_main_v129, val_main_v127, val_main_v126, val_main_v124, val_main_v121, val_main_v91, val_main_cst_27, val_main_cst_19]
  unfold rDvp
  have ht := t.isLt
  have hc := c.isLt
  by_cases h : t.val < 128
  · simp only [h, dite_true, if_true]
    rfl
  · simp only [h, dite_false, if_false]
    rw [dif_pos (by omega)]
    refine (v90_at H _ _ _ _).trans ?_
    dsimp only
    rw [show (128 + (t.val - 128)) / 128 = t.val / 128 by omega, show (128 + (t.val - 128)) % 128 = t.val % 128 by omega]

theorem v170_at (H : Holds a x0 x1 x2 x3 x4) (h : Fin 8) :
    val_main_v170 (F := Ideal) x0 x1 x2 x3 x4 (ix2 0 h) = ((rDsink a h.val : ℝ) : EReal) := by
  pointwise [val_main_v170, val_main_v110, val_main_v109]
  refine (v108_at H _ _).trans ?_
  dsimp only
  rw [show h.val / 4 * 4 + h.val % 4 = h.val by omega]

end AttnBwd

end
-- ==== Proof.RefEq.lean ====
/- The shared intermediate arrays that the reference's run names, and its six results, are the arrays that `RefTerms`
   writes as functions of the five arguments. Each is taken in the order it is computed. -/
module

public import proofs.«01_k».proof.Proof.RefTerms
public import proofs.«01_k».proof.Proof.Gen.ReferenceIdeal.Run

@[expose] public section

set_option maxRecDepth 16384

noncomputable section

namespace Cert.ReferenceIdeal.Read

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

theorem res_main_v1_eq (V0 : Valuation τ sig (Elt F)) :
    res_main_v1 V0 = (val_main_v1 (F := F) (V0 (Proc.devRef .tc main_arg0))) := by
  unfold res_main_v1
  rfl

theorem res_main_v2_eq (V0 : Valuation τ sig (Elt F)) :
    res_main_v2 V0 = (val_main_v2 (F := F) (V0 (Proc.devRef .tc main_arg0))) := by
  unfold res_main_v2
  rfl

theorem res_main_v4_eq (V0 : Valuation τ sig (Elt F)) :
    res_main_v4 V0 = (val_main_v4 (F := F) (V0 (Proc.devRef .tc main_arg0))) := by
  unfold res_main_v4
  simp only [res_main_v1_eq]
  rfl

theorem res_main_v5_eq (V0 : Valuation τ sig (Elt F)) :
    res_main_v5 V0 = (val_main_v5 (F := F) (V0 (Proc.devRef .tc main_arg1))) := by
  unfold res_main_v5
  rfl

theorem res_main_v6_eq (V0 : Valuation τ sig (Elt F)) :
    res_main_v6 V0 = (val_main_v6 (F := F) (V0 (Proc.devRef .tc main_arg2))) := by
  unfold res_main_v6
  rfl

theorem res_main_v7_eq (V0 : Valuation τ sig (Elt F)) :
    res_main_v7 V0 = (val_main_v7 (F := F) (V0 (Proc.devRef .tc main_arg0))) := by
  unfold res_main_v7
  simp only [res_main_v4_eq]
  rfl

theorem res_main_v8_eq (V0 : Valuation τ sig (Elt F)) :
    res_main_v8 V0 = (val_main_v8 (F := F) (V0 (Proc.devRef .tc main_arg0))) := by
  unfold res_main_v8
  simp only [res_main_v4_eq]
  rfl

theorem res_main_v19_eq (V0 : Valuation τ sig (Elt F)) :
    res_main_v19 V0 = (val_main_v19 (F := F) (V0 (Proc.devRef .tc main_arg0)) (V0 (Proc.devRef .tc main_arg1)) (V0 (Proc.devRef .tc main_arg2))) := by
  unfold res_main_v19
  simp only [res_main_v5_eq, res_main_v6_eq, res_main_v7_eq, res_main_v8_eq]
  rfl

theorem res_main_v28_eq (V0 : Valuation τ sig (Elt F)) :
    res_main_v28 V0 = (val_main_v28 (F := F) (V0 (Proc.devRef .tc main_arg0)) (V0 (Proc.devRef .tc main_arg1)) (V0 (Proc.devRef .tc main_arg2))) := by
  unfold res_main_v28
  simp only [res_main_v19_eq]
  rfl

theorem res_main_v37_eq (V0 : Valuation τ sig (Elt F)) :
    res_main_v37 V0 = (val_main_v37 (F := F) (V0 (Proc.devRef .tc main_arg0))) := by
  unfold res_main_v37
  simp only [res_main_v2_eq]
  rfl

theorem res_main_v39_eq (V0 : Valuation τ sig (Elt F)) :
    res_main_v39 V0 = (val_main_v39 (F := F) (V0 (Proc.devRef .tc main_arg0)) (V0 (Proc.devRef .tc main_arg1)) (V0 (Proc.devRef .tc main_arg2))) := by
  unfold res_main_v39
  simp only [res_main_v19_eq]
  rfl

theorem res_main_v46_eq (V0 : Valuation τ sig (Elt F)) :
    res_main_v46 V0 = (val_main_v46 (F := F)) := by
  unfold res_main_v46
  rfl

theorem res_main_v49_eq (V0 : Valuation τ sig (Elt F)) :
    res_main_v49 V0 = (val_main_v49 (F := F)) := by
  unfold res_main_v49
  simp only [res_main_v46_eq]
  rfl

theorem res_main_v64_1_eq (V0 : Valuation τ sig (Elt F)) :
    res_main_v64_1 V0 = (val_main_v64_1 (F := F)) := by
  unfold res_main_v64_1
  simp only [res_main_v46_eq, res_main_v49_eq]
  rfl

theorem res_main_v67_eq (V0 : Valuation τ sig (Elt F)) :
    res_main_v67 V0 = (val_main_v67 (F := F) (V0 (Proc.devRef .tc main_arg0)) (V0 (Proc.devRef .tc main_arg1)) (V0 (Proc.devRef .tc main_arg2)) (V0 (Proc.devRef .tc main_arg3))) := by
  unfold res_main_v67
  simp only [res_main_v28_eq, res_main_v39_eq, res_main_v64_1_eq]
  rfl

theorem res_main_v72_eq (V0 : Valuation τ sig (Elt F)) :
    res_main_v72 V0 = (val_main_v72 (F := F) (V0 (Proc.devRef .tc main_arg0)) (V0 (Proc.devRef .tc main_arg1)) (V0 (Proc.devRef .tc main_arg2)) (V0 (Proc.devRef .tc main_arg3))) := by
  unfold res_main_v72
  simp only [res_main_v67_eq]
  rfl

theorem res_main_v74_eq (V0 : Valuation τ sig (Elt F)) :
    res_main_v74 V0 = (val_main_v74 (F := F) (V0 (Proc.devRef .tc main_arg0)) (V0 (Proc.devRef .tc main_arg1)) (V0 (Proc.devRef .tc main_arg2)) (V0 (Proc.devRef .tc main_arg3))) := by
  unfold res_main_v74
  simp only [res_main_v72_eq]
  rfl

theorem res_main_v80_eq (V0 : Valuation τ sig (Elt F)) :
    res_main_v80 V0 = (val_main_v80 (F := F) (V0 (Proc.devRef .tc main_arg0)) (V0 (Proc.devRef .tc main_arg1)) (V0 (Proc.devRef .tc main_arg2)) (V0 (Proc.devRef .tc main_arg3))) := by
  unfold res_main_v80
  simp only [res_main_v72_eq, res_main_v74_eq]
  rfl

theorem res_main_v88_eq (V0 : Valuation τ sig (Elt F)) :
    res_main_v88 V0 = (val_main_v88 (F := F) (V0 (Proc.devRef .tc main_arg4))) := by
  unfold res_main_v88
  rfl

theorem res_main_v91_eq (V0 : Valuation τ sig (Elt F)) :
    res_main_v91 V0 = (val_main_v91 (F := F) (V0 (Proc.devRef .tc main_arg0)) (V0 (Proc.devRef .tc main_arg1)) (V0 (Proc.devRef .tc main_arg2)) (V0 (Proc.devRef .tc main_arg3)) (V0 (Proc.devRef .tc main_arg4))) := by
  unfold res_main_v91
  simp only [res_main_v80_eq, res_main_v88_eq]
  rfl

theorem res_main_v92_eq (V0 : Valuation τ sig (Elt F)) :
    res_main_v92 V0 = (val_main_v92 (F := F) (V0 (Proc.devRef .tc main_arg0)) (V0 (Proc.devRef .tc main_arg4))) := by
  unfold res_main_v92
  simp only [res_main_v37_eq, res_main_v88_eq]
  rfl

theorem res_main_v105_eq (V0 : Valuation τ sig (Elt F)) :
    res_main_v105 V0 = (val_main_v105 (F := F) (V0 (Proc.devRef .tc main_arg0)) (V0 (Proc.devRef .tc main_arg1)) (V0 (Proc.devRef .tc main_arg2)) (V0 (Proc.devRef .tc main_arg3)) (V0 (Proc.devRef .tc main_arg4))) := by
  unfold res_main_v105
  simp only [res_main_v72_eq, res_main_v74_eq, res_main_v92_eq]
  rfl

theorem res_main_v114_eq (V0 : Valuation τ sig (Elt F)) :
    res_main_v114 V0 = (val_main_v114 (F := F) (V0 (Proc.devRef .tc main_arg0)) (V0 (Proc.devRef .tc main_arg1)) (V0 (Proc.devRef .tc main_arg2)) (V0 (Proc.devRef .tc main_arg3)) (V0 (Proc.devRef .tc main_arg4))) := by
  unfold res_main_v114
  simp only [res_main_v64_1_eq, res_main_v105_eq]
  rfl

theorem res_main_v118_eq (V0 : Valuation τ sig (Elt F)) :
    res_main_v118 V0 = (val_main_v118 (F := F) (V0 (Proc.devRef .tc main_arg0)) (V0 (Proc.devRef .tc main_arg1)) (V0 (Proc.devRef .tc main_arg2)) (V0 (Proc.devRef .tc main_arg3)) (V0 (Proc.devRef .tc main_arg4))) := by
  unfold res_main_v118
  simp only [res_main_v39_eq, res_main_v114_eq]
  rfl

theorem res_main_v124_eq (V0 : Valuation τ sig (Elt F)) :
    res_main_v124 V0 = (val_main_v124 (F := F) (V0 (Proc.devRef .tc main_arg0)) (V0 (Proc.devRef .tc main_arg1)) (V0 (Proc.devRef .tc main_arg2)) (V0 (Proc.devRef .tc main_arg3)) (V0 (Proc.devRef .tc main_arg4))) := by
  unfold res_main_v124
  simp only [res_main_v91_eq]
  rfl

theorem res_main_v133_eq (V0 : Valuation τ sig (Elt F)) :
    res_main_v133 V0 = (val_main_v133 (F := F) (V0 (Proc.devRef .tc main_arg0)) (V0 (Proc.devRef .tc main_arg1)) (V0 (Proc.devRef .tc main_arg2)) (V0 (Proc.devRef .tc main_arg3)) (V0 (Proc.devRef .tc main_arg4))) := by
  unfold res_main_v133
  simp only [res_main_v118_eq]
  rfl

theorem res_main_v140_eq (V0 : Valuation τ sig (Elt F)) :
    res_main_v140 V0 = (val_main_v140 (F := F) (V0 (Proc.devRef .tc main_arg0)) (V0 (Proc.devRef .tc main_arg1)) (V0 (Proc.devRef .tc main_arg2)) (V0 (Proc.devRef .tc main_arg3)) (V0 (Proc.devRef .tc main_arg4))) := by
  unfold res_main_v140
  simp only [res_main_v28_eq, res_main_v114_eq, res_main_v118_eq, res_main_v133_eq]
  rfl

theorem res_main_v141_eq (V0 : Valuation τ sig (Elt F)) :
    res_main_v141 V0 = (val_main_v141 (F := F) (V0 (Proc.devRef .tc main_arg0)) (V0 (Proc.devRef .tc main_arg1)) (V0 (Proc.devRef .tc main_arg2)) (V0 (Proc.devRef .tc main_arg3)) (V0 (Proc.devRef .tc main_arg4))) := by
  unfold res_main_v141
  simp only [res_main_v140_eq]
  rfl

theorem res_main_v142_eq (V0 : Valuation τ sig (Elt F)) :
    res_main_v142 V0 = (val_main_v142 (F := F) (V0 (Proc.devRef .tc main_arg0)) (V0 (Proc.devRef .tc main_arg1)) (V0 (Proc.devRef .tc main_arg2)) (V0 (Proc.devRef .tc main_arg3)) (V0 (Proc.devRef .tc main_arg4))) := by
  unfold res_main_v142
  simp only [res_main_v140_eq]
  rfl

theorem res_main_v157_eq (V0 : Valuation τ sig (Elt F)) :
    res_main_v157 V0 = (val_main_v157 (F := F) (V0 (Proc.devRef .tc main_arg0)) (V0 (Proc.devRef .tc main_arg1)) (V0 (Proc.devRef .tc main_arg2)) (V0 (Proc.devRef .tc main_arg3)) (V0 (Proc.devRef .tc main_arg4))) := by
  unfold res_main_v157
  simp only [res_main_v5_eq, res_main_v6_eq, res_main_v141_eq, res_main_v142_eq]
  rfl

theorem val_main_v163_eq (V0 : Valuation τ sig (Elt F)) :
    truncf .bf16 (concatenate S4096x3072 1 [⟨S4096x512, (extractStridedSlice S4096x512 ![0, 0] (Cert.ReferenceIdeal.Value.res_main_v157 V0) slices_S4096x768_S4096x512_0_0)⟩, ⟨S4096x2560, (broadcastInDim S4096x2560 ![] bcast_S_S4096x2560 (constant S_ .f32 0x00000000#32))⟩] concatenates_S4096x512_S4096x2560_S4096x3072_d1) bitsLt_bf16_f32
      = val_main_v163 (F := F) (V0 (Proc.devRef .tc main_arg0)) (V0 (Proc.devRef .tc main_arg1)) (V0 (Proc.devRef .tc main_arg2)) (V0 (Proc.devRef .tc main_arg3)) (V0 (Proc.devRef .tc main_arg4)) := by
  simp only [res_main_v157_eq]
  rfl

theorem val_main_v160_eq (V0 : Valuation τ sig (Elt F)) :
    extractStridedSlice S4096x128 ![0, 640] (Cert.ReferenceIdeal.Value.res_main_v157 V0) slices_S4096x768_S4096x128_0_640
      = val_main_v160 (F := F) (V0 (Proc.devRef .tc main_arg0)) (V0 (Proc.devRef .tc main_arg1)) (V0 (Proc.devRef .tc main_arg2)) (V0 (Proc.devRef .tc main_arg3)) (V0 (Proc.devRef .tc main_arg4)) := by
  simp only [res_main_v157_eq]
  rfl

theorem val_main_v166_eq (V0 : Valuation τ sig (Elt F)) :
    concatenate S4096x128 0 [⟨S128x128, (broadcastInDim S128x128 ![] bcast_S_S128x128 (constant S_ .f32 0x00000000#32))⟩, ⟨S3968x128, (extractStridedSlice S3968x128 ![0, 0] (extractStridedSlice S4096x128 ![0, 512] (Cert.ReferenceIdeal.Value.res_main_v157 V0) slices_S4096x768_S4096x128_0_512) slices_S4096x128_S3968x128_0_0)⟩] concatenates_S128x128_S3968x128_S4096x128_d0
      = val_main_v166 (F := F) (V0 (Proc.devRef .tc main_arg0)) (V0 (Proc.devRef .tc main_arg1)) (V0 (Proc.devRef .tc main_arg2)) (V0 (Proc.devRef .tc main_arg3)) (V0 (Proc.devRef .tc main_arg4)) := by
  simp only [res_main_v157_eq]
  rfl

theorem val_main_v128_eq (V0 : Valuation τ sig (Elt F)) :
    shapeCast _ (shapeCast _ (extractStridedSlice S1x32x128x2x64 ![0, 0, 128, 0, 0] (Cert.ReferenceIdeal.Value.res_main_v91 V0) slices_S1x32x256x2x64_S1x32x128x2x64_0_0_128_0_0) shapeCasts_S1x32x128x2x64_S1x4096x2x64) shapeCasts_S1x4096x2x64_S4096x128
      = val_main_v128 (F := F) (V0 (Proc.devRef .tc main_arg0)) (V0 (Proc.devRef .tc main_arg1)) (V0 (Proc.devRef .tc main_arg2)) (V0 (Proc.devRef .tc main_arg3)) (V0 (Proc.devRef .tc main_arg4)) := by
  simp only [res_main_v91_eq]
  rfl

theorem val_main_v169_eq (V0 : Valuation τ sig (Elt F)) :
    concatenate S4096x128 0 [⟨S128x128, (broadcastInDim S128x128 ![] bcast_S_S128x128 (constant S_ .f32 0x00000000#32))⟩, ⟨S3968x128, (extractStridedSlice S3968x128 ![0, 0] (shapeCast _ (pad S1x4096x2x64 ![0, 0, 0, 0] ![0, 128, 0, 0] ![0, 0, 0, 0] (extractStridedSlice S1x3968x2x64 ![0, 128, 0, 0] (Cert.ReferenceIdeal.Value.res_main_v124 V0) slices_S1x4096x2x64_S1x3968x2x64_0_128_0_0) (constant S_ .f32 0x00000000#32) pads_S1x3968x2x64_S1x4096x2x64_000_01280_000_000 h_S_) shapeCasts_S1x4096x2x64_S4096x128) slices_S4096x128_S3968x128_0_0)⟩] concatenates_S128x128_S3968x128_S4096x128_d0
      = val_main_v169 (F := F) (V0 (Proc.devRef .tc main_arg0)) (V0 (Proc.devRef .tc main_arg1)) (V0 (Proc.devRef .tc main_arg2)) (V0 (Proc.devRef .tc main_arg3)) (V0 (Proc.devRef .tc main_arg4)) := by
  simp only [res_main_v124_eq]
  rfl

theorem val_main_v170_eq (V0 : Valuation τ sig (Elt F)) :
    broadcastInDim S1x8 ![1] bcast_S8_S1x8_1 (shapeCast _ (broadcastInDim S1x1x2x4x1x1 ![2, 3] bcast_S2x4_S1x1x2x4x1x1_2_3 (Host.reduceAdd (extractStridedSlice S1x32x2x4x128x1 ![0, 0, 0, 0, 0, 256] (Cert.ReferenceIdeal.Value.res_main_v105 V0) slices_S1x32x2x4x128x257_S1x32x2x4x128x1_0_0_0_0_0_256) (constant S_ .f32 0x00000000#32) reducesTo_S1x32x2x4x128x1_S2x4_d0_1_4_5 h_S_)) shapeCasts_S1x1x2x4x1x1_S8)
      = val_main_v170 (F := F) (V0 (Proc.devRef .tc main_arg0)) (V0 (Proc.devRef .tc main_arg1)) (V0 (Proc.devRef .tc main_arg2)) (V0 (Proc.devRef .tc main_arg3)) (V0 (Proc.devRef .tc main_arg4)) := by
  simp only [res_main_v105_eq]
  rfl

end Cert.ReferenceIdeal.Read
-- ==== Proof.Finite.lean ====
/- What the precondition and the mask say: every entry of every argument is a real number, and the columns of the query
   gradient that are compared are the first 512. -/
module

public import proofs.«01_k».proof.Defs
public import proofs.«01_k».proof.Proof.Gen.Pre_finite_inputs
public import proofs.«01_k».proof.Proof.Gen.On_written
public import Idealize.ShloMosaic.Lib.Pointwise
public import Idealize.ShloMosaic.Lib.ReduceAll
public import Idealize.ShloMosaic.Lib.Affine

@[expose] public section

set_option maxRecDepth 16384

noncomputable section

namespace AttnBwd

open Idealize.ShloMosaic

theorem ofBits_inf : Ideal.ofBits .f32 0x7F800000#32 = ⊤ := by simp [Ideal.ofBits, Ideal.ieee]

/-- An extended real whose absolute value is below infinity is a real number. -/
theorem coe_of_abs {x : EReal} (h : Ideal.cmp .olt (max x (-x)) (Ideal.ofBits .f32 0x7F800000#32) = 1#1) :
    x = ((x.toReal : ℝ) : EReal) := by
  have h1 : max x (-x) < Ideal.ofBits .f32 0x7F800000#32 := by
    by_contra hn
    have h2 : BitVec.ofBool (decide (max x (-x) < Ideal.ofBits .f32 0x7F800000#32)) = 1#1 := h
    rw [decide_eq_false hn] at h2
    exact absurd h2 (by decide)
  rw [ofBits_inf, max_lt_iff] at h1
  refine (EReal.coe_toReal (ne_of_lt h1.1) fun hb => ?_).symm
  rw [hb] at h1
  exact absurd h1.2 (by simp)

section Pre

open Cert.Pre_finite_inputs

variable [Cert.Pre_finite_inputs.Facts]

instance : Subsingleton S_.Idx := ⟨fun i j => funext fun a => a.elim0⟩

theorem finite_all {x0 : FVec Ideal S4096x3072 .f32} {x1 x2 : FVec Ideal S4096x32 .f32} {x3 : FVec Ideal S8 .f32}
    {x4 : FVec Ideal S4096x1024 .f32} (h : Cert.Pre_finite_inputs.fn (F := Ideal) x0 x1 x2 x3 x4 = fun _ => 1#1) :
    (∀ i, x0 i = (((x0 i : EReal).toReal : ℝ) : EReal)) ∧ (∀ i, x1 i = (((x1 i : EReal).toReal : ℝ) : EReal)) ∧
    (∀ i, x2 i = (((x2 i : EReal).toReal : ℝ) : EReal)) ∧ (∀ i, x3 i = (((x3 i : EReal).toReal : ℝ) : EReal)) ∧
    (∀ i, x4 i = (((x4 i : EReal).toReal : ℝ) : EReal)) := by
  have h0 := congrFun h (fun a => a.elim0)
  dsimp only [fn, fn_part1] at h0
  obtain ⟨h0, e4⟩ := IntOp.andi_eq_one.mp h0
  obtain ⟨h0, e3⟩ := IntOp.andi_eq_one.mp h0
  obtain ⟨h0, e2⟩ := IntOp.andi_eq_one.mp h0
  obtain ⟨e0, e1⟩ := IntOp.andi_eq_one.mp h0
  exact ⟨fun i => coe_of_abs (Host.reduce_andi_all _ _ _ _ _ e0 i), fun i => coe_of_abs (Host.reduce_andi_all _ _ _ _ _ e1 i),
    fun i => coe_of_abs (Host.reduce_andi_all _ _ _ _ _ e2 i), fun i => coe_of_abs (Host.reduce_andi_all _ _ _ _ _ e3 i),
    fun i => coe_of_abs (Host.reduce_andi_all _ _ _ _ _ e4 i)⟩

end Pre

section Mask

open Cert.On_written

variable [Cert.On_written.Facts]

/-- A column of the query gradient is compared only if it is one of the first 512. -/
theorem mask_lt {x0 : FVec Ideal S4096x3072 .f32} {x1 x2 : FVec Ideal S4096x32 .f32} {x3 : FVec Ideal S8 .f32}
    {x4 : FVec Ideal S4096x1024 .f32} (t : Fin 4096) (c : Fin 3072)
    (h : (Cert.On_written.fn (F := Ideal) x0 x1 x2 x3 x4).1 (ix2 t c) = 1#1) : c.val < 512 := by
  have h1 : IntOp.cmpi .slt (BitVec.ofNat 32 c.val) 512#32 = 1#1 := h
  rw [IntOp.cmpi_slt] at h1
  have e : (BitVec.ofNat 32 c.val).toInt = (c.val : ℤ) := by
    rw [BitVec.toInt_eq_toNat_of_lt] <;> simp only [BitVec.toNat_ofNat] <;> omega
  have e2 : (512#32 : BitVec 32).toInt = 512 := by decide
  rw [e, e2] at h1
  omega

end Mask

end AttnBwd

end
-- ==== Proof.Agree.lean ====
/- The kernel's six arrays and the reference's six results are the same real numbers, wherever the kernel writes. -/
module

public import proofs.«01_k».proof.Proof.Arrays
public import proofs.«01_k».proof.Proof.RefResults
public import proofs.«01_k».proof.Proof.RefEq
public import proofs.«01_k».proof.Proof.Finite

@[expose] public section

set_option maxRecDepth 16384

noncomputable section

namespace AttnBwd

open Idealize.ShloMosaic Idealize.ShloMosaic.TcCoe Idealize.SL.Sem

/-! ### The real numbers that the arguments hold -/

section Data

open Cert.KernelIdeal

/-- The real numbers of five argument arrays. -/
def dataOf (x0 : (⟨S4096x3072, .f32⟩ : BufTy).Contents (Elt Ideal)) (x1 x2 : (⟨S4096x32, .f32⟩ : BufTy).Contents (Elt Ideal))
    (x3 : (⟨S8, .f32⟩ : BufTy).Contents (Elt Ideal)) (x4 : (⟨S4096x1024, .f32⟩ : BufTy).Contents (Elt Ideal)) : Data where
  X t c := if h : t < 4096 ∧ c < 3072 then (x0 (ix2 ⟨t, h.1⟩ ⟨c, h.2⟩) : EReal).toReal else 0
  co t c := if h : t < 4096 ∧ c < 32 then (x1 (ix2 ⟨t, h.1⟩ ⟨c, h.2⟩) : EReal).toReal else 0
  si t c := if h : t < 4096 ∧ c < 32 then (x2 (ix2 ⟨t, h.1⟩ ⟨c, h.2⟩) : EReal).toReal else 0
  snk h := if hh : h < 8 then (x3 (ix1 ⟨h, hh⟩) : EReal).toReal else 0
  D t c := if h : t < 4096 ∧ c < 1024 then (x4 (ix2 ⟨t, h.1⟩ ⟨c, h.2⟩) : EReal).toReal else 0

/-- Arguments that meet the precondition hold real numbers. -/
theorem dataOf_holds {x0 : (⟨S4096x3072, .f32⟩ : BufTy).Contents (Elt Ideal)} {x1 x2 : (⟨S4096x32, .f32⟩ : BufTy).Contents (Elt Ideal)}
    {x3 : (⟨S8, .f32⟩ : BufTy).Contents (Elt Ideal)} {x4 : (⟨S4096x1024, .f32⟩ : BufTy).Contents (Elt Ideal)}
    (h : Cert.Pre_finite_inputs.fn (F := Ideal) x0 x1 x2 x3 x4 = fun _ => 1#1) : HoldsK (dataOf x0 x1 x2 x3 x4) x0 x1 x2 x3 x4 where
  X t c := ((finite_all h).1 _).trans (congrArg Real.toEReal (by dsimp only [dataOf]; rw [dif_pos ⟨t.isLt, c.isLt⟩]))
  co t c := ((finite_all h).2.1 _).trans (congrArg Real.toEReal (by dsimp only [dataOf]; rw [dif_pos ⟨t.isLt, c.isLt⟩]))
  si t c := ((finite_all h).2.2.1 _).trans (congrArg Real.toEReal (by dsimp only [dataOf]; rw [dif_pos ⟨t.isLt, c.isLt⟩]))
  snk k := ((finite_all h).2.2.2.1 _).trans (congrArg Real.toEReal (by dsimp only [dataOf]; rw [dif_pos k.isLt]))
  D t c := ((finite_all h).2.2.2.2 _).trans (congrArg Real.toEReal (by dsimp only [dataOf]; rw [dif_pos ⟨t.isLt, c.isLt⟩]))

end Data

/-! ### The reference's run, its results as functions of the arguments -/

section Ref

open Cert.ReferenceIdeal Cert.ReferenceIdeal.Read Cert.ReferenceIdeal.Value Idealize.ShloMosaic.StableHlo

variable (m : (ℓ : Loc nD τ sig) → Buf (Elt Ideal) ℓ)

abbrev r0 (c : Dev nD) : (⟨S4096x3072, .f32⟩ : BufTy).Contents (Elt Ideal) := m ((c.tc : Thread nD τ).loc main_arg0)
abbrev r1 (c : Dev nD) : (⟨S4096x32, .f32⟩ : BufTy).Contents (Elt Ideal) := m ((c.tc : Thread nD τ).loc main_arg1)
abbrev r2 (c : Dev nD) : (⟨S4096x32, .f32⟩ : BufTy).Contents (Elt Ideal) := m ((c.tc : Thread nD τ).loc main_arg2)
abbrev r3 (c : Dev nD) : (⟨S8, .f32⟩ : BufTy).Contents (Elt Ideal) := m ((c.tc : Thread nD τ).loc main_arg3)
abbrev r4 (c : Dev nD) : (⟨S4096x1024, .f32⟩ : BufTy).Contents (Elt Ideal) := m ((c.tc : Thread nD τ).loc main_arg4)

theorem ref_run (ρ : Dev nD → PrngReg) :
    θ_run defs (onTc (τ := τ) (main (F := Ideal))) ⟨m, fun _ => 0, ρ⟩ fun r => ∀ c : Dev nD,
      r.2.mem ((c.tc : Thread nD τ).loc main_v163) = val_main_v163 (F := Ideal) (r0 m c) (r1 m c) (r2 m c) (r3 m c) (r4 m c)
      ∧ r.2.mem ((c.tc : Thread nD τ).loc main_v160) = val_main_v160 (F := Ideal) (r0 m c) (r1 m c) (r2 m c) (r3 m c) (r4 m c)
      ∧ r.2.mem ((c.tc : Thread nD τ).loc main_v166) = val_main_v166 (F := Ideal) (r0 m c) (r1 m c) (r2 m c) (r3 m c) (r4 m c)
      ∧ r.2.mem ((c.tc : Thread nD τ).loc main_v128) = val_main_v128 (F := Ideal) (r0 m c) (r1 m c) (r2 m c) (r3 m c) (r4 m c)
      ∧ r.2.mem ((c.tc : Thread nD τ).loc main_v169) = val_main_v169 (F := Ideal) (r0 m c) (r1 m c) (r2 m c) (r3 m c) (r4 m c)
      ∧ r.2.mem ((c.tc : Thread nD τ).loc main_v170) = val_main_v170 (F := Ideal) (r0 m c) (r1 m c) (r2 m c) (r3 m c) (r4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => by
    obtain ⟨h0, h1, h2, h3, h4, h5, hk⟩ := h c
    exact ⟨h0.trans (val_main_v163_eq (launchContents m c)), h1.trans (val_main_v160_eq (launchContents m c)),
      h2.trans (val_main_v166_eq (launchContents m c)), h3.trans (val_main_v128_eq (launchContents m c)),
      h4.trans (val_main_v169_eq (launchContents m c)), h5.trans (val_main_v170_eq (launchContents m c)), hk⟩)
    (Cert.ReferenceIdeal.Value.run (F := Ideal) m ρ)

end Ref

/-! ### Array by array -/

section Same

open Cert.KernelIdeal Cert.KernelIdeal.Gen Cert.KernelIdeal.Value Cert.ReferenceIdeal.Read

variable (m : (ℓ : Loc nD τ sig) → Buf (Elt Ideal) ℓ) {a : Data}
  {x0 : (⟨S4096x3072, .f32⟩ : BufTy).Contents (Elt Ideal)} {x1 x2 : (⟨S4096x32, .f32⟩ : BufTy).Contents (Elt Ideal)}
  {x3 : (⟨S8, .f32⟩ : BufTy).Contents (Elt Ideal)} {x4 : (⟨S4096x1024, .f32⟩ : BufTy).Contents (Elt Ideal)}

theorem same13 (c : Dev nD) (H : Args m a c) (R : Holds a x0 x1 x2 x3 x4) (i : S4096x3072.Idx) (hi : (i 1).val < 512) :
    (val_main_v163 (F := Ideal) x0 x1 x2 x3 x4 : FVec Ideal S4096x3072 .bf16) i
      = ((dats m 0 c).arrAt 13 cfg0.N : (⟨S4096x3072, .bf16⟩ : BufTy).Contents (Elt Ideal)) i := by
  rw [eq_ix2 i]
  exact (v163_at R (i 0) (i 1) hi).trans (arr13_at m c H (i 0) (i 1) hi).symm

theorem same14 (c : Dev nD) (H : Args m a c) (R : Holds a x0 x1 x2 x3 x4) (i : S4096x128.Idx) :
    (val_main_v160 (F := Ideal) x0 x1 x2 x3 x4 : FVec Ideal S4096x128 .f32) i
      = ((dats m 0 c).arrAt 14 cfg0.N : (⟨S4096x128, .f32⟩ : BufTy).Contents (Elt Ideal)) i := by
  rw [eq_ix2 i]
  exact (v160_at R (i 0) (i 1)).trans (arr14_at m c H (i 0) (i 1)).symm

theorem same15 (c : Dev nD) (H : Args m a c) (R : Holds a x0 x1 x2 x3 x4) (i : S4096x128.Idx) :
    (val_main_v166 (F := Ideal) x0 x1 x2 x3 x4 : FVec Ideal S4096x128 .f32) i
      = ((dats m 0 c).arrAt 15 cfg0.N : (⟨S4096x128, .f32⟩ : BufTy).Contents (Elt Ideal)) i := by
  rw [eq_ix2 i]
  exact (v166_at R (i 0) (i 1)).trans (arr15_at m c H (i 0) (i 1)).symm

theorem same16 (c : Dev nD) (H : Args m a c) (R : Holds a x0 x1 x2 x3 x4) (i : S4096x128.Idx) :
    (val_main_v128 (F := Ideal) x0 x1 x2 x3 x4 : FVec Ideal S4096x128 .f32) i
      = ((dats m 0 c).arrAt 16 cfg0.N : (⟨S4096x128, .f32⟩ : BufTy).Contents (Elt Ideal)) i := by
  rw [eq_ix2 i]
  exact (v128_at R (i 0) (i 1)).trans (arr16_at m c H (i 0) (i 1)).symm

theorem same17 (c : Dev nD) (H : Args m a c) (R : Holds a x0 x1 x2 x3 x4) (i : S4096x128.Idx) :
    (val_main_v169 (F := Ideal) x0 x1 x2 x3 x4 : FVec Ideal S4096x128 .f32) i
      = ((dats m 0 c).arrAt 17 cfg0.N : (⟨S4096x128, .f32⟩ : BufTy).Contents (Elt Ideal)) i := by
  rw [eq_ix2 i]
  exact (v169_at R (i 0) (i 1)).trans (arr17_at m c H (i 0) (i 1)).symm

theorem same18 (c : Dev nD) (H : Args m a c) (R : Holds a x0 x1 x2 x3 x4) (i : S1x8.Idx) :
    (val_main_v170 (F := Ideal) x0 x1 x2 x3 x4 : FVec Ideal S1x8 .f32) i
      = ((dats m 0 c).arrAt 18 cfg0.N : (⟨S1x8, .f32⟩ : BufTy).Contents (Elt Ideal)) i := by
  have e : i = ix2 (0 : Fin 1) (i 1) := (eq_ix2 i).trans (congrArg (fun z : Fin 1 => ix2 z (i 1)) (Subsingleton.elim _ _))
  rw [e]
  exact (v170_at R (i 1)).trans (arr18_at m c H (i 1)).symm

end Same

end AttnBwd

end
-- ==== Proof.MlpCommon.lean ====
/- What the products share: their formulas, a sum over 4096 cut in four, a layer put into a buffer, the layer norm. -/
module

public import Idealize.ShloMosaic.Lib.Pointwise
public import Idealize.ShloMosaic.Lib.Pipeline.ValueKit
public import Idealize.ShloMosaic.Lib.StableHlo.RunRead

@[expose] public section

noncomputable section

namespace Mlp

open Idealize.ShloMosaic

abbrev Arr (s : Shape) (e : EltTy) := (⟨s, e⟩ : BufTy).Contents (Elt Ideal)
abbrev Mat (a b : Nat) : Shape := ⟨2, ![a, b]⟩

theorem off00 : (![0, 0] : Fin 2 → Nat) = fun _ => 0 := funext fun a => by fin_cases a <;> rfl
theorem off0000 : (![0, 0, 0, 0] : Fin 4 → Nat) = fun _ => 0 := funext fun a => by fin_cases a <;> rfl

/-- A row of the first against a column of the second. -/
def nn {a n b : Nat} (x : Vec Ideal (Mat a n) .bf16) (y : Vec Ideal (Mat n b) .bf16) (r : Fin a) (j : Fin b) : EReal :=
  ∑ k : Fin n, x (ix2 r k) * y (ix2 k j)

/-- A row of the first against a row of the second. -/
def nt {a n b : Nat} (x : Vec Ideal (Mat a n) .bf16) (y : Vec Ideal (Mat b n) .bf16) (r : Fin a) (j : Fin b) : EReal :=
  ∑ k : Fin n, x (ix2 r k) * y (ix2 j k)

/-- A column of the first against a column of the second. -/
def tn {a n b : Nat} (x : Vec Ideal (Mat n a) .bf16) (y : Vec Ideal (Mat n b) .bf16) (r : Fin a) (j : Fin b) : EReal :=
  ∑ k : Fin n, x (ix2 k r) * y (ix2 k j)

/-- The square of the positive part. -/
def sq (x : EReal) : EReal := max x 0 * max x 0

/-- The same of the positive part's square of the first. -/
def tnsq {a n b : Nat} (x : Vec Ideal (Mat n a) .bf16) (y : Vec Ideal (Mat n b) .bf16) (r : Fin a) (j : Fin b) : EReal :=
  ∑ k : Fin n, sq (x (ix2 k r)) * y (ix2 k j)

theorem nn_congr {a n b a' b' : Nat} {x : Vec Ideal (Mat a n) .bf16} {y : Vec Ideal (Mat n b) .bf16} {x' : Vec Ideal (Mat a' n) .bf16} {y' : Vec Ideal (Mat n b') .bf16}
    {r : Fin a} {j : Fin b} {r' : Fin a'} {j' : Fin b'} (hx : ∀ k, x (ix2 r k) = x' (ix2 r' k)) (hy : ∀ k, y (ix2 k j) = y' (ix2 k j')) : nn x y r j = nn x' y' r' j' :=
  Finset.sum_congr rfl fun k _ => congrArg₂ (· * ·) (hx k) (hy k)

theorem nt_congr {a n b a' b' : Nat} {x : Vec Ideal (Mat a n) .bf16} {y : Vec Ideal (Mat b n) .bf16} {x' : Vec Ideal (Mat a' n) .bf16} {y' : Vec Ideal (Mat b' n) .bf16}
    {r : Fin a} {j : Fin b} {r' : Fin a'} {j' : Fin b'} (hx : ∀ k, x (ix2 r k) = x' (ix2 r' k)) (hy : ∀ k, y (ix2 j k) = y' (ix2 j' k)) : nt x y r j = nt x' y' r' j' :=
  Finset.sum_congr rfl fun k _ => congrArg₂ (· * ·) (hx k) (hy k)

theorem tn_congr {a n b a' b' : Nat} {x : Vec Ideal (Mat n a) .bf16} {y : Vec Ideal (Mat n b) .bf16} {x' : Vec Ideal (Mat n a') .bf16} {y' : Vec Ideal (Mat n b') .bf16}
    {r : Fin a} {j : Fin b} {r' : Fin a'} {j' : Fin b'} (hx : ∀ k, x (ix2 k r) = x' (ix2 k r')) (hy : ∀ k, y (ix2 k j) = y' (ix2 k j')) : tn x y r j = tn x' y' r' j' :=
  Finset.sum_congr rfl fun k _ => congrArg₂ (· * ·) (hx k) (hy k)

theorem tnsq_congr {a n b a' b' : Nat} {x : Vec Ideal (Mat n a) .bf16} {y : Vec Ideal (Mat n b) .bf16} {x' : Vec Ideal (Mat n a') .bf16} {y' : Vec Ideal (Mat n b') .bf16}
    {r : Fin a} {j : Fin b} {r' : Fin a'} {j' : Fin b'} (hx : ∀ k, x (ix2 k r) = x' (ix2 k r')) (hy : ∀ k, y (ix2 k j) = y' (ix2 k j')) : tnsq x y r j = tnsq x' y' r' j' :=
  Finset.sum_congr rfl fun k _ => congrArg₂ (· * ·) (congrArg sq (hx k)) (hy k)

theorem sum_four (f : Fin 4096 → EReal) :
    ∑ k : Fin 4096, f k = (((∑ k : Fin 1024, f ⟨k.val, by omega⟩) + ∑ k : Fin 1024, f ⟨1024 + k.val, by omega⟩)
      + ∑ k : Fin 1024, f ⟨2048 + k.val, by omega⟩) + ∑ k : Fin 1024, f ⟨3072 + k.val, by omega⟩ := by
  rw [Fin.sum_univ_tiles 4 1024 rfl, Fin.sum_univ_four]
  congr 1

/-- A sum over 4096 rows that the kernel takes 1024 at a time. -/
def four (f : Fin 4096 → EReal) (y0 y1 y2 y3 : Vec Ideal (Mat 1024 1024) .bf16) (j : Fin 1024) : EReal :=
  (((∑ k : Fin 1024, f ⟨k.val, by omega⟩ * y0 (ix2 k j)) + ∑ k : Fin 1024, f ⟨1024 + k.val, by omega⟩ * y1 (ix2 k j))
    + ∑ k : Fin 1024, f ⟨2048 + k.val, by omega⟩ * y2 (ix2 k j)) + ∑ k : Fin 1024, f ⟨3072 + k.val, by omega⟩ * y3 (ix2 k j)

theorem ld_at {o : Nat} (x : Vec Ideal (Mat 4096 1024) .bf16) (h : ∀ a, (![o, 0] : Fin 2 → Nat) a + (Mat 1024 1024).size a ≤ (Mat 4096 1024).size a)
    (k j : Fin 1024) (l : Fin 4096) (hl : l.val = o + k.val) :
    (View.ld x (Rect.unit (s := Mat 4096 1024) ![o, 0] (Mat 1024 1024).size h) : Vec Ideal (Mat 1024 1024) .bf16) (ix2 k j) = x (ix2 l j) :=
  View.ld_unit_apply_of x _ _ _ _ _ (fun a => by fin_cases a <;> simp [hl])

theorem chunks (f : Fin 4096 → EReal) (y : Vec Ideal (Mat 4096 1024) .bf16)
    (h0 : ∀ a, (![0, 0] : Fin 2 → Nat) a + (Mat 1024 1024).size a ≤ (Mat 4096 1024).size a)
    (h1 : ∀ a, (![1024, 0] : Fin 2 → Nat) a + (Mat 1024 1024).size a ≤ (Mat 4096 1024).size a)
    (h2 : ∀ a, (![2048, 0] : Fin 2 → Nat) a + (Mat 1024 1024).size a ≤ (Mat 4096 1024).size a)
    (h3 : ∀ a, (![3072, 0] : Fin 2 → Nat) a + (Mat 1024 1024).size a ≤ (Mat 4096 1024).size a) (j : Fin 1024) :
    four f (View.ld y (Rect.unit (s := Mat 4096 1024) ![0, 0] (Mat 1024 1024).size h0))
        (View.ld y (Rect.unit (s := Mat 4096 1024) ![1024, 0] (Mat 1024 1024).size h1))
        (View.ld y (Rect.unit (s := Mat 4096 1024) ![2048, 0] (Mat 1024 1024).size h2))
        (View.ld y (Rect.unit (s := Mat 4096 1024) ![3072, 0] (Mat 1024 1024).size h3)) j
      = ∑ k : Fin 4096, f k * y (ix2 k j) := by
  refine Eq.trans ?_ (sum_four _).symm
  unfold four
  refine congrArg₂ (· + ·) (congrArg₂ (· + ·) (congrArg₂ (· + ·) ?_ ?_) ?_) ?_
    <;> refine Finset.sum_congr rfl fun k _ => congrArg (_ * ·) (ld_at y _ k j _ ?_)
  · exact (Nat.zero_add _).symm
  all_goals rfl

/-- A layer put into a buffer of three by a concatenation: the layer's own at its place, the buffer's elsewhere. -/
theorem put (li : Nat) (z : Fin 3) (B : Fin 3 → EReal) (s : EReal) (h : z.val ≤ li ∨ li + 1 + (z.val - li - 1) < 3) :
    (if z.val < li then B z else if q : z.val - li < 1 then s else B ⟨li + 1 + (z.val - li - 1), by omega⟩) = if z.val = li then s else B z := by
  rcases Nat.lt_trichotomy z.val li with g | g | g
  · rw [if_pos g, if_neg (by omega)]
  · rw [if_neg (by omega), dif_pos (by omega), if_pos g]
  · rw [if_neg (by omega), dif_neg (by omega), if_neg (by omega)]
    exact congrArg B (Fin.ext (show li + 1 + (z.val - li - 1) = z.val by omega))

/-- The gradient of the second weights at a group of hidden units, a unit of it and a feature. -/
def dDown (x : Vec Ideal (Mat 4096 4096) .bf16) (y : Vec Ideal (Mat 4096 1024) .bf16) (p : Fin 4) (r j : Fin 1024) : EReal :=
  tnsq x y ⟨p.val * 1024 + r.val, by omega⟩ j

/-- The gradient of the first weights at a group of hidden units, a feature and a unit of the group. -/
def dUp (x : Vec Ideal (Mat 4096 1024) .bf16) (y : Vec Ideal (Mat 4096 4096) .bf16) (p : Fin 4) (r j : Fin 1024) : EReal :=
  tn x y r ⟨p.val * 1024 + j.val, by omega⟩

/-- A gradient against the weights' rows, plus the residual's part of a gradient. -/
def back {a n b : Nat} (x : Vec Ideal (Mat a n) .bf16) (y : Vec Ideal (Mat b n) .bf16) (z : Vec Ideal (Mat a b) .bf16) (r : Fin a) (j : Fin b) : EReal :=
  nt x y r j + Ideal.ofBits .bf16 0x3FD7#16 * z (ix2 r j)

/-- A buffer of three layers with one of them replaced. -/
def layer (li : Nat) (g : Fin 4 → Fin 1024 → Fin 1024 → EReal) (b : Arr ⟨4, ![4, 3, 1024, 1024]⟩ .f32) (i : Shape.Idx ⟨4, ![4, 3, 1024, 1024]⟩) : EReal :=
  if (i 1).val = li then g (i 0) (i 2) (i 3) else b i

/-- The mean of a row. -/
def mean (u : Fin 1024 → EReal) : EReal := Ideal.div (∑ l, u l) (Ideal.ofBits .f32 1149239296#32)

/-- The row minus its mean, over the root of its variance, scaled and shifted. -/
def norm (u : Fin 1024 → EReal) (g b : EReal) (j : Fin 1024) : EReal :=
  (u j - mean u) * Ideal.rsqrt (mean (fun l => (u l - mean u) * (u l - mean u)) + Ideal.ofBits .f32 925353388#32) * g + b

end Mlp

end
-- ==== Proof.MlpIn.lean ====
/- The mixers' projections, and the gradients of their inputs. -/
module

public import proofs.«01_k».proof.Defs
public import proofs.«01_k».proof.Proof.Gen.HybIn.Frame
public import proofs.«01_k».proof.Proof.Gen.HybInIdeal.Value
public import proofs.«01_k».proof.Proof.Gen.HybInRefIdeal.Read
public import proofs.«01_k».proof.Proof.Gen.RecIn.Frame
public import proofs.«01_k».proof.Proof.Gen.RecInIdeal.Value
public import proofs.«01_k».proof.Proof.Gen.RecInRefIdeal.Read
public import proofs.«01_k».proof.Proof.Gen.OutDx.Frame
public import proofs.«01_k».proof.Proof.Gen.OutDxIdeal.Value
public import proofs.«01_k».proof.Proof.Gen.OutDxRefIdeal.Read
public import proofs.«01_k».proof.Proof.Gen.HybInDx.Frame
public import proofs.«01_k».proof.Proof.Gen.HybInDxIdeal.Value
public import proofs.«01_k».proof.Proof.Gen.HybInDxRefIdeal.Read
public import proofs.«01_k».proof.Proof.Gen.RecInDx.Frame
public import proofs.«01_k».proof.Proof.Gen.RecInDxIdeal.Value
public import proofs.«01_k».proof.Proof.Gen.RecInDxRefIdeal.Read
public import proofs.«01_k».proof.Proof.MlpCommon

@[expose] public section

set_option maxRecDepth 16384

noncomputable section

open Idealize.ShloMosaic Idealize.ShloMosaic.TcCoe Idealize.SL.Sem

/-! ### The hybrid mixer's first projection -/

namespace Cert.HybInIdeal.Mlp

open Cert.HybInIdeal Cert.HybInIdeal.Gen Cert.HybInIdeal.Value

theorem pay_at (x : Vec Ideal S1024x1024 .bf16) (y : Vec Ideal S1024x1024 .bf16) (r : Fin 1024) (j : Fin 1024) : k0_pay1 x y (ix2 r j) = Mlp.nn x y r j := by
  unfold Mlp.nn
  pointwise [k0_pay1]

theorem out_at (x : Vec Ideal S1024x1024 .bf16) (y : Vec Ideal S1024x1024 .bf16) (r : Fin 1024) (j : Fin 1024) : out0_2 x y (ix2 r j) = Mlp.nn x y r j := by
  refine Eq.trans (congrFun ?_ _) (pay_at x y r j)
  unfold out0_2
  rw [View.canon_cons_unit_zero (S := S1024x1024) Mlp.off00]
  simp only [View.ld_unit_zero (S := S1024x1024) Mlp.off00]

theorem idx : ∀ t : Fin cfg0.N, win0_0.index t = ![t.val / 3, 0] ∧ win0_1.index t = ![0, t.val % 3] ∧ win0_2.index t = ![t.val / 3, t.val % 3] :=
  (by decide +kernel : ∀ t : Fin grid0.N, _)

theorem arr (m : (ℓ : Loc nD τ sig) → Buf (Elt Ideal) ℓ) (c : Dev nD) : (dats m 0 c).arrAt 2 cfg0.N
    = fun i => Mlp.nn (m ((c : Thread nD τ).loc main_arg0)) (m ((c : Thread nD τ).loc main_arg1)) (i 0) (i 1) := by
  refine (dats m 0 c).arrAt_eq_of_covers 2 _ (by decide +kernel) fun t hf y => ?_
  obtain ⟨r, j, rfl⟩ : ∃ (r : Fin 1024) (j : Fin 1024), y = ix2 r j := ⟨y 0, y 1, eq_ix2 y⟩
  refine (congrFun (flushed2 m c t) (ix2 r j)).trans ((out_at (iblk m c 0 t) (iblk m c 1 t) r j).trans ?_)
  refine Mlp.nn_congr (fun k => ?_) (fun k => ?_) <;> blk_ext [iblk, V_main_arg0, V_main_arg1, idx t]

theorem ref_at (x : Mlp.Arr S4096x1024 .bf16) (y : Mlp.Arr S1024x3072 .bf16) :
    Cert.HybInRefIdeal.Read.val_main_v2 (F := Ideal) x y = fun i => Mlp.nn x y (i 0) (i 1) := by
  funext i
  obtain ⟨r, j, rfl⟩ : ∃ (r : Fin 4096) (j : Fin 3072), i = ix2 r j := ⟨i 0, i 1, eq_ix2 i⟩
  refine (congrFun (Cert.HybInRefIdeal.Read.val_main_v2_eq (F := Ideal) x y).symm _).trans ?_
  unfold Mlp.nn
  pointwise

theorem frame : Cert.quiescent_HybIn := fun m ρ _ => Cert.HybIn.Gen.frame (F := Bits) m ρ

theorem frame_ideal : Cert.quiescent_HybInIdeal := fun m ρ _ => Cert.HybInIdeal.Gen.frame (F := Ideal) m ρ

theorem frame_reference : Cert.quiescent_HybInRefIdeal := fun m ρ _ =>
  (θ_run Cert.HybInRefIdeal.defs _ _).mono (fun r h => ⟨fun c => (h c).2, sem_eq_zero_of_no_sems (by decide) r.2⟩)
    (Cert.HybInRefIdeal.Value.run (F := Ideal) m ρ)

theorem algebraic : Cert.algebraic_HybInIdeal_HybInRefIdeal := by
  intro m g m' g' hpre hm
  refine ⟨fun c => (dats m 0 c).arrAt 2 cfg0.N, run_blocks (F := Ideal) m g, ?_⟩
  refine (θ_run Cert.HybInRefIdeal.defs _ _).mono (fun r h c => ?_) (Cert.HybInRefIdeal.Value.run (F := Ideal) m' g')
  obtain ⟨h0, hk⟩ := h c
  refine ⟨h0.trans ((Cert.HybInRefIdeal.Read.val_main_v2_eq _ _).trans ?_), hk⟩
  rw [(hm c).1, (hm c).2]
  exact (ref_at _ _).trans (arr m c).symm

end Cert.HybInIdeal.Mlp

/-! ### The recurrent mixer's first projection -/

namespace Cert.RecInIdeal.Mlp

open Cert.RecInIdeal Cert.RecInIdeal.Gen Cert.RecInIdeal.Value

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

theorem arr (m : (ℓ : Loc nD τ sig) → Buf (Elt Ideal) ℓ) (c : Dev nD) : (dats m 0 c).arrAt 2 cfg0.N
    = fun i => Mlp.nn (m ((c : Thread nD τ).loc main_arg0)) (m ((c : Thread nD τ).loc main_arg1)) (i 0) (i 1) := by
  refine (dats m 0 c).arrAt_eq_of_covers 2 _ (by decide +kernel) fun t hf y => ?_
  obtain ⟨r, j, rfl⟩ : ∃ (r : Fin 1024) (j : Fin 1024), y = ix2 r j := ⟨y 0, y 1, eq_ix2 y⟩
  refine (congrFun (flushed2 m c t) (ix2 r j)).trans ((Cert.HybInIdeal.Mlp.out_at (iblk m c 0 t) (iblk m c 1 t) r j).trans ?_)
  refine Mlp.nn_congr (fun k => ?_) (fun k => ?_) <;> blk_ext [iblk, V_main_arg0, V_main_arg1, idx t]

theorem ref_at (x : Mlp.Arr S4096x1024 .bf16) (y : Mlp.Arr S1024x2048 .bf16) :
    Cert.RecInRefIdeal.Read.val_main_v2 (F := Ideal) x y = fun i => Mlp.nn x y (i 0) (i 1) := by
  funext i
  obtain ⟨r, j, rfl⟩ : ∃ (r : Fin 4096) (j : Fin 2048), i = ix2 r j := ⟨i 0, i 1, eq_ix2 i⟩
  refine (congrFun (Cert.RecInRefIdeal.Read.val_main_v2_eq (F := Ideal) x y).symm _).trans ?_
  unfold Mlp.nn
  pointwise

theorem frame : Cert.quiescent_RecIn := fun m ρ _ => Cert.RecIn.Gen.frame (F := Bits) m ρ

theorem frame_ideal : Cert.quiescent_RecInIdeal := fun m ρ _ => Cert.RecInIdeal.Gen.frame (F := Ideal) m ρ

theorem frame_reference : Cert.quiescent_RecInRefIdeal := fun m ρ _ =>
  (θ_run Cert.RecInRefIdeal.defs _ _).mono (fun r h => ⟨fun c => (h c).2, sem_eq_zero_of_no_sems (by decide) r.2⟩)
    (Cert.RecInRefIdeal.Value.run (F := Ideal) m ρ)

theorem algebraic : Cert.algebraic_RecInIdeal_RecInRefIdeal := by
  intro m g m' g' hpre hm
  refine ⟨fun c => (dats m 0 c).arrAt 2 cfg0.N, run_blocks (F := Ideal) m g, ?_⟩
  refine (θ_run Cert.RecInRefIdeal.defs _ _).mono (fun r h c => ?_) (Cert.RecInRefIdeal.Value.run (F := Ideal) m' g')
  obtain ⟨h0, hk⟩ := h c
  refine ⟨h0.trans ((Cert.RecInRefIdeal.Read.val_main_v2_eq _ _).trans ?_), hk⟩
  rw [(hm c).1, (hm c).2]
  exact (ref_at _ _).trans (arr m c).symm

end Cert.RecInIdeal.Mlp

/-! ### The last projection's input -/

namespace Cert.OutDxIdeal.Mlp

open Cert.OutDxIdeal Cert.OutDxIdeal.Gen Cert.OutDxIdeal.Value

theorem pay_at (x : Vec Ideal S1024x1024 .bf16) (y : Vec Ideal S1024x1024 .bf16) (r : Fin 1024) (j : Fin 1024) : k0_pay1 x y (ix2 r j) = Mlp.nt x y r j := by
  unfold Mlp.nt
  pointwise [k0_pay1]

theorem out_at (x : Vec Ideal S1024x1024 .bf16) (y : Vec Ideal S1024x1024 .bf16) (r : Fin 1024) (j : Fin 1024) : out0_2 x y (ix2 r j) = Mlp.nt x y r j := by
  refine Eq.trans (congrFun ?_ _) (pay_at x y r j)
  unfold out0_2
  rw [View.canon_cons_unit_zero (S := S1024x1024) Mlp.off00]
  simp only [View.ld_unit_zero (S := S1024x1024) Mlp.off00]

theorem idx : ∀ t : Fin cfg0.N, win0_0.index t = ![t.val, 0] ∧ win0_1.index t = ![0, 0] ∧ win0_2.index t = ![t.val, 0] :=
  (by decide +kernel : ∀ t : Fin grid0.N, _)

theorem arr (m : (ℓ : Loc nD τ sig) → Buf (Elt Ideal) ℓ) (c : Dev nD) : (dats m 0 c).arrAt 2 cfg0.N
    = fun i => Mlp.nt (m ((c : Thread nD τ).loc main_arg0)) (m ((c : Thread nD τ).loc main_arg1)) (i 0) (i 1) := by
  refine (dats m 0 c).arrAt_eq_of_covers 2 _ (by decide +kernel) fun t hf y => ?_
  obtain ⟨r, j, rfl⟩ : ∃ (r : Fin 1024) (j : Fin 1024), y = ix2 r j := ⟨y 0, y 1, eq_ix2 y⟩
  refine (congrFun (flushed2 m c t) (ix2 r j)).trans ((out_at (iblk m c 0 t) (iblk m c 1 t) r j).trans ?_)
  refine Mlp.nt_congr (fun k => ?_) (fun k => ?_) <;> blk_ext [iblk, V_main_arg0, V_main_arg1, idx t]

theorem ref_at (x : Mlp.Arr S4096x1024 .bf16) (y : Mlp.Arr S1024x1024 .bf16) :
    Cert.OutDxRefIdeal.Read.val_main_v4 (F := Ideal) x y = fun i => Mlp.nt x y (i 0) (i 1) := by
  funext i
  obtain ⟨r, j, rfl⟩ : ∃ (r : Fin 4096) (j : Fin 1024), i = ix2 r j := ⟨i 0, i 1, eq_ix2 i⟩
  refine (congrFun (Cert.OutDxRefIdeal.Read.val_main_v4_eq (F := Ideal) x y).symm _).trans ?_
  unfold Mlp.nt
  pointwise

theorem frame : Cert.quiescent_OutDx := fun m ρ _ => Cert.OutDx.Gen.frame (F := Bits) m ρ

theorem frame_ideal : Cert.quiescent_OutDxIdeal := fun m ρ _ => Cert.OutDxIdeal.Gen.frame (F := Ideal) m ρ

theorem frame_reference : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run (F := Ideal) m ρ)

theorem algebraic : Cert.algebraic_OutDxIdeal_OutDxRefIdeal := by
  intro m g m' g' hpre hm
  refine ⟨fun c => (dats m 0 c).arrAt 2 cfg0.N, run_blocks (F := Ideal) m g, ?_⟩
  refine (θ_run Cert.OutDxRefIdeal.defs _ _).mono (fun r h c => ?_) (Cert.OutDxRefIdeal.Value.run (F := Ideal) m' g')
  obtain ⟨h0, hk⟩ := h c
  refine ⟨h0.trans ((Cert.OutDxRefIdeal.Read.val_main_v4_eq _ _).trans ?_), hk⟩
  rw [(hm c).1, (hm c).2]
  exact (ref_at _ _).trans (arr m c).symm

end Cert.OutDxIdeal.Mlp

/-! ### The hybrid mixer's input -/

namespace Cert.HybInDxIdeal.Mlp

open Cert.HybInDxIdeal Cert.HybInDxIdeal.Gen Cert.HybInDxIdeal.Value

theorem pay_at (x : Vec Ideal S512x3072 .bf16) (y : Vec Ideal S1024x3072 .bf16) (z : Vec Ideal S512x1024 .bf16) (r : Fin 512) (j : Fin 1024) : k0_pay1 x y z (ix2 r j) = Mlp.back x y z r j := by
  unfold Mlp.back Mlp.nt
  pointwise [k0_pay1]

theorem out_at (x : Vec Ideal S512x3072 .bf16) (y : Vec Ideal S1024x3072 .bf16) (z : Vec Ideal S512x1024 .bf16) (r : Fin 512) (j : Fin 1024) : out0_3 x y z (ix2 r j) = Mlp.back x y z r j := by
  refine Eq.trans (congrFun ?_ _) (pay_at x y z r j)
  unfold out0_3
  rw [View.canon_cons_unit_zero (S := S512x1024) Mlp.off00]
  simp only [View.ld_unit_zero (S := S512x3072) Mlp.off00, View.ld_unit_zero (S := S1024x3072) Mlp.off00, View.ld_unit_zero (S := S512x1024) Mlp.off00]

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem arr (m : (ℓ : Loc nD τ sig) → Buf (Elt Ideal) ℓ) (c : Dev nD) : (dats m 0 c).arrAt 3 cfg0.N
    = fun i => Mlp.back (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  obtain ⟨r, j, rfl⟩ : ∃ (r : Fin 512) (j : Fin 1024), y = ix2 r j := ⟨y 0, y 1, eq_ix2 y⟩
  refine (congrFun (flushed3 m c t) (ix2 r j)).trans ((out_at (iblk m c 0 t) (iblk m c 1 t) (iblk m c 2 t) r j).trans ?_)
  refine congrArg₂ (· + ·) (Mlp.nt_congr (fun k => ?_) (fun k => ?_)) (congrArg (_ * ·) ?_) <;> blk_ext [iblk, V_main_arg0, V_main_arg1, V_main_arg2, idx t]

theorem ref_at (x : Mlp.Arr S4096x3072 .bf16) (y : Mlp.Arr S1024x3072 .bf16) (z : Mlp.Arr S4096x1024 .bf16) :
    Cert.HybInDxRefIdeal.Read.val_main_v8 (F := Ideal) x y z = fun i => Mlp.back x y z (i 0) (i 1) := by
  funext i
  obtain ⟨r, j, rfl⟩ : ∃ (r : Fin 4096) (j : Fin 1024), i = ix2 r j := ⟨i 0, i 1, eq_ix2 i⟩
  refine (congrFun (Cert.HybInDxRefIdeal.Read.val_main_v8_eq (F := Ideal) x y z).symm _).trans ?_
  unfold Mlp.back Mlp.nt
  pointwise

theorem frame : Cert.quiescent_HybInDx := fun m ρ _ => Cert.HybInDx.Gen.frame (F := Bits) m ρ

theorem frame_ideal : Cert.quiescent_HybInDxIdeal := fun m ρ _ => Cert.HybInDxIdeal.Gen.frame (F := Ideal) m ρ

theorem frame_reference : Cert.quiescent_HybInDxRefIdeal := fun m ρ _ =>
  (θ_run Cert.HybInDxRefIdeal.defs _ _).mono (fun r h => ⟨fun c => (h c).2, sem_eq_zero_of_no_sems (by decide) r.2⟩)
    (Cert.HybInDxRefIdeal.Value.run (F := Ideal) m ρ)

theorem algebraic : Cert.algebraic_HybInDxIdeal_HybInDxRefIdeal := by
  intro m g m' g' hpre hm
  refine ⟨fun c => (dats m 0 c).arrAt 3 cfg0.N, run_blocks (F := Ideal) m g, ?_⟩
  refine (θ_run Cert.HybInDxRefIdeal.defs _ _).mono (fun r h c => ?_) (Cert.HybInDxRefIdeal.Value.run (F := Ideal) m' g')
  obtain ⟨h0, hk⟩ := h c
  refine ⟨h0.trans ((Cert.HybInDxRefIdeal.Read.val_main_v8_eq _ _ _).trans ?_), hk⟩
  rw [(hm c).1, (hm c).2.1, (hm c).2.2]
  exact (ref_at _ _ _).trans (arr m c).symm

end Cert.HybInDxIdeal.Mlp

/-! ### The recurrent mixer's input -/

namespace Cert.RecInDxIdeal.Mlp

open Cert.RecInDxIdeal Cert.RecInDxIdeal.Gen Cert.RecInDxIdeal.Value

theorem pay_at (x : Vec Ideal S512x2048 .bf16) (y : Vec Ideal S1024x2048 .bf16) (z : Vec Ideal S512x1024 .bf16) (r : Fin 512) (j : Fin 1024) : k0_pay1 x y z (ix2 r j) = Mlp.back x y z r j := by
  unfold Mlp.back Mlp.nt
  pointwise [k0_pay1]

theorem out_at (x : Vec Ideal S512x2048 .bf16) (y : Vec Ideal S1024x2048 .bf16) (z : Vec Ideal S512x1024 .bf16) (r : Fin 512) (j : Fin 1024) : out0_3 x y z (ix2 r j) = Mlp.back x y z r j := by
  refine Eq.trans (congrFun ?_ _) (pay_at x y z r j)
  unfold out0_3
  rw [View.canon_cons_unit_zero (S := S512x1024) Mlp.off00]
  simp only [View.ld_unit_zero (S := S512x2048) Mlp.off00, View.ld_unit_zero (S := S1024x2048) Mlp.off00, View.ld_unit_zero (S := S512x1024) Mlp.off00]

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem arr (m : (ℓ : Loc nD τ sig) → Buf (Elt Ideal) ℓ) (c : Dev nD) : (dats m 0 c).arrAt 3 cfg0.N
    = fun i => Mlp.back (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  obtain ⟨r, j, rfl⟩ : ∃ (r : Fin 512) (j : Fin 1024), y = ix2 r j := ⟨y 0, y 1, eq_ix2 y⟩
  refine (congrFun (flushed3 m c t) (ix2 r j)).trans ((out_at (iblk m c 0 t) (iblk m c 1 t) (iblk m c 2 t) r j).trans ?_)
  refine congrArg₂ (· + ·) (Mlp.nt_congr (fun k => ?_) (fun k => ?_)) (congrArg (_ * ·) ?_) <;> blk_ext [iblk, V_main_arg0, V_main_arg1, V_main_arg2, idx t]

theorem ref_at (x : Mlp.Arr S4096x2048 .bf16) (y : Mlp.Arr S1024x2048 .bf16) (z : Mlp.Arr S4096x1024 .bf16) :
    Cert.RecInDxRefIdeal.Read.val_main_v8 (F := Ideal) x y z = fun i => Mlp.back x y z (i 0) (i 1) := by
  funext i
  obtain ⟨r, j, rfl⟩ : ∃ (r : Fin 4096) (j : Fin 1024), i = ix2 r j := ⟨i 0, i 1, eq_ix2 i⟩
  refine (congrFun (Cert.RecInDxRefIdeal.Read.val_main_v8_eq (F := Ideal) x y z).symm _).trans ?_
  unfold Mlp.back Mlp.nt
  pointwise

theorem frame : Cert.quiescent_RecInDx := fun m ρ _ => Cert.RecInDx.Gen.frame (F := Bits) m ρ

theorem frame_ideal : Cert.quiescent_RecInDxIdeal := fun m ρ _ => Cert.RecInDxIdeal.Gen.frame (F := Ideal) m ρ

theorem frame_reference : Cert.quiescent_RecInDxRefIdeal := fun m ρ _ =>
  (θ_run Cert.RecInDxRefIdeal.defs _ _).mono (fun r h => ⟨fun c => (h c).2, sem_eq_zero_of_no_sems (by decide) r.2⟩)
    (Cert.RecInDxRefIdeal.Value.run (F := Ideal) m ρ)

theorem algebraic : Cert.algebraic_RecInDxIdeal_RecInDxRefIdeal := by
  intro m g m' g' hpre hm
  refine ⟨fun c => (dats m 0 c).arrAt 3 cfg0.N, run_blocks (F := Ideal) m g, ?_⟩
  refine (θ_run Cert.RecInDxRefIdeal.defs _ _).mono (fun r h c => ?_) (Cert.RecInDxRefIdeal.Value.run (F := Ideal) m' g')
  obtain ⟨h0, hk⟩ := h c
  refine ⟨h0.trans ((Cert.RecInDxRefIdeal.Read.val_main_v8_eq _ _ _).trans ?_), hk⟩
  rw [(hm c).1, (hm c).2.1, (hm c).2.2]
  exact (ref_at _ _ _).trans (arr m c).symm

end Cert.RecInDxIdeal.Mlp

end
-- ==== Proof.MlpInDw.lean ====
/- The gradients of the mixers' weights: the sum over the tokens of the input times the column's gradient. -/
module

public import proofs.«01_k».proof.Defs
public import proofs.«01_k».proof.Proof.Gen.OutDw.Frame
public import proofs.«01_k».proof.Proof.Gen.OutDwIdeal.Value
public import proofs.«01_k».proof.Proof.Gen.OutDwRefIdeal.Read
public import proofs.«01_k».proof.Proof.Gen.HybInDw.Frame
public import proofs.«01_k».proof.Proof.Gen.HybInDwIdeal.Value
public import proofs.«01_k».proof.Proof.Gen.HybInDwRefIdeal.Read
public import proofs.«01_k».proof.Proof.Gen.RecInDw.Frame
public import proofs.«01_k».proof.Proof.Gen.RecInDwIdeal.Value
public import proofs.«01_k».proof.Proof.Gen.RecInDwRefIdeal.Read
public import proofs.«01_k».proof.Proof.MlpCommon

@[expose] public section

set_option maxRecDepth 16384

noncomputable section

open Idealize.ShloMosaic Idealize.ShloMosaic.TcCoe Idealize.SL.Sem

/-! ### The last projection's weights -/

namespace Cert.OutDwIdeal.Mlp

open Cert.OutDwIdeal Cert.OutDwIdeal.Gen Cert.OutDwIdeal.Value

theorem pay_at (x : Vec Ideal S4096x512 .bf16) (y0 y1 y2 y3 : Vec Ideal S1024x1024 .bf16) (r : Fin 512) (j : Fin 1024) :
    k0_pay1 x y0 y1 y2 y3 (ix2 r j) = Mlp.four (fun k => x (ix2 k r)) y0 y1 y2 y3 j := by
  unfold Mlp.four
  pointwise [k0_pay1]

theorem out_at (x : Vec Ideal S4096x512 .bf16) (y : Vec Ideal S4096x1024 .bf16) (r : Fin 512) (j : Fin 1024) : out0_2 x y (ix2 r j) = Mlp.tn x y r j := by
  refine Eq.trans (congrFun ?_ _) ((pay_at x _ _ _ _ r j).trans (Mlp.chunks _ y inb_S4096x1024_S1024x1024_0_0 inb_S4096x1024_S1024x1024_1024_0 inb_S4096x1024_S1024x1024_2048_0 inb_S4096x1024_S1024x1024_3072_0 j))
  unfold out0_2
  rw [View.canon_cons_unit_zero (S := S512x1024) Mlp.off00]
  simp only [View.ld_unit_zero (S := S4096x512) Mlp.off00]

theorem idx : ∀ t : Fin cfg0.N, win0_0.index t = ![0, t.val] ∧ win0_1.index t = ![0, 0] ∧ win0_2.index t = ![t.val, 0] :=
  (by decide +kernel : ∀ t : Fin grid0.N, _)

theorem arr (m : (ℓ : Loc nD τ sig) → Buf (Elt Ideal) ℓ) (c : Dev nD) : (dats m 0 c).arrAt 2 cfg0.N
    = fun i => Mlp.tn (m ((c : Thread nD τ).loc main_arg0)) (m ((c : Thread nD τ).loc main_arg1)) (i 0) (i 1) := by
  refine (dats m 0 c).arrAt_eq_of_covers 2 _ (by decide +kernel) fun t hf y => ?_
  obtain ⟨r, j, rfl⟩ : ∃ (r : Fin 512) (j : Fin 1024), y = ix2 r j := ⟨y 0, y 1, eq_ix2 y⟩
  refine (congrFun (flushed2 m c t) (ix2 r j)).trans ((out_at (iblk m c 0 t) (iblk m c 1 t) r j).trans ?_)
  refine Mlp.tn_congr (fun k => ?_) (fun k => ?_) <;> blk_ext [iblk, V_main_arg0, V_main_arg1, idx t]

theorem ref_at (x : Mlp.Arr S4096x1024 .bf16) (y : Mlp.Arr S4096x1024 .bf16) :
    Cert.OutDwRefIdeal.Read.val_main_v5 (F := Ideal) x y = fun i => Mlp.tn x y (i 0) (i 1) := by
  funext i
  obtain ⟨r, j, rfl⟩ : ∃ (r : Fin 1024) (j : Fin 1024), i = ix2 r j := ⟨i 0, i 1, eq_ix2 i⟩
  refine (congrFun (Cert.OutDwRefIdeal.Read.val_main_v5_eq (F := Ideal) x y).symm _).trans ?_
  unfold Mlp.tn
  pointwise
  exact Finset.sum_congr rfl fun k _ => mul_comm _ _

theorem frame : Cert.quiescent_OutDw := fun m ρ _ => Cert.OutDw.Gen.frame (F := Bits) m ρ

theorem frame_ideal : Cert.quiescent_OutDwIdeal := fun m ρ _ => Cert.OutDwIdeal.Gen.frame (F := Ideal) m ρ

theorem frame_reference : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

theorem algebraic : Cert.algebraic_OutDwIdeal_OutDwRefIdeal := by
  intro m g m' g' hpre hm
  refine ⟨fun c => (dats m 0 c).arrAt 2 cfg0.N, run_blocks (F := Ideal) m g, ?_⟩
  refine (θ_run Cert.OutDwRefIdeal.defs _ _).mono (fun r h c => ?_) (Cert.OutDwRefIdeal.Value.run (F := Ideal) m' g')
  obtain ⟨h0, hk⟩ := h c
  refine ⟨h0.trans ((Cert.OutDwRefIdeal.Read.val_main_v5_eq _ _).trans ?_), hk⟩
  rw [(hm c).1, (hm c).2]
  exact (ref_at _ _).trans (arr m c).symm

end Cert.OutDwIdeal.Mlp

/-! ### The hybrid mixer's first projection's weights -/

namespace Cert.HybInDwIdeal.Mlp

open Cert.HybInDwIdeal Cert.HybInDwIdeal.Gen Cert.HybInDwIdeal.Value

theorem idx : ∀ t : Fin cfg0.N, win0_0.index t = ![0, t.val / 3] ∧ win0_1.index t = ![0, t.val % 3] ∧ win0_2.index t = ![t.val / 3, t.val % 3] :=
  (by decide +kernel : ∀ t : Fin grid0.N, _)

theorem arr (m : (ℓ : Loc nD τ sig) → Buf (Elt Ideal) ℓ) (c : Dev nD) : (dats m 0 c).arrAt 2 cfg0.N
    = fun i => Mlp.tn (m ((c : Thread nD τ).loc main_arg0)) (m ((c : Thread nD τ).loc main_arg1)) (i 0) (i 1) := by
  refine (dats m 0 c).arrAt_eq_of_covers 2 _ (by decide +kernel) fun t hf y => ?_
  obtain ⟨r, j, rfl⟩ : ∃ (r : Fin 512) (j : Fin 1024), y = ix2 r j := ⟨y 0, y 1, eq_ix2 y⟩
  refine (congrFun (flushed2 m c t) (ix2 r j)).trans ((Cert.OutDwIdeal.Mlp.out_at (iblk m c 0 t) (iblk m c 1 t) r j).trans ?_)
  refine Mlp.tn_congr (fun k => ?_) (fun k => ?_) <;> blk_ext [iblk, V_main_arg0, V_main_arg1, idx t]

theorem ref_at (x : Mlp.Arr S4096x1024 .bf16) (y : Mlp.Arr S4096x3072 .bf16) :
    Cert.HybInDwRefIdeal.Read.val_main_v5 (F := Ideal) x y = fun i => Mlp.tn x y (i 0) (i 1) := by
  funext i
  obtain ⟨r, j, rfl⟩ : ∃ (r : Fin 1024) (j : Fin 3072), i = ix2 r j := ⟨i 0, i 1, eq_ix2 i⟩
  refine (congrFun (Cert.HybInDwRefIdeal.Read.val_main_v5_eq (F := Ideal) x y).symm _).trans ?_
  unfold Mlp.tn
  pointwise
  exact Finset.sum_congr rfl fun k _ => mul_comm _ _

theorem frame : Cert.quiescent_HybInDw := fun m ρ _ => Cert.HybInDw.Gen.frame (F := Bits) m ρ

theorem frame_ideal : Cert.quiescent_HybInDwIdeal := fun m ρ _ => Cert.HybInDwIdeal.Gen.frame (F := Ideal) m ρ

theorem frame_reference : Cert.quiescent_HybInDwRefIdeal := fun m ρ _ =>
  (θ_run Cert.HybInDwRefIdeal.defs _ _).mono (fun r h => ⟨fun c => (h c).2, sem_eq_zero_of_no_sems (by decide) r.2⟩)
    (Cert.HybInDwRefIdeal.Value.run (F := Ideal) m ρ)

theorem algebraic : Cert.algebraic_HybInDwIdeal_HybInDwRefIdeal := by
  intro m g m' g' hpre hm
  refine ⟨fun c => (dats m 0 c).arrAt 2 cfg0.N, run_blocks (F := Ideal) m g, ?_⟩
  refine (θ_run Cert.HybInDwRefIdeal.defs _ _).mono (fun r h c => ?_) (Cert.HybInDwRefIdeal.Value.run (F := Ideal) m' g')
  obtain ⟨h0, hk⟩ := h c
  refine ⟨h0.trans ((Cert.HybInDwRefIdeal.Read.val_main_v5_eq _ _).trans ?_), hk⟩
  rw [(hm c).1, (hm c).2]
  exact (ref_at _ _).trans (arr m c).symm

end Cert.HybInDwIdeal.Mlp

/-! ### The recurrent mixer's first projection's weights -/

namespace Cert.RecInDwIdeal.Mlp

open Cert.RecInDwIdeal Cert.RecInDwIdeal.Gen Cert.RecInDwIdeal.Value

theorem idx : ∀ t : Fin cfg0.N, win0_0.index t = ![0, t.val / 2] ∧ win0_1.index t = ![0, t.val % 2] ∧ win0_2.index t = ![t.val / 2, t.val % 2] :=
  (by decide +kernel : ∀ t : Fin grid0.N, _)

theorem arr (m : (ℓ : Loc nD τ sig) → Buf (Elt Ideal) ℓ) (c : Dev nD) : (dats m 0 c).arrAt 2 cfg0.N
    = fun i => Mlp.tn (m ((c : Thread nD τ).loc main_arg0)) (m ((c : Thread nD τ).loc main_arg1)) (i 0) (i 1) := by
  refine (dats m 0 c).arrAt_eq_of_covers 2 _ (by decide +kernel) fun t hf y => ?_
  obtain ⟨r, j, rfl⟩ : ∃ (r : Fin 512) (j : Fin 1024), y = ix2 r j := ⟨y 0, y 1, eq_ix2 y⟩
  refine (congrFun (flushed2 m c t) (ix2 r j)).trans ((Cert.OutDwIdeal.Mlp.out_at (iblk m c 0 t) (iblk m c 1 t) r j).trans ?_)
  refine Mlp.tn_congr (fun k => ?_) (fun k => ?_) <;> blk_ext [iblk, V_main_arg0, V_main_arg1, idx t]

theorem ref_at (x : Mlp.Arr S4096x1024 .bf16) (y : Mlp.Arr S4096x2048 .bf16) :
    Cert.RecInDwRefIdeal.Read.val_main_v5 (F := Ideal) x y = fun i => Mlp.tn x y (i 0) (i 1) := by
  funext i
  obtain ⟨r, j, rfl⟩ : ∃ (r : Fin 1024) (j : Fin 2048), i = ix2 r j := ⟨i 0, i 1, eq_ix2 i⟩
  refine (congrFun (Cert.RecInDwRefIdeal.Read.val_main_v5_eq (F := Ideal) x y).symm _).trans ?_
  unfold Mlp.tn
  pointwise
  exact Finset.sum_congr rfl fun k _ => mul_comm _ _

theorem frame : Cert.quiescent_RecInDw := fun m ρ _ => Cert.RecInDw.Gen.frame (F := Bits) m ρ

theorem frame_ideal : Cert.quiescent_RecInDwIdeal := fun m ρ _ => Cert.RecInDwIdeal.Gen.frame (F := Ideal) m ρ

theorem frame_reference : Cert.quiescent_RecInDwRefIdeal := fun m ρ _ =>
  (θ_run Cert.RecInDwRefIdeal.defs _ _).mono (fun r h => ⟨fun c => (h c).2, sem_eq_zero_of_no_sems (by decide) r.2⟩)
    (Cert.RecInDwRefIdeal.Value.run (F := Ideal) m ρ)

theorem algebraic : Cert.algebraic_RecInDwIdeal_RecInDwRefIdeal := by
  intro m g m' g' hpre hm
  refine ⟨fun c => (dats m 0 c).arrAt 2 cfg0.N, run_blocks (F := Ideal) m g, ?_⟩
  refine (θ_run Cert.RecInDwRefIdeal.defs _ _).mono (fun r h c => ?_) (Cert.RecInDwRefIdeal.Value.run (F := Ideal) m' g')
  obtain ⟨h0, hk⟩ := h c
  refine ⟨h0.trans ((Cert.RecInDwRefIdeal.Read.val_main_v5_eq _ _).trans ?_), hk⟩
  rw [(hm c).1, (hm c).2]
  exact (ref_at _ _).trans (arr m c).symm

end Cert.RecInDwIdeal.Mlp

end
-- ==== Proof.MlpOut.lean ====
/- A mixer's output projection, the residual and the layer norm: the kernel's two arrays and the reference's. -/
module

public import proofs.«01_k».proof.Defs
public import proofs.«01_k».proof.Proof.Gen.Out.Frame
public import proofs.«01_k».proof.Proof.Gen.OutIdeal.Value
public import proofs.«01_k».proof.Proof.Gen.OutRefIdeal.Read
public import proofs.«01_k».proof.Proof.MlpCommon

@[expose] public section

set_option maxRecDepth 16384

noncomputable section

namespace Cert.OutIdeal.Mlp

open Cert.OutIdeal Cert.OutIdeal.Gen Cert.OutIdeal.Value Idealize.ShloMosaic Idealize.ShloMosaic.TcCoe Idealize.SL.Sem

variable (m : (ℓ : Loc nD τ sig) → Buf (Elt Ideal) ℓ)

/-- The arguments. -/
abbrev a0 (c : Dev nD) : Mlp.Arr S4096x1024 .bf16 := m ((c : Thread nD τ).loc main_arg0)
abbrev a1 (c : Dev nD) : Mlp.Arr S1024x1024 .bf16 := m ((c : Thread nD τ).loc main_arg1)
abbrev a2 (c : Dev nD) : Mlp.Arr S4096x1024 .bf16 := m ((c : Thread nD τ).loc main_arg2)
abbrev a3 (c : Dev nD) : Mlp.Arr S1024 .f32 := m ((c : Thread nD τ).loc main_arg3)
abbrev a4 (c : Dev nD) : Mlp.Arr S1024 .f32 := m ((c : Thread nD τ).loc main_arg4)

/-- The residual stream at a token and a feature, before the norm. -/
def pre (x : Mlp.Arr S4096x1024 .bf16) (w : Mlp.Arr S1024x1024 .bf16) (z : Mlp.Arr S4096x1024 .bf16) (r : Fin 4096) (j : Fin 1024) : EReal :=
  Ideal.ofBits .bf16 0x3FD7#16 * z (ix2 r j) + ∑ k : Fin 1024, x (ix2 r k) * w (ix2 k j)

/-- The normed stream at a token and a feature. -/
def val (x : Mlp.Arr S4096x1024 .bf16) (w : Mlp.Arr S1024x1024 .bf16) (z : Mlp.Arr S4096x1024 .bf16) (g b : Mlp.Arr S1024 .f32) (i : S4096x1024.Idx) : EReal :=
  Mlp.norm (pre x w z (i 0)) (g (ix1 (i 1))) (b (ix1 (i 1))) (i 1)

/-- The residual stream from the blocks a step reads. -/
def preB (x : Vec Ideal S512x1024 .bf16) (w : Vec Ideal S1024x1024 .bf16) (z : Vec Ideal S512x1024 .bf16) (r : Fin 512) (j : Fin 1024) : EReal :=
  Ideal.ofBits .bf16 0x3FD7#16 * z (ix2 r j) + ∑ k : Fin 1024, x (ix2 r k) * w (ix2 k j)

theorem pay_pre (x : Vec Ideal S512x1024 .bf16) (w : Vec Ideal S1024x1024 .bf16) (z : Vec Ideal S512x1024 .bf16) (r : Fin 512) (j : Fin 1024) :
    k0_pay1 x w z (ix2 r j) = preB x w z r j := by
  unfold preB
  pointwise [k0_pay1]

theorem pay_norm (x : Vec Ideal S512x1024 .bf16) (w : Vec Ideal S1024x1024 .bf16) (z : Vec Ideal S512x1024 .bf16) (g b : Vec Ideal S1x1024 .f32) (r : Fin 512) (j : Fin 1024) :
    k0_pay2 x w z g b (ix2 r j)
      = Mlp.norm (preB x w z r) (g (ix2 0 j)) (b (ix2 0 j)) j := by
  unfold preB Mlp.norm Mlp.mean
  pointwise [k0_pay2, k0_pay1]

theorem out_norm (x : Vec Ideal S512x1024 .bf16) (w : Vec Ideal S1024x1024 .bf16) (z : Vec Ideal S512x1024 .bf16) (g b : Vec Ideal S1x1024 .f32) : out0_5 x w z g b = k0_pay2 x w z g b := by
  unfold out0_5
  rw [View.canon_cons_unit_zero (S := S512x1024) Mlp.off00]
  simp only [View.ld_unit_zero (S := S512x1024) Mlp.off00, View.ld_unit_zero (S := S1024x1024) Mlp.off00, View.ld_unit_zero (S := S1x1024) Mlp.off00]

theorem out_pre (x : Vec Ideal S512x1024 .bf16) (w : Vec Ideal S1024x1024 .bf16) (z : Vec Ideal S512x1024 .bf16) (g b : Vec Ideal S1x1024 .f32) : out0_6 x w z g b = k0_pay1 x w z := by
  unfold out0_6
  rw [View.canon_cons_unit_zero (S := S512x1024) Mlp.off00]
  simp only [View.ld_unit_zero (S := S512x1024) Mlp.off00, View.ld_unit_zero (S := S1024x1024) Mlp.off00]

/-! ### The arrays -/

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

theorem row (t : Fin cfg0.N) (r : Fin 512) : t.val * 512 + r.val < 4096 := by
  have h : t.val < 8 := t.isLt
  omega

theorem blk_pre (c : Dev nD) (t : Fin cfg0.N) (r : Fin 512) (j : Fin 1024) :
    preB (iblk m c 0 t) (iblk m c 1 t) (iblk m c 2 t) r j = pre (a0 m c) (a1 m c) (a2 m c) ⟨t.val * 512 + r.val, row t r⟩ j := by
  unfold preB pre
  refine congrArg₂ (· + ·) (congrArg (_ * ·) ?_) (Finset.sum_congr rfl fun k _ => ?_)
  · blk_ext [iblk, V_main_arg2, idx t]
  · congr 1 <;> blk_ext [iblk, V_main_arg0, V_main_arg1, idx t]

theorem blk_g (c : Dev nD) (t : Fin cfg0.N) (j : Fin 1024) :
    (iblk m c 3 t : Vec Ideal S1x1024 .f32) (ix2 0 j) = a3 m c (ix1 j) := by
  blk_point [iblk, V, idx t]

theorem blk_b (c : Dev nD) (t : Fin cfg0.N) (j : Fin 1024) :
    (iblk m c 4 t : Vec Ideal S1x1024 .f32) (ix2 0 j) = a4 m c (ix1 j) := by
  blk_point [iblk, V, idx t]

theorem cell5 (t : Fin cfg0.N) (r : Fin 512) (j : Fin 1024) :
    (((cfg0.win 5).blk t).view.emb (ix2 r j) : S4096x1024.Idx) = ix2 ⟨t.val * 512 + r.val, row t r⟩ j := by
  funext a
  fin_cases a <;> refine Fin.ext ?_ <;> blk_simp [idx t] <;> rfl

theorem cell6 (t : Fin cfg0.N) (r : Fin 512) (j : Fin 1024) :
    (((cfg0.win 6).blk t).view.emb (ix2 r j) : S4096x1024.Idx) = ix2 ⟨t.val * 512 + r.val, row t r⟩ j := by
  funext a
  fin_cases a <;> refine Fin.ext ?_ <;> blk_simp [idx t] <;> rfl

theorem arr_pre (c : Dev nD) : (dats m 0 c).arrAt 6 cfg0.N = fun i => pre (a0 m c) (a1 m c) (a2 m c) (i 0) (i 1) := by
  refine (dats m 0 c).arrAt_eq_of_covers 6 _ (by decide +kernel) fun t hf y => ?_
  obtain ⟨r, j, rfl⟩ : ∃ (r : Fin 512) (j : Fin 1024), y = ix2 r j := ⟨y 0, y 1, eq_ix2 y⟩
  refine (congrFun (flushed6 m c t) (ix2 r j)).trans ((congrFun (out_pre (iblk m c 0 t) (iblk m c 1 t) (iblk m c 2 t) (iblk m c 3 t) (iblk m c 4 t)) (ix2 r j)).trans ((pay_pre (iblk m c 0 t) (iblk m c 1 t) (iblk m c 2 t) r j).trans ((blk_pre m c t r j).trans ?_)))
  exact congrArg (fun i : S4096x1024.Idx => pre (a0 m c) (a1 m c) (a2 m c) (i 0) (i 1)) (cell6 t r j).symm

theorem arr_norm (c : Dev nD) : (dats m 0 c).arrAt 5 cfg0.N = val (a0 m c) (a1 m c) (a2 m c) (a3 m c) (a4 m c) := by
  refine (dats m 0 c).arrAt_eq_of_covers 5 _ (by decide +kernel) fun t hf y => ?_
  obtain ⟨r, j, rfl⟩ : ∃ (r : Fin 512) (j : Fin 1024), y = ix2 r j := ⟨y 0, y 1, eq_ix2 y⟩
  refine (congrFun (flushed5 m c t) (ix2 r j)).trans ((congrFun (out_norm (iblk m c 0 t) (iblk m c 1 t) (iblk m c 2 t) (iblk m c 3 t) (iblk m c 4 t)) (ix2 r j)).trans ((pay_norm (iblk m c 0 t) (iblk m c 1 t) (iblk m c 2 t) (iblk m c 3 t) (iblk m c 4 t) r j).trans ?_))
  refine Eq.trans ?_ (congrArg (val (a0 m c) (a1 m c) (a2 m c) (a3 m c) (a4 m c)) (cell5 t r j).symm)
  exact congr (congr (congr (congrArg Mlp.norm (funext fun l => blk_pre m c t r l)) (blk_g m c t j)) (blk_b m c t j)) rfl

/-! ### The reference -/

theorem ref_pre (x : Mlp.Arr S4096x1024 .bf16) (w : Mlp.Arr S1024x1024 .bf16) (z : Mlp.Arr S4096x1024 .bf16) (i : S4096x1024.Idx) : Cert.OutRefIdeal.Read.val_main_v6 (F := Ideal) x w z i = pre x w z (i 0) (i 1) := by
  obtain ⟨r, j, rfl⟩ : ∃ (r : Fin 4096) (j : Fin 1024), i = ix2 r j := ⟨i 0, i 1, eq_ix2 i⟩
  refine (congrFun (Cert.OutRefIdeal.Read.val_main_v6_eq (F := Ideal) x w z).symm _).trans ?_
  unfold pre
  pointwise

theorem ref_norm (x : Mlp.Arr S4096x1024 .bf16) (w : Mlp.Arr S1024x1024 .bf16) (z : Mlp.Arr S4096x1024 .bf16) (g b : Mlp.Arr S1024 .f32) (i : S4096x1024.Idx) : Cert.OutRefIdeal.Read.val_main_v31 (F := Ideal) x w z g b i = val x w z g b i := by
  obtain ⟨r, j, rfl⟩ : ∃ (r : Fin 4096) (j : Fin 1024), i = ix2 r j := ⟨i 0, i 1, eq_ix2 i⟩
  unfold val Mlp.norm Mlp.mean pre
  refine (congrFun (Cert.OutRefIdeal.Read.val_main_v31_eq (F := Ideal) x w z g b).symm _).trans ?_
  pointwise

/-! ### The claims -/

theorem frame : Cert.quiescent_Out := fun m ρ _ => Cert.Out.Gen.frame (F := Bits) m ρ

theorem frame_ideal : Cert.quiescent_OutIdeal := fun m ρ _ => Cert.OutIdeal.Gen.frame (F := Ideal) m ρ

theorem frame_reference : Cert.quiescent_OutRefIdeal := fun m ρ _ =>
  (θ_run Cert.OutRefIdeal.defs _ _).mono (fun r h => ⟨fun c => (h c).2.2, sem_eq_zero_of_no_sems (by decide) r.2⟩)
    (Cert.OutRefIdeal.Value.run (F := Ideal) m ρ)

theorem algebraic : Cert.algebraic_OutIdeal_OutRefIdeal := by
  intro m g m' g' hpre hm
  refine ⟨fun c => (dats m 0 c).arrAt 5 cfg0.N, fun c => (dats m 0 c).arrAt 6 cfg0.N, run_blocks (F := Ideal) m g, ?_⟩
  refine (θ_run Cert.OutRefIdeal.defs _ _).mono (fun r h c => ?_) (Cert.OutRefIdeal.Value.run (F := Ideal) m' g')
  obtain ⟨h0, h1, hk⟩ := h c
  refine ⟨h0.trans ((Cert.OutRefIdeal.Read.val_main_v31_eq _ _ _ _ _).trans (funext fun i => ?_)), h1.trans ((Cert.OutRefIdeal.Read.val_main_v6_eq _ _ _).trans (funext fun i => ?_)), hk⟩
  · rw [(hm c).1, (hm c).2.1, (hm c).2.2.1, (hm c).2.2.2.1, (hm c).2.2.2.2]
    exact (ref_norm _ _ _ _ _ i).trans (congrFun (arr_norm m c) i).symm
  · rw [(hm c).1, (hm c).2.1, (hm c).2.2.1]
    exact (ref_pre _ _ _ i).trans (congrFun (arr_pre m c) i).symm

end Cert.OutIdeal.Mlp

end
-- ==== Proof.MlpHidden.lean ====
/- The feed-forward block's first product, and the gradients of its input and of its hidden units. -/
module

public import proofs.«01_k».proof.Defs
public import proofs.«01_k».proof.Proof.Gen.Up.Frame
public import proofs.«01_k».proof.Proof.Gen.UpIdeal.Value
public import proofs.«01_k».proof.Proof.Gen.UpRefIdeal.Read
public import proofs.«01_k».proof.Proof.Gen.UpDx.Frame
public import proofs.«01_k».proof.Proof.Gen.UpDxIdeal.Value
public import proofs.«01_k».proof.Proof.Gen.UpDxRefIdeal.Read
public import proofs.«01_k».proof.Proof.Gen.DownDx.Frame
public import proofs.«01_k».proof.Proof.Gen.DownDxIdeal.Value
public import proofs.«01_k».proof.Proof.Gen.DownDxRefIdeal.Read
public import proofs.«01_k».proof.Proof.MlpCommon

@[expose] public section

set_option maxRecDepth 16384

noncomputable section

open Idealize.ShloMosaic Idealize.ShloMosaic.TcCoe Idealize.SL.Sem

/-! ### The hidden units -/

namespace Cert.UpIdeal.Mlp

open Cert.UpIdeal Cert.UpIdeal.Gen Cert.UpIdeal.Value

theorem pay_at (x : Vec Ideal S1024x1024 .bf16) (y : Vec Ideal S1x1x1024x1024 .bf16) (r j : Fin 1024) :
    k0_pay1 x y (ix2 r j) = ∑ k : Fin 1024, x (ix2 r k) * y (ix4 0 0 k j) := by
  pointwise [k0_pay1]

theorem out_at (x : Vec Ideal S1024x1024 .bf16) (y : Vec Ideal S1x1x1024x1024 .bf16) (r j : Fin 1024) :
    out0_2 x y (ix2 r j) = ∑ k : Fin 1024, x (ix2 r k) * y (ix4 0 0 k j) := by
  refine Eq.trans (congrFun ?_ _) (pay_at x y r j)
  unfold out0_2
  rw [View.canon_cons_unit_zero (S := S1024x1024) Mlp.off00]
  simp only [View.ld_unit_zero (S := S1024x1024) Mlp.off00, View.ld_unit_zero (S := S1x1x1024x1024) Mlp.off0000]

theorem idx : ∀ t : Fin cfg0.N, win0_0.index t = ![t.val / 4, 0] ∧ win0_1.index t = ![t.val % 4, 0, 0, 0] ∧ win0_2.index t = ![t.val / 4, t.val % 4] :=
  (by decide +kernel : ∀ t : Fin grid0.N, _)

theorem arr (m : (ℓ : Loc nD τ sig) → Buf (Elt Ideal) ℓ) (c : Dev nD) : (dats m 0 c).arrAt 2 cfg0.N
    = fun i => Mlp.nn (m ((c : Thread nD τ).loc main_arg0)) (m ((c : Thread nD τ).loc main_arg1)) (i 0) (i 1) := by
  refine (dats m 0 c).arrAt_eq_of_covers 2 _ (by decide +kernel) fun t hf y => ?_
  obtain ⟨r, j, rfl⟩ : ∃ (r : Fin 1024) (j : Fin 1024), y = ix2 r j := ⟨y 0, y 1, eq_ix2 y⟩
  refine (congrFun (flushed2 m c t) (ix2 r j)).trans ((out_at (iblk m c 0 t) (iblk m c 1 t) r j).trans ?_)
  unfold Mlp.nn
  refine Finset.sum_congr rfl fun k _ => ?_
  congr 1
  · blk_ext [iblk, V_main_arg0, idx t]
  · blk_point [iblk, V, idx t]

theorem ref_at (x : Mlp.Arr S4096x1024 .bf16) (y : Mlp.Arr S1024x4096 .bf16) :
    Cert.UpRefIdeal.Read.val_main_v3 (F := Ideal) x y = fun i => Mlp.nn x y (i 0) (i 1) := by
  funext i
  obtain ⟨r, j, rfl⟩ : ∃ (r : Fin 4096) (j : Fin 4096), i = ix2 r j := ⟨i 0, i 1, eq_ix2 i⟩
  refine (congrFun (Cert.UpRefIdeal.Read.val_main_v3_eq (F := Ideal) x y).symm _).trans ?_
  unfold Mlp.nn
  pointwise

theorem frame : Cert.quiescent_Up := fun m ρ _ => Cert.Up.Gen.frame (F := Bits) m ρ

theorem frame_ideal : Cert.quiescent_UpIdeal := fun m ρ _ => Cert.UpIdeal.Gen.frame (F := Ideal) m ρ

theorem frame_reference : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

theorem algebraic : Cert.algebraic_UpIdeal_UpRefIdeal := by
  intro m g m' g' hpre hm
  refine ⟨fun c => (dats m 0 c).arrAt 2 cfg0.N, run_blocks (F := Ideal) m g, ?_⟩
  refine (θ_run Cert.UpRefIdeal.defs _ _).mono (fun r h c => ?_) (Cert.UpRefIdeal.Value.run (F := Ideal) m' g')
  obtain ⟨h0, hk⟩ := h c
  refine ⟨h0.trans ((Cert.UpRefIdeal.Read.val_main_v3_eq _ _).trans ?_), hk⟩
  rw [(hm c).1, (hm c).2]
  exact (ref_at _ _).trans (arr m c).symm

end Cert.UpIdeal.Mlp

/-! ### The block's input -/

namespace Cert.UpDxIdeal.Mlp

open Cert.UpDxIdeal Cert.UpDxIdeal.Gen Cert.UpDxIdeal.Value

/-- A group of the weights, loaded. -/
theorem ldw {p : Nat} (w : Vec Ideal S4x1x1024x1024 .bf16) (h : ∀ a, (![p, 0, 0, 0] : Fin 4 → Nat) a + S1x1x1024x1024.size a ≤ S4x1x1024x1024.size a)
    (j k : Fin 1024) (l : Fin 4096) (hl : l.val = p * 1024 + k.val) :
    (View.ld w (Rect.unit (s := S4x1x1024x1024) ![p, 0, 0, 0] S1x1x1024x1024.size h) : Vec Ideal S1x1x1024x1024 .bf16) (ix4 0 0 j k)
      = w (ix4 ⟨l.val / 1024, by omega⟩ 0 j ⟨l.val % 1024, by omega⟩) :=
  View.ld_unit_apply_of w _ _ _ _ _ (fun a => by fin_cases a <;> simp <;> omega)

theorem pay_at (x : Vec Ideal S512x4096 .bf16) (y0 y1 y2 y3 : Vec Ideal S1x1x1024x1024 .bf16) (z : Vec Ideal S512x1024 .bf16) (r : Fin 512) (j : Fin 1024) :
    k0_pay1 x y0 y1 y2 y3 z (ix2 r j)
      = ((((∑ k : Fin 1024, x (ix2 r ⟨k.val, by omega⟩) * y0 (ix4 0 0 j k)) + ∑ k : Fin 1024, x (ix2 r ⟨1024 + k.val, by omega⟩) * y1 (ix4 0 0 j k))
        + ∑ k : Fin 1024, x (ix2 r ⟨2048 + k.val, by omega⟩) * y2 (ix4 0 0 j k)) + ∑ k : Fin 1024, x (ix2 r ⟨3072 + k.val, by omega⟩) * y3 (ix4 0 0 j k))
        + Ideal.ofBits .bf16 0x3FD7#16 * z (ix2 r j) := by
  pointwise [k0_pay1]

theorem out_eq (x : Vec Ideal S512x4096 .bf16) (w : Vec Ideal S4x1x1024x1024 .bf16) (z : Vec Ideal S512x1024 .bf16) :
    out0_3 x w z = k0_pay1 x (View.ld w r0_1) (View.ld w r0_2) (View.ld w r0_3) (View.ld w r0_4) z := by
  unfold out0_3
  rw [View.canon_cons_unit_zero (S := S512x1024) Mlp.off00]
  simp only [View.ld_unit_zero (S := S512x4096) Mlp.off00, View.ld_unit_zero (S := S512x1024) Mlp.off00]

theorem out_at (x : Vec Ideal S512x4096 .bf16) (w : Vec Ideal S4x1x1024x1024 .bf16) (z : Vec Ideal S512x1024 .bf16) (r : Fin 512) (j : Fin 1024) : out0_3 x w z (ix2 r j)
    = (∑ k : Fin 4096, x (ix2 r k) * w (ix4 ⟨k.val / 1024, by omega⟩ 0 j ⟨k.val % 1024, by omega⟩)) + Ideal.ofBits .bf16 0x3FD7#16 * z (ix2 r j) := by
  refine (congrFun (out_eq x w z) _).trans ((pay_at x _ _ _ _ z r j).trans (congrArg (· + _) (Eq.trans ?_ (Mlp.sum_four _).symm)))
  refine congrArg₂ (· + ·) (congrArg₂ (· + ·) (congrArg₂ (· + ·) ?_ ?_) ?_) ?_
    <;> refine Finset.sum_congr rfl fun k _ => congrArg (_ * ·) (ldw w _ j k _ ?_)
  · exact (Nat.zero_add _).symm
  all_goals rfl

theorem idx : ∀ t : Fin cfg0.N, win0_0.index t = ![t.val, 0] ∧ win0_1.index t = ![0, 0, 0, 0] ∧ win0_2.index t = ![t.val, 0] ∧ win0_3.index t = ![t.val, 0] :=
  (by decide +kernel : ∀ t : Fin grid0.N, _)

theorem arr (m : (ℓ : Loc nD τ sig) → Buf (Elt Ideal) ℓ) (c : Dev nD) : (dats m 0 c).arrAt 3 cfg0.N
    = fun i => Mlp.back (m ((c : Thread nD τ).loc main_arg0)) (m ((c : Thread nD τ).loc main_arg2)) (m ((c : Thread nD τ).loc main_arg1)) (i 0) (i 1) := by
  refine (dats m 0 c).arrAt_eq_of_covers 3 _ (by decide +kernel) fun t hf y => ?_
  obtain ⟨r, j, rfl⟩ : ∃ (r : Fin 512) (j : Fin 1024), y = ix2 r j := ⟨y 0, y 1, eq_ix2 y⟩
  refine (congrFun (flushed3 m c t) (ix2 r j)).trans ((out_at (iblk m c 0 t) (iblk m c 1 t) (iblk m c 2 t) r j).trans ?_)
  refine congrArg₂ (· + ·) (Finset.sum_congr rfl fun k _ => congrArg₂ (· * ·) ?_ ?_) (congrArg (_ * ·) ?_)
  · blk_ext [iblk, V_main_arg0, idx t]
  · blk_point [iblk, V, idx t]
  · blk_ext [iblk, V_main_arg1, idx t]

theorem ref_at (x : Mlp.Arr S4096x4096 .bf16) (y : Mlp.Arr S4096x1024 .bf16) (z : Mlp.Arr S1024x4096 .bf16) :
    Cert.UpDxRefIdeal.Read.val_main_v8 (F := Ideal) x y z = fun i => Mlp.back x z y (i 0) (i 1) := by
  funext i
  obtain ⟨r, j, rfl⟩ : ∃ (r : Fin 4096) (j : Fin 1024), i = ix2 r j := ⟨i 0, i 1, eq_ix2 i⟩
  refine (congrFun (Cert.UpDxRefIdeal.Read.val_main_v8_eq (F := Ideal) x y z).symm _).trans ?_
  unfold Mlp.back Mlp.nt
  pointwise

theorem frame : Cert.quiescent_UpDx := fun m ρ _ => Cert.UpDx.Gen.frame (F := Bits) m ρ

theorem frame_ideal : Cert.quiescent_UpDxIdeal := fun m ρ _ => Cert.UpDxIdeal.Gen.frame (F := Ideal) m ρ

theorem frame_reference : Cert.quiescent_UpDxRefIdeal := fun m ρ _ =>
  (θ_run Cert.UpDxRefIdeal.defs _ _).mono (fun r h => ⟨fun c => (h c).2, sem_eq_zero_of_no_sems (by decide) r.2⟩)
    (Cert.UpDxRefIdeal.Value.run (F := Ideal) m ρ)

theorem algebraic : Cert.algebraic_UpDxIdeal_UpDxRefIdeal := by
  intro m g m' g' hpre hm
  refine ⟨fun c => (dats m 0 c).arrAt 3 cfg0.N, run_blocks (F := Ideal) m g, ?_⟩
  refine (θ_run Cert.UpDxRefIdeal.defs _ _).mono (fun r h c => ?_) (Cert.UpDxRefIdeal.Value.run (F := Ideal) m' g')
  obtain ⟨h0, hk⟩ := h c
  refine ⟨h0.trans ((Cert.UpDxRefIdeal.Read.val_main_v8_eq _ _ _).trans ?_), hk⟩
  rw [(hm c).1, (hm c).2.1, (hm c).2.2]
  exact (ref_at _ _ _).trans (arr m c).symm

end Cert.UpDxIdeal.Mlp

/-! ### The hidden units -/

namespace Cert.DownDxIdeal.Mlp

open Cert.DownDxIdeal Cert.DownDxIdeal.Gen Cert.DownDxIdeal.Value

theorem lit2 : Ideal.ofBits FTy.bf16 0x4000#16 = (2 : EReal) := by
  have h : Ideal.ofBits FTy.bf16 0x4000#16 = ((2 : ℝ) : EReal) := by
    simp [Ideal.ofBits, Ideal.ieee, -EReal.coe_mul]; norm_num
  rw [h]; rfl

/-- The output's gradient against a unit's row of weights, times twice the unit's activation where it is positive. -/
def grad (h : Mlp.Arr S4096x4096 .bf16) (du w : Mlp.Arr S4096x1024 .bf16) (r j : Fin 4096) : EReal := Mlp.nt du w r j * (2 * max (h (ix2 r j)) 0)

theorem twice (s h : EReal) :
    (if 0 < h then max h 0 * s + s * max h 0 else 0) = s * (2 * max h 0) := by
  split
  · rename_i h0
    rw [mul_comm (max h 0) s, ← EReal.left_distrib_of_nonneg (le_max_right _ _) (le_max_right _ _), ← one_add_one_eq_two,
      EReal.right_distrib_of_nonneg zero_le_one zero_le_one, one_mul]
  · rename_i h0
    rw [max_eq_right (not_lt.mp h0), mul_zero, mul_zero]

theorem pay_at (x : Vec Ideal S1024x1024 .bf16) (w : Vec Ideal S1x1x1024x1024 .bf16) (h : Vec Ideal S1024x1024 .bf16) (r j : Fin 1024) :
    k0_pay1 (F := Ideal) x w h (ix2 r j) = (∑ k : Fin 1024, x (ix2 r k) * w (ix4 0 0 j k)) * (2 * max (h (ix2 r j)) 0) := by
  pointwise [k0_pay1]
  rw [← lit2]

theorem out_at (x : Vec Ideal S1024x1024 .bf16) (w : Vec Ideal S1x1x1024x1024 .bf16) (h : Vec Ideal S1024x1024 .bf16) (r j : Fin 1024) :
    out0_3 x w h (ix2 r j) = (∑ k : Fin 1024, x (ix2 r k) * w (ix4 0 0 j k)) * (2 * max (h (ix2 r j)) 0) := by
  refine Eq.trans (congrFun ?_ _) (pay_at x w h r j)
  unfold out0_3
  rw [View.canon_cons_unit_zero (S := S1024x1024) Mlp.off00]
  simp only [View.ld_unit_zero (S := S1024x1024) Mlp.off00, View.ld_unit_zero (S := S1x1x1024x1024) Mlp.off0000]

theorem idx : ∀ t : Fin cfg0.N, win0_0.index t = ![t.val / 4, 0] ∧ win0_1.index t = ![t.val % 4, 0, 0, 0] ∧ win0_2.index t = ![t.val / 4, t.val % 4] ∧ win0_3.index t = ![t.val / 4, t.val % 4] :=
  (by decide +kernel : ∀ t : Fin grid0.N, _)

theorem arr (m : (ℓ : Loc nD τ sig) → Buf (Elt Ideal) ℓ) (c : Dev nD) : (dats m 0 c).arrAt 3 cfg0.N
    = fun i => grad (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  obtain ⟨r, j, rfl⟩ : ∃ (r : Fin 1024) (j : Fin 1024), y = ix2 r j := ⟨y 0, y 1, eq_ix2 y⟩
  refine (congrFun (flushed3 m c t) (ix2 r j)).trans ((out_at (iblk m c 0 t) (iblk m c 1 t) (iblk m c 2 t) r j).trans ?_)
  refine congrArg₂ (· * ·) (Finset.sum_congr rfl fun k _ => congrArg₂ (· * ·) ?_ ?_) (congrArg (fun h => 2 * max h 0) ?_)
  · blk_ext [iblk, V_main_arg1, idx t]
  · blk_point [iblk, V, idx t]
  · blk_ext [iblk, V_main_arg0, idx t]

theorem ref_at (x : Mlp.Arr S4096x4096 .bf16) (y : Mlp.Arr S4096x1024 .bf16) (z : Mlp.Arr S4096x1024 .bf16) :
    Cert.DownDxRefIdeal.Read.val_main_v15 (F := Ideal) x y z = fun i => grad x y z (i 0) (i 1) := by
  funext i
  obtain ⟨r, j, rfl⟩ : ∃ (r : Fin 4096) (j : Fin 4096), i = ix2 r j := ⟨i 0, i 1, eq_ix2 i⟩
  unfold grad Mlp.nt
  rw [← twice]
  pointwise [Cert.DownDxRefIdeal.Read.val_main_v15, Cert.DownDxRefIdeal.Read.val_main_v14, Cert.DownDxRefIdeal.Read.val_main_v13, Cert.DownDxRefIdeal.Read.val_main_v12, Cert.DownDxRefIdeal.Read.val_main_v11, Cert.DownDxRefIdeal.Read.val_main_v10, Cert.DownDxRefIdeal.Read.val_main_v9, Cert.DownDxRefIdeal.Read.val_main_v5, Cert.DownDxRefIdeal.Read.val_main_v4, Cert.DownDxRefIdeal.Read.val_main_v3, Cert.DownDxRefIdeal.Read.val_main_v2, Cert.DownDxRefIdeal.Read.val_main_v1, Cert.DownDxRefIdeal.Read.val_main_v0, Cert.DownDxRefIdeal.Read.val_main_cst, Cert.DownDxRefIdeal.Read.val_main_cst_1, Cert.DownDxRefIdeal.Read.val_main_call0_v0, Cert.DownDxRefIdeal.Read.val_main_call0_cst]

theorem frame : Cert.quiescent_DownDx := fun m ρ _ => Cert.DownDx.Gen.frame (F := Bits) m ρ

theorem frame_ideal : Cert.quiescent_DownDxIdeal := fun m ρ _ => Cert.DownDxIdeal.Gen.frame (F := Ideal) m ρ

theorem frame_reference : Cert.quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run (F := Ideal) m ρ)

theorem algebraic : Cert.algebraic_DownDxIdeal_DownDxRefIdeal := by
  intro m g m' g' hpre hm
  refine ⟨fun c => (dats m 0 c).arrAt 3 cfg0.N, run_blocks (F := Ideal) m g, ?_⟩
  refine (θ_run Cert.DownDxRefIdeal.defs _ _).mono (fun r h c => ?_) (Cert.DownDxRefIdeal.Value.run (F := Ideal) m' g')
  obtain ⟨h0, hk⟩ := h c
  refine ⟨h0.trans ((Cert.DownDxRefIdeal.Read.val_main_v15_eq _ _ _).trans ?_), hk⟩
  rw [(hm c).1, (hm c).2.1, (hm c).2.2]
  exact (ref_at _ _ _).trans (arr m c).symm

end Cert.DownDxIdeal.Mlp

end
-- ==== Proof.MlpDown.lean ====
/- The MLP's second product with the square of the rectified hidden units, the residual and the layer norm: the kernel's two arrays and the reference's. -/
module

public import proofs.«01_k».proof.Defs
public import proofs.«01_k».proof.Proof.Gen.Down.Frame
public import proofs.«01_k».proof.Proof.Gen.DownIdeal.Value
public import proofs.«01_k».proof.Proof.Gen.DownRefIdeal.Read
public import proofs.«01_k».proof.Proof.MlpCommon

@[expose] public section

set_option maxRecDepth 16384

noncomputable section

namespace Cert.DownIdeal.Mlp

open Cert.DownIdeal Cert.DownIdeal.Gen Cert.DownIdeal.Value Idealize.ShloMosaic Idealize.ShloMosaic.TcCoe Idealize.SL.Sem

variable (m : (ℓ : Loc nD τ sig) → Buf (Elt Ideal) ℓ)

/-- The arguments. -/
abbrev a0 (c : Dev nD) : Mlp.Arr S4096x4096 .bf16 := m ((c : Thread nD τ).loc main_arg0)
abbrev a1 (c : Dev nD) : Mlp.Arr S4096x1024 .bf16 := m ((c : Thread nD τ).loc main_arg1)
abbrev a2 (c : Dev nD) : Mlp.Arr S4096x1024 .bf16 := m ((c : Thread nD τ).loc main_arg2)
abbrev a3 (c : Dev nD) : Mlp.Arr S1024 .f32 := m ((c : Thread nD τ).loc main_arg3)
abbrev a4 (c : Dev nD) : Mlp.Arr S1024 .f32 := m ((c : Thread nD τ).loc main_arg4)

/-- The residual stream at a token and a feature, before the norm. -/
def pre (x : Mlp.Arr S4096x4096 .bf16) (w : Mlp.Arr S4096x1024 .bf16) (z : Mlp.Arr S4096x1024 .bf16) (r : Fin 4096) (j : Fin 1024) : EReal :=
  Ideal.ofBits .bf16 0x3FD7#16 * z (ix2 r j) + ∑ k : Fin 4096, (max (x (ix2 r k)) 0 * max (x (ix2 r k)) 0) * w (ix2 k j)

/-- The normed stream at a token and a feature. -/
def val (x : Mlp.Arr S4096x4096 .bf16) (w : Mlp.Arr S4096x1024 .bf16) (z : Mlp.Arr S4096x1024 .bf16) (g b : Mlp.Arr S1024 .f32) (i : S4096x1024.Idx) : EReal :=
  Mlp.norm (pre x w z (i 0)) (g (ix1 (i 1))) (b (ix1 (i 1))) (i 1)

/-- The residual stream from the blocks a step reads. -/
def preB (x : Vec Ideal S512x4096 .bf16) (w : Vec Ideal S4x1x1024x1024 .bf16) (z : Vec Ideal S512x1024 .bf16) (r : Fin 512) (j : Fin 1024) : EReal :=
  Ideal.ofBits .bf16 0x3FD7#16 * z (ix2 r j) + ∑ k : Fin 4096, (max (x (ix2 r k)) 0 * max (x (ix2 r k)) 0) * w (ix4 ⟨k.val / 1024, by omega⟩ 0 ⟨k.val % 1024, by omega⟩ j)

theorem pay_pre (x : Vec Ideal S512x4096 .bf16) (w : Vec Ideal S4x1x1024x1024 .bf16) (z : Vec Ideal S512x1024 .bf16) (r : Fin 512) (j : Fin 1024) :
    k0_pay2 x w z (ix2 r j) = preB x w z r j := by
  unfold preB
  pointwise [k0_pay2]

theorem pay_norm (x : Vec Ideal S512x4096 .bf16) (w : Vec Ideal S4x1x1024x1024 .bf16) (z : Vec Ideal S512x1024 .bf16) (g b : Vec Ideal S1x1024 .f32) (r : Fin 512) (j : Fin 1024) :
    k0_pay1 (k0_pay3 x w z g b) (ix2 r j)
      = Mlp.norm (preB x w z r) (g (ix2 0 j)) (b (ix2 0 j)) j := by
  unfold preB Mlp.norm Mlp.mean
  pointwise [k0_pay1, k0_pay3, k0_pay2]

theorem out_norm (x : Vec Ideal S512x4096 .bf16) (w : Vec Ideal S4x1x1024x1024 .bf16) (z : Vec Ideal S512x1024 .bf16) (g b : Vec Ideal S1x1024 .f32) : out0_5 x w z g b = k0_pay1 (k0_pay3 x w z g b) := by
  unfold out0_5
  rw [View.canon_cons_unit_zero (S := S512x1024) Mlp.off00]
  simp only [View.ld_unit_zero (S := S512x4096) Mlp.off00, View.ld_unit_zero (S := S512x1024) Mlp.off00, View.ld_unit_zero (S := S4x1x1024x1024) Mlp.off0000, View.ld_unit_zero (S := S1x1024) Mlp.off00]

theorem out_pre (x : Vec Ideal S512x4096 .bf16) (w : Vec Ideal S4x1x1024x1024 .bf16) (z : Vec Ideal S512x1024 .bf16) (g b : Vec Ideal S1x1024 .f32) : out0_6 x w z g b = k0_pay2 x w z := by
  unfold out0_6
  rw [View.canon_cons_unit_zero (S := S512x1024) Mlp.off00]
  simp only [View.ld_unit_zero (S := S512x4096) Mlp.off00, View.ld_unit_zero (S := S512x1024) Mlp.off00, View.ld_unit_zero (S := S4x1x1024x1024) Mlp.off0000]

/-! ### The arrays -/

theorem idx : ∀ t : Fin cfg0.N, win0_0.index t = ![t.val, 0] ∧ win0_1.index t = ![0, 0, 0, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

theorem row (t : Fin cfg0.N) (r : Fin 512) : t.val * 512 + r.val < 4096 := by
  have h : t.val < 8 := t.isLt
  omega

theorem blk_pre (c : Dev nD) (t : Fin cfg0.N) (r : Fin 512) (j : Fin 1024) :
    preB (iblk m c 0 t) (iblk m c 1 t) (iblk m c 2 t) r j = pre (a0 m c) (a1 m c) (a2 m c) ⟨t.val * 512 + r.val, row t r⟩ j := by
  unfold preB pre
  refine congrArg₂ (· + ·) (congrArg (_ * ·) ?_) (Finset.sum_congr rfl fun k _ => ?_)
  · blk_ext [iblk, V_main_arg2, idx t]
  · refine congrArg₂ (· * ·) (congrArg₂ (· * ·) (congrArg (max · 0) ?_) (congrArg (max · 0) ?_)) ?_
    · blk_ext [iblk, V_main_arg0, idx t]
    · blk_ext [iblk, V_main_arg0, idx t]
    · blk_point [iblk, V, idx t]

theorem blk_g (c : Dev nD) (t : Fin cfg0.N) (j : Fin 1024) :
    (iblk m c 3 t : Vec Ideal S1x1024 .f32) (ix2 0 j) = a3 m c (ix1 j) := by
  blk_point [iblk, V, idx t]

theorem blk_b (c : Dev nD) (t : Fin cfg0.N) (j : Fin 1024) :
    (iblk m c 4 t : Vec Ideal S1x1024 .f32) (ix2 0 j) = a4 m c (ix1 j) := by
  blk_point [iblk, V, idx t]

theorem cell5 (t : Fin cfg0.N) (r : Fin 512) (j : Fin 1024) :
    (((cfg0.win 5).blk t).view.emb (ix2 r j) : S4096x1024.Idx) = ix2 ⟨t.val * 512 + r.val, row t r⟩ j := by
  funext a
  fin_cases a <;> refine Fin.ext ?_ <;> blk_simp [idx t] <;> rfl

theorem cell6 (t : Fin cfg0.N) (r : Fin 512) (j : Fin 1024) :
    (((cfg0.win 6).blk t).view.emb (ix2 r j) : S4096x1024.Idx) = ix2 ⟨t.val * 512 + r.val, row t r⟩ j := by
  funext a
  fin_cases a <;> refine Fin.ext ?_ <;> blk_simp [idx t] <;> rfl

theorem arr_pre (c : Dev nD) : (dats m 0 c).arrAt 6 cfg0.N = fun i => pre (a0 m c) (a1 m c) (a2 m c) (i 0) (i 1) := by
  refine (dats m 0 c).arrAt_eq_of_covers 6 _ (by decide +kernel) fun t hf y => ?_
  obtain ⟨r, j, rfl⟩ : ∃ (r : Fin 512) (j : Fin 1024), y = ix2 r j := ⟨y 0, y 1, eq_ix2 y⟩
  refine (congrFun (flushed6 m c t) (ix2 r j)).trans ((congrFun (out_pre (iblk m c 0 t) (iblk m c 1 t) (iblk m c 2 t) (iblk m c 3 t) (iblk m c 4 t)) (ix2 r j)).trans ((pay_pre (iblk m c 0 t) (iblk m c 1 t) (iblk m c 2 t) r j).trans ((blk_pre m c t r j).trans ?_)))
  exact congrArg (fun i : S4096x1024.Idx => pre (a0 m c) (a1 m c) (a2 m c) (i 0) (i 1)) (cell6 t r j).symm

theorem arr_norm (c : Dev nD) : (dats m 0 c).arrAt 5 cfg0.N = val (a0 m c) (a1 m c) (a2 m c) (a3 m c) (a4 m c) := by
  refine (dats m 0 c).arrAt_eq_of_covers 5 _ (by decide +kernel) fun t hf y => ?_
  obtain ⟨r, j, rfl⟩ : ∃ (r : Fin 512) (j : Fin 1024), y = ix2 r j := ⟨y 0, y 1, eq_ix2 y⟩
  refine (congrFun (flushed5 m c t) (ix2 r j)).trans ((congrFun (out_norm (iblk m c 0 t) (iblk m c 1 t) (iblk m c 2 t) (iblk m c 3 t) (iblk m c 4 t)) (ix2 r j)).trans ((pay_norm (iblk m c 0 t) (iblk m c 1 t) (iblk m c 2 t) (iblk m c 3 t) (iblk m c 4 t) r j).trans ?_))
  refine Eq.trans ?_ (congrArg (val (a0 m c) (a1 m c) (a2 m c) (a3 m c) (a4 m c)) (cell5 t r j).symm)
  exact congr (congr (congr (congrArg Mlp.norm (funext fun l => blk_pre m c t r l)) (blk_g m c t j)) (blk_b m c t j)) rfl

/-! ### The reference -/

theorem ref_pre (x : Mlp.Arr S4096x4096 .bf16) (w : Mlp.Arr S4096x1024 .bf16) (z : Mlp.Arr S4096x1024 .bf16) (i : S4096x1024.Idx) : Cert.DownRefIdeal.Read.val_main_v8 (F := Ideal) x w z i = pre x w z (i 0) (i 1) := by
  obtain ⟨r, j, rfl⟩ : ∃ (r : Fin 4096) (j : Fin 1024), i = ix2 r j := ⟨i 0, i 1, eq_ix2 i⟩
  refine (congrFun (Cert.DownRefIdeal.Read.val_main_v8_eq (F := Ideal) x w z).symm _).trans ?_
  unfold pre
  pointwise

theorem ref_norm (m' : (ℓ : Loc Cert.DownRefIdeal.nD Cert.DownRefIdeal.τ Cert.DownRefIdeal.sig) → Buf (Elt Ideal) ℓ) (c : Dev Cert.DownRefIdeal.nD) (i : S4096x1024.Idx) :
    Cert.DownRefIdeal.Value.res_main_v33 (F := Ideal) m' c i = val (m' ((c.tc : Thread Cert.DownRefIdeal.nD Cert.DownRefIdeal.τ).loc Cert.DownRefIdeal.main_arg0)) (m' ((c.tc : Thread Cert.DownRefIdeal.nD Cert.DownRefIdeal.τ).loc Cert.DownRefIdeal.main_arg1)) (m' ((c.tc : Thread Cert.DownRefIdeal.nD Cert.DownRefIdeal.τ).loc Cert.DownRefIdeal.main_arg2)) (m' ((c.tc : Thread Cert.DownRefIdeal.nD Cert.DownRefIdeal.τ).loc Cert.DownRefIdeal.main_arg3)) (m' ((c.tc : Thread Cert.DownRefIdeal.nD Cert.DownRefIdeal.τ).loc Cert.DownRefIdeal.main_arg4)) i := by
  obtain ⟨r, j, rfl⟩ : ∃ (r : Fin 4096) (j : Fin 1024), i = ix2 r j := ⟨i 0, i 1, eq_ix2 i⟩
  unfold val Mlp.norm Mlp.mean pre
  pointwise [Cert.DownRefIdeal.Value.res_main_v33]

/-! ### The claims -/

theorem frame : Cert.quiescent_Down := fun m ρ _ => Cert.Down.Gen.frame (F := Bits) m ρ

theorem frame_ideal : Cert.quiescent_DownIdeal := fun m ρ _ => Cert.DownIdeal.Gen.frame (F := Ideal) m ρ

theorem frame_reference : Cert.quiescent_DownRefIdeal := fun m ρ _ =>
  (θ_run Cert.DownRefIdeal.defs _ _).mono (fun r h => ⟨fun c => (h c).2.2, sem_eq_zero_of_no_sems (by decide) r.2⟩)
    (Cert.DownRefIdeal.Value.run (F := Ideal) m ρ)

theorem algebraic : Cert.algebraic_DownIdeal_DownRefIdeal := by
  intro m g m' g' hpre hm
  refine ⟨fun c => (dats m 0 c).arrAt 5 cfg0.N, fun c => (dats m 0 c).arrAt 6 cfg0.N, run_blocks (F := Ideal) m g, ?_⟩
  refine (θ_run Cert.DownRefIdeal.defs _ _).mono (fun r h c => ?_) (Cert.DownRefIdeal.Value.run (F := Ideal) m' g')
  obtain ⟨h0, h1, hk⟩ := h c
  refine ⟨h0.trans (funext fun i => ?_), h1.trans ((Cert.DownRefIdeal.Read.val_main_v8_eq _ _ _).trans (funext fun i => ?_)), hk⟩
  · refine (ref_norm m' c i).trans ?_
    rw [(hm c).1, (hm c).2.1, (hm c).2.2.1, (hm c).2.2.2.1, (hm c).2.2.2.2]
    exact (congrFun (arr_norm m c) i).symm
  · rw [(hm c).1, (hm c).2.1, (hm c).2.2.1]
    exact (ref_pre _ _ _ i).trans (congrFun (arr_pre m c) i).symm

end Cert.DownIdeal.Mlp

end
-- ==== Proof.MlpDownDw.lean ====
/- The gradients of the second weights: the sum over the tokens of a unit's squared activation times the output's gradient. -/
module

public import proofs.«01_k».proof.Defs
public import proofs.«01_k».proof.Proof.Gen.DownDw.Frame
public import proofs.«01_k».proof.Proof.Gen.DownDwIdeal.Value
public import proofs.«01_k».proof.Proof.Gen.DownDwRefIdeal.Read
public import proofs.«01_k».proof.Proof.Gen.DownDw1.Frame
public import proofs.«01_k».proof.Proof.Gen.DownDw1Ideal.Value
public import proofs.«01_k».proof.Proof.Gen.DownDw1RefIdeal.Read
public import proofs.«01_k».proof.Proof.Gen.DownDw2.Frame
public import proofs.«01_k».proof.Proof.Gen.DownDw2Ideal.Value
public import proofs.«01_k».proof.Proof.Gen.DownDw2RefIdeal.Read
public import proofs.«01_k».proof.Proof.Gen.DownDw3.Frame
public import proofs.«01_k».proof.Proof.Gen.DownDw3Ideal.Value
public import proofs.«01_k».proof.Proof.Gen.DownDw3RefIdeal.Read
public import proofs.«01_k».proof.Proof.MlpCommon

@[expose] public section

set_option maxRecDepth 16384
set_option synthInstance.maxSize 4096

noncomputable section

open Idealize.ShloMosaic Idealize.ShloMosaic.TcCoe Idealize.SL.Sem

/-! ### The layer alone -/

namespace Cert.DownDwIdeal.Mlp

open Cert.DownDwIdeal Cert.DownDwIdeal.Gen Cert.DownDwIdeal.Value

/-- The body's array from its blocks. -/
def pay (x : Vec Ideal S4096x512 .bf16) (y : Vec Ideal S4096x1024 .bf16) : Vec Ideal S1x1x512x1024 .f32 := k0_pay1 x (View.ld y (Rect.unit (s := S4096x1024) ![0, 0] S1024x1024.size inb_S4096x1024_S1024x1024_0_0))
  (View.ld y (Rect.unit (s := S4096x1024) ![1024, 0] S1024x1024.size inb_S4096x1024_S1024x1024_1024_0))
  (View.ld y (Rect.unit (s := S4096x1024) ![2048, 0] S1024x1024.size inb_S4096x1024_S1024x1024_2048_0))
  (View.ld y (Rect.unit (s := S4096x1024) ![3072, 0] S1024x1024.size inb_S4096x1024_S1024x1024_3072_0))

theorem pay1_at (x : Vec Ideal S4096x512 .bf16) (y0 y1 y2 y3 : Vec Ideal S1024x1024 .bf16) (r : Fin 512) (j : Fin 1024) :
    k0_pay1 x y0 y1 y2 y3 (ix4 0 0 r j) = Mlp.four (fun k => Mlp.sq (x (ix2 k r))) y0 y1 y2 y3 j := by
  unfold Mlp.four Mlp.sq
  pointwise [k0_pay1]

theorem pay_at (x : Vec Ideal S4096x512 .bf16) (y : Vec Ideal S4096x1024 .bf16) (r : Fin 512) (j : Fin 1024) : pay x y (ix4 0 0 r j) = Mlp.tnsq x y r j :=
  (pay1_at x _ _ _ _ r j).trans (Mlp.chunks _ y inb_S4096x1024_S1024x1024_0_0 inb_S4096x1024_S1024x1024_1024_0 inb_S4096x1024_S1024x1024_2048_0 inb_S4096x1024_S1024x1024_3072_0 j)

theorem idx : ∀ t : Fin cfg0.N, win0_0.index t = ![0, t.val] ∧ win0_1.index t = ![0, 0] ∧ win0_2.index t = ![t.val / 2, 0, t.val % 2, 0] :=
  (by decide +kernel : ∀ t : Fin grid0.N, _)

variable (m : (ℓ : Loc nD τ sig) → Buf (Elt Ideal) ℓ)

theorem flush_eq (c : Dev nD) (t : Fin cfg0.N) : (dats m 0 c).flushed 2 t = (cfg0.win 2).cut (grid0.coords t) (pay (iblk m c 0 t) (iblk m c 1 t)) := by
  rw [flushed2_A]
  unfold out0_A_2
  rw [View.read_writes_eq_canon _ _ _ (cover0_A_2 _ _ _ _ _ _ _ _ _ _)]
  unfold kernelRun0_A
  dsimp only
  sl_unfold_words
  rw [View.canon_cons_unit_zero (S := S1x1x512x1024) Mlp.off0000]
  simp only [View.readAt_eq_ld, Memref.IsWhole.read_unread, View.ld_unit_zero (S := S4096x512) Mlp.off00]
  rfl

theorem arr (c : Dev nD) : (dats m 0 c).arrAt 2 cfg0.N = fun i => Mlp.dDown (m ((c : Thread nD τ).loc main_arg0)) (m ((c : Thread nD τ).loc main_arg1)) (i 0) (i 2) (i 3) := by
  refine (dats m 0 c).arrAt_eq_of_covers 2 _ (by decide +kernel) fun t hf y => ?_
  obtain ⟨p, z, r, j, rfl⟩ : ∃ (p z : Fin 1) (r : Fin 512) (j : Fin 1024), y = ix4 p z r j := ⟨y 0, y 1, y 2, y 3, eq_ix4 y⟩
  obtain rfl : p = 0 := Subsingleton.elim _ _
  obtain rfl : z = 0 := Subsingleton.elim _ _
  refine (congrFun (flush_eq m c t) (ix4 0 0 r j)).trans ((pay_at _ _ r j).trans ?_)
  refine Mlp.tnsq_congr (fun k => ?_) (fun k => ?_) <;> blk_ext [iblk, V_main_arg0, V_main_arg1, idx t]

theorem ref_at (x : Mlp.Arr S4096x4096 .bf16) (y : Mlp.Arr S4096x1024 .bf16) :
    Cert.DownDwRefIdeal.Read.val_main_v8 (F := Ideal) x y = fun i => Mlp.dDown x y (i 0) (i 2) (i 3) := by
  funext i
  obtain ⟨p, z, r, j, rfl⟩ : ∃ (p : Fin 4) (z : Fin 1) (r j : Fin 1024), i = ix4 p z r j := ⟨i 0, i 1, i 2, i 3, eq_ix4 i⟩
  refine (congrFun (Cert.DownDwRefIdeal.Read.val_main_v8_eq (F := Ideal) x y).symm _).trans ?_
  unfold Mlp.dDown Mlp.tnsq Mlp.sq
  pointwise
  exact Finset.sum_congr rfl fun k _ => mul_comm _ _

theorem frame : Cert.quiescent_DownDw := fun m ρ _ => Cert.DownDw.Gen.frame (F := Bits) m ρ

theorem frame_ideal : Cert.quiescent_DownDwIdeal := fun m ρ _ => Cert.DownDwIdeal.Gen.frame (F := Ideal) m ρ

theorem frame_reference : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

theorem algebraic : Cert.algebraic_DownDwIdeal_DownDwRefIdeal := by
  intro m g m' g' hpre hm
  refine ⟨fun c => (dats m 0 c).arrAt 2 cfg0.N, run_blocks (F := Ideal) m g, ?_⟩
  refine (θ_run Cert.DownDwRefIdeal.defs _ _).mono (fun r h c => ?_) (Cert.DownDwRefIdeal.Value.run (F := Ideal) m' g')
  obtain ⟨h0, hk⟩ := h c
  refine ⟨h0.trans ((Cert.DownDwRefIdeal.Read.val_main_v8_eq _ _).trans ?_), hk⟩
  rw [(hm c).1, (hm c).2.1]
  exact (ref_at _ _).trans (arr m c).symm

end Cert.DownDwIdeal.Mlp

/-! ### Layer 1 put into the buffer of three layers -/

namespace Cert.DownDw1Ideal.Mlp

open Cert.DownDw1Ideal Cert.DownDw1Ideal.Gen Cert.DownDw1Ideal.Value

theorem idx : ∀ t : Fin cfg0.N, win0_0.index t = ![0, t.val] ∧ win0_1.index t = ![0, 0] ∧ win0_2.index t = ![t.val / 2, 0, t.val % 2, 0] :=
  (by decide +kernel : ∀ t : Fin grid0.N, _)

variable (m : (ℓ : Loc nD τ sig) → Buf (Elt Ideal) ℓ)

theorem flush_eq (c : Dev nD) (t : Fin cfg0.N) : (dats m 0 c).flushed 2 t = (cfg0.win 2).cut (grid0.coords t) (Cert.DownDwIdeal.Mlp.pay (iblk m c 0 t) (iblk m c 1 t)) := by
  rw [flushed2_A]
  unfold out0_A_2
  rw [View.read_writes_eq_canon _ _ _ (cover0_A_2 _ _ _ _ _ _ _ _ _ _)]
  unfold kernelRun0_A
  dsimp only
  sl_unfold_words
  rw [View.canon_cons_unit_zero (S := S1x1x512x1024) Mlp.off0000]
  simp only [View.readAt_eq_ld, Memref.IsWhole.read_unread, View.ld_unit_zero (S := S4096x512) Mlp.off00]
  rfl

theorem arr (c : Dev nD) : (dats m 0 c).arrAt 2 cfg0.N
    = Mlp.layer 0 (Mlp.dDown (m ((c : Thread nD τ).loc main_arg0)) (m ((c : Thread nD τ).loc main_arg1))) (m ((c : Thread nD τ).loc main_arg2)) := by
  refine Eq.trans ?_ (congrArg (Mlp.layer 0 _) (show V m c main_v0 = _ by entry_read; rfl))
  refine (dats m 0 c).arrAt_eq_of_coversWhere 2 _ (fun β => β 1 = 0) (by decide +kernel) (fun t hf y => ?_) (fun j => by blk_simp [Pipeline.Window.cell_apply]; omega)
  obtain ⟨p, z, r, j, rfl⟩ : ∃ (p z : Fin 1) (r : Fin 512) (j : Fin 1024), y = ix4 p z r j := ⟨y 0, y 1, y 2, y 3, eq_ix4 y⟩
  obtain rfl : p = 0 := Subsingleton.elim _ _
  obtain rfl : z = 0 := Subsingleton.elim _ _
  refine (congrFun (flush_eq m c t) (ix4 0 0 r j)).trans ((Cert.DownDwIdeal.Mlp.pay_at _ _ r j).trans ?_)
  refine Mlp.tnsq_congr (fun k => ?_) (fun k => ?_) <;> blk_ext [iblk, V_main_arg0, V_main_arg1, idx t]

theorem ref_at (x : Mlp.Arr S4096x4096 .bf16) (y : Mlp.Arr S4096x1024 .bf16) (b : Mlp.Arr S4x3x1024x1024 .f32) :
    Cert.DownDw1RefIdeal.Read.val_main_v11 (F := Ideal) x y b = Mlp.layer 0 (Mlp.dDown x y) b := by
  funext i
  obtain ⟨p, z, r, j, rfl⟩ : ∃ (p : Fin 4) (z : Fin 3) (r j : Fin 1024), i = ix4 p z r j := ⟨i 0, i 1, i 2, i 3, eq_ix4 i⟩
  refine (congrFun (Cert.DownDw1RefIdeal.Read.val_main_v11_eq (F := Ideal) x y b).symm _).trans ?_
  pointwise
  refine (Mlp.put 0 z (fun q => b (ix4 p q r j)) _ (by omega)).trans (if_congr Iff.rfl ?_ rfl)
  exact Finset.sum_congr rfl fun k _ => mul_comm _ _

theorem frame : Cert.quiescent_DownDw1 := fun m ρ _ => Cert.DownDw1.Gen.frame (F := Bits) m ρ

theorem frame_ideal : Cert.quiescent_DownDw1Ideal := fun m ρ _ => Cert.DownDw1Ideal.Gen.frame (F := Ideal) m ρ

theorem frame_reference : Cert.quiescent_DownDw1RefIdeal := fun m ρ _ =>
  (θ_run Cert.DownDw1RefIdeal.defs _ _).mono (fun r h => ⟨fun c => (h c).2, sem_eq_zero_of_no_sems (by decide) r.2⟩)
    (Cert.DownDw1RefIdeal.Value.run (F := Ideal) m ρ)

theorem algebraic : Cert.algebraic_DownDw1Ideal_DownDw1RefIdeal := by
  intro m g m' g' hpre hm
  refine ⟨fun c => (dats m 0 c).arrAt 2 cfg0.N, run_blocks (F := Ideal) m g, ?_⟩
  refine (θ_run Cert.DownDw1RefIdeal.defs _ _).mono (fun r h c => ?_) (Cert.DownDw1RefIdeal.Value.run (F := Ideal) m' g')
  obtain ⟨h0, hk⟩ := h c
  refine ⟨h0.trans ((Cert.DownDw1RefIdeal.Read.val_main_v11_eq _ _ _).trans ?_), hk⟩
  rw [(hm c).1, (hm c).2.1, (hm c).2.2]
  exact (ref_at _ _ _).trans (arr m c).symm

end Cert.DownDw1Ideal.Mlp

/-! ### Layer 2 put into the buffer of three layers -/

namespace Cert.DownDw2Ideal.Mlp

open Cert.DownDw2Ideal Cert.DownDw2Ideal.Gen Cert.DownDw2Ideal.Value

theorem idx : ∀ t : Fin cfg0.N, win0_0.index t = ![0, t.val] ∧ win0_1.index t = ![0, 0] ∧ win0_2.index t = ![t.val / 2, 1, t.val % 2, 0] :=
  (by decide +kernel : ∀ t : Fin grid0.N, _)

variable (m : (ℓ : Loc nD τ sig) → Buf (Elt Ideal) ℓ)

theorem flush_eq (c : Dev nD) (t : Fin cfg0.N) : (dats m 0 c).flushed 2 t = (cfg0.win 2).cut (grid0.coords t) (Cert.DownDwIdeal.Mlp.pay (iblk m c 0 t) (iblk m c 1 t)) := by
  rw [flushed2_A]
  unfold out0_A_2
  rw [View.read_writes_eq_canon _ _ _ (cover0_A_2 _ _ _ _ _ _ _ _ _ _)]
  unfold kernelRun0_A
  dsimp only
  sl_unfold_words
  rw [View.canon_cons_unit_zero (S := S1x1x512x1024) Mlp.off0000]
  simp only [View.readAt_eq_ld, Memref.IsWhole.read_unread, View.ld_unit_zero (S := S4096x512) Mlp.off00]
  rfl

theorem arr (c : Dev nD) : (dats m 0 c).arrAt 2 cfg0.N
    = Mlp.layer 1 (Mlp.dDown (m ((c : Thread nD τ).loc main_arg0)) (m ((c : Thread nD τ).loc main_arg1))) (m ((c : Thread nD τ).loc main_arg2)) := by
  refine Eq.trans ?_ (congrArg (Mlp.layer 1 _) (show V m c main_v0 = _ by entry_read; rfl))
  refine (dats m 0 c).arrAt_eq_of_coversWhere 2 _ (fun β => β 1 = 1) (by decide +kernel) (fun t hf y => ?_) (fun j => by blk_simp [Pipeline.Window.cell_apply]; omega)
  obtain ⟨p, z, r, j, rfl⟩ : ∃ (p z : Fin 1) (r : Fin 512) (j : Fin 1024), y = ix4 p z r j := ⟨y 0, y 1, y 2, y 3, eq_ix4 y⟩
  obtain rfl : p = 0 := Subsingleton.elim _ _
  obtain rfl : z = 0 := Subsingleton.elim _ _
  refine (congrFun (flush_eq m c t) (ix4 0 0 r j)).trans ((Cert.DownDwIdeal.Mlp.pay_at _ _ r j).trans ?_)
  refine Mlp.tnsq_congr (fun k => ?_) (fun k => ?_) <;> blk_ext [iblk, V_main_arg0, V_main_arg1, idx t]

theorem ref_at (x : Mlp.Arr S4096x4096 .bf16) (y : Mlp.Arr S4096x1024 .bf16) (b : Mlp.Arr S4x3x1024x1024 .f32) :
    Cert.DownDw2RefIdeal.Read.val_main_v11 (F := Ideal) x y b = Mlp.layer 1 (Mlp.dDown x y) b := by
  funext i
  obtain ⟨p, z, r, j, rfl⟩ : ∃ (p : Fin 4) (z : Fin 3) (r j : Fin 1024), i = ix4 p z r j := ⟨i 0, i 1, i 2, i 3, eq_ix4 i⟩
  refine (congrFun (Cert.DownDw2RefIdeal.Read.val_main_v11_eq (F := Ideal) x y b).symm _).trans ?_
  pointwise
  refine (Mlp.put 1 z (fun q => b (ix4 p q r j)) _ (by omega)).trans (if_congr Iff.rfl ?_ rfl)
  exact Finset.sum_congr rfl fun k _ => mul_comm _ _

theorem frame : Cert.quiescent_DownDw2 := fun m ρ _ => Cert.DownDw2.Gen.frame (F := Bits) m ρ

theorem frame_ideal : Cert.quiescent_DownDw2Ideal := fun m ρ _ => Cert.DownDw2Ideal.Gen.frame (F := Ideal) m ρ

theorem frame_reference : Cert.quiescent_DownDw2RefIdeal := fun m ρ _ =>
  (θ_run Cert.DownDw2RefIdeal.defs _ _).mono (fun r h => ⟨fun c => (h c).2, sem_eq_zero_of_no_sems (by decide) r.2⟩)
    (Cert.DownDw2RefIdeal.Value.run (F := Ideal) m ρ)

theorem algebraic : Cert.algebraic_DownDw2Ideal_DownDw2RefIdeal := by
  intro m g m' g' hpre hm
  refine ⟨fun c => (dats m 0 c).arrAt 2 cfg0.N, run_blocks (F := Ideal) m g, ?_⟩
  refine (θ_run Cert.DownDw2RefIdeal.defs _ _).mono (fun r h c => ?_) (Cert.DownDw2RefIdeal.Value.run (F := Ideal) m' g')
  obtain ⟨h0, hk⟩ := h c
  refine ⟨h0.trans ((Cert.DownDw2RefIdeal.Read.val_main_v11_eq _ _ _).trans ?_), hk⟩
  rw [(hm c).1, (hm c).2.1, (hm c).2.2]
  exact (ref_at _ _ _).trans (arr m c).symm

end Cert.DownDw2Ideal.Mlp

/-! ### Layer 3 put into the buffer of three layers -/

namespace Cert.DownDw3Ideal.Mlp

open Cert.DownDw3Ideal Cert.DownDw3Ideal.Gen Cert.DownDw3Ideal.Value

theorem idx : ∀ t : Fin cfg0.N, win0_0.index t = ![0, t.val] ∧ win0_1.index t = ![0, 0] ∧ win0_2.index t = ![t.val / 2, 2, t.val % 2, 0] :=
  (by decide +kernel : ∀ t : Fin grid0.N, _)

variable (m : (ℓ : Loc nD τ sig) → Buf (Elt Ideal) ℓ)

theorem flush_eq (c : Dev nD) (t : Fin cfg0.N) : (dats m 0 c).flushed 2 t = (cfg0.win 2).cut (grid0.coords t) (Cert.DownDwIdeal.Mlp.pay (iblk m c 0 t) (iblk m c 1 t)) := by
  rw [flushed2_A]
  unfold out0_A_2
  rw [View.read_writes_eq_canon _ _ _ (cover0_A_2 _ _ _ _ _ _ _ _ _ _)]
  unfold kernelRun0_A
  dsimp only
  sl_unfold_words
  rw [View.canon_cons_unit_zero (S := S1x1x512x1024) Mlp.off0000]
  simp only [View.readAt_eq_ld, Memref.IsWhole.read_unread, View.ld_unit_zero (S := S4096x512) Mlp.off00]
  rfl

theorem arr (c : Dev nD) : (dats m 0 c).arrAt 2 cfg0.N
    = Mlp.layer 2 (Mlp.dDown (m ((c : Thread nD τ).loc main_arg0)) (m ((c : Thread nD τ).loc main_arg1))) (m ((c : Thread nD τ).loc main_arg2)) := by
  refine Eq.trans ?_ (congrArg (Mlp.layer 2 _) (show V m c main_v0 = _ by entry_read; rfl))
  refine (dats m 0 c).arrAt_eq_of_coversWhere 2 _ (fun β => β 1 = 2) (by decide +kernel) (fun t hf y => ?_) (fun j => by blk_simp [Pipeline.Window.cell_apply]; omega)
  obtain ⟨p, z, r, j, rfl⟩ : ∃ (p z : Fin 1) (r : Fin 512) (j : Fin 1024), y = ix4 p z r j := ⟨y 0, y 1, y 2, y 3, eq_ix4 y⟩
  obtain rfl : p = 0 := Subsingleton.elim _ _
  obtain rfl : z = 0 := Subsingleton.elim _ _
  refine (congrFun (flush_eq m c t) (ix4 0 0 r j)).trans ((Cert.DownDwIdeal.Mlp.pay_at _ _ r j).trans ?_)
  refine Mlp.tnsq_congr (fun k => ?_) (fun k => ?_) <;> blk_ext [iblk, V_main_arg0, V_main_arg1, idx t]

theorem ref_at (x : Mlp.Arr S4096x4096 .bf16) (y : Mlp.Arr S4096x1024 .bf16) (b : Mlp.Arr S4x3x1024x1024 .f32) :
    Cert.DownDw3RefIdeal.Read.val_main_v11 (F := Ideal) x y b = Mlp.layer 2 (Mlp.dDown x y) b := by
  funext i
  obtain ⟨p, z, r, j, rfl⟩ : ∃ (p : Fin 4) (z : Fin 3) (r j : Fin 1024), i = ix4 p z r j := ⟨i 0, i 1, i 2, i 3, eq_ix4 i⟩
  refine (congrFun (Cert.DownDw3RefIdeal.Read.val_main_v11_eq (F := Ideal) x y b).symm _).trans ?_
  pointwise
  refine (Mlp.put 2 z (fun q => b (ix4 p q r j)) _ (by omega)).trans (if_congr Iff.rfl ?_ rfl)
  exact Finset.sum_congr rfl fun k _ => mul_comm _ _

theorem frame : Cert.quiescent_DownDw3 := fun m ρ _ => Cert.DownDw3.Gen.frame (F := Bits) m ρ

theorem frame_ideal : Cert.quiescent_DownDw3Ideal := fun m ρ _ => Cert.DownDw3Ideal.Gen.frame (F := Ideal) m ρ

theorem frame_reference : Cert.quiescent_DownDw3RefIdeal := fun m ρ _ =>
  (θ_run Cert.DownDw3RefIdeal.defs _ _).mono (fun r h => ⟨fun c => (h c).2, sem_eq_zero_of_no_sems (by decide) r.2⟩)
    (Cert.DownDw3RefIdeal.Value.run (F := Ideal) m ρ)

theorem algebraic : Cert.algebraic_DownDw3Ideal_DownDw3RefIdeal := by
  intro m g m' g' hpre hm
  refine ⟨fun c => (dats m 0 c).arrAt 2 cfg0.N, run_blocks (F := Ideal) m g, ?_⟩
  refine (θ_run Cert.DownDw3RefIdeal.defs _ _).mono (fun r h c => ?_) (Cert.DownDw3RefIdeal.Value.run (F := Ideal) m' g')
  obtain ⟨h0, hk⟩ := h c
  refine ⟨h0.trans ((Cert.DownDw3RefIdeal.Read.val_main_v11_eq _ _ _).trans ?_), hk⟩
  rw [(hm c).1, (hm c).2.1, (hm c).2.2]
  exact (ref_at _ _ _).trans (arr m c).symm

end Cert.DownDw3Ideal.Mlp

end
-- ==== Proof.MlpUpDw.lean ====
/- The gradients of the first weights: the sum over the tokens of the input times a unit's gradient. -/
module

public import proofs.«01_k».proof.Defs
public import proofs.«01_k».proof.Proof.Gen.UpDw.Frame
public import proofs.«01_k».proof.Proof.Gen.UpDwIdeal.Value
public import proofs.«01_k».proof.Proof.Gen.UpDwRefIdeal.Read
public import proofs.«01_k».proof.Proof.Gen.UpDw1.Frame
public import proofs.«01_k».proof.Proof.Gen.UpDw1Ideal.Value
public import proofs.«01_k».proof.Proof.Gen.UpDw1RefIdeal.Read
public import proofs.«01_k».proof.Proof.Gen.UpDw2.Frame
public import proofs.«01_k».proof.Proof.Gen.UpDw2Ideal.Value
public import proofs.«01_k».proof.Proof.Gen.UpDw2RefIdeal.Read
public import proofs.«01_k».proof.Proof.Gen.UpDw3.Frame
public import proofs.«01_k».proof.Proof.Gen.UpDw3Ideal.Value
public import proofs.«01_k».proof.Proof.Gen.UpDw3RefIdeal.Read
public import proofs.«01_k».proof.Proof.MlpCommon

@[expose] public section

set_option maxRecDepth 16384
set_option synthInstance.maxSize 4096

noncomputable section

open Idealize.ShloMosaic Idealize.ShloMosaic.TcCoe Idealize.SL.Sem

/-! ### The layer alone -/

namespace Cert.UpDwIdeal.Mlp

open Cert.UpDwIdeal Cert.UpDwIdeal.Gen Cert.UpDwIdeal.Value

/-- The body's array from its blocks. -/
def pay (x : Vec Ideal S4096x512 .bf16) (y : Vec Ideal S4096x1024 .bf16) : Vec Ideal S1x1x512x1024 .f32 := k0_pay1 x (View.ld y (Rect.unit (s := S4096x1024) ![0, 0] S1024x1024.size inb_S4096x1024_S1024x1024_0_0))
  (View.ld y (Rect.unit (s := S4096x1024) ![1024, 0] S1024x1024.size inb_S4096x1024_S1024x1024_1024_0))
  (View.ld y (Rect.unit (s := S4096x1024) ![2048, 0] S1024x1024.size inb_S4096x1024_S1024x1024_2048_0))
  (View.ld y (Rect.unit (s := S4096x1024) ![3072, 0] S1024x1024.size inb_S4096x1024_S1024x1024_3072_0))

theorem pay1_at (x : Vec Ideal S4096x512 .bf16) (y0 y1 y2 y3 : Vec Ideal S1024x1024 .bf16) (r : Fin 512) (j : Fin 1024) :
    k0_pay1 x y0 y1 y2 y3 (ix4 0 0 r j) = Mlp.four (fun k => x (ix2 k r)) y0 y1 y2 y3 j := by
  unfold Mlp.four
  pointwise [k0_pay1]

theorem pay_at (x : Vec Ideal S4096x512 .bf16) (y : Vec Ideal S4096x1024 .bf16) (r : Fin 512) (j : Fin 1024) : pay x y (ix4 0 0 r j) = Mlp.tn x y r j :=
  (pay1_at x _ _ _ _ r j).trans (Mlp.chunks _ y inb_S4096x1024_S1024x1024_0_0 inb_S4096x1024_S1024x1024_1024_0 inb_S4096x1024_S1024x1024_2048_0 inb_S4096x1024_S1024x1024_3072_0 j)

theorem idx : ∀ t : Fin cfg0.N, win0_0.index t = ![0, t.val / 4] ∧ win0_1.index t = ![0, t.val % 4] ∧ win0_2.index t = ![t.val % 4, 0, t.val / 4, 0] :=
  (by decide +kernel : ∀ t : Fin grid0.N, _)

variable (m : (ℓ : Loc nD τ sig) → Buf (Elt Ideal) ℓ)

theorem flush_eq (c : Dev nD) (t : Fin cfg0.N) : (dats m 0 c).flushed 2 t = (cfg0.win 2).cut (grid0.coords t) (pay (iblk m c 0 t) (iblk m c 1 t)) := by
  rw [flushed2_A]
  unfold out0_A_2
  rw [View.read_writes_eq_canon _ _ _ (cover0_A_2 _ _ _ _ _ _ _ _ _ _)]
  unfold kernelRun0_A
  dsimp only
  sl_unfold_words
  rw [View.canon_cons_unit_zero (S := S1x1x512x1024) Mlp.off0000]
  simp only [View.readAt_eq_ld, Memref.IsWhole.read_unread, View.ld_unit_zero (S := S4096x512) Mlp.off00]
  rfl

theorem arr (c : Dev nD) : (dats m 0 c).arrAt 2 cfg0.N = fun i => Mlp.dUp (m ((c : Thread nD τ).loc main_arg0)) (m ((c : Thread nD τ).loc main_arg1)) (i 0) (i 2) (i 3) := by
  refine (dats m 0 c).arrAt_eq_of_covers 2 _ (by decide +kernel) fun t hf y => ?_
  obtain ⟨p, z, r, j, rfl⟩ : ∃ (p z : Fin 1) (r : Fin 512) (j : Fin 1024), y = ix4 p z r j := ⟨y 0, y 1, y 2, y 3, eq_ix4 y⟩
  obtain rfl : p = 0 := Subsingleton.elim _ _
  obtain rfl : z = 0 := Subsingleton.elim _ _
  refine (congrFun (flush_eq m c t) (ix4 0 0 r j)).trans ((pay_at _ _ r j).trans ?_)
  refine Mlp.tn_congr (fun k => ?_) (fun k => ?_) <;> blk_ext [iblk, V_main_arg0, V_main_arg1, idx t]

theorem ref_at (x : Mlp.Arr S4096x1024 .bf16) (y : Mlp.Arr S4096x4096 .bf16) :
    Cert.UpDwRefIdeal.Read.val_main_v7 (F := Ideal) x y = fun i => Mlp.dUp x y (i 0) (i 2) (i 3) := by
  funext i
  obtain ⟨p, z, r, j, rfl⟩ : ∃ (p : Fin 4) (z : Fin 1) (r j : Fin 1024), i = ix4 p z r j := ⟨i 0, i 1, i 2, i 3, eq_ix4 i⟩
  refine (congrFun (Cert.UpDwRefIdeal.Read.val_main_v7_eq (F := Ideal) x y).symm _).trans ?_
  unfold Mlp.dUp Mlp.tn
  pointwise
  exact Finset.sum_congr rfl fun k _ => mul_comm _ _

theorem frame : Cert.quiescent_UpDw := fun m ρ _ => Cert.UpDw.Gen.frame (F := Bits) m ρ

theorem frame_ideal : Cert.quiescent_UpDwIdeal := fun m ρ _ => Cert.UpDwIdeal.Gen.frame (F := Ideal) m ρ

theorem frame_reference : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := Ideal) m ρ)

theorem algebraic : Cert.algebraic_UpDwIdeal_UpDwRefIdeal := by
  intro m g m' g' hpre hm
  refine ⟨fun c => (dats m 0 c).arrAt 2 cfg0.N, run_blocks (F := Ideal) m g, ?_⟩
  refine (θ_run Cert.UpDwRefIdeal.defs _ _).mono (fun r h c => ?_) (Cert.UpDwRefIdeal.Value.run (F := Ideal) m' g')
  obtain ⟨h0, hk⟩ := h c
  refine ⟨h0.trans ((Cert.UpDwRefIdeal.Read.val_main_v7_eq _ _).trans ?_), hk⟩
  rw [(hm c).1, (hm c).2.1]
  exact (ref_at _ _).trans (arr m c).symm

end Cert.UpDwIdeal.Mlp

/-! ### Layer 1 put into the buffer of three layers -/

namespace Cert.UpDw1Ideal.Mlp

open Cert.UpDw1Ideal Cert.UpDw1Ideal.Gen Cert.UpDw1Ideal.Value

theorem idx : ∀ t : Fin cfg0.N, win0_0.index t = ![0, t.val / 4] ∧ win0_1.index t = ![0, t.val % 4] ∧ win0_2.index t = ![t.val % 4, 0, t.val / 4, 0] :=
  (by decide +kernel : ∀ t : Fin grid0.N, _)

variable (m : (ℓ : Loc nD τ sig) → Buf (Elt Ideal) ℓ)

theorem flush_eq (c : Dev nD) (t : Fin cfg0.N) : (dats m 0 c).flushed 2 t = (cfg0.win 2).cut (grid0.coords t) (Cert.UpDwIdeal.Mlp.pay (iblk m c 0 t) (iblk m c 1 t)) := by
  rw [flushed2_A]
  unfold out0_A_2
  rw [View.read_writes_eq_canon _ _ _ (cover0_A_2 _ _ _ _ _ _ _ _ _ _)]
  unfold kernelRun0_A
  dsimp only
  sl_unfold_words
  rw [View.canon_cons_unit_zero (S := S1x1x512x1024) Mlp.off0000]
  simp only [View.readAt_eq_ld, Memref.IsWhole.read_unread, View.ld_unit_zero (S := S4096x512) Mlp.off00]
  rfl

theorem arr (c : Dev nD) : (dats m 0 c).arrAt 2 cfg0.N
    = Mlp.layer 0 (Mlp.dUp (m ((c : Thread nD τ).loc main_arg0)) (m ((c : Thread nD τ).loc main_arg1))) (m ((c : Thread nD τ).loc main_arg2)) := by
  refine Eq.trans ?_ (congrArg (Mlp.layer 0 _) (show V m c main_v0 = _ by entry_read; rfl))
  refine (dats m 0 c).arrAt_eq_of_coversWhere 2 _ (fun β => β 1 = 0) (by decide +kernel) (fun t hf y => ?_) (fun j => by blk_simp [Pipeline.Window.cell_apply]; omega)
  obtain ⟨p, z, r, j, rfl⟩ : ∃ (p z : Fin 1) (r : Fin 512) (j : Fin 1024), y = ix4 p z r j := ⟨y 0, y 1, y 2, y 3, eq_ix4 y⟩
  obtain rfl : p = 0 := Subsingleton.elim _ _
  obtain rfl : z = 0 := Subsingleton.elim _ _
  refine (congrFun (flush_eq m c t) (ix4 0 0 r j)).trans ((Cert.UpDwIdeal.Mlp.pay_at _ _ r j).trans ?_)
  refine Mlp.tn_congr (fun k => ?_) (fun k => ?_) <;> blk_ext [iblk, V_main_arg0, V_main_arg1, idx t]

theorem ref_at (x : Mlp.Arr S4096x1024 .bf16) (y : Mlp.Arr S4096x4096 .bf16) (b : Mlp.Arr S4x3x1024x1024 .f32) :
    Cert.UpDw1RefIdeal.Read.val_main_v10 (F := Ideal) x y b = Mlp.layer 0 (Mlp.dUp x y) b := by
  funext i
  obtain ⟨p, z, r, j, rfl⟩ : ∃ (p : Fin 4) (z : Fin 3) (r j : Fin 1024), i = ix4 p z r j := ⟨i 0, i 1, i 2, i 3, eq_ix4 i⟩
  refine (congrFun (Cert.UpDw1RefIdeal.Read.val_main_v10_eq (F := Ideal) x y b).symm _).trans ?_
  pointwise
  refine (Mlp.put 0 z (fun q => b (ix4 p q r j)) _ (by omega)).trans (if_congr Iff.rfl ?_ rfl)
  exact Finset.sum_congr rfl fun k _ => mul_comm _ _

theorem frame : Cert.quiescent_UpDw1 := fun m ρ _ => Cert.UpDw1.Gen.frame (F := Bits) m ρ

theorem frame_ideal : Cert.quiescent_UpDw1Ideal := fun m ρ _ => Cert.UpDw1Ideal.Gen.frame (F := Ideal) m ρ

theorem frame_reference : Cert.quiescent_UpDw1RefIdeal := fun m ρ _ =>
  (θ_run Cert.UpDw1RefIdeal.defs _ _).mono (fun r h => ⟨fun c => (h c).2, sem_eq_zero_of_no_sems (by decide) r.2⟩)
    (Cert.UpDw1RefIdeal.Value.run (F := Ideal) m ρ)

theorem algebraic : Cert.algebraic_UpDw1Ideal_UpDw1RefIdeal := by
  intro m g m' g' hpre hm
  refine ⟨fun c => (dats m 0 c).arrAt 2 cfg0.N, run_blocks (F := Ideal) m g, ?_⟩
  refine (θ_run Cert.UpDw1RefIdeal.defs _ _).mono (fun r h c => ?_) (Cert.UpDw1RefIdeal.Value.run (F := Ideal) m' g')
  obtain ⟨h0, hk⟩ := h c
  refine ⟨h0.trans ((Cert.UpDw1RefIdeal.Read.val_main_v10_eq _ _ _).trans ?_), hk⟩
  rw [(hm c).1, (hm c).2.1, (hm c).2.2]
  exact (ref_at _ _ _).trans (arr m c).symm

end Cert.UpDw1Ideal.Mlp

/-! ### Layer 2 put into the buffer of three layers -/

namespace Cert.UpDw2Ideal.Mlp

open Cert.UpDw2Ideal Cert.UpDw2Ideal.Gen Cert.UpDw2Ideal.Value

theorem idx : ∀ t : Fin cfg0.N, win0_0.index t = ![0, t.val / 4] ∧ win0_1.index t = ![0, t.val % 4] ∧ win0_2.index t = ![t.val % 4, 1, t.val / 4, 0] :=
  (by decide +kernel : ∀ t : Fin grid0.N, _)

variable (m : (ℓ : Loc nD τ sig) → Buf (Elt Ideal) ℓ)

theorem flush_eq (c : Dev nD) (t : Fin cfg0.N) : (dats m 0 c).flushed 2 t = (cfg0.win 2).cut (grid0.coords t) (Cert.UpDwIdeal.Mlp.pay (iblk m c 0 t) (iblk m c 1 t)) := by
  rw [flushed2_A]
  unfold out0_A_2
  rw [View.read_writes_eq_canon _ _ _ (cover0_A_2 _ _ _ _ _ _ _ _ _ _)]
  unfold kernelRun0_A
  dsimp only
  sl_unfold_words
  rw [View.canon_cons_unit_zero (S := S1x1x512x1024) Mlp.off0000]
  simp only [View.readAt_eq_ld, Memref.IsWhole.read_unread, View.ld_unit_zero (S := S4096x512) Mlp.off00]
  rfl

theorem arr (c : Dev nD) : (dats m 0 c).arrAt 2 cfg0.N
    = Mlp.layer 1 (Mlp.dUp (m ((c : Thread nD τ).loc main_arg0)) (m ((c : Thread nD τ).loc main_arg1))) (m ((c : Thread nD τ).loc main_arg2)) := by
  refine Eq.trans ?_ (congrArg (Mlp.layer 1 _) (show V m c main_v0 = _ by entry_read; rfl))
  refine (dats m 0 c).arrAt_eq_of_coversWhere 2 _ (fun β => β 1 = 1) (by decide +kernel) (fun t hf y => ?_) (fun j => by blk_simp [Pipeline.Window.cell_apply]; omega)
  obtain ⟨p, z, r, j, rfl⟩ : ∃ (p z : Fin 1) (r : Fin 512) (j : Fin 1024), y = ix4 p z r j := ⟨y 0, y 1, y 2, y 3, eq_ix4 y⟩
  obtain rfl : p = 0 := Subsingleton.elim _ _
  obtain rfl : z = 0 := Subsingleton.elim _ _
  refine (congrFun (flush_eq m c t) (ix4 0 0 r j)).trans ((Cert.UpDwIdeal.Mlp.pay_at _ _ r j).trans ?_)
  refine Mlp.tn_congr (fun k => ?_) (fun k => ?_) <;> blk_ext [iblk, V_main_arg0, V_main_arg1, idx t]

theorem ref_at (x : Mlp.Arr S4096x1024 .bf16) (y : Mlp.Arr S4096x4096 .bf16) (b : Mlp.Arr S4x3x1024x1024 .f32) :
    Cert.UpDw2RefIdeal.Read.val_main_v10 (F := Ideal) x y b = Mlp.layer 1 (Mlp.dUp x y) b := by
  funext i
  obtain ⟨p, z, r, j, rfl⟩ : ∃ (p : Fin 4) (z : Fin 3) (r j : Fin 1024), i = ix4 p z r j := ⟨i 0, i 1, i 2, i 3, eq_ix4 i⟩
  refine (congrFun (Cert.UpDw2RefIdeal.Read.val_main_v10_eq (F := Ideal) x y b).symm _).trans ?_
  pointwise
  refine (Mlp.put 1 z (fun q => b (ix4 p q r j)) _ (by omega)).trans (if_congr Iff.rfl ?_ rfl)
  exact Finset.sum_congr rfl fun k _ => mul_comm _ _

theorem frame : Cert.quiescent_UpDw2 := fun m ρ _ => Cert.UpDw2.Gen.frame (F := Bits) m ρ

theorem frame_ideal : Cert.quiescent_UpDw2Ideal := fun m ρ _ => Cert.UpDw2Ideal.Gen.frame (F := Ideal) m ρ

theorem frame_reference : Cert.quiescent_UpDw2RefIdeal := fun m ρ _ =>
  (θ_run Cert.UpDw2RefIdeal.defs _ _).mono (fun r h => ⟨fun c => (h c).2, sem_eq_zero_of_no_sems (by decide) r.2⟩)
    (Cert.UpDw2RefIdeal.Value.run (F := Ideal) m ρ)

theorem algebraic : Cert.algebraic_UpDw2Ideal_UpDw2RefIdeal := by
  intro m g m' g' hpre hm
  refine ⟨fun c => (dats m 0 c).arrAt 2 cfg0.N, run_blocks (F := Ideal) m g, ?_⟩
  refine (θ_run Cert.UpDw2RefIdeal.defs _ _).mono (fun r h c => ?_) (Cert.UpDw2RefIdeal.Value.run (F := Ideal) m' g')
  obtain ⟨h0, hk⟩ := h c
  refine ⟨h0.trans ((Cert.UpDw2RefIdeal.Read.val_main_v10_eq _ _ _).trans ?_), hk⟩
  rw [(hm c).1, (hm c).2.1, (hm c).2.2]
  exact (ref_at _ _ _).trans (arr m c).symm

end Cert.UpDw2Ideal.Mlp

/-! ### Layer 3 put into the buffer of three layers -/

namespace Cert.UpDw3Ideal.Mlp

open Cert.UpDw3Ideal Cert.UpDw3Ideal.Gen Cert.UpDw3Ideal.Value

theorem idx : ∀ t : Fin cfg0.N, win0_0.index t = ![0, t.val / 4] ∧ win0_1.index t = ![0, t.val % 4] ∧ win0_2.index t = ![t.val % 4, 2, t.val / 4, 0] :=
  (by decide +kernel : ∀ t : Fin grid0.N, _)

variable (m : (ℓ : Loc nD τ sig) → Buf (Elt Ideal) ℓ)

theorem flush_eq (c : Dev nD) (t : Fin cfg0.N) : (dats m 0 c).flushed 2 t = (cfg0.win 2).cut (grid0.coords t) (Cert.UpDwIdeal.Mlp.pay (iblk m c 0 t) (iblk m c 1 t)) := by
  rw [flushed2_A]
  unfold out0_A_2
  rw [View.read_writes_eq_canon _ _ _ (cover0_A_2 _ _ _ _ _ _ _ _ _ _)]
  unfold kernelRun0_A
  dsimp only
  sl_unfold_words
  rw [View.canon_cons_unit_zero (S := S1x1x512x1024) Mlp.off0000]
  simp only [View.readAt_eq_ld, Memref.IsWhole.read_unread, View.ld_unit_zero (S := S4096x512) Mlp.off00]
  rfl

theorem arr (c : Dev nD) : (dats m 0 c).arrAt 2 cfg0.N
    = Mlp.layer 2 (Mlp.dUp (m ((c : Thread nD τ).loc main_arg0)) (m ((c : Thread nD τ).loc main_arg1))) (m ((c : Thread nD τ).loc main_arg2)) := by
  refine Eq.trans ?_ (congrArg (Mlp.layer 2 _) (show V m c main_v0 = _ by entry_read; rfl))
  refine (dats m 0 c).arrAt_eq_of_coversWhere 2 _ (fun β => β 1 = 2) (by decide +kernel) (fun t hf y => ?_) (fun j => by blk_simp [Pipeline.Window.cell_apply]; omega)
  obtain ⟨p, z, r, j, rfl⟩ : ∃ (p z : Fin 1) (r : Fin 512) (j : Fin 1024), y = ix4 p z r j := ⟨y 0, y 1, y 2, y 3, eq_ix4 y⟩
  obtain rfl : p = 0 := Subsingleton.elim _ _
  obtain rfl : z = 0 := Subsingleton.elim _ _
  refine (congrFun (flush_eq m c t) (ix4 0 0 r j)).trans ((Cert.UpDwIdeal.Mlp.pay_at _ _ r j).trans ?_)
  refine Mlp.tn_congr (fun k => ?_) (fun k => ?_) <;> blk_ext [iblk, V_main_arg0, V_main_arg1, idx t]

theorem ref_at (x : Mlp.Arr S4096x1024 .bf16) (y : Mlp.Arr S4096x4096 .bf16) (b : Mlp.Arr S4x3x1024x1024 .f32) :
    Cert.UpDw3RefIdeal.Read.val_main_v10 (F := Ideal) x y b = Mlp.layer 2 (Mlp.dUp x y) b := by
  funext i
  obtain ⟨p, z, r, j, rfl⟩ : ∃ (p : Fin 4) (z : Fin 3) (r j : Fin 1024), i = ix4 p z r j := ⟨i 0, i 1, i 2, i 3, eq_ix4 i⟩
  refine (congrFun (Cert.UpDw3RefIdeal.Read.val_main_v10_eq (F := Ideal) x y b).symm _).trans ?_
  pointwise
  refine (Mlp.put 2 z (fun q => b (ix4 p q r j)) _ (by omega)).trans (if_congr Iff.rfl ?_ rfl)
  exact Finset.sum_congr rfl fun k _ => mul_comm _ _

theorem frame : Cert.quiescent_UpDw3 := fun m ρ _ => Cert.UpDw3.Gen.frame (F := Bits) m ρ

theorem frame_ideal : Cert.quiescent_UpDw3Ideal := fun m ρ _ => Cert.UpDw3Ideal.Gen.frame (F := Ideal) m ρ

theorem frame_reference : Cert.quiescent_UpDw3RefIdeal := fun m ρ _ =>
  (θ_run Cert.UpDw3RefIdeal.defs _ _).mono (fun r h => ⟨fun c => (h c).2, sem_eq_zero_of_no_sems (by decide) r.2⟩)
    (Cert.UpDw3RefIdeal.Value.run (F := Ideal) m ρ)

theorem algebraic : Cert.algebraic_UpDw3Ideal_UpDw3RefIdeal := by
  intro m g m' g' hpre hm
  refine ⟨fun c => (dats m 0 c).arrAt 2 cfg0.N, run_blocks (F := Ideal) m g, ?_⟩
  refine (θ_run Cert.UpDw3RefIdeal.defs _ _).mono (fun r h c => ?_) (Cert.UpDw3RefIdeal.Value.run (F := Ideal) m' g')
  obtain ⟨h0, hk⟩ := h c
  refine ⟨h0.trans ((Cert.UpDw3RefIdeal.Read.val_main_v10_eq _ _ _).trans ?_), hk⟩
  rw [(hm c).1, (hm c).2.1, (hm c).2.2]
  exact (ref_at _ _ _).trans (arr m c).symm

end Cert.UpDw3Ideal.Mlp

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_inputs
public import proofs.«01_k».proof.Proof.Gen.On_written
public import proofs.«01_k».proof.Proof.Gen.ReferenceIdeal.Run
public import proofs.«01_k».proof.Proof.KernelFrame
public import proofs.«01_k».proof.Proof.KernelSame
public import proofs.«01_k».proof.Proof.KernelValue
public import proofs.«01_k».proof.Proof.Agree
public import proofs.«01_k».proof.Proof.MlpIn
public import proofs.«01_k».proof.Proof.MlpInDw
public import proofs.«01_k».proof.Proof.MlpOut
public import proofs.«01_k».proof.Proof.MlpHidden
public import proofs.«01_k».proof.Proof.MlpDown
public import proofs.«01_k».proof.Proof.MlpDownDw
public import proofs.«01_k».proof.Proof.MlpUpDw
public import Idealize.ShloMosaic.Adequacy
public import Idealize.ShloMosaic.Init

@[expose] public section

noncomputable section

namespace Cert.Proof

open Idealize.ShloMosaic Idealize.SL.Sem Cert.Kernel

theorem frame_ideal : Cert.quiescent_KernelIdeal := fun m ρ _ => Cert.KernelIdeal.Gen.frame (F := Ideal) m ρ

theorem frame_ideal_pre : Cert.quiescent_KernelIdeal_pre_finite_inputs := fun m ρ _ => Cert.KernelIdeal.Gen.frame (F := Ideal) m ρ

theorem frame_reference : Cert.quiescent_ReferenceIdeal := fun m ρ _ =>
  (θ_run Cert.ReferenceIdeal.defs _ _).mono (fun r h => ⟨fun c => (h c).2.2.2.2.2.2, sem_eq_zero_of_no_sems (by decide) r.2⟩)
    (AttnBwd.ref_run m ρ)

theorem frame_reference_pre : Cert.quiescent_ReferenceIdeal_pre_finite_inputs := fun m ρ _ =>
  (θ_run Cert.ReferenceIdeal.defs _ _).mono (fun r h => ⟨fun c => (h c).2.2.2.2.2.2, sem_eq_zero_of_no_sems (by decide) r.2⟩)
    (AttnBwd.ref_run m ρ)

set_option maxHeartbeats 8000000 in
theorem algebraic : Cert.algebraic_KernelIdeal_ReferenceIdeal_on_written_pre_finite_inputs := by
  intro m g m' g' hpre hm
  have H := fun c => AttnBwd.dataOf_holds (hpre c)
  have R : ∀ c : Dev Cert.KernelIdeal.nD, AttnBwd.Holds _ (AttnBwd.r0 m' c) (AttnBwd.r1 m' c) (AttnBwd.r2 m' c) (AttnBwd.r3 m' c) (AttnBwd.r4 m' c) :=
    fun c => ⟨fun t j => (congrFun (hm c).1 (ix2 t j)).trans ((H c).X t j), fun t j => (congrFun (hm c).2.1 (ix2 t j)).trans ((H c).co t j),
      fun t j => (congrFun (hm c).2.2.1 (ix2 t j)).trans ((H c).si t j), fun h => (congrFun (hm c).2.2.2.1 (ix1 h)).trans ((H c).snk h),
      fun t j => (congrFun (hm c).2.2.2.2 (ix2 t j)).trans ((H c).D t j)⟩
  refine ⟨fun c => (Cert.KernelIdeal.Gen.dats m 0 c).arrAt 13 Cert.KernelIdeal.cfg0.N,
    fun c => (Cert.KernelIdeal.Gen.dats m 0 c).arrAt 14 Cert.KernelIdeal.cfg0.N,
    fun c => (Cert.KernelIdeal.Gen.dats m 0 c).arrAt 15 Cert.KernelIdeal.cfg0.N,
    fun c => (Cert.KernelIdeal.Gen.dats m 0 c).arrAt 16 Cert.KernelIdeal.cfg0.N,
    fun c => (Cert.KernelIdeal.Gen.dats m 0 c).arrAt 17 Cert.KernelIdeal.cfg0.N,
    fun c => (Cert.KernelIdeal.Gen.dats m 0 c).arrAt 18 Cert.KernelIdeal.cfg0.N, ?_, ?_⟩
  · refine (θ_run Cert.KernelIdeal.defs _ _).mono (fun r h c => ?_) (Cert.KernelIdeal.Value.run_blocks (F := Ideal) m g)
    obtain ⟨h0, h1, h2, h3, h4, h5, hk⟩ := h c
    exact ⟨fun i _ => congrFun h0 i, fun i _ => congrFun h1 i, fun i _ => congrFun h2 i, fun i _ => congrFun h3 i,
      fun i _ => congrFun h4 i, fun i _ => congrFun h5 i, hk⟩
  · refine (θ_run Cert.ReferenceIdeal.defs _ _).mono (fun r h c => ?_) (AttnBwd.ref_run m' g')
    obtain ⟨h0, h1, h2, h3, h4, h5, hk⟩ := h c
    exact ⟨fun i hi => (congrFun h0 i).trans (AttnBwd.same13 m c (H c) (R c) i
        (AttnBwd.mask_lt (i 0) (i 1) ((congrArg _ (eq_ix2 i).symm).trans hi))),
      fun i _ => (congrFun h1 i).trans (AttnBwd.same14 m c (H c) (R c) i), fun i _ => (congrFun h2 i).trans (AttnBwd.same15 m c (H c) (R c) i),
      fun i _ => (congrFun h3 i).trans (AttnBwd.same16 m c (H c) (R c) i), fun i _ => (congrFun h4 i).trans (AttnBwd.same17 m c (H c) (R c) i),
      fun i _ => (congrFun h5 i).trans (AttnBwd.same18 m c (H c) (R c) i), hk⟩

theorem claim : Cert.Claim := ⟨Cert.Kernel.Gen.facts, Cert.KernelIdeal.Gen.facts, Cert.ReferenceIdeal.Gen.facts,
  Cert.DownDx.Gen.facts, Cert.DownDxIdeal.Gen.facts, Cert.DownDxRefIdeal.Gen.facts,
  Cert.UpDx.Gen.facts, Cert.UpDxIdeal.Gen.facts, Cert.UpDxRefIdeal.Gen.facts,
  Cert.DownDw.Gen.facts, Cert.DownDwIdeal.Gen.facts, Cert.DownDwRefIdeal.Gen.facts,
  Cert.UpDw.Gen.facts, Cert.UpDwIdeal.Gen.facts, Cert.UpDwRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.HybIn.Gen.facts, Cert.HybInIdeal.Gen.facts, Cert.HybInRefIdeal.Gen.facts,
  Cert.HybInDw.Gen.facts, Cert.HybInDwIdeal.Gen.facts, Cert.HybInDwRefIdeal.Gen.facts,
  Cert.HybInDx.Gen.facts, Cert.HybInDxIdeal.Gen.facts, Cert.HybInDxRefIdeal.Gen.facts,
  Cert.RecIn.Gen.facts, Cert.RecInIdeal.Gen.facts, Cert.RecInRefIdeal.Gen.facts,
  Cert.RecInDw.Gen.facts, Cert.RecInDwIdeal.Gen.facts, Cert.RecInDwRefIdeal.Gen.facts,
  Cert.RecInDx.Gen.facts, Cert.RecInDxIdeal.Gen.facts, Cert.RecInDxRefIdeal.Gen.facts,
  Cert.Out.Gen.facts, Cert.OutIdeal.Gen.facts, Cert.OutRefIdeal.Gen.facts,
  Cert.OutDw.Gen.facts, Cert.OutDwIdeal.Gen.facts, Cert.OutDwRefIdeal.Gen.facts,
  Cert.OutDx.Gen.facts, Cert.OutDxIdeal.Gen.facts, Cert.OutDxRefIdeal.Gen.facts,
  Cert.DownDw1.Gen.facts, Cert.DownDw1Ideal.Gen.facts, Cert.DownDw1RefIdeal.Gen.facts,
  Cert.UpDw1.Gen.facts, Cert.UpDw1Ideal.Gen.facts, Cert.UpDw1RefIdeal.Gen.facts,
  Cert.DownDw2.Gen.facts, Cert.DownDw2Ideal.Gen.facts, Cert.DownDw2RefIdeal.Gen.facts,
  Cert.UpDw2.Gen.facts, Cert.UpDw2Ideal.Gen.facts, Cert.UpDw2RefIdeal.Gen.facts,
  Cert.DownDw3.Gen.facts, Cert.DownDw3Ideal.Gen.facts, Cert.DownDw3RefIdeal.Gen.facts,
  Cert.UpDw3.Gen.facts, Cert.UpDw3Ideal.Gen.facts, Cert.UpDw3RefIdeal.Gen.facts,
  Cert.Pre_finite_inputs.Gen.facts, Cert.On_written.Gen.facts,
  Cert.Kernel.Same.frame_kernel, frame_ideal, frame_ideal_pre, frame_reference, frame_reference_pre,
  Cert.DownDxIdeal.Mlp.frame, Cert.DownDxIdeal.Mlp.frame_ideal, Cert.DownDxIdeal.Mlp.frame_reference,
  Cert.UpDxIdeal.Mlp.frame, Cert.UpDxIdeal.Mlp.frame_ideal, Cert.UpDxIdeal.Mlp.frame_reference,
  Cert.DownDwIdeal.Mlp.frame, Cert.DownDwIdeal.Mlp.frame_ideal, Cert.DownDwIdeal.Mlp.frame_reference,
  Cert.UpDwIdeal.Mlp.frame, Cert.UpDwIdeal.Mlp.frame_ideal, Cert.UpDwIdeal.Mlp.frame_reference,
  Cert.UpIdeal.Mlp.frame, Cert.UpIdeal.Mlp.frame_ideal, Cert.UpIdeal.Mlp.frame_reference,
  Cert.DownIdeal.Mlp.frame, Cert.DownIdeal.Mlp.frame_ideal, Cert.DownIdeal.Mlp.frame_reference,
  Cert.HybInIdeal.Mlp.frame, Cert.HybInIdeal.Mlp.frame_ideal, Cert.HybInIdeal.Mlp.frame_reference,
  Cert.HybInDwIdeal.Mlp.frame, Cert.HybInDwIdeal.Mlp.frame_ideal, Cert.HybInDwIdeal.Mlp.frame_reference,
  Cert.HybInDxIdeal.Mlp.frame, Cert.HybInDxIdeal.Mlp.frame_ideal, Cert.HybInDxIdeal.Mlp.frame_reference,
  Cert.RecInIdeal.Mlp.frame, Cert.RecInIdeal.Mlp.frame_ideal, Cert.RecInIdeal.Mlp.frame_reference,
  Cert.RecInDwIdeal.Mlp.frame, Cert.RecInDwIdeal.Mlp.frame_ideal, Cert.RecInDwIdeal.Mlp.frame_reference,
  Cert.RecInDxIdeal.Mlp.frame, Cert.RecInDxIdeal.Mlp.frame_ideal, Cert.RecInDxIdeal.Mlp.frame_reference,
  Cert.OutIdeal.Mlp.frame, Cert.OutIdeal.Mlp.frame_ideal, Cert.OutIdeal.Mlp.frame_reference,
  Cert.OutDwIdeal.Mlp.frame, Cert.OutDwIdeal.Mlp.frame_ideal, Cert.OutDwIdeal.Mlp.frame_reference,
  Cert.OutDxIdeal.Mlp.frame, Cert.OutDxIdeal.Mlp.frame_ideal, Cert.OutDxIdeal.Mlp.frame_reference,
  Cert.DownDw1Ideal.Mlp.frame, Cert.DownDw1Ideal.Mlp.frame_ideal, Cert.DownDw1Ideal.Mlp.frame_reference,
  Cert.UpDw1Ideal.Mlp.frame, Cert.UpDw1Ideal.Mlp.frame_ideal, Cert.UpDw1Ideal.Mlp.frame_reference,
  Cert.DownDw2Ideal.Mlp.frame, Cert.DownDw2Ideal.Mlp.frame_ideal, Cert.DownDw2Ideal.Mlp.frame_reference,
  Cert.UpDw2Ideal.Mlp.frame, Cert.UpDw2Ideal.Mlp.frame_ideal, Cert.UpDw2Ideal.Mlp.frame_reference,
  Cert.DownDw3Ideal.Mlp.frame, Cert.DownDw3Ideal.Mlp.frame_ideal, Cert.DownDw3Ideal.Mlp.frame_reference,
  Cert.UpDw3Ideal.Mlp.frame, Cert.UpDw3Ideal.Mlp.frame_ideal, Cert.UpDw3Ideal.Mlp.frame_reference,
  trivial, algebraic,
  trivial, Cert.DownDxIdeal.Mlp.algebraic,
  trivial, Cert.UpDxIdeal.Mlp.algebraic,
  trivial, Cert.DownDwIdeal.Mlp.algebraic,
  trivial, Cert.UpDwIdeal.Mlp.algebraic,
  trivial, Cert.UpIdeal.Mlp.algebraic,
  trivial, Cert.DownIdeal.Mlp.algebraic,
  trivial, Cert.HybInIdeal.Mlp.algebraic,
  trivial, Cert.HybInDwIdeal.Mlp.algebraic,
  trivial, Cert.HybInDxIdeal.Mlp.algebraic,
  trivial, Cert.RecInIdeal.Mlp.algebraic,
  trivial, Cert.RecInDwIdeal.Mlp.algebraic,
  trivial, Cert.RecInDxIdeal.Mlp.algebraic,
  trivial, Cert.OutIdeal.Mlp.algebraic,
  trivial, Cert.OutDwIdeal.Mlp.algebraic,
  trivial, Cert.OutDxIdeal.Mlp.algebraic,
  trivial, Cert.DownDw1Ideal.Mlp.algebraic,
  trivial, Cert.UpDw1Ideal.Mlp.algebraic,
  trivial, Cert.DownDw2Ideal.Mlp.algebraic,
  trivial, Cert.UpDw2Ideal.Mlp.algebraic,
  trivial, Cert.DownDw3Ideal.Mlp.algebraic,
  trivial, Cert.UpDw3Ideal.Mlp.algebraic⟩

end Cert.Proof

end
